-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x7168 : Shape := ⟨2, ![64, 7168]⟩
abbrev S32 : Shape := ⟨1, ![32]⟩
abbrev S32x3584x768 : Shape := ⟨3, ![32, 3584, 768]⟩
abbrev S32x56x768 : Shape := ⟨3, ![32, 56, 768]⟩
abbrev S_ : Shape := ⟨0, ![]⟩

class Facts : Prop where
  bitsLt_bf16_f32 : FTy.bits .bf16 < FTy.bits .f32
  bcast_S_S64x7168 : S_.BroadcastsInDim S64x7168 (![] : Fin 0 → Fin S64x7168.rank)
  reducesTo_S64x7168_S_d0_1 : S64x7168.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S64x7168 .bf16) (main_arg1 : IVec S32 32) (main_arg2 : IVec S32x3584x768 8) (main_arg3 : FVec F S32x56x768 .f32) : IVec S_ 1 :=
  let main_v0 : FVec F S64x7168 .f32 := (extf .f32 · bitsLt_bf16_f32) main_arg0
  let main_v1 : FVec F S64x7168 .f32 := Host.absf main_v0
  let main_cst : FVec F S_ .f32 := constant S_ .f32 0x7F7F0000#32
  let main_v2 : FVec F S64x7168 .f32 := broadcastInDim S64x7168 ![] bcast_S_S64x7168 main_cst
  let main_v3 : IVec S64x7168 1 := cmpf .ole main_v1 main_v2
  let main_c : IVec S_ 1 := constantI S_ 1 1#1
  let main_v4 : IVec S_ 1 := (fun x v => Host.reduce IntOp.andi x v reducesTo_S64x7168_S_d0_1 h_S_) main_v3 main_c
  let main_c_0 : IVec S_ 32 := constantI S_ 32 0#32
  let main_v5 : IVec S32 32 := broadcastInDim S32 ![] bcast_S_S32 main_c_0
  let main_v6 : IVec S32 1 := cmpi .sge main_arg1 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v4 main_v7
  main_v8
-- ==== Kernel.lean ====
abbrev S64x7168 : Shape := ⟨2, ![64, 7168]⟩
abbrev S32 : Shape := ⟨1, ![32]⟩
abbrev S32x3584x768 : Shape := ⟨3, ![32, 3584, 768]⟩
abbrev S32x56x768 : Shape := ⟨3, ![32, 56, 768]⟩
abbrev S64x768 : Shape := ⟨2, ![64, 768]⟩
abbrev S4x3584x768 : Shape := ⟨3, ![4, 3584, 768]⟩
abbrev S4x56x768 : Shape := ⟨3, ![4, 56, 768]⟩
abbrev S33 : Shape := ⟨1, ![33]⟩
abbrev S_ : Shape := ⟨0, ![]⟩
abbrev S4 : Shape := ⟨1, ![4]⟩
abbrev S1 : Shape := ⟨1, ![1]⟩
abbrev S1x3584x768 : Shape := ⟨3, ![1, 3584, 768]⟩
abbrev S3584x768 : Shape := ⟨2, ![3584, 768]⟩
abbrev S1x56x768 : Shape := ⟨3, ![1, 56, 768]⟩
abbrev S56x768 : Shape := ⟨2, ![56, 768]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩

abbrev nBuf : Space → Nat
  | .hbm => 5
  | .vmem => 5
  | .smem => 3
  | _ => 0

abbrev bufTy : (tb : Table) → Fin (tcTables nBuf tb) → BufTy
  | .hbm, ⟨0, _⟩ => ⟨S64x7168, .bf16⟩
  | .hbm, ⟨1, _⟩ => ⟨S32, .i32⟩
  | .hbm, ⟨2, _⟩ => ⟨S32x3584x768, .i8⟩
  | .hbm, ⟨3, _⟩ => ⟨S32x56x768, .f32⟩
  | .hbm, ⟨4, _⟩ => ⟨S64x768, .bf16⟩
  | .local _ .vmem, ⟨0, _⟩ => ⟨S64x768, .bf16⟩
  | .local _ .vmem, ⟨1, _⟩ => ⟨S64x7168, .bf16⟩
  | .local _ .vmem, ⟨2, _⟩ => ⟨S64x7168, .bf16⟩
  | .local _ .vmem, ⟨3, _⟩ => ⟨S4x3584x768, .i8⟩
  | .local _ .vmem, ⟨4, _⟩ => ⟨S4x56x768, .f32⟩
  | .local _ .smem, ⟨0, _⟩ => ⟨S32, .i32⟩
  | .local _ .smem, ⟨1, _⟩ => ⟨S33, .i32⟩
  | .local _ .smem, ⟨2, _⟩ => ⟨S33, .i32⟩
  | _, _ => ⟨S64x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_scratch4 : Ref sig .tc := ⟨.smem, 1, rfl⟩
abbrev cc0_scratch5 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v0 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let v5738 : Index := Scalar.indexCast v11
  ![v5738.toNat]
def k0_cond3 (v13 : BitVec 32) : BitVec 1 :=
  let c0_i32_10 : BitVec 32 := 0#32
  let v14 : BitVec 1 := Scalar.cmpi .sgt v13 c0_i32_10
  let v15 : BitVec 32 := Scalar.extui v14
  let c0_i32_11 : BitVec 32 := 0#32
  let v16 : BitVec 1 := Scalar.cmpi .ne v15 c0_i32_11
  v16

def k0_off2 (v0 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  ![v11.toNat]
def k0_cond4 (v0 : BitVec 32) (v13 : BitVec 32) : BitVec 1 :=
  let c0_i32_12 : BitVec 32 := 0#32
  let v17 : BitVec 1 := Scalar.cmpi .sgt v13 c0_i32_12
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c4_i32_13 : BitVec 32 := 4#32
  let v18 : BitVec 1 := Scalar.cmpi .slt v11 c4_i32_13
  let v19 : BitVec 1 := Scalar.andi v17 v18
  let v20 : BitVec 32 := Scalar.extui v19
  let c0_i32_14 : BitVec 32 := 0#32
  let v21 : BitVec 1 := Scalar.cmpi .ne v20 c0_i32_14
  v21

def k0_off3 (v0 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_1923 : BitVec 32 := 0#32
  let c0_i32_1924 : BitVec 32 := 0#32
  ![v11.toNat, 0, 0]
def k0_off4 (v0 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_1928 : BitVec 32 := 0#32
  let c0_i32_1929 : BitVec 32 := 0#32
  ![v11.toNat, 0, 0]

def k0_chk1 (v0 : BitVec 32) (v13 : BitVec 32) : Prop :=
  (∀ (k0_h3 : k0_cond3 v13 = 1#1), ∀ a, (k0_off1 v0) a + S1.size a ≤ S33.size a) ∧
  (∀ (k0_h4 : k0_cond4 v0 v13 = 1#1), ∀ a, (k0_off2 v0) a + S1.size a ≤ S4.size a) ∧
  (∀ (k0_h4 : k0_cond4 v0 v13 = 1#1), ∀ a, (k0_off3 v0) a + S1x3584x768.size a ≤ S4x3584x768.size a) ∧
  (∀ (k0_h4 : k0_cond4 v0 v13 = 1#1), ∀ (hinb : ∀ a, (k0_off3 v0) a + S1x3584x768.size a ≤ S4x3584x768.size a), (Rect.unit (s := S4x3584x768) (k0_off3 v0) S1x3584x768.size hinb).WholeWords (EltTy.packing .i8)) ∧
  (∀ (k0_h4 : k0_cond4 v0 v13 = 1#1), ∀ a, (k0_off4 v0) a + S1x56x768.size a ≤ S4x56x768.size a)
theorem k0_off1_inb : ∀ (v0 : BitVec 32) (v13 : BitVec 32) (k0_hw1 : k0_chk1 v0 v13), ∀ (k0_h3 : k0_cond3 v13 = 1#1), ∀ a, (k0_off1 v0) a + S1.size a ≤ S33.size a := fun v0 v13 k0_hw1 k0_h3 => k0_hw1.1 k0_h3
theorem k0_off2_inb : ∀ (v0 : BitVec 32) (v13 : BitVec 32) (k0_hw1 : k0_chk1 v0 v13), ∀ (k0_h4 : k0_cond4 v0 v13 = 1#1), ∀ a, (k0_off2 v0) a + S1.size a ≤ S4.size a := fun v0 v13 k0_hw1 k0_h4 => k0_hw1.2.1 k0_h4
theorem k0_off3_inb : ∀ (v0 : BitVec 32) (v13 : BitVec 32) (k0_hw1 : k0_chk1 v0 v13), ∀ (k0_h4 : k0_cond4 v0 v13 = 1#1), ∀ a, (k0_off3 v0) a + S1x3584x768.size a ≤ S4x3584x768.size a := fun v0 v13 k0_hw1 k0_h4 => k0_hw1.2.2.1 k0_h4
theorem k0_off3_wordsi8 : ∀ (v0 : BitVec 32) (v13 : BitVec 32) (k0_hw1 : k0_chk1 v0 v13), ∀ (k0_h4 : k0_cond4 v0 v13 = 1#1), (Rect.unit (s := S4x3584x768) (k0_off3 v0) S1x3584x768.size (k0_off3_inb v0 v13 k0_hw1 k0_h4)).WholeWords (EltTy.packing .i8) := fun v0 v13 k0_hw1 k0_h4 => k0_hw1.2.2.2.1 k0_h4 (k0_off3_inb v0 v13 k0_hw1 k0_h4)
theorem k0_off4_inb : ∀ (v0 : BitVec 32) (v13 : BitVec 32) (k0_hw1 : k0_chk1 v0 v13), ∀ (k0_h4 : k0_cond4 v0 v13 = 1#1), ∀ a, (k0_off4 v0) a + S1x56x768.size a ≤ S4x56x768.size a := fun v0 v13 k0_hw1 k0_h4 => k0_hw1.2.2.2.2 k0_h4

def k0_off5 (v0 : BitVec 32) (v13 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let v5738 : Index := Scalar.indexCast v24
  ![v5738.toNat]
def k0_cond5 (v26 : BitVec 32) : BitVec 1 :=
  let c0_i32_16 : BitVec 32 := 0#32
  let v27 : BitVec 1 := Scalar.cmpi .sgt v26 c0_i32_16
  let v28 : BitVec 32 := Scalar.extui v27
  let c0_i32_17 : BitVec 32 := 0#32
  let v29 : BitVec 1 := Scalar.cmpi .ne v28 c0_i32_17
  v29

def k0_off6 (v0 : BitVec 32) (v13 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  ![v24.toNat]
def k0_cond6 (v0 : BitVec 32) (v13 : BitVec 32) (v26 : BitVec 32) : BitVec 1 :=
  let c0_i32_18 : BitVec 32 := 0#32
  let v30 : BitVec 1 := Scalar.cmpi .sgt v26 c0_i32_18
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c4_i32_19 : BitVec 32 := 4#32
  let v31 : BitVec 1 := Scalar.cmpi .slt v24 c4_i32_19
  let v32 : BitVec 1 := Scalar.andi v30 v31
  let v33 : BitVec 32 := Scalar.extui v32
  let c0_i32_20 : BitVec 32 := 0#32
  let v34 : BitVec 1 := Scalar.cmpi .ne v33 c0_i32_20
  v34

def k0_off7 (v0 : BitVec 32) (v13 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_1923 : BitVec 32 := 0#32
  let c0_i32_1924 : BitVec 32 := 0#32
  ![v24.toNat, 0, 0]
def k0_off8 (v0 : BitVec 32) (v13 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_1928 : BitVec 32 := 0#32
  let c0_i32_1929 : BitVec 32 := 0#32
  ![v24.toNat, 0, 0]

def k0_chk2 (v0 : BitVec 32) (v13 : BitVec 32) (v26 : BitVec 32) : Prop :=
  (∀ (k0_h5 : k0_cond5 v26 = 1#1), ∀ a, (k0_off5 v0 v13) a + S1.size a ≤ S33.size a) ∧
  (∀ (k0_h6 : k0_cond6 v0 v13 v26 = 1#1), ∀ a, (k0_off6 v0 v13) a + S1.size a ≤ S4.size a) ∧
  (∀ (k0_h6 : k0_cond6 v0 v13 v26 = 1#1), ∀ a, (k0_off7 v0 v13) a + S1x3584x768.size a ≤ S4x3584x768.size a) ∧
  (∀ (k0_h6 : k0_cond6 v0 v13 v26 = 1#1), ∀ (hinb : ∀ a, (k0_off7 v0 v13) a + S1x3584x768.size a ≤ S4x3584x768.size a), (Rect.unit (s := S4x3584x768) (k0_off7 v0 v13) S1x3584x768.size hinb).WholeWords (EltTy.packing .i8)) ∧
  (∀ (k0_h6 : k0_cond6 v0 v13 v26 = 1#1), ∀ a, (k0_off8 v0 v13) a + S1x56x768.size a ≤ S4x56x768.size a)
theorem k0_off5_inb : ∀ (v0 : BitVec 32) (v13 : BitVec 32) (v26 : BitVec 32) (k0_hw2 : k0_chk2 v0 v13 v26), ∀ (k0_h5 : k0_cond5 v26 = 1#1), ∀ a, (k0_off5 v0 v13) a + S1.size a ≤ S33.size a := fun v0 v13 v26 k0_hw2 k0_h5 => k0_hw2.1 k0_h5
theorem k0_off6_inb : ∀ (v0 : BitVec 32) (v13 : BitVec 32) (v26 : BitVec 32) (k0_hw2 : k0_chk2 v0 v13 v26), ∀ (k0_h6 : k0_cond6 v0 v13 v26 = 1#1), ∀ a, (k0_off6 v0 v13) a + S1.size a ≤ S4.size a := fun v0 v13 v26 k0_hw2 k0_h6 => k0_hw2.2.1 k0_h6
theorem k0_off7_inb : ∀ (v0 : BitVec 32) (v13 : BitVec 32) (v26 : BitVec 32) (k0_hw2 : k0_chk2 v0 v13 v26), ∀ (k0_h6 : k0_cond6 v0 v13 v26 = 1#1), ∀ a, (k0_off7 v0 v13) a + S1x3584x768.size a ≤ S4x3584x768.size a := fun v0 v13 v26 k0_hw2 k0_h6 => k0_hw2.2.2.1 k0_h6
theorem k0_off7_wordsi8 : ∀ (v0 : BitVec 32) (v13 : BitVec 32) (v26 : BitVec 32) (k0_hw2 : k0_chk2 v0 v13 v26), ∀ (k0_h6 : k0_cond6 v0 v13 v26 = 1#1), (Rect.unit (s := S4x3584x768) (k0_off7 v0 v13) S1x3584x768.size (k0_off7_inb v0 v13 v26 k0_hw2 k0_h6)).WholeWords (EltTy.packing .i8) := fun v0 v13 v26 k0_hw2 k0_h6 => k0_hw2.2.2.2.1 k0_h6 (k0_off7_inb v0 v13 v26 k0_hw2 k0_h6)
theorem k0_off8_inb : ∀ (v0 : BitVec 32) (v13 : BitVec 32) (v26 : BitVec 32) (k0_hw2 : k0_chk2 v0 v13 v26), ∀ (k0_h6 : k0_cond6 v0 v13 v26 = 1#1), ∀ a, (k0_off8 v0 v13) a + S1x56x768.size a ≤ S4x56x768.size a := fun v0 v13 v26 k0_hw2 k0_h6 => k0_hw2.2.2.2.2 k0_h6

def k0_off9 (v0 : BitVec 32) (v13 : BitVec 32) (v26 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let v5738 : Index := Scalar.indexCast v37
  ![v5738.toNat]
def k0_cond7 (v39 : BitVec 32) : BitVec 1 :=
  let c0_i32_22 : BitVec 32 := 0#32
  let v40 : BitVec 1 := Scalar.cmpi .sgt v39 c0_i32_22
  let v41 : BitVec 32 := Scalar.extui v40
  let c0_i32_23 : BitVec 32 := 0#32
  let v42 : BitVec 1 := Scalar.cmpi .ne v41 c0_i32_23
  v42

def k0_off10 (v0 : BitVec 32) (v13 : BitVec 32) (v26 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  ![v37.toNat]
def k0_cond8 (v0 : BitVec 32) (v13 : BitVec 32) (v26 : BitVec 32) (v39 : BitVec 32) : BitVec 1 :=
  let c0_i32_24 : BitVec 32 := 0#32
  let v43 : BitVec 1 := Scalar.cmpi .sgt v39 c0_i32_24
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c4_i32_25 : BitVec 32 := 4#32
  let v44 : BitVec 1 := Scalar.cmpi .slt v37 c4_i32_25
  let v45 : BitVec 1 := Scalar.andi v43 v44
  let v46 : BitVec 32 := Scalar.extui v45
  let c0_i32_26 : BitVec 32 := 0#32
  let v47 : BitVec 1 := Scalar.cmpi .ne v46 c0_i32_26
  v47

def k0_off11 (v0 : BitVec 32) (v13 : BitVec 32) (v26 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_1922 : BitVec 32 := 0#32
  let c0_i32_1923 : BitVec 32 := 0#32
  ![v37.toNat, 0, 0]
def k0_off12 (v0 : BitVec 32) (v13 : BitVec 32) (v26 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_1927 : BitVec 32 := 0#32
  let c0_i32_1928 : BitVec 32 := 0#32
  ![v37.toNat, 0, 0]

def k0_chk3 (v0 : BitVec 32) (v13 : BitVec 32) (v26 : BitVec 32) (v39 : BitVec 32) : Prop :=
  (∀ (k0_h7 : k0_cond7 v39 = 1#1), ∀ a, (k0_off9 v0 v13 v26) a + S1.size a ≤ S33.size a) ∧
  (∀ (k0_h8 : k0_cond8 v0 v13 v26 v39 = 1#1), ∀ a, (k0_off10 v0 v13 v26) a + S1.size a ≤ S4.size a) ∧
  (∀ (k0_h8 : k0_cond8 v0 v13 v26 v39 = 1#1), ∀ a, (k0_off11 v0 v13 v26) a + S1x3584x768.size a ≤ S4x3584x768.size a) ∧
  (∀ (k0_h8 : k0_cond8 v0 v13 v26 v39 = 1#1), ∀ (hinb : ∀ a, (k0_off11 v0 v13 v26) a + S1x3584x768.size a ≤ S4x3584x768.size a), (Rect.unit (s := S4x3584x768) (k0_off11 v0 v13 v26) S1x3584x768.size hinb).WholeWords (EltTy.packing .i8)) ∧
  (∀ (k0_h8 : k0_cond8 v0 v13 v26 v39 = 1#1), ∀ a, (k0_off12 v0 v13 v26) a + S1x56x768.size a ≤ S4x56x768.size a)
theorem k0_off9_inb : ∀ (v0 : BitVec 32) (v13 : BitVec 32) (v26 : BitVec 32) (v39 : BitVec 32) (k0_hw3 : k0_chk3 v0 v13 v26 v39), ∀ (k0_h7 : k0_cond7 v39 = 1#1), ∀ a, (k0_off9 v0 v13 v26) a + S1.size a ≤ S33.size a := fun v0 v13 v26 v39 k0_hw3 k0_h7 => k0_hw3.1 k0_h7
theorem k0_off10_inb : ∀ (v0 : BitVec 32) (v13 : BitVec 32) (v26 : BitVec 32) (v39 : BitVec 32) (k0_hw3 : k0_chk3 v0 v13 v26 v39), ∀ (k0_h8 : k0_cond8 v0 v13 v26 v39 = 1#1), ∀ a, (k0_off10 v0 v13 v26) a + S1.size a ≤ S4.size a := fun v0 v13 v26 v39 k0_hw3 k0_h8 => k0_hw3.2.1 k0_h8
theorem k0_off11_inb : ∀ (v0 : BitVec 32) (v13 : BitVec 32) (v26 : BitVec 32) (v39 : BitVec 32) (k0_hw3 : k0_chk3 v0 v13 v26 v39), ∀ (k0_h8 : k0_cond8 v0 v13 v26 v39 = 1#1), ∀ a, (k0_off11 v0 v13 v26) a + S1x3584x768.size a ≤ S4x3584x768.size a := fun v0 v13 v26 v39 k0_hw3 k0_h8 => k0_hw3.2.2.1 k0_h8
theorem k0_off11_wordsi8 : ∀ (v0 : BitVec 32) (v13 : BitVec 32) (v26 : BitVec 32) (v39 : BitVec 32) (k0_hw3 : k0_chk3 v0 v13 v26 v39), ∀ (k0_h8 : k0_cond8 v0 v13 v26 v39 = 1#1), (Rect.unit (s := S4x3584x768) (k0_off11 v0 v13 v26) S1x3584x768.size (k0_off11_inb v0 v13 v26 v39 k0_hw3 k0_h8)).WholeWords (EltTy.packing .i8) := fun v0 v13 v26 v39 k0_hw3 k0_h8 => k0_hw3.2.2.2.1 k0_h8 (k0_off11_inb v0 v13 v26 v39 k0_hw3 k0_h8)
theorem k0_off12_inb : ∀ (v0 : BitVec 32) (v13 : BitVec 32) (v26 : BitVec 32) (v39 : BitVec 32) (k0_hw3 : k0_chk3 v0 v13 v26 v39), ∀ (k0_h8 : k0_cond8 v0 v13 v26 v39 = 1#1), ∀ a, (k0_off12 v0 v13 v26) a + S1x56x768.size a ≤ S4x56x768.size a := fun v0 v13 v26 v39 k0_hw3 k0_h8 => k0_hw3.2.2.2.2 k0_h8

def k0_off13 (v0 : BitVec 32) (v13 : BitVec 32) (v26 : BitVec 32) (v39 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let v5738 : Index := Scalar.indexCast v50
  ![v5738.toNat]
def k0_cond9 (v52 : BitVec 32) : BitVec 1 :=
  let c0_i32_28 : BitVec 32 := 0#32
  let v53 : BitVec 1 := Scalar.cmpi .sgt v52 c0_i32_28
  let v54 : BitVec 32 := Scalar.extui v53
  let c0_i32_29 : BitVec 32 := 0#32
  let v55 : BitVec 1 := Scalar.cmpi .ne v54 c0_i32_29
  v55

def k0_off14 (v0 : BitVec 32) (v13 : BitVec 32) (v26 : BitVec 32) (v39 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  ![v50.toNat]
def k0_cond10 (v0 : BitVec 32) (v13 : BitVec 32) (v26 : BitVec 32) (v39 : BitVec 32) (v52 : BitVec 32) : BitVec 1 :=
  let c0_i32_30 : BitVec 32 := 0#32
  let v56 : BitVec 1 := Scalar.cmpi .sgt v52 c0_i32_30
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c4_i32_31 : BitVec 32 := 4#32
  let v57 : BitVec 1 := Scalar.cmpi .slt v50 c4_i32_31
  let v58 : BitVec 1 := Scalar.andi v56 v57
  let v59 : BitVec 32 := Scalar.extui v58
  let c0_i32_32 : BitVec 32 := 0#32
  let v60 : BitVec 1 := Scalar.cmpi .ne v59 c0_i32_32
  v60

def k0_off15 (v0 : BitVec 32) (v13 : BitVec 32) (v26 : BitVec 32) (v39 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_1923 : BitVec 32 := 0#32
  let c0_i32_1924 : BitVec 32 := 0#32
  ![v50.toNat, 0, 0]
def k0_off16 (v0 : BitVec 32) (v13 : BitVec 32) (v26 : BitVec 32) (v39 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_1928 : BitVec 32 := 0#32
  let c0_i32_1929 : BitVec 32 := 0#32
  ![v50.toNat, 0, 0]

def k0_chk4 (v0 : BitVec 32) (v13 : BitVec 32) (v26 : BitVec 32) (v39 : BitVec 32) (v52 : BitVec 32) : Prop :=
  (∀ (k0_h9 : k0_cond9 v52 = 1#1), ∀ a, (k0_off13 v0 v13 v26 v39) a + S1.size a ≤ S33.size a) ∧
  (∀ (k0_h10 : k0_cond10 v0 v13 v26 v39 v52 = 1#1), ∀ a, (k0_off14 v0 v13 v26 v39) a + S1.size a ≤ S4.size a) ∧
  (∀ (k0_h10 : k0_cond10 v0 v13 v26 v39 v52 = 1#1), ∀ a, (k0_off15 v0 v13 v26 v39) a + S1x3584x768.size a ≤ S4x3584x768.size a) ∧
  (∀ (k0_h10 : k0_cond10 v0 v13 v26 v39 v52 = 1#1), ∀ (hinb : ∀ a, (k0_off15 v0 v13 v26 v39) a + S1x3584x768.size a ≤ S4x3584x768.size a), (Rect.unit (s := S4x3584x768) (k0_off15 v0 v13 v26 v39) S1x3584x768.size hinb).WholeWords (EltTy.packing .i8)) ∧
  (∀ (k0_h10 : k0_cond10 v0 v13 v26 v39 v52 = 1#1), ∀ a, (k0_off16 v0 v13 v26 v39) a + S1x56x768.size a ≤ S4x56x768.size a)
theorem k0_off13_inb : ∀ (v0 : BitVec 32) (v13 : BitVec 32) (v26 : BitVec 32) (v39 : BitVec 32) (v52 : BitVec 32) (k0_hw4 : k0_chk4 v0 v13 v26 v39 v52), ∀ (k0_h9 : k0_cond9 v52 = 1#1), ∀ a, (k0_off13 v0 v13 v26 v39) a + S1.size a ≤ S33.size a := fun v0 v13 v26 v39 v52 k0_hw4 k0_h9 => k0_hw4.1 k0_h9
theorem k0_off14_inb : ∀ (v0 : BitVec 32) (v13 : BitVec 32) (v26 : BitVec 32) (v39 : BitVec 32) (v52 : BitVec 32) (k0_hw4 : k0_chk4 v0 v13 v26 v39 v52), ∀ (k0_h10 : k0_cond10 v0 v13 v26 v39 v52 = 1#1), ∀ a, (k0_off14 v0 v13 v26 v39) a + S1.size a ≤ S4.size a := fun v0 v13 v26 v39 v52 k0_hw4 k0_h10 => k0_hw4.2.1 k0_h10
theorem k0_off15_inb : ∀ (v0 : BitVec 32) (v13 : BitVec 32) (v26 : BitVec 32) (v39 : BitVec 32) (v52 : BitVec 32) (k0_hw4 : k0_chk4 v0 v13 v26 v39 v52), ∀ (k0_h10 : k0_cond10 v0 v13 v26 v39 v52 = 1#1), ∀ a, (k0_off15 v0 v13 v26 v39) a + S1x3584x768.size a ≤ S4x3584x768.size a := fun v0 v13 v26 v39 v52 k0_hw4 k0_h10 => k0_hw4.2.2.1 k0_h10
theorem k0_off15_wordsi8 : ∀ (v0 : BitVec 32) (v13 : BitVec 32) (v26 : BitVec 32) (v39 : BitVec 32) (v52 : BitVec 32) (k0_hw4 : k0_chk4 v0 v13 v26 v39 v52), ∀ (k0_h10 : k0_cond10 v0 v13 v26 v39 v52 = 1#1), (Rect.unit (s := S4x3584x768) (k0_off15 v0 v13 v26 v39) S1x3584x768.size (k0_off15_inb v0 v13 v26 v39 v52 k0_hw4 k0_h10)).WholeWords (EltTy.packing .i8) := fun v0 v13 v26 v39 v52 k0_hw4 k0_h10 => k0_hw4.2.2.2.1 k0_h10 (k0_off15_inb v0 v13 v26 v39 v52 k0_hw4 k0_h10)
theorem k0_off16_inb : ∀ (v0 : BitVec 32) (v13 : BitVec 32) (v26 : BitVec 32) (v39 : BitVec 32) (v52 : BitVec 32) (k0_hw4 : k0_chk4 v0 v13 v26 v39 v52), ∀ (k0_h10 : k0_cond10 v0 v13 v26 v39 v52 = 1#1), ∀ a, (k0_off16 v0 v13 v26 v39) a + S1x56x768.size a ≤ S4x56x768.size a := fun v0 v13 v26 v39 v52 k0_hw4 k0_h10 => k0_hw4.2.2.2.2 k0_h10

def k0_off17 (v0 : BitVec 32) (v13 : BitVec 32) (v26 : BitVec 32) (v39 : BitVec 32) (v52 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let v5738 : Index := Scalar.indexCast v63
  ![v5738.toNat]
def k0_cond11 (v65 : BitVec 32) : BitVec 1 :=
  let c0_i32_34 : BitVec 32 := 0#32
  let v66 : BitVec 1 := Scalar.cmpi .sgt v65 c0_i32_34
  let v67 : BitVec 32 := Scalar.extui v66
  let c0_i32_35 : BitVec 32 := 0#32
  let v68 : BitVec 1 := Scalar.cmpi .ne v67 c0_i32_35
  v68

def k0_off18 (v0 : BitVec 32) (v13 : BitVec 32) (v26 : BitVec 32) (v39 : BitVec 32) (v52 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  ![v63.toNat]
def k0_cond12 (v0 : BitVec 32) (v13 : BitVec 32) (v26 : BitVec 32) (v39 : BitVec 32) (v52 : BitVec 32) (v65 : BitVec 32) : BitVec 1 :=
  let c0_i32_36 : BitVec 32 := 0#32
  let v69 : BitVec 1 := Scalar.cmpi .sgt v65 c0_i32_36
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c4_i32_37 : BitVec 32 := 4#32
  let v70 : BitVec 1 := Scalar.cmpi .slt v63 c4_i32_37
  let v71 : BitVec 1 := Scalar.andi v69 v70
  let v72 : BitVec 32 := Scalar.extui v71
  let c0_i32_38 : BitVec 32 := 0#32
  let v73 : BitVec 1 := Scalar.cmpi .ne v72 c0_i32_38
  v73

def k0_off19 (v0 : BitVec 32) (v13 : BitVec 32) (v26 : BitVec 32) (v39 : BitVec 32) (v52 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_1922 : BitVec 32 := 0#32
  let c0_i32_1923 : BitVec 32 := 0#32
  ![v63.toNat, 0, 0]
def k0_off20 (v0 : BitVec 32) (v13 : BitVec 32) (v26 : BitVec 32) (v39 : BitVec 32) (v52 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_1927 : BitVec 32 := 0#32
  let c0_i32_1928 : BitVec 32 := 0#32
  ![v63.toNat, 0, 0]

def k0_chk5 (v0 : BitVec 32) (v13 : BitVec 32) (v26 : BitVec 32) (v39 : BitVec 32) (v52 : BitVec 32) (v65 : BitVec 32) : Prop :=
  (∀ (k0_h11 : k0_cond11 v65 = 1#1), ∀ a, (k0_off17 v0 v13 v26 v39 v52) a + S1.size a ≤ S33.size a) ∧
  (∀ (k0_h12 : k0_cond12 v0 v13 v26 v39 v52 v65 = 1#1), ∀ a, (k0_off18 v0 v13 v26 v39 v52) a + S1.size a ≤ S4.size a) ∧
  (∀ (k0_h12 : k0_cond12 v0 v13 v26 v39 v52 v65 = 1#1), ∀ a, (k0_off19 v0 v13 v26 v39 v52) a + S1x3584x768.size a ≤ S4x3584x768.size a) ∧
  (∀ (k0_h12 : k0_cond12 v0 v13 v26 v39 v52 v65 = 1#1), ∀ (hinb : ∀ a, (k0_off19 v0 v13 v26 v39 v52) a + S1x3584x768.size a ≤ S4x3584x768.size a), (Rect.unit (s := S4x3584x768) (k0_off19 v0 v13 v26 v39 v52) S1x3584x768.size hinb).WholeWords (EltTy.packing .i8)) ∧
  (∀ (k0_h12 : k0_cond12 v0 v13 v26 v39 v52 v65 = 1#1), ∀ a, (k0_off20 v0 v13 v26 v39 v52) a + S1x56x768.size a ≤ S4x56x768.size a)
theorem k0_off17_inb : ∀ (v0 : BitVec 32) (v13 : BitVec 32) (v26 : BitVec 32) (v39 : BitVec 32) (v52 : BitVec 32) (v65 : BitVec 32) (k0_hw5 : k0_chk5 v0 v13 v26 v39 v52 v65), ∀ (k0_h11 : k0_cond11 v65 = 1#1), ∀ a, (k0_off17 v0 v13 v26 v39 v52) a + S1.size a ≤ S33.size a := fun v0 v13 v26 v39 v52 v65 k0_hw5 k0_h11 => k0_hw5.1 k0_h11
theorem k0_off18_inb : ∀ (v0 : BitVec 32) (v13 : BitVec 32) (v26 : BitVec 32) (v39 : BitVec 32) (v52 : BitVec 32) (v65 : BitVec 32) (k0_hw5 : k0_chk5 v0 v13 v26 v39 v52 v65), ∀ (k0_h12 : k0_cond12 v0 v13 v26 v39 v52 v65 = 1#1), ∀ a, (k0_off18 v0 v13 v26 v39 v52) a + S1.size a ≤ S4.size a := fun v0 v13 v26 v39 v52 v65 k0_hw5 k0_h12 => k0_hw5.2.1 k0_h12
theorem k0_off19_inb : ∀ (v0 : BitVec 32) (v13 : BitVec 32) (v26 : BitVec 32) (v39 : BitVec 32) (v52 : BitVec 32) (v65 : BitVec 32) (k0_hw5 : k0_chk5 v0 v13 v26 v39 v52 v65), ∀ (k0_h12 : k0_cond12 v0 v13 v26 v39 v52 v65 = 1#1), ∀ a, (k0_off19 v0 v13 v26 v39 v52) a + S1x3584x768.size a ≤ S4x3584x768.size a := fun v0 v13 v26 v39 v52 v65 k0_hw5 k0_h12 => k0_hw5.2.2.1 k0_h12
theorem k0_off19_wordsi8 : ∀ (v0 : BitVec 32) (v13 : BitVec 32) (v26 : BitVec 32) (v39 : BitVec 32) (v52 : BitVec 32) (v65 : BitVec 32) (k0_hw5 : k0_chk5 v0 v13 v26 v39 v52 v65), ∀ (k0_h12 : k0_cond12 v0 v13 v26 v39 v52 v65 = 1#1), (Rect.unit (s := S4x3584x768) (k0_off19 v0 v13 v26 v39 v52) S1x3584x768.size (k0_off19_inb v0 v13 v26 v39 v52 v65 k0_hw5 k0_h12)).WholeWords (EltTy.packing .i8) := fun v0 v13 v26 v39 v52 v65 k0_hw5 k0_h12 => k0_hw5.2.2.2.1 k0_h12 (k0_off19_inb v0 v13 v26 v39 v52 v65 k0_hw5 k0_h12)
theorem k0_off20_inb : ∀ (v0 : BitVec 32) (v13 : BitVec 32) (v26 : BitVec 32) (v39 : BitVec 32) (v52 : BitVec 32) (v65 : BitVec 32) (k0_hw5 : k0_chk5 v0 v13 v26 v39 v52 v65), ∀ (k0_h12 : k0_cond12 v0 v13 v26 v39 v52 v65 = 1#1), ∀ a, (k0_off20 v0 v13 v26 v39 v52) a + S1x56x768.size a ≤ S4x56x768.size a := fun v0 v13 v26 v39 v52 v65 k0_hw5 k0_h12 => k0_hw5.2.2.2.2 k0_h12

def k0_off21 (v0 : BitVec 32) (v13 : BitVec 32) (v26 : BitVec 32) (v39 : BitVec 32) (v52 : BitVec 32) (v65 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let v5738 : Index := Scalar.indexCast v76
  ![v5738.toNat]
def k0_cond13 (v78 : BitVec 32) : BitVec 1 :=
  let c0_i32_40 : BitVec 32 := 0#32
  let v79 : BitVec 1 := Scalar.cmpi .sgt v78 c0_i32_40
  let v80 : BitVec 32 := Scalar.extui v79
  let c0_i32_41 : BitVec 32 := 0#32
  let v81 : BitVec 1 := Scalar.cmpi .ne v80 c0_i32_41
  v81

def k0_off22 (v0 : BitVec 32) (v13 : BitVec 32) (v26 : BitVec 32) (v39 : BitVec 32) (v52 : BitVec 32) (v65 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  ![v76.toNat]
def k0_cond14 (v0 : BitVec 32) (v13 : BitVec 32) (v26 : BitVec 32) (v39 : BitVec 32) (v52 : BitVec 32) (v65 : BitVec 32) (v78 : BitVec 32) : BitVec 1 :=
  let c0_i32_42 : BitVec 32 := 0#32
  let v82 : BitVec 1 := Scalar.cmpi .sgt v78 c0_i32_42
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c4_i32_43 : BitVec 32 := 4#32
  let v83 : BitVec 1 := Scalar.cmpi .slt v76 c4_i32_43
  let v84 : BitVec 1 := Scalar.andi v82 v83
  let v85 : BitVec 32 := Scalar.extui v84
  let c0_i32_44 : BitVec 32 := 0#32
  let v86 : BitVec 1 := Scalar.cmpi .ne v85 c0_i32_44
  v86

def k0_off23 (v0 : BitVec 32) (v13 : BitVec 32) (v26 : BitVec 32) (v39 : BitVec 32) (v52 : BitVec 32) (v65 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_1922 : BitVec 32 := 0#32
  let c0_i32_1923 : BitVec 32 := 0#32
  ![v76.toNat, 0, 0]
def k0_off24 (v0 : BitVec 32) (v13 : BitVec 32) (v26 : BitVec 32) (v39 : BitVec 32) (v52 : BitVec 32) (v65 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_1927 : BitVec 32 := 0#32
  let c0_i32_1928 : BitVec 32 := 0#32
  ![v76.toNat, 0, 0]

def k0_chk6 (v0 : BitVec 32) (v13 : BitVec 32) (v26 : BitVec 32) (v39 : BitVec 32) (v52 : BitVec 32) (v65 : BitVec 32) (v78 : BitVec 32) : Prop :=
  (∀ (k0_h13 : k0_cond13 v78 = 1#1), ∀ a, (k0_off21 v0 v13 v26 v39 v52 v65) a + S1.size a ≤ S33.size a) ∧
  (∀ (k0_h14 : k0_cond14 v0 v13 v26 v39 v52 v65 v78 = 1#1), ∀ a, (k0_off22 v0 v13 v26 v39 v52 v65) a + S1.size a ≤ S4.size a) ∧
  (∀ (k0_h14 : k0_cond14 v0 v13 v26 v39 v52 v65 v78 = 1#1), ∀ a, (k0_off23 v0 v13 v26 v39 v52 v65) a + S1x3584x768.size a ≤ S4x3584x768.size a) ∧
  (∀ (k0_h14 : k0_cond14 v0 v13 v26 v39 v52 v65 v78 = 1#1), ∀ (hinb : ∀ a, (k0_off23 v0 v13 v26 v39 v52 v65) a + S1x3584x768.size a ≤ S4x3584x768.size a), (Rect.unit (s := S4x3584x768) (k0_off23 v0 v13 v26 v39 v52 v65) S1x3584x768.size hinb).WholeWords (EltTy.packing .i8)) ∧
  (∀ (k0_h14 : k0_cond14 v0 v13 v26 v39 v52 v65 v78 = 1#1), ∀ a, (k0_off24 v0 v13 v26 v39 v52 v65) a + S1x56x768.size a ≤ S4x56x768.size a)
theorem k0_off21_inb : ∀ (v0 : BitVec 32) (v13 : BitVec 32) (v26 : BitVec 32) (v39 : BitVec 32) (v52 : BitVec 32) (v65 : BitVec 32) (v78 : BitVec 32) (k0_hw6 : k0_chk6 v0 v13 v26 v39 v52 v65 v78), ∀ (k0_h13 : k0_cond13 v78 = 1#1), ∀ a, (k0_off21 v0 v13 v26 v39 v52 v65) a + S1.size a ≤ S33.size a := fun v0 v13 v26 v39 v52 v65 v78 k0_hw6 k0_h13 => k0_hw6.1 k0_h13
theorem k0_off22_inb : ∀ (v0 : BitVec 32) (v13 : BitVec 32) (v26 : BitVec 32) (v39 : BitVec 32) (v52 : BitVec 32) (v65 : BitVec 32) (v78 : BitVec 32) (k0_hw6 : k0_chk6 v0 v13 v26 v39 v52 v65 v78), ∀ (k0_h14 : k0_cond14 v0 v13 v26 v39 v52 v65 v78 = 1#1), ∀ a, (k0_off22 v0 v13 v26 v39 v52 v65) a + S1.size a ≤ S4.size a := fun v0 v13 v26 v39 v52 v65 v78 k0_hw6 k0_h14 => k0_hw6.2.1 k0_h14
theorem k0_off23_inb : ∀ (v0 : BitVec 32) (v13 : BitVec 32) (v26 : BitVec 32) (v39 : BitVec 32) (v52 : BitVec 32) (v65 : BitVec 32) (v78 : BitVec 32) (k0_hw6 : k0_chk6 v0 v13 v26 v39 v52 v65 v78), ∀ (k0_h14 : k0_cond14 v0 v13 v26 v39 v52 v65 v78 = 1#1), ∀ a, (k0_off23 v0 v13 v26 v39 v52 v65) a + S1x3584x768.size a ≤ S4x3584x768.size a := fun v0 v13 v26 v39 v52 v65 v78 k0_hw6 k0_h14 => k0_hw6.2.2.1 k0_h14
theorem k0_off23_wordsi8 : ∀ (v0 : BitVec 32) (v13 : BitVec 32) (v26 : BitVec 32) (v39 : BitVec 32) (v52 : BitVec 32) (v65 : BitVec 32) (v78 : BitVec 32) (k0_hw6 : k0_chk6 v0 v13 v26 v39 v52 v65 v78), ∀ (k0_h14 : k0_cond14 v0 v13 v26 v39 v52 v65 v78 = 1#1), (Rect.unit (s := S4x3584x768) (k0_off23 v0 v13 v26 v39 v52 v65) S1x3584x768.size (k0_off23_inb v0 v13 v26 v39 v52 v65 v78 k0_hw6 k0_h14)).WholeWords (EltTy.packing .i8) := fun v0 v13 v26 v39 v52 v65 v78 k0_hw6 k0_h14 => k0_hw6.2.2.2.1 k0_h14 (k0_off23_inb v0 v13 v26 v39 v52 v65 v78 k0_hw6 k0_h14)
theorem k0_off24_inb : ∀ (v0 : BitVec 32) (v13 : BitVec 32) (v26 : BitVec 32) (v39 : BitVec 32) (v52 : BitVec 32) (v65 : BitVec 32) (v78 : BitVec 32) (k0_hw6 : k0_chk6 v0 v13 v26 v39 v52 v65 v78), ∀ (k0_h14 : k0_cond14 v0 v13 v26 v39 v52 v65 v78 = 1#1), ∀ a, (k0_off24 v0 v13 v26 v39 v52 v65) a + S1x56x768.size a ≤ S4x56x768.size a := fun v0 v13 v26 v39 v52 v65 v78 k0_hw6 k0_h14 => k0_hw6.2.2.2.2 k0_h14

def k0_off25 (v0 : BitVec 32) (v13 : BitVec 32) (v26 : BitVec 32) (v39 : BitVec 32) (v52 : BitVec 32) (v65 : BitVec 32) (v78 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let v5738 : Index := Scalar.indexCast v89
  ![v5738.toNat]
def k0_cond15 (v91 : BitVec 32) : BitVec 1 :=
  let c0_i32_46 : BitVec 32 := 0#32
  let v92 : BitVec 1 := Scalar.cmpi .sgt v91 c0_i32_46
  let v93 : BitVec 32 := Scalar.extui v92
  let c0_i32_47 : BitVec 32 := 0#32
  let v94 : BitVec 1 := Scalar.cmpi .ne v93 c0_i32_47
  v94

def k0_off26 (v0 : BitVec 32) (v13 : BitVec 32) (v26 : BitVec 32) (v39 : BitVec 32) (v52 : BitVec 32) (v65 : BitVec 32) (v78 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  ![v89.toNat]
def k0_cond16 (v0 : BitVec 32) (v13 : BitVec 32) (v26 : BitVec 32) (v39 : BitVec 32) (v52 : BitVec 32) (v65 : BitVec 32) (v78 : BitVec 32) (v91 : BitVec 32) : BitVec 1 :=
  let c0_i32_48 : BitVec 32 := 0#32
  let v95 : BitVec 1 := Scalar.cmpi .sgt v91 c0_i32_48
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c4_i32_49 : BitVec 32 := 4#32
  let v96 : BitVec 1 := Scalar.cmpi .slt v89 c4_i32_49
  let v97 : BitVec 1 := Scalar.andi v95 v96
  let v98 : BitVec 32 := Scalar.extui v97
  let c0_i32_50 : BitVec 32 := 0#32
  let v99 : BitVec 1 := Scalar.cmpi .ne v98 c0_i32_50
  v99

def k0_off27 (v0 : BitVec 32) (v13 : BitVec 32) (v26 : BitVec 32) (v39 : BitVec 32) (v52 : BitVec 32) (v65 : BitVec 32) (v78 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_1922 : BitVec 32 := 0#32
  let c0_i32_1923 : BitVec 32 := 0#32
  ![v89.toNat, 0, 0]
def k0_off28 (v0 : BitVec 32) (v13 : BitVec 32) (v26 : BitVec 32) (v39 : BitVec 32) (v52 : BitVec 32) (v65 : BitVec 32) (v78 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_1927 : BitVec 32 := 0#32
  let c0_i32_1928 : BitVec 32 := 0#32
  ![v89.toNat, 0, 0]

def k0_chk7 (v0 : BitVec 32) (v13 : BitVec 32) (v26 : BitVec 32) (v39 : BitVec 32) (v52 : BitVec 32) (v65 : BitVec 32) (v78 : BitVec 32) (v91 : BitVec 32) : Prop :=
  (∀ (k0_h15 : k0_cond15 v91 = 1#1), ∀ a, (k0_off25 v0 v13 v26 v39 v52 v65 v78) a + S1.size a ≤ S33.size a) ∧
  (∀ (k0_h16 : k0_cond16 v0 v13 v26 v39 v52 v65 v78 v91 = 1#1), ∀ a, (k0_off26 v0 v13 v26 v39 v52 v65 v78) a + S1.size a ≤ S4.size a) ∧
  (∀ (k0_h16 : k0_cond16 v0 v13 v26 v39 v52 v65 v78 v91 = 1#1), ∀ a, (k0_off27 v0 v13 v26 v39 v52 v65 v78) a + S1x3584x768.size a ≤ S4x3584x768.size a) ∧
  (∀ (k0_h16 : k0_cond16 v0 v13 v26 v39 v52 v65 v78 v91 = 1#1), ∀ (hinb : ∀ a, (k0_off27 v0 v13 v26 v39 v52 v65 v78) a + S1x3584x768.size a ≤ S4x3584x768.size a), (Rect.unit (s := S4x3584x768) (k0_off27 v0 v13 v26 v39 v52 v65 v78) S1x3584x768.size hinb).WholeWords (EltTy.packing .i8)) ∧
  (∀ (k0_h16 : k0_cond16 v0 v13 v26 v39 v52 v65 v78 v91 = 1#1), ∀ a, (k0_off28 v0 v13 v26 v39 v52 v65 v78) a + S1x56x768.size a ≤ S4x56x768.size a)
theorem k0_off25_inb : ∀ (v0 : BitVec 32) (v13 : BitVec 32) (v26 : BitVec 32) (v39 : BitVec 32) (v52 : BitVec 32) (v65 : BitVec 32) (v78 : BitVec 32) (v91 : BitVec 32) (k0_hw7 : k0_chk7 v0 v13 v26 v39 v52 v65 v78 v91), ∀ (k0_h15 : k0_cond15 v91 = 1#1), ∀ a, (k0_off25 v0 v13 v26 v39 v52 v65 v78) a + S1.size a ≤ S33.size a := fun v0 v13 v26 v39 v52 v65 v78 v91 k0_hw7 k0_h15 => k0_hw7.1 k0_h15
theorem k0_off26_inb : ∀ (v0 : BitVec 32) (v13 : BitVec 32) (v26 : BitVec 32) (v39 : BitVec 32) (v52 : BitVec 32) (v65 : BitVec 32) (v78 : BitVec 32) (v91 : BitVec 32) (k0_hw7 : k0_chk7 v0 v13 v26 v39 v52 v65 v78 v91), ∀ (k0_h16 : k0_cond16 v0 v13 v26 v39 v52 v65 v78 v91 = 1#1), ∀ a, (k0_off26 v0 v13 v26 v39 v52 v65 v78) a + S1.size a ≤ S4.size a := fun v0 v13 v26 v39 v52 v65 v78 v91 k0_hw7 k0_h16 => k0_hw7.2.1 k0_h16
theorem k0_off27_inb : ∀ (v0 : BitVec 32) (v13 : BitVec 32) (v26 : BitVec 32) (v39 : BitVec 32) (v52 : BitVec 32) (v65 : BitVec 32) (v78 : BitVec 32) (v91 : BitVec 32) (k0_hw7 : k0_chk7 v0 v13 v26 v39 v52 v65 v78 v91), ∀ (k0_h16 : k0_cond16 v0 v13 v26 v39 v52 v65 v78 v91 = 1#1), ∀ a, (k0_off27 v0 v13 v26 v39 v52 v65 v78) a + S1x3584x768.size a ≤ S4x3584x768.size a := fun v0 v13 v26 v39 v52 v65 v78 v91 k0_hw7 k0_h16 => k0_hw7.2.2.1 k0_h16
theorem k0_off27_wordsi8 : ∀ (v0 : BitVec 32) (v13 : BitVec 32) (v26 : BitVec 32) (v39 : BitVec 32) (v52 : BitVec 32) (v65 : BitVec 32) (v78 : BitVec 32) (v91 : BitVec 32) (k0_hw7 : k0_chk7 v0 v13 v26 v39 v52 v65 v78 v91), ∀ (k0_h16 : k0_cond16 v0 v13 v26 v39 v52 v65 v78 v91 = 1#1), (Rect.unit (s := S4x3584x768) (k0_off27 v0 v13 v26 v39 v52 v65 v78) S1x3584x768.size (k0_off27_inb v0 v13 v26 v39 v52 v65 v78 v91 k0_hw7 k0_h16)).WholeWords (EltTy.packing .i8) := fun v0 v13 v26 v39 v52 v65 v78 v91 k0_hw7 k0_h16 => k0_hw7.2.2.2.1 k0_h16 (k0_off27_inb v0 v13 v26 v39 v52 v65 v78 v91 k0_hw7 k0_h16)
theorem k0_off28_inb : ∀ (v0 : BitVec 32) (v13 : BitVec 32) (v26 : BitVec 32) (v39 : BitVec 32) (v52 : BitVec 32) (v65 : BitVec 32) (v78 : BitVec 32) (v91 : BitVec 32) (k0_hw7 : k0_chk7 v0 v13 v26 v39 v52 v65 v78 v91), ∀ (k0_h16 : k0_cond16 v0 v13 v26 v39 v52 v65 v78 v91 = 1#1), ∀ a, (k0_off28 v0 v13 v26 v39 v52 v65 v78) a + S1x56x768.size a ≤ S4x56x768.size a := fun v0 v13 v26 v39 v52 v65 v78 v91 k0_hw7 k0_h16 => k0_hw7.2.2.2.2 k0_h16

def k0_off29 (v0 : BitVec 32) (v13 : BitVec 32) (v26 : BitVec 32) (v39 : BitVec 32) (v52 : BitVec 32) (v65 : BitVec 32) (v78 : BitVec 32) (v91 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let v5738 : Index := Scalar.indexCast v102
  ![v5738.toNat]
def k0_cond17 (v104 : BitVec 32) : BitVec 1 :=
  let c0_i32_52 : BitVec 32 := 0#32
  let v105 : BitVec 1 := Scalar.cmpi .sgt v104 c0_i32_52
  let v106 : BitVec 32 := Scalar.extui v105
  let c0_i32_53 : BitVec 32 := 0#32
  let v107 : BitVec 1 := Scalar.cmpi .ne v106 c0_i32_53
  v107

def k0_off30 (v0 : BitVec 32) (v13 : BitVec 32) (v26 : BitVec 32) (v39 : BitVec 32) (v52 : BitVec 32) (v65 : BitVec 32) (v78 : BitVec 32) (v91 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  ![v102.toNat]
def k0_cond18 (v0 : BitVec 32) (v13 : BitVec 32) (v26 : BitVec 32) (v39 : BitVec 32) (v52 : BitVec 32) (v65 : BitVec 32) (v78 : BitVec 32) (v91 : BitVec 32) (v104 : BitVec 32) : BitVec 1 :=
  let c0_i32_54 : BitVec 32 := 0#32
  let v108 : BitVec 1 := Scalar.cmpi .sgt v104 c0_i32_54
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c4_i32_55 : BitVec 32 := 4#32
  let v109 : BitVec 1 := Scalar.cmpi .slt v102 c4_i32_55
  let v110 : BitVec 1 := Scalar.andi v108 v109
  let v111 : BitVec 32 := Scalar.extui v110
  let c0_i32_56 : BitVec 32 := 0#32
  let v112 : BitVec 1 := Scalar.cmpi .ne v111 c0_i32_56
  v112

def k0_off31 (v0 : BitVec 32) (v13 : BitVec 32) (v26 : BitVec 32) (v39 : BitVec 32) (v52 : BitVec 32) (v65 : BitVec 32) (v78 : BitVec 32) (v91 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_1923 : BitVec 32 := 0#32
  let c0_i32_1924 : BitVec 32 := 0#32
  ![v102.toNat, 0, 0]
def k0_off32 (v0 : BitVec 32) (v13 : BitVec 32) (v26 : BitVec 32) (v39 : BitVec 32) (v52 : BitVec 32) (v65 : BitVec 32) (v78 : BitVec 32) (v91 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_1928 : BitVec 32 := 0#32
  let c0_i32_1929 : BitVec 32 := 0#32
  ![v102.toNat, 0, 0]

def k0_chk8 (v0 : BitVec 32) (v13 : BitVec 32) (v26 : BitVec 32) (v39 : BitVec 32) (v52 : BitVec 32) (v65 : BitVec 32) (v78 : BitVec 32) (v91 : BitVec 32) (v104 : BitVec 32) : Prop :=
  (∀ (k0_h17 : k0_cond17 v104 = 1#1), ∀ a, (k0_off29 v0 v13 v26 v39 v52 v65 v78 v91) a + S1.size a ≤ S33.size a) ∧
  (∀ (k0_h18 : k0_cond18 v0 v13 v26 v39 v52 v65 v78 v91 v104 = 1#1), ∀ a, (k0_off30 v0 v13 v26 v39 v52 v65 v78 v91) a + S1.size a ≤ S4.size a) ∧
  (∀ (k0_h18 : k0_cond18 v0 v13 v26 v39 v52 v65 v78 v91 v104 = 1#1), ∀ a, (k0_off31 v0 v13 v26 v39 v52 v65 v78 v91) a + S1x3584x768.size a ≤ S4x3584x768.size a) ∧
  (∀ (k0_h18 : k0_cond18 v0 v13 v26 v39 v52 v65 v78 v91 v104 = 1#1), ∀ (hinb : ∀ a, (k0_off31 v0 v13 v26 v39 v52 v65 v78 v91) a + S1x3584x768.size a ≤ S4x3584x768.size a), (Rect.unit (s := S4x3584x768) (k0_off31 v0 v13 v26 v39 v52 v65 v78 v91) S1x3584x768.size hinb).WholeWords (EltTy.packing .i8)) ∧
  (∀ (k0_h18 : k0_cond18 v0 v13 v26 v39 v52 v65 v78 v91 v104 = 1#1), ∀ a, (k0_off32 v0 v13 v26 v39 v52 v65 v78 v91) a + S1x56x768.size a ≤ S4x56x768.size a)
theorem k0_off29_inb : ∀ (v0 : BitVec 32) (v13 : BitVec 32) (v26 : BitVec 32) (v39 : BitVec 32) (v52 : BitVec 32) (v65 : BitVec 32) (v78 : BitVec 32) (v91 : BitVec 32) (v104 : BitVec 32) (k0_hw8 : k0_chk8 v0 v13 v26 v39 v52 v65 v78 v91 v104), ∀ (k0_h17 : k0_cond17 v104 = 1#1), ∀ a, (k0_off29 v0 v13 v26 v39 v52 v65 v78 v91) a + S1.size a ≤ S33.size a := fun v0 v13 v26 v39 v52 v65 v78 v91 v104 k0_hw8 k0_h17 => k0_hw8.1 k0_h17
theorem k0_off30_inb : ∀ (v0 : BitVec 32) (v13 : BitVec 32) (v26 : BitVec 32) (v39 : BitVec 32) (v52 : BitVec 32) (v65 : BitVec 32) (v78 : BitVec 32) (v91 : BitVec 32) (v104 : BitVec 32) (k0_hw8 : k0_chk8 v0 v13 v26 v39 v52 v65 v78 v91 v104), ∀ (k0_h18 : k0_cond18 v0 v13 v26 v39 v52 v65 v78 v91 v104 = 1#1), ∀ a, (k0_off30 v0 v13 v26 v39 v52 v65 v78 v91) a + S1.size a ≤ S4.size a := fun v0 v13 v26 v39 v52 v65 v78 v91 v104 k0_hw8 k0_h18 => k0_hw8.2.1 k0_h18
theorem k0_off31_inb : ∀ (v0 : BitVec 32) (v13 : BitVec 32) (v26 : BitVec 32) (v39 : BitVec 32) (v52 : BitVec 32) (v65 : BitVec 32) (v78 : BitVec 32) (v91 : BitVec 32) (v104 : BitVec 32) (k0_hw8 : k0_chk8 v0 v13 v26 v39 v52 v65 v78 v91 v104), ∀ (k0_h18 : k0_cond18 v0 v13 v26 v39 v52 v65 v78 v91 v104 = 1#1), ∀ a, (k0_off31 v0 v13 v26 v39 v52 v65 v78 v91) a + S1x3584x768.size a ≤ S4x3584x768.size a := fun v0 v13 v26 v39 v52 v65 v78 v91 v104 k0_hw8 k0_h18 => k0_hw8.2.2.1 k0_h18
theorem k0_off31_wordsi8 : ∀ (v0 : BitVec 32) (v13 : BitVec 32) (v26 : BitVec 32) (v39 : BitVec 32) (v52 : BitVec 32) (v65 : BitVec 32) (v78 : BitVec 32) (v91 : BitVec 32) (v104 : BitVec 32) (k0_hw8 : k0_chk8 v0 v13 v26 v39 v52 v65 v78 v91 v104), ∀ (k0_h18 : k0_cond18 v0 v13 v26 v39 v52 v65 v78 v91 v104 = 1#1), (Rect.unit (s := S4x3584x768) (k0_off31 v0 v13 v26 v39 v52 v65 v78 v91) S1x3584x768.size (k0_off31_inb v0 v13 v26 v39 v52 v65 v78 v91 v104 k0_hw8 k0_h18)).WholeWords (EltTy.packing .i8) := fun v0 v13 v26 v39 v52 v65 v78 v91 v104 k0_hw8 k0_h18 => k0_hw8.2.2.2.1 k0_h18 (k0_off31_inb v0 v13 v26 v39 v52 v65 v78 v91 v104 k0_hw8 k0_h18)
theorem k0_off32_inb : ∀ (v0 : BitVec 32) (v13 : BitVec 32) (v26 : BitVec 32) (v39 : BitVec 32) (v52 : BitVec 32) (v65 : BitVec 32) (v78 : BitVec 32) (v91 : BitVec 32) (v104 : BitVec 32) (k0_hw8 : k0_chk8 v0 v13 v26 v39 v52 v65 v78 v91 v104), ∀ (k0_h18 : k0_cond18 v0 v13 v26 v39 v52 v65 v78 v91 v104 = 1#1), ∀ a, (k0_off32 v0 v13 v26 v39 v52 v65 v78 v91) a + S1x56x768.size a ≤ S4x56x768.size a := fun v0 v13 v26 v39 v52 v65 v78 v91 v104 k0_hw8 k0_h18 => k0_hw8.2.2.2.2 k0_h18

def k0_off33 (v0 : BitVec 32) (v13 : BitVec 32) (v26 : BitVec 32) (v39 : BitVec 32) (v52 : BitVec 32) (v65 : BitVec 32) (v78 : BitVec 32) (v91 : BitVec 32) (v104 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let v5738 : Index := Scalar.indexCast v115
  ![v5738.toNat]
def k0_cond19 (v117 : BitVec 32) : BitVec 1 :=
  let c0_i32_58 : BitVec 32 := 0#32
  let v118 : BitVec 1 := Scalar.cmpi .sgt v117 c0_i32_58
  let v119 : BitVec 32 := Scalar.extui v118
  let c0_i32_59 : BitVec 32 := 0#32
  let v120 : BitVec 1 := Scalar.cmpi .ne v119 c0_i32_59
  v120

def k0_off34 (v0 : BitVec 32) (v13 : BitVec 32) (v26 : BitVec 32) (v39 : BitVec 32) (v52 : BitVec 32) (v65 : BitVec 32) (v78 : BitVec 32) (v91 : BitVec 32) (v104 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  ![v115.toNat]
def k0_cond20 (v0 : BitVec 32) (v13 : BitVec 32) (v26 : BitVec 32) (v39 : BitVec 32) (v52 : BitVec 32) (v65 : BitVec 32) (v78 : BitVec 32) (v91 : BitVec 32) (v104 : BitVec 32) (v117 : BitVec 32) : BitVec 1 :=
  let c0_i32_60 : BitVec 32 := 0#32
  let v121 : BitVec 1 := Scalar.cmpi .sgt v117 c0_i32_60
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c4_i32_61 : BitVec 32 := 4#32
  let v122 : BitVec 1 := Scalar.cmpi .slt v115 c4_i32_61
  let v123 : BitVec 1 := Scalar.andi v121 v122
  let v124 : BitVec 32 := Scalar.extui v123
  let c0_i32_62 : BitVec 32 := 0#32
  let v125 : BitVec 1 := Scalar.cmpi .ne v124 c0_i32_62
  v125

def k0_off35 (v0 : BitVec 32) (v13 : BitVec 32) (v26 : BitVec 32) (v39 : BitVec 32) (v52 : BitVec 32) (v65 : BitVec 32) (v78 : BitVec 32) (v91 : BitVec 32) (v104 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_1922 : BitVec 32 := 0#32
  let c0_i32_1923 : BitVec 32 := 0#32
  ![v115.toNat, 0, 0]
def k0_off36 (v0 : BitVec 32) (v13 : BitVec 32) (v26 : BitVec 32) (v39 : BitVec 32) (v52 : BitVec 32) (v65 : BitVec 32) (v78 : BitVec 32) (v91 : BitVec 32) (v104 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_1927 : BitVec 32 := 0#32
  let c0_i32_1928 : BitVec 32 := 0#32
  ![v115.toNat, 0, 0]

def k0_chk9 (v0 : BitVec 32) (v13 : BitVec 32) (v26 : BitVec 32) (v39 : BitVec 32) (v52 : BitVec 32) (v65 : BitVec 32) (v78 : BitVec 32) (v91 : BitVec 32) (v104 : BitVec 32) (v117 : BitVec 32) : Prop :=
  (∀ (k0_h19 : k0_cond19 v117 = 1#1), ∀ a, (k0_off33 v0 v13 v26 v39 v52 v65 v78 v91 v104) a + S1.size a ≤ S33.size a) ∧
  (∀ (k0_h20 : k0_cond20 v0 v13 v26 v39 v52 v65 v78 v91 v104 v117 = 1#1), ∀ a, (k0_off34 v0 v13 v26 v39 v52 v65 v78 v91 v104) a + S1.size a ≤ S4.size a) ∧
  (∀ (k0_h20 : k0_cond20 v0 v13 v26 v39 v52 v65 v78 v91 v104 v117 = 1#1), ∀ a, (k0_off35 v0 v13 v26 v39 v52 v65 v78 v91 v104) a + S1x3584x768.size a ≤ S4x3584x768.size a) ∧
  (∀ (k0_h20 : k0_cond20 v0 v13 v26 v39 v52 v65 v78 v91 v104 v117 = 1#1), ∀ (hinb : ∀ a, (k0_off35 v0 v13 v26 v39 v52 v65 v78 v91 v104) a + S1x3584x768.size a ≤ S4x3584x768.size a), (Rect.unit (s := S4x3584x768) (k0_off35 v0 v13 v26 v39 v52 v65 v78 v91 v104) S1x3584x768.size hinb).WholeWords (EltTy.packing .i8)) ∧
  (∀ (k0_h20 : k0_cond20 v0 v13 v26 v39 v52 v65 v78 v91 v104 v117 = 1#1), ∀ a, (k0_off36 v0 v13 v26 v39 v52 v65 v78 v91 v104) a + S1x56x768.size a ≤ S4x56x768.size a)
theorem k0_off33_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (k0_hw9 : k0_chk9 v0 v13 v26 v39 v52 v65 v78 v91 v104 v117), ∀ (k0_h19 : k0_cond19 v117 = 1#1), ∀ a, (k0_off33 v0 v13 v26 v39 v52 v65 v78 v91 v104) a + S1.size a ≤ S33.size a := fun v0 v13 v26 v39 v52 v65 v78 v91 v104 v117 k0_hw9 k0_h19 => k0_hw9.1 k0_h19
theorem k0_off34_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (k0_hw9 : k0_chk9 v0 v13 v26 v39 v52 v65 v78 v91 v104 v117), ∀ (k0_h20 : k0_cond20 v0 v13 v26 v39 v52 v65 v78 v91 v104 v117 = 1#1), ∀ a, (k0_off34 v0 v13 v26 v39 v52 v65 v78 v91 v104) a + S1.size a ≤ S4.size a := fun v0 v13 v26 v39 v52 v65 v78 v91 v104 v117 k0_hw9 k0_h20 => k0_hw9.2.1 k0_h20
theorem k0_off35_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (k0_hw9 : k0_chk9 v0 v13 v26 v39 v52 v65 v78 v91 v104 v117), ∀ (k0_h20 : k0_cond20 v0 v13 v26 v39 v52 v65 v78 v91 v104 v117 = 1#1), ∀ a, (k0_off35 v0 v13 v26 v39 v52 v65 v78 v91 v104) a + S1x3584x768.size a ≤ S4x3584x768.size a := fun v0 v13 v26 v39 v52 v65 v78 v91 v104 v117 k0_hw9 k0_h20 => k0_hw9.2.2.1 k0_h20
theorem k0_off35_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (k0_hw9 : k0_chk9 v0 v13 v26 v39 v52 v65 v78 v91 v104 v117), ∀ (k0_h20 : k0_cond20 v0 v13 v26 v39 v52 v65 v78 v91 v104 v117 = 1#1), (Rect.unit (s := S4x3584x768) (k0_off35 v0 v13 v26 v39 v52 v65 v78 v91 v104) S1x3584x768.size (k0_off35_inb v0 v13 v26 v39 v52 v65 v78 v91 v104 v117 k0_hw9 k0_h20)).WholeWords (EltTy.packing .i8) := fun v0 v13 v26 v39 v52 v65 v78 v91 v104 v117 k0_hw9 k0_h20 => k0_hw9.2.2.2.1 k0_h20 (k0_off35_inb v0 v13 v26 v39 v52 v65 v78 v91 v104 v117 k0_hw9 k0_h20)
theorem k0_off36_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (k0_hw9 : k0_chk9 v0 v13 v26 v39 v52 v65 v78 v91 v104 v117), ∀ (k0_h20 : k0_cond20 v0 v13 v26 v39 v52 v65 v78 v91 v104 v117 = 1#1), ∀ a, (k0_off36 v0 v13 v26 v39 v52 v65 v78 v91 v104) a + S1x56x768.size a ≤ S4x56x768.size a := fun v0 v13 v26 v39 v52 v65 v78 v91 v104 v117 k0_hw9 k0_h20 => k0_hw9.2.2.2.2 k0_h20

def k0_off37 (v0 : BitVec 32) (v13 : BitVec 32) (v26 : BitVec 32) (v39 : BitVec 32) (v52 : BitVec 32) (v65 : BitVec 32) (v78 : BitVec 32) (v91 : BitVec 32) (v104 : BitVec 32) (v117 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let v5738 : Index := Scalar.indexCast v128
  ![v5738.toNat]
def k0_cond21 (v130 : BitVec 32) : BitVec 1 :=
  let c0_i32_64 : BitVec 32 := 0#32
  let v131 : BitVec 1 := Scalar.cmpi .sgt v130 c0_i32_64
  let v132 : BitVec 32 := Scalar.extui v131
  let c0_i32_65 : BitVec 32 := 0#32
  let v133 : BitVec 1 := Scalar.cmpi .ne v132 c0_i32_65
  v133

def k0_off38 (v0 : BitVec 32) (v13 : BitVec 32) (v26 : BitVec 32) (v39 : BitVec 32) (v52 : BitVec 32) (v65 : BitVec 32) (v78 : BitVec 32) (v91 : BitVec 32) (v104 : BitVec 32) (v117 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  ![v128.toNat]
def k0_cond22 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : BitVec 1 :=
  let c0_i32_66 : BitVec 32 := 0#32
  let v134 : BitVec 1 := Scalar.cmpi .sgt v130 c0_i32_66
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c4_i32_67 : BitVec 32 := 4#32
  let v135 : BitVec 1 := Scalar.cmpi .slt v128 c4_i32_67
  let v136 : BitVec 1 := Scalar.andi v134 v135
  let v137 : BitVec 32 := Scalar.extui v136
  let c0_i32_68 : BitVec 32 := 0#32
  let v138 : BitVec 1 := Scalar.cmpi .ne v137 c0_i32_68
  v138

def k0_off39 (v0 : BitVec 32) (v13 : BitVec 32) (v26 : BitVec 32) (v39 : BitVec 32) (v52 : BitVec 32) (v65 : BitVec 32) (v78 : BitVec 32) (v91 : BitVec 32) (v104 : BitVec 32) (v117 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_1922 : BitVec 32 := 0#32
  let c0_i32_1923 : BitVec 32 := 0#32
  ![v128.toNat, 0, 0]
def k0_off40 (v0 : BitVec 32) (v13 : BitVec 32) (v26 : BitVec 32) (v39 : BitVec 32) (v52 : BitVec 32) (v65 : BitVec 32) (v78 : BitVec 32) (v91 : BitVec 32) (v104 : BitVec 32) (v117 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_1927 : BitVec 32 := 0#32
  let c0_i32_1928 : BitVec 32 := 0#32
  ![v128.toNat, 0, 0]

def k0_chk10 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : Prop :=
  (∀ (k0_h21 : k0_cond21 v130 = 1#1), ∀ a, (k0_off37 v0 v13 v26 v39 v52 v65 v78 v91 v104 v117) a + S1.size a ≤ S33.size a) ∧
  (∀ (k0_h22 : k0_cond22 v0 v13 v26 v39 v52 v65 v78 v91 v104 v117 v130 = 1#1), ∀ a, (k0_off38 v0 v13 v26 v39 v52 v65 v78 v91 v104 v117) a + S1.size a ≤ S4.size a) ∧
  (∀ (k0_h22 : k0_cond22 v0 v13 v26 v39 v52 v65 v78 v91 v104 v117 v130 = 1#1), ∀ a, (k0_off39 v0 v13 v26 v39 v52 v65 v78 v91 v104 v117) a + S1x3584x768.size a ≤ S4x3584x768.size a) ∧
  (∀ (k0_h22 : k0_cond22 v0 v13 v26 v39 v52 v65 v78 v91 v104 v117 v130 = 1#1), ∀ (hinb : ∀ a, (k0_off39 v0 v13 v26 v39 v52 v65 v78 v91 v104 v117) a + S1x3584x768.size a ≤ S4x3584x768.size a), (Rect.unit (s := S4x3584x768) (k0_off39 v0 v13 v26 v39 v52 v65 v78 v91 v104 v117) S1x3584x768.size hinb).WholeWords (EltTy.packing .i8)) ∧
  (∀ (k0_h22 : k0_cond22 v0 v13 v26 v39 v52 v65 v78 v91 v104 v117 v130 = 1#1), ∀ a, (k0_off40 v0 v13 v26 v39 v52 v65 v78 v91 v104 v117) a + S1x56x768.size a ≤ S4x56x768.size a)
theorem k0_off37_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (k0_hw10 : k0_chk10 v0 v13 v26 v39 v52 v65 v78 v91 v104 v117 v130), ∀ (k0_h21 : k0_cond21 v130 = 1#1), ∀ a, (k0_off37 v0 v13 v26 v39 v52 v65 v78 v91 v104 v117) a + S1.size a ≤ S33.size a := fun v0 v13 v26 v39 v52 v65 v78 v91 v104 v117 v130 k0_hw10 k0_h21 => k0_hw10.1 k0_h21
theorem k0_off38_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (k0_hw10 : k0_chk10 v0 v13 v26 v39 v52 v65 v78 v91 v104 v117 v130), ∀ (k0_h22 : k0_cond22 v0 v13 v26 v39 v52 v65 v78 v91 v104 v117 v130 = 1#1), ∀ a, (k0_off38 v0 v13 v26 v39 v52 v65 v78 v91 v104 v117) a + S1.size a ≤ S4.size a := fun v0 v13 v26 v39 v52 v65 v78 v91 v104 v117 v130 k0_hw10 k0_h22 => k0_hw10.2.1 k0_h22
theorem k0_off39_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (k0_hw10 : k0_chk10 v0 v13 v26 v39 v52 v65 v78 v91 v104 v117 v130), ∀ (k0_h22 : k0_cond22 v0 v13 v26 v39 v52 v65 v78 v91 v104 v117 v130 = 1#1), ∀ a, (k0_off39 v0 v13 v26 v39 v52 v65 v78 v91 v104 v117) a + S1x3584x768.size a ≤ S4x3584x768.size a := fun v0 v13 v26 v39 v52 v65 v78 v91 v104 v117 v130 k0_hw10 k0_h22 => k0_hw10.2.2.1 k0_h22
theorem k0_off39_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (k0_hw10 : k0_chk10 v0 v13 v26 v39 v52 v65 v78 v91 v104 v117 v130), ∀ (k0_h22 : k0_cond22 v0 v13 v26 v39 v52 v65 v78 v91 v104 v117 v130 = 1#1), (Rect.unit (s := S4x3584x768) (k0_off39 v0 v13 v26 v39 v52 v65 v78 v91 v104 v117) S1x3584x768.size (k0_off39_inb v0 v13 v26 v39 v52 v65 v78 v91 v104 v117 v130 k0_hw10 k0_h22)).WholeWords (EltTy.packing .i8) := fun v0 v13 v26 v39 v52 v65 v78 v91 v104 v117 v130 k0_hw10 k0_h22 => k0_hw10.2.2.2.1 k0_h22 (k0_off39_inb v0 v13 v26 v39 v52 v65 v78 v91 v104 v117 v130 k0_hw10 k0_h22)
theorem k0_off40_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (k0_hw10 : k0_chk10 v0 v13 v26 v39 v52 v65 v78 v91 v104 v117 v130), ∀ (k0_h22 : k0_cond22 v0 v13 v26 v39 v52 v65 v78 v91 v104 v117 v130 = 1#1), ∀ a, (k0_off40 v0 v13 v26 v39 v52 v65 v78 v91 v104 v117) a + S1x56x768.size a ≤ S4x56x768.size a := fun v0 v13 v26 v39 v52 v65 v78 v91 v104 v117 v130 k0_hw10 k0_h22 => k0_hw10.2.2.2.2 k0_h22

def k0_off41 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let v5738 : Index := Scalar.indexCast v141
  ![v5738.toNat]
def k0_cond23 (v143 : BitVec 32) : BitVec 1 :=
  let c0_i32_70 : BitVec 32 := 0#32
  let v144 : BitVec 1 := Scalar.cmpi .sgt v143 c0_i32_70
  let v145 : BitVec 32 := Scalar.extui v144
  let c0_i32_71 : BitVec 32 := 0#32
  let v146 : BitVec 1 := Scalar.cmpi .ne v145 c0_i32_71
  v146

def k0_off42 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  ![v141.toNat]
def k0_cond24 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : BitVec 1 :=
  let c0_i32_72 : BitVec 32 := 0#32
  let v147 : BitVec 1 := Scalar.cmpi .sgt v143 c0_i32_72
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c4_i32_73 : BitVec 32 := 4#32
  let v148 : BitVec 1 := Scalar.cmpi .slt v141 c4_i32_73
  let v149 : BitVec 1 := Scalar.andi v147 v148
  let v150 : BitVec 32 := Scalar.extui v149
  let c0_i32_74 : BitVec 32 := 0#32
  let v151 : BitVec 1 := Scalar.cmpi .ne v150 c0_i32_74
  v151

def k0_off43 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_1922 : BitVec 32 := 0#32
  let c0_i32_1923 : BitVec 32 := 0#32
  ![v141.toNat, 0, 0]
def k0_off44 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_1927 : BitVec 32 := 0#32
  let c0_i32_1928 : BitVec 32 := 0#32
  ![v141.toNat, 0, 0]

def k0_chk11 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : Prop :=
  (∀ (k0_h23 : k0_cond23 v143 = 1#1), ∀ a, (k0_off41 v0 v13 v26 v39 v52 v65 v78 v91 v104 v117 v130) a + S1.size a ≤ S33.size a) ∧
  (∀ (k0_h24 : k0_cond24 v0 v13 v26 v39 v52 v65 v78 v91 v104 v117 v130 v143 = 1#1), ∀ a, (k0_off42 v0 v13 v26 v39 v52 v65 v78 v91 v104 v117 v130) a + S1.size a ≤ S4.size a) ∧
  (∀ (k0_h24 : k0_cond24 v0 v13 v26 v39 v52 v65 v78 v91 v104 v117 v130 v143 = 1#1), ∀ a, (k0_off43 v0 v13 v26 v39 v52 v65 v78 v91 v104 v117 v130) a + S1x3584x768.size a ≤ S4x3584x768.size a) ∧
  (∀ (k0_h24 : k0_cond24 v0 v13 v26 v39 v52 v65 v78 v91 v104 v117 v130 v143 = 1#1), ∀ (hinb : ∀ a, (k0_off43 v0 v13 v26 v39 v52 v65 v78 v91 v104 v117 v130) a + S1x3584x768.size a ≤ S4x3584x768.size a), (Rect.unit (s := S4x3584x768) (k0_off43 v0 v13 v26 v39 v52 v65 v78 v91 v104 v117 v130) S1x3584x768.size hinb).WholeWords (EltTy.packing .i8)) ∧
  (∀ (k0_h24 : k0_cond24 v0 v13 v26 v39 v52 v65 v78 v91 v104 v117 v130 v143 = 1#1), ∀ a, (k0_off44 v0 v13 v26 v39 v52 v65 v78 v91 v104 v117 v130) a + S1x56x768.size a ≤ S4x56x768.size a)
theorem k0_off41_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (k0_hw11 : k0_chk11 v0 v13 v26 v39 v52 v65 v78 v91 v104 v117 v130 v143), ∀ (k0_h23 : k0_cond23 v143 = 1#1), ∀ a, (k0_off41 v0 v13 v26 v39 v52 v65 v78 v91 v104 v117 v130) a + S1.size a ≤ S33.size a := fun v0 v13 v26 v39 v52 v65 v78 v91 v104 v117 v130 v143 k0_hw11 k0_h23 => k0_hw11.1 k0_h23
theorem k0_off42_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (k0_hw11 : k0_chk11 v0 v13 v26 v39 v52 v65 v78 v91 v104 v117 v130 v143), ∀ (k0_h24 : k0_cond24 v0 v13 v26 v39 v52 v65 v78 v91 v104 v117 v130 v143 = 1#1), ∀ a, (k0_off42 v0 v13 v26 v39 v52 v65 v78 v91 v104 v117 v130) a + S1.size a ≤ S4.size a := fun v0 v13 v26 v39 v52 v65 v78 v91 v104 v117 v130 v143 k0_hw11 k0_h24 => k0_hw11.2.1 k0_h24
theorem k0_off43_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (k0_hw11 : k0_chk11 v0 v13 v26 v39 v52 v65 v78 v91 v104 v117 v130 v143), ∀ (k0_h24 : k0_cond24 v0 v13 v26 v39 v52 v65 v78 v91 v104 v117 v130 v143 = 1#1), ∀ a, (k0_off43 v0 v13 v26 v39 v52 v65 v78 v91 v104 v117 v130) a + S1x3584x768.size a ≤ S4x3584x768.size a := fun v0 v13 v26 v39 v52 v65 v78 v91 v104 v117 v130 v143 k0_hw11 k0_h24 => k0_hw11.2.2.1 k0_h24
theorem k0_off43_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (k0_hw11 : k0_chk11 v0 v13 v26 v39 v52 v65 v78 v91 v104 v117 v130 v143), ∀ (k0_h24 : k0_cond24 v0 v13 v26 v39 v52 v65 v78 v91 v104 v117 v130 v143 = 1#1), (Rect.unit (s := S4x3584x768) (k0_off43 v0 v13 v26 v39 v52 v65 v78 v91 v104 v117 v130) S1x3584x768.size (k0_off43_inb v0 v13 v26 v39 v52 v65 v78 v91 v104 v117 v130 v143 k0_hw11 k0_h24)).WholeWords (EltTy.packing .i8) := fun v0 v13 v26 v39 v52 v65 v78 v91 v104 v117 v130 v143 k0_hw11 k0_h24 => k0_hw11.2.2.2.1 k0_h24 (k0_off43_inb v0 v13 v26 v39 v52 v65 v78 v91 v104 v117 v130 v143 k0_hw11 k0_h24)
theorem k0_off44_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (k0_hw11 : k0_chk11 v0 v13 v26 v39 v52 v65 v78 v91 v104 v117 v130 v143), ∀ (k0_h24 : k0_cond24 v0 v13 v26 v39 v52 v65 v78 v91 v104 v117 v130 v143 = 1#1), ∀ a, (k0_off44 v0 v13 v26 v39 v52 v65 v78 v91 v104 v117 v130) a + S1x56x768.size a ≤ S4x56x768.size a := fun v0 v13 v26 v39 v52 v65 v78 v91 v104 v117 v130 v143 k0_hw11 k0_h24 => k0_hw11.2.2.2.2 k0_h24

def k0_off45 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let v5738 : Index := Scalar.indexCast v154
  ![v5738.toNat]
def k0_cond25 (v156 : BitVec 32) : BitVec 1 :=
  let c0_i32_76 : BitVec 32 := 0#32
  let v157 : BitVec 1 := Scalar.cmpi .sgt v156 c0_i32_76
  let v158 : BitVec 32 := Scalar.extui v157
  let c0_i32_77 : BitVec 32 := 0#32
  let v159 : BitVec 1 := Scalar.cmpi .ne v158 c0_i32_77
  v159

def k0_off46 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  ![v154.toNat]
def k0_cond26 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : BitVec 1 :=
  let c0_i32_78 : BitVec 32 := 0#32
  let v160 : BitVec 1 := Scalar.cmpi .sgt v156 c0_i32_78
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c4_i32_79 : BitVec 32 := 4#32
  let v161 : BitVec 1 := Scalar.cmpi .slt v154 c4_i32_79
  let v162 : BitVec 1 := Scalar.andi v160 v161
  let v163 : BitVec 32 := Scalar.extui v162
  let c0_i32_80 : BitVec 32 := 0#32
  let v164 : BitVec 1 := Scalar.cmpi .ne v163 c0_i32_80
  v164

def k0_off47 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_1922 : BitVec 32 := 0#32
  let c0_i32_1923 : BitVec 32 := 0#32
  ![v154.toNat, 0, 0]
def k0_off48 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_1927 : BitVec 32 := 0#32
  let c0_i32_1928 : BitVec 32 := 0#32
  ![v154.toNat, 0, 0]

def k0_chk12 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : Prop :=
  (∀ (k0_h25 : k0_cond25 v156 = 1#1), ∀ a, (k0_off45 v0 v13 v26 v39 v52 v65 v78 v91 v104 v117 v130 v143) a + S1.size a ≤ S33.size a) ∧
  (∀ (k0_h26 : k0_cond26 v0 v13 v26 v39 v52 v65 v78 v91 v104 v117 v130 v143 v156 = 1#1), ∀ a, (k0_off46 v0 v13 v26 v39 v52 v65 v78 v91 v104 v117 v130 v143) a + S1.size a ≤ S4.size a) ∧
  (∀ (k0_h26 : k0_cond26 v0 v13 v26 v39 v52 v65 v78 v91 v104 v117 v130 v143 v156 = 1#1), ∀ a, (k0_off47 v0 v13 v26 v39 v52 v65 v78 v91 v104 v117 v130 v143) a + S1x3584x768.size a ≤ S4x3584x768.size a) ∧
  (∀ (k0_h26 : k0_cond26 v0 v13 v26 v39 v52 v65 v78 v91 v104 v117 v130 v143 v156 = 1#1), ∀ (hinb : ∀ a, (k0_off47 v0 v13 v26 v39 v52 v65 v78 v91 v104 v117 v130 v143) a + S1x3584x768.size a ≤ S4x3584x768.size a), (Rect.unit (s := S4x3584x768) (k0_off47 v0 v13 v26 v39 v52 v65 v78 v91 v104 v117 v130 v143) S1x3584x768.size hinb).WholeWords (EltTy.packing .i8)) ∧
  (∀ (k0_h26 : k0_cond26 v0 v13 v26 v39 v52 v65 v78 v91 v104 v117 v130 v143 v156 = 1#1), ∀ a, (k0_off48 v0 v13 v26 v39 v52 v65 v78 v91 v104 v117 v130 v143) a + S1x56x768.size a ≤ S4x56x768.size a)
theorem k0_off45_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (k0_hw12 : k0_chk12 v0 v13 v26 v39 v52 v65 v78 v91 v104 v117 v130 v143 v156), ∀ (k0_h25 : k0_cond25 v156 = 1#1), ∀ a, (k0_off45 v0 v13 v26 v39 v52 v65 v78 v91 v104 v117 v130 v143) a + S1.size a ≤ S33.size a := fun v0 v13 v26 v39 v52 v65 v78 v91 v104 v117 v130 v143 v156 k0_hw12 k0_h25 => k0_hw12.1 k0_h25
theorem k0_off46_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (k0_hw12 : k0_chk12 v0 v13 v26 v39 v52 v65 v78 v91 v104 v117 v130 v143 v156), ∀ (k0_h26 : k0_cond26 v0 v13 v26 v39 v52 v65 v78 v91 v104 v117 v130 v143 v156 = 1#1), ∀ a, (k0_off46 v0 v13 v26 v39 v52 v65 v78 v91 v104 v117 v130 v143) a + S1.size a ≤ S4.size a := fun v0 v13 v26 v39 v52 v65 v78 v91 v104 v117 v130 v143 v156 k0_hw12 k0_h26 => k0_hw12.2.1 k0_h26
theorem k0_off47_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (k0_hw12 : k0_chk12 v0 v13 v26 v39 v52 v65 v78 v91 v104 v117 v130 v143 v156), ∀ (k0_h26 : k0_cond26 v0 v13 v26 v39 v52 v65 v78 v91 v104 v117 v130 v143 v156 = 1#1), ∀ a, (k0_off47 v0 v13 v26 v39 v52 v65 v78 v91 v104 v117 v130 v143) a + S1x3584x768.size a ≤ S4x3584x768.size a := fun v0 v13 v26 v39 v52 v65 v78 v91 v104 v117 v130 v143 v156 k0_hw12 k0_h26 => k0_hw12.2.2.1 k0_h26
theorem k0_off47_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (k0_hw12 : k0_chk12 v0 v13 v26 v39 v52 v65 v78 v91 v104 v117 v130 v143 v156), ∀ (k0_h26 : k0_cond26 v0 v13 v26 v39 v52 v65 v78 v91 v104 v117 v130 v143 v156 = 1#1), (Rect.unit (s := S4x3584x768) (k0_off47 v0 v13 v26 v39 v52 v65 v78 v91 v104 v117 v130 v143) S1x3584x768.size (k0_off47_inb v0 v13 v26 v39 v52 v65 v78 v91 v104 v117 v130 v143 v156 k0_hw12 k0_h26)).WholeWords (EltTy.packing .i8) := fun v0 v13 v26 v39 v52 v65 v78 v91 v104 v117 v130 v143 v156 k0_hw12 k0_h26 => k0_hw12.2.2.2.1 k0_h26 (k0_off47_inb v0 v13 v26 v39 v52 v65 v78 v91 v104 v117 v130 v143 v156 k0_hw12 k0_h26)
theorem k0_off48_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (k0_hw12 : k0_chk12 v0 v13 v26 v39 v52 v65 v78 v91 v104 v117 v130 v143 v156), ∀ (k0_h26 : k0_cond26 v0 v13 v26 v39 v52 v65 v78 v91 v104 v117 v130 v143 v156 = 1#1), ∀ a, (k0_off48 v0 v13 v26 v39 v52 v65 v78 v91 v104 v117 v130 v143) a + S1x56x768.size a ≤ S4x56x768.size a := fun v0 v13 v26 v39 v52 v65 v78 v91 v104 v117 v130 v143 v156 k0_hw12 k0_h26 => k0_hw12.2.2.2.2 k0_h26

def k0_off49 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let v5738 : Index := Scalar.indexCast v167
  ![v5738.toNat]
def k0_cond27 (v169 : BitVec 32) : BitVec 1 :=
  let c0_i32_82 : BitVec 32 := 0#32
  let v170 : BitVec 1 := Scalar.cmpi .sgt v169 c0_i32_82
  let v171 : BitVec 32 := Scalar.extui v170
  let c0_i32_83 : BitVec 32 := 0#32
  let v172 : BitVec 1 := Scalar.cmpi .ne v171 c0_i32_83
  v172

def k0_off50 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  ![v167.toNat]
def k0_cond28 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : BitVec 1 :=
  let c0_i32_84 : BitVec 32 := 0#32
  let v173 : BitVec 1 := Scalar.cmpi .sgt v169 c0_i32_84
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c4_i32_85 : BitVec 32 := 4#32
  let v174 : BitVec 1 := Scalar.cmpi .slt v167 c4_i32_85
  let v175 : BitVec 1 := Scalar.andi v173 v174
  let v176 : BitVec 32 := Scalar.extui v175
  let c0_i32_86 : BitVec 32 := 0#32
  let v177 : BitVec 1 := Scalar.cmpi .ne v176 c0_i32_86
  v177

def k0_off51 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_1922 : BitVec 32 := 0#32
  let c0_i32_1923 : BitVec 32 := 0#32
  ![v167.toNat, 0, 0]
def k0_off52 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_1927 : BitVec 32 := 0#32
  let c0_i32_1928 : BitVec 32 := 0#32
  ![v167.toNat, 0, 0]

def k0_chk13 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : Prop :=
  (∀ (k0_h27 : k0_cond27 v169 = 1#1), ∀ a, (k0_off49 v0 v13 v26 v39 v52 v65 v78 v91 v104 v117 v130 v143 v156) a + S1.size a ≤ S33.size a) ∧
  (∀ (k0_h28 : k0_cond28 v0 v13 v26 v39 v52 v65 v78 v91 v104 v117 v130 v143 v156 v169 = 1#1), ∀ a, (k0_off50 v0 v13 v26 v39 v52 v65 v78 v91 v104 v117 v130 v143 v156) a + S1.size a ≤ S4.size a) ∧
  (∀ (k0_h28 : k0_cond28 v0 v13 v26 v39 v52 v65 v78 v91 v104 v117 v130 v143 v156 v169 = 1#1), ∀ a, (k0_off51 v0 v13 v26 v39 v52 v65 v78 v91 v104 v117 v130 v143 v156) a + S1x3584x768.size a ≤ S4x3584x768.size a) ∧
  (∀ (k0_h28 : k0_cond28 v0 v13 v26 v39 v52 v65 v78 v91 v104 v117 v130 v143 v156 v169 = 1#1), ∀ (hinb : ∀ a, (k0_off51 v0 v13 v26 v39 v52 v65 v78 v91 v104 v117 v130 v143 v156) a + S1x3584x768.size a ≤ S4x3584x768.size a), (Rect.unit (s := S4x3584x768) (k0_off51 v0 v13 v26 v39 v52 v65 v78 v91 v104 v117 v130 v143 v156) S1x3584x768.size hinb).WholeWords (EltTy.packing .i8)) ∧
  (∀ (k0_h28 : k0_cond28 v0 v13 v26 v39 v52 v65 v78 v91 v104 v117 v130 v143 v156 v169 = 1#1), ∀ a, (k0_off52 v0 v13 v26 v39 v52 v65 v78 v91 v104 v117 v130 v143 v156) a + S1x56x768.size a ≤ S4x56x768.size a)
theorem k0_off49_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (k0_hw13 : k0_chk13 v0 v13 v26 v39 v52 v65 v78 v91 v104 v117 v130 v143 v156 v169), ∀ (k0_h27 : k0_cond27 v169 = 1#1), ∀ a, (k0_off49 v0 v13 v26 v39 v52 v65 v78 v91 v104 v117 v130 v143 v156) a + S1.size a ≤ S33.size a := fun v0 v13 v26 v39 v52 v65 v78 v91 v104 v117 v130 v143 v156 v169 k0_hw13 k0_h27 => k0_hw13.1 k0_h27
theorem k0_off50_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (k0_hw13 : k0_chk13 v0 v13 v26 v39 v52 v65 v78 v91 v104 v117 v130 v143 v156 v169), ∀ (k0_h28 : k0_cond28 v0 v13 v26 v39 v52 v65 v78 v91 v104 v117 v130 v143 v156 v169 = 1#1), ∀ a, (k0_off50 v0 v13 v26 v39 v52 v65 v78 v91 v104 v117 v130 v143 v156) a + S1.size a ≤ S4.size a := fun v0 v13 v26 v39 v52 v65 v78 v91 v104 v117 v130 v143 v156 v169 k0_hw13 k0_h28 => k0_hw13.2.1 k0_h28
theorem k0_off51_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (k0_hw13 : k0_chk13 v0 v13 v26 v39 v52 v65 v78 v91 v104 v117 v130 v143 v156 v169), ∀ (k0_h28 : k0_cond28 v0 v13 v26 v39 v52 v65 v78 v91 v104 v117 v130 v143 v156 v169 = 1#1), ∀ a, (k0_off51 v0 v13 v26 v39 v52 v65 v78 v91 v104 v117 v130 v143 v156) a + S1x3584x768.size a ≤ S4x3584x768.size a := fun v0 v13 v26 v39 v52 v65 v78 v91 v104 v117 v130 v143 v156 v169 k0_hw13 k0_h28 => k0_hw13.2.2.1 k0_h28
theorem k0_off51_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (k0_hw13 : k0_chk13 v0 v13 v26 v39 v52 v65 v78 v91 v104 v117 v130 v143 v156 v169), ∀ (k0_h28 : k0_cond28 v0 v13 v26 v39 v52 v65 v78 v91 v104 v117 v130 v143 v156 v169 = 1#1), (Rect.unit (s := S4x3584x768) (k0_off51 v0 v13 v26 v39 v52 v65 v78 v91 v104 v117 v130 v143 v156) S1x3584x768.size (k0_off51_inb v0 v13 v26 v39 v52 v65 v78 v91 v104 v117 v130 v143 v156 v169 k0_hw13 k0_h28)).WholeWords (EltTy.packing .i8) := fun v0 v13 v26 v39 v52 v65 v78 v91 v104 v117 v130 v143 v156 v169 k0_hw13 k0_h28 => k0_hw13.2.2.2.1 k0_h28 (k0_off51_inb v0 v13 v26 v39 v52 v65 v78 v91 v104 v117 v130 v143 v156 v169 k0_hw13 k0_h28)
theorem k0_off52_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (k0_hw13 : k0_chk13 v0 v13 v26 v39 v52 v65 v78 v91 v104 v117 v130 v143 v156 v169), ∀ (k0_h28 : k0_cond28 v0 v13 v26 v39 v52 v65 v78 v91 v104 v117 v130 v143 v156 v169 = 1#1), ∀ a, (k0_off52 v0 v13 v26 v39 v52 v65 v78 v91 v104 v117 v130 v143 v156) a + S1x56x768.size a ≤ S4x56x768.size a := fun v0 v13 v26 v39 v52 v65 v78 v91 v104 v117 v130 v143 v156 v169 k0_hw13 k0_h28 => k0_hw13.2.2.2.2 k0_h28

def k0_off53 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let v5738 : Index := Scalar.indexCast v180
  ![v5738.toNat]
def k0_cond29 (v182 : BitVec 32) : BitVec 1 :=
  let c0_i32_88 : BitVec 32 := 0#32
  let v183 : BitVec 1 := Scalar.cmpi .sgt v182 c0_i32_88
  let v184 : BitVec 32 := Scalar.extui v183
  let c0_i32_89 : BitVec 32 := 0#32
  let v185 : BitVec 1 := Scalar.cmpi .ne v184 c0_i32_89
  v185

def k0_off54 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  ![v180.toNat]
def k0_cond30 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : BitVec 1 :=
  let c0_i32_90 : BitVec 32 := 0#32
  let v186 : BitVec 1 := Scalar.cmpi .sgt v182 c0_i32_90
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c4_i32_91 : BitVec 32 := 4#32
  let v187 : BitVec 1 := Scalar.cmpi .slt v180 c4_i32_91
  let v188 : BitVec 1 := Scalar.andi v186 v187
  let v189 : BitVec 32 := Scalar.extui v188
  let c0_i32_92 : BitVec 32 := 0#32
  let v190 : BitVec 1 := Scalar.cmpi .ne v189 c0_i32_92
  v190

def k0_off55 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_1922 : BitVec 32 := 0#32
  let c0_i32_1923 : BitVec 32 := 0#32
  ![v180.toNat, 0, 0]
def k0_off56 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_1927 : BitVec 32 := 0#32
  let c0_i32_1928 : BitVec 32 := 0#32
  ![v180.toNat, 0, 0]

def k0_chk14 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : Prop :=
  (∀ (k0_h29 : k0_cond29 v182 = 1#1), ∀ a, (k0_off53 v0 v13 v26 v39 v52 v65 v78 v91 v104 v117 v130 v143 v156 v169) a + S1.size a ≤ S33.size a) ∧
  (∀ (k0_h30 : k0_cond30 v0 v13 v26 v39 v52 v65 v78 v91 v104 v117 v130 v143 v156 v169 v182 = 1#1), ∀ a, (k0_off54 v0 v13 v26 v39 v52 v65 v78 v91 v104 v117 v130 v143 v156 v169) a + S1.size a ≤ S4.size a) ∧
  (∀ (k0_h30 : k0_cond30 v0 v13 v26 v39 v52 v65 v78 v91 v104 v117 v130 v143 v156 v169 v182 = 1#1), ∀ a, (k0_off55 v0 v13 v26 v39 v52 v65 v78 v91 v104 v117 v130 v143 v156 v169) a + S1x3584x768.size a ≤ S4x3584x768.size a) ∧
  (∀ (k0_h30 : k0_cond30 v0 v13 v26 v39 v52 v65 v78 v91 v104 v117 v130 v143 v156 v169 v182 = 1#1), ∀ (hinb : ∀ a, (k0_off55 v0 v13 v26 v39 v52 v65 v78 v91 v104 v117 v130 v143 v156 v169) a + S1x3584x768.size a ≤ S4x3584x768.size a), (Rect.unit (s := S4x3584x768) (k0_off55 v0 v13 v26 v39 v52 v65 v78 v91 v104 v117 v130 v143 v156 v169) S1x3584x768.size hinb).WholeWords (EltTy.packing .i8)) ∧
  (∀ (k0_h30 : k0_cond30 v0 v13 v26 v39 v52 v65 v78 v91 v104 v117 v130 v143 v156 v169 v182 = 1#1), ∀ a, (k0_off56 v0 v13 v26 v39 v52 v65 v78 v91 v104 v117 v130 v143 v156 v169) a + S1x56x768.size a ≤ S4x56x768.size a)
theorem k0_off53_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (k0_hw14 : k0_chk14 v0 v13 v26 v39 v52 v65 v78 v91 v104 v117 v130 v143 v156 v169 v182), ∀ (k0_h29 : k0_cond29 v182 = 1#1), ∀ a, (k0_off53 v0 v13 v26 v39 v52 v65 v78 v91 v104 v117 v130 v143 v156 v169) a + S1.size a ≤ S33.size a := fun v0 v13 v26 v39 v52 v65 v78 v91 v104 v117 v130 v143 v156 v169 v182 k0_hw14 k0_h29 => k0_hw14.1 k0_h29
theorem k0_off54_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (k0_hw14 : k0_chk14 v0 v13 v26 v39 v52 v65 v78 v91 v104 v117 v130 v143 v156 v169 v182), ∀ (k0_h30 : k0_cond30 v0 v13 v26 v39 v52 v65 v78 v91 v104 v117 v130 v143 v156 v169 v182 = 1#1), ∀ a, (k0_off54 v0 v13 v26 v39 v52 v65 v78 v91 v104 v117 v130 v143 v156 v169) a + S1.size a ≤ S4.size a := fun v0 v13 v26 v39 v52 v65 v78 v91 v104 v117 v130 v143 v156 v169 v182 k0_hw14 k0_h30 => k0_hw14.2.1 k0_h30
theorem k0_off55_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (k0_hw14 : k0_chk14 v0 v13 v26 v39 v52 v65 v78 v91 v104 v117 v130 v143 v156 v169 v182), ∀ (k0_h30 : k0_cond30 v0 v13 v26 v39 v52 v65 v78 v91 v104 v117 v130 v143 v156 v169 v182 = 1#1), ∀ a, (k0_off55 v0 v13 v26 v39 v52 v65 v78 v91 v104 v117 v130 v143 v156 v169) a + S1x3584x768.size a ≤ S4x3584x768.size a := fun v0 v13 v26 v39 v52 v65 v78 v91 v104 v117 v130 v143 v156 v169 v182 k0_hw14 k0_h30 => k0_hw14.2.2.1 k0_h30
theorem k0_off55_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (k0_hw14 : k0_chk14 v0 v13 v26 v39 v52 v65 v78 v91 v104 v117 v130 v143 v156 v169 v182), ∀ (k0_h30 : k0_cond30 v0 v13 v26 v39 v52 v65 v78 v91 v104 v117 v130 v143 v156 v169 v182 = 1#1), (Rect.unit (s := S4x3584x768) (k0_off55 v0 v13 v26 v39 v52 v65 v78 v91 v104 v117 v130 v143 v156 v169) S1x3584x768.size (k0_off55_inb v0 v13 v26 v39 v52 v65 v78 v91 v104 v117 v130 v143 v156 v169 v182 k0_hw14 k0_h30)).WholeWords (EltTy.packing .i8) := fun v0 v13 v26 v39 v52 v65 v78 v91 v104 v117 v130 v143 v156 v169 v182 k0_hw14 k0_h30 => k0_hw14.2.2.2.1 k0_h30 (k0_off55_inb v0 v13 v26 v39 v52 v65 v78 v91 v104 v117 v130 v143 v156 v169 v182 k0_hw14 k0_h30)
theorem k0_off56_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (k0_hw14 : k0_chk14 v0 v13 v26 v39 v52 v65 v78 v91 v104 v117 v130 v143 v156 v169 v182), ∀ (k0_h30 : k0_cond30 v0 v13 v26 v39 v52 v65 v78 v91 v104 v117 v130 v143 v156 v169 v182 = 1#1), ∀ a, (k0_off56 v0 v13 v26 v39 v52 v65 v78 v91 v104 v117 v130 v143 v156 v169) a + S1x56x768.size a ≤ S4x56x768.size a := fun v0 v13 v26 v39 v52 v65 v78 v91 v104 v117 v130 v143 v156 v169 v182 k0_hw14 k0_h30 => k0_hw14.2.2.2.2 k0_h30

def k0_off57 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let v5738 : Index := Scalar.indexCast v193
  ![v5738.toNat]
def k0_cond31 (v195 : BitVec 32) : BitVec 1 :=
  let c0_i32_94 : BitVec 32 := 0#32
  let v196 : BitVec 1 := Scalar.cmpi .sgt v195 c0_i32_94
  let v197 : BitVec 32 := Scalar.extui v196
  let c0_i32_95 : BitVec 32 := 0#32
  let v198 : BitVec 1 := Scalar.cmpi .ne v197 c0_i32_95
  v198

def k0_off58 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  ![v193.toNat]
def k0_cond32 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : BitVec 1 :=
  let c0_i32_96 : BitVec 32 := 0#32
  let v199 : BitVec 1 := Scalar.cmpi .sgt v195 c0_i32_96
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c4_i32_97 : BitVec 32 := 4#32
  let v200 : BitVec 1 := Scalar.cmpi .slt v193 c4_i32_97
  let v201 : BitVec 1 := Scalar.andi v199 v200
  let v202 : BitVec 32 := Scalar.extui v201
  let c0_i32_98 : BitVec 32 := 0#32
  let v203 : BitVec 1 := Scalar.cmpi .ne v202 c0_i32_98
  v203

def k0_off59 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_1922 : BitVec 32 := 0#32
  let c0_i32_1923 : BitVec 32 := 0#32
  ![v193.toNat, 0, 0]
def k0_off60 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_1927 : BitVec 32 := 0#32
  let c0_i32_1928 : BitVec 32 := 0#32
  ![v193.toNat, 0, 0]

def k0_chk15 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : Prop :=
  (∀ (k0_h31 : k0_cond31 v195 = 1#1), ∀ a, (k0_off57 v0 v13 v26 v39 v52 v65 v78 v91 v104 v117 v130 v143 v156 v169 v182) a + S1.size a ≤ S33.size a) ∧
  (∀ (k0_h32 : k0_cond32 v0 v13 v26 v39 v52 v65 v78 v91 v104 v117 v130 v143 v156 v169 v182 v195 = 1#1), ∀ a, (k0_off58 v0 v13 v26 v39 v52 v65 v78 v91 v104 v117 v130 v143 v156 v169 v182) a + S1.size a ≤ S4.size a) ∧
  (∀ (k0_h32 : k0_cond32 v0 v13 v26 v39 v52 v65 v78 v91 v104 v117 v130 v143 v156 v169 v182 v195 = 1#1), ∀ a, (k0_off59 v0 v13 v26 v39 v52 v65 v78 v91 v104 v117 v130 v143 v156 v169 v182) a + S1x3584x768.size a ≤ S4x3584x768.size a) ∧
  (∀ (k0_h32 : k0_cond32 v0 v13 v26 v39 v52 v65 v78 v91 v104 v117 v130 v143 v156 v169 v182 v195 = 1#1), ∀ (hinb : ∀ a, (k0_off59 v0 v13 v26 v39 v52 v65 v78 v91 v104 v117 v130 v143 v156 v169 v182) a + S1x3584x768.size a ≤ S4x3584x768.size a), (Rect.unit (s := S4x3584x768) (k0_off59 v0 v13 v26 v39 v52 v65 v78 v91 v104 v117 v130 v143 v156 v169 v182) S1x3584x768.size hinb).WholeWords (EltTy.packing .i8)) ∧
  (∀ (k0_h32 : k0_cond32 v0 v13 v26 v39 v52 v65 v78 v91 v104 v117 v130 v143 v156 v169 v182 v195 = 1#1), ∀ a, (k0_off60 v0 v13 v26 v39 v52 v65 v78 v91 v104 v117 v130 v143 v156 v169 v182) a + S1x56x768.size a ≤ S4x56x768.size a)
theorem k0_off57_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (k0_hw15 : k0_chk15 v0 v13 v26 v39 v52 v65 v78 v91 v104 v117 v130 v143 v156 v169 v182 v195), ∀ (k0_h31 : k0_cond31 v195 = 1#1), ∀ a, (k0_off57 v0 v13 v26 v39 v52 v65 v78 v91 v104 v117 v130 v143 v156 v169 v182) a + S1.size a ≤ S33.size a := fun v0 v13 v26 v39 v52 v65 v78 v91 v104 v117 v130 v143 v156 v169 v182 v195 k0_hw15 k0_h31 => k0_hw15.1 k0_h31
theorem k0_off58_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (k0_hw15 : k0_chk15 v0 v13 v26 v39 v52 v65 v78 v91 v104 v117 v130 v143 v156 v169 v182 v195), ∀ (k0_h32 : k0_cond32 v0 v13 v26 v39 v52 v65 v78 v91 v104 v117 v130 v143 v156 v169 v182 v195 = 1#1), ∀ a, (k0_off58 v0 v13 v26 v39 v52 v65 v78 v91 v104 v117 v130 v143 v156 v169 v182) a + S1.size a ≤ S4.size a := fun v0 v13 v26 v39 v52 v65 v78 v91 v104 v117 v130 v143 v156 v169 v182 v195 k0_hw15 k0_h32 => k0_hw15.2.1 k0_h32
theorem k0_off59_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (k0_hw15 : k0_chk15 v0 v13 v26 v39 v52 v65 v78 v91 v104 v117 v130 v143 v156 v169 v182 v195), ∀ (k0_h32 : k0_cond32 v0 v13 v26 v39 v52 v65 v78 v91 v104 v117 v130 v143 v156 v169 v182 v195 = 1#1), ∀ a, (k0_off59 v0 v13 v26 v39 v52 v65 v78 v91 v104 v117 v130 v143 v156 v169 v182) a + S1x3584x768.size a ≤ S4x3584x768.size a := fun v0 v13 v26 v39 v52 v65 v78 v91 v104 v117 v130 v143 v156 v169 v182 v195 k0_hw15 k0_h32 => k0_hw15.2.2.1 k0_h32
theorem k0_off59_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (k0_hw15 : k0_chk15 v0 v13 v26 v39 v52 v65 v78 v91 v104 v117 v130 v143 v156 v169 v182 v195), ∀ (k0_h32 : k0_cond32 v0 v13 v26 v39 v52 v65 v78 v91 v104 v117 v130 v143 v156 v169 v182 v195 = 1#1), (Rect.unit (s := S4x3584x768) (k0_off59 v0 v13 v26 v39 v52 v65 v78 v91 v104 v117 v130 v143 v156 v169 v182) S1x3584x768.size (k0_off59_inb v0 v13 v26 v39 v52 v65 v78 v91 v104 v117 v130 v143 v156 v169 v182 v195 k0_hw15 k0_h32)).WholeWords (EltTy.packing .i8) := fun v0 v13 v26 v39 v52 v65 v78 v91 v104 v117 v130 v143 v156 v169 v182 v195 k0_hw15 k0_h32 => k0_hw15.2.2.2.1 k0_h32 (k0_off59_inb v0 v13 v26 v39 v52 v65 v78 v91 v104 v117 v130 v143 v156 v169 v182 v195 k0_hw15 k0_h32)
theorem k0_off60_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (k0_hw15 : k0_chk15 v0 v13 v26 v39 v52 v65 v78 v91 v104 v117 v130 v143 v156 v169 v182 v195), ∀ (k0_h32 : k0_cond32 v0 v13 v26 v39 v52 v65 v78 v91 v104 v117 v130 v143 v156 v169 v182 v195 = 1#1), ∀ a, (k0_off60 v0 v13 v26 v39 v52 v65 v78 v91 v104 v117 v130 v143 v156 v169 v182) a + S1x56x768.size a ≤ S4x56x768.size a := fun v0 v13 v26 v39 v52 v65 v78 v91 v104 v117 v130 v143 v156 v169 v182 v195 k0_hw15 k0_h32 => k0_hw15.2.2.2.2 k0_h32

def k0_off61 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let v5738 : Index := Scalar.indexCast v206
  ![v5738.toNat]
def k0_cond33 (v208 : BitVec 32) : BitVec 1 :=
  let c0_i32_100 : BitVec 32 := 0#32
  let v209 : BitVec 1 := Scalar.cmpi .sgt v208 c0_i32_100
  let v210 : BitVec 32 := Scalar.extui v209
  let c0_i32_101 : BitVec 32 := 0#32
  let v211 : BitVec 1 := Scalar.cmpi .ne v210 c0_i32_101
  v211

def k0_off62 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  ![v206.toNat]
def k0_cond34 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : BitVec 1 :=
  let c0_i32_102 : BitVec 32 := 0#32
  let v212 : BitVec 1 := Scalar.cmpi .sgt v208 c0_i32_102
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c4_i32_103 : BitVec 32 := 4#32
  let v213 : BitVec 1 := Scalar.cmpi .slt v206 c4_i32_103
  let v214 : BitVec 1 := Scalar.andi v212 v213
  let v215 : BitVec 32 := Scalar.extui v214
  let c0_i32_104 : BitVec 32 := 0#32
  let v216 : BitVec 1 := Scalar.cmpi .ne v215 c0_i32_104
  v216

def k0_off63 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_1923 : BitVec 32 := 0#32
  let c0_i32_1924 : BitVec 32 := 0#32
  ![v206.toNat, 0, 0]
def k0_off64 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_1928 : BitVec 32 := 0#32
  let c0_i32_1929 : BitVec 32 := 0#32
  ![v206.toNat, 0, 0]

def k0_chk16 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : Prop :=
  (∀ (k0_h33 : k0_cond33 v208 = 1#1), ∀ a, (k0_off61 v0 v13 v26 v39 v52 v65 v78 v91 v104 v117 v130 v143 v156 v169 v182 v195) a + S1.size a ≤ S33.size a) ∧
  (∀ (k0_h34 : k0_cond34 v0 v13 v26 v39 v52 v65 v78 v91 v104 v117 v130 v143 v156 v169 v182 v195 v208 = 1#1), ∀ a, (k0_off62 v0 v13 v26 v39 v52 v65 v78 v91 v104 v117 v130 v143 v156 v169 v182 v195) a + S1.size a ≤ S4.size a) ∧
  (∀ (k0_h34 : k0_cond34 v0 v13 v26 v39 v52 v65 v78 v91 v104 v117 v130 v143 v156 v169 v182 v195 v208 = 1#1), ∀ a, (k0_off63 v0 v13 v26 v39 v52 v65 v78 v91 v104 v117 v130 v143 v156 v169 v182 v195) a + S1x3584x768.size a ≤ S4x3584x768.size a) ∧
  (∀ (k0_h34 : k0_cond34 v0 v13 v26 v39 v52 v65 v78 v91 v104 v117 v130 v143 v156 v169 v182 v195 v208 = 1#1), ∀ (hinb : ∀ a, (k0_off63 v0 v13 v26 v39 v52 v65 v78 v91 v104 v117 v130 v143 v156 v169 v182 v195) a + S1x3584x768.size a ≤ S4x3584x768.size a), (Rect.unit (s := S4x3584x768) (k0_off63 v0 v13 v26 v39 v52 v65 v78 v91 v104 v117 v130 v143 v156 v169 v182 v195) S1x3584x768.size hinb).WholeWords (EltTy.packing .i8)) ∧
  (∀ (k0_h34 : k0_cond34 v0 v13 v26 v39 v52 v65 v78 v91 v104 v117 v130 v143 v156 v169 v182 v195 v208 = 1#1), ∀ a, (k0_off64 v0 v13 v26 v39 v52 v65 v78 v91 v104 v117 v130 v143 v156 v169 v182 v195) a + S1x56x768.size a ≤ S4x56x768.size a)
theorem k0_off61_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (k0_hw16 : k0_chk16 v0 v13 v26 v39 v52 v65 v78 v91 v104 v117 v130 v143 v156 v169 v182 v195 v208), ∀ (k0_h33 : k0_cond33 v208 = 1#1), ∀ a, (k0_off61 v0 v13 v26 v39 v52 v65 v78 v91 v104 v117 v130 v143 v156 v169 v182 v195) a + S1.size a ≤ S33.size a := fun v0 v13 v26 v39 v52 v65 v78 v91 v104 v117 v130 v143 v156 v169 v182 v195 v208 k0_hw16 k0_h33 => k0_hw16.1 k0_h33
theorem k0_off62_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (k0_hw16 : k0_chk16 v0 v13 v26 v39 v52 v65 v78 v91 v104 v117 v130 v143 v156 v169 v182 v195 v208), ∀ (k0_h34 : k0_cond34 v0 v13 v26 v39 v52 v65 v78 v91 v104 v117 v130 v143 v156 v169 v182 v195 v208 = 1#1), ∀ a, (k0_off62 v0 v13 v26 v39 v52 v65 v78 v91 v104 v117 v130 v143 v156 v169 v182 v195) a + S1.size a ≤ S4.size a := fun v0 v13 v26 v39 v52 v65 v78 v91 v104 v117 v130 v143 v156 v169 v182 v195 v208 k0_hw16 k0_h34 => k0_hw16.2.1 k0_h34
theorem k0_off63_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (k0_hw16 : k0_chk16 v0 v13 v26 v39 v52 v65 v78 v91 v104 v117 v130 v143 v156 v169 v182 v195 v208), ∀ (k0_h34 : k0_cond34 v0 v13 v26 v39 v52 v65 v78 v91 v104 v117 v130 v143 v156 v169 v182 v195 v208 = 1#1), ∀ a, (k0_off63 v0 v13 v26 v39 v52 v65 v78 v91 v104 v117 v130 v143 v156 v169 v182 v195) a + S1x3584x768.size a ≤ S4x3584x768.size a := fun v0 v13 v26 v39 v52 v65 v78 v91 v104 v117 v130 v143 v156 v169 v182 v195 v208 k0_hw16 k0_h34 => k0_hw16.2.2.1 k0_h34
theorem k0_off63_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (k0_hw16 : k0_chk16 v0 v13 v26 v39 v52 v65 v78 v91 v104 v117 v130 v143 v156 v169 v182 v195 v208), ∀ (k0_h34 : k0_cond34 v0 v13 v26 v39 v52 v65 v78 v91 v104 v117 v130 v143 v156 v169 v182 v195 v208 = 1#1), (Rect.unit (s := S4x3584x768) (k0_off63 v0 v13 v26 v39 v52 v65 v78 v91 v104 v117 v130 v143 v156 v169 v182 v195) S1x3584x768.size (k0_off63_inb v0 v13 v26 v39 v52 v65 v78 v91 v104 v117 v130 v143 v156 v169 v182 v195 v208 k0_hw16 k0_h34)).WholeWords (EltTy.packing .i8) := fun v0 v13 v26 v39 v52 v65 v78 v91 v104 v117 v130 v143 v156 v169 v182 v195 v208 k0_hw16 k0_h34 => k0_hw16.2.2.2.1 k0_h34 (k0_off63_inb v0 v13 v26 v39 v52 v65 v78 v91 v104 v117 v130 v143 v156 v169 v182 v195 v208 k0_hw16 k0_h34)
theorem k0_off64_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (k0_hw16 : k0_chk16 v0 v13 v26 v39 v52 v65 v78 v91 v104 v117 v130 v143 v156 v169 v182 v195 v208), ∀ (k0_h34 : k0_cond34 v0 v13 v26 v39 v52 v65 v78 v91 v104 v117 v130 v143 v156 v169 v182 v195 v208 = 1#1), ∀ a, (k0_off64 v0 v13 v26 v39 v52 v65 v78 v91 v104 v117 v130 v143 v156 v169 v182 v195) a + S1x56x768.size a ≤ S4x56x768.size a := fun v0 v13 v26 v39 v52 v65 v78 v91 v104 v117 v130 v143 v156 v169 v182 v195 v208 k0_hw16 k0_h34 => k0_hw16.2.2.2.2 k0_h34

def k0_off65 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let v5738 : Index := Scalar.indexCast v219
  ![v5738.toNat]
def k0_cond35 (v221 : BitVec 32) : BitVec 1 :=
  let c0_i32_106 : BitVec 32 := 0#32
  let v222 : BitVec 1 := Scalar.cmpi .sgt v221 c0_i32_106
  let v223 : BitVec 32 := Scalar.extui v222
  let c0_i32_107 : BitVec 32 := 0#32
  let v224 : BitVec 1 := Scalar.cmpi .ne v223 c0_i32_107
  v224

def k0_off66 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  ![v219.toNat]
def k0_cond36 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : BitVec 1 :=
  let c0_i32_108 : BitVec 32 := 0#32
  let v225 : BitVec 1 := Scalar.cmpi .sgt v221 c0_i32_108
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c4_i32_109 : BitVec 32 := 4#32
  let v226 : BitVec 1 := Scalar.cmpi .slt v219 c4_i32_109
  let v227 : BitVec 1 := Scalar.andi v225 v226
  let v228 : BitVec 32 := Scalar.extui v227
  let c0_i32_110 : BitVec 32 := 0#32
  let v229 : BitVec 1 := Scalar.cmpi .ne v228 c0_i32_110
  v229

def k0_off67 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_1922 : BitVec 32 := 0#32
  let c0_i32_1923 : BitVec 32 := 0#32
  ![v219.toNat, 0, 0]
def k0_off68 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_1927 : BitVec 32 := 0#32
  let c0_i32_1928 : BitVec 32 := 0#32
  ![v219.toNat, 0, 0]

def k0_chk17 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : Prop :=
  (∀ (k0_h35 : k0_cond35 v221 = 1#1), ∀ a, (k0_off65 v0 v13 v26 v39 v52 v65 v78 v91 v104 v117 v130 v143 v156 v169 v182 v195 v208) a + S1.size a ≤ S33.size a) ∧
  (∀ (k0_h36 : k0_cond36 v0 v13 v26 v39 v52 v65 v78 v91 v104 v117 v130 v143 v156 v169 v182 v195 v208 v221 = 1#1), ∀ a, (k0_off66 v0 v13 v26 v39 v52 v65 v78 v91 v104 v117 v130 v143 v156 v169 v182 v195 v208) a + S1.size a ≤ S4.size a) ∧
  (∀ (k0_h36 : k0_cond36 v0 v13 v26 v39 v52 v65 v78 v91 v104 v117 v130 v143 v156 v169 v182 v195 v208 v221 = 1#1), ∀ a, (k0_off67 v0 v13 v26 v39 v52 v65 v78 v91 v104 v117 v130 v143 v156 v169 v182 v195 v208) a + S1x3584x768.size a ≤ S4x3584x768.size a) ∧
  (∀ (k0_h36 : k0_cond36 v0 v13 v26 v39 v52 v65 v78 v91 v104 v117 v130 v143 v156 v169 v182 v195 v208 v221 = 1#1), ∀ (hinb : ∀ a, (k0_off67 v0 v13 v26 v39 v52 v65 v78 v91 v104 v117 v130 v143 v156 v169 v182 v195 v208) a + S1x3584x768.size a ≤ S4x3584x768.size a), (Rect.unit (s := S4x3584x768) (k0_off67 v0 v13 v26 v39 v52 v65 v78 v91 v104 v117 v130 v143 v156 v169 v182 v195 v208) S1x3584x768.size hinb).WholeWords (EltTy.packing .i8)) ∧
  (∀ (k0_h36 : k0_cond36 v0 v13 v26 v39 v52 v65 v78 v91 v104 v117 v130 v143 v156 v169 v182 v195 v208 v221 = 1#1), ∀ a, (k0_off68 v0 v13 v26 v39 v52 v65 v78 v91 v104 v117 v130 v143 v156 v169 v182 v195 v208) a + S1x56x768.size a ≤ S4x56x768.size a)
theorem k0_off65_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (k0_hw17 : k0_chk17 v0 v13 v26 v39 v52 v65 v78 v91 v104 v117 v130 v143 v156 v169 v182 v195 v208 v221), ∀ (k0_h35 : k0_cond35 v221 = 1#1), ∀ a, (k0_off65 v0 v13 v26 v39 v52 v65 v78 v91 v104 v117 v130 v143 v156 v169 v182 v195 v208) a + S1.size a ≤ S33.size a := fun v0 v13 v26 v39 v52 v65 v78 v91 v104 v117 v130 v143 v156 v169 v182 v195 v208 v221 k0_hw17 k0_h35 => k0_hw17.1 k0_h35
theorem k0_off66_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (k0_hw17 : k0_chk17 v0 v13 v26 v39 v52 v65 v78 v91 v104 v117 v130 v143 v156 v169 v182 v195 v208 v221), ∀ (k0_h36 : k0_cond36 v0 v13 v26 v39 v52 v65 v78 v91 v104 v117 v130 v143 v156 v169 v182 v195 v208 v221 = 1#1), ∀ a, (k0_off66 v0 v13 v26 v39 v52 v65 v78 v91 v104 v117 v130 v143 v156 v169 v182 v195 v208) a + S1.size a ≤ S4.size a := fun v0 v13 v26 v39 v52 v65 v78 v91 v104 v117 v130 v143 v156 v169 v182 v195 v208 v221 k0_hw17 k0_h36 => k0_hw17.2.1 k0_h36
theorem k0_off67_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (k0_hw17 : k0_chk17 v0 v13 v26 v39 v52 v65 v78 v91 v104 v117 v130 v143 v156 v169 v182 v195 v208 v221), ∀ (k0_h36 : k0_cond36 v0 v13 v26 v39 v52 v65 v78 v91 v104 v117 v130 v143 v156 v169 v182 v195 v208 v221 = 1#1), ∀ a, (k0_off67 v0 v13 v26 v39 v52 v65 v78 v91 v104 v117 v130 v143 v156 v169 v182 v195 v208) a + S1x3584x768.size a ≤ S4x3584x768.size a := fun v0 v13 v26 v39 v52 v65 v78 v91 v104 v117 v130 v143 v156 v169 v182 v195 v208 v221 k0_hw17 k0_h36 => k0_hw17.2.2.1 k0_h36
theorem k0_off67_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (k0_hw17 : k0_chk17 v0 v13 v26 v39 v52 v65 v78 v91 v104 v117 v130 v143 v156 v169 v182 v195 v208 v221), ∀ (k0_h36 : k0_cond36 v0 v13 v26 v39 v52 v65 v78 v91 v104 v117 v130 v143 v156 v169 v182 v195 v208 v221 = 1#1), (Rect.unit (s := S4x3584x768) (k0_off67 v0 v13 v26 v39 v52 v65 v78 v91 v104 v117 v130 v143 v156 v169 v182 v195 v208) S1x3584x768.size (k0_off67_inb v0 v13 v26 v39 v52 v65 v78 v91 v104 v117 v130 v143 v156 v169 v182 v195 v208 v221 k0_hw17 k0_h36)).WholeWords (EltTy.packing .i8) := fun v0 v13 v26 v39 v52 v65 v78 v91 v104 v117 v130 v143 v156 v169 v182 v195 v208 v221 k0_hw17 k0_h36 => k0_hw17.2.2.2.1 k0_h36 (k0_off67_inb v0 v13 v26 v39 v52 v65 v78 v91 v104 v117 v130 v143 v156 v169 v182 v195 v208 v221 k0_hw17 k0_h36)
theorem k0_off68_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (k0_hw17 : k0_chk17 v0 v13 v26 v39 v52 v65 v78 v91 v104 v117 v130 v143 v156 v169 v182 v195 v208 v221), ∀ (k0_h36 : k0_cond36 v0 v13 v26 v39 v52 v65 v78 v91 v104 v117 v130 v143 v156 v169 v182 v195 v208 v221 = 1#1), ∀ a, (k0_off68 v0 v13 v26 v39 v52 v65 v78 v91 v104 v117 v130 v143 v156 v169 v182 v195 v208) a + S1x56x768.size a ≤ S4x56x768.size a := fun v0 v13 v26 v39 v52 v65 v78 v91 v104 v117 v130 v143 v156 v169 v182 v195 v208 v221 k0_hw17 k0_h36 => k0_hw17.2.2.2.2 k0_h36

def k0_off69 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let v5738 : Index := Scalar.indexCast v232
  ![v5738.toNat]
def k0_cond37 (v234 : BitVec 32) : BitVec 1 :=
  let c0_i32_112 : BitVec 32 := 0#32
  let v235 : BitVec 1 := Scalar.cmpi .sgt v234 c0_i32_112
  let v236 : BitVec 32 := Scalar.extui v235
  let c0_i32_113 : BitVec 32 := 0#32
  let v237 : BitVec 1 := Scalar.cmpi .ne v236 c0_i32_113
  v237

def k0_off70 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  ![v232.toNat]
def k0_cond38 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : BitVec 1 :=
  let c0_i32_114 : BitVec 32 := 0#32
  let v238 : BitVec 1 := Scalar.cmpi .sgt v234 c0_i32_114
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c4_i32_115 : BitVec 32 := 4#32
  let v239 : BitVec 1 := Scalar.cmpi .slt v232 c4_i32_115
  let v240 : BitVec 1 := Scalar.andi v238 v239
  let v241 : BitVec 32 := Scalar.extui v240
  let c0_i32_116 : BitVec 32 := 0#32
  let v242 : BitVec 1 := Scalar.cmpi .ne v241 c0_i32_116
  v242

def k0_off71 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_1922 : BitVec 32 := 0#32
  let c0_i32_1923 : BitVec 32 := 0#32
  ![v232.toNat, 0, 0]
def k0_off72 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_1927 : BitVec 32 := 0#32
  let c0_i32_1928 : BitVec 32 := 0#32
  ![v232.toNat, 0, 0]

def k0_chk18 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : Prop :=
  (∀ (k0_h37 : k0_cond37 v234 = 1#1), ∀ a, (k0_off69 v0 v13 v26 v39 v52 v65 v78 v91 v104 v117 v130 v143 v156 v169 v182 v195 v208 v221) a + S1.size a ≤ S33.size a) ∧
  (∀ (k0_h38 : k0_cond38 v0 v13 v26 v39 v52 v65 v78 v91 v104 v117 v130 v143 v156 v169 v182 v195 v208 v221 v234 = 1#1), ∀ a, (k0_off70 v0 v13 v26 v39 v52 v65 v78 v91 v104 v117 v130 v143 v156 v169 v182 v195 v208 v221) a + S1.size a ≤ S4.size a) ∧
  (∀ (k0_h38 : k0_cond38 v0 v13 v26 v39 v52 v65 v78 v91 v104 v117 v130 v143 v156 v169 v182 v195 v208 v221 v234 = 1#1), ∀ a, (k0_off71 v0 v13 v26 v39 v52 v65 v78 v91 v104 v117 v130 v143 v156 v169 v182 v195 v208 v221) a + S1x3584x768.size a ≤ S4x3584x768.size a) ∧
  (∀ (k0_h38 : k0_cond38 v0 v13 v26 v39 v52 v65 v78 v91 v104 v117 v130 v143 v156 v169 v182 v195 v208 v221 v234 = 1#1), ∀ (hinb : ∀ a, (k0_off71 v0 v13 v26 v39 v52 v65 v78 v91 v104 v117 v130 v143 v156 v169 v182 v195 v208 v221) a + S1x3584x768.size a ≤ S4x3584x768.size a), (Rect.unit (s := S4x3584x768) (k0_off71 v0 v13 v26 v39 v52 v65 v78 v91 v104 v117 v130 v143 v156 v169 v182 v195 v208 v221) S1x3584x768.size hinb).WholeWords (EltTy.packing .i8)) ∧
  (∀ (k0_h38 : k0_cond38 v0 v13 v26 v39 v52 v65 v78 v91 v104 v117 v130 v143 v156 v169 v182 v195 v208 v221 v234 = 1#1), ∀ a, (k0_off72 v0 v13 v26 v39 v52 v65 v78 v91 v104 v117 v130 v143 v156 v169 v182 v195 v208 v221) a + S1x56x768.size a ≤ S4x56x768.size a)
theorem k0_off69_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (k0_hw18 : k0_chk18 v0 v13 v26 v39 v52 v65 v78 v91 v104 v117 v130 v143 v156 v169 v182 v195 v208 v221 v234), ∀ (k0_h37 : k0_cond37 v234 = 1#1), ∀ a, (k0_off69 v0 v13 v26 v39 v52 v65 v78 v91 v104 v117 v130 v143 v156 v169 v182 v195 v208 v221) a + S1.size a ≤ S33.size a := fun v0 v13 v26 v39 v52 v65 v78 v91 v104 v117 v130 v143 v156 v169 v182 v195 v208 v221 v234 k0_hw18 k0_h37 => k0_hw18.1 k0_h37
theorem k0_off70_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (k0_hw18 : k0_chk18 v0 v13 v26 v39 v52 v65 v78 v91 v104 v117 v130 v143 v156 v169 v182 v195 v208 v221 v234), ∀ (k0_h38 : k0_cond38 v0 v13 v26 v39 v52 v65 v78 v91 v104 v117 v130 v143 v156 v169 v182 v195 v208 v221 v234 = 1#1), ∀ a, (k0_off70 v0 v13 v26 v39 v52 v65 v78 v91 v104 v117 v130 v143 v156 v169 v182 v195 v208 v221) a + S1.size a ≤ S4.size a := fun v0 v13 v26 v39 v52 v65 v78 v91 v104 v117 v130 v143 v156 v169 v182 v195 v208 v221 v234 k0_hw18 k0_h38 => k0_hw18.2.1 k0_h38
theorem k0_off71_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (k0_hw18 : k0_chk18 v0 v13 v26 v39 v52 v65 v78 v91 v104 v117 v130 v143 v156 v169 v182 v195 v208 v221 v234), ∀ (k0_h38 : k0_cond38 v0 v13 v26 v39 v52 v65 v78 v91 v104 v117 v130 v143 v156 v169 v182 v195 v208 v221 v234 = 1#1), ∀ a, (k0_off71 v0 v13 v26 v39 v52 v65 v78 v91 v104 v117 v130 v143 v156 v169 v182 v195 v208 v221) a + S1x3584x768.size a ≤ S4x3584x768.size a := fun v0 v13 v26 v39 v52 v65 v78 v91 v104 v117 v130 v143 v156 v169 v182 v195 v208 v221 v234 k0_hw18 k0_h38 => k0_hw18.2.2.1 k0_h38
theorem k0_off71_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (k0_hw18 : k0_chk18 v0 v13 v26 v39 v52 v65 v78 v91 v104 v117 v130 v143 v156 v169 v182 v195 v208 v221 v234), ∀ (k0_h38 : k0_cond38 v0 v13 v26 v39 v52 v65 v78 v91 v104 v117 v130 v143 v156 v169 v182 v195 v208 v221 v234 = 1#1), (Rect.unit (s := S4x3584x768) (k0_off71 v0 v13 v26 v39 v52 v65 v78 v91 v104 v117 v130 v143 v156 v169 v182 v195 v208 v221) S1x3584x768.size (k0_off71_inb v0 v13 v26 v39 v52 v65 v78 v91 v104 v117 v130 v143 v156 v169 v182 v195 v208 v221 v234 k0_hw18 k0_h38)).WholeWords (EltTy.packing .i8) := fun v0 v13 v26 v39 v52 v65 v78 v91 v104 v117 v130 v143 v156 v169 v182 v195 v208 v221 v234 k0_hw18 k0_h38 => k0_hw18.2.2.2.1 k0_h38 (k0_off71_inb v0 v13 v26 v39 v52 v65 v78 v91 v104 v117 v130 v143 v156 v169 v182 v195 v208 v221 v234 k0_hw18 k0_h38)
theorem k0_off72_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (k0_hw18 : k0_chk18 v0 v13 v26 v39 v52 v65 v78 v91 v104 v117 v130 v143 v156 v169 v182 v195 v208 v221 v234), ∀ (k0_h38 : k0_cond38 v0 v13 v26 v39 v52 v65 v78 v91 v104 v117 v130 v143 v156 v169 v182 v195 v208 v221 v234 = 1#1), ∀ a, (k0_off72 v0 v13 v26 v39 v52 v65 v78 v91 v104 v117 v130 v143 v156 v169 v182 v195 v208 v221) a + S1x56x768.size a ≤ S4x56x768.size a := fun v0 v13 v26 v39 v52 v65 v78 v91 v104 v117 v130 v143 v156 v169 v182 v195 v208 v221 v234 k0_hw18 k0_h38 => k0_hw18.2.2.2.2 k0_h38

def k0_off73 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let v5738 : Index := Scalar.indexCast v245
  ![v5738.toNat]
def k0_cond39 (v247 : BitVec 32) : BitVec 1 :=
  let c0_i32_118 : BitVec 32 := 0#32
  let v248 : BitVec 1 := Scalar.cmpi .sgt v247 c0_i32_118
  let v249 : BitVec 32 := Scalar.extui v248
  let c0_i32_119 : BitVec 32 := 0#32
  let v250 : BitVec 1 := Scalar.cmpi .ne v249 c0_i32_119
  v250

def k0_off74 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  ![v245.toNat]
def k0_cond40 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : BitVec 1 :=
  let c0_i32_120 : BitVec 32 := 0#32
  let v251 : BitVec 1 := Scalar.cmpi .sgt v247 c0_i32_120
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c4_i32_121 : BitVec 32 := 4#32
  let v252 : BitVec 1 := Scalar.cmpi .slt v245 c4_i32_121
  let v253 : BitVec 1 := Scalar.andi v251 v252
  let v254 : BitVec 32 := Scalar.extui v253
  let c0_i32_122 : BitVec 32 := 0#32
  let v255 : BitVec 1 := Scalar.cmpi .ne v254 c0_i32_122
  v255

def k0_off75 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_1922 : BitVec 32 := 0#32
  let c0_i32_1923 : BitVec 32 := 0#32
  ![v245.toNat, 0, 0]
def k0_off76 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_1927 : BitVec 32 := 0#32
  let c0_i32_1928 : BitVec 32 := 0#32
  ![v245.toNat, 0, 0]

def k0_chk19 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : Prop :=
  (∀ (k0_h39 : k0_cond39 v247 = 1#1), ∀ a, (k0_off73 v0 v13 v26 v39 v52 v65 v78 v91 v104 v117 v130 v143 v156 v169 v182 v195 v208 v221 v234) a + S1.size a ≤ S33.size a) ∧
  (∀ (k0_h40 : k0_cond40 v0 v13 v26 v39 v52 v65 v78 v91 v104 v117 v130 v143 v156 v169 v182 v195 v208 v221 v234 v247 = 1#1), ∀ a, (k0_off74 v0 v13 v26 v39 v52 v65 v78 v91 v104 v117 v130 v143 v156 v169 v182 v195 v208 v221 v234) a + S1.size a ≤ S4.size a) ∧
  (∀ (k0_h40 : k0_cond40 v0 v13 v26 v39 v52 v65 v78 v91 v104 v117 v130 v143 v156 v169 v182 v195 v208 v221 v234 v247 = 1#1), ∀ a, (k0_off75 v0 v13 v26 v39 v52 v65 v78 v91 v104 v117 v130 v143 v156 v169 v182 v195 v208 v221 v234) a + S1x3584x768.size a ≤ S4x3584x768.size a) ∧
  (∀ (k0_h40 : k0_cond40 v0 v13 v26 v39 v52 v65 v78 v91 v104 v117 v130 v143 v156 v169 v182 v195 v208 v221 v234 v247 = 1#1), ∀ (hinb : ∀ a, (k0_off75 v0 v13 v26 v39 v52 v65 v78 v91 v104 v117 v130 v143 v156 v169 v182 v195 v208 v221 v234) a + S1x3584x768.size a ≤ S4x3584x768.size a), (Rect.unit (s := S4x3584x768) (k0_off75 v0 v13 v26 v39 v52 v65 v78 v91 v104 v117 v130 v143 v156 v169 v182 v195 v208 v221 v234) S1x3584x768.size hinb).WholeWords (EltTy.packing .i8)) ∧
  (∀ (k0_h40 : k0_cond40 v0 v13 v26 v39 v52 v65 v78 v91 v104 v117 v130 v143 v156 v169 v182 v195 v208 v221 v234 v247 = 1#1), ∀ a, (k0_off76 v0 v13 v26 v39 v52 v65 v78 v91 v104 v117 v130 v143 v156 v169 v182 v195 v208 v221 v234) a + S1x56x768.size a ≤ S4x56x768.size a)
theorem k0_off73_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (k0_hw19 : k0_chk19 v0 v13 v26 v39 v52 v65 v78 v91 v104 v117 v130 v143 v156 v169 v182 v195 v208 v221 v234 v247), ∀ (k0_h39 : k0_cond39 v247 = 1#1), ∀ a, (k0_off73 v0 v13 v26 v39 v52 v65 v78 v91 v104 v117 v130 v143 v156 v169 v182 v195 v208 v221 v234) a + S1.size a ≤ S33.size a := fun v0 v13 v26 v39 v52 v65 v78 v91 v104 v117 v130 v143 v156 v169 v182 v195 v208 v221 v234 v247 k0_hw19 k0_h39 => k0_hw19.1 k0_h39
theorem k0_off74_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (k0_hw19 : k0_chk19 v0 v13 v26 v39 v52 v65 v78 v91 v104 v117 v130 v143 v156 v169 v182 v195 v208 v221 v234 v247), ∀ (k0_h40 : k0_cond40 v0 v13 v26 v39 v52 v65 v78 v91 v104 v117 v130 v143 v156 v169 v182 v195 v208 v221 v234 v247 = 1#1), ∀ a, (k0_off74 v0 v13 v26 v39 v52 v65 v78 v91 v104 v117 v130 v143 v156 v169 v182 v195 v208 v221 v234) a + S1.size a ≤ S4.size a := fun v0 v13 v26 v39 v52 v65 v78 v91 v104 v117 v130 v143 v156 v169 v182 v195 v208 v221 v234 v247 k0_hw19 k0_h40 => k0_hw19.2.1 k0_h40
theorem k0_off75_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (k0_hw19 : k0_chk19 v0 v13 v26 v39 v52 v65 v78 v91 v104 v117 v130 v143 v156 v169 v182 v195 v208 v221 v234 v247), ∀ (k0_h40 : k0_cond40 v0 v13 v26 v39 v52 v65 v78 v91 v104 v117 v130 v143 v156 v169 v182 v195 v208 v221 v234 v247 = 1#1), ∀ a, (k0_off75 v0 v13 v26 v39 v52 v65 v78 v91 v104 v117 v130 v143 v156 v169 v182 v195 v208 v221 v234) a + S1x3584x768.size a ≤ S4x3584x768.size a := fun v0 v13 v26 v39 v52 v65 v78 v91 v104 v117 v130 v143 v156 v169 v182 v195 v208 v221 v234 v247 k0_hw19 k0_h40 => k0_hw19.2.2.1 k0_h40
theorem k0_off75_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (k0_hw19 : k0_chk19 v0 v13 v26 v39 v52 v65 v78 v91 v104 v117 v130 v143 v156 v169 v182 v195 v208 v221 v234 v247), ∀ (k0_h40 : k0_cond40 v0 v13 v26 v39 v52 v65 v78 v91 v104 v117 v130 v143 v156 v169 v182 v195 v208 v221 v234 v247 = 1#1), (Rect.unit (s := S4x3584x768) (k0_off75 v0 v13 v26 v39 v52 v65 v78 v91 v104 v117 v130 v143 v156 v169 v182 v195 v208 v221 v234) S1x3584x768.size (k0_off75_inb v0 v13 v26 v39 v52 v65 v78 v91 v104 v117 v130 v143 v156 v169 v182 v195 v208 v221 v234 v247 k0_hw19 k0_h40)).WholeWords (EltTy.packing .i8) := fun v0 v13 v26 v39 v52 v65 v78 v91 v104 v117 v130 v143 v156 v169 v182 v195 v208 v221 v234 v247 k0_hw19 k0_h40 => k0_hw19.2.2.2.1 k0_h40 (k0_off75_inb v0 v13 v26 v39 v52 v65 v78 v91 v104 v117 v130 v143 v156 v169 v182 v195 v208 v221 v234 v247 k0_hw19 k0_h40)
theorem k0_off76_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (k0_hw19 : k0_chk19 v0 v13 v26 v39 v52 v65 v78 v91 v104 v117 v130 v143 v156 v169 v182 v195 v208 v221 v234 v247), ∀ (k0_h40 : k0_cond40 v0 v13 v26 v39 v52 v65 v78 v91 v104 v117 v130 v143 v156 v169 v182 v195 v208 v221 v234 v247 = 1#1), ∀ a, (k0_off76 v0 v13 v26 v39 v52 v65 v78 v91 v104 v117 v130 v143 v156 v169 v182 v195 v208 v221 v234) a + S1x56x768.size a ≤ S4x56x768.size a := fun v0 v13 v26 v39 v52 v65 v78 v91 v104 v117 v130 v143 v156 v169 v182 v195 v208 v221 v234 v247 k0_hw19 k0_h40 => k0_hw19.2.2.2.2 k0_h40

def k0_off77 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let v5738 : Index := Scalar.indexCast v258
  ![v5738.toNat]
def k0_cond41 (v260 : BitVec 32) : BitVec 1 :=
  let c0_i32_124 : BitVec 32 := 0#32
  let v261 : BitVec 1 := Scalar.cmpi .sgt v260 c0_i32_124
  let v262 : BitVec 32 := Scalar.extui v261
  let c0_i32_125 : BitVec 32 := 0#32
  let v263 : BitVec 1 := Scalar.cmpi .ne v262 c0_i32_125
  v263

def k0_off78 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  ![v258.toNat]
def k0_cond42 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : BitVec 1 :=
  let c0_i32_126 : BitVec 32 := 0#32
  let v264 : BitVec 1 := Scalar.cmpi .sgt v260 c0_i32_126
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c4_i32_127 : BitVec 32 := 4#32
  let v265 : BitVec 1 := Scalar.cmpi .slt v258 c4_i32_127
  let v266 : BitVec 1 := Scalar.andi v264 v265
  let v267 : BitVec 32 := Scalar.extui v266
  let c0_i32_128 : BitVec 32 := 0#32
  let v268 : BitVec 1 := Scalar.cmpi .ne v267 c0_i32_128
  v268

def k0_off79 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_1922 : BitVec 32 := 0#32
  let c0_i32_1923 : BitVec 32 := 0#32
  ![v258.toNat, 0, 0]
def k0_off80 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_1927 : BitVec 32 := 0#32
  let c0_i32_1928 : BitVec 32 := 0#32
  ![v258.toNat, 0, 0]

def k0_chk20 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : Prop :=
  (∀ (k0_h41 : k0_cond41 v260 = 1#1), ∀ a, (k0_off77 v0 v13 v26 v39 v52 v65 v78 v91 v104 v117 v130 v143 v156 v169 v182 v195 v208 v221 v234 v247) a + S1.size a ≤ S33.size a) ∧
  (∀ (k0_h42 : k0_cond42 v0 v13 v26 v39 v52 v65 v78 v91 v104 v117 v130 v143 v156 v169 v182 v195 v208 v221 v234 v247 v260 = 1#1), ∀ a, (k0_off78 v0 v13 v26 v39 v52 v65 v78 v91 v104 v117 v130 v143 v156 v169 v182 v195 v208 v221 v234 v247) a + S1.size a ≤ S4.size a) ∧
  (∀ (k0_h42 : k0_cond42 v0 v13 v26 v39 v52 v65 v78 v91 v104 v117 v130 v143 v156 v169 v182 v195 v208 v221 v234 v247 v260 = 1#1), ∀ a, (k0_off79 v0 v13 v26 v39 v52 v65 v78 v91 v104 v117 v130 v143 v156 v169 v182 v195 v208 v221 v234 v247) a + S1x3584x768.size a ≤ S4x3584x768.size a) ∧
  (∀ (k0_h42 : k0_cond42 v0 v13 v26 v39 v52 v65 v78 v91 v104 v117 v130 v143 v156 v169 v182 v195 v208 v221 v234 v247 v260 = 1#1), ∀ (hinb : ∀ a, (k0_off79 v0 v13 v26 v39 v52 v65 v78 v91 v104 v117 v130 v143 v156 v169 v182 v195 v208 v221 v234 v247) a + S1x3584x768.size a ≤ S4x3584x768.size a), (Rect.unit (s := S4x3584x768) (k0_off79 v0 v13 v26 v39 v52 v65 v78 v91 v104 v117 v130 v143 v156 v169 v182 v195 v208 v221 v234 v247) S1x3584x768.size hinb).WholeWords (EltTy.packing .i8)) ∧
  (∀ (k0_h42 : k0_cond42 v0 v13 v26 v39 v52 v65 v78 v91 v104 v117 v130 v143 v156 v169 v182 v195 v208 v221 v234 v247 v260 = 1#1), ∀ a, (k0_off80 v0 v13 v26 v39 v52 v65 v78 v91 v104 v117 v130 v143 v156 v169 v182 v195 v208 v221 v234 v247) a + S1x56x768.size a ≤ S4x56x768.size a)
theorem k0_off77_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (k0_hw20 : k0_chk20 v0 v13 v26 v39 v52 v65 v78 v91 v104 v117 v130 v143 v156 v169 v182 v195 v208 v221 v234 v247 v260), ∀ (k0_h41 : k0_cond41 v260 = 1#1), ∀ a, (k0_off77 v0 v13 v26 v39 v52 v65 v78 v91 v104 v117 v130 v143 v156 v169 v182 v195 v208 v221 v234 v247) a + S1.size a ≤ S33.size a := fun v0 v13 v26 v39 v52 v65 v78 v91 v104 v117 v130 v143 v156 v169 v182 v195 v208 v221 v234 v247 v260 k0_hw20 k0_h41 => k0_hw20.1 k0_h41
theorem k0_off78_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (k0_hw20 : k0_chk20 v0 v13 v26 v39 v52 v65 v78 v91 v104 v117 v130 v143 v156 v169 v182 v195 v208 v221 v234 v247 v260), ∀ (k0_h42 : k0_cond42 v0 v13 v26 v39 v52 v65 v78 v91 v104 v117 v130 v143 v156 v169 v182 v195 v208 v221 v234 v247 v260 = 1#1), ∀ a, (k0_off78 v0 v13 v26 v39 v52 v65 v78 v91 v104 v117 v130 v143 v156 v169 v182 v195 v208 v221 v234 v247) a + S1.size a ≤ S4.size a := fun v0 v13 v26 v39 v52 v65 v78 v91 v104 v117 v130 v143 v156 v169 v182 v195 v208 v221 v234 v247 v260 k0_hw20 k0_h42 => k0_hw20.2.1 k0_h42
theorem k0_off79_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (k0_hw20 : k0_chk20 v0 v13 v26 v39 v52 v65 v78 v91 v104 v117 v130 v143 v156 v169 v182 v195 v208 v221 v234 v247 v260), ∀ (k0_h42 : k0_cond42 v0 v13 v26 v39 v52 v65 v78 v91 v104 v117 v130 v143 v156 v169 v182 v195 v208 v221 v234 v247 v260 = 1#1), ∀ a, (k0_off79 v0 v13 v26 v39 v52 v65 v78 v91 v104 v117 v130 v143 v156 v169 v182 v195 v208 v221 v234 v247) a + S1x3584x768.size a ≤ S4x3584x768.size a := fun v0 v13 v26 v39 v52 v65 v78 v91 v104 v117 v130 v143 v156 v169 v182 v195 v208 v221 v234 v247 v260 k0_hw20 k0_h42 => k0_hw20.2.2.1 k0_h42
theorem k0_off79_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (k0_hw20 : k0_chk20 v0 v13 v26 v39 v52 v65 v78 v91 v104 v117 v130 v143 v156 v169 v182 v195 v208 v221 v234 v247 v260), ∀ (k0_h42 : k0_cond42 v0 v13 v26 v39 v52 v65 v78 v91 v104 v117 v130 v143 v156 v169 v182 v195 v208 v221 v234 v247 v260 = 1#1), (Rect.unit (s := S4x3584x768) (k0_off79 v0 v13 v26 v39 v52 v65 v78 v91 v104 v117 v130 v143 v156 v169 v182 v195 v208 v221 v234 v247) S1x3584x768.size (k0_off79_inb v0 v13 v26 v39 v52 v65 v78 v91 v104 v117 v130 v143 v156 v169 v182 v195 v208 v221 v234 v247 v260 k0_hw20 k0_h42)).WholeWords (EltTy.packing .i8) := fun v0 v13 v26 v39 v52 v65 v78 v91 v104 v117 v130 v143 v156 v169 v182 v195 v208 v221 v234 v247 v260 k0_hw20 k0_h42 => k0_hw20.2.2.2.1 k0_h42 (k0_off79_inb v0 v13 v26 v39 v52 v65 v78 v91 v104 v117 v130 v143 v156 v169 v182 v195 v208 v221 v234 v247 v260 k0_hw20 k0_h42)
theorem k0_off80_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (k0_hw20 : k0_chk20 v0 v13 v26 v39 v52 v65 v78 v91 v104 v117 v130 v143 v156 v169 v182 v195 v208 v221 v234 v247 v260), ∀ (k0_h42 : k0_cond42 v0 v13 v26 v39 v52 v65 v78 v91 v104 v117 v130 v143 v156 v169 v182 v195 v208 v221 v234 v247 v260 = 1#1), ∀ a, (k0_off80 v0 v13 v26 v39 v52 v65 v78 v91 v104 v117 v130 v143 v156 v169 v182 v195 v208 v221 v234 v247) a + S1x56x768.size a ≤ S4x56x768.size a := fun v0 v13 v26 v39 v52 v65 v78 v91 v104 v117 v130 v143 v156 v169 v182 v195 v208 v221 v234 v247 v260 k0_hw20 k0_h42 => k0_hw20.2.2.2.2 k0_h42

def k0_off81 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let v5738 : Index := Scalar.indexCast v271
  ![v5738.toNat]
def k0_cond43 (v273 : BitVec 32) : BitVec 1 :=
  let c0_i32_130 : BitVec 32 := 0#32
  let v274 : BitVec 1 := Scalar.cmpi .sgt v273 c0_i32_130
  let v275 : BitVec 32 := Scalar.extui v274
  let c0_i32_131 : BitVec 32 := 0#32
  let v276 : BitVec 1 := Scalar.cmpi .ne v275 c0_i32_131
  v276

def k0_off82 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  ![v271.toNat]
def k0_cond44 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : BitVec 1 :=
  let c0_i32_132 : BitVec 32 := 0#32
  let v277 : BitVec 1 := Scalar.cmpi .sgt v273 c0_i32_132
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c4_i32_133 : BitVec 32 := 4#32
  let v278 : BitVec 1 := Scalar.cmpi .slt v271 c4_i32_133
  let v279 : BitVec 1 := Scalar.andi v277 v278
  let v280 : BitVec 32 := Scalar.extui v279
  let c0_i32_134 : BitVec 32 := 0#32
  let v281 : BitVec 1 := Scalar.cmpi .ne v280 c0_i32_134
  v281

def k0_off83 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_1922 : BitVec 32 := 0#32
  let c0_i32_1923 : BitVec 32 := 0#32
  ![v271.toNat, 0, 0]
def k0_off84 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_1927 : BitVec 32 := 0#32
  let c0_i32_1928 : BitVec 32 := 0#32
  ![v271.toNat, 0, 0]

def k0_chk21 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : Prop :=
  (∀ (k0_h43 : k0_cond43 v273 = 1#1), ∀ a, (k0_off81 v0 v13 v26 v39 v52 v65 v78 v91 v104 v117 v130 v143 v156 v169 v182 v195 v208 v221 v234 v247 v260) a + S1.size a ≤ S33.size a) ∧
  (∀ (k0_h44 : k0_cond44 v0 v13 v26 v39 v52 v65 v78 v91 v104 v117 v130 v143 v156 v169 v182 v195 v208 v221 v234 v247 v260 v273 = 1#1), ∀ a, (k0_off82 v0 v13 v26 v39 v52 v65 v78 v91 v104 v117 v130 v143 v156 v169 v182 v195 v208 v221 v234 v247 v260) a + S1.size a ≤ S4.size a) ∧
  (∀ (k0_h44 : k0_cond44 v0 v13 v26 v39 v52 v65 v78 v91 v104 v117 v130 v143 v156 v169 v182 v195 v208 v221 v234 v247 v260 v273 = 1#1), ∀ a, (k0_off83 v0 v13 v26 v39 v52 v65 v78 v91 v104 v117 v130 v143 v156 v169 v182 v195 v208 v221 v234 v247 v260) a + S1x3584x768.size a ≤ S4x3584x768.size a) ∧
  (∀ (k0_h44 : k0_cond44 v0 v13 v26 v39 v52 v65 v78 v91 v104 v117 v130 v143 v156 v169 v182 v195 v208 v221 v234 v247 v260 v273 = 1#1), ∀ (hinb : ∀ a, (k0_off83 v0 v13 v26 v39 v52 v65 v78 v91 v104 v117 v130 v143 v156 v169 v182 v195 v208 v221 v234 v247 v260) a + S1x3584x768.size a ≤ S4x3584x768.size a), (Rect.unit (s := S4x3584x768) (k0_off83 v0 v13 v26 v39 v52 v65 v78 v91 v104 v117 v130 v143 v156 v169 v182 v195 v208 v221 v234 v247 v260) S1x3584x768.size hinb).WholeWords (EltTy.packing .i8)) ∧
  (∀ (k0_h44 : k0_cond44 v0 v13 v26 v39 v52 v65 v78 v91 v104 v117 v130 v143 v156 v169 v182 v195 v208 v221 v234 v247 v260 v273 = 1#1), ∀ a, (k0_off84 v0 v13 v26 v39 v52 v65 v78 v91 v104 v117 v130 v143 v156 v169 v182 v195 v208 v221 v234 v247 v260) a + S1x56x768.size a ≤ S4x56x768.size a)
theorem k0_off81_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (k0_hw21 : k0_chk21 v0 v13 v26 v39 v52 v65 v78 v91 v104 v117 v130 v143 v156 v169 v182 v195 v208 v221 v234 v247 v260 v273), ∀ (k0_h43 : k0_cond43 v273 = 1#1), ∀ a, (k0_off81 v0 v13 v26 v39 v52 v65 v78 v91 v104 v117 v130 v143 v156 v169 v182 v195 v208 v221 v234 v247 v260) a + S1.size a ≤ S33.size a := fun v0 v13 v26 v39 v52 v65 v78 v91 v104 v117 v130 v143 v156 v169 v182 v195 v208 v221 v234 v247 v260 v273 k0_hw21 k0_h43 => k0_hw21.1 k0_h43
theorem k0_off82_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (k0_hw21 : k0_chk21 v0 v13 v26 v39 v52 v65 v78 v91 v104 v117 v130 v143 v156 v169 v182 v195 v208 v221 v234 v247 v260 v273), ∀ (k0_h44 : k0_cond44 v0 v13 v26 v39 v52 v65 v78 v91 v104 v117 v130 v143 v156 v169 v182 v195 v208 v221 v234 v247 v260 v273 = 1#1), ∀ a, (k0_off82 v0 v13 v26 v39 v52 v65 v78 v91 v104 v117 v130 v143 v156 v169 v182 v195 v208 v221 v234 v247 v260) a + S1.size a ≤ S4.size a := fun v0 v13 v26 v39 v52 v65 v78 v91 v104 v117 v130 v143 v156 v169 v182 v195 v208 v221 v234 v247 v260 v273 k0_hw21 k0_h44 => k0_hw21.2.1 k0_h44
theorem k0_off83_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (k0_hw21 : k0_chk21 v0 v13 v26 v39 v52 v65 v78 v91 v104 v117 v130 v143 v156 v169 v182 v195 v208 v221 v234 v247 v260 v273), ∀ (k0_h44 : k0_cond44 v0 v13 v26 v39 v52 v65 v78 v91 v104 v117 v130 v143 v156 v169 v182 v195 v208 v221 v234 v247 v260 v273 = 1#1), ∀ a, (k0_off83 v0 v13 v26 v39 v52 v65 v78 v91 v104 v117 v130 v143 v156 v169 v182 v195 v208 v221 v234 v247 v260) a + S1x3584x768.size a ≤ S4x3584x768.size a := fun v0 v13 v26 v39 v52 v65 v78 v91 v104 v117 v130 v143 v156 v169 v182 v195 v208 v221 v234 v247 v260 v273 k0_hw21 k0_h44 => k0_hw21.2.2.1 k0_h44
theorem k0_off83_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (k0_hw21 : k0_chk21 v0 v13 v26 v39 v52 v65 v78 v91 v104 v117 v130 v143 v156 v169 v182 v195 v208 v221 v234 v247 v260 v273), ∀ (k0_h44 : k0_cond44 v0 v13 v26 v39 v52 v65 v78 v91 v104 v117 v130 v143 v156 v169 v182 v195 v208 v221 v234 v247 v260 v273 = 1#1), (Rect.unit (s := S4x3584x768) (k0_off83 v0 v13 v26 v39 v52 v65 v78 v91 v104 v117 v130 v143 v156 v169 v182 v195 v208 v221 v234 v247 v260) S1x3584x768.size (k0_off83_inb v0 v13 v26 v39 v52 v65 v78 v91 v104 v117 v130 v143 v156 v169 v182 v195 v208 v221 v234 v247 v260 v273 k0_hw21 k0_h44)).WholeWords (EltTy.packing .i8) := fun v0 v13 v26 v39 v52 v65 v78 v91 v104 v117 v130 v143 v156 v169 v182 v195 v208 v221 v234 v247 v260 v273 k0_hw21 k0_h44 => k0_hw21.2.2.2.1 k0_h44 (k0_off83_inb v0 v13 v26 v39 v52 v65 v78 v91 v104 v117 v130 v143 v156 v169 v182 v195 v208 v221 v234 v247 v260 v273 k0_hw21 k0_h44)
theorem k0_off84_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (k0_hw21 : k0_chk21 v0 v13 v26 v39 v52 v65 v78 v91 v104 v117 v130 v143 v156 v169 v182 v195 v208 v221 v234 v247 v260 v273), ∀ (k0_h44 : k0_cond44 v0 v13 v26 v39 v52 v65 v78 v91 v104 v117 v130 v143 v156 v169 v182 v195 v208 v221 v234 v247 v260 v273 = 1#1), ∀ a, (k0_off84 v0 v13 v26 v39 v52 v65 v78 v91 v104 v117 v130 v143 v156 v169 v182 v195 v208 v221 v234 v247 v260) a + S1x56x768.size a ≤ S4x56x768.size a := fun v0 v13 v26 v39 v52 v65 v78 v91 v104 v117 v130 v143 v156 v169 v182 v195 v208 v221 v234 v247 v260 v273 k0_hw21 k0_h44 => k0_hw21.2.2.2.2 k0_h44

def k0_off85 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let v5738 : Index := Scalar.indexCast v284
  ![v5738.toNat]
def k0_cond45 (v286 : BitVec 32) : BitVec 1 :=
  let c0_i32_136 : BitVec 32 := 0#32
  let v287 : BitVec 1 := Scalar.cmpi .sgt v286 c0_i32_136
  let v288 : BitVec 32 := Scalar.extui v287
  let c0_i32_137 : BitVec 32 := 0#32
  let v289 : BitVec 1 := Scalar.cmpi .ne v288 c0_i32_137
  v289

def k0_off86 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  ![v284.toNat]
def k0_cond46 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : BitVec 1 :=
  let c0_i32_138 : BitVec 32 := 0#32
  let v290 : BitVec 1 := Scalar.cmpi .sgt v286 c0_i32_138
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c4_i32_139 : BitVec 32 := 4#32
  let v291 : BitVec 1 := Scalar.cmpi .slt v284 c4_i32_139
  let v292 : BitVec 1 := Scalar.andi v290 v291
  let v293 : BitVec 32 := Scalar.extui v292
  let c0_i32_140 : BitVec 32 := 0#32
  let v294 : BitVec 1 := Scalar.cmpi .ne v293 c0_i32_140
  v294

def k0_off87 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_1922 : BitVec 32 := 0#32
  let c0_i32_1923 : BitVec 32 := 0#32
  ![v284.toNat, 0, 0]
def k0_off88 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_1927 : BitVec 32 := 0#32
  let c0_i32_1928 : BitVec 32 := 0#32
  ![v284.toNat, 0, 0]

def k0_chk22 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : Prop :=
  (∀ (k0_h45 : k0_cond45 v286 = 1#1), ∀ a, (k0_off85 v0 v13 v26 v39 v52 v65 v78 v91 v104 v117 v130 v143 v156 v169 v182 v195 v208 v221 v234 v247 v260 v273) a + S1.size a ≤ S33.size a) ∧
  (∀ (k0_h46 : k0_cond46 v0 v13 v26 v39 v52 v65 v78 v91 v104 v117 v130 v143 v156 v169 v182 v195 v208 v221 v234 v247 v260 v273 v286 = 1#1), ∀ a, (k0_off86 v0 v13 v26 v39 v52 v65 v78 v91 v104 v117 v130 v143 v156 v169 v182 v195 v208 v221 v234 v247 v260 v273) a + S1.size a ≤ S4.size a) ∧
  (∀ (k0_h46 : k0_cond46 v0 v13 v26 v39 v52 v65 v78 v91 v104 v117 v130 v143 v156 v169 v182 v195 v208 v221 v234 v247 v260 v273 v286 = 1#1), ∀ a, (k0_off87 v0 v13 v26 v39 v52 v65 v78 v91 v104 v117 v130 v143 v156 v169 v182 v195 v208 v221 v234 v247 v260 v273) a + S1x3584x768.size a ≤ S4x3584x768.size a) ∧
  (∀ (k0_h46 : k0_cond46 v0 v13 v26 v39 v52 v65 v78 v91 v104 v117 v130 v143 v156 v169 v182 v195 v208 v221 v234 v247 v260 v273 v286 = 1#1), ∀ (hinb : ∀ a, (k0_off87 v0 v13 v26 v39 v52 v65 v78 v91 v104 v117 v130 v143 v156 v169 v182 v195 v208 v221 v234 v247 v260 v273) a + S1x3584x768.size a ≤ S4x3584x768.size a), (Rect.unit (s := S4x3584x768) (k0_off87 v0 v13 v26 v39 v52 v65 v78 v91 v104 v117 v130 v143 v156 v169 v182 v195 v208 v221 v234 v247 v260 v273) S1x3584x768.size hinb).WholeWords (EltTy.packing .i8)) ∧
  (∀ (k0_h46 : k0_cond46 v0 v13 v26 v39 v52 v65 v78 v91 v104 v117 v130 v143 v156 v169 v182 v195 v208 v221 v234 v247 v260 v273 v286 = 1#1), ∀ a, (k0_off88 v0 v13 v26 v39 v52 v65 v78 v91 v104 v117 v130 v143 v156 v169 v182 v195 v208 v221 v234 v247 v260 v273) a + S1x56x768.size a ≤ S4x56x768.size a)
theorem k0_off85_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (k0_hw22 : k0_chk22 v0 v13 v26 v39 v52 v65 v78 v91 v104 v117 v130 v143 v156 v169 v182 v195 v208 v221 v234 v247 v260 v273 v286), ∀ (k0_h45 : k0_cond45 v286 = 1#1), ∀ a, (k0_off85 v0 v13 v26 v39 v52 v65 v78 v91 v104 v117 v130 v143 v156 v169 v182 v195 v208 v221 v234 v247 v260 v273) a + S1.size a ≤ S33.size a := fun v0 v13 v26 v39 v52 v65 v78 v91 v104 v117 v130 v143 v156 v169 v182 v195 v208 v221 v234 v247 v260 v273 v286 k0_hw22 k0_h45 => k0_hw22.1 k0_h45
theorem k0_off86_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (k0_hw22 : k0_chk22 v0 v13 v26 v39 v52 v65 v78 v91 v104 v117 v130 v143 v156 v169 v182 v195 v208 v221 v234 v247 v260 v273 v286), ∀ (k0_h46 : k0_cond46 v0 v13 v26 v39 v52 v65 v78 v91 v104 v117 v130 v143 v156 v169 v182 v195 v208 v221 v234 v247 v260 v273 v286 = 1#1), ∀ a, (k0_off86 v0 v13 v26 v39 v52 v65 v78 v91 v104 v117 v130 v143 v156 v169 v182 v195 v208 v221 v234 v247 v260 v273) a + S1.size a ≤ S4.size a := fun v0 v13 v26 v39 v52 v65 v78 v91 v104 v117 v130 v143 v156 v169 v182 v195 v208 v221 v234 v247 v260 v273 v286 k0_hw22 k0_h46 => k0_hw22.2.1 k0_h46
theorem k0_off87_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (k0_hw22 : k0_chk22 v0 v13 v26 v39 v52 v65 v78 v91 v104 v117 v130 v143 v156 v169 v182 v195 v208 v221 v234 v247 v260 v273 v286), ∀ (k0_h46 : k0_cond46 v0 v13 v26 v39 v52 v65 v78 v91 v104 v117 v130 v143 v156 v169 v182 v195 v208 v221 v234 v247 v260 v273 v286 = 1#1), ∀ a, (k0_off87 v0 v13 v26 v39 v52 v65 v78 v91 v104 v117 v130 v143 v156 v169 v182 v195 v208 v221 v234 v247 v260 v273) a + S1x3584x768.size a ≤ S4x3584x768.size a := fun v0 v13 v26 v39 v52 v65 v78 v91 v104 v117 v130 v143 v156 v169 v182 v195 v208 v221 v234 v247 v260 v273 v286 k0_hw22 k0_h46 => k0_hw22.2.2.1 k0_h46
theorem k0_off87_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (k0_hw22 : k0_chk22 v0 v13 v26 v39 v52 v65 v78 v91 v104 v117 v130 v143 v156 v169 v182 v195 v208 v221 v234 v247 v260 v273 v286), ∀ (k0_h46 : k0_cond46 v0 v13 v26 v39 v52 v65 v78 v91 v104 v117 v130 v143 v156 v169 v182 v195 v208 v221 v234 v247 v260 v273 v286 = 1#1), (Rect.unit (s := S4x3584x768) (k0_off87 v0 v13 v26 v39 v52 v65 v78 v91 v104 v117 v130 v143 v156 v169 v182 v195 v208 v221 v234 v247 v260 v273) S1x3584x768.size (k0_off87_inb v0 v13 v26 v39 v52 v65 v78 v91 v104 v117 v130 v143 v156 v169 v182 v195 v208 v221 v234 v247 v260 v273 v286 k0_hw22 k0_h46)).WholeWords (EltTy.packing .i8) := fun v0 v13 v26 v39 v52 v65 v78 v91 v104 v117 v130 v143 v156 v169 v182 v195 v208 v221 v234 v247 v260 v273 v286 k0_hw22 k0_h46 => k0_hw22.2.2.2.1 k0_h46 (k0_off87_inb v0 v13 v26 v39 v52 v65 v78 v91 v104 v117 v130 v143 v156 v169 v182 v195 v208 v221 v234 v247 v260 v273 v286 k0_hw22 k0_h46)
theorem k0_off88_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (k0_hw22 : k0_chk22 v0 v13 v26 v39 v52 v65 v78 v91 v104 v117 v130 v143 v156 v169 v182 v195 v208 v221 v234 v247 v260 v273 v286), ∀ (k0_h46 : k0_cond46 v0 v13 v26 v39 v52 v65 v78 v91 v104 v117 v130 v143 v156 v169 v182 v195 v208 v221 v234 v247 v260 v273 v286 = 1#1), ∀ a, (k0_off88 v0 v13 v26 v39 v52 v65 v78 v91 v104 v117 v130 v143 v156 v169 v182 v195 v208 v221 v234 v247 v260 v273) a + S1x56x768.size a ≤ S4x56x768.size a := fun v0 v13 v26 v39 v52 v65 v78 v91 v104 v117 v130 v143 v156 v169 v182 v195 v208 v221 v234 v247 v260 v273 v286 k0_hw22 k0_h46 => k0_hw22.2.2.2.2 k0_h46

def k0_off89 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let v5738 : Index := Scalar.indexCast v297
  ![v5738.toNat]
def k0_cond47 (v299 : BitVec 32) : BitVec 1 :=
  let c0_i32_142 : BitVec 32 := 0#32
  let v300 : BitVec 1 := Scalar.cmpi .sgt v299 c0_i32_142
  let v301 : BitVec 32 := Scalar.extui v300
  let c0_i32_143 : BitVec 32 := 0#32
  let v302 : BitVec 1 := Scalar.cmpi .ne v301 c0_i32_143
  v302

def k0_off90 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  ![v297.toNat]
def k0_cond48 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : BitVec 1 :=
  let c0_i32_144 : BitVec 32 := 0#32
  let v303 : BitVec 1 := Scalar.cmpi .sgt v299 c0_i32_144
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c4_i32_145 : BitVec 32 := 4#32
  let v304 : BitVec 1 := Scalar.cmpi .slt v297 c4_i32_145
  let v305 : BitVec 1 := Scalar.andi v303 v304
  let v306 : BitVec 32 := Scalar.extui v305
  let c0_i32_146 : BitVec 32 := 0#32
  let v307 : BitVec 1 := Scalar.cmpi .ne v306 c0_i32_146
  v307

def k0_off91 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_1923 : BitVec 32 := 0#32
  let c0_i32_1924 : BitVec 32 := 0#32
  ![v297.toNat, 0, 0]
def k0_off92 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_1928 : BitVec 32 := 0#32
  let c0_i32_1929 : BitVec 32 := 0#32
  ![v297.toNat, 0, 0]

def k0_chk23 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : Prop :=
  (∀ (k0_h47 : k0_cond47 v299 = 1#1), ∀ a, (k0_off89 v0 v13 v26 v39 v52 v65 v78 v91 v104 v117 v130 v143 v156 v169 v182 v195 v208 v221 v234 v247 v260 v273 v286) a + S1.size a ≤ S33.size a) ∧
  (∀ (k0_h48 : k0_cond48 v0 v13 v26 v39 v52 v65 v78 v91 v104 v117 v130 v143 v156 v169 v182 v195 v208 v221 v234 v247 v260 v273 v286 v299 = 1#1), ∀ a, (k0_off90 v0 v13 v26 v39 v52 v65 v78 v91 v104 v117 v130 v143 v156 v169 v182 v195 v208 v221 v234 v247 v260 v273 v286) a + S1.size a ≤ S4.size a) ∧
  (∀ (k0_h48 : k0_cond48 v0 v13 v26 v39 v52 v65 v78 v91 v104 v117 v130 v143 v156 v169 v182 v195 v208 v221 v234 v247 v260 v273 v286 v299 = 1#1), ∀ a, (k0_off91 v0 v13 v26 v39 v52 v65 v78 v91 v104 v117 v130 v143 v156 v169 v182 v195 v208 v221 v234 v247 v260 v273 v286) a + S1x3584x768.size a ≤ S4x3584x768.size a) ∧
  (∀ (k0_h48 : k0_cond48 v0 v13 v26 v39 v52 v65 v78 v91 v104 v117 v130 v143 v156 v169 v182 v195 v208 v221 v234 v247 v260 v273 v286 v299 = 1#1), ∀ (hinb : ∀ a, (k0_off91 v0 v13 v26 v39 v52 v65 v78 v91 v104 v117 v130 v143 v156 v169 v182 v195 v208 v221 v234 v247 v260 v273 v286) a + S1x3584x768.size a ≤ S4x3584x768.size a), (Rect.unit (s := S4x3584x768) (k0_off91 v0 v13 v26 v39 v52 v65 v78 v91 v104 v117 v130 v143 v156 v169 v182 v195 v208 v221 v234 v247 v260 v273 v286) S1x3584x768.size hinb).WholeWords (EltTy.packing .i8)) ∧
  (∀ (k0_h48 : k0_cond48 v0 v13 v26 v39 v52 v65 v78 v91 v104 v117 v130 v143 v156 v169 v182 v195 v208 v221 v234 v247 v260 v273 v286 v299 = 1#1), ∀ a, (k0_off92 v0 v13 v26 v39 v52 v65 v78 v91 v104 v117 v130 v143 v156 v169 v182 v195 v208 v221 v234 v247 v260 v273 v286) a + S1x56x768.size a ≤ S4x56x768.size a)
theorem k0_off89_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (k0_hw23 : k0_chk23 v0 v13 v26 v39 v52 v65 v78 v91 v104 v117 v130 v143 v156 v169 v182 v195 v208 v221 v234 v247 v260 v273 v286 v299), ∀ (k0_h47 : k0_cond47 v299 = 1#1), ∀ a, (k0_off89 v0 v13 v26 v39 v52 v65 v78 v91 v104 v117 v130 v143 v156 v169 v182 v195 v208 v221 v234 v247 v260 v273 v286) a + S1.size a ≤ S33.size a := fun v0 v13 v26 v39 v52 v65 v78 v91 v104 v117 v130 v143 v156 v169 v182 v195 v208 v221 v234 v247 v260 v273 v286 v299 k0_hw23 k0_h47 => k0_hw23.1 k0_h47
theorem k0_off90_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (k0_hw23 : k0_chk23 v0 v13 v26 v39 v52 v65 v78 v91 v104 v117 v130 v143 v156 v169 v182 v195 v208 v221 v234 v247 v260 v273 v286 v299), ∀ (k0_h48 : k0_cond48 v0 v13 v26 v39 v52 v65 v78 v91 v104 v117 v130 v143 v156 v169 v182 v195 v208 v221 v234 v247 v260 v273 v286 v299 = 1#1), ∀ a, (k0_off90 v0 v13 v26 v39 v52 v65 v78 v91 v104 v117 v130 v143 v156 v169 v182 v195 v208 v221 v234 v247 v260 v273 v286) a + S1.size a ≤ S4.size a := fun v0 v13 v26 v39 v52 v65 v78 v91 v104 v117 v130 v143 v156 v169 v182 v195 v208 v221 v234 v247 v260 v273 v286 v299 k0_hw23 k0_h48 => k0_hw23.2.1 k0_h48
theorem k0_off91_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (k0_hw23 : k0_chk23 v0 v13 v26 v39 v52 v65 v78 v91 v104 v117 v130 v143 v156 v169 v182 v195 v208 v221 v234 v247 v260 v273 v286 v299), ∀ (k0_h48 : k0_cond48 v0 v13 v26 v39 v52 v65 v78 v91 v104 v117 v130 v143 v156 v169 v182 v195 v208 v221 v234 v247 v260 v273 v286 v299 = 1#1), ∀ a, (k0_off91 v0 v13 v26 v39 v52 v65 v78 v91 v104 v117 v130 v143 v156 v169 v182 v195 v208 v221 v234 v247 v260 v273 v286) a + S1x3584x768.size a ≤ S4x3584x768.size a := fun v0 v13 v26 v39 v52 v65 v78 v91 v104 v117 v130 v143 v156 v169 v182 v195 v208 v221 v234 v247 v260 v273 v286 v299 k0_hw23 k0_h48 => k0_hw23.2.2.1 k0_h48
theorem k0_off91_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (k0_hw23 : k0_chk23 v0 v13 v26 v39 v52 v65 v78 v91 v104 v117 v130 v143 v156 v169 v182 v195 v208 v221 v234 v247 v260 v273 v286 v299), ∀ (k0_h48 : k0_cond48 v0 v13 v26 v39 v52 v65 v78 v91 v104 v117 v130 v143 v156 v169 v182 v195 v208 v221 v234 v247 v260 v273 v286 v299 = 1#1), (Rect.unit (s := S4x3584x768) (k0_off91 v0 v13 v26 v39 v52 v65 v78 v91 v104 v117 v130 v143 v156 v169 v182 v195 v208 v221 v234 v247 v260 v273 v286) S1x3584x768.size (k0_off91_inb v0 v13 v26 v39 v52 v65 v78 v91 v104 v117 v130 v143 v156 v169 v182 v195 v208 v221 v234 v247 v260 v273 v286 v299 k0_hw23 k0_h48)).WholeWords (EltTy.packing .i8) := fun v0 v13 v26 v39 v52 v65 v78 v91 v104 v117 v130 v143 v156 v169 v182 v195 v208 v221 v234 v247 v260 v273 v286 v299 k0_hw23 k0_h48 => k0_hw23.2.2.2.1 k0_h48 (k0_off91_inb v0 v13 v26 v39 v52 v65 v78 v91 v104 v117 v130 v143 v156 v169 v182 v195 v208 v221 v234 v247 v260 v273 v286 v299 k0_hw23 k0_h48)
theorem k0_off92_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (k0_hw23 : k0_chk23 v0 v13 v26 v39 v52 v65 v78 v91 v104 v117 v130 v143 v156 v169 v182 v195 v208 v221 v234 v247 v260 v273 v286 v299), ∀ (k0_h48 : k0_cond48 v0 v13 v26 v39 v52 v65 v78 v91 v104 v117 v130 v143 v156 v169 v182 v195 v208 v221 v234 v247 v260 v273 v286 v299 = 1#1), ∀ a, (k0_off92 v0 v13 v26 v39 v52 v65 v78 v91 v104 v117 v130 v143 v156 v169 v182 v195 v208 v221 v234 v247 v260 v273 v286) a + S1x56x768.size a ≤ S4x56x768.size a := fun v0 v13 v26 v39 v52 v65 v78 v91 v104 v117 v130 v143 v156 v169 v182 v195 v208 v221 v234 v247 v260 v273 v286 v299 k0_hw23 k0_h48 => k0_hw23.2.2.2.2 k0_h48

def k0_off93 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let v5738 : Index := Scalar.indexCast v310
  ![v5738.toNat]
def k0_cond49 (v312 : BitVec 32) : BitVec 1 :=
  let c0_i32_148 : BitVec 32 := 0#32
  let v313 : BitVec 1 := Scalar.cmpi .sgt v312 c0_i32_148
  let v314 : BitVec 32 := Scalar.extui v313
  let c0_i32_149 : BitVec 32 := 0#32
  let v315 : BitVec 1 := Scalar.cmpi .ne v314 c0_i32_149
  v315

def k0_off94 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  ![v310.toNat]
def k0_cond50 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : BitVec 1 :=
  let c0_i32_150 : BitVec 32 := 0#32
  let v316 : BitVec 1 := Scalar.cmpi .sgt v312 c0_i32_150
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c4_i32_151 : BitVec 32 := 4#32
  let v317 : BitVec 1 := Scalar.cmpi .slt v310 c4_i32_151
  let v318 : BitVec 1 := Scalar.andi v316 v317
  let v319 : BitVec 32 := Scalar.extui v318
  let c0_i32_152 : BitVec 32 := 0#32
  let v320 : BitVec 1 := Scalar.cmpi .ne v319 c0_i32_152
  v320

def k0_off95 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_1922 : BitVec 32 := 0#32
  let c0_i32_1923 : BitVec 32 := 0#32
  ![v310.toNat, 0, 0]
def k0_off96 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_1927 : BitVec 32 := 0#32
  let c0_i32_1928 : BitVec 32 := 0#32
  ![v310.toNat, 0, 0]

def k0_chk24 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : Prop :=
  (∀ (k0_h49 : k0_cond49 v312 = 1#1), ∀ a, (k0_off93 v0 v13 v26 v39 v52 v65 v78 v91 v104 v117 v130 v143 v156 v169 v182 v195 v208 v221 v234 v247 v260 v273 v286 v299) a + S1.size a ≤ S33.size a) ∧
  (∀ (k0_h50 : k0_cond50 v0 v13 v26 v39 v52 v65 v78 v91 v104 v117 v130 v143 v156 v169 v182 v195 v208 v221 v234 v247 v260 v273 v286 v299 v312 = 1#1), ∀ a, (k0_off94 v0 v13 v26 v39 v52 v65 v78 v91 v104 v117 v130 v143 v156 v169 v182 v195 v208 v221 v234 v247 v260 v273 v286 v299) a + S1.size a ≤ S4.size a) ∧
  (∀ (k0_h50 : k0_cond50 v0 v13 v26 v39 v52 v65 v78 v91 v104 v117 v130 v143 v156 v169 v182 v195 v208 v221 v234 v247 v260 v273 v286 v299 v312 = 1#1), ∀ a, (k0_off95 v0 v13 v26 v39 v52 v65 v78 v91 v104 v117 v130 v143 v156 v169 v182 v195 v208 v221 v234 v247 v260 v273 v286 v299) a + S1x3584x768.size a ≤ S4x3584x768.size a) ∧
  (∀ (k0_h50 : k0_cond50 v0 v13 v26 v39 v52 v65 v78 v91 v104 v117 v130 v143 v156 v169 v182 v195 v208 v221 v234 v247 v260 v273 v286 v299 v312 = 1#1), ∀ (hinb : ∀ a, (k0_off95 v0 v13 v26 v39 v52 v65 v78 v91 v104 v117 v130 v143 v156 v169 v182 v195 v208 v221 v234 v247 v260 v273 v286 v299) a + S1x3584x768.size a ≤ S4x3584x768.size a), (Rect.unit (s := S4x3584x768) (k0_off95 v0 v13 v26 v39 v52 v65 v78 v91 v104 v117 v130 v143 v156 v169 v182 v195 v208 v221 v234 v247 v260 v273 v286 v299) S1x3584x768.size hinb).WholeWords (EltTy.packing .i8)) ∧
  (∀ (k0_h50 : k0_cond50 v0 v13 v26 v39 v52 v65 v78 v91 v104 v117 v130 v143 v156 v169 v182 v195 v208 v221 v234 v247 v260 v273 v286 v299 v312 = 1#1), ∀ a, (k0_off96 v0 v13 v26 v39 v52 v65 v78 v91 v104 v117 v130 v143 v156 v169 v182 v195 v208 v221 v234 v247 v260 v273 v286 v299) a + S1x56x768.size a ≤ S4x56x768.size a)
theorem k0_off93_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (k0_hw24 : k0_chk24 v0 v13 v26 v39 v52 v65 v78 v91 v104 v117 v130 v143 v156 v169 v182 v195 v208 v221 v234 v247 v260 v273 v286 v299 v312), ∀ (k0_h49 : k0_cond49 v312 = 1#1), ∀ a, (k0_off93 v0 v13 v26 v39 v52 v65 v78 v91 v104 v117 v130 v143 v156 v169 v182 v195 v208 v221 v234 v247 v260 v273 v286 v299) a + S1.size a ≤ S33.size a := fun v0 v13 v26 v39 v52 v65 v78 v91 v104 v117 v130 v143 v156 v169 v182 v195 v208 v221 v234 v247 v260 v273 v286 v299 v312 k0_hw24 k0_h49 => k0_hw24.1 k0_h49
theorem k0_off94_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (k0_hw24 : k0_chk24 v0 v13 v26 v39 v52 v65 v78 v91 v104 v117 v130 v143 v156 v169 v182 v195 v208 v221 v234 v247 v260 v273 v286 v299 v312), ∀ (k0_h50 : k0_cond50 v0 v13 v26 v39 v52 v65 v78 v91 v104 v117 v130 v143 v156 v169 v182 v195 v208 v221 v234 v247 v260 v273 v286 v299 v312 = 1#1), ∀ a, (k0_off94 v0 v13 v26 v39 v52 v65 v78 v91 v104 v117 v130 v143 v156 v169 v182 v195 v208 v221 v234 v247 v260 v273 v286 v299) a + S1.size a ≤ S4.size a := fun v0 v13 v26 v39 v52 v65 v78 v91 v104 v117 v130 v143 v156 v169 v182 v195 v208 v221 v234 v247 v260 v273 v286 v299 v312 k0_hw24 k0_h50 => k0_hw24.2.1 k0_h50
theorem k0_off95_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (k0_hw24 : k0_chk24 v0 v13 v26 v39 v52 v65 v78 v91 v104 v117 v130 v143 v156 v169 v182 v195 v208 v221 v234 v247 v260 v273 v286 v299 v312), ∀ (k0_h50 : k0_cond50 v0 v13 v26 v39 v52 v65 v78 v91 v104 v117 v130 v143 v156 v169 v182 v195 v208 v221 v234 v247 v260 v273 v286 v299 v312 = 1#1), ∀ a, (k0_off95 v0 v13 v26 v39 v52 v65 v78 v91 v104 v117 v130 v143 v156 v169 v182 v195 v208 v221 v234 v247 v260 v273 v286 v299) a + S1x3584x768.size a ≤ S4x3584x768.size a := fun v0 v13 v26 v39 v52 v65 v78 v91 v104 v117 v130 v143 v156 v169 v182 v195 v208 v221 v234 v247 v260 v273 v286 v299 v312 k0_hw24 k0_h50 => k0_hw24.2.2.1 k0_h50
theorem k0_off95_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (k0_hw24 : k0_chk24 v0 v13 v26 v39 v52 v65 v78 v91 v104 v117 v130 v143 v156 v169 v182 v195 v208 v221 v234 v247 v260 v273 v286 v299 v312), ∀ (k0_h50 : k0_cond50 v0 v13 v26 v39 v52 v65 v78 v91 v104 v117 v130 v143 v156 v169 v182 v195 v208 v221 v234 v247 v260 v273 v286 v299 v312 = 1#1), (Rect.unit (s := S4x3584x768) (k0_off95 v0 v13 v26 v39 v52 v65 v78 v91 v104 v117 v130 v143 v156 v169 v182 v195 v208 v221 v234 v247 v260 v273 v286 v299) S1x3584x768.size (k0_off95_inb v0 v13 v26 v39 v52 v65 v78 v91 v104 v117 v130 v143 v156 v169 v182 v195 v208 v221 v234 v247 v260 v273 v286 v299 v312 k0_hw24 k0_h50)).WholeWords (EltTy.packing .i8) := fun v0 v13 v26 v39 v52 v65 v78 v91 v104 v117 v130 v143 v156 v169 v182 v195 v208 v221 v234 v247 v260 v273 v286 v299 v312 k0_hw24 k0_h50 => k0_hw24.2.2.2.1 k0_h50 (k0_off95_inb v0 v13 v26 v39 v52 v65 v78 v91 v104 v117 v130 v143 v156 v169 v182 v195 v208 v221 v234 v247 v260 v273 v286 v299 v312 k0_hw24 k0_h50)
theorem k0_off96_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (k0_hw24 : k0_chk24 v0 v13 v26 v39 v52 v65 v78 v91 v104 v117 v130 v143 v156 v169 v182 v195 v208 v221 v234 v247 v260 v273 v286 v299 v312), ∀ (k0_h50 : k0_cond50 v0 v13 v26 v39 v52 v65 v78 v91 v104 v117 v130 v143 v156 v169 v182 v195 v208 v221 v234 v247 v260 v273 v286 v299 v312 = 1#1), ∀ a, (k0_off96 v0 v13 v26 v39 v52 v65 v78 v91 v104 v117 v130 v143 v156 v169 v182 v195 v208 v221 v234 v247 v260 v273 v286 v299) a + S1x56x768.size a ≤ S4x56x768.size a := fun v0 v13 v26 v39 v52 v65 v78 v91 v104 v117 v130 v143 v156 v169 v182 v195 v208 v221 v234 v247 v260 v273 v286 v299 v312 k0_hw24 k0_h50 => k0_hw24.2.2.2.2 k0_h50

def k0_off97 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let v5738 : Index := Scalar.indexCast v323
  ![v5738.toNat]
def k0_cond51 (v325 : BitVec 32) : BitVec 1 :=
  let c0_i32_154 : BitVec 32 := 0#32
  let v326 : BitVec 1 := Scalar.cmpi .sgt v325 c0_i32_154
  let v327 : BitVec 32 := Scalar.extui v326
  let c0_i32_155 : BitVec 32 := 0#32
  let v328 : BitVec 1 := Scalar.cmpi .ne v327 c0_i32_155
  v328

def k0_off98 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  ![v323.toNat]
def k0_cond52 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : BitVec 1 :=
  let c0_i32_156 : BitVec 32 := 0#32
  let v329 : BitVec 1 := Scalar.cmpi .sgt v325 c0_i32_156
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c4_i32_157 : BitVec 32 := 4#32
  let v330 : BitVec 1 := Scalar.cmpi .slt v323 c4_i32_157
  let v331 : BitVec 1 := Scalar.andi v329 v330
  let v332 : BitVec 32 := Scalar.extui v331
  let c0_i32_158 : BitVec 32 := 0#32
  let v333 : BitVec 1 := Scalar.cmpi .ne v332 c0_i32_158
  v333

def k0_off99 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_1922 : BitVec 32 := 0#32
  let c0_i32_1923 : BitVec 32 := 0#32
  ![v323.toNat, 0, 0]
def k0_off100 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_1927 : BitVec 32 := 0#32
  let c0_i32_1928 : BitVec 32 := 0#32
  ![v323.toNat, 0, 0]

def k0_chk25 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : Prop :=
  (∀ (k0_h51 : k0_cond51 v325 = 1#1), ∀ a, (k0_off97 v0 v13 v26 v39 v52 v65 v78 v91 v104 v117 v130 v143 v156 v169 v182 v195 v208 v221 v234 v247 v260 v273 v286 v299 v312) a + S1.size a ≤ S33.size a) ∧
  (∀ (k0_h52 : k0_cond52 v0 v13 v26 v39 v52 v65 v78 v91 v104 v117 v130 v143 v156 v169 v182 v195 v208 v221 v234 v247 v260 v273 v286 v299 v312 v325 = 1#1), ∀ a, (k0_off98 v0 v13 v26 v39 v52 v65 v78 v91 v104 v117 v130 v143 v156 v169 v182 v195 v208 v221 v234 v247 v260 v273 v286 v299 v312) a + S1.size a ≤ S4.size a) ∧
  (∀ (k0_h52 : k0_cond52 v0 v13 v26 v39 v52 v65 v78 v91 v104 v117 v130 v143 v156 v169 v182 v195 v208 v221 v234 v247 v260 v273 v286 v299 v312 v325 = 1#1), ∀ a, (k0_off99 v0 v13 v26 v39 v52 v65 v78 v91 v104 v117 v130 v143 v156 v169 v182 v195 v208 v221 v234 v247 v260 v273 v286 v299 v312) a + S1x3584x768.size a ≤ S4x3584x768.size a) ∧
  (∀ (k0_h52 : k0_cond52 v0 v13 v26 v39 v52 v65 v78 v91 v104 v117 v130 v143 v156 v169 v182 v195 v208 v221 v234 v247 v260 v273 v286 v299 v312 v325 = 1#1), ∀ (hinb : ∀ a, (k0_off99 v0 v13 v26 v39 v52 v65 v78 v91 v104 v117 v130 v143 v156 v169 v182 v195 v208 v221 v234 v247 v260 v273 v286 v299 v312) a + S1x3584x768.size a ≤ S4x3584x768.size a), (Rect.unit (s := S4x3584x768) (k0_off99 v0 v13 v26 v39 v52 v65 v78 v91 v104 v117 v130 v143 v156 v169 v182 v195 v208 v221 v234 v247 v260 v273 v286 v299 v312) S1x3584x768.size hinb).WholeWords (EltTy.packing .i8)) ∧
  (∀ (k0_h52 : k0_cond52 v0 v13 v26 v39 v52 v65 v78 v91 v104 v117 v130 v143 v156 v169 v182 v195 v208 v221 v234 v247 v260 v273 v286 v299 v312 v325 = 1#1), ∀ a, (k0_off100 v0 v13 v26 v39 v52 v65 v78 v91 v104 v117 v130 v143 v156 v169 v182 v195 v208 v221 v234 v247 v260 v273 v286 v299 v312) a + S1x56x768.size a ≤ S4x56x768.size a)
theorem k0_off97_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (k0_hw25 : k0_chk25 v0 v13 v26 v39 v52 v65 v78 v91 v104 v117 v130 v143 v156 v169 v182 v195 v208 v221 v234 v247 v260 v273 v286 v299 v312 v325), ∀ (k0_h51 : k0_cond51 v325 = 1#1), ∀ a, (k0_off97 v0 v13 v26 v39 v52 v65 v78 v91 v104 v117 v130 v143 v156 v169 v182 v195 v208 v221 v234 v247 v260 v273 v286 v299 v312) a + S1.size a ≤ S33.size a := fun v0 v13 v26 v39 v52 v65 v78 v91 v104 v117 v130 v143 v156 v169 v182 v195 v208 v221 v234 v247 v260 v273 v286 v299 v312 v325 k0_hw25 k0_h51 => k0_hw25.1 k0_h51
theorem k0_off98_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (k0_hw25 : k0_chk25 v0 v13 v26 v39 v52 v65 v78 v91 v104 v117 v130 v143 v156 v169 v182 v195 v208 v221 v234 v247 v260 v273 v286 v299 v312 v325), ∀ (k0_h52 : k0_cond52 v0 v13 v26 v39 v52 v65 v78 v91 v104 v117 v130 v143 v156 v169 v182 v195 v208 v221 v234 v247 v260 v273 v286 v299 v312 v325 = 1#1), ∀ a, (k0_off98 v0 v13 v26 v39 v52 v65 v78 v91 v104 v117 v130 v143 v156 v169 v182 v195 v208 v221 v234 v247 v260 v273 v286 v299 v312) a + S1.size a ≤ S4.size a := fun v0 v13 v26 v39 v52 v65 v78 v91 v104 v117 v130 v143 v156 v169 v182 v195 v208 v221 v234 v247 v260 v273 v286 v299 v312 v325 k0_hw25 k0_h52 => k0_hw25.2.1 k0_h52
theorem k0_off99_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (k0_hw25 : k0_chk25 v0 v13 v26 v39 v52 v65 v78 v91 v104 v117 v130 v143 v156 v169 v182 v195 v208 v221 v234 v247 v260 v273 v286 v299 v312 v325), ∀ (k0_h52 : k0_cond52 v0 v13 v26 v39 v52 v65 v78 v91 v104 v117 v130 v143 v156 v169 v182 v195 v208 v221 v234 v247 v260 v273 v286 v299 v312 v325 = 1#1), ∀ a, (k0_off99 v0 v13 v26 v39 v52 v65 v78 v91 v104 v117 v130 v143 v156 v169 v182 v195 v208 v221 v234 v247 v260 v273 v286 v299 v312) a + S1x3584x768.size a ≤ S4x3584x768.size a := fun v0 v13 v26 v39 v52 v65 v78 v91 v104 v117 v130 v143 v156 v169 v182 v195 v208 v221 v234 v247 v260 v273 v286 v299 v312 v325 k0_hw25 k0_h52 => k0_hw25.2.2.1 k0_h52
theorem k0_off99_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (k0_hw25 : k0_chk25 v0 v13 v26 v39 v52 v65 v78 v91 v104 v117 v130 v143 v156 v169 v182 v195 v208 v221 v234 v247 v260 v273 v286 v299 v312 v325), ∀ (k0_h52 : k0_cond52 v0 v13 v26 v39 v52 v65 v78 v91 v104 v117 v130 v143 v156 v169 v182 v195 v208 v221 v234 v247 v260 v273 v286 v299 v312 v325 = 1#1), (Rect.unit (s := S4x3584x768) (k0_off99 v0 v13 v26 v39 v52 v65 v78 v91 v104 v117 v130 v143 v156 v169 v182 v195 v208 v221 v234 v247 v260 v273 v286 v299 v312) S1x3584x768.size (k0_off99_inb v0 v13 v26 v39 v52 v65 v78 v91 v104 v117 v130 v143 v156 v169 v182 v195 v208 v221 v234 v247 v260 v273 v286 v299 v312 v325 k0_hw25 k0_h52)).WholeWords (EltTy.packing .i8) := fun v0 v13 v26 v39 v52 v65 v78 v91 v104 v117 v130 v143 v156 v169 v182 v195 v208 v221 v234 v247 v260 v273 v286 v299 v312 v325 k0_hw25 k0_h52 => k0_hw25.2.2.2.1 k0_h52 (k0_off99_inb v0 v13 v26 v39 v52 v65 v78 v91 v104 v117 v130 v143 v156 v169 v182 v195 v208 v221 v234 v247 v260 v273 v286 v299 v312 v325 k0_hw25 k0_h52)
theorem k0_off100_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (k0_hw25 : k0_chk25 v0 v13 v26 v39 v52 v65 v78 v91 v104 v117 v130 v143 v156 v169 v182 v195 v208 v221 v234 v247 v260 v273 v286 v299 v312 v325), ∀ (k0_h52 : k0_cond52 v0 v13 v26 v39 v52 v65 v78 v91 v104 v117 v130 v143 v156 v169 v182 v195 v208 v221 v234 v247 v260 v273 v286 v299 v312 v325 = 1#1), ∀ a, (k0_off100 v0 v13 v26 v39 v52 v65 v78 v91 v104 v117 v130 v143 v156 v169 v182 v195 v208 v221 v234 v247 v260 v273 v286 v299 v312) a + S1x56x768.size a ≤ S4x56x768.size a := fun v0 v13 v26 v39 v52 v65 v78 v91 v104 v117 v130 v143 v156 v169 v182 v195 v208 v221 v234 v247 v260 v273 v286 v299 v312 v325 k0_hw25 k0_h52 => k0_hw25.2.2.2.2 k0_h52

def k0_off101 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let v5738 : Index := Scalar.indexCast v336
  ![v5738.toNat]
def k0_cond53 (v338 : BitVec 32) : BitVec 1 :=
  let c0_i32_160 : BitVec 32 := 0#32
  let v339 : BitVec 1 := Scalar.cmpi .sgt v338 c0_i32_160
  let v340 : BitVec 32 := Scalar.extui v339
  let c0_i32_161 : BitVec 32 := 0#32
  let v341 : BitVec 1 := Scalar.cmpi .ne v340 c0_i32_161
  v341

def k0_off102 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  ![v336.toNat]
def k0_cond54 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : BitVec 1 :=
  let c0_i32_162 : BitVec 32 := 0#32
  let v342 : BitVec 1 := Scalar.cmpi .sgt v338 c0_i32_162
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c4_i32_163 : BitVec 32 := 4#32
  let v343 : BitVec 1 := Scalar.cmpi .slt v336 c4_i32_163
  let v344 : BitVec 1 := Scalar.andi v342 v343
  let v345 : BitVec 32 := Scalar.extui v344
  let c0_i32_164 : BitVec 32 := 0#32
  let v346 : BitVec 1 := Scalar.cmpi .ne v345 c0_i32_164
  v346

def k0_off103 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_1922 : BitVec 32 := 0#32
  let c0_i32_1923 : BitVec 32 := 0#32
  ![v336.toNat, 0, 0]
def k0_off104 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_1927 : BitVec 32 := 0#32
  let c0_i32_1928 : BitVec 32 := 0#32
  ![v336.toNat, 0, 0]

def k0_chk26 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : Prop :=
  (∀ (k0_h53 : k0_cond53 v338 = 1#1), ∀ a, (k0_off101 v0 v13 v26 v39 v52 v65 v78 v91 v104 v117 v130 v143 v156 v169 v182 v195 v208 v221 v234 v247 v260 v273 v286 v299 v312 v325) a + S1.size a ≤ S33.size a) ∧
  (∀ (k0_h54 : k0_cond54 v0 v13 v26 v39 v52 v65 v78 v91 v104 v117 v130 v143 v156 v169 v182 v195 v208 v221 v234 v247 v260 v273 v286 v299 v312 v325 v338 = 1#1), ∀ a, (k0_off102 v0 v13 v26 v39 v52 v65 v78 v91 v104 v117 v130 v143 v156 v169 v182 v195 v208 v221 v234 v247 v260 v273 v286 v299 v312 v325) a + S1.size a ≤ S4.size a) ∧
  (∀ (k0_h54 : k0_cond54 v0 v13 v26 v39 v52 v65 v78 v91 v104 v117 v130 v143 v156 v169 v182 v195 v208 v221 v234 v247 v260 v273 v286 v299 v312 v325 v338 = 1#1), ∀ a, (k0_off103 v0 v13 v26 v39 v52 v65 v78 v91 v104 v117 v130 v143 v156 v169 v182 v195 v208 v221 v234 v247 v260 v273 v286 v299 v312 v325) a + S1x3584x768.size a ≤ S4x3584x768.size a) ∧
  (∀ (k0_h54 : k0_cond54 v0 v13 v26 v39 v52 v65 v78 v91 v104 v117 v130 v143 v156 v169 v182 v195 v208 v221 v234 v247 v260 v273 v286 v299 v312 v325 v338 = 1#1), ∀ (hinb : ∀ a, (k0_off103 v0 v13 v26 v39 v52 v65 v78 v91 v104 v117 v130 v143 v156 v169 v182 v195 v208 v221 v234 v247 v260 v273 v286 v299 v312 v325) a + S1x3584x768.size a ≤ S4x3584x768.size a), (Rect.unit (s := S4x3584x768) (k0_off103 v0 v13 v26 v39 v52 v65 v78 v91 v104 v117 v130 v143 v156 v169 v182 v195 v208 v221 v234 v247 v260 v273 v286 v299 v312 v325) S1x3584x768.size hinb).WholeWords (EltTy.packing .i8)) ∧
  (∀ (k0_h54 : k0_cond54 v0 v13 v26 v39 v52 v65 v78 v91 v104 v117 v130 v143 v156 v169 v182 v195 v208 v221 v234 v247 v260 v273 v286 v299 v312 v325 v338 = 1#1), ∀ a, (k0_off104 v0 v13 v26 v39 v52 v65 v78 v91 v104 v117 v130 v143 v156 v169 v182 v195 v208 v221 v234 v247 v260 v273 v286 v299 v312 v325) a + S1x56x768.size a ≤ S4x56x768.size a)
theorem k0_off101_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (k0_hw26 : k0_chk26 v0 v13 v26 v39 v52 v65 v78 v91 v104 v117 v130 v143 v156 v169 v182 v195 v208 v221 v234 v247 v260 v273 v286 v299 v312 v325 v338), ∀ (k0_h53 : k0_cond53 v338 = 1#1), ∀ a, (k0_off101 v0 v13 v26 v39 v52 v65 v78 v91 v104 v117 v130 v143 v156 v169 v182 v195 v208 v221 v234 v247 v260 v273 v286 v299 v312 v325) a + S1.size a ≤ S33.size a := fun v0 v13 v26 v39 v52 v65 v78 v91 v104 v117 v130 v143 v156 v169 v182 v195 v208 v221 v234 v247 v260 v273 v286 v299 v312 v325 v338 k0_hw26 k0_h53 => k0_hw26.1 k0_h53
theorem k0_off102_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (k0_hw26 : k0_chk26 v0 v13 v26 v39 v52 v65 v78 v91 v104 v117 v130 v143 v156 v169 v182 v195 v208 v221 v234 v247 v260 v273 v286 v299 v312 v325 v338), ∀ (k0_h54 : k0_cond54 v0 v13 v26 v39 v52 v65 v78 v91 v104 v117 v130 v143 v156 v169 v182 v195 v208 v221 v234 v247 v260 v273 v286 v299 v312 v325 v338 = 1#1), ∀ a, (k0_off102 v0 v13 v26 v39 v52 v65 v78 v91 v104 v117 v130 v143 v156 v169 v182 v195 v208 v221 v234 v247 v260 v273 v286 v299 v312 v325) a + S1.size a ≤ S4.size a := fun v0 v13 v26 v39 v52 v65 v78 v91 v104 v117 v130 v143 v156 v169 v182 v195 v208 v221 v234 v247 v260 v273 v286 v299 v312 v325 v338 k0_hw26 k0_h54 => k0_hw26.2.1 k0_h54
theorem k0_off103_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (k0_hw26 : k0_chk26 v0 v13 v26 v39 v52 v65 v78 v91 v104 v117 v130 v143 v156 v169 v182 v195 v208 v221 v234 v247 v260 v273 v286 v299 v312 v325 v338), ∀ (k0_h54 : k0_cond54 v0 v13 v26 v39 v52 v65 v78 v91 v104 v117 v130 v143 v156 v169 v182 v195 v208 v221 v234 v247 v260 v273 v286 v299 v312 v325 v338 = 1#1), ∀ a, (k0_off103 v0 v13 v26 v39 v52 v65 v78 v91 v104 v117 v130 v143 v156 v169 v182 v195 v208 v221 v234 v247 v260 v273 v286 v299 v312 v325) a + S1x3584x768.size a ≤ S4x3584x768.size a := fun v0 v13 v26 v39 v52 v65 v78 v91 v104 v117 v130 v143 v156 v169 v182 v195 v208 v221 v234 v247 v260 v273 v286 v299 v312 v325 v338 k0_hw26 k0_h54 => k0_hw26.2.2.1 k0_h54
theorem k0_off103_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (k0_hw26 : k0_chk26 v0 v13 v26 v39 v52 v65 v78 v91 v104 v117 v130 v143 v156 v169 v182 v195 v208 v221 v234 v247 v260 v273 v286 v299 v312 v325 v338), ∀ (k0_h54 : k0_cond54 v0 v13 v26 v39 v52 v65 v78 v91 v104 v117 v130 v143 v156 v169 v182 v195 v208 v221 v234 v247 v260 v273 v286 v299 v312 v325 v338 = 1#1), (Rect.unit (s := S4x3584x768) (k0_off103 v0 v13 v26 v39 v52 v65 v78 v91 v104 v117 v130 v143 v156 v169 v182 v195 v208 v221 v234 v247 v260 v273 v286 v299 v312 v325) S1x3584x768.size (k0_off103_inb v0 v13 v26 v39 v52 v65 v78 v91 v104 v117 v130 v143 v156 v169 v182 v195 v208 v221 v234 v247 v260 v273 v286 v299 v312 v325 v338 k0_hw26 k0_h54)).WholeWords (EltTy.packing .i8) := fun v0 v13 v26 v39 v52 v65 v78 v91 v104 v117 v130 v143 v156 v169 v182 v195 v208 v221 v234 v247 v260 v273 v286 v299 v312 v325 v338 k0_hw26 k0_h54 => k0_hw26.2.2.2.1 k0_h54 (k0_off103_inb v0 v13 v26 v39 v52 v65 v78 v91 v104 v117 v130 v143 v156 v169 v182 v195 v208 v221 v234 v247 v260 v273 v286 v299 v312 v325 v338 k0_hw26 k0_h54)
theorem k0_off104_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (k0_hw26 : k0_chk26 v0 v13 v26 v39 v52 v65 v78 v91 v104 v117 v130 v143 v156 v169 v182 v195 v208 v221 v234 v247 v260 v273 v286 v299 v312 v325 v338), ∀ (k0_h54 : k0_cond54 v0 v13 v26 v39 v52 v65 v78 v91 v104 v117 v130 v143 v156 v169 v182 v195 v208 v221 v234 v247 v260 v273 v286 v299 v312 v325 v338 = 1#1), ∀ a, (k0_off104 v0 v13 v26 v39 v52 v65 v78 v91 v104 v117 v130 v143 v156 v169 v182 v195 v208 v221 v234 v247 v260 v273 v286 v299 v312 v325) a + S1x56x768.size a ≤ S4x56x768.size a := fun v0 v13 v26 v39 v52 v65 v78 v91 v104 v117 v130 v143 v156 v169 v182 v195 v208 v221 v234 v247 v260 v273 v286 v299 v312 v325 v338 k0_hw26 k0_h54 => k0_hw26.2.2.2.2 k0_h54

def k0_off105 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let v5738 : Index := Scalar.indexCast v349
  ![v5738.toNat]
def k0_cond55 (v351 : BitVec 32) : BitVec 1 :=
  let c0_i32_166 : BitVec 32 := 0#32
  let v352 : BitVec 1 := Scalar.cmpi .sgt v351 c0_i32_166
  let v353 : BitVec 32 := Scalar.extui v352
  let c0_i32_167 : BitVec 32 := 0#32
  let v354 : BitVec 1 := Scalar.cmpi .ne v353 c0_i32_167
  v354

def k0_off106 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  ![v349.toNat]
def k0_cond56 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : BitVec 1 :=
  let c0_i32_168 : BitVec 32 := 0#32
  let v355 : BitVec 1 := Scalar.cmpi .sgt v351 c0_i32_168
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c4_i32_169 : BitVec 32 := 4#32
  let v356 : BitVec 1 := Scalar.cmpi .slt v349 c4_i32_169
  let v357 : BitVec 1 := Scalar.andi v355 v356
  let v358 : BitVec 32 := Scalar.extui v357
  let c0_i32_170 : BitVec 32 := 0#32
  let v359 : BitVec 1 := Scalar.cmpi .ne v358 c0_i32_170
  v359

def k0_off107 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_1922 : BitVec 32 := 0#32
  let c0_i32_1923 : BitVec 32 := 0#32
  ![v349.toNat, 0, 0]
def k0_off108 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_1927 : BitVec 32 := 0#32
  let c0_i32_1928 : BitVec 32 := 0#32
  ![v349.toNat, 0, 0]

def k0_chk27 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : Prop :=
  (∀ (k0_h55 : k0_cond55 v351 = 1#1), ∀ a, (k0_off105 v0 v13 v26 v39 v52 v65 v78 v91 v104 v117 v130 v143 v156 v169 v182 v195 v208 v221 v234 v247 v260 v273 v286 v299 v312 v325 v338) a + S1.size a ≤ S33.size a) ∧
  (∀ (k0_h56 : k0_cond56 v0 v13 v26 v39 v52 v65 v78 v91 v104 v117 v130 v143 v156 v169 v182 v195 v208 v221 v234 v247 v260 v273 v286 v299 v312 v325 v338 v351 = 1#1), ∀ a, (k0_off106 v0 v13 v26 v39 v52 v65 v78 v91 v104 v117 v130 v143 v156 v169 v182 v195 v208 v221 v234 v247 v260 v273 v286 v299 v312 v325 v338) a + S1.size a ≤ S4.size a) ∧
  (∀ (k0_h56 : k0_cond56 v0 v13 v26 v39 v52 v65 v78 v91 v104 v117 v130 v143 v156 v169 v182 v195 v208 v221 v234 v247 v260 v273 v286 v299 v312 v325 v338 v351 = 1#1), ∀ a, (k0_off107 v0 v13 v26 v39 v52 v65 v78 v91 v104 v117 v130 v143 v156 v169 v182 v195 v208 v221 v234 v247 v260 v273 v286 v299 v312 v325 v338) a + S1x3584x768.size a ≤ S4x3584x768.size a) ∧
  (∀ (k0_h56 : k0_cond56 v0 v13 v26 v39 v52 v65 v78 v91 v104 v117 v130 v143 v156 v169 v182 v195 v208 v221 v234 v247 v260 v273 v286 v299 v312 v325 v338 v351 = 1#1), ∀ (hinb : ∀ a, (k0_off107 v0 v13 v26 v39 v52 v65 v78 v91 v104 v117 v130 v143 v156 v169 v182 v195 v208 v221 v234 v247 v260 v273 v286 v299 v312 v325 v338) a + S1x3584x768.size a ≤ S4x3584x768.size a), (Rect.unit (s := S4x3584x768) (k0_off107 v0 v13 v26 v39 v52 v65 v78 v91 v104 v117 v130 v143 v156 v169 v182 v195 v208 v221 v234 v247 v260 v273 v286 v299 v312 v325 v338) S1x3584x768.size hinb).WholeWords (EltTy.packing .i8)) ∧
  (∀ (k0_h56 : k0_cond56 v0 v13 v26 v39 v52 v65 v78 v91 v104 v117 v130 v143 v156 v169 v182 v195 v208 v221 v234 v247 v260 v273 v286 v299 v312 v325 v338 v351 = 1#1), ∀ a, (k0_off108 v0 v13 v26 v39 v52 v65 v78 v91 v104 v117 v130 v143 v156 v169 v182 v195 v208 v221 v234 v247 v260 v273 v286 v299 v312 v325 v338) a + S1x56x768.size a ≤ S4x56x768.size a)
theorem k0_off105_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (k0_hw27 : k0_chk27 v0 v13 v26 v39 v52 v65 v78 v91 v104 v117 v130 v143 v156 v169 v182 v195 v208 v221 v234 v247 v260 v273 v286 v299 v312 v325 v338 v351), ∀ (k0_h55 : k0_cond55 v351 = 1#1), ∀ a, (k0_off105 v0 v13 v26 v39 v52 v65 v78 v91 v104 v117 v130 v143 v156 v169 v182 v195 v208 v221 v234 v247 v260 v273 v286 v299 v312 v325 v338) a + S1.size a ≤ S33.size a := fun v0 v13 v26 v39 v52 v65 v78 v91 v104 v117 v130 v143 v156 v169 v182 v195 v208 v221 v234 v247 v260 v273 v286 v299 v312 v325 v338 v351 k0_hw27 k0_h55 => k0_hw27.1 k0_h55
theorem k0_off106_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (k0_hw27 : k0_chk27 v0 v13 v26 v39 v52 v65 v78 v91 v104 v117 v130 v143 v156 v169 v182 v195 v208 v221 v234 v247 v260 v273 v286 v299 v312 v325 v338 v351), ∀ (k0_h56 : k0_cond56 v0 v13 v26 v39 v52 v65 v78 v91 v104 v117 v130 v143 v156 v169 v182 v195 v208 v221 v234 v247 v260 v273 v286 v299 v312 v325 v338 v351 = 1#1), ∀ a, (k0_off106 v0 v13 v26 v39 v52 v65 v78 v91 v104 v117 v130 v143 v156 v169 v182 v195 v208 v221 v234 v247 v260 v273 v286 v299 v312 v325 v338) a + S1.size a ≤ S4.size a := fun v0 v13 v26 v39 v52 v65 v78 v91 v104 v117 v130 v143 v156 v169 v182 v195 v208 v221 v234 v247 v260 v273 v286 v299 v312 v325 v338 v351 k0_hw27 k0_h56 => k0_hw27.2.1 k0_h56
theorem k0_off107_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (k0_hw27 : k0_chk27 v0 v13 v26 v39 v52 v65 v78 v91 v104 v117 v130 v143 v156 v169 v182 v195 v208 v221 v234 v247 v260 v273 v286 v299 v312 v325 v338 v351), ∀ (k0_h56 : k0_cond56 v0 v13 v26 v39 v52 v65 v78 v91 v104 v117 v130 v143 v156 v169 v182 v195 v208 v221 v234 v247 v260 v273 v286 v299 v312 v325 v338 v351 = 1#1), ∀ a, (k0_off107 v0 v13 v26 v39 v52 v65 v78 v91 v104 v117 v130 v143 v156 v169 v182 v195 v208 v221 v234 v247 v260 v273 v286 v299 v312 v325 v338) a + S1x3584x768.size a ≤ S4x3584x768.size a := fun v0 v13 v26 v39 v52 v65 v78 v91 v104 v117 v130 v143 v156 v169 v182 v195 v208 v221 v234 v247 v260 v273 v286 v299 v312 v325 v338 v351 k0_hw27 k0_h56 => k0_hw27.2.2.1 k0_h56
theorem k0_off107_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (k0_hw27 : k0_chk27 v0 v13 v26 v39 v52 v65 v78 v91 v104 v117 v130 v143 v156 v169 v182 v195 v208 v221 v234 v247 v260 v273 v286 v299 v312 v325 v338 v351), ∀ (k0_h56 : k0_cond56 v0 v13 v26 v39 v52 v65 v78 v91 v104 v117 v130 v143 v156 v169 v182 v195 v208 v221 v234 v247 v260 v273 v286 v299 v312 v325 v338 v351 = 1#1), (Rect.unit (s := S4x3584x768) (k0_off107 v0 v13 v26 v39 v52 v65 v78 v91 v104 v117 v130 v143 v156 v169 v182 v195 v208 v221 v234 v247 v260 v273 v286 v299 v312 v325 v338) S1x3584x768.size (k0_off107_inb v0 v13 v26 v39 v52 v65 v78 v91 v104 v117 v130 v143 v156 v169 v182 v195 v208 v221 v234 v247 v260 v273 v286 v299 v312 v325 v338 v351 k0_hw27 k0_h56)).WholeWords (EltTy.packing .i8) := fun v0 v13 v26 v39 v52 v65 v78 v91 v104 v117 v130 v143 v156 v169 v182 v195 v208 v221 v234 v247 v260 v273 v286 v299 v312 v325 v338 v351 k0_hw27 k0_h56 => k0_hw27.2.2.2.1 k0_h56 (k0_off107_inb v0 v13 v26 v39 v52 v65 v78 v91 v104 v117 v130 v143 v156 v169 v182 v195 v208 v221 v234 v247 v260 v273 v286 v299 v312 v325 v338 v351 k0_hw27 k0_h56)
theorem k0_off108_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (k0_hw27 : k0_chk27 v0 v13 v26 v39 v52 v65 v78 v91 v104 v117 v130 v143 v156 v169 v182 v195 v208 v221 v234 v247 v260 v273 v286 v299 v312 v325 v338 v351), ∀ (k0_h56 : k0_cond56 v0 v13 v26 v39 v52 v65 v78 v91 v104 v117 v130 v143 v156 v169 v182 v195 v208 v221 v234 v247 v260 v273 v286 v299 v312 v325 v338 v351 = 1#1), ∀ a, (k0_off108 v0 v13 v26 v39 v52 v65 v78 v91 v104 v117 v130 v143 v156 v169 v182 v195 v208 v221 v234 v247 v260 v273 v286 v299 v312 v325 v338) a + S1x56x768.size a ≤ S4x56x768.size a := fun v0 v13 v26 v39 v52 v65 v78 v91 v104 v117 v130 v143 v156 v169 v182 v195 v208 v221 v234 v247 v260 v273 v286 v299 v312 v325 v338 v351 k0_hw27 k0_h56 => k0_hw27.2.2.2.2 k0_h56

def k0_off109 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let v5738 : Index := Scalar.indexCast v362
  ![v5738.toNat]
def k0_cond57 (v364 : BitVec 32) : BitVec 1 :=
  let c0_i32_172 : BitVec 32 := 0#32
  let v365 : BitVec 1 := Scalar.cmpi .sgt v364 c0_i32_172
  let v366 : BitVec 32 := Scalar.extui v365
  let c0_i32_173 : BitVec 32 := 0#32
  let v367 : BitVec 1 := Scalar.cmpi .ne v366 c0_i32_173
  v367

def k0_off110 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  ![v362.toNat]
def k0_cond58 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : BitVec 1 :=
  let c0_i32_174 : BitVec 32 := 0#32
  let v368 : BitVec 1 := Scalar.cmpi .sgt v364 c0_i32_174
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c4_i32_175 : BitVec 32 := 4#32
  let v369 : BitVec 1 := Scalar.cmpi .slt v362 c4_i32_175
  let v370 : BitVec 1 := Scalar.andi v368 v369
  let v371 : BitVec 32 := Scalar.extui v370
  let c0_i32_176 : BitVec 32 := 0#32
  let v372 : BitVec 1 := Scalar.cmpi .ne v371 c0_i32_176
  v372

def k0_off111 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_1922 : BitVec 32 := 0#32
  let c0_i32_1923 : BitVec 32 := 0#32
  ![v362.toNat, 0, 0]
def k0_off112 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_1927 : BitVec 32 := 0#32
  let c0_i32_1928 : BitVec 32 := 0#32
  ![v362.toNat, 0, 0]

def k0_chk28 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : Prop :=
  (∀ (k0_h57 : k0_cond57 v364 = 1#1), ∀ a, (k0_off109 v0 v13 v26 v39 v52 v65 v78 v91 v104 v117 v130 v143 v156 v169 v182 v195 v208 v221 v234 v247 v260 v273 v286 v299 v312 v325 v338 v351) a + S1.size a ≤ S33.size a) ∧
  (∀ (k0_h58 : k0_cond58 v0 v13 v26 v39 v52 v65 v78 v91 v104 v117 v130 v143 v156 v169 v182 v195 v208 v221 v234 v247 v260 v273 v286 v299 v312 v325 v338 v351 v364 = 1#1), ∀ a, (k0_off110 v0 v13 v26 v39 v52 v65 v78 v91 v104 v117 v130 v143 v156 v169 v182 v195 v208 v221 v234 v247 v260 v273 v286 v299 v312 v325 v338 v351) a + S1.size a ≤ S4.size a) ∧
  (∀ (k0_h58 : k0_cond58 v0 v13 v26 v39 v52 v65 v78 v91 v104 v117 v130 v143 v156 v169 v182 v195 v208 v221 v234 v247 v260 v273 v286 v299 v312 v325 v338 v351 v364 = 1#1), ∀ a, (k0_off111 v0 v13 v26 v39 v52 v65 v78 v91 v104 v117 v130 v143 v156 v169 v182 v195 v208 v221 v234 v247 v260 v273 v286 v299 v312 v325 v338 v351) a + S1x3584x768.size a ≤ S4x3584x768.size a) ∧
  (∀ (k0_h58 : k0_cond58 v0 v13 v26 v39 v52 v65 v78 v91 v104 v117 v130 v143 v156 v169 v182 v195 v208 v221 v234 v247 v260 v273 v286 v299 v312 v325 v338 v351 v364 = 1#1), ∀ (hinb : ∀ a, (k0_off111 v0 v13 v26 v39 v52 v65 v78 v91 v104 v117 v130 v143 v156 v169 v182 v195 v208 v221 v234 v247 v260 v273 v286 v299 v312 v325 v338 v351) a + S1x3584x768.size a ≤ S4x3584x768.size a), (Rect.unit (s := S4x3584x768) (k0_off111 v0 v13 v26 v39 v52 v65 v78 v91 v104 v117 v130 v143 v156 v169 v182 v195 v208 v221 v234 v247 v260 v273 v286 v299 v312 v325 v338 v351) S1x3584x768.size hinb).WholeWords (EltTy.packing .i8)) ∧
  (∀ (k0_h58 : k0_cond58 v0 v13 v26 v39 v52 v65 v78 v91 v104 v117 v130 v143 v156 v169 v182 v195 v208 v221 v234 v247 v260 v273 v286 v299 v312 v325 v338 v351 v364 = 1#1), ∀ a, (k0_off112 v0 v13 v26 v39 v52 v65 v78 v91 v104 v117 v130 v143 v156 v169 v182 v195 v208 v221 v234 v247 v260 v273 v286 v299 v312 v325 v338 v351) a + S1x56x768.size a ≤ S4x56x768.size a)
theorem k0_off109_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (k0_hw28 : k0_chk28 v0 v13 v26 v39 v52 v65 v78 v91 v104 v117 v130 v143 v156 v169 v182 v195 v208 v221 v234 v247 v260 v273 v286 v299 v312 v325 v338 v351 v364), ∀ (k0_h57 : k0_cond57 v364 = 1#1), ∀ a, (k0_off109 v0 v13 v26 v39 v52 v65 v78 v91 v104 v117 v130 v143 v156 v169 v182 v195 v208 v221 v234 v247 v260 v273 v286 v299 v312 v325 v338 v351) a + S1.size a ≤ S33.size a := fun v0 v13 v26 v39 v52 v65 v78 v91 v104 v117 v130 v143 v156 v169 v182 v195 v208 v221 v234 v247 v260 v273 v286 v299 v312 v325 v338 v351 v364 k0_hw28 k0_h57 => k0_hw28.1 k0_h57
theorem k0_off110_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (k0_hw28 : k0_chk28 v0 v13 v26 v39 v52 v65 v78 v91 v104 v117 v130 v143 v156 v169 v182 v195 v208 v221 v234 v247 v260 v273 v286 v299 v312 v325 v338 v351 v364), ∀ (k0_h58 : k0_cond58 v0 v13 v26 v39 v52 v65 v78 v91 v104 v117 v130 v143 v156 v169 v182 v195 v208 v221 v234 v247 v260 v273 v286 v299 v312 v325 v338 v351 v364 = 1#1), ∀ a, (k0_off110 v0 v13 v26 v39 v52 v65 v78 v91 v104 v117 v130 v143 v156 v169 v182 v195 v208 v221 v234 v247 v260 v273 v286 v299 v312 v325 v338 v351) a + S1.size a ≤ S4.size a := fun v0 v13 v26 v39 v52 v65 v78 v91 v104 v117 v130 v143 v156 v169 v182 v195 v208 v221 v234 v247 v260 v273 v286 v299 v312 v325 v338 v351 v364 k0_hw28 k0_h58 => k0_hw28.2.1 k0_h58
theorem k0_off111_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (k0_hw28 : k0_chk28 v0 v13 v26 v39 v52 v65 v78 v91 v104 v117 v130 v143 v156 v169 v182 v195 v208 v221 v234 v247 v260 v273 v286 v299 v312 v325 v338 v351 v364), ∀ (k0_h58 : k0_cond58 v0 v13 v26 v39 v52 v65 v78 v91 v104 v117 v130 v143 v156 v169 v182 v195 v208 v221 v234 v247 v260 v273 v286 v299 v312 v325 v338 v351 v364 = 1#1), ∀ a, (k0_off111 v0 v13 v26 v39 v52 v65 v78 v91 v104 v117 v130 v143 v156 v169 v182 v195 v208 v221 v234 v247 v260 v273 v286 v299 v312 v325 v338 v351) a + S1x3584x768.size a ≤ S4x3584x768.size a := fun v0 v13 v26 v39 v52 v65 v78 v91 v104 v117 v130 v143 v156 v169 v182 v195 v208 v221 v234 v247 v260 v273 v286 v299 v312 v325 v338 v351 v364 k0_hw28 k0_h58 => k0_hw28.2.2.1 k0_h58
theorem k0_off111_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (k0_hw28 : k0_chk28 v0 v13 v26 v39 v52 v65 v78 v91 v104 v117 v130 v143 v156 v169 v182 v195 v208 v221 v234 v247 v260 v273 v286 v299 v312 v325 v338 v351 v364), ∀ (k0_h58 : k0_cond58 v0 v13 v26 v39 v52 v65 v78 v91 v104 v117 v130 v143 v156 v169 v182 v195 v208 v221 v234 v247 v260 v273 v286 v299 v312 v325 v338 v351 v364 = 1#1), (Rect.unit (s := S4x3584x768) (k0_off111 v0 v13 v26 v39 v52 v65 v78 v91 v104 v117 v130 v143 v156 v169 v182 v195 v208 v221 v234 v247 v260 v273 v286 v299 v312 v325 v338 v351) S1x3584x768.size (k0_off111_inb v0 v13 v26 v39 v52 v65 v78 v91 v104 v117 v130 v143 v156 v169 v182 v195 v208 v221 v234 v247 v260 v273 v286 v299 v312 v325 v338 v351 v364 k0_hw28 k0_h58)).WholeWords (EltTy.packing .i8) := fun v0 v13 v26 v39 v52 v65 v78 v91 v104 v117 v130 v143 v156 v169 v182 v195 v208 v221 v234 v247 v260 v273 v286 v299 v312 v325 v338 v351 v364 k0_hw28 k0_h58 => k0_hw28.2.2.2.1 k0_h58 (k0_off111_inb v0 v13 v26 v39 v52 v65 v78 v91 v104 v117 v130 v143 v156 v169 v182 v195 v208 v221 v234 v247 v260 v273 v286 v299 v312 v325 v338 v351 v364 k0_hw28 k0_h58)
theorem k0_off112_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (k0_hw28 : k0_chk28 v0 v13 v26 v39 v52 v65 v78 v91 v104 v117 v130 v143 v156 v169 v182 v195 v208 v221 v234 v247 v260 v273 v286 v299 v312 v325 v338 v351 v364), ∀ (k0_h58 : k0_cond58 v0 v13 v26 v39 v52 v65 v78 v91 v104 v117 v130 v143 v156 v169 v182 v195 v208 v221 v234 v247 v260 v273 v286 v299 v312 v325 v338 v351 v364 = 1#1), ∀ a, (k0_off112 v0 v13 v26 v39 v52 v65 v78 v91 v104 v117 v130 v143 v156 v169 v182 v195 v208 v221 v234 v247 v260 v273 v286 v299 v312 v325 v338 v351) a + S1x56x768.size a ≤ S4x56x768.size a := fun v0 v13 v26 v39 v52 v65 v78 v91 v104 v117 v130 v143 v156 v169 v182 v195 v208 v221 v234 v247 v260 v273 v286 v299 v312 v325 v338 v351 v364 k0_hw28 k0_h58 => k0_hw28.2.2.2.2 k0_h58

def k0_off113 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let v5738 : Index := Scalar.indexCast v375
  ![v5738.toNat]
def k0_cond59 (v377 : BitVec 32) : BitVec 1 :=
  let c0_i32_178 : BitVec 32 := 0#32
  let v378 : BitVec 1 := Scalar.cmpi .sgt v377 c0_i32_178
  let v379 : BitVec 32 := Scalar.extui v378
  let c0_i32_179 : BitVec 32 := 0#32
  let v380 : BitVec 1 := Scalar.cmpi .ne v379 c0_i32_179
  v380

def k0_off114 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  ![v375.toNat]
def k0_cond60 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : BitVec 1 :=
  let c0_i32_180 : BitVec 32 := 0#32
  let v381 : BitVec 1 := Scalar.cmpi .sgt v377 c0_i32_180
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c4_i32_181 : BitVec 32 := 4#32
  let v382 : BitVec 1 := Scalar.cmpi .slt v375 c4_i32_181
  let v383 : BitVec 1 := Scalar.andi v381 v382
  let v384 : BitVec 32 := Scalar.extui v383
  let c0_i32_182 : BitVec 32 := 0#32
  let v385 : BitVec 1 := Scalar.cmpi .ne v384 c0_i32_182
  v385

def k0_off115 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_1922 : BitVec 32 := 0#32
  let c0_i32_1923 : BitVec 32 := 0#32
  ![v375.toNat, 0, 0]
def k0_off116 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_1927 : BitVec 32 := 0#32
  let c0_i32_1928 : BitVec 32 := 0#32
  ![v375.toNat, 0, 0]

def k0_chk29 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : Prop :=
  (∀ (k0_h59 : k0_cond59 v377 = 1#1), ∀ a, (k0_off113 v0 v13 v26 v39 v52 v65 v78 v91 v104 v117 v130 v143 v156 v169 v182 v195 v208 v221 v234 v247 v260 v273 v286 v299 v312 v325 v338 v351 v364) a + S1.size a ≤ S33.size a) ∧
  (∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off114 v0 v13 v26 v39 v52 v65 v78 v91 v104 v117 v130 v143 v156 v169 v182 v195 v208 v221 v234 v247 v260 v273 v286 v299 v312 v325 v338 v351 v364) a + S1.size a ≤ S4.size a) ∧
  (∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off115 v0 v13 v26 v39 v52 v65 v78 v91 v104 v117 v130 v143 v156 v169 v182 v195 v208 v221 v234 v247 v260 v273 v286 v299 v312 v325 v338 v351 v364) a + S1x3584x768.size a ≤ S4x3584x768.size a) ∧
  (∀ (k0_h60 : k0_cond60 v0 v13 v26 v39 v52 v65 v78 v91 v104 v117 v130 v143 v156 v169 v182 v195 v208 v221 v234 v247 v260 v273 v286 v299 v312 v325 v338 v351 v364 v377 = 1#1), ∀ (hinb : ∀ a, (k0_off115 v0 v13 v26 v39 v52 v65 v78 v91 v104 v117 v130 v143 v156 v169 v182 v195 v208 v221 v234 v247 v260 v273 v286 v299 v312 v325 v338 v351 v364) a + S1x3584x768.size a ≤ S4x3584x768.size a), (Rect.unit (s := S4x3584x768) (k0_off115 v0 v13 v26 v39 v52 v65 v78 v91 v104 v117 v130 v143 v156 v169 v182 v195 v208 v221 v234 v247 v260 v273 v286 v299 v312 v325 v338 v351 v364) S1x3584x768.size hinb).WholeWords (EltTy.packing .i8)) ∧
  (∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off116 v0 v13 v26 v39 v52 v65 v78 v91 v104 v117 v130 v143 v156 v169 v182 v195 v208 v221 v234 v247 v260 v273 v286 v299 v312 v325 v338 v351 v364) a + S1x56x768.size a ≤ S4x56x768.size a)
theorem k0_off113_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (k0_hw29 : k0_chk29 v0 v13 v26 v39 v52 v65 v78 v91 v104 v117 v130 v143 v156 v169 v182 v195 v208 v221 v234 v247 v260 v273 v286 v299 v312 v325 v338 v351 v364 v377), ∀ (k0_h59 : k0_cond59 v377 = 1#1), ∀ a, (k0_off113 v0 v13 v26 v39 v52 v65 v78 v91 v104 v117 v130 v143 v156 v169 v182 v195 v208 v221 v234 v247 v260 v273 v286 v299 v312 v325 v338 v351 v364) a + S1.size a ≤ S33.size a := fun v0 v13 v26 v39 v52 v65 v78 v91 v104 v117 v130 v143 v156 v169 v182 v195 v208 v221 v234 v247 v260 v273 v286 v299 v312 v325 v338 v351 v364 v377 k0_hw29 k0_h59 => k0_hw29.1 k0_h59
theorem k0_off114_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (k0_hw29 : k0_chk29 v0 v13 v26 v39 v52 v65 v78 v91 v104 v117 v130 v143 v156 v169 v182 v195 v208 v221 v234 v247 v260 v273 v286 v299 v312 v325 v338 v351 v364 v377), ∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off114 v0 v13 v26 v39 v52 v65 v78 v91 v104 v117 v130 v143 v156 v169 v182 v195 v208 v221 v234 v247 v260 v273 v286 v299 v312 v325 v338 v351 v364) a + S1.size a ≤ S4.size a := fun v0 v13 v26 v39 v52 v65 v78 v91 v104 v117 v130 v143 v156 v169 v182 v195 v208 v221 v234 v247 v260 v273 v286 v299 v312 v325 v338 v351 v364 v377 k0_hw29 k0_h60 => k0_hw29.2.1 k0_h60
theorem k0_off115_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (k0_hw29 : k0_chk29 v0 v13 v26 v39 v52 v65 v78 v91 v104 v117 v130 v143 v156 v169 v182 v195 v208 v221 v234 v247 v260 v273 v286 v299 v312 v325 v338 v351 v364 v377), ∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off115 v0 v13 v26 v39 v52 v65 v78 v91 v104 v117 v130 v143 v156 v169 v182 v195 v208 v221 v234 v247 v260 v273 v286 v299 v312 v325 v338 v351 v364) a + S1x3584x768.size a ≤ S4x3584x768.size a := fun v0 v13 v26 v39 v52 v65 v78 v91 v104 v117 v130 v143 v156 v169 v182 v195 v208 v221 v234 v247 v260 v273 v286 v299 v312 v325 v338 v351 v364 v377 k0_hw29 k0_h60 => k0_hw29.2.2.1 k0_h60
theorem k0_off115_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (k0_hw29 : k0_chk29 v0 v13 v26 v39 v52 v65 v78 v91 v104 v117 v130 v143 v156 v169 v182 v195 v208 v221 v234 v247 v260 v273 v286 v299 v312 v325 v338 v351 v364 v377), ∀ (k0_h60 : k0_cond60 v0 v13 v26 v39 v52 v65 v78 v91 v104 v117 v130 v143 v156 v169 v182 v195 v208 v221 v234 v247 v260 v273 v286 v299 v312 v325 v338 v351 v364 v377 = 1#1), (Rect.unit (s := S4x3584x768) (k0_off115 v0 v13 v26 v39 v52 v65 v78 v91 v104 v117 v130 v143 v156 v169 v182 v195 v208 v221 v234 v247 v260 v273 v286 v299 v312 v325 v338 v351 v364) S1x3584x768.size (k0_off115_inb v0 v13 v26 v39 v52 v65 v78 v91 v104 v117 v130 v143 v156 v169 v182 v195 v208 v221 v234 v247 v260 v273 v286 v299 v312 v325 v338 v351 v364 v377 k0_hw29 k0_h60)).WholeWords (EltTy.packing .i8) := fun v0 v13 v26 v39 v52 v65 v78 v91 v104 v117 v130 v143 v156 v169 v182 v195 v208 v221 v234 v247 v260 v273 v286 v299 v312 v325 v338 v351 v364 v377 k0_hw29 k0_h60 => k0_hw29.2.2.2.1 k0_h60 (k0_off115_inb v0 v13 v26 v39 v52 v65 v78 v91 v104 v117 v130 v143 v156 v169 v182 v195 v208 v221 v234 v247 v260 v273 v286 v299 v312 v325 v338 v351 v364 v377 k0_hw29 k0_h60)
theorem k0_off116_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (k0_hw29 : k0_chk29 v0 v13 v26 v39 v52 v65 v78 v91 v104 v117 v130 v143 v156 v169 v182 v195 v208 v221 v234 v247 v260 v273 v286 v299 v312 v325 v338 v351 v364 v377), ∀ (k0_h60 : k0_cond60 v0 v13 v26 v39 v52 v65 v78 v91 v104 v117 v130 v143 v156 v169 v182 v195 v208 v221 v234 v247 v260 v273 v286 v299 v312 v325 v338 v351 v364 v377 = 1#1), ∀ a, (k0_off116 v0 v13 v26 v39 v52 v65 v78 v91 v104 v117 v130 v143 v156 v169 v182 v195 v208 v221 v234 v247 v260 v273 v286 v299 v312 v325 v338 v351 v364) a + S1x56x768.size a ≤ S4x56x768.size a := fun v0 v13 v26 v39 v52 v65 v78 v91 v104 v117 v130 v143 v156 v169 v182 v195 v208 v221 v234 v247 v260 v273 v286 v299 v312 v325 v338 v351 v364 v377 k0_hw29 k0_h60 => k0_hw29.2.2.2.2 k0_h60

def k0_off117 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let v5738 : Index := Scalar.indexCast v388
  ![v5738.toNat]
def k0_cond61 (v390 : BitVec 32) : BitVec 1 :=
  let c0_i32_184 : BitVec 32 := 0#32
  let v391 : BitVec 1 := Scalar.cmpi .sgt v390 c0_i32_184
  let v392 : BitVec 32 := Scalar.extui v391
  let c0_i32_185 : BitVec 32 := 0#32
  let v393 : BitVec 1 := Scalar.cmpi .ne v392 c0_i32_185
  v393

def k0_off118 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  ![v388.toNat]
def k0_cond62 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : BitVec 1 :=
  let c0_i32_186 : BitVec 32 := 0#32
  let v394 : BitVec 1 := Scalar.cmpi .sgt v390 c0_i32_186
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c4_i32_187 : BitVec 32 := 4#32
  let v395 : BitVec 1 := Scalar.cmpi .slt v388 c4_i32_187
  let v396 : BitVec 1 := Scalar.andi v394 v395
  let v397 : BitVec 32 := Scalar.extui v396
  let c0_i32_188 : BitVec 32 := 0#32
  let v398 : BitVec 1 := Scalar.cmpi .ne v397 c0_i32_188
  v398

def k0_off119 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_1922 : BitVec 32 := 0#32
  let c0_i32_1923 : BitVec 32 := 0#32
  ![v388.toNat, 0, 0]
def k0_off120 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_1927 : BitVec 32 := 0#32
  let c0_i32_1928 : BitVec 32 := 0#32
  ![v388.toNat, 0, 0]

def k0_chk30 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : Prop :=
  (∀ (k0_h61 : k0_cond61 v390 = 1#1), ∀ a, (k0_off117 v0 v13 v26 v39 v52 v65 v78 v91 v104 v117 v130 v143 v156 v169 v182 v195 v208 v221 v234 v247 v260 v273 v286 v299 v312 v325 v338 v351 v364 v377) a + S1.size a ≤ S33.size a) ∧
  (∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off118 v0 v13 v26 v39 v52 v65 v78 v91 v104 v117 v130 v143 v156 v169 v182 v195 v208 v221 v234 v247 v260 v273 v286 v299 v312 v325 v338 v351 v364 v377) a + S1.size a ≤ S4.size a) ∧
  (∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off119 v0 v13 v26 v39 v52 v65 v78 v91 v104 v117 v130 v143 v156 v169 v182 v195 v208 v221 v234 v247 v260 v273 v286 v299 v312 v325 v338 v351 v364 v377) a + S1x3584x768.size a ≤ S4x3584x768.size a) ∧
  (∀ (k0_h62 : k0_cond62 v0 v13 v26 v39 v52 v65 v78 v91 v104 v117 v130 v143 v156 v169 v182 v195 v208 v221 v234 v247 v260 v273 v286 v299 v312 v325 v338 v351 v364 v377 v390 = 1#1), ∀ (hinb : ∀ a, (k0_off119 v0 v13 v26 v39 v52 v65 v78 v91 v104 v117 v130 v143 v156 v169 v182 v195 v208 v221 v234 v247 v260 v273 v286 v299 v312 v325 v338 v351 v364 v377) a + S1x3584x768.size a ≤ S4x3584x768.size a), (Rect.unit (s := S4x3584x768) (k0_off119 v0 v13 v26 v39 v52 v65 v78 v91 v104 v117 v130 v143 v156 v169 v182 v195 v208 v221 v234 v247 v260 v273 v286 v299 v312 v325 v338 v351 v364 v377) S1x3584x768.size hinb).WholeWords (EltTy.packing .i8)) ∧
  (∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off120 v0 v13 v26 v39 v52 v65 v78 v91 v104 v117 v130 v143 v156 v169 v182 v195 v208 v221 v234 v247 v260 v273 v286 v299 v312 v325 v338 v351 v364 v377) a + S1x56x768.size a ≤ S4x56x768.size a)
theorem k0_off117_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (k0_hw30 : k0_chk30 v0 v13 v26 v39 v52 v65 v78 v91 v104 v117 v130 v143 v156 v169 v182 v195 v208 v221 v234 v247 v260 v273 v286 v299 v312 v325 v338 v351 v364 v377 v390), ∀ (k0_h61 : k0_cond61 v390 = 1#1), ∀ a, (k0_off117 v0 v13 v26 v39 v52 v65 v78 v91 v104 v117 v130 v143 v156 v169 v182 v195 v208 v221 v234 v247 v260 v273 v286 v299 v312 v325 v338 v351 v364 v377) a + S1.size a ≤ S33.size a := fun v0 v13 v26 v39 v52 v65 v78 v91 v104 v117 v130 v143 v156 v169 v182 v195 v208 v221 v234 v247 v260 v273 v286 v299 v312 v325 v338 v351 v364 v377 v390 k0_hw30 k0_h61 => k0_hw30.1 k0_h61
theorem k0_off118_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (k0_hw30 : k0_chk30 v0 v13 v26 v39 v52 v65 v78 v91 v104 v117 v130 v143 v156 v169 v182 v195 v208 v221 v234 v247 v260 v273 v286 v299 v312 v325 v338 v351 v364 v377 v390), ∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off118 v0 v13 v26 v39 v52 v65 v78 v91 v104 v117 v130 v143 v156 v169 v182 v195 v208 v221 v234 v247 v260 v273 v286 v299 v312 v325 v338 v351 v364 v377) a + S1.size a ≤ S4.size a := fun v0 v13 v26 v39 v52 v65 v78 v91 v104 v117 v130 v143 v156 v169 v182 v195 v208 v221 v234 v247 v260 v273 v286 v299 v312 v325 v338 v351 v364 v377 v390 k0_hw30 k0_h62 => k0_hw30.2.1 k0_h62
theorem k0_off119_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (k0_hw30 : k0_chk30 v0 v13 v26 v39 v52 v65 v78 v91 v104 v117 v130 v143 v156 v169 v182 v195 v208 v221 v234 v247 v260 v273 v286 v299 v312 v325 v338 v351 v364 v377 v390), ∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off119 v0 v13 v26 v39 v52 v65 v78 v91 v104 v117 v130 v143 v156 v169 v182 v195 v208 v221 v234 v247 v260 v273 v286 v299 v312 v325 v338 v351 v364 v377) a + S1x3584x768.size a ≤ S4x3584x768.size a := fun v0 v13 v26 v39 v52 v65 v78 v91 v104 v117 v130 v143 v156 v169 v182 v195 v208 v221 v234 v247 v260 v273 v286 v299 v312 v325 v338 v351 v364 v377 v390 k0_hw30 k0_h62 => k0_hw30.2.2.1 k0_h62
theorem k0_off119_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (k0_hw30 : k0_chk30 v0 v13 v26 v39 v52 v65 v78 v91 v104 v117 v130 v143 v156 v169 v182 v195 v208 v221 v234 v247 v260 v273 v286 v299 v312 v325 v338 v351 v364 v377 v390), ∀ (k0_h62 : k0_cond62 v0 v13 v26 v39 v52 v65 v78 v91 v104 v117 v130 v143 v156 v169 v182 v195 v208 v221 v234 v247 v260 v273 v286 v299 v312 v325 v338 v351 v364 v377 v390 = 1#1), (Rect.unit (s := S4x3584x768) (k0_off119 v0 v13 v26 v39 v52 v65 v78 v91 v104 v117 v130 v143 v156 v169 v182 v195 v208 v221 v234 v247 v260 v273 v286 v299 v312 v325 v338 v351 v364 v377) S1x3584x768.size (k0_off119_inb v0 v13 v26 v39 v52 v65 v78 v91 v104 v117 v130 v143 v156 v169 v182 v195 v208 v221 v234 v247 v260 v273 v286 v299 v312 v325 v338 v351 v364 v377 v390 k0_hw30 k0_h62)).WholeWords (EltTy.packing .i8) := fun v0 v13 v26 v39 v52 v65 v78 v91 v104 v117 v130 v143 v156 v169 v182 v195 v208 v221 v234 v247 v260 v273 v286 v299 v312 v325 v338 v351 v364 v377 v390 k0_hw30 k0_h62 => k0_hw30.2.2.2.1 k0_h62 (k0_off119_inb v0 v13 v26 v39 v52 v65 v78 v91 v104 v117 v130 v143 v156 v169 v182 v195 v208 v221 v234 v247 v260 v273 v286 v299 v312 v325 v338 v351 v364 v377 v390 k0_hw30 k0_h62)
theorem k0_off120_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (k0_hw30 : k0_chk30 v0 v13 v26 v39 v52 v65 v78 v91 v104 v117 v130 v143 v156 v169 v182 v195 v208 v221 v234 v247 v260 v273 v286 v299 v312 v325 v338 v351 v364 v377 v390), ∀ (k0_h62 : k0_cond62 v0 v13 v26 v39 v52 v65 v78 v91 v104 v117 v130 v143 v156 v169 v182 v195 v208 v221 v234 v247 v260 v273 v286 v299 v312 v325 v338 v351 v364 v377 v390 = 1#1), ∀ a, (k0_off120 v0 v13 v26 v39 v52 v65 v78 v91 v104 v117 v130 v143 v156 v169 v182 v195 v208 v221 v234 v247 v260 v273 v286 v299 v312 v325 v338 v351 v364 v377) a + S1x56x768.size a ≤ S4x56x768.size a := fun v0 v13 v26 v39 v52 v65 v78 v91 v104 v117 v130 v143 v156 v169 v182 v195 v208 v221 v234 v247 v260 v273 v286 v299 v312 v325 v338 v351 v364 v377 v390 k0_hw30 k0_h62 => k0_hw30.2.2.2.2 k0_h62

def k0_off121 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let v5738 : Index := Scalar.indexCast v401
  ![v5738.toNat]
def k0_cond63 (v403 : BitVec 32) : BitVec 1 :=
  let c0_i32_190 : BitVec 32 := 0#32
  let v404 : BitVec 1 := Scalar.cmpi .sgt v403 c0_i32_190
  let v405 : BitVec 32 := Scalar.extui v404
  let c0_i32_191 : BitVec 32 := 0#32
  let v406 : BitVec 1 := Scalar.cmpi .ne v405 c0_i32_191
  v406

def k0_off122 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  ![v401.toNat]
def k0_cond64 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : BitVec 1 :=
  let c0_i32_192 : BitVec 32 := 0#32
  let v407 : BitVec 1 := Scalar.cmpi .sgt v403 c0_i32_192
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c4_i32_193 : BitVec 32 := 4#32
  let v408 : BitVec 1 := Scalar.cmpi .slt v401 c4_i32_193
  let v409 : BitVec 1 := Scalar.andi v407 v408
  let v410 : BitVec 32 := Scalar.extui v409
  let c0_i32_194 : BitVec 32 := 0#32
  let v411 : BitVec 1 := Scalar.cmpi .ne v410 c0_i32_194
  v411

def k0_off123 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_1922 : BitVec 32 := 0#32
  let c0_i32_1923 : BitVec 32 := 0#32
  ![v401.toNat, 0, 0]
def k0_off124 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) : Fin 3 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_1927 : BitVec 32 := 0#32
  let c0_i32_1928 : BitVec 32 := 0#32
  ![v401.toNat, 0, 0]
def k0_off125 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Fin 1 → Nat :=
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v416 : Index := Scalar.indexCast v414
  ![v416.toNat]
@[reducible] def k0_t1_loop (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Scf.Loop 32 :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1925_r0 : BitVec 32 := 1#32
  ⟨c0_i32_1923_r0, v5748_r0, c1_i32_1925_r0⟩
def k0_off126 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let v5765_r0 : Index := Scalar.indexCast arg14_r0
  ![v5765_r0.toNat]
def k0_off127 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  ![v5764_r0.toNat]
def k0_off128 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let c0_i32_1934_r0 : BitVec 32 := 0#32
  let c0_i32_1935_r0 : BitVec 32 := 0#32
  ![v5764_r0.toNat, 0, 0]
def k0_off129 (v5766_r0 : BitVec 32) : Fin 3 → Nat :=
  let c0_i32_1936_r0 : BitVec 32 := 0#32
  let c0_i32_1937_r0 : BitVec 32 := 0#32
  ![v5766_r0.toNat, 0, 0]

def k0_off130 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  ![v5764_r0.toNat]
def k0_off131 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let c0_i32_1938_r0 : BitVec 32 := 0#32
  let c0_i32_1939_r0 : BitVec 32 := 0#32
  ![v5764_r0.toNat, 0, 0]
def k0_off132 (v5766_r0 : BitVec 32) : Fin 3 → Nat :=
  let c0_i32_1940_r0 : BitVec 32 := 0#32
  let c0_i32_1941_r0 : BitVec 32 := 0#32
  ![v5766_r0.toNat, 0, 0]

def k0_chk32 (v5766_r0 : BitVec 32) : Prop :=
  (∀ a, (k0_off129 v5766_r0) a + S1x3584x768.size a ≤ S32x3584x768.size a) ∧
  (∀ (hinb : ∀ a, (k0_off129 v5766_r0) a + S1x3584x768.size a ≤ S32x3584x768.size a), (Rect.unit (s := S32x3584x768) (k0_off129 v5766_r0) S1x3584x768.size hinb).WholeWords (EltTy.packing .i8)) ∧
  (∀ a, (k0_off132 v5766_r0) a + S1x56x768.size a ≤ S32x56x768.size a)
theorem k0_off129_inb : ∀ (v5766_r0 : BitVec 32) (k0_hw32 : k0_chk32 v5766_r0), ∀ a, (k0_off129 v5766_r0) a + S1x3584x768.size a ≤ S32x3584x768.size a := fun v5766_r0 k0_hw32 => k0_hw32.1
theorem k0_off129_wordsi8 : ∀ (v5766_r0 : BitVec 32) (k0_hw32 : k0_chk32 v5766_r0), (Rect.unit (s := S32x3584x768) (k0_off129 v5766_r0) S1x3584x768.size (k0_off129_inb v5766_r0 k0_hw32)).WholeWords (EltTy.packing .i8) := fun v5766_r0 k0_hw32 => k0_hw32.2.1 (k0_off129_inb v5766_r0 k0_hw32)
theorem k0_off132_inb : ∀ (v5766_r0 : BitVec 32) (k0_hw32 : k0_chk32 v5766_r0), ∀ a, (k0_off132 v5766_r0) a + S1x56x768.size a ≤ S32x56x768.size a := fun v5766_r0 k0_hw32 => k0_hw32.2.2

def k0_off133 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let v5780_r0 : Index := Scalar.indexCast arg14_r0
  ![v5780_r0.toNat]
def k0_off134 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c1_i32_1942_r0 : BitVec 32 := 1#32
  let v5784_r0 : BitVec 32 := Scalar.addi arg14_r0 c1_i32_1942_r0
  let v5785_r0 : Index := Scalar.indexCast v5784_r0
  ![v5785_r0.toNat]
def k0_off135 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5790_r0 : Index := Scalar.indexCast v5764_r0
  let c0_1943_r0 : Index := 0#32
  let c0_1944_r0 : Index := 0#32
  ![v5790_r0.toNat, 0, 0]
def k0_off136 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5809_r0 : Index := Scalar.indexCast v5764_r0
  let c0_1948_r0 : Index := 0#32
  let c0_1949_r0 : Index := 0#32
  ![v5809_r0.toNat, 0, 0]
def k0_off137 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5817_r0 : Index := Scalar.indexCast v5764_r0
  let c1_1950_r0 : Index := 1#32
  let c0_1951_r0 : Index := 0#32
  ![v5817_r0.toNat, 1, 0]
def k0_off138 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5826_r0 : Index := Scalar.indexCast v5764_r0
  let c0_1952_r0 : Index := 0#32
  let c256_1953_r0 : Index := 256#32
  ![v5826_r0.toNat, 0, 256]
def k0_off139 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5845_r0 : Index := Scalar.indexCast v5764_r0
  let c0_1958_r0 : Index := 0#32
  let c256_1959_r0 : Index := 256#32
  ![v5845_r0.toNat, 0, 256]
def k0_off140 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5853_r0 : Index := Scalar.indexCast v5764_r0
  let c1_1960_r0 : Index := 1#32
  let c256_1961_r0 : Index := 256#32
  ![v5853_r0.toNat, 1, 256]
def k0_off141 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5862_r0 : Index := Scalar.indexCast v5764_r0
  let c0_1962_r0 : Index := 0#32
  let c512_1963_r0 : Index := 512#32
  ![v5862_r0.toNat, 0, 512]
def k0_off142 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5881_r0 : Index := Scalar.indexCast v5764_r0
  let c0_1968_r0 : Index := 0#32
  let c512_1969_r0 : Index := 512#32
  ![v5881_r0.toNat, 0, 512]
def k0_off143 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5889_r0 : Index := Scalar.indexCast v5764_r0
  let c1_1970_r0 : Index := 1#32
  let c512_1971_r0 : Index := 512#32
  ![v5889_r0.toNat, 1, 512]
def k0_off144 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5902_r0 : Index := Scalar.indexCast v5764_r0
  let c128_1975_r0 : Index := 128#32
  let c0_1976_r0 : Index := 0#32
  ![v5902_r0.toNat, 128, 0]
def k0_off145 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5921_r0 : Index := Scalar.indexCast v5764_r0
  let c2_1981_r0 : Index := 2#32
  let c0_1982_r0 : Index := 0#32
  ![v5921_r0.toNat, 2, 0]
def k0_off146 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5929_r0 : Index := Scalar.indexCast v5764_r0
  let c3_1983_r0 : Index := 3#32
  let c0_1984_r0 : Index := 0#32
  ![v5929_r0.toNat, 3, 0]
def k0_off147 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5942_r0 : Index := Scalar.indexCast v5764_r0
  let c128_1988_r0 : Index := 128#32
  let c256_1989_r0 : Index := 256#32
  ![v5942_r0.toNat, 128, 256]
def k0_off148 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5961_r0 : Index := Scalar.indexCast v5764_r0
  let c2_1994_r0 : Index := 2#32
  let c256_1995_r0 : Index := 256#32
  ![v5961_r0.toNat, 2, 256]
def k0_off149 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5969_r0 : Index := Scalar.indexCast v5764_r0
  let c3_1996_r0 : Index := 3#32
  let c256_1997_r0 : Index := 256#32
  ![v5969_r0.toNat, 3, 256]
def k0_off150 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v5982_r0 : Index := Scalar.indexCast v5764_r0
  let c128_2001_r0 : Index := 128#32
  let c512_2002_r0 : Index := 512#32
  ![v5982_r0.toNat, 128, 512]
def k0_off151 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6001_r0 : Index := Scalar.indexCast v5764_r0
  let c2_2007_r0 : Index := 2#32
  let c512_2008_r0 : Index := 512#32
  ![v6001_r0.toNat, 2, 512]
def k0_off152 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6009_r0 : Index := Scalar.indexCast v5764_r0
  let c3_2009_r0 : Index := 3#32
  let c512_2010_r0 : Index := 512#32
  ![v6009_r0.toNat, 3, 512]
def k0_off153 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6022_r0 : Index := Scalar.indexCast v5764_r0
  let c256_2014_r0 : Index := 256#32
  let c0_2015_r0 : Index := 0#32
  ![v6022_r0.toNat, 256, 0]
def k0_off154 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6041_r0 : Index := Scalar.indexCast v5764_r0
  let c4_2020_r0 : Index := 4#32
  let c0_2021_r0 : Index := 0#32
  ![v6041_r0.toNat, 4, 0]
def k0_off155 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6049_r0 : Index := Scalar.indexCast v5764_r0
  let c5_2022_r0 : Index := 5#32
  let c0_2023_r0 : Index := 0#32
  ![v6049_r0.toNat, 5, 0]
def k0_off156 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6062_r0 : Index := Scalar.indexCast v5764_r0
  let c256_2027_r0 : Index := 256#32
  let c256_2028_r0 : Index := 256#32
  ![v6062_r0.toNat, 256, 256]
def k0_off157 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6081_r0 : Index := Scalar.indexCast v5764_r0
  let c4_2033_r0 : Index := 4#32
  let c256_2034_r0 : Index := 256#32
  ![v6081_r0.toNat, 4, 256]
def k0_off158 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6089_r0 : Index := Scalar.indexCast v5764_r0
  let c5_2035_r0 : Index := 5#32
  let c256_2036_r0 : Index := 256#32
  ![v6089_r0.toNat, 5, 256]
def k0_off159 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6102_r0 : Index := Scalar.indexCast v5764_r0
  let c256_2040_r0 : Index := 256#32
  let c512_2041_r0 : Index := 512#32
  ![v6102_r0.toNat, 256, 512]
def k0_off160 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6121_r0 : Index := Scalar.indexCast v5764_r0
  let c4_2046_r0 : Index := 4#32
  let c512_2047_r0 : Index := 512#32
  ![v6121_r0.toNat, 4, 512]
def k0_off161 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6129_r0 : Index := Scalar.indexCast v5764_r0
  let c5_2048_r0 : Index := 5#32
  let c512_2049_r0 : Index := 512#32
  ![v6129_r0.toNat, 5, 512]
def k0_off162 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6142_r0 : Index := Scalar.indexCast v5764_r0
  let c384_2053_r0 : Index := 384#32
  let c0_2054_r0 : Index := 0#32
  ![v6142_r0.toNat, 384, 0]
def k0_off163 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6161_r0 : Index := Scalar.indexCast v5764_r0
  let c6_2059_r0 : Index := 6#32
  let c0_2060_r0 : Index := 0#32
  ![v6161_r0.toNat, 6, 0]
def k0_off164 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6169_r0 : Index := Scalar.indexCast v5764_r0
  let c7_2061_r0 : Index := 7#32
  let c0_2062_r0 : Index := 0#32
  ![v6169_r0.toNat, 7, 0]
def k0_off165 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6182_r0 : Index := Scalar.indexCast v5764_r0
  let c384_2066_r0 : Index := 384#32
  let c256_2067_r0 : Index := 256#32
  ![v6182_r0.toNat, 384, 256]
def k0_off166 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6201_r0 : Index := Scalar.indexCast v5764_r0
  let c6_2072_r0 : Index := 6#32
  let c256_2073_r0 : Index := 256#32
  ![v6201_r0.toNat, 6, 256]
def k0_off167 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6209_r0 : Index := Scalar.indexCast v5764_r0
  let c7_2074_r0 : Index := 7#32
  let c256_2075_r0 : Index := 256#32
  ![v6209_r0.toNat, 7, 256]
def k0_off168 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6222_r0 : Index := Scalar.indexCast v5764_r0
  let c384_2079_r0 : Index := 384#32
  let c512_2080_r0 : Index := 512#32
  ![v6222_r0.toNat, 384, 512]
def k0_off169 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6241_r0 : Index := Scalar.indexCast v5764_r0
  let c6_2085_r0 : Index := 6#32
  let c512_2086_r0 : Index := 512#32
  ![v6241_r0.toNat, 6, 512]
def k0_off170 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6249_r0 : Index := Scalar.indexCast v5764_r0
  let c7_2087_r0 : Index := 7#32
  let c512_2088_r0 : Index := 512#32
  ![v6249_r0.toNat, 7, 512]
def k0_off171 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6262_r0 : Index := Scalar.indexCast v5764_r0
  let c512_2092_r0 : Index := 512#32
  let c0_2093_r0 : Index := 0#32
  ![v6262_r0.toNat, 512, 0]
def k0_off172 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6281_r0 : Index := Scalar.indexCast v5764_r0
  let c8_2098_r0 : Index := 8#32
  let c0_2099_r0 : Index := 0#32
  ![v6281_r0.toNat, 8, 0]
def k0_off173 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6289_r0 : Index := Scalar.indexCast v5764_r0
  let c9_2100_r0 : Index := 9#32
  let c0_2101_r0 : Index := 0#32
  ![v6289_r0.toNat, 9, 0]
def k0_off174 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6302_r0 : Index := Scalar.indexCast v5764_r0
  let c512_2105_r0 : Index := 512#32
  let c256_2106_r0 : Index := 256#32
  ![v6302_r0.toNat, 512, 256]
def k0_off175 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6321_r0 : Index := Scalar.indexCast v5764_r0
  let c8_2111_r0 : Index := 8#32
  let c256_2112_r0 : Index := 256#32
  ![v6321_r0.toNat, 8, 256]
def k0_off176 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6329_r0 : Index := Scalar.indexCast v5764_r0
  let c9_2113_r0 : Index := 9#32
  let c256_2114_r0 : Index := 256#32
  ![v6329_r0.toNat, 9, 256]
def k0_off177 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6342_r0 : Index := Scalar.indexCast v5764_r0
  let c512_2118_r0 : Index := 512#32
  let c512_2119_r0 : Index := 512#32
  ![v6342_r0.toNat, 512, 512]
def k0_off178 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6361_r0 : Index := Scalar.indexCast v5764_r0
  let c8_2124_r0 : Index := 8#32
  let c512_2125_r0 : Index := 512#32
  ![v6361_r0.toNat, 8, 512]
def k0_off179 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6369_r0 : Index := Scalar.indexCast v5764_r0
  let c9_2126_r0 : Index := 9#32
  let c512_2127_r0 : Index := 512#32
  ![v6369_r0.toNat, 9, 512]
def k0_off180 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6382_r0 : Index := Scalar.indexCast v5764_r0
  let c640_2131_r0 : Index := 640#32
  let c0_2132_r0 : Index := 0#32
  ![v6382_r0.toNat, 640, 0]
def k0_off181 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6401_r0 : Index := Scalar.indexCast v5764_r0
  let c10_2137_r0 : Index := 10#32
  let c0_2138_r0 : Index := 0#32
  ![v6401_r0.toNat, 10, 0]
def k0_off182 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6409_r0 : Index := Scalar.indexCast v5764_r0
  let c11_2139_r0 : Index := 11#32
  let c0_2140_r0 : Index := 0#32
  ![v6409_r0.toNat, 11, 0]
def k0_off183 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6422_r0 : Index := Scalar.indexCast v5764_r0
  let c640_2144_r0 : Index := 640#32
  let c256_2145_r0 : Index := 256#32
  ![v6422_r0.toNat, 640, 256]
def k0_off184 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6441_r0 : Index := Scalar.indexCast v5764_r0
  let c10_2150_r0 : Index := 10#32
  let c256_2151_r0 : Index := 256#32
  ![v6441_r0.toNat, 10, 256]
def k0_off185 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6449_r0 : Index := Scalar.indexCast v5764_r0
  let c11_2152_r0 : Index := 11#32
  let c256_2153_r0 : Index := 256#32
  ![v6449_r0.toNat, 11, 256]
def k0_off186 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6462_r0 : Index := Scalar.indexCast v5764_r0
  let c640_2157_r0 : Index := 640#32
  let c512_2158_r0 : Index := 512#32
  ![v6462_r0.toNat, 640, 512]
def k0_off187 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6481_r0 : Index := Scalar.indexCast v5764_r0
  let c10_2163_r0 : Index := 10#32
  let c512_2164_r0 : Index := 512#32
  ![v6481_r0.toNat, 10, 512]
def k0_off188 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6489_r0 : Index := Scalar.indexCast v5764_r0
  let c11_2165_r0 : Index := 11#32
  let c512_2166_r0 : Index := 512#32
  ![v6489_r0.toNat, 11, 512]
def k0_off189 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6502_r0 : Index := Scalar.indexCast v5764_r0
  let c768_2170_r0 : Index := 768#32
  let c0_2171_r0 : Index := 0#32
  ![v6502_r0.toNat, 768, 0]
def k0_off190 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6521_r0 : Index := Scalar.indexCast v5764_r0
  let c12_2176_r0 : Index := 12#32
  let c0_2177_r0 : Index := 0#32
  ![v6521_r0.toNat, 12, 0]
def k0_off191 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6529_r0 : Index := Scalar.indexCast v5764_r0
  let c13_2178_r0 : Index := 13#32
  let c0_2179_r0 : Index := 0#32
  ![v6529_r0.toNat, 13, 0]
def k0_off192 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6542_r0 : Index := Scalar.indexCast v5764_r0
  let c768_2183_r0 : Index := 768#32
  let c256_2184_r0 : Index := 256#32
  ![v6542_r0.toNat, 768, 256]
def k0_off193 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6561_r0 : Index := Scalar.indexCast v5764_r0
  let c12_2189_r0 : Index := 12#32
  let c256_2190_r0 : Index := 256#32
  ![v6561_r0.toNat, 12, 256]
def k0_off194 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6569_r0 : Index := Scalar.indexCast v5764_r0
  let c13_2191_r0 : Index := 13#32
  let c256_2192_r0 : Index := 256#32
  ![v6569_r0.toNat, 13, 256]
def k0_off195 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6582_r0 : Index := Scalar.indexCast v5764_r0
  let c768_2196_r0 : Index := 768#32
  let c512_2197_r0 : Index := 512#32
  ![v6582_r0.toNat, 768, 512]
def k0_off196 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6601_r0 : Index := Scalar.indexCast v5764_r0
  let c12_2202_r0 : Index := 12#32
  let c512_2203_r0 : Index := 512#32
  ![v6601_r0.toNat, 12, 512]
def k0_off197 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6609_r0 : Index := Scalar.indexCast v5764_r0
  let c13_2204_r0 : Index := 13#32
  let c512_2205_r0 : Index := 512#32
  ![v6609_r0.toNat, 13, 512]
def k0_off198 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6622_r0 : Index := Scalar.indexCast v5764_r0
  let c896_2209_r0 : Index := 896#32
  let c0_2210_r0 : Index := 0#32
  ![v6622_r0.toNat, 896, 0]
def k0_off199 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6641_r0 : Index := Scalar.indexCast v5764_r0
  let c14_2215_r0 : Index := 14#32
  let c0_2216_r0 : Index := 0#32
  ![v6641_r0.toNat, 14, 0]
def k0_off200 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6649_r0 : Index := Scalar.indexCast v5764_r0
  let c15_2217_r0 : Index := 15#32
  let c0_2218_r0 : Index := 0#32
  ![v6649_r0.toNat, 15, 0]
def k0_off201 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6662_r0 : Index := Scalar.indexCast v5764_r0
  let c896_2222_r0 : Index := 896#32
  let c256_2223_r0 : Index := 256#32
  ![v6662_r0.toNat, 896, 256]
def k0_off202 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6681_r0 : Index := Scalar.indexCast v5764_r0
  let c14_2228_r0 : Index := 14#32
  let c256_2229_r0 : Index := 256#32
  ![v6681_r0.toNat, 14, 256]
def k0_off203 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6689_r0 : Index := Scalar.indexCast v5764_r0
  let c15_2230_r0 : Index := 15#32
  let c256_2231_r0 : Index := 256#32
  ![v6689_r0.toNat, 15, 256]
def k0_off204 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6702_r0 : Index := Scalar.indexCast v5764_r0
  let c896_2235_r0 : Index := 896#32
  let c512_2236_r0 : Index := 512#32
  ![v6702_r0.toNat, 896, 512]
def k0_off205 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6721_r0 : Index := Scalar.indexCast v5764_r0
  let c14_2241_r0 : Index := 14#32
  let c512_2242_r0 : Index := 512#32
  ![v6721_r0.toNat, 14, 512]
def k0_off206 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6729_r0 : Index := Scalar.indexCast v5764_r0
  let c15_2243_r0 : Index := 15#32
  let c512_2244_r0 : Index := 512#32
  ![v6729_r0.toNat, 15, 512]
def k0_off207 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6742_r0 : Index := Scalar.indexCast v5764_r0
  let c1024_2248_r0 : Index := 1024#32
  let c0_2249_r0 : Index := 0#32
  ![v6742_r0.toNat, 1024, 0]
def k0_off208 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6761_r0 : Index := Scalar.indexCast v5764_r0
  let c16_2254_r0 : Index := 16#32
  let c0_2255_r0 : Index := 0#32
  ![v6761_r0.toNat, 16, 0]
def k0_off209 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6769_r0 : Index := Scalar.indexCast v5764_r0
  let c17_2256_r0 : Index := 17#32
  let c0_2257_r0 : Index := 0#32
  ![v6769_r0.toNat, 17, 0]
def k0_off210 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6782_r0 : Index := Scalar.indexCast v5764_r0
  let c1024_2261_r0 : Index := 1024#32
  let c256_2262_r0 : Index := 256#32
  ![v6782_r0.toNat, 1024, 256]
def k0_off211 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6801_r0 : Index := Scalar.indexCast v5764_r0
  let c16_2267_r0 : Index := 16#32
  let c256_2268_r0 : Index := 256#32
  ![v6801_r0.toNat, 16, 256]
def k0_off212 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6809_r0 : Index := Scalar.indexCast v5764_r0
  let c17_2269_r0 : Index := 17#32
  let c256_2270_r0 : Index := 256#32
  ![v6809_r0.toNat, 17, 256]
def k0_off213 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6822_r0 : Index := Scalar.indexCast v5764_r0
  let c1024_2274_r0 : Index := 1024#32
  let c512_2275_r0 : Index := 512#32
  ![v6822_r0.toNat, 1024, 512]
def k0_off214 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6841_r0 : Index := Scalar.indexCast v5764_r0
  let c16_2280_r0 : Index := 16#32
  let c512_2281_r0 : Index := 512#32
  ![v6841_r0.toNat, 16, 512]
def k0_off215 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6849_r0 : Index := Scalar.indexCast v5764_r0
  let c17_2282_r0 : Index := 17#32
  let c512_2283_r0 : Index := 512#32
  ![v6849_r0.toNat, 17, 512]
def k0_off216 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6862_r0 : Index := Scalar.indexCast v5764_r0
  let c1152_2287_r0 : Index := 1152#32
  let c0_2288_r0 : Index := 0#32
  ![v6862_r0.toNat, 1152, 0]
def k0_off217 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6881_r0 : Index := Scalar.indexCast v5764_r0
  let c18_2293_r0 : Index := 18#32
  let c0_2294_r0 : Index := 0#32
  ![v6881_r0.toNat, 18, 0]
def k0_off218 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6889_r0 : Index := Scalar.indexCast v5764_r0
  let c19_2295_r0 : Index := 19#32
  let c0_2296_r0 : Index := 0#32
  ![v6889_r0.toNat, 19, 0]
def k0_off219 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6902_r0 : Index := Scalar.indexCast v5764_r0
  let c1152_2300_r0 : Index := 1152#32
  let c256_2301_r0 : Index := 256#32
  ![v6902_r0.toNat, 1152, 256]
def k0_off220 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6921_r0 : Index := Scalar.indexCast v5764_r0
  let c18_2306_r0 : Index := 18#32
  let c256_2307_r0 : Index := 256#32
  ![v6921_r0.toNat, 18, 256]
def k0_off221 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6929_r0 : Index := Scalar.indexCast v5764_r0
  let c19_2308_r0 : Index := 19#32
  let c256_2309_r0 : Index := 256#32
  ![v6929_r0.toNat, 19, 256]
def k0_off222 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6942_r0 : Index := Scalar.indexCast v5764_r0
  let c1152_2313_r0 : Index := 1152#32
  let c512_2314_r0 : Index := 512#32
  ![v6942_r0.toNat, 1152, 512]
def k0_off223 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6961_r0 : Index := Scalar.indexCast v5764_r0
  let c18_2319_r0 : Index := 18#32
  let c512_2320_r0 : Index := 512#32
  ![v6961_r0.toNat, 18, 512]
def k0_off224 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6969_r0 : Index := Scalar.indexCast v5764_r0
  let c19_2321_r0 : Index := 19#32
  let c512_2322_r0 : Index := 512#32
  ![v6969_r0.toNat, 19, 512]
def k0_off225 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v6982_r0 : Index := Scalar.indexCast v5764_r0
  let c1280_2326_r0 : Index := 1280#32
  let c0_2327_r0 : Index := 0#32
  ![v6982_r0.toNat, 1280, 0]
def k0_off226 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7001_r0 : Index := Scalar.indexCast v5764_r0
  let c20_2332_r0 : Index := 20#32
  let c0_2333_r0 : Index := 0#32
  ![v7001_r0.toNat, 20, 0]
def k0_off227 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7009_r0 : Index := Scalar.indexCast v5764_r0
  let c21_2334_r0 : Index := 21#32
  let c0_2335_r0 : Index := 0#32
  ![v7009_r0.toNat, 21, 0]
def k0_off228 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7022_r0 : Index := Scalar.indexCast v5764_r0
  let c1280_2339_r0 : Index := 1280#32
  let c256_2340_r0 : Index := 256#32
  ![v7022_r0.toNat, 1280, 256]
def k0_off229 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7041_r0 : Index := Scalar.indexCast v5764_r0
  let c20_2345_r0 : Index := 20#32
  let c256_2346_r0 : Index := 256#32
  ![v7041_r0.toNat, 20, 256]
def k0_off230 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7049_r0 : Index := Scalar.indexCast v5764_r0
  let c21_2347_r0 : Index := 21#32
  let c256_2348_r0 : Index := 256#32
  ![v7049_r0.toNat, 21, 256]
def k0_off231 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7062_r0 : Index := Scalar.indexCast v5764_r0
  let c1280_2352_r0 : Index := 1280#32
  let c512_2353_r0 : Index := 512#32
  ![v7062_r0.toNat, 1280, 512]
def k0_off232 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7081_r0 : Index := Scalar.indexCast v5764_r0
  let c20_2358_r0 : Index := 20#32
  let c512_2359_r0 : Index := 512#32
  ![v7081_r0.toNat, 20, 512]
def k0_off233 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7089_r0 : Index := Scalar.indexCast v5764_r0
  let c21_2360_r0 : Index := 21#32
  let c512_2361_r0 : Index := 512#32
  ![v7089_r0.toNat, 21, 512]
def k0_off234 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7102_r0 : Index := Scalar.indexCast v5764_r0
  let c1408_2365_r0 : Index := 1408#32
  let c0_2366_r0 : Index := 0#32
  ![v7102_r0.toNat, 1408, 0]
def k0_off235 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7121_r0 : Index := Scalar.indexCast v5764_r0
  let c22_2371_r0 : Index := 22#32
  let c0_2372_r0 : Index := 0#32
  ![v7121_r0.toNat, 22, 0]
def k0_off236 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7129_r0 : Index := Scalar.indexCast v5764_r0
  let c23_2373_r0 : Index := 23#32
  let c0_2374_r0 : Index := 0#32
  ![v7129_r0.toNat, 23, 0]
def k0_off237 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7142_r0 : Index := Scalar.indexCast v5764_r0
  let c1408_2378_r0 : Index := 1408#32
  let c256_2379_r0 : Index := 256#32
  ![v7142_r0.toNat, 1408, 256]
def k0_off238 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7161_r0 : Index := Scalar.indexCast v5764_r0
  let c22_2384_r0 : Index := 22#32
  let c256_2385_r0 : Index := 256#32
  ![v7161_r0.toNat, 22, 256]
def k0_off239 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7169_r0 : Index := Scalar.indexCast v5764_r0
  let c23_2386_r0 : Index := 23#32
  let c256_2387_r0 : Index := 256#32
  ![v7169_r0.toNat, 23, 256]
def k0_off240 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7182_r0 : Index := Scalar.indexCast v5764_r0
  let c1408_2391_r0 : Index := 1408#32
  let c512_2392_r0 : Index := 512#32
  ![v7182_r0.toNat, 1408, 512]
def k0_off241 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7201_r0 : Index := Scalar.indexCast v5764_r0
  let c22_2397_r0 : Index := 22#32
  let c512_2398_r0 : Index := 512#32
  ![v7201_r0.toNat, 22, 512]
def k0_off242 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7209_r0 : Index := Scalar.indexCast v5764_r0
  let c23_2399_r0 : Index := 23#32
  let c512_2400_r0 : Index := 512#32
  ![v7209_r0.toNat, 23, 512]
def k0_off243 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7222_r0 : Index := Scalar.indexCast v5764_r0
  let c1536_2404_r0 : Index := 1536#32
  let c0_2405_r0 : Index := 0#32
  ![v7222_r0.toNat, 1536, 0]
def k0_off244 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7241_r0 : Index := Scalar.indexCast v5764_r0
  let c24_2410_r0 : Index := 24#32
  let c0_2411_r0 : Index := 0#32
  ![v7241_r0.toNat, 24, 0]
def k0_off245 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7249_r0 : Index := Scalar.indexCast v5764_r0
  let c25_2412_r0 : Index := 25#32
  let c0_2413_r0 : Index := 0#32
  ![v7249_r0.toNat, 25, 0]
def k0_off246 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7262_r0 : Index := Scalar.indexCast v5764_r0
  let c1536_2417_r0 : Index := 1536#32
  let c256_2418_r0 : Index := 256#32
  ![v7262_r0.toNat, 1536, 256]
def k0_off247 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7281_r0 : Index := Scalar.indexCast v5764_r0
  let c24_2423_r0 : Index := 24#32
  let c256_2424_r0 : Index := 256#32
  ![v7281_r0.toNat, 24, 256]
def k0_off248 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7289_r0 : Index := Scalar.indexCast v5764_r0
  let c25_2425_r0 : Index := 25#32
  let c256_2426_r0 : Index := 256#32
  ![v7289_r0.toNat, 25, 256]
def k0_off249 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7302_r0 : Index := Scalar.indexCast v5764_r0
  let c1536_2430_r0 : Index := 1536#32
  let c512_2431_r0 : Index := 512#32
  ![v7302_r0.toNat, 1536, 512]
def k0_off250 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7321_r0 : Index := Scalar.indexCast v5764_r0
  let c24_2436_r0 : Index := 24#32
  let c512_2437_r0 : Index := 512#32
  ![v7321_r0.toNat, 24, 512]
def k0_off251 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7329_r0 : Index := Scalar.indexCast v5764_r0
  let c25_2438_r0 : Index := 25#32
  let c512_2439_r0 : Index := 512#32
  ![v7329_r0.toNat, 25, 512]
def k0_off252 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7342_r0 : Index := Scalar.indexCast v5764_r0
  let c1664_2443_r0 : Index := 1664#32
  let c0_2444_r0 : Index := 0#32
  ![v7342_r0.toNat, 1664, 0]
def k0_off253 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7361_r0 : Index := Scalar.indexCast v5764_r0
  let c26_2449_r0 : Index := 26#32
  let c0_2450_r0 : Index := 0#32
  ![v7361_r0.toNat, 26, 0]
def k0_off254 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7369_r0 : Index := Scalar.indexCast v5764_r0
  let c27_2451_r0 : Index := 27#32
  let c0_2452_r0 : Index := 0#32
  ![v7369_r0.toNat, 27, 0]
def k0_off255 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7382_r0 : Index := Scalar.indexCast v5764_r0
  let c1664_2456_r0 : Index := 1664#32
  let c256_2457_r0 : Index := 256#32
  ![v7382_r0.toNat, 1664, 256]
def k0_off256 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7401_r0 : Index := Scalar.indexCast v5764_r0
  let c26_2462_r0 : Index := 26#32
  let c256_2463_r0 : Index := 256#32
  ![v7401_r0.toNat, 26, 256]
def k0_off257 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7409_r0 : Index := Scalar.indexCast v5764_r0
  let c27_2464_r0 : Index := 27#32
  let c256_2465_r0 : Index := 256#32
  ![v7409_r0.toNat, 27, 256]
def k0_off258 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7422_r0 : Index := Scalar.indexCast v5764_r0
  let c1664_2469_r0 : Index := 1664#32
  let c512_2470_r0 : Index := 512#32
  ![v7422_r0.toNat, 1664, 512]
def k0_off259 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7441_r0 : Index := Scalar.indexCast v5764_r0
  let c26_2475_r0 : Index := 26#32
  let c512_2476_r0 : Index := 512#32
  ![v7441_r0.toNat, 26, 512]
def k0_off260 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7449_r0 : Index := Scalar.indexCast v5764_r0
  let c27_2477_r0 : Index := 27#32
  let c512_2478_r0 : Index := 512#32
  ![v7449_r0.toNat, 27, 512]
def k0_off261 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7462_r0 : Index := Scalar.indexCast v5764_r0
  let c1792_2482_r0 : Index := 1792#32
  let c0_2483_r0 : Index := 0#32
  ![v7462_r0.toNat, 1792, 0]
def k0_off262 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7481_r0 : Index := Scalar.indexCast v5764_r0
  let c28_2488_r0 : Index := 28#32
  let c0_2489_r0 : Index := 0#32
  ![v7481_r0.toNat, 28, 0]
def k0_off263 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7489_r0 : Index := Scalar.indexCast v5764_r0
  let c29_2490_r0 : Index := 29#32
  let c0_2491_r0 : Index := 0#32
  ![v7489_r0.toNat, 29, 0]
def k0_off264 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7502_r0 : Index := Scalar.indexCast v5764_r0
  let c1792_2495_r0 : Index := 1792#32
  let c256_2496_r0 : Index := 256#32
  ![v7502_r0.toNat, 1792, 256]
def k0_off265 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7521_r0 : Index := Scalar.indexCast v5764_r0
  let c28_2501_r0 : Index := 28#32
  let c256_2502_r0 : Index := 256#32
  ![v7521_r0.toNat, 28, 256]
def k0_off266 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7529_r0 : Index := Scalar.indexCast v5764_r0
  let c29_2503_r0 : Index := 29#32
  let c256_2504_r0 : Index := 256#32
  ![v7529_r0.toNat, 29, 256]
def k0_off267 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7542_r0 : Index := Scalar.indexCast v5764_r0
  let c1792_2508_r0 : Index := 1792#32
  let c512_2509_r0 : Index := 512#32
  ![v7542_r0.toNat, 1792, 512]
def k0_off268 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7561_r0 : Index := Scalar.indexCast v5764_r0
  let c28_2514_r0 : Index := 28#32
  let c512_2515_r0 : Index := 512#32
  ![v7561_r0.toNat, 28, 512]
def k0_off269 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7569_r0 : Index := Scalar.indexCast v5764_r0
  let c29_2516_r0 : Index := 29#32
  let c512_2517_r0 : Index := 512#32
  ![v7569_r0.toNat, 29, 512]
def k0_off270 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7582_r0 : Index := Scalar.indexCast v5764_r0
  let c1920_2521_r0 : Index := 1920#32
  let c0_2522_r0 : Index := 0#32
  ![v7582_r0.toNat, 1920, 0]
def k0_off271 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7601_r0 : Index := Scalar.indexCast v5764_r0
  let c30_2527_r0 : Index := 30#32
  let c0_2528_r0 : Index := 0#32
  ![v7601_r0.toNat, 30, 0]
def k0_off272 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7609_r0 : Index := Scalar.indexCast v5764_r0
  let c31_2529_r0 : Index := 31#32
  let c0_2530_r0 : Index := 0#32
  ![v7609_r0.toNat, 31, 0]
def k0_off273 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7622_r0 : Index := Scalar.indexCast v5764_r0
  let c1920_2534_r0 : Index := 1920#32
  let c256_2535_r0 : Index := 256#32
  ![v7622_r0.toNat, 1920, 256]
def k0_off274 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7641_r0 : Index := Scalar.indexCast v5764_r0
  let c30_2540_r0 : Index := 30#32
  let c256_2541_r0 : Index := 256#32
  ![v7641_r0.toNat, 30, 256]
def k0_off275 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7649_r0 : Index := Scalar.indexCast v5764_r0
  let c31_2542_r0 : Index := 31#32
  let c256_2543_r0 : Index := 256#32
  ![v7649_r0.toNat, 31, 256]
def k0_off276 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7662_r0 : Index := Scalar.indexCast v5764_r0
  let c1920_2547_r0 : Index := 1920#32
  let c512_2548_r0 : Index := 512#32
  ![v7662_r0.toNat, 1920, 512]
def k0_off277 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7681_r0 : Index := Scalar.indexCast v5764_r0
  let c30_2553_r0 : Index := 30#32
  let c512_2554_r0 : Index := 512#32
  ![v7681_r0.toNat, 30, 512]
def k0_off278 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7689_r0 : Index := Scalar.indexCast v5764_r0
  let c31_2555_r0 : Index := 31#32
  let c512_2556_r0 : Index := 512#32
  ![v7689_r0.toNat, 31, 512]
def k0_off279 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7702_r0 : Index := Scalar.indexCast v5764_r0
  let c2048_2560_r0 : Index := 2048#32
  let c0_2561_r0 : Index := 0#32
  ![v7702_r0.toNat, 2048, 0]
def k0_off280 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7721_r0 : Index := Scalar.indexCast v5764_r0
  let c32_r0 : Index := 32#32
  let c0_2566_r0 : Index := 0#32
  ![v7721_r0.toNat, 32, 0]
def k0_off281 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7729_r0 : Index := Scalar.indexCast v5764_r0
  let c33_r0 : Index := 33#32
  let c0_2567_r0 : Index := 0#32
  ![v7729_r0.toNat, 33, 0]
def k0_off282 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7742_r0 : Index := Scalar.indexCast v5764_r0
  let c2048_2571_r0 : Index := 2048#32
  let c256_2572_r0 : Index := 256#32
  ![v7742_r0.toNat, 2048, 256]
def k0_off283 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7761_r0 : Index := Scalar.indexCast v5764_r0
  let c32_2577_r0 : Index := 32#32
  let c256_2578_r0 : Index := 256#32
  ![v7761_r0.toNat, 32, 256]
def k0_off284 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7769_r0 : Index := Scalar.indexCast v5764_r0
  let c33_2579_r0 : Index := 33#32
  let c256_2580_r0 : Index := 256#32
  ![v7769_r0.toNat, 33, 256]
def k0_off285 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7782_r0 : Index := Scalar.indexCast v5764_r0
  let c2048_2584_r0 : Index := 2048#32
  let c512_2585_r0 : Index := 512#32
  ![v7782_r0.toNat, 2048, 512]
def k0_off286 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7801_r0 : Index := Scalar.indexCast v5764_r0
  let c32_2590_r0 : Index := 32#32
  let c512_2591_r0 : Index := 512#32
  ![v7801_r0.toNat, 32, 512]
def k0_off287 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7809_r0 : Index := Scalar.indexCast v5764_r0
  let c33_2592_r0 : Index := 33#32
  let c512_2593_r0 : Index := 512#32
  ![v7809_r0.toNat, 33, 512]
def k0_off288 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7822_r0 : Index := Scalar.indexCast v5764_r0
  let c2176_2597_r0 : Index := 2176#32
  let c0_2598_r0 : Index := 0#32
  ![v7822_r0.toNat, 2176, 0]
def k0_off289 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7841_r0 : Index := Scalar.indexCast v5764_r0
  let c34_r0 : Index := 34#32
  let c0_2603_r0 : Index := 0#32
  ![v7841_r0.toNat, 34, 0]
def k0_off290 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7849_r0 : Index := Scalar.indexCast v5764_r0
  let c35_r0 : Index := 35#32
  let c0_2604_r0 : Index := 0#32
  ![v7849_r0.toNat, 35, 0]
def k0_off291 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7862_r0 : Index := Scalar.indexCast v5764_r0
  let c2176_2608_r0 : Index := 2176#32
  let c256_2609_r0 : Index := 256#32
  ![v7862_r0.toNat, 2176, 256]
def k0_off292 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7881_r0 : Index := Scalar.indexCast v5764_r0
  let c34_2614_r0 : Index := 34#32
  let c256_2615_r0 : Index := 256#32
  ![v7881_r0.toNat, 34, 256]
def k0_off293 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7889_r0 : Index := Scalar.indexCast v5764_r0
  let c35_2616_r0 : Index := 35#32
  let c256_2617_r0 : Index := 256#32
  ![v7889_r0.toNat, 35, 256]
def k0_off294 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7902_r0 : Index := Scalar.indexCast v5764_r0
  let c2176_2621_r0 : Index := 2176#32
  let c512_2622_r0 : Index := 512#32
  ![v7902_r0.toNat, 2176, 512]
def k0_off295 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7921_r0 : Index := Scalar.indexCast v5764_r0
  let c34_2627_r0 : Index := 34#32
  let c512_2628_r0 : Index := 512#32
  ![v7921_r0.toNat, 34, 512]
def k0_off296 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7929_r0 : Index := Scalar.indexCast v5764_r0
  let c35_2629_r0 : Index := 35#32
  let c512_2630_r0 : Index := 512#32
  ![v7929_r0.toNat, 35, 512]
def k0_off297 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7942_r0 : Index := Scalar.indexCast v5764_r0
  let c2304_2634_r0 : Index := 2304#32
  let c0_2635_r0 : Index := 0#32
  ![v7942_r0.toNat, 2304, 0]
def k0_off298 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7961_r0 : Index := Scalar.indexCast v5764_r0
  let c36_r0 : Index := 36#32
  let c0_2640_r0 : Index := 0#32
  ![v7961_r0.toNat, 36, 0]
def k0_off299 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7969_r0 : Index := Scalar.indexCast v5764_r0
  let c37_r0 : Index := 37#32
  let c0_2641_r0 : Index := 0#32
  ![v7969_r0.toNat, 37, 0]
def k0_off300 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v7982_r0 : Index := Scalar.indexCast v5764_r0
  let c2304_2645_r0 : Index := 2304#32
  let c256_2646_r0 : Index := 256#32
  ![v7982_r0.toNat, 2304, 256]
def k0_off301 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8001_r0 : Index := Scalar.indexCast v5764_r0
  let c36_2651_r0 : Index := 36#32
  let c256_2652_r0 : Index := 256#32
  ![v8001_r0.toNat, 36, 256]
def k0_off302 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8009_r0 : Index := Scalar.indexCast v5764_r0
  let c37_2653_r0 : Index := 37#32
  let c256_2654_r0 : Index := 256#32
  ![v8009_r0.toNat, 37, 256]
def k0_off303 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8022_r0 : Index := Scalar.indexCast v5764_r0
  let c2304_2658_r0 : Index := 2304#32
  let c512_2659_r0 : Index := 512#32
  ![v8022_r0.toNat, 2304, 512]
def k0_off304 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8041_r0 : Index := Scalar.indexCast v5764_r0
  let c36_2664_r0 : Index := 36#32
  let c512_2665_r0 : Index := 512#32
  ![v8041_r0.toNat, 36, 512]
def k0_off305 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8049_r0 : Index := Scalar.indexCast v5764_r0
  let c37_2666_r0 : Index := 37#32
  let c512_2667_r0 : Index := 512#32
  ![v8049_r0.toNat, 37, 512]
def k0_off306 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8062_r0 : Index := Scalar.indexCast v5764_r0
  let c2432_2671_r0 : Index := 2432#32
  let c0_2672_r0 : Index := 0#32
  ![v8062_r0.toNat, 2432, 0]
def k0_off307 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8081_r0 : Index := Scalar.indexCast v5764_r0
  let c38_r0 : Index := 38#32
  let c0_2677_r0 : Index := 0#32
  ![v8081_r0.toNat, 38, 0]
def k0_off308 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8089_r0 : Index := Scalar.indexCast v5764_r0
  let c39_r0 : Index := 39#32
  let c0_2678_r0 : Index := 0#32
  ![v8089_r0.toNat, 39, 0]
def k0_off309 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8102_r0 : Index := Scalar.indexCast v5764_r0
  let c2432_2682_r0 : Index := 2432#32
  let c256_2683_r0 : Index := 256#32
  ![v8102_r0.toNat, 2432, 256]
def k0_off310 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8121_r0 : Index := Scalar.indexCast v5764_r0
  let c38_2688_r0 : Index := 38#32
  let c256_2689_r0 : Index := 256#32
  ![v8121_r0.toNat, 38, 256]
def k0_off311 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8129_r0 : Index := Scalar.indexCast v5764_r0
  let c39_2690_r0 : Index := 39#32
  let c256_2691_r0 : Index := 256#32
  ![v8129_r0.toNat, 39, 256]
def k0_off312 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8142_r0 : Index := Scalar.indexCast v5764_r0
  let c2432_2695_r0 : Index := 2432#32
  let c512_2696_r0 : Index := 512#32
  ![v8142_r0.toNat, 2432, 512]
def k0_off313 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8161_r0 : Index := Scalar.indexCast v5764_r0
  let c38_2701_r0 : Index := 38#32
  let c512_2702_r0 : Index := 512#32
  ![v8161_r0.toNat, 38, 512]
def k0_off314 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8169_r0 : Index := Scalar.indexCast v5764_r0
  let c39_2703_r0 : Index := 39#32
  let c512_2704_r0 : Index := 512#32
  ![v8169_r0.toNat, 39, 512]
def k0_off315 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8182_r0 : Index := Scalar.indexCast v5764_r0
  let c2560_2708_r0 : Index := 2560#32
  let c0_2709_r0 : Index := 0#32
  ![v8182_r0.toNat, 2560, 0]
def k0_off316 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8201_r0 : Index := Scalar.indexCast v5764_r0
  let c40_r0 : Index := 40#32
  let c0_2714_r0 : Index := 0#32
  ![v8201_r0.toNat, 40, 0]
def k0_off317 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8209_r0 : Index := Scalar.indexCast v5764_r0
  let c41_r0 : Index := 41#32
  let c0_2715_r0 : Index := 0#32
  ![v8209_r0.toNat, 41, 0]
def k0_off318 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8222_r0 : Index := Scalar.indexCast v5764_r0
  let c2560_2719_r0 : Index := 2560#32
  let c256_2720_r0 : Index := 256#32
  ![v8222_r0.toNat, 2560, 256]
def k0_off319 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8241_r0 : Index := Scalar.indexCast v5764_r0
  let c40_2725_r0 : Index := 40#32
  let c256_2726_r0 : Index := 256#32
  ![v8241_r0.toNat, 40, 256]
def k0_off320 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8249_r0 : Index := Scalar.indexCast v5764_r0
  let c41_2727_r0 : Index := 41#32
  let c256_2728_r0 : Index := 256#32
  ![v8249_r0.toNat, 41, 256]
def k0_off321 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8262_r0 : Index := Scalar.indexCast v5764_r0
  let c2560_2732_r0 : Index := 2560#32
  let c512_2733_r0 : Index := 512#32
  ![v8262_r0.toNat, 2560, 512]
def k0_off322 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8281_r0 : Index := Scalar.indexCast v5764_r0
  let c40_2738_r0 : Index := 40#32
  let c512_2739_r0 : Index := 512#32
  ![v8281_r0.toNat, 40, 512]
def k0_off323 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8289_r0 : Index := Scalar.indexCast v5764_r0
  let c41_2740_r0 : Index := 41#32
  let c512_2741_r0 : Index := 512#32
  ![v8289_r0.toNat, 41, 512]
def k0_off324 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8302_r0 : Index := Scalar.indexCast v5764_r0
  let c2688_2745_r0 : Index := 2688#32
  let c0_2746_r0 : Index := 0#32
  ![v8302_r0.toNat, 2688, 0]
def k0_off325 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8321_r0 : Index := Scalar.indexCast v5764_r0
  let c42_r0 : Index := 42#32
  let c0_2751_r0 : Index := 0#32
  ![v8321_r0.toNat, 42, 0]
def k0_off326 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8329_r0 : Index := Scalar.indexCast v5764_r0
  let c43_r0 : Index := 43#32
  let c0_2752_r0 : Index := 0#32
  ![v8329_r0.toNat, 43, 0]
def k0_off327 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8342_r0 : Index := Scalar.indexCast v5764_r0
  let c2688_2756_r0 : Index := 2688#32
  let c256_2757_r0 : Index := 256#32
  ![v8342_r0.toNat, 2688, 256]
def k0_off328 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8361_r0 : Index := Scalar.indexCast v5764_r0
  let c42_2762_r0 : Index := 42#32
  let c256_2763_r0 : Index := 256#32
  ![v8361_r0.toNat, 42, 256]
def k0_off329 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8369_r0 : Index := Scalar.indexCast v5764_r0
  let c43_2764_r0 : Index := 43#32
  let c256_2765_r0 : Index := 256#32
  ![v8369_r0.toNat, 43, 256]
def k0_off330 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8382_r0 : Index := Scalar.indexCast v5764_r0
  let c2688_2769_r0 : Index := 2688#32
  let c512_2770_r0 : Index := 512#32
  ![v8382_r0.toNat, 2688, 512]
def k0_off331 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8401_r0 : Index := Scalar.indexCast v5764_r0
  let c42_2775_r0 : Index := 42#32
  let c512_2776_r0 : Index := 512#32
  ![v8401_r0.toNat, 42, 512]
def k0_off332 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8409_r0 : Index := Scalar.indexCast v5764_r0
  let c43_2777_r0 : Index := 43#32
  let c512_2778_r0 : Index := 512#32
  ![v8409_r0.toNat, 43, 512]
def k0_off333 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8422_r0 : Index := Scalar.indexCast v5764_r0
  let c2816_2782_r0 : Index := 2816#32
  let c0_2783_r0 : Index := 0#32
  ![v8422_r0.toNat, 2816, 0]
def k0_off334 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8441_r0 : Index := Scalar.indexCast v5764_r0
  let c44_r0 : Index := 44#32
  let c0_2788_r0 : Index := 0#32
  ![v8441_r0.toNat, 44, 0]
def k0_off335 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8449_r0 : Index := Scalar.indexCast v5764_r0
  let c45_r0 : Index := 45#32
  let c0_2789_r0 : Index := 0#32
  ![v8449_r0.toNat, 45, 0]
def k0_off336 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8462_r0 : Index := Scalar.indexCast v5764_r0
  let c2816_2793_r0 : Index := 2816#32
  let c256_2794_r0 : Index := 256#32
  ![v8462_r0.toNat, 2816, 256]
def k0_off337 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8481_r0 : Index := Scalar.indexCast v5764_r0
  let c44_2799_r0 : Index := 44#32
  let c256_2800_r0 : Index := 256#32
  ![v8481_r0.toNat, 44, 256]
def k0_off338 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8489_r0 : Index := Scalar.indexCast v5764_r0
  let c45_2801_r0 : Index := 45#32
  let c256_2802_r0 : Index := 256#32
  ![v8489_r0.toNat, 45, 256]
def k0_off339 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8502_r0 : Index := Scalar.indexCast v5764_r0
  let c2816_2806_r0 : Index := 2816#32
  let c512_2807_r0 : Index := 512#32
  ![v8502_r0.toNat, 2816, 512]
def k0_off340 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8521_r0 : Index := Scalar.indexCast v5764_r0
  let c44_2812_r0 : Index := 44#32
  let c512_2813_r0 : Index := 512#32
  ![v8521_r0.toNat, 44, 512]
def k0_off341 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8529_r0 : Index := Scalar.indexCast v5764_r0
  let c45_2814_r0 : Index := 45#32
  let c512_2815_r0 : Index := 512#32
  ![v8529_r0.toNat, 45, 512]
def k0_off342 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8542_r0 : Index := Scalar.indexCast v5764_r0
  let c2944_2819_r0 : Index := 2944#32
  let c0_2820_r0 : Index := 0#32
  ![v8542_r0.toNat, 2944, 0]
def k0_off343 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8561_r0 : Index := Scalar.indexCast v5764_r0
  let c46_r0 : Index := 46#32
  let c0_2825_r0 : Index := 0#32
  ![v8561_r0.toNat, 46, 0]
def k0_off344 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8569_r0 : Index := Scalar.indexCast v5764_r0
  let c47_r0 : Index := 47#32
  let c0_2826_r0 : Index := 0#32
  ![v8569_r0.toNat, 47, 0]
def k0_off345 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8582_r0 : Index := Scalar.indexCast v5764_r0
  let c2944_2830_r0 : Index := 2944#32
  let c256_2831_r0 : Index := 256#32
  ![v8582_r0.toNat, 2944, 256]
def k0_off346 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8601_r0 : Index := Scalar.indexCast v5764_r0
  let c46_2836_r0 : Index := 46#32
  let c256_2837_r0 : Index := 256#32
  ![v8601_r0.toNat, 46, 256]
def k0_off347 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8609_r0 : Index := Scalar.indexCast v5764_r0
  let c47_2838_r0 : Index := 47#32
  let c256_2839_r0 : Index := 256#32
  ![v8609_r0.toNat, 47, 256]
def k0_off348 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8622_r0 : Index := Scalar.indexCast v5764_r0
  let c2944_2843_r0 : Index := 2944#32
  let c512_2844_r0 : Index := 512#32
  ![v8622_r0.toNat, 2944, 512]
def k0_off349 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8641_r0 : Index := Scalar.indexCast v5764_r0
  let c46_2849_r0 : Index := 46#32
  let c512_2850_r0 : Index := 512#32
  ![v8641_r0.toNat, 46, 512]
def k0_off350 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8649_r0 : Index := Scalar.indexCast v5764_r0
  let c47_2851_r0 : Index := 47#32
  let c512_2852_r0 : Index := 512#32
  ![v8649_r0.toNat, 47, 512]
def k0_off351 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8662_r0 : Index := Scalar.indexCast v5764_r0
  let c3072_2856_r0 : Index := 3072#32
  let c0_2857_r0 : Index := 0#32
  ![v8662_r0.toNat, 3072, 0]
def k0_off352 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8681_r0 : Index := Scalar.indexCast v5764_r0
  let c48_r0 : Index := 48#32
  let c0_2862_r0 : Index := 0#32
  ![v8681_r0.toNat, 48, 0]
def k0_off353 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8689_r0 : Index := Scalar.indexCast v5764_r0
  let c49_r0 : Index := 49#32
  let c0_2863_r0 : Index := 0#32
  ![v8689_r0.toNat, 49, 0]
def k0_off354 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8702_r0 : Index := Scalar.indexCast v5764_r0
  let c3072_2867_r0 : Index := 3072#32
  let c256_2868_r0 : Index := 256#32
  ![v8702_r0.toNat, 3072, 256]
def k0_off355 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8721_r0 : Index := Scalar.indexCast v5764_r0
  let c48_2873_r0 : Index := 48#32
  let c256_2874_r0 : Index := 256#32
  ![v8721_r0.toNat, 48, 256]
def k0_off356 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8729_r0 : Index := Scalar.indexCast v5764_r0
  let c49_2875_r0 : Index := 49#32
  let c256_2876_r0 : Index := 256#32
  ![v8729_r0.toNat, 49, 256]
def k0_off357 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8742_r0 : Index := Scalar.indexCast v5764_r0
  let c3072_2880_r0 : Index := 3072#32
  let c512_2881_r0 : Index := 512#32
  ![v8742_r0.toNat, 3072, 512]
def k0_off358 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8761_r0 : Index := Scalar.indexCast v5764_r0
  let c48_2886_r0 : Index := 48#32
  let c512_2887_r0 : Index := 512#32
  ![v8761_r0.toNat, 48, 512]
def k0_off359 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8769_r0 : Index := Scalar.indexCast v5764_r0
  let c49_2888_r0 : Index := 49#32
  let c512_2889_r0 : Index := 512#32
  ![v8769_r0.toNat, 49, 512]
def k0_off360 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8782_r0 : Index := Scalar.indexCast v5764_r0
  let c3200_2893_r0 : Index := 3200#32
  let c0_2894_r0 : Index := 0#32
  ![v8782_r0.toNat, 3200, 0]
def k0_off361 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8801_r0 : Index := Scalar.indexCast v5764_r0
  let c50_r0 : Index := 50#32
  let c0_2899_r0 : Index := 0#32
  ![v8801_r0.toNat, 50, 0]
def k0_off362 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8809_r0 : Index := Scalar.indexCast v5764_r0
  let c51_r0 : Index := 51#32
  let c0_2900_r0 : Index := 0#32
  ![v8809_r0.toNat, 51, 0]
def k0_off363 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8822_r0 : Index := Scalar.indexCast v5764_r0
  let c3200_2904_r0 : Index := 3200#32
  let c256_2905_r0 : Index := 256#32
  ![v8822_r0.toNat, 3200, 256]
def k0_off364 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8841_r0 : Index := Scalar.indexCast v5764_r0
  let c50_2910_r0 : Index := 50#32
  let c256_2911_r0 : Index := 256#32
  ![v8841_r0.toNat, 50, 256]
def k0_off365 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8849_r0 : Index := Scalar.indexCast v5764_r0
  let c51_2912_r0 : Index := 51#32
  let c256_2913_r0 : Index := 256#32
  ![v8849_r0.toNat, 51, 256]
def k0_off366 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8862_r0 : Index := Scalar.indexCast v5764_r0
  let c3200_2917_r0 : Index := 3200#32
  let c512_2918_r0 : Index := 512#32
  ![v8862_r0.toNat, 3200, 512]
def k0_off367 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8881_r0 : Index := Scalar.indexCast v5764_r0
  let c50_2923_r0 : Index := 50#32
  let c512_2924_r0 : Index := 512#32
  ![v8881_r0.toNat, 50, 512]
def k0_off368 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8889_r0 : Index := Scalar.indexCast v5764_r0
  let c51_2925_r0 : Index := 51#32
  let c512_2926_r0 : Index := 512#32
  ![v8889_r0.toNat, 51, 512]
def k0_off369 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8902_r0 : Index := Scalar.indexCast v5764_r0
  let c3328_2930_r0 : Index := 3328#32
  let c0_2931_r0 : Index := 0#32
  ![v8902_r0.toNat, 3328, 0]
def k0_off370 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8921_r0 : Index := Scalar.indexCast v5764_r0
  let c52_r0 : Index := 52#32
  let c0_2936_r0 : Index := 0#32
  ![v8921_r0.toNat, 52, 0]
def k0_off371 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8929_r0 : Index := Scalar.indexCast v5764_r0
  let c53_r0 : Index := 53#32
  let c0_2937_r0 : Index := 0#32
  ![v8929_r0.toNat, 53, 0]
def k0_off372 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8942_r0 : Index := Scalar.indexCast v5764_r0
  let c3328_2941_r0 : Index := 3328#32
  let c256_2942_r0 : Index := 256#32
  ![v8942_r0.toNat, 3328, 256]
def k0_off373 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8961_r0 : Index := Scalar.indexCast v5764_r0
  let c52_2947_r0 : Index := 52#32
  let c256_2948_r0 : Index := 256#32
  ![v8961_r0.toNat, 52, 256]
def k0_off374 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8969_r0 : Index := Scalar.indexCast v5764_r0
  let c53_2949_r0 : Index := 53#32
  let c256_2950_r0 : Index := 256#32
  ![v8969_r0.toNat, 53, 256]
def k0_off375 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v8982_r0 : Index := Scalar.indexCast v5764_r0
  let c3328_2954_r0 : Index := 3328#32
  let c512_2955_r0 : Index := 512#32
  ![v8982_r0.toNat, 3328, 512]
def k0_off376 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9001_r0 : Index := Scalar.indexCast v5764_r0
  let c52_2960_r0 : Index := 52#32
  let c512_2961_r0 : Index := 512#32
  ![v9001_r0.toNat, 52, 512]
def k0_off377 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9009_r0 : Index := Scalar.indexCast v5764_r0
  let c53_2962_r0 : Index := 53#32
  let c512_2963_r0 : Index := 512#32
  ![v9009_r0.toNat, 53, 512]
def k0_off378 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9022_r0 : Index := Scalar.indexCast v5764_r0
  let c3456_2967_r0 : Index := 3456#32
  let c0_2968_r0 : Index := 0#32
  ![v9022_r0.toNat, 3456, 0]
def k0_off379 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9041_r0 : Index := Scalar.indexCast v5764_r0
  let c54_r0 : Index := 54#32
  let c0_2973_r0 : Index := 0#32
  ![v9041_r0.toNat, 54, 0]
def k0_off380 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9049_r0 : Index := Scalar.indexCast v5764_r0
  let c55_r0 : Index := 55#32
  let c0_2974_r0 : Index := 0#32
  ![v9049_r0.toNat, 55, 0]
def k0_off381 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9062_r0 : Index := Scalar.indexCast v5764_r0
  let c3456_2978_r0 : Index := 3456#32
  let c256_2979_r0 : Index := 256#32
  ![v9062_r0.toNat, 3456, 256]
def k0_off382 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9081_r0 : Index := Scalar.indexCast v5764_r0
  let c54_2984_r0 : Index := 54#32
  let c256_2985_r0 : Index := 256#32
  ![v9081_r0.toNat, 54, 256]
def k0_off383 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9089_r0 : Index := Scalar.indexCast v5764_r0
  let c55_2986_r0 : Index := 55#32
  let c256_2987_r0 : Index := 256#32
  ![v9089_r0.toNat, 55, 256]
def k0_off384 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9102_r0 : Index := Scalar.indexCast v5764_r0
  let c3456_2991_r0 : Index := 3456#32
  let c512_2992_r0 : Index := 512#32
  ![v9102_r0.toNat, 3456, 512]
def k0_off385 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9121_r0 : Index := Scalar.indexCast v5764_r0
  let c54_2997_r0 : Index := 54#32
  let c512_2998_r0 : Index := 512#32
  ![v9121_r0.toNat, 54, 512]
def k0_off386 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let v9129_r0 : Index := Scalar.indexCast v5764_r0
  let c55_2999_r0 : Index := 55#32
  let c512_3000_r0 : Index := 512#32
  ![v9129_r0.toNat, 55, 512]
def k0_off387 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_3012_r0 : BitVec 32 := 4#32
  let v9154_r0 : BitVec 32 := Scalar.addi arg14_r0 c4_i32_3012_r0
  let v9155_r0 : Index := Scalar.indexCast v9154_r0
  ![v9155_r0.toNat]
def k0_cond65 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : BitVec 1 :=
  let c0_i32_1923_r0 : BitVec 32 := 0#32
  let c1_i32_1925_r0 : BitVec 32 := 1#32
  let arg14_r0 : BitVec 32 := Scf.iv c0_i32_1923_r0 c1_i32_1925_r0 k0_t1
  let c4_i32_3010_r0 : BitVec 32 := 4#32
  let v9150_r0 : BitVec 32 := Scalar.addi arg14_r0 c4_i32_3010_r0
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v9151_r0 : BitVec 1 := Scalar.cmpi .slt v9150_r0 v414
  let v9152_r0 : BitVec 32 := Scalar.extui v9151_r0
  let c0_i32_3011_r0 : BitVec 32 := 0#32
  let v9153_r0 : BitVec 1 := Scalar.cmpi .ne v9152_r0 c0_i32_3011_r0
  v9153_r0

def k0_off388 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  ![v5764_r0.toNat]
def k0_off389 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let c0_i32_3013_r0 : BitVec 32 := 0#32
  let c0_i32_3014_r0 : BitVec 32 := 0#32
  ![v5764_r0.toNat, 0, 0]
def k0_off390 (v9156_r0 : BitVec 32) : Fin 3 → Nat :=
  let c0_i32_3015_r0 : BitVec 32 := 0#32
  let c0_i32_3016_r0 : BitVec 32 := 0#32
  ![v9156_r0.toNat, 0, 0]

def k0_off391 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  ![v5764_r0.toNat]
def k0_off392 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c1_i32_1925_r0 : BitVec 32 := 1#32
  let arg14_r0 : BitVec 32 := Scf.iv c0_i32_1923_r0 c1_i32_1925_r0 k0_t1
  let c4_i32_1933_r0 : BitVec 32 := 4#32
  let v5764_r0 : BitVec 32 := Scalar.remsi arg14_r0 c4_i32_1933_r0
  let c0_i32_3017_r0 : BitVec 32 := 0#32
  let c0_i32_3018_r0 : BitVec 32 := 0#32
  ![v5764_r0.toNat, 0, 0]
def k0_off393 (v9156_r0 : BitVec 32) : Fin 3 → Nat :=
  let c0_i32_3019_r0 : BitVec 32 := 0#32
  let c0_i32_3020_r0 : BitVec 32 := 0#32
  ![v9156_r0.toNat, 0, 0]

def k0_chk33 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) (v9156_r0 : BitVec 32) : Prop :=
  (∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off390 v9156_r0) a + S1x3584x768.size a ≤ S32x3584x768.size a) ∧
  (∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ (hinb : ∀ a, (k0_off390 v9156_r0) a + S1x3584x768.size a ≤ S32x3584x768.size a), (Rect.unit (s := S32x3584x768) (k0_off390 v9156_r0) S1x3584x768.size hinb).WholeWords (EltTy.packing .i8)) ∧
  (∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off393 v9156_r0) a + S1x56x768.size a ≤ S32x56x768.size a)
theorem k0_off390_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) (v9156_r0 : BitVec 32) (k0_hw33 : k0_chk33 v0 v13 v26 v39 v52 v65 v78 v91 v104 v117 v130 v143 v156 v169 v182 v195 v208 v221 v234 v247 v260 v273 v286 v299 v312 v325 v338 v351 v364 v377 v390 v403 k0_t1 v9156_r0), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off390 v9156_r0) a + S1x3584x768.size a ≤ S32x3584x768.size a := fun v0 v13 v26 v39 v52 v65 v78 v91 v104 v117 v130 v143 v156 v169 v182 v195 v208 v221 v234 v247 v260 v273 v286 v299 v312 v325 v338 v351 v364 v377 v390 v403 k0_t1 v9156_r0 k0_hw33 k0_h65 => k0_hw33.1 k0_h65
theorem k0_off390_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) (v9156_r0 : BitVec 32) (k0_hw33 : k0_chk33 v0 v13 v26 v39 v52 v65 v78 v91 v104 v117 v130 v143 v156 v169 v182 v195 v208 v221 v234 v247 v260 v273 v286 v299 v312 v325 v338 v351 v364 v377 v390 v403 k0_t1 v9156_r0), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), (Rect.unit (s := S32x3584x768) (k0_off390 v9156_r0) S1x3584x768.size (k0_off390_inb v0 v13 v26 v39 v52 v65 v78 v91 v104 v117 v130 v143 v156 v169 v182 v195 v208 v221 v234 v247 v260 v273 v286 v299 v312 v325 v338 v351 v364 v377 v390 v403 k0_t1 v9156_r0 k0_hw33 k0_h65)).WholeWords (EltTy.packing .i8) := fun v0 v13 v26 v39 v52 v65 v78 v91 v104 v117 v130 v143 v156 v169 v182 v195 v208 v221 v234 v247 v260 v273 v286 v299 v312 v325 v338 v351 v364 v377 v390 v403 k0_t1 v9156_r0 k0_hw33 k0_h65 => k0_hw33.2.1 k0_h65 (k0_off390_inb v0 v13 v26 v39 v52 v65 v78 v91 v104 v117 v130 v143 v156 v169 v182 v195 v208 v221 v234 v247 v260 v273 v286 v299 v312 v325 v338 v351 v364 v377 v390 v403 k0_t1 v9156_r0 k0_hw33 k0_h65)
theorem k0_off393_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t1 : Fin (k0_t1_loop v0 v13 v26 v39 v52 v65 v78 v91 v104 v117 v130 v143 v156 v169 v182 v195 v208 v221 v234 v247 v260 v273 v286 v299 v312 v325 v338 v351 v364 v377 v390 v403).trips) (v9156_r0 : BitVec 32) (k0_hw33 : k0_chk33 v0 v13 v26 v39 v52 v65 v78 v91 v104 v117 v130 v143 v156 v169 v182 v195 v208 v221 v234 v247 v260 v273 v286 v299 v312 v325 v338 v351 v364 v377 v390 v403 k0_t1 v9156_r0), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off393 v9156_r0) a + S1x56x768.size a ≤ S32x56x768.size a := fun v0 v13 v26 v39 v52 v65 v78 v91 v104 v117 v130 v143 v156 v169 v182 v195 v208 v221 v234 v247 v260 v273 v286 v299 v312 v325 v338 v351 v364 v377 v390 v403 k0_t1 v9156_r0 k0_hw33 k0_h65 => k0_hw33.2.2 k0_h65

@[reducible] def k0_t2_loop (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Scf.Loop 32 :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let v5745_r0 : BitVec 32 := Scalar.addi c0_i32_1923_r0 v5744_r0
  let c1_i32_1926_r0 : BitVec 32 := 1#32
  ⟨v5748_r0, v5745_r0, c1_i32_1926_r0⟩
def k0_off394 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let v5765_r0 : Index := Scalar.indexCast arg14_r0
  ![v5765_r0.toNat]
def k0_off395 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  ![v5764_r0.toNat]
def k0_off396 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let c0_i32_1934_r0 : BitVec 32 := 0#32
  let c0_i32_1935_r0 : BitVec 32 := 0#32
  ![v5764_r0.toNat, 0, 0]
def k0_off397 (v5766_r0 : BitVec 32) : Fin 3 → Nat :=
  let c0_i32_1936_r0 : BitVec 32 := 0#32
  let c0_i32_1937_r0 : BitVec 32 := 0#32
  ![v5766_r0.toNat, 0, 0]

def k0_off398 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  ![v5764_r0.toNat]
def k0_off399 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let c0_i32_1938_r0 : BitVec 32 := 0#32
  let c0_i32_1939_r0 : BitVec 32 := 0#32
  ![v5764_r0.toNat, 0, 0]
def k0_off400 (v5766_r0 : BitVec 32) : Fin 3 → Nat :=
  let c0_i32_1940_r0 : BitVec 32 := 0#32
  let c0_i32_1941_r0 : BitVec 32 := 0#32
  ![v5766_r0.toNat, 0, 0]

def k0_chk34 (v5766_r0 : BitVec 32) : Prop :=
  (∀ a, (k0_off397 v5766_r0) a + S1x3584x768.size a ≤ S32x3584x768.size a) ∧
  (∀ (hinb : ∀ a, (k0_off397 v5766_r0) a + S1x3584x768.size a ≤ S32x3584x768.size a), (Rect.unit (s := S32x3584x768) (k0_off397 v5766_r0) S1x3584x768.size hinb).WholeWords (EltTy.packing .i8)) ∧
  (∀ a, (k0_off400 v5766_r0) a + S1x56x768.size a ≤ S32x56x768.size a)
theorem k0_off397_inb : ∀ (v5766_r0 : BitVec 32) (k0_hw34 : k0_chk34 v5766_r0), ∀ a, (k0_off397 v5766_r0) a + S1x3584x768.size a ≤ S32x3584x768.size a := fun v5766_r0 k0_hw34 => k0_hw34.1
theorem k0_off397_wordsi8 : ∀ (v5766_r0 : BitVec 32) (k0_hw34 : k0_chk34 v5766_r0), (Rect.unit (s := S32x3584x768) (k0_off397 v5766_r0) S1x3584x768.size (k0_off397_inb v5766_r0 k0_hw34)).WholeWords (EltTy.packing .i8) := fun v5766_r0 k0_hw34 => k0_hw34.2.1 (k0_off397_inb v5766_r0 k0_hw34)
theorem k0_off400_inb : ∀ (v5766_r0 : BitVec 32) (k0_hw34 : k0_chk34 v5766_r0), ∀ a, (k0_off400 v5766_r0) a + S1x56x768.size a ≤ S32x56x768.size a := fun v5766_r0 k0_hw34 => k0_hw34.2.2

def k0_off401 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let v5780_r0 : Index := Scalar.indexCast arg14_r0
  ![v5780_r0.toNat]
def k0_off402 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c1_i32_1942_r0 : BitVec 32 := 1#32
  let v5784_r0 : BitVec 32 := Scalar.addi arg14_r0 c1_i32_1942_r0
  let v5785_r0 : Index := Scalar.indexCast v5784_r0
  ![v5785_r0.toNat]
def k0_off403 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5790_r0 : Index := Scalar.indexCast v5764_r0
  let c0_1943_r0 : Index := 0#32
  let c0_1944_r0 : Index := 0#32
  ![v5790_r0.toNat, 0, 0]
def k0_off404 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5809_r0 : Index := Scalar.indexCast v5764_r0
  let c0_1948_r0 : Index := 0#32
  let c0_1949_r0 : Index := 0#32
  ![v5809_r0.toNat, 0, 0]
def k0_off405 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5817_r0 : Index := Scalar.indexCast v5764_r0
  let c1_1950_r0 : Index := 1#32
  let c0_1951_r0 : Index := 0#32
  ![v5817_r0.toNat, 1, 0]
def k0_off406 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5826_r0 : Index := Scalar.indexCast v5764_r0
  let c0_1952_r0 : Index := 0#32
  let c256_1953_r0 : Index := 256#32
  ![v5826_r0.toNat, 0, 256]
def k0_off407 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5845_r0 : Index := Scalar.indexCast v5764_r0
  let c0_1958_r0 : Index := 0#32
  let c256_1959_r0 : Index := 256#32
  ![v5845_r0.toNat, 0, 256]
def k0_off408 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5853_r0 : Index := Scalar.indexCast v5764_r0
  let c1_1960_r0 : Index := 1#32
  let c256_1961_r0 : Index := 256#32
  ![v5853_r0.toNat, 1, 256]
def k0_off409 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5862_r0 : Index := Scalar.indexCast v5764_r0
  let c0_1962_r0 : Index := 0#32
  let c512_1963_r0 : Index := 512#32
  ![v5862_r0.toNat, 0, 512]
def k0_off410 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5881_r0 : Index := Scalar.indexCast v5764_r0
  let c0_1968_r0 : Index := 0#32
  let c512_1969_r0 : Index := 512#32
  ![v5881_r0.toNat, 0, 512]
def k0_off411 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5889_r0 : Index := Scalar.indexCast v5764_r0
  let c1_1970_r0 : Index := 1#32
  let c512_1971_r0 : Index := 512#32
  ![v5889_r0.toNat, 1, 512]
def k0_off412 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5902_r0 : Index := Scalar.indexCast v5764_r0
  let c128_1975_r0 : Index := 128#32
  let c0_1976_r0 : Index := 0#32
  ![v5902_r0.toNat, 128, 0]
def k0_off413 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5921_r0 : Index := Scalar.indexCast v5764_r0
  let c2_1981_r0 : Index := 2#32
  let c0_1982_r0 : Index := 0#32
  ![v5921_r0.toNat, 2, 0]
def k0_off414 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5929_r0 : Index := Scalar.indexCast v5764_r0
  let c3_1983_r0 : Index := 3#32
  let c0_1984_r0 : Index := 0#32
  ![v5929_r0.toNat, 3, 0]
def k0_off415 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5942_r0 : Index := Scalar.indexCast v5764_r0
  let c128_1988_r0 : Index := 128#32
  let c256_1989_r0 : Index := 256#32
  ![v5942_r0.toNat, 128, 256]
def k0_off416 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5961_r0 : Index := Scalar.indexCast v5764_r0
  let c2_1994_r0 : Index := 2#32
  let c256_1995_r0 : Index := 256#32
  ![v5961_r0.toNat, 2, 256]
def k0_off417 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5969_r0 : Index := Scalar.indexCast v5764_r0
  let c3_1996_r0 : Index := 3#32
  let c256_1997_r0 : Index := 256#32
  ![v5969_r0.toNat, 3, 256]
def k0_off418 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v5982_r0 : Index := Scalar.indexCast v5764_r0
  let c128_2001_r0 : Index := 128#32
  let c512_2002_r0 : Index := 512#32
  ![v5982_r0.toNat, 128, 512]
def k0_off419 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6001_r0 : Index := Scalar.indexCast v5764_r0
  let c2_2007_r0 : Index := 2#32
  let c512_2008_r0 : Index := 512#32
  ![v6001_r0.toNat, 2, 512]
def k0_off420 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6009_r0 : Index := Scalar.indexCast v5764_r0
  let c3_2009_r0 : Index := 3#32
  let c512_2010_r0 : Index := 512#32
  ![v6009_r0.toNat, 3, 512]
def k0_off421 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6022_r0 : Index := Scalar.indexCast v5764_r0
  let c256_2014_r0 : Index := 256#32
  let c0_2015_r0 : Index := 0#32
  ![v6022_r0.toNat, 256, 0]
def k0_off422 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6041_r0 : Index := Scalar.indexCast v5764_r0
  let c4_2020_r0 : Index := 4#32
  let c0_2021_r0 : Index := 0#32
  ![v6041_r0.toNat, 4, 0]
def k0_off423 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6049_r0 : Index := Scalar.indexCast v5764_r0
  let c5_2022_r0 : Index := 5#32
  let c0_2023_r0 : Index := 0#32
  ![v6049_r0.toNat, 5, 0]
def k0_off424 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6062_r0 : Index := Scalar.indexCast v5764_r0
  let c256_2027_r0 : Index := 256#32
  let c256_2028_r0 : Index := 256#32
  ![v6062_r0.toNat, 256, 256]
def k0_off425 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6081_r0 : Index := Scalar.indexCast v5764_r0
  let c4_2033_r0 : Index := 4#32
  let c256_2034_r0 : Index := 256#32
  ![v6081_r0.toNat, 4, 256]
def k0_off426 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6089_r0 : Index := Scalar.indexCast v5764_r0
  let c5_2035_r0 : Index := 5#32
  let c256_2036_r0 : Index := 256#32
  ![v6089_r0.toNat, 5, 256]
def k0_off427 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6102_r0 : Index := Scalar.indexCast v5764_r0
  let c256_2040_r0 : Index := 256#32
  let c512_2041_r0 : Index := 512#32
  ![v6102_r0.toNat, 256, 512]
def k0_off428 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6121_r0 : Index := Scalar.indexCast v5764_r0
  let c4_2046_r0 : Index := 4#32
  let c512_2047_r0 : Index := 512#32
  ![v6121_r0.toNat, 4, 512]
def k0_off429 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6129_r0 : Index := Scalar.indexCast v5764_r0
  let c5_2048_r0 : Index := 5#32
  let c512_2049_r0 : Index := 512#32
  ![v6129_r0.toNat, 5, 512]
def k0_off430 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6142_r0 : Index := Scalar.indexCast v5764_r0
  let c384_2053_r0 : Index := 384#32
  let c0_2054_r0 : Index := 0#32
  ![v6142_r0.toNat, 384, 0]
def k0_off431 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6161_r0 : Index := Scalar.indexCast v5764_r0
  let c6_2059_r0 : Index := 6#32
  let c0_2060_r0 : Index := 0#32
  ![v6161_r0.toNat, 6, 0]
def k0_off432 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6169_r0 : Index := Scalar.indexCast v5764_r0
  let c7_2061_r0 : Index := 7#32
  let c0_2062_r0 : Index := 0#32
  ![v6169_r0.toNat, 7, 0]
def k0_off433 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6182_r0 : Index := Scalar.indexCast v5764_r0
  let c384_2066_r0 : Index := 384#32
  let c256_2067_r0 : Index := 256#32
  ![v6182_r0.toNat, 384, 256]
def k0_off434 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6201_r0 : Index := Scalar.indexCast v5764_r0
  let c6_2072_r0 : Index := 6#32
  let c256_2073_r0 : Index := 256#32
  ![v6201_r0.toNat, 6, 256]
def k0_off435 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6209_r0 : Index := Scalar.indexCast v5764_r0
  let c7_2074_r0 : Index := 7#32
  let c256_2075_r0 : Index := 256#32
  ![v6209_r0.toNat, 7, 256]
def k0_off436 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6222_r0 : Index := Scalar.indexCast v5764_r0
  let c384_2079_r0 : Index := 384#32
  let c512_2080_r0 : Index := 512#32
  ![v6222_r0.toNat, 384, 512]
def k0_off437 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6241_r0 : Index := Scalar.indexCast v5764_r0
  let c6_2085_r0 : Index := 6#32
  let c512_2086_r0 : Index := 512#32
  ![v6241_r0.toNat, 6, 512]
def k0_off438 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6249_r0 : Index := Scalar.indexCast v5764_r0
  let c7_2087_r0 : Index := 7#32
  let c512_2088_r0 : Index := 512#32
  ![v6249_r0.toNat, 7, 512]
def k0_off439 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6262_r0 : Index := Scalar.indexCast v5764_r0
  let c512_2092_r0 : Index := 512#32
  let c0_2093_r0 : Index := 0#32
  ![v6262_r0.toNat, 512, 0]
def k0_off440 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6281_r0 : Index := Scalar.indexCast v5764_r0
  let c8_2098_r0 : Index := 8#32
  let c0_2099_r0 : Index := 0#32
  ![v6281_r0.toNat, 8, 0]
def k0_off441 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6289_r0 : Index := Scalar.indexCast v5764_r0
  let c9_2100_r0 : Index := 9#32
  let c0_2101_r0 : Index := 0#32
  ![v6289_r0.toNat, 9, 0]
def k0_off442 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6302_r0 : Index := Scalar.indexCast v5764_r0
  let c512_2105_r0 : Index := 512#32
  let c256_2106_r0 : Index := 256#32
  ![v6302_r0.toNat, 512, 256]
def k0_off443 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6321_r0 : Index := Scalar.indexCast v5764_r0
  let c8_2111_r0 : Index := 8#32
  let c256_2112_r0 : Index := 256#32
  ![v6321_r0.toNat, 8, 256]
def k0_off444 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6329_r0 : Index := Scalar.indexCast v5764_r0
  let c9_2113_r0 : Index := 9#32
  let c256_2114_r0 : Index := 256#32
  ![v6329_r0.toNat, 9, 256]
def k0_off445 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6342_r0 : Index := Scalar.indexCast v5764_r0
  let c512_2118_r0 : Index := 512#32
  let c512_2119_r0 : Index := 512#32
  ![v6342_r0.toNat, 512, 512]
def k0_off446 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6361_r0 : Index := Scalar.indexCast v5764_r0
  let c8_2124_r0 : Index := 8#32
  let c512_2125_r0 : Index := 512#32
  ![v6361_r0.toNat, 8, 512]
def k0_off447 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6369_r0 : Index := Scalar.indexCast v5764_r0
  let c9_2126_r0 : Index := 9#32
  let c512_2127_r0 : Index := 512#32
  ![v6369_r0.toNat, 9, 512]
def k0_off448 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6382_r0 : Index := Scalar.indexCast v5764_r0
  let c640_2131_r0 : Index := 640#32
  let c0_2132_r0 : Index := 0#32
  ![v6382_r0.toNat, 640, 0]
def k0_off449 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6401_r0 : Index := Scalar.indexCast v5764_r0
  let c10_2137_r0 : Index := 10#32
  let c0_2138_r0 : Index := 0#32
  ![v6401_r0.toNat, 10, 0]
def k0_off450 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6409_r0 : Index := Scalar.indexCast v5764_r0
  let c11_2139_r0 : Index := 11#32
  let c0_2140_r0 : Index := 0#32
  ![v6409_r0.toNat, 11, 0]
def k0_off451 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6422_r0 : Index := Scalar.indexCast v5764_r0
  let c640_2144_r0 : Index := 640#32
  let c256_2145_r0 : Index := 256#32
  ![v6422_r0.toNat, 640, 256]
def k0_off452 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6441_r0 : Index := Scalar.indexCast v5764_r0
  let c10_2150_r0 : Index := 10#32
  let c256_2151_r0 : Index := 256#32
  ![v6441_r0.toNat, 10, 256]
def k0_off453 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6449_r0 : Index := Scalar.indexCast v5764_r0
  let c11_2152_r0 : Index := 11#32
  let c256_2153_r0 : Index := 256#32
  ![v6449_r0.toNat, 11, 256]
def k0_off454 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6462_r0 : Index := Scalar.indexCast v5764_r0
  let c640_2157_r0 : Index := 640#32
  let c512_2158_r0 : Index := 512#32
  ![v6462_r0.toNat, 640, 512]
def k0_off455 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6481_r0 : Index := Scalar.indexCast v5764_r0
  let c10_2163_r0 : Index := 10#32
  let c512_2164_r0 : Index := 512#32
  ![v6481_r0.toNat, 10, 512]
def k0_off456 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6489_r0 : Index := Scalar.indexCast v5764_r0
  let c11_2165_r0 : Index := 11#32
  let c512_2166_r0 : Index := 512#32
  ![v6489_r0.toNat, 11, 512]
def k0_off457 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6502_r0 : Index := Scalar.indexCast v5764_r0
  let c768_2170_r0 : Index := 768#32
  let c0_2171_r0 : Index := 0#32
  ![v6502_r0.toNat, 768, 0]
def k0_off458 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6521_r0 : Index := Scalar.indexCast v5764_r0
  let c12_2176_r0 : Index := 12#32
  let c0_2177_r0 : Index := 0#32
  ![v6521_r0.toNat, 12, 0]
def k0_off459 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6529_r0 : Index := Scalar.indexCast v5764_r0
  let c13_2178_r0 : Index := 13#32
  let c0_2179_r0 : Index := 0#32
  ![v6529_r0.toNat, 13, 0]
def k0_off460 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6542_r0 : Index := Scalar.indexCast v5764_r0
  let c768_2183_r0 : Index := 768#32
  let c256_2184_r0 : Index := 256#32
  ![v6542_r0.toNat, 768, 256]
def k0_off461 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6561_r0 : Index := Scalar.indexCast v5764_r0
  let c12_2189_r0 : Index := 12#32
  let c256_2190_r0 : Index := 256#32
  ![v6561_r0.toNat, 12, 256]
def k0_off462 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6569_r0 : Index := Scalar.indexCast v5764_r0
  let c13_2191_r0 : Index := 13#32
  let c256_2192_r0 : Index := 256#32
  ![v6569_r0.toNat, 13, 256]
def k0_off463 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6582_r0 : Index := Scalar.indexCast v5764_r0
  let c768_2196_r0 : Index := 768#32
  let c512_2197_r0 : Index := 512#32
  ![v6582_r0.toNat, 768, 512]
def k0_off464 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6601_r0 : Index := Scalar.indexCast v5764_r0
  let c12_2202_r0 : Index := 12#32
  let c512_2203_r0 : Index := 512#32
  ![v6601_r0.toNat, 12, 512]
def k0_off465 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6609_r0 : Index := Scalar.indexCast v5764_r0
  let c13_2204_r0 : Index := 13#32
  let c512_2205_r0 : Index := 512#32
  ![v6609_r0.toNat, 13, 512]
def k0_off466 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6622_r0 : Index := Scalar.indexCast v5764_r0
  let c896_2209_r0 : Index := 896#32
  let c0_2210_r0 : Index := 0#32
  ![v6622_r0.toNat, 896, 0]
def k0_off467 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6641_r0 : Index := Scalar.indexCast v5764_r0
  let c14_2215_r0 : Index := 14#32
  let c0_2216_r0 : Index := 0#32
  ![v6641_r0.toNat, 14, 0]
def k0_off468 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6649_r0 : Index := Scalar.indexCast v5764_r0
  let c15_2217_r0 : Index := 15#32
  let c0_2218_r0 : Index := 0#32
  ![v6649_r0.toNat, 15, 0]
def k0_off469 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6662_r0 : Index := Scalar.indexCast v5764_r0
  let c896_2222_r0 : Index := 896#32
  let c256_2223_r0 : Index := 256#32
  ![v6662_r0.toNat, 896, 256]
def k0_off470 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6681_r0 : Index := Scalar.indexCast v5764_r0
  let c14_2228_r0 : Index := 14#32
  let c256_2229_r0 : Index := 256#32
  ![v6681_r0.toNat, 14, 256]
def k0_off471 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6689_r0 : Index := Scalar.indexCast v5764_r0
  let c15_2230_r0 : Index := 15#32
  let c256_2231_r0 : Index := 256#32
  ![v6689_r0.toNat, 15, 256]
def k0_off472 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6702_r0 : Index := Scalar.indexCast v5764_r0
  let c896_2235_r0 : Index := 896#32
  let c512_2236_r0 : Index := 512#32
  ![v6702_r0.toNat, 896, 512]
def k0_off473 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6721_r0 : Index := Scalar.indexCast v5764_r0
  let c14_2241_r0 : Index := 14#32
  let c512_2242_r0 : Index := 512#32
  ![v6721_r0.toNat, 14, 512]
def k0_off474 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6729_r0 : Index := Scalar.indexCast v5764_r0
  let c15_2243_r0 : Index := 15#32
  let c512_2244_r0 : Index := 512#32
  ![v6729_r0.toNat, 15, 512]
def k0_off475 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6742_r0 : Index := Scalar.indexCast v5764_r0
  let c1024_2248_r0 : Index := 1024#32
  let c0_2249_r0 : Index := 0#32
  ![v6742_r0.toNat, 1024, 0]
def k0_off476 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6761_r0 : Index := Scalar.indexCast v5764_r0
  let c16_2254_r0 : Index := 16#32
  let c0_2255_r0 : Index := 0#32
  ![v6761_r0.toNat, 16, 0]
def k0_off477 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6769_r0 : Index := Scalar.indexCast v5764_r0
  let c17_2256_r0 : Index := 17#32
  let c0_2257_r0 : Index := 0#32
  ![v6769_r0.toNat, 17, 0]
def k0_off478 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6782_r0 : Index := Scalar.indexCast v5764_r0
  let c1024_2261_r0 : Index := 1024#32
  let c256_2262_r0 : Index := 256#32
  ![v6782_r0.toNat, 1024, 256]
def k0_off479 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6801_r0 : Index := Scalar.indexCast v5764_r0
  let c16_2267_r0 : Index := 16#32
  let c256_2268_r0 : Index := 256#32
  ![v6801_r0.toNat, 16, 256]
def k0_off480 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6809_r0 : Index := Scalar.indexCast v5764_r0
  let c17_2269_r0 : Index := 17#32
  let c256_2270_r0 : Index := 256#32
  ![v6809_r0.toNat, 17, 256]
def k0_off481 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6822_r0 : Index := Scalar.indexCast v5764_r0
  let c1024_2274_r0 : Index := 1024#32
  let c512_2275_r0 : Index := 512#32
  ![v6822_r0.toNat, 1024, 512]
def k0_off482 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6841_r0 : Index := Scalar.indexCast v5764_r0
  let c16_2280_r0 : Index := 16#32
  let c512_2281_r0 : Index := 512#32
  ![v6841_r0.toNat, 16, 512]
def k0_off483 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6849_r0 : Index := Scalar.indexCast v5764_r0
  let c17_2282_r0 : Index := 17#32
  let c512_2283_r0 : Index := 512#32
  ![v6849_r0.toNat, 17, 512]
def k0_off484 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6862_r0 : Index := Scalar.indexCast v5764_r0
  let c1152_2287_r0 : Index := 1152#32
  let c0_2288_r0 : Index := 0#32
  ![v6862_r0.toNat, 1152, 0]
def k0_off485 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6881_r0 : Index := Scalar.indexCast v5764_r0
  let c18_2293_r0 : Index := 18#32
  let c0_2294_r0 : Index := 0#32
  ![v6881_r0.toNat, 18, 0]
def k0_off486 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6889_r0 : Index := Scalar.indexCast v5764_r0
  let c19_2295_r0 : Index := 19#32
  let c0_2296_r0 : Index := 0#32
  ![v6889_r0.toNat, 19, 0]
def k0_off487 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6902_r0 : Index := Scalar.indexCast v5764_r0
  let c1152_2300_r0 : Index := 1152#32
  let c256_2301_r0 : Index := 256#32
  ![v6902_r0.toNat, 1152, 256]
def k0_off488 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6921_r0 : Index := Scalar.indexCast v5764_r0
  let c18_2306_r0 : Index := 18#32
  let c256_2307_r0 : Index := 256#32
  ![v6921_r0.toNat, 18, 256]
def k0_off489 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6929_r0 : Index := Scalar.indexCast v5764_r0
  let c19_2308_r0 : Index := 19#32
  let c256_2309_r0 : Index := 256#32
  ![v6929_r0.toNat, 19, 256]
def k0_off490 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6942_r0 : Index := Scalar.indexCast v5764_r0
  let c1152_2313_r0 : Index := 1152#32
  let c512_2314_r0 : Index := 512#32
  ![v6942_r0.toNat, 1152, 512]
def k0_off491 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6961_r0 : Index := Scalar.indexCast v5764_r0
  let c18_2319_r0 : Index := 18#32
  let c512_2320_r0 : Index := 512#32
  ![v6961_r0.toNat, 18, 512]
def k0_off492 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6969_r0 : Index := Scalar.indexCast v5764_r0
  let c19_2321_r0 : Index := 19#32
  let c512_2322_r0 : Index := 512#32
  ![v6969_r0.toNat, 19, 512]
def k0_off493 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v6982_r0 : Index := Scalar.indexCast v5764_r0
  let c1280_2326_r0 : Index := 1280#32
  let c0_2327_r0 : Index := 0#32
  ![v6982_r0.toNat, 1280, 0]
def k0_off494 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7001_r0 : Index := Scalar.indexCast v5764_r0
  let c20_2332_r0 : Index := 20#32
  let c0_2333_r0 : Index := 0#32
  ![v7001_r0.toNat, 20, 0]
def k0_off495 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7009_r0 : Index := Scalar.indexCast v5764_r0
  let c21_2334_r0 : Index := 21#32
  let c0_2335_r0 : Index := 0#32
  ![v7009_r0.toNat, 21, 0]
def k0_off496 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7022_r0 : Index := Scalar.indexCast v5764_r0
  let c1280_2339_r0 : Index := 1280#32
  let c256_2340_r0 : Index := 256#32
  ![v7022_r0.toNat, 1280, 256]
def k0_off497 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7041_r0 : Index := Scalar.indexCast v5764_r0
  let c20_2345_r0 : Index := 20#32
  let c256_2346_r0 : Index := 256#32
  ![v7041_r0.toNat, 20, 256]
def k0_off498 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7049_r0 : Index := Scalar.indexCast v5764_r0
  let c21_2347_r0 : Index := 21#32
  let c256_2348_r0 : Index := 256#32
  ![v7049_r0.toNat, 21, 256]
def k0_off499 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7062_r0 : Index := Scalar.indexCast v5764_r0
  let c1280_2352_r0 : Index := 1280#32
  let c512_2353_r0 : Index := 512#32
  ![v7062_r0.toNat, 1280, 512]
def k0_off500 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7081_r0 : Index := Scalar.indexCast v5764_r0
  let c20_2358_r0 : Index := 20#32
  let c512_2359_r0 : Index := 512#32
  ![v7081_r0.toNat, 20, 512]
def k0_off501 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7089_r0 : Index := Scalar.indexCast v5764_r0
  let c21_2360_r0 : Index := 21#32
  let c512_2361_r0 : Index := 512#32
  ![v7089_r0.toNat, 21, 512]
def k0_off502 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7102_r0 : Index := Scalar.indexCast v5764_r0
  let c1408_2365_r0 : Index := 1408#32
  let c0_2366_r0 : Index := 0#32
  ![v7102_r0.toNat, 1408, 0]
def k0_off503 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7121_r0 : Index := Scalar.indexCast v5764_r0
  let c22_2371_r0 : Index := 22#32
  let c0_2372_r0 : Index := 0#32
  ![v7121_r0.toNat, 22, 0]
def k0_off504 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7129_r0 : Index := Scalar.indexCast v5764_r0
  let c23_2373_r0 : Index := 23#32
  let c0_2374_r0 : Index := 0#32
  ![v7129_r0.toNat, 23, 0]
def k0_off505 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7142_r0 : Index := Scalar.indexCast v5764_r0
  let c1408_2378_r0 : Index := 1408#32
  let c256_2379_r0 : Index := 256#32
  ![v7142_r0.toNat, 1408, 256]
def k0_off506 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7161_r0 : Index := Scalar.indexCast v5764_r0
  let c22_2384_r0 : Index := 22#32
  let c256_2385_r0 : Index := 256#32
  ![v7161_r0.toNat, 22, 256]
def k0_off507 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7169_r0 : Index := Scalar.indexCast v5764_r0
  let c23_2386_r0 : Index := 23#32
  let c256_2387_r0 : Index := 256#32
  ![v7169_r0.toNat, 23, 256]
def k0_off508 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7182_r0 : Index := Scalar.indexCast v5764_r0
  let c1408_2391_r0 : Index := 1408#32
  let c512_2392_r0 : Index := 512#32
  ![v7182_r0.toNat, 1408, 512]
def k0_off509 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7201_r0 : Index := Scalar.indexCast v5764_r0
  let c22_2397_r0 : Index := 22#32
  let c512_2398_r0 : Index := 512#32
  ![v7201_r0.toNat, 22, 512]
def k0_off510 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7209_r0 : Index := Scalar.indexCast v5764_r0
  let c23_2399_r0 : Index := 23#32
  let c512_2400_r0 : Index := 512#32
  ![v7209_r0.toNat, 23, 512]
def k0_off511 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7222_r0 : Index := Scalar.indexCast v5764_r0
  let c1536_2404_r0 : Index := 1536#32
  let c0_2405_r0 : Index := 0#32
  ![v7222_r0.toNat, 1536, 0]

variable {F : FTy → Type} [FloatOps F]

def k0_off512 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7241_r0 : Index := Scalar.indexCast v5764_r0
  let c24_2410_r0 : Index := 24#32
  let c0_2411_r0 : Index := 0#32
  ![v7241_r0.toNat, 24, 0]
def k0_off513 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7249_r0 : Index := Scalar.indexCast v5764_r0
  let c25_2412_r0 : Index := 25#32
  let c0_2413_r0 : Index := 0#32
  ![v7249_r0.toNat, 25, 0]
def k0_off514 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7262_r0 : Index := Scalar.indexCast v5764_r0
  let c1536_2417_r0 : Index := 1536#32
  let c256_2418_r0 : Index := 256#32
  ![v7262_r0.toNat, 1536, 256]
def k0_off515 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7281_r0 : Index := Scalar.indexCast v5764_r0
  let c24_2423_r0 : Index := 24#32
  let c256_2424_r0 : Index := 256#32
  ![v7281_r0.toNat, 24, 256]
def k0_off516 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7289_r0 : Index := Scalar.indexCast v5764_r0
  let c25_2425_r0 : Index := 25#32
  let c256_2426_r0 : Index := 256#32
  ![v7289_r0.toNat, 25, 256]
def k0_off517 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7302_r0 : Index := Scalar.indexCast v5764_r0
  let c1536_2430_r0 : Index := 1536#32
  let c512_2431_r0 : Index := 512#32
  ![v7302_r0.toNat, 1536, 512]
def k0_off518 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7321_r0 : Index := Scalar.indexCast v5764_r0
  let c24_2436_r0 : Index := 24#32
  let c512_2437_r0 : Index := 512#32
  ![v7321_r0.toNat, 24, 512]
def k0_off519 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7329_r0 : Index := Scalar.indexCast v5764_r0
  let c25_2438_r0 : Index := 25#32
  let c512_2439_r0 : Index := 512#32
  ![v7329_r0.toNat, 25, 512]
def k0_off520 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7342_r0 : Index := Scalar.indexCast v5764_r0
  let c1664_2443_r0 : Index := 1664#32
  let c0_2444_r0 : Index := 0#32
  ![v7342_r0.toNat, 1664, 0]
def k0_off521 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7361_r0 : Index := Scalar.indexCast v5764_r0
  let c26_2449_r0 : Index := 26#32
  let c0_2450_r0 : Index := 0#32
  ![v7361_r0.toNat, 26, 0]
def k0_off522 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7369_r0 : Index := Scalar.indexCast v5764_r0
  let c27_2451_r0 : Index := 27#32
  let c0_2452_r0 : Index := 0#32
  ![v7369_r0.toNat, 27, 0]
def k0_off523 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7382_r0 : Index := Scalar.indexCast v5764_r0
  let c1664_2456_r0 : Index := 1664#32
  let c256_2457_r0 : Index := 256#32
  ![v7382_r0.toNat, 1664, 256]
def k0_off524 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7401_r0 : Index := Scalar.indexCast v5764_r0
  let c26_2462_r0 : Index := 26#32
  let c256_2463_r0 : Index := 256#32
  ![v7401_r0.toNat, 26, 256]
def k0_off525 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7409_r0 : Index := Scalar.indexCast v5764_r0
  let c27_2464_r0 : Index := 27#32
  let c256_2465_r0 : Index := 256#32
  ![v7409_r0.toNat, 27, 256]
def k0_off526 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7422_r0 : Index := Scalar.indexCast v5764_r0
  let c1664_2469_r0 : Index := 1664#32
  let c512_2470_r0 : Index := 512#32
  ![v7422_r0.toNat, 1664, 512]
def k0_off527 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7441_r0 : Index := Scalar.indexCast v5764_r0
  let c26_2475_r0 : Index := 26#32
  let c512_2476_r0 : Index := 512#32
  ![v7441_r0.toNat, 26, 512]
def k0_off528 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7449_r0 : Index := Scalar.indexCast v5764_r0
  let c27_2477_r0 : Index := 27#32
  let c512_2478_r0 : Index := 512#32
  ![v7449_r0.toNat, 27, 512]
def k0_off529 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7462_r0 : Index := Scalar.indexCast v5764_r0
  let c1792_2482_r0 : Index := 1792#32
  let c0_2483_r0 : Index := 0#32
  ![v7462_r0.toNat, 1792, 0]
def k0_off530 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7481_r0 : Index := Scalar.indexCast v5764_r0
  let c28_2488_r0 : Index := 28#32
  let c0_2489_r0 : Index := 0#32
  ![v7481_r0.toNat, 28, 0]
def k0_off531 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7489_r0 : Index := Scalar.indexCast v5764_r0
  let c29_2490_r0 : Index := 29#32
  let c0_2491_r0 : Index := 0#32
  ![v7489_r0.toNat, 29, 0]
def k0_off532 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7502_r0 : Index := Scalar.indexCast v5764_r0
  let c1792_2495_r0 : Index := 1792#32
  let c256_2496_r0 : Index := 256#32
  ![v7502_r0.toNat, 1792, 256]
def k0_off533 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7521_r0 : Index := Scalar.indexCast v5764_r0
  let c28_2501_r0 : Index := 28#32
  let c256_2502_r0 : Index := 256#32
  ![v7521_r0.toNat, 28, 256]
def k0_off534 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7529_r0 : Index := Scalar.indexCast v5764_r0
  let c29_2503_r0 : Index := 29#32
  let c256_2504_r0 : Index := 256#32
  ![v7529_r0.toNat, 29, 256]
def k0_off535 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7542_r0 : Index := Scalar.indexCast v5764_r0
  let c1792_2508_r0 : Index := 1792#32
  let c512_2509_r0 : Index := 512#32
  ![v7542_r0.toNat, 1792, 512]
def k0_off536 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7561_r0 : Index := Scalar.indexCast v5764_r0
  let c28_2514_r0 : Index := 28#32
  let c512_2515_r0 : Index := 512#32
  ![v7561_r0.toNat, 28, 512]
def k0_off537 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7569_r0 : Index := Scalar.indexCast v5764_r0
  let c29_2516_r0 : Index := 29#32
  let c512_2517_r0 : Index := 512#32
  ![v7569_r0.toNat, 29, 512]
def k0_off538 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7582_r0 : Index := Scalar.indexCast v5764_r0
  let c1920_2521_r0 : Index := 1920#32
  let c0_2522_r0 : Index := 0#32
  ![v7582_r0.toNat, 1920, 0]
def k0_off539 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7601_r0 : Index := Scalar.indexCast v5764_r0
  let c30_2527_r0 : Index := 30#32
  let c0_2528_r0 : Index := 0#32
  ![v7601_r0.toNat, 30, 0]
def k0_off540 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7609_r0 : Index := Scalar.indexCast v5764_r0
  let c31_2529_r0 : Index := 31#32
  let c0_2530_r0 : Index := 0#32
  ![v7609_r0.toNat, 31, 0]
def k0_off541 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7622_r0 : Index := Scalar.indexCast v5764_r0
  let c1920_2534_r0 : Index := 1920#32
  let c256_2535_r0 : Index := 256#32
  ![v7622_r0.toNat, 1920, 256]
def k0_off542 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7641_r0 : Index := Scalar.indexCast v5764_r0
  let c30_2540_r0 : Index := 30#32
  let c256_2541_r0 : Index := 256#32
  ![v7641_r0.toNat, 30, 256]
def k0_off543 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7649_r0 : Index := Scalar.indexCast v5764_r0
  let c31_2542_r0 : Index := 31#32
  let c256_2543_r0 : Index := 256#32
  ![v7649_r0.toNat, 31, 256]
def k0_off544 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7662_r0 : Index := Scalar.indexCast v5764_r0
  let c1920_2547_r0 : Index := 1920#32
  let c512_2548_r0 : Index := 512#32
  ![v7662_r0.toNat, 1920, 512]
def k0_off545 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7681_r0 : Index := Scalar.indexCast v5764_r0
  let c30_2553_r0 : Index := 30#32
  let c512_2554_r0 : Index := 512#32
  ![v7681_r0.toNat, 30, 512]
def k0_off546 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7689_r0 : Index := Scalar.indexCast v5764_r0
  let c31_2555_r0 : Index := 31#32
  let c512_2556_r0 : Index := 512#32
  ![v7689_r0.toNat, 31, 512]
def k0_off547 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7702_r0 : Index := Scalar.indexCast v5764_r0
  let c2048_2560_r0 : Index := 2048#32
  let c0_2561_r0 : Index := 0#32
  ![v7702_r0.toNat, 2048, 0]
def k0_off548 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7721_r0 : Index := Scalar.indexCast v5764_r0
  let c32_r0 : Index := 32#32
  let c0_2566_r0 : Index := 0#32
  ![v7721_r0.toNat, 32, 0]
def k0_off549 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7729_r0 : Index := Scalar.indexCast v5764_r0
  let c33_r0 : Index := 33#32
  let c0_2567_r0 : Index := 0#32
  ![v7729_r0.toNat, 33, 0]
def k0_off550 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7742_r0 : Index := Scalar.indexCast v5764_r0
  let c2048_2571_r0 : Index := 2048#32
  let c256_2572_r0 : Index := 256#32
  ![v7742_r0.toNat, 2048, 256]
def k0_off551 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7761_r0 : Index := Scalar.indexCast v5764_r0
  let c32_2577_r0 : Index := 32#32
  let c256_2578_r0 : Index := 256#32
  ![v7761_r0.toNat, 32, 256]
def k0_off552 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7769_r0 : Index := Scalar.indexCast v5764_r0
  let c33_2579_r0 : Index := 33#32
  let c256_2580_r0 : Index := 256#32
  ![v7769_r0.toNat, 33, 256]
def k0_off553 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7782_r0 : Index := Scalar.indexCast v5764_r0
  let c2048_2584_r0 : Index := 2048#32
  let c512_2585_r0 : Index := 512#32
  ![v7782_r0.toNat, 2048, 512]
def k0_off554 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7801_r0 : Index := Scalar.indexCast v5764_r0
  let c32_2590_r0 : Index := 32#32
  let c512_2591_r0 : Index := 512#32
  ![v7801_r0.toNat, 32, 512]
def k0_off555 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7809_r0 : Index := Scalar.indexCast v5764_r0
  let c33_2592_r0 : Index := 33#32
  let c512_2593_r0 : Index := 512#32
  ![v7809_r0.toNat, 33, 512]
def k0_off556 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7822_r0 : Index := Scalar.indexCast v5764_r0
  let c2176_2597_r0 : Index := 2176#32
  let c0_2598_r0 : Index := 0#32
  ![v7822_r0.toNat, 2176, 0]
def k0_off557 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7841_r0 : Index := Scalar.indexCast v5764_r0
  let c34_r0 : Index := 34#32
  let c0_2603_r0 : Index := 0#32
  ![v7841_r0.toNat, 34, 0]
def k0_off558 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7849_r0 : Index := Scalar.indexCast v5764_r0
  let c35_r0 : Index := 35#32
  let c0_2604_r0 : Index := 0#32
  ![v7849_r0.toNat, 35, 0]
def k0_off559 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7862_r0 : Index := Scalar.indexCast v5764_r0
  let c2176_2608_r0 : Index := 2176#32
  let c256_2609_r0 : Index := 256#32
  ![v7862_r0.toNat, 2176, 256]
def k0_off560 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7881_r0 : Index := Scalar.indexCast v5764_r0
  let c34_2614_r0 : Index := 34#32
  let c256_2615_r0 : Index := 256#32
  ![v7881_r0.toNat, 34, 256]
def k0_off561 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7889_r0 : Index := Scalar.indexCast v5764_r0
  let c35_2616_r0 : Index := 35#32
  let c256_2617_r0 : Index := 256#32
  ![v7889_r0.toNat, 35, 256]
def k0_off562 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7902_r0 : Index := Scalar.indexCast v5764_r0
  let c2176_2621_r0 : Index := 2176#32
  let c512_2622_r0 : Index := 512#32
  ![v7902_r0.toNat, 2176, 512]
def k0_off563 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7921_r0 : Index := Scalar.indexCast v5764_r0
  let c34_2627_r0 : Index := 34#32
  let c512_2628_r0 : Index := 512#32
  ![v7921_r0.toNat, 34, 512]
def k0_off564 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7929_r0 : Index := Scalar.indexCast v5764_r0
  let c35_2629_r0 : Index := 35#32
  let c512_2630_r0 : Index := 512#32
  ![v7929_r0.toNat, 35, 512]
def k0_off565 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7942_r0 : Index := Scalar.indexCast v5764_r0
  let c2304_2634_r0 : Index := 2304#32
  let c0_2635_r0 : Index := 0#32
  ![v7942_r0.toNat, 2304, 0]
def k0_off566 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7961_r0 : Index := Scalar.indexCast v5764_r0
  let c36_r0 : Index := 36#32
  let c0_2640_r0 : Index := 0#32
  ![v7961_r0.toNat, 36, 0]
def k0_off567 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7969_r0 : Index := Scalar.indexCast v5764_r0
  let c37_r0 : Index := 37#32
  let c0_2641_r0 : Index := 0#32
  ![v7969_r0.toNat, 37, 0]
def k0_off568 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v7982_r0 : Index := Scalar.indexCast v5764_r0
  let c2304_2645_r0 : Index := 2304#32
  let c256_2646_r0 : Index := 256#32
  ![v7982_r0.toNat, 2304, 256]
def k0_off569 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8001_r0 : Index := Scalar.indexCast v5764_r0
  let c36_2651_r0 : Index := 36#32
  let c256_2652_r0 : Index := 256#32
  ![v8001_r0.toNat, 36, 256]
def k0_off570 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8009_r0 : Index := Scalar.indexCast v5764_r0
  let c37_2653_r0 : Index := 37#32
  let c256_2654_r0 : Index := 256#32
  ![v8009_r0.toNat, 37, 256]
def k0_off571 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8022_r0 : Index := Scalar.indexCast v5764_r0
  let c2304_2658_r0 : Index := 2304#32
  let c512_2659_r0 : Index := 512#32
  ![v8022_r0.toNat, 2304, 512]
def k0_off572 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8041_r0 : Index := Scalar.indexCast v5764_r0
  let c36_2664_r0 : Index := 36#32
  let c512_2665_r0 : Index := 512#32
  ![v8041_r0.toNat, 36, 512]
def k0_off573 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8049_r0 : Index := Scalar.indexCast v5764_r0
  let c37_2666_r0 : Index := 37#32
  let c512_2667_r0 : Index := 512#32
  ![v8049_r0.toNat, 37, 512]
def k0_off574 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8062_r0 : Index := Scalar.indexCast v5764_r0
  let c2432_2671_r0 : Index := 2432#32
  let c0_2672_r0 : Index := 0#32
  ![v8062_r0.toNat, 2432, 0]
def k0_off575 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8081_r0 : Index := Scalar.indexCast v5764_r0
  let c38_r0 : Index := 38#32
  let c0_2677_r0 : Index := 0#32
  ![v8081_r0.toNat, 38, 0]
def k0_off576 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8089_r0 : Index := Scalar.indexCast v5764_r0
  let c39_r0 : Index := 39#32
  let c0_2678_r0 : Index := 0#32
  ![v8089_r0.toNat, 39, 0]
def k0_off577 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8102_r0 : Index := Scalar.indexCast v5764_r0
  let c2432_2682_r0 : Index := 2432#32
  let c256_2683_r0 : Index := 256#32
  ![v8102_r0.toNat, 2432, 256]
def k0_off578 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8121_r0 : Index := Scalar.indexCast v5764_r0
  let c38_2688_r0 : Index := 38#32
  let c256_2689_r0 : Index := 256#32
  ![v8121_r0.toNat, 38, 256]
def k0_off579 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8129_r0 : Index := Scalar.indexCast v5764_r0
  let c39_2690_r0 : Index := 39#32
  let c256_2691_r0 : Index := 256#32
  ![v8129_r0.toNat, 39, 256]
def k0_off580 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8142_r0 : Index := Scalar.indexCast v5764_r0
  let c2432_2695_r0 : Index := 2432#32
  let c512_2696_r0 : Index := 512#32
  ![v8142_r0.toNat, 2432, 512]
def k0_off581 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8161_r0 : Index := Scalar.indexCast v5764_r0
  let c38_2701_r0 : Index := 38#32
  let c512_2702_r0 : Index := 512#32
  ![v8161_r0.toNat, 38, 512]
def k0_off582 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8169_r0 : Index := Scalar.indexCast v5764_r0
  let c39_2703_r0 : Index := 39#32
  let c512_2704_r0 : Index := 512#32
  ![v8169_r0.toNat, 39, 512]
def k0_off583 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8182_r0 : Index := Scalar.indexCast v5764_r0
  let c2560_2708_r0 : Index := 2560#32
  let c0_2709_r0 : Index := 0#32
  ![v8182_r0.toNat, 2560, 0]
def k0_off584 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8201_r0 : Index := Scalar.indexCast v5764_r0
  let c40_r0 : Index := 40#32
  let c0_2714_r0 : Index := 0#32
  ![v8201_r0.toNat, 40, 0]
def k0_off585 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8209_r0 : Index := Scalar.indexCast v5764_r0
  let c41_r0 : Index := 41#32
  let c0_2715_r0 : Index := 0#32
  ![v8209_r0.toNat, 41, 0]
def k0_off586 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8222_r0 : Index := Scalar.indexCast v5764_r0
  let c2560_2719_r0 : Index := 2560#32
  let c256_2720_r0 : Index := 256#32
  ![v8222_r0.toNat, 2560, 256]
def k0_off587 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8241_r0 : Index := Scalar.indexCast v5764_r0
  let c40_2725_r0 : Index := 40#32
  let c256_2726_r0 : Index := 256#32
  ![v8241_r0.toNat, 40, 256]
def k0_off588 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8249_r0 : Index := Scalar.indexCast v5764_r0
  let c41_2727_r0 : Index := 41#32
  let c256_2728_r0 : Index := 256#32
  ![v8249_r0.toNat, 41, 256]
def k0_off589 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8262_r0 : Index := Scalar.indexCast v5764_r0
  let c2560_2732_r0 : Index := 2560#32
  let c512_2733_r0 : Index := 512#32
  ![v8262_r0.toNat, 2560, 512]
def k0_off590 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8281_r0 : Index := Scalar.indexCast v5764_r0
  let c40_2738_r0 : Index := 40#32
  let c512_2739_r0 : Index := 512#32
  ![v8281_r0.toNat, 40, 512]
def k0_off591 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8289_r0 : Index := Scalar.indexCast v5764_r0
  let c41_2740_r0 : Index := 41#32
  let c512_2741_r0 : Index := 512#32
  ![v8289_r0.toNat, 41, 512]
def k0_off592 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8302_r0 : Index := Scalar.indexCast v5764_r0
  let c2688_2745_r0 : Index := 2688#32
  let c0_2746_r0 : Index := 0#32
  ![v8302_r0.toNat, 2688, 0]
def k0_off593 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8321_r0 : Index := Scalar.indexCast v5764_r0
  let c42_r0 : Index := 42#32
  let c0_2751_r0 : Index := 0#32
  ![v8321_r0.toNat, 42, 0]
def k0_off594 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8329_r0 : Index := Scalar.indexCast v5764_r0
  let c43_r0 : Index := 43#32
  let c0_2752_r0 : Index := 0#32
  ![v8329_r0.toNat, 43, 0]
def k0_off595 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8342_r0 : Index := Scalar.indexCast v5764_r0
  let c2688_2756_r0 : Index := 2688#32
  let c256_2757_r0 : Index := 256#32
  ![v8342_r0.toNat, 2688, 256]
def k0_off596 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8361_r0 : Index := Scalar.indexCast v5764_r0
  let c42_2762_r0 : Index := 42#32
  let c256_2763_r0 : Index := 256#32
  ![v8361_r0.toNat, 42, 256]
def k0_off597 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8369_r0 : Index := Scalar.indexCast v5764_r0
  let c43_2764_r0 : Index := 43#32
  let c256_2765_r0 : Index := 256#32
  ![v8369_r0.toNat, 43, 256]
def k0_off598 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8382_r0 : Index := Scalar.indexCast v5764_r0
  let c2688_2769_r0 : Index := 2688#32
  let c512_2770_r0 : Index := 512#32
  ![v8382_r0.toNat, 2688, 512]
def k0_off599 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8401_r0 : Index := Scalar.indexCast v5764_r0
  let c42_2775_r0 : Index := 42#32
  let c512_2776_r0 : Index := 512#32
  ![v8401_r0.toNat, 42, 512]
def k0_off600 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8409_r0 : Index := Scalar.indexCast v5764_r0
  let c43_2777_r0 : Index := 43#32
  let c512_2778_r0 : Index := 512#32
  ![v8409_r0.toNat, 43, 512]
def k0_off601 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8422_r0 : Index := Scalar.indexCast v5764_r0
  let c2816_2782_r0 : Index := 2816#32
  let c0_2783_r0 : Index := 0#32
  ![v8422_r0.toNat, 2816, 0]
def k0_off602 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8441_r0 : Index := Scalar.indexCast v5764_r0
  let c44_r0 : Index := 44#32
  let c0_2788_r0 : Index := 0#32
  ![v8441_r0.toNat, 44, 0]
def k0_off603 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8449_r0 : Index := Scalar.indexCast v5764_r0
  let c45_r0 : Index := 45#32
  let c0_2789_r0 : Index := 0#32
  ![v8449_r0.toNat, 45, 0]
def k0_off604 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8462_r0 : Index := Scalar.indexCast v5764_r0
  let c2816_2793_r0 : Index := 2816#32
  let c256_2794_r0 : Index := 256#32
  ![v8462_r0.toNat, 2816, 256]
def k0_off605 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8481_r0 : Index := Scalar.indexCast v5764_r0
  let c44_2799_r0 : Index := 44#32
  let c256_2800_r0 : Index := 256#32
  ![v8481_r0.toNat, 44, 256]
def k0_off606 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8489_r0 : Index := Scalar.indexCast v5764_r0
  let c45_2801_r0 : Index := 45#32
  let c256_2802_r0 : Index := 256#32
  ![v8489_r0.toNat, 45, 256]
def k0_off607 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8502_r0 : Index := Scalar.indexCast v5764_r0
  let c2816_2806_r0 : Index := 2816#32
  let c512_2807_r0 : Index := 512#32
  ![v8502_r0.toNat, 2816, 512]
def k0_off608 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8521_r0 : Index := Scalar.indexCast v5764_r0
  let c44_2812_r0 : Index := 44#32
  let c512_2813_r0 : Index := 512#32
  ![v8521_r0.toNat, 44, 512]
def k0_off609 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8529_r0 : Index := Scalar.indexCast v5764_r0
  let c45_2814_r0 : Index := 45#32
  let c512_2815_r0 : Index := 512#32
  ![v8529_r0.toNat, 45, 512]
def k0_off610 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8542_r0 : Index := Scalar.indexCast v5764_r0
  let c2944_2819_r0 : Index := 2944#32
  let c0_2820_r0 : Index := 0#32
  ![v8542_r0.toNat, 2944, 0]
def k0_off611 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8561_r0 : Index := Scalar.indexCast v5764_r0
  let c46_r0 : Index := 46#32
  let c0_2825_r0 : Index := 0#32
  ![v8561_r0.toNat, 46, 0]
def k0_off612 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8569_r0 : Index := Scalar.indexCast v5764_r0
  let c47_r0 : Index := 47#32
  let c0_2826_r0 : Index := 0#32
  ![v8569_r0.toNat, 47, 0]
def k0_off613 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8582_r0 : Index := Scalar.indexCast v5764_r0
  let c2944_2830_r0 : Index := 2944#32
  let c256_2831_r0 : Index := 256#32
  ![v8582_r0.toNat, 2944, 256]
def k0_off614 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8601_r0 : Index := Scalar.indexCast v5764_r0
  let c46_2836_r0 : Index := 46#32
  let c256_2837_r0 : Index := 256#32
  ![v8601_r0.toNat, 46, 256]
def k0_off615 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8609_r0 : Index := Scalar.indexCast v5764_r0
  let c47_2838_r0 : Index := 47#32
  let c256_2839_r0 : Index := 256#32
  ![v8609_r0.toNat, 47, 256]
def k0_off616 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8622_r0 : Index := Scalar.indexCast v5764_r0
  let c2944_2843_r0 : Index := 2944#32
  let c512_2844_r0 : Index := 512#32
  ![v8622_r0.toNat, 2944, 512]
def k0_off617 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8641_r0 : Index := Scalar.indexCast v5764_r0
  let c46_2849_r0 : Index := 46#32
  let c512_2850_r0 : Index := 512#32
  ![v8641_r0.toNat, 46, 512]
def k0_off618 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8649_r0 : Index := Scalar.indexCast v5764_r0
  let c47_2851_r0 : Index := 47#32
  let c512_2852_r0 : Index := 512#32
  ![v8649_r0.toNat, 47, 512]
def k0_off619 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8662_r0 : Index := Scalar.indexCast v5764_r0
  let c3072_2856_r0 : Index := 3072#32
  let c0_2857_r0 : Index := 0#32
  ![v8662_r0.toNat, 3072, 0]
def k0_off620 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8681_r0 : Index := Scalar.indexCast v5764_r0
  let c48_r0 : Index := 48#32
  let c0_2862_r0 : Index := 0#32
  ![v8681_r0.toNat, 48, 0]
def k0_off621 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8689_r0 : Index := Scalar.indexCast v5764_r0
  let c49_r0 : Index := 49#32
  let c0_2863_r0 : Index := 0#32
  ![v8689_r0.toNat, 49, 0]
def k0_off622 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8702_r0 : Index := Scalar.indexCast v5764_r0
  let c3072_2867_r0 : Index := 3072#32
  let c256_2868_r0 : Index := 256#32
  ![v8702_r0.toNat, 3072, 256]
def k0_off623 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8721_r0 : Index := Scalar.indexCast v5764_r0
  let c48_2873_r0 : Index := 48#32
  let c256_2874_r0 : Index := 256#32
  ![v8721_r0.toNat, 48, 256]
def k0_off624 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8729_r0 : Index := Scalar.indexCast v5764_r0
  let c49_2875_r0 : Index := 49#32
  let c256_2876_r0 : Index := 256#32
  ![v8729_r0.toNat, 49, 256]
def k0_off625 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8742_r0 : Index := Scalar.indexCast v5764_r0
  let c3072_2880_r0 : Index := 3072#32
  let c512_2881_r0 : Index := 512#32
  ![v8742_r0.toNat, 3072, 512]
def k0_off626 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8761_r0 : Index := Scalar.indexCast v5764_r0
  let c48_2886_r0 : Index := 48#32
  let c512_2887_r0 : Index := 512#32
  ![v8761_r0.toNat, 48, 512]
def k0_off627 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8769_r0 : Index := Scalar.indexCast v5764_r0
  let c49_2888_r0 : Index := 49#32
  let c512_2889_r0 : Index := 512#32
  ![v8769_r0.toNat, 49, 512]
def k0_off628 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8782_r0 : Index := Scalar.indexCast v5764_r0
  let c3200_2893_r0 : Index := 3200#32
  let c0_2894_r0 : Index := 0#32
  ![v8782_r0.toNat, 3200, 0]
def k0_off629 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8801_r0 : Index := Scalar.indexCast v5764_r0
  let c50_r0 : Index := 50#32
  let c0_2899_r0 : Index := 0#32
  ![v8801_r0.toNat, 50, 0]
def k0_off630 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8809_r0 : Index := Scalar.indexCast v5764_r0
  let c51_r0 : Index := 51#32
  let c0_2900_r0 : Index := 0#32
  ![v8809_r0.toNat, 51, 0]
def k0_off631 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8822_r0 : Index := Scalar.indexCast v5764_r0
  let c3200_2904_r0 : Index := 3200#32
  let c256_2905_r0 : Index := 256#32
  ![v8822_r0.toNat, 3200, 256]
def k0_off632 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8841_r0 : Index := Scalar.indexCast v5764_r0
  let c50_2910_r0 : Index := 50#32
  let c256_2911_r0 : Index := 256#32
  ![v8841_r0.toNat, 50, 256]
def k0_off633 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8849_r0 : Index := Scalar.indexCast v5764_r0
  let c51_2912_r0 : Index := 51#32
  let c256_2913_r0 : Index := 256#32
  ![v8849_r0.toNat, 51, 256]
def k0_off634 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8862_r0 : Index := Scalar.indexCast v5764_r0
  let c3200_2917_r0 : Index := 3200#32
  let c512_2918_r0 : Index := 512#32
  ![v8862_r0.toNat, 3200, 512]
def k0_off635 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8881_r0 : Index := Scalar.indexCast v5764_r0
  let c50_2923_r0 : Index := 50#32
  let c512_2924_r0 : Index := 512#32
  ![v8881_r0.toNat, 50, 512]
def k0_off636 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8889_r0 : Index := Scalar.indexCast v5764_r0
  let c51_2925_r0 : Index := 51#32
  let c512_2926_r0 : Index := 512#32
  ![v8889_r0.toNat, 51, 512]
def k0_off637 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8902_r0 : Index := Scalar.indexCast v5764_r0
  let c3328_2930_r0 : Index := 3328#32
  let c0_2931_r0 : Index := 0#32
  ![v8902_r0.toNat, 3328, 0]
def k0_off638 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8921_r0 : Index := Scalar.indexCast v5764_r0
  let c52_r0 : Index := 52#32
  let c0_2936_r0 : Index := 0#32
  ![v8921_r0.toNat, 52, 0]
def k0_off639 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8929_r0 : Index := Scalar.indexCast v5764_r0
  let c53_r0 : Index := 53#32
  let c0_2937_r0 : Index := 0#32
  ![v8929_r0.toNat, 53, 0]
def k0_off640 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8942_r0 : Index := Scalar.indexCast v5764_r0
  let c3328_2941_r0 : Index := 3328#32
  let c256_2942_r0 : Index := 256#32
  ![v8942_r0.toNat, 3328, 256]
def k0_off641 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8961_r0 : Index := Scalar.indexCast v5764_r0
  let c52_2947_r0 : Index := 52#32
  let c256_2948_r0 : Index := 256#32
  ![v8961_r0.toNat, 52, 256]
def k0_off642 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8969_r0 : Index := Scalar.indexCast v5764_r0
  let c53_2949_r0 : Index := 53#32
  let c256_2950_r0 : Index := 256#32
  ![v8969_r0.toNat, 53, 256]
def k0_off643 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v8982_r0 : Index := Scalar.indexCast v5764_r0
  let c3328_2954_r0 : Index := 3328#32
  let c512_2955_r0 : Index := 512#32
  ![v8982_r0.toNat, 3328, 512]
def k0_off644 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9001_r0 : Index := Scalar.indexCast v5764_r0
  let c52_2960_r0 : Index := 52#32
  let c512_2961_r0 : Index := 512#32
  ![v9001_r0.toNat, 52, 512]
def k0_off645 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9009_r0 : Index := Scalar.indexCast v5764_r0
  let c53_2962_r0 : Index := 53#32
  let c512_2963_r0 : Index := 512#32
  ![v9009_r0.toNat, 53, 512]
def k0_off646 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9022_r0 : Index := Scalar.indexCast v5764_r0
  let c3456_2967_r0 : Index := 3456#32
  let c0_2968_r0 : Index := 0#32
  ![v9022_r0.toNat, 3456, 0]
def k0_off647 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9041_r0 : Index := Scalar.indexCast v5764_r0
  let c54_r0 : Index := 54#32
  let c0_2973_r0 : Index := 0#32
  ![v9041_r0.toNat, 54, 0]
def k0_off648 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9049_r0 : Index := Scalar.indexCast v5764_r0
  let c55_r0 : Index := 55#32
  let c0_2974_r0 : Index := 0#32
  ![v9049_r0.toNat, 55, 0]
def k0_off649 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9062_r0 : Index := Scalar.indexCast v5764_r0
  let c3456_2978_r0 : Index := 3456#32
  let c256_2979_r0 : Index := 256#32
  ![v9062_r0.toNat, 3456, 256]
def k0_off650 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9081_r0 : Index := Scalar.indexCast v5764_r0
  let c54_2984_r0 : Index := 54#32
  let c256_2985_r0 : Index := 256#32
  ![v9081_r0.toNat, 54, 256]
def k0_off651 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9089_r0 : Index := Scalar.indexCast v5764_r0
  let c55_2986_r0 : Index := 55#32
  let c256_2987_r0 : Index := 256#32
  ![v9089_r0.toNat, 55, 256]
def k0_off652 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9102_r0 : Index := Scalar.indexCast v5764_r0
  let c3456_2991_r0 : Index := 3456#32
  let c512_2992_r0 : Index := 512#32
  ![v9102_r0.toNat, 3456, 512]
def k0_off653 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9121_r0 : Index := Scalar.indexCast v5764_r0
  let c54_2997_r0 : Index := 54#32
  let c512_2998_r0 : Index := 512#32
  ![v9121_r0.toNat, 54, 512]
def k0_off654 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let v9129_r0 : Index := Scalar.indexCast v5764_r0
  let c55_2999_r0 : Index := 55#32
  let c512_3000_r0 : Index := 512#32
  ![v9129_r0.toNat, 55, 512]
def k0_off655 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_3012_r0 : BitVec 32 := 4#32
  let v9154_r0 : BitVec 32 := Scalar.addi arg14_r0 c4_i32_3012_r0
  let v9155_r0 : Index := Scalar.indexCast v9154_r0
  ![v9155_r0.toNat]
def k0_cond66 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : BitVec 1 :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_3010_r0 : BitVec 32 := 4#32
  let v9150_r0 : BitVec 32 := Scalar.addi arg14_r0 c4_i32_3010_r0
  let v9151_r0 : BitVec 1 := Scalar.cmpi .slt v9150_r0 v414
  let v9152_r0 : BitVec 32 := Scalar.extui v9151_r0
  let c0_i32_3011_r0 : BitVec 32 := 0#32
  let v9153_r0 : BitVec 1 := Scalar.cmpi .ne v9152_r0 c0_i32_3011_r0
  v9153_r0

def k0_off656 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  ![v5764_r0.toNat]
def k0_off657 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let c0_i32_3013_r0 : BitVec 32 := 0#32
  let c0_i32_3014_r0 : BitVec 32 := 0#32
  ![v5764_r0.toNat, 0, 0]
def k0_off658 (v9156_r0 : BitVec 32) : Fin 3 → Nat :=
  let c0_i32_3015_r0 : BitVec 32 := 0#32
  let c0_i32_3016_r0 : BitVec 32 := 0#32
  ![v9156_r0.toNat, 0, 0]

def k0_off659 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 1 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  ![v5764_r0.toNat]
def k0_off660 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) : Fin 3 → Nat :=
  let c0_i32_1923_r0 : BitVec 32 := 0#32
  let c0_i32_8 : BitVec 32 := 0#32
  let c0_i32_7 : BitVec 32 := 0#32
  let v9 : BitVec 1 := Scalar.cmpi .sgt v0 c0_i32_7
  let v10 : BitVec 32 := Scalar.extui v9
  let v11 : BitVec 32 := Scalar.addi c0_i32_8 v10
  let c0_i32_15 : BitVec 32 := 0#32
  let v22 : BitVec 1 := Scalar.cmpi .sgt v13 c0_i32_15
  let v23 : BitVec 32 := Scalar.extui v22
  let v24 : BitVec 32 := Scalar.addi v11 v23
  let c0_i32_21 : BitVec 32 := 0#32
  let v35 : BitVec 1 := Scalar.cmpi .sgt v26 c0_i32_21
  let v36 : BitVec 32 := Scalar.extui v35
  let v37 : BitVec 32 := Scalar.addi v24 v36
  let c0_i32_27 : BitVec 32 := 0#32
  let v48 : BitVec 1 := Scalar.cmpi .sgt v39 c0_i32_27
  let v49 : BitVec 32 := Scalar.extui v48
  let v50 : BitVec 32 := Scalar.addi v37 v49
  let c0_i32_33 : BitVec 32 := 0#32
  let v61 : BitVec 1 := Scalar.cmpi .sgt v52 c0_i32_33
  let v62 : BitVec 32 := Scalar.extui v61
  let v63 : BitVec 32 := Scalar.addi v50 v62
  let c0_i32_39 : BitVec 32 := 0#32
  let v74 : BitVec 1 := Scalar.cmpi .sgt v65 c0_i32_39
  let v75 : BitVec 32 := Scalar.extui v74
  let v76 : BitVec 32 := Scalar.addi v63 v75
  let c0_i32_45 : BitVec 32 := 0#32
  let v87 : BitVec 1 := Scalar.cmpi .sgt v78 c0_i32_45
  let v88 : BitVec 32 := Scalar.extui v87
  let v89 : BitVec 32 := Scalar.addi v76 v88
  let c0_i32_51 : BitVec 32 := 0#32
  let v100 : BitVec 1 := Scalar.cmpi .sgt v91 c0_i32_51
  let v101 : BitVec 32 := Scalar.extui v100
  let v102 : BitVec 32 := Scalar.addi v89 v101
  let c0_i32_57 : BitVec 32 := 0#32
  let v113 : BitVec 1 := Scalar.cmpi .sgt v104 c0_i32_57
  let v114 : BitVec 32 := Scalar.extui v113
  let v115 : BitVec 32 := Scalar.addi v102 v114
  let c0_i32_63 : BitVec 32 := 0#32
  let v126 : BitVec 1 := Scalar.cmpi .sgt v117 c0_i32_63
  let v127 : BitVec 32 := Scalar.extui v126
  let v128 : BitVec 32 := Scalar.addi v115 v127
  let c0_i32_69 : BitVec 32 := 0#32
  let v139 : BitVec 1 := Scalar.cmpi .sgt v130 c0_i32_69
  let v140 : BitVec 32 := Scalar.extui v139
  let v141 : BitVec 32 := Scalar.addi v128 v140
  let c0_i32_75 : BitVec 32 := 0#32
  let v152 : BitVec 1 := Scalar.cmpi .sgt v143 c0_i32_75
  let v153 : BitVec 32 := Scalar.extui v152
  let v154 : BitVec 32 := Scalar.addi v141 v153
  let c0_i32_81 : BitVec 32 := 0#32
  let v165 : BitVec 1 := Scalar.cmpi .sgt v156 c0_i32_81
  let v166 : BitVec 32 := Scalar.extui v165
  let v167 : BitVec 32 := Scalar.addi v154 v166
  let c0_i32_87 : BitVec 32 := 0#32
  let v178 : BitVec 1 := Scalar.cmpi .sgt v169 c0_i32_87
  let v179 : BitVec 32 := Scalar.extui v178
  let v180 : BitVec 32 := Scalar.addi v167 v179
  let c0_i32_93 : BitVec 32 := 0#32
  let v191 : BitVec 1 := Scalar.cmpi .sgt v182 c0_i32_93
  let v192 : BitVec 32 := Scalar.extui v191
  let v193 : BitVec 32 := Scalar.addi v180 v192
  let c0_i32_99 : BitVec 32 := 0#32
  let v204 : BitVec 1 := Scalar.cmpi .sgt v195 c0_i32_99
  let v205 : BitVec 32 := Scalar.extui v204
  let v206 : BitVec 32 := Scalar.addi v193 v205
  let c0_i32_105 : BitVec 32 := 0#32
  let v217 : BitVec 1 := Scalar.cmpi .sgt v208 c0_i32_105
  let v218 : BitVec 32 := Scalar.extui v217
  let v219 : BitVec 32 := Scalar.addi v206 v218
  let c0_i32_111 : BitVec 32 := 0#32
  let v230 : BitVec 1 := Scalar.cmpi .sgt v221 c0_i32_111
  let v231 : BitVec 32 := Scalar.extui v230
  let v232 : BitVec 32 := Scalar.addi v219 v231
  let c0_i32_117 : BitVec 32 := 0#32
  let v243 : BitVec 1 := Scalar.cmpi .sgt v234 c0_i32_117
  let v244 : BitVec 32 := Scalar.extui v243
  let v245 : BitVec 32 := Scalar.addi v232 v244
  let c0_i32_123 : BitVec 32 := 0#32
  let v256 : BitVec 1 := Scalar.cmpi .sgt v247 c0_i32_123
  let v257 : BitVec 32 := Scalar.extui v256
  let v258 : BitVec 32 := Scalar.addi v245 v257
  let c0_i32_129 : BitVec 32 := 0#32
  let v269 : BitVec 1 := Scalar.cmpi .sgt v260 c0_i32_129
  let v270 : BitVec 32 := Scalar.extui v269
  let v271 : BitVec 32 := Scalar.addi v258 v270
  let c0_i32_135 : BitVec 32 := 0#32
  let v282 : BitVec 1 := Scalar.cmpi .sgt v273 c0_i32_135
  let v283 : BitVec 32 := Scalar.extui v282
  let v284 : BitVec 32 := Scalar.addi v271 v283
  let c0_i32_141 : BitVec 32 := 0#32
  let v295 : BitVec 1 := Scalar.cmpi .sgt v286 c0_i32_141
  let v296 : BitVec 32 := Scalar.extui v295
  let v297 : BitVec 32 := Scalar.addi v284 v296
  let c0_i32_147 : BitVec 32 := 0#32
  let v308 : BitVec 1 := Scalar.cmpi .sgt v299 c0_i32_147
  let v309 : BitVec 32 := Scalar.extui v308
  let v310 : BitVec 32 := Scalar.addi v297 v309
  let c0_i32_153 : BitVec 32 := 0#32
  let v321 : BitVec 1 := Scalar.cmpi .sgt v312 c0_i32_153
  let v322 : BitVec 32 := Scalar.extui v321
  let v323 : BitVec 32 := Scalar.addi v310 v322
  let c0_i32_159 : BitVec 32 := 0#32
  let v334 : BitVec 1 := Scalar.cmpi .sgt v325 c0_i32_159
  let v335 : BitVec 32 := Scalar.extui v334
  let v336 : BitVec 32 := Scalar.addi v323 v335
  let c0_i32_165 : BitVec 32 := 0#32
  let v347 : BitVec 1 := Scalar.cmpi .sgt v338 c0_i32_165
  let v348 : BitVec 32 := Scalar.extui v347
  let v349 : BitVec 32 := Scalar.addi v336 v348
  let c0_i32_171 : BitVec 32 := 0#32
  let v360 : BitVec 1 := Scalar.cmpi .sgt v351 c0_i32_171
  let v361 : BitVec 32 := Scalar.extui v360
  let v362 : BitVec 32 := Scalar.addi v349 v361
  let c0_i32_177 : BitVec 32 := 0#32
  let v373 : BitVec 1 := Scalar.cmpi .sgt v364 c0_i32_177
  let v374 : BitVec 32 := Scalar.extui v373
  let v375 : BitVec 32 := Scalar.addi v362 v374
  let c0_i32_183 : BitVec 32 := 0#32
  let v386 : BitVec 1 := Scalar.cmpi .sgt v377 c0_i32_183
  let v387 : BitVec 32 := Scalar.extui v386
  let v388 : BitVec 32 := Scalar.addi v375 v387
  let c0_i32_189 : BitVec 32 := 0#32
  let v399 : BitVec 1 := Scalar.cmpi .sgt v390 c0_i32_189
  let v400 : BitVec 32 := Scalar.extui v399
  let v401 : BitVec 32 := Scalar.addi v388 v400
  let c0_i32_195 : BitVec 32 := 0#32
  let v412 : BitVec 1 := Scalar.cmpi .sgt v403 c0_i32_195
  let v413 : BitVec 32 := Scalar.extui v412
  let v414 : BitVec 32 := Scalar.addi v401 v413
  let v5744_r0 : BitVec 32 := Scalar.subi v414 c0_i32_1923_r0
  let c1_i32_1924_r0 : BitVec 32 := 1#32
  let v5746_r0 : BitVec 32 := Scalar.divsi v5744_r0 c1_i32_1924_r0
  let v5747_r0 : BitVec 32 := Scalar.muli v5746_r0 c1_i32_1924_r0
  let v5748_r0 : BitVec 32 := Scalar.addi c0_i32_1923_r0 v5747_r0
  let c1_i32_1926_r0 : BitVec 32 := 1#32
  let arg14_r0 : BitVec 32 := Scf.iv v5748_r0 c1_i32_1926_r0 k0_t2
  let c4_i32_1933_r0 : BitVec 32 := 4#32
  let v5764_r0 : BitVec 32 := Scalar.remsi arg14_r0 c4_i32_1933_r0
  let c0_i32_3017_r0 : BitVec 32 := 0#32
  let c0_i32_3018_r0 : BitVec 32 := 0#32
  ![v5764_r0.toNat, 0, 0]

variable {F : FTy → Type} [FloatOps F]

def k0_chk31_0 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ (k0_h63 : k0_cond63 v403 = 1#1), ∀ a, (k0_off121 v0 v13 v26 v39 v52 v65 v78 v91 v104 v117 v130 v143 v156 v169 v182 v195 v208 v221 v234 v247 v260 v273 v286 v299 v312 v325 v338 v351 v364 v377 v390) a + S1.size a ≤ S33.size a) ∧
  (∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off122 v0 v13 v26 v39 v52 v65 v78 v91 v104 v117 v130 v143 v156 v169 v182 v195 v208 v221 v234 v247 v260 v273 v286 v299 v312 v325 v338 v351 v364 v377 v390) a + S1.size a ≤ S4.size a) ∧
  (∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off123 v0 v13 v26 v39 v52 v65 v78 v91 v104 v117 v130 v143 v156 v169 v182 v195 v208 v221 v234 v247 v260 v273 v286 v299 v312 v325 v338 v351 v364 v377 v390) a + S1x3584x768.size a ≤ S4x3584x768.size a) ∧
  (∀ (k0_h64 : k0_cond64 v0 v13 v26 v39 v52 v65 v78 v91 v104 v117 v130 v143 v156 v169 v182 v195 v208 v221 v234 v247 v260 v273 v286 v299 v312 v325 v338 v351 v364 v377 v390 v403 = 1#1), ∀ (hinb : ∀ a, (k0_off123 v0 v13 v26 v39 v52 v65 v78 v91 v104 v117 v130 v143 v156 v169 v182 v195 v208 v221 v234 v247 v260 v273 v286 v299 v312 v325 v338 v351 v364 v377 v390) a + S1x3584x768.size a ≤ S4x3584x768.size a), (Rect.unit (s := S4x3584x768) (k0_off123 v0 v13 v26 v39 v52 v65 v78 v91 v104 v117 v130 v143 v156 v169 v182 v195 v208 v221 v234 v247 v260 v273 v286 v299 v312 v325 v338 v351 v364 v377 v390) S1x3584x768.size hinb).WholeWords (EltTy.packing .i8)) ∧
  (∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off124 v0 v13 v26 v39 v52 v65 v78 v91 v104 v117 v130 v143 v156 v169 v182 v195 v208 v221 v234 v247 v260 v273 v286 v299 v312 v325 v338 v351 v364 v377 v390) a + S1x56x768.size a ≤ S4x56x768.size a) ∧
  (∀ a, (k0_off125 v0 v13 v26 v39 v52 v65 v78 v91 v104 v117 v130 v143 v156 v169 v182 v195 v208 v221 v234 v247 v260 v273 v286 v299 v312 v325 v338 v351 v364 v377 v390 v403) a + S1.size a ≤ S33.size a) ∧
  ((k0_t1_loop v0 v13 v26 v39 v52 v65 v78 v91 v104 v117 v130 v143 v156 v169 v182 v195 v208 v221 v234 v247 v260 v273 v286 v299 v312 v325 v338 v351 v364 v377 v390 v403).OK) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off126 v0 v13 v26 v39 v52 v65 v78 v91 v104 v117 v130 v143 v156 v169 v182 v195 v208 v221 v234 v247 v260 v273 v286 v299 v312 v325 v338 v351 v364 v377 v390 v403 k0_t1) a + S1.size a ≤ S33.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off127 v0 v13 v26 v39 v52 v65 v78 v91 v104 v117 v130 v143 v156 v169 v182 v195 v208 v221 v234 v247 v260 v273 v286 v299 v312 v325 v338 v351 v364 v377 v390 v403 k0_t1) a + S1.size a ≤ S4.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off128 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (hinb : ∀ a, (k0_off128 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a), (Rect.unit (s := S4x3584x768) (k0_off128 v0 v13 v26 v39 v52 v65 v78 v91 v104 v117 v130 v143 v156 v169 v182 v195 v208 v221 v234 v247 v260 v273 v286 v299 v312 v325 v338 v351 v364 v377 v390 v403 k0_t1) S1x3584x768.size hinb).WholeWords (EltTy.packing .i8)) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off130 v0 v13 v26 v39 v52 v65 v78 v91 v104 v117 v130 v143 v156 v169 v182 v195 v208 v221 v234 v247 v260 v273 v286 v299 v312 v325 v338 v351 v364 v377 v390 v403 k0_t1) a + S1.size a ≤ S4.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off131 v0 v13 v26 v39 v52 v65 v78 v91 v104 v117 v130 v143 v156 v169 v182 v195 v208 v221 v234 v247 v260 v273 v286 v299 v312 v325 v338 v351 v364 v377 v390 v403 k0_t1) a + S1x56x768.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off133 v0 v13 v26 v39 v52 v65 v78 v91 v104 v117 v130 v143 v156 v169 v182 v195 v208 v221 v234 v247 v260 v273 v286 v299 v312 v325 v338 v351 v364 v377 v390 v403 k0_t1) a + S1.size a ≤ S33.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off134 v0 v13 v26 v39 v52 v65 v78 v91 v104 v117 v130 v143 v156 v169 v182 v195 v208 v221 v234 v247 v260 v273 v286 v299 v312 v325 v338 v351 v364 v377 v390 v403 k0_t1) a + S1.size a ≤ S33.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off135 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off136 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off137 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off138 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off139 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off140 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off141 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off142 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off143 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off144 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off145 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off146 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off147 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off148 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off149 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off150 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off151 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a)
def k0_chk31_1 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off152 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off153 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off154 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off155 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off156 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off157 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off158 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off159 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off160 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off161 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off162 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off163 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off164 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off165 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off166 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off167 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off168 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off169 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off170 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off171 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off172 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off173 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off174 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off175 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off176 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off177 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off178 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off179 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off180 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off181 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off182 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off183 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a)
def k0_chk31_2 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off184 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off185 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off186 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off187 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off188 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off189 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off190 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off191 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off192 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off193 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off194 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off195 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off196 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off197 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off198 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off199 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off200 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off201 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off202 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off203 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off204 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off205 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off206 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off207 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off208 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off209 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off210 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off211 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off212 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off213 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off214 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off215 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a)
def k0_chk31_3 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off216 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off217 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off218 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off219 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off220 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off221 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off222 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off223 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off224 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off225 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off226 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off227 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off228 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off229 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off230 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off231 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off232 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off233 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off234 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off235 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off236 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off237 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off238 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off239 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off240 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off241 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off242 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off243 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off244 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off245 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off246 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off247 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a)
def k0_chk31_4 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off248 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off249 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off250 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off251 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off252 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off253 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off254 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off255 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off256 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off257 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off258 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off259 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off260 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off261 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off262 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off263 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off264 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off265 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off266 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off267 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off268 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off269 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off270 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off271 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off272 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off273 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off274 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off275 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off276 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off277 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off278 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off279 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a)
def k0_chk31_5 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off280 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off281 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off282 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off283 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off284 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off285 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off286 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off287 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off288 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off289 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off290 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off291 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off292 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off293 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off294 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off295 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off296 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off297 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off298 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off299 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off300 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off301 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off302 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off303 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off304 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off305 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off306 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off307 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off308 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off309 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off310 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off311 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a)
def k0_chk31_6 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off312 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off313 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off314 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off315 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off316 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off317 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off318 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off319 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off320 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off321 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off322 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off323 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off324 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off325 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off326 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off327 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off328 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off329 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off330 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off331 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off332 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off333 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off334 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off335 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off336 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off337 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off338 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off339 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off340 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off341 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off342 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off343 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a)
def k0_chk31_7 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off344 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off345 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off346 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off347 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off348 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off349 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off350 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off351 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off352 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off353 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off354 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off355 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off356 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off357 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off358 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off359 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off360 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off361 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off362 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off363 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off364 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off365 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off366 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off367 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off368 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off369 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off370 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off371 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off372 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off373 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off374 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off375 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a)
def k0_chk31_8 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off376 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off377 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off378 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off379 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off380 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off381 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off382 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off383 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off384 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off385 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ a, (k0_off386 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off387 v0 v13 v26 v39 v52 v65 v78 v91 v104 v117 v130 v143 v156 v169 v182 v195 v208 v221 v234 v247 v260 v273 v286 v299 v312 v325 v338 v351 v364 v377 v390 v403 k0_t1) a + S1.size a ≤ S33.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off388 v0 v13 v26 v39 v52 v65 v78 v91 v104 v117 v130 v143 v156 v169 v182 v195 v208 v221 v234 v247 v260 v273 v286 v299 v312 v325 v338 v351 v364 v377 v390 v403 k0_t1) a + S1.size a ≤ S4.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off389 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ (hinb : ∀ a, (k0_off389 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a), (Rect.unit (s := S4x3584x768) (k0_off389 v0 v13 v26 v39 v52 v65 v78 v91 v104 v117 v130 v143 v156 v169 v182 v195 v208 v221 v234 v247 v260 v273 v286 v299 v312 v325 v338 v351 v364 v377 v390 v403 k0_t1) S1x3584x768.size hinb).WholeWords (EltTy.packing .i8)) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off391 v0 v13 v26 v39 v52 v65 v78 v91 v104 v117 v130 v143 v156 v169 v182 v195 v208 v221 v234 v247 v260 v273 v286 v299 v312 v325 v338 v351 v364 v377 v390 v403 k0_t1) a + S1.size a ≤ S4.size a) ∧
  (∀ k0_t1 : Fin (k0_t1_loop v0 v13 v26 v39 v52 v65 v78 v91 v104 v117 v130 v143 v156 v169 v182 v195 v208 v221 v234 v247 v260 v273 v286 v299 v312 v325 v338 v351 v364 v377 v390 v403).trips, ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off392 v0 v13 v26 v39 v52 v65 v78 v91 v104 v117 v130 v143 v156 v169 v182 v195 v208 v221 v234 v247 v260 v273 v286 v299 v312 v325 v338 v351 v364 v377 v390 v403 k0_t1) a + S1x56x768.size a ≤ S4x56x768.size a) ∧
  ((k0_t2_loop v0 v13 v26 v39 v52 v65 v78 v91 v104 v117 v130 v143 v156 v169 v182 v195 v208 v221 v234 v247 v260 v273 v286 v299 v312 v325 v338 v351 v364 v377 v390 v403).OK) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off394 v0 v13 v26 v39 v52 v65 v78 v91 v104 v117 v130 v143 v156 v169 v182 v195 v208 v221 v234 v247 v260 v273 v286 v299 v312 v325 v338 v351 v364 v377 v390 v403 k0_t2) a + S1.size a ≤ S33.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off395 v0 v13 v26 v39 v52 v65 v78 v91 v104 v117 v130 v143 v156 v169 v182 v195 v208 v221 v234 v247 v260 v273 v286 v299 v312 v325 v338 v351 v364 v377 v390 v403 k0_t2) a + S1.size a ≤ S4.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off396 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (hinb : ∀ a, (k0_off396 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a), (Rect.unit (s := S4x3584x768) (k0_off396 v0 v13 v26 v39 v52 v65 v78 v91 v104 v117 v130 v143 v156 v169 v182 v195 v208 v221 v234 v247 v260 v273 v286 v299 v312 v325 v338 v351 v364 v377 v390 v403 k0_t2) S1x3584x768.size hinb).WholeWords (EltTy.packing .i8)) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off398 v0 v13 v26 v39 v52 v65 v78 v91 v104 v117 v130 v143 v156 v169 v182 v195 v208 v221 v234 v247 v260 v273 v286 v299 v312 v325 v338 v351 v364 v377 v390 v403 k0_t2) a + S1.size a ≤ S4.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off399 v0 v13 v26 v39 v52 v65 v78 v91 v104 v117 v130 v143 v156 v169 v182 v195 v208 v221 v234 v247 v260 v273 v286 v299 v312 v325 v338 v351 v364 v377 v390 v403 k0_t2) a + S1x56x768.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off401 v0 v13 v26 v39 v52 v65 v78 v91 v104 v117 v130 v143 v156 v169 v182 v195 v208 v221 v234 v247 v260 v273 v286 v299 v312 v325 v338 v351 v364 v377 v390 v403 k0_t2) a + S1.size a ≤ S33.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off402 v0 v13 v26 v39 v52 v65 v78 v91 v104 v117 v130 v143 v156 v169 v182 v195 v208 v221 v234 v247 v260 v273 v286 v299 v312 v325 v338 v351 v364 v377 v390 v403 k0_t2) a + S1.size a ≤ S33.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off403 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off404 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off405 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off406 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off407 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off408 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_9 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off409 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off410 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off411 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off412 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off413 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off414 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off415 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off416 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off417 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off418 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off419 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off420 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off421 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off422 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off423 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off424 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off425 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off426 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off427 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off428 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off429 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off430 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off431 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off432 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off433 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off434 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off435 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off436 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off437 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off438 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off439 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off440 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_10 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off441 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off442 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off443 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off444 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off445 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off446 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off447 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off448 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off449 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off450 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off451 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off452 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off453 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off454 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off455 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off456 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off457 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off458 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off459 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off460 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off461 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off462 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off463 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off464 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off465 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off466 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off467 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off468 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off469 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off470 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off471 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off472 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a)
def k0_chk31_11 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off473 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off474 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off475 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off476 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off477 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off478 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off479 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off480 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off481 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off482 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off483 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off484 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off485 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off486 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off487 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off488 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off489 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off490 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off491 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off492 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off493 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off494 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off495 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off496 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off497 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off498 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off499 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off500 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off501 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off502 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off503 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off504 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_12 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off505 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off506 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off507 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off508 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off509 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off510 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off511 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off512 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off513 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off514 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off515 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off516 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off517 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off518 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off519 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off520 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off521 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off522 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off523 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off524 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off525 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off526 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off527 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off528 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off529 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off530 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off531 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off532 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off533 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off534 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off535 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off536 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_13 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off537 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off538 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off539 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off540 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off541 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off542 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off543 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off544 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off545 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off546 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off547 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off548 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off549 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off550 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off551 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off552 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off553 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off554 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off555 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off556 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off557 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off558 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off559 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off560 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off561 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off562 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off563 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off564 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off565 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off566 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off567 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off568 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a)
def k0_chk31_14 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off569 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off570 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off571 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off572 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off573 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off574 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off575 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off576 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off577 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off578 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off579 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off580 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off581 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off582 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off583 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off584 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off585 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off586 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off587 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off588 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off589 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off590 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off591 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off592 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off593 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off594 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off595 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off596 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off597 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off598 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off599 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off600 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_15 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off601 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off602 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off603 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off604 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off605 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off606 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off607 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off608 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off609 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off610 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off611 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off612 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off613 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off614 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off615 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off616 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off617 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off618 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off619 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off620 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off621 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off622 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off623 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off624 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off625 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off626 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off627 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off628 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off629 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off630 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off631 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off632 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a)
def k0_chk31_16 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off633 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off634 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off635 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off636 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off637 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off638 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off639 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off640 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off641 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off642 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off643 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off644 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off645 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off646 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off647 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off648 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off649 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off650 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off651 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off652 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off653 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ a, (k0_off654 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off655 v0 v13 v26 v39 v52 v65 v78 v91 v104 v117 v130 v143 v156 v169 v182 v195 v208 v221 v234 v247 v260 v273 v286 v299 v312 v325 v338 v351 v364 v377 v390 v403 k0_t2) a + S1.size a ≤ S33.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off656 v0 v13 v26 v39 v52 v65 v78 v91 v104 v117 v130 v143 v156 v169 v182 v195 v208 v221 v234 v247 v260 v273 v286 v299 v312 v325 v338 v351 v364 v377 v390 v403 k0_t2) a + S1.size a ≤ S4.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off657 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ (hinb : ∀ a, (k0_off657 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a), (Rect.unit (s := S4x3584x768) (k0_off657 v0 v13 v26 v39 v52 v65 v78 v91 v104 v117 v130 v143 v156 v169 v182 v195 v208 v221 v234 v247 v260 v273 v286 v299 v312 v325 v338 v351 v364 v377 v390 v403 k0_t2) S1x3584x768.size hinb).WholeWords (EltTy.packing .i8)) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off659 v0 v13 v26 v39 v52 v65 v78 v91 v104 v117 v130 v143 v156 v169 v182 v195 v208 v221 v234 v247 v260 v273 v286 v299 v312 v325 v338 v351 v364 v377 v390 v403 k0_t2) a + S1.size a ≤ S4.size a) ∧
  (∀ k0_t2 : Fin (k0_t2_loop v0 v13 v26 v39 v52 v65 v78 v91 v104 v117 v130 v143 v156 v169 v182 v195 v208 v221 v234 v247 v260 v273 v286 v299 v312 v325 v338 v351 v364 v377 v390 v403).trips, ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off660 v0 v13 v26 v39 v52 v65 v78 v91 v104 v117 v130 v143 v156 v169 v182 v195 v208 v221 v234 v247 v260 v273 v286 v299 v312 v325 v338 v351 v364 v377 v390 v403 k0_t2) a + S1x56x768.size a ≤ S4x56x768.size a)
def k0_chk31 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) : Prop :=
  k0_chk31_0 v0 v13 v26 v39 v52 v65 v78 v91 v104 v117 v130 v143 v156 v169 v182 v195 v208 v221 v234 v247 v260 v273 v286 v299 v312 v325 v338 v351 v364 v377 v390 v403 ∧
  k0_chk31_1 v0 v13 v26 v39 v52 v65 v78 v91 v104 v117 v130 v143 v156 v169 v182 v195 v208 v221 v234 v247 v260 v273 v286 v299 v312 v325 v338 v351 v364 v377 v390 v403 ∧
  k0_chk31_2 v0 v13 v26 v39 v52 v65 v78 v91 v104 v117 v130 v143 v156 v169 v182 v195 v208 v221 v234 v247 v260 v273 v286 v299 v312 v325 v338 v351 v364 v377 v390 v403 ∧
  k0_chk31_3 v0 v13 v26 v39 v52 v65 v78 v91 v104 v117 v130 v143 v156 v169 v182 v195 v208 v221 v234 v247 v260 v273 v286 v299 v312 v325 v338 v351 v364 v377 v390 v403 ∧
  k0_chk31_4 v0 v13 v26 v39 v52 v65 v78 v91 v104 v117 v130 v143 v156 v169 v182 v195 v208 v221 v234 v247 v260 v273 v286 v299 v312 v325 v338 v351 v364 v377 v390 v403 ∧
  k0_chk31_5 v0 v13 v26 v39 v52 v65 v78 v91 v104 v117 v130 v143 v156 v169 v182 v195 v208 v221 v234 v247 v260 v273 v286 v299 v312 v325 v338 v351 v364 v377 v390 v403 ∧
  k0_chk31_6 v0 v13 v26 v39 v52 v65 v78 v91 v104 v117 v130 v143 v156 v169 v182 v195 v208 v221 v234 v247 v260 v273 v286 v299 v312 v325 v338 v351 v364 v377 v390 v403 ∧
  k0_chk31_7 v0 v13 v26 v39 v52 v65 v78 v91 v104 v117 v130 v143 v156 v169 v182 v195 v208 v221 v234 v247 v260 v273 v286 v299 v312 v325 v338 v351 v364 v377 v390 v403 ∧
  k0_chk31_8 v0 v13 v26 v39 v52 v65 v78 v91 v104 v117 v130 v143 v156 v169 v182 v195 v208 v221 v234 v247 v260 v273 v286 v299 v312 v325 v338 v351 v364 v377 v390 v403 ∧
  k0_chk31_9 v0 v13 v26 v39 v52 v65 v78 v91 v104 v117 v130 v143 v156 v169 v182 v195 v208 v221 v234 v247 v260 v273 v286 v299 v312 v325 v338 v351 v364 v377 v390 v403 ∧
  k0_chk31_10 v0 v13 v26 v39 v52 v65 v78 v91 v104 v117 v130 v143 v156 v169 v182 v195 v208 v221 v234 v247 v260 v273 v286 v299 v312 v325 v338 v351 v364 v377 v390 v403 ∧
  k0_chk31_11 v0 v13 v26 v39 v52 v65 v78 v91 v104 v117 v130 v143 v156 v169 v182 v195 v208 v221 v234 v247 v260 v273 v286 v299 v312 v325 v338 v351 v364 v377 v390 v403 ∧
  k0_chk31_12 v0 v13 v26 v39 v52 v65 v78 v91 v104 v117 v130 v143 v156 v169 v182 v195 v208 v221 v234 v247 v260 v273 v286 v299 v312 v325 v338 v351 v364 v377 v390 v403 ∧
  k0_chk31_13 v0 v13 v26 v39 v52 v65 v78 v91 v104 v117 v130 v143 v156 v169 v182 v195 v208 v221 v234 v247 v260 v273 v286 v299 v312 v325 v338 v351 v364 v377 v390 v403 ∧
  k0_chk31_14 v0 v13 v26 v39 v52 v65 v78 v91 v104 v117 v130 v143 v156 v169 v182 v195 v208 v221 v234 v247 v260 v273 v286 v299 v312 v325 v338 v351 v364 v377 v390 v403 ∧
  k0_chk31_15 v0 v13 v26 v39 v52 v65 v78 v91 v104 v117 v130 v143 v156 v169 v182 v195 v208 v221 v234 v247 v260 v273 v286 v299 v312 v325 v338 v351 v364 v377 v390 v403 ∧
  k0_chk31_16 v0 v13 v26 v39 v52 v65 v78 v91 v104 v117 v130 v143 v156 v169 v182 v195 v208 v221 v234 v247 v260 v273 v286 v299 v312 v325 v338 v351 v364 v377 v390 v403
theorem k0_off121_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ (k0_h63 : k0_cond63 v403 = 1#1), ∀ a, (k0_off121 v0 v13 v26 v39 v52 v65 v78 v91 v104 v117 v130 v143 v156 v169 v182 v195 v208 v221 v234 v247 v260 v273 v286 v299 v312 v325 v338 v351 v364 v377 v390) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_h63 => k0_hw31.1.1 k0_h63
theorem k0_off122_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off122 v0 v13 v26 v39 v52 v65 v78 v91 v104 v117 v130 v143 v156 v169 v182 v195 v208 v221 v234 v247 v260 v273 v286 v299 v312 v325 v338 v351 v364 v377 v390) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_h64 => k0_hw31.1.2.1 k0_h64
theorem k0_off123_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off123 v0 v13 v26 v39 v52 v65 v78 v91 v104 v117 v130 v143 v156 v169 v182 v195 v208 v221 v234 v247 v260 v273 v286 v299 v312 v325 v338 v351 v364 v377 v390) a + S1x3584x768.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_h64 => k0_hw31.1.2.2.1 k0_h64
theorem k0_off123_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ (k0_h64 : k0_cond64 v0 v13 v26 v39 v52 v65 v78 v91 v104 v117 v130 v143 v156 v169 v182 v195 v208 v221 v234 v247 v260 v273 v286 v299 v312 v325 v338 v351 v364 v377 v390 v403 = 1#1), (Rect.unit (s := S4x3584x768) (k0_off123 v0 v13 v26 v39 v52 v65 v78 v91 v104 v117 v130 v143 v156 v169 v182 v195 v208 v221 v234 v247 v260 v273 v286 v299 v312 v325 v338 v351 v364 v377 v390) S1x3584x768.size (k0_off123_inb v0 v13 v26 v39 v52 v65 v78 v91 v104 v117 v130 v143 v156 v169 v182 v195 v208 v221 v234 v247 v260 v273 v286 v299 v312 v325 v338 v351 v364 v377 v390 v403 k0_hw31 k0_h64)).WholeWords (EltTy.packing .i8) := fun v0 v13 v26 v39 v52 v65 v78 v91 v104 v117 v130 v143 v156 v169 v182 v195 v208 v221 v234 v247 v260 v273 v286 v299 v312 v325 v338 v351 v364 v377 v390 v403 k0_hw31 k0_h64 => k0_hw31.1.2.2.2.1 k0_h64 (k0_off123_inb v0 v13 v26 v39 v52 v65 v78 v91 v104 v117 v130 v143 v156 v169 v182 v195 v208 v221 v234 v247 v260 v273 v286 v299 v312 v325 v338 v351 v364 v377 v390 v403 k0_hw31 k0_h64)
theorem k0_off124_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ (k0_h64 : k0_cond64 v0 v13 v26 v39 v52 v65 v78 v91 v104 v117 v130 v143 v156 v169 v182 v195 v208 v221 v234 v247 v260 v273 v286 v299 v312 v325 v338 v351 v364 v377 v390 v403 = 1#1), ∀ a, (k0_off124 v0 v13 v26 v39 v52 v65 v78 v91 v104 v117 v130 v143 v156 v169 v182 v195 v208 v221 v234 v247 v260 v273 v286 v299 v312 v325 v338 v351 v364 v377 v390) a + S1x56x768.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_h64 => k0_hw31.1.2.2.2.2.1 k0_h64
theorem k0_off125_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), ∀ a, (k0_off125 v0 v13 v26 v39 v52 v65 v78 v91 v104 v117 v130 v143 v156 v169 v182 v195 v208 v221 v234 v247 v260 v273 v286 v299 v312 v325 v338 v351 v364 v377 v390 v403) a + S1.size a ≤ S33.size a := fun v0 v13 v26 v39 v52 v65 v78 v91 v104 v117 v130 v143 v156 v169 v182 v195 v208 v221 v234 v247 v260 v273 v286 v299 v312 v325 v338 v351 v364 v377 v390 v403 k0_hw31 => k0_hw31.1.2.2.2.2.2.1
theorem k0_t1_ok : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), (k0_t1_loop v0 v13 v26 v39 v52 v65 v78 v91 v104 v117 v130 v143 v156 v169 v182 v195 v208 v221 v234 v247 v260 v273 v286 v299 v312 v325 v338 v351 v364 v377 v390 v403).OK := fun v0 v13 v26 v39 v52 v65 v78 v91 v104 v117 v130 v143 v156 v169 v182 v195 v208 v221 v234 v247 v260 v273 v286 v299 v312 v325 v338 v351 v364 v377 v390 v403 k0_hw31 => k0_hw31.1.2.2.2.2.2.2.1
theorem k0_off126_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off126 v0 v13 v26 v39 v52 v65 v78 v91 v104 v117 v130 v143 v156 v169 v182 v195 v208 v221 v234 v247 v260 v273 v286 v299 v312 v325 v338 v351 v364 v377 v390 v403 k0_t1) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.1 k0_t1
theorem k0_off127_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off127 v0 v13 v26 v39 v52 v65 v78 v91 v104 v117 v130 v143 v156 v169 v182 v195 v208 v221 v234 v247 v260 v273 v286 v299 v312 v325 v338 v351 v364 v377 v390 v403 k0_t1) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.1 k0_t1
theorem k0_off128_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off128 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.1 k0_t1
theorem k0_off128_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), (Rect.unit (s := S4x3584x768) (k0_off128 v0 v13 v26 v39 v52 v65 v78 v91 v104 v117 v130 v143 v156 v169 v182 v195 v208 v221 v234 v247 v260 v273 v286 v299 v312 v325 v338 v351 v364 v377 v390 v403 k0_t1) S1x3584x768.size (k0_off128_inb v0 v13 v26 v39 v52 v65 v78 v91 v104 v117 v130 v143 v156 v169 v182 v195 v208 v221 v234 v247 v260 v273 v286 v299 v312 v325 v338 v351 v364 v377 v390 v403 k0_hw31 k0_t1)).WholeWords (EltTy.packing .i8) := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.1 k0_t1 (k0_off128_inb v0 v13 v26 v39 v52 v65 v78 v91 v104 v117 v130 v143 v156 v169 v182 v195 v208 v221 v234 v247 v260 v273 v286 v299 v312 v325 v338 v351 v364 v377 v390 v403 k0_hw31 k0_t1)
theorem k0_off130_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off130 v0 v13 v26 v39 v52 v65 v78 v91 v104 v117 v130 v143 v156 v169 v182 v195 v208 v221 v234 v247 v260 v273 v286 v299 v312 v325 v338 v351 v364 v377 v390 v403 k0_t1) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.1 k0_t1
theorem k0_off131_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off131 v0 v13 v26 v39 v52 v65 v78 v91 v104 v117 v130 v143 v156 v169 v182 v195 v208 v221 v234 v247 v260 v273 v286 v299 v312 v325 v338 v351 v364 v377 v390 v403 k0_t1) a + S1x56x768.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.1 k0_t1
theorem k0_off133_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off133 v0 v13 v26 v39 v52 v65 v78 v91 v104 v117 v130 v143 v156 v169 v182 v195 v208 v221 v234 v247 v260 v273 v286 v299 v312 v325 v338 v351 v364 v377 v390 v403 k0_t1) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.1 k0_t1
theorem k0_off134_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off134 v0 v13 v26 v39 v52 v65 v78 v91 v104 v117 v130 v143 v156 v169 v182 v195 v208 v221 v234 v247 v260 v273 v286 v299 v312 v325 v338 v351 v364 v377 v390 v403 k0_t1) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.1 k0_t1
theorem k0_off135_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off135 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.1 k0_t1
theorem k0_off136_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off136 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.1 k0_t1
theorem k0_off137_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off137 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.1 k0_t1
theorem k0_off138_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off138 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.1 k0_t1
theorem k0_off139_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off139 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.1 k0_t1
theorem k0_off140_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off140 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.1 k0_t1
theorem k0_off141_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off141 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.1 k0_t1
theorem k0_off142_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off142 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.1 k0_t1
theorem k0_off143_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off143 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.1 k0_t1
theorem k0_off144_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off144 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.1 k0_t1
theorem k0_off145_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off145 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.1 k0_t1
theorem k0_off146_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off146 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.1 k0_t1
theorem k0_off147_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off147 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.2.1 k0_t1
theorem k0_off148_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off148 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.2.2.1 k0_t1
theorem k0_off149_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off149 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.2.2.2.1 k0_t1
theorem k0_off150_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off150 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.2.2.2.2.1 k0_t1
theorem k0_off151_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off151 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.1.2.2.2.2.2.2.2.2.2.2.2.2.2.2.2.2.2.2.2.2.2.2.2.2.2.2.2.2.2.2.2 k0_t1
theorem k0_off152_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off152 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.1 k0_t1
theorem k0_off153_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off153 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.1 k0_t1
theorem k0_off154_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off154 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.1 k0_t1
theorem k0_off155_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off155 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.1 k0_t1
theorem k0_off156_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off156 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.1 k0_t1
theorem k0_off157_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off157 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.1 k0_t1
theorem k0_off158_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off158 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.1 k0_t1
theorem k0_off159_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off159 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.1 k0_t1
theorem k0_off160_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off160 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.1 k0_t1
theorem k0_off161_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off161 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.1 k0_t1
theorem k0_off162_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off162 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.1 k0_t1
theorem k0_off163_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off163 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.1 k0_t1
theorem k0_off164_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off164 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.1 k0_t1
theorem k0_off165_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off165 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.1 k0_t1
theorem k0_off166_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off166 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.1 k0_t1
theorem k0_off167_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off167 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.1 k0_t1
theorem k0_off168_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off168 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.1 k0_t1
theorem k0_off169_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off169 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.1 k0_t1
theorem k0_off170_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off170 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.1 k0_t1
theorem k0_off171_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off171 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.1 k0_t1
theorem k0_off172_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off172 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.1 k0_t1
theorem k0_off173_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off173 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.1 k0_t1
theorem k0_off174_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off174 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.1 k0_t1
theorem k0_off175_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off175 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.1 k0_t1
theorem k0_off176_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off176 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.1 k0_t1
theorem k0_off177_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off177 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.1 k0_t1
theorem k0_off178_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off178 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.1 k0_t1
theorem k0_off179_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off179 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.2.1 k0_t1
theorem k0_off180_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off180 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.2.2.1 k0_t1
theorem k0_off181_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off181 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.2.2.2.1 k0_t1
theorem k0_off182_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off182 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.2.2.2.2.1 k0_t1
theorem k0_off183_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off183 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.1.2.2.2.2.2.2.2.2.2.2.2.2.2.2.2.2.2.2.2.2.2.2.2.2.2.2.2.2.2.2.2 k0_t1
theorem k0_off184_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off184 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.1 k0_t1
theorem k0_off185_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off185 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.1 k0_t1
theorem k0_off186_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off186 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.1 k0_t1
theorem k0_off187_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off187 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.1 k0_t1
theorem k0_off188_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off188 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.1 k0_t1
theorem k0_off189_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off189 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.1 k0_t1
theorem k0_off190_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off190 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.1 k0_t1
theorem k0_off191_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off191 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.1 k0_t1
theorem k0_off192_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off192 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.1 k0_t1
theorem k0_off193_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off193 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.1 k0_t1
theorem k0_off194_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off194 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.1 k0_t1
theorem k0_off195_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off195 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.1 k0_t1
theorem k0_off196_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off196 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.1 k0_t1
theorem k0_off197_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off197 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.1 k0_t1
theorem k0_off198_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off198 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.1 k0_t1
theorem k0_off199_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off199 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.1 k0_t1
theorem k0_off200_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off200 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.1 k0_t1
theorem k0_off201_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off201 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.1 k0_t1
theorem k0_off202_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off202 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.1 k0_t1
theorem k0_off203_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off203 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.1 k0_t1
theorem k0_off204_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off204 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.1 k0_t1
theorem k0_off205_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off205 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.1 k0_t1
theorem k0_off206_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off206 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.1 k0_t1
theorem k0_off207_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off207 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.1 k0_t1
theorem k0_off208_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off208 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.1 k0_t1
theorem k0_off209_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off209 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.1 k0_t1
theorem k0_off210_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off210 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.1 k0_t1
theorem k0_off211_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off211 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.2.1 k0_t1
theorem k0_off212_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off212 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.2.2.1 k0_t1
theorem k0_off213_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off213 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.2.2.2.1 k0_t1
theorem k0_off214_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off214 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.2.2.2.2.1 k0_t1
theorem k0_off215_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off215 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.1.2.2.2.2.2.2.2.2.2.2.2.2.2.2.2.2.2.2.2.2.2.2.2.2.2.2.2.2.2.2.2 k0_t1
theorem k0_off216_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off216 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.1 k0_t1
theorem k0_off217_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off217 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.1 k0_t1
theorem k0_off218_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off218 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.1 k0_t1
theorem k0_off219_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off219 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.1 k0_t1
theorem k0_off220_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off220 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.1 k0_t1
theorem k0_off221_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off221 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.1 k0_t1
theorem k0_off222_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off222 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.1 k0_t1
theorem k0_off223_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off223 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.1 k0_t1
theorem k0_off224_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off224 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.1 k0_t1
theorem k0_off225_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off225 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.1 k0_t1
theorem k0_off226_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off226 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.1 k0_t1
theorem k0_off227_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off227 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.1 k0_t1
theorem k0_off228_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off228 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.1 k0_t1
theorem k0_off229_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off229 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.1 k0_t1
theorem k0_off230_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off230 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.1 k0_t1
theorem k0_off231_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off231 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.1 k0_t1
theorem k0_off232_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off232 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.1 k0_t1
theorem k0_off233_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off233 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.1 k0_t1
theorem k0_off234_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off234 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.1 k0_t1
theorem k0_off235_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off235 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.1 k0_t1
theorem k0_off236_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off236 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.1 k0_t1
theorem k0_off237_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off237 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.1 k0_t1
theorem k0_off238_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off238 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.1 k0_t1
theorem k0_off239_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off239 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.1 k0_t1
theorem k0_off240_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off240 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.1 k0_t1
theorem k0_off241_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off241 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.1 k0_t1
theorem k0_off242_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off242 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.1 k0_t1
theorem k0_off243_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off243 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.2.1 k0_t1
theorem k0_off244_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off244 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.2.2.1 k0_t1
theorem k0_off245_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off245 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.2.2.2.1 k0_t1
theorem k0_off246_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off246 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.2.2.2.2.1 k0_t1
theorem k0_off247_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off247 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.1.2.2.2.2.2.2.2.2.2.2.2.2.2.2.2.2.2.2.2.2.2.2.2.2.2.2.2.2.2.2.2 k0_t1
theorem k0_off248_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off248 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.1 k0_t1
theorem k0_off249_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off249 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.1 k0_t1
theorem k0_off250_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off250 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.1 k0_t1
theorem k0_off251_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off251 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.1 k0_t1
theorem k0_off252_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off252 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.1 k0_t1
theorem k0_off253_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off253 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.1 k0_t1
theorem k0_off254_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off254 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.1 k0_t1
theorem k0_off255_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off255 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.1 k0_t1
theorem k0_off256_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off256 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.1 k0_t1
theorem k0_off257_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off257 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.1 k0_t1
theorem k0_off258_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off258 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.1 k0_t1
theorem k0_off259_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off259 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.1 k0_t1
theorem k0_off260_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off260 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.1 k0_t1
theorem k0_off261_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off261 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.1 k0_t1
theorem k0_off262_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off262 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.1 k0_t1
theorem k0_off263_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off263 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.1 k0_t1
theorem k0_off264_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off264 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.1 k0_t1
theorem k0_off265_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off265 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.1 k0_t1
theorem k0_off266_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off266 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.1 k0_t1
theorem k0_off267_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off267 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.1 k0_t1
theorem k0_off268_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off268 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.1 k0_t1
theorem k0_off269_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off269 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.1 k0_t1
theorem k0_off270_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off270 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.1 k0_t1
theorem k0_off271_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off271 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.1 k0_t1
theorem k0_off272_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off272 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.1 k0_t1
theorem k0_off273_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off273 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.1 k0_t1
theorem k0_off274_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off274 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.1 k0_t1
theorem k0_off275_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off275 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.2.1 k0_t1
theorem k0_off276_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off276 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.2.2.1 k0_t1
theorem k0_off277_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off277 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.2.2.2.1 k0_t1
theorem k0_off278_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off278 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.2.2.2.2.1 k0_t1
theorem k0_off279_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off279 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.1.2.2.2.2.2.2.2.2.2.2.2.2.2.2.2.2.2.2.2.2.2.2.2.2.2.2.2.2.2.2.2 k0_t1
theorem k0_off280_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off280 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.1 k0_t1
theorem k0_off281_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off281 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.1 k0_t1
theorem k0_off282_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off282 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.1 k0_t1
theorem k0_off283_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off283 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.1 k0_t1
theorem k0_off284_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off284 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.1 k0_t1
theorem k0_off285_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off285 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.1 k0_t1
theorem k0_off286_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off286 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.1 k0_t1
theorem k0_off287_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off287 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.1 k0_t1
theorem k0_off288_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off288 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.1 k0_t1
theorem k0_off289_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off289 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.1 k0_t1
theorem k0_off290_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off290 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.1 k0_t1
theorem k0_off291_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off291 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.1 k0_t1
theorem k0_off292_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off292 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.1 k0_t1
theorem k0_off293_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off293 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.1 k0_t1
theorem k0_off294_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off294 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.1 k0_t1
theorem k0_off295_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off295 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.1 k0_t1
theorem k0_off296_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off296 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.1 k0_t1
theorem k0_off297_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off297 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.1 k0_t1
theorem k0_off298_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off298 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.1 k0_t1
theorem k0_off299_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off299 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.1 k0_t1
theorem k0_off300_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off300 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.1 k0_t1
theorem k0_off301_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off301 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.1 k0_t1
theorem k0_off302_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off302 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.1 k0_t1
theorem k0_off303_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off303 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.1 k0_t1
theorem k0_off304_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off304 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.1 k0_t1
theorem k0_off305_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off305 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.1 k0_t1
theorem k0_off306_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off306 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.1 k0_t1
theorem k0_off307_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off307 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.2.1 k0_t1
theorem k0_off308_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off308 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.2.2.1 k0_t1
theorem k0_off309_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off309 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.2.2.2.1 k0_t1
theorem k0_off310_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off310 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.2.2.2.2.1 k0_t1
theorem k0_off311_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off311 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.1.2.2.2.2.2.2.2.2.2.2.2.2.2.2.2.2.2.2.2.2.2.2.2.2.2.2.2.2.2.2.2 k0_t1
theorem k0_off312_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off312 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.1 k0_t1
theorem k0_off313_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off313 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.1 k0_t1
theorem k0_off314_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off314 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.1 k0_t1
theorem k0_off315_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off315 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.1 k0_t1
theorem k0_off316_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off316 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.1 k0_t1
theorem k0_off317_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off317 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.1 k0_t1
theorem k0_off318_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off318 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.1 k0_t1
theorem k0_off319_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off319 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.1 k0_t1
theorem k0_off320_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off320 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.1 k0_t1
theorem k0_off321_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off321 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.1 k0_t1
theorem k0_off322_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off322 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.1 k0_t1
theorem k0_off323_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off323 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.1 k0_t1
theorem k0_off324_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off324 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.1 k0_t1
theorem k0_off325_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off325 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.1 k0_t1
theorem k0_off326_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off326 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.1 k0_t1
theorem k0_off327_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off327 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.1 k0_t1
theorem k0_off328_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off328 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.1 k0_t1
theorem k0_off329_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off329 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.1 k0_t1
theorem k0_off330_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off330 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.1 k0_t1
theorem k0_off331_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off331 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.1 k0_t1
theorem k0_off332_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off332 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.1 k0_t1
theorem k0_off333_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off333 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.1 k0_t1
theorem k0_off334_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off334 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.1 k0_t1
theorem k0_off335_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off335 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.1 k0_t1
theorem k0_off336_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off336 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.1 k0_t1
theorem k0_off337_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off337 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.1 k0_t1
theorem k0_off338_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off338 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.1 k0_t1
theorem k0_off339_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off339 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.2.1 k0_t1
theorem k0_off340_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off340 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.2.2.1 k0_t1
theorem k0_off341_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off341 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.2.2.2.1 k0_t1
theorem k0_off342_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off342 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.2.2.2.2.1 k0_t1
theorem k0_off343_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off343 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.1.2.2.2.2.2.2.2.2.2.2.2.2.2.2.2.2.2.2.2.2.2.2.2.2.2.2.2.2.2.2.2 k0_t1
theorem k0_off344_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off344 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.1 k0_t1
theorem k0_off345_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off345 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.1 k0_t1
theorem k0_off346_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off346 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.1 k0_t1
theorem k0_off347_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off347 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.1 k0_t1
theorem k0_off348_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off348 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.1 k0_t1
theorem k0_off349_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off349 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.1 k0_t1
theorem k0_off350_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off350 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.1 k0_t1
theorem k0_off351_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off351 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.1 k0_t1
theorem k0_off352_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off352 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.1 k0_t1
theorem k0_off353_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off353 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.1 k0_t1
theorem k0_off354_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off354 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.1 k0_t1
theorem k0_off355_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off355 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.1 k0_t1
theorem k0_off356_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off356 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.1 k0_t1
theorem k0_off357_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off357 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.1 k0_t1
theorem k0_off358_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off358 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.1 k0_t1
theorem k0_off359_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off359 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.1 k0_t1
theorem k0_off360_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off360 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.1 k0_t1
theorem k0_off361_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off361 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.1 k0_t1
theorem k0_off362_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off362 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.1 k0_t1
theorem k0_off363_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off363 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.1 k0_t1
theorem k0_off364_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off364 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.1 k0_t1
theorem k0_off365_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off365 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.1 k0_t1
theorem k0_off366_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off366 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.1 k0_t1
theorem k0_off367_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off367 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.1 k0_t1
theorem k0_off368_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off368 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.1 k0_t1
theorem k0_off369_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off369 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.1 k0_t1
theorem k0_off370_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off370 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.1 k0_t1
theorem k0_off371_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off371 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.2.1 k0_t1
theorem k0_off372_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off372 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.2.2.1 k0_t1
theorem k0_off373_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off373 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.2.2.2.1 k0_t1
theorem k0_off374_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off374 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.2.2.2.2.1 k0_t1
theorem k0_off375_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off375 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.1.2.2.2.2.2.2.2.2.2.2.2.2.2.2.2.2.2.2.2.2.2.2.2.2.2.2.2.2.2.2.2 k0_t1
theorem k0_off376_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off376 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.1 k0_t1
theorem k0_off377_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off377 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.1 k0_t1
theorem k0_off378_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off378 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.1 k0_t1
theorem k0_off379_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off379 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.1 k0_t1
theorem k0_off380_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off380 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.1 k0_t1
theorem k0_off381_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off381 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.1 k0_t1
theorem k0_off382_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off382 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.2.1 k0_t1
theorem k0_off383_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off383 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.2.2.1 k0_t1
theorem k0_off384_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off384 v0 v13 v26 v39 v52 v65 v78 v91 v104 v117 v130 v143 v156 v169 v182 v195 v208 v221 v234 v247 v260 v273 v286 v299 v312 v325 v338 v351 v364 v377 v390 v403 k0_t1) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.2.2.2.1 k0_t1
theorem k0_off385_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off385 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.2.2.2.2.1 k0_t1
theorem k0_off386_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ a, (k0_off386 v0 v13 v26 v39 v52 v65 v78 v91 v104 v117 v130 v143 v156 v169 v182 v195 v208 v221 v234 v247 v260 v273 v286 v299 v312 v325 v338 v351 v364 v377 v390 v403 k0_t1) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 => k0_hw31.2.2.2.2.2.2.2.2.1.2.2.2.2.2.2.2.2.2.2.1 k0_t1
theorem k0_off387_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off387 v0 v13 v26 v39 v52 v65 v78 v91 v104 v117 v130 v143 v156 v169 v182 v195 v208 v221 v234 v247 v260 v273 v286 v299 v312 v325 v338 v351 v364 v377 v390 v403 k0_t1) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.1 k0_t1 k0_h65
theorem k0_off388_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off388 v0 v13 v26 v39 v52 v65 v78 v91 v104 v117 v130 v143 v156 v169 v182 v195 v208 v221 v234 v247 v260 v273 v286 v299 v312 v325 v338 v351 v364 v377 v390 v403 k0_t1) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.2.1 k0_t1 k0_h65
theorem k0_off389_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off389 v0 v13 v26 v39 v52 v65 v78 v91 v104 v117 v130 v143 v156 v169 v182 v195 v208 v221 v234 v247 v260 v273 v286 v299 v312 v325 v338 v351 v364 v377 v390 v403 k0_t1) a + S1x3584x768.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.2.2.1 k0_t1 k0_h65
theorem k0_off389_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), (Rect.unit (s := S4x3584x768) (k0_off389 v0 v13 v26 v39 v52 v65 v78 v91 v104 v117 v130 v143 v156 v169 v182 v195 v208 v221 v234 v247 v260 v273 v286 v299 v312 v325 v338 v351 v364 v377 v390 v403 k0_t1) S1x3584x768.size (k0_off389_inb v0 v13 v26 v39 v52 v65 v78 v91 v104 v117 v130 v143 v156 v169 v182 v195 v208 v221 v234 v247 v260 v273 v286 v299 v312 v325 v338 v351 v364 v377 v390 v403 k0_hw31 k0_t1 k0_h65)).WholeWords (EltTy.packing .i8) := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.2.2.2.1 k0_t1 k0_h65 (k0_off389_inb v0 v13 v26 v39 v52 v65 v78 v91 v104 v117 v130 v143 v156 v169 v182 v195 v208 v221 v234 v247 v260 v273 v286 v299 v312 v325 v338 v351 v364 v377 v390 v403 k0_hw31 k0_t1 k0_h65)
theorem k0_off391_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off391 v0 v13 v26 v39 v52 v65 v78 v91 v104 v117 v130 v143 v156 v169 v182 v195 v208 v221 v234 v247 v260 v273 v286 v299 v312 v325 v338 v351 v364 v377 v390 v403 k0_t1) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.2.2.2.2.1 k0_t1 k0_h65
theorem k0_off392_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t1 : Fin (k0_t1_loop v0 v13 v26 v39 v52 v65 v78 v91 v104 v117 v130 v143 v156 v169 v182 v195 v208 v221 v234 v247 v260 v273 v286 v299 v312 v325 v338 v351 v364 v377 v390 v403).trips), ∀ (k0_h65 : k0_cond65 v0 v13 v26 v39 v52 v65 v78 v91 v104 v117 v130 v143 v156 v169 v182 v195 v208 v221 v234 v247 v260 v273 v286 v299 v312 v325 v338 v351 v364 v377 v390 v403 k0_t1 = 1#1), ∀ a, (k0_off392 v0 v13 v26 v39 v52 v65 v78 v91 v104 v117 v130 v143 v156 v169 v182 v195 v208 v221 v234 v247 v260 v273 v286 v299 v312 v325 v338 v351 v364 v377 v390 v403 k0_t1) a + S1x56x768.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t1 k0_h65 => k0_hw31.2.2.2.2.2.2.2.2.1.2.2.2.2.2.2.2.2.2.2.2.2.2.2.2.2.1 k0_t1 k0_h65
theorem k0_t2_ok : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403), (k0_t2_loop v0 v13 v26 v39 v52 v65 v78 v91 v104 v117 v130 v143 v156 v169 v182 v195 v208 v221 v234 v247 v260 v273 v286 v299 v312 v325 v338 v351 v364 v377 v390 v403).OK := fun v0 v13 v26 v39 v52 v65 v78 v91 v104 v117 v130 v143 v156 v169 v182 v195 v208 v221 v234 v247 v260 v273 v286 v299 v312 v325 v338 v351 v364 v377 v390 v403 k0_hw31 => k0_hw31.2.2.2.2.2.2.2.2.1.2.2.2.2.2.2.2.2.2.2.2.2.2.2.2.2.2.1
theorem k0_off394_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off394 v0 v13 v26 v39 v52 v65 v78 v91 v104 v117 v130 v143 v156 v169 v182 v195 v208 v221 v234 v247 v260 v273 v286 v299 v312 v325 v338 v351 v364 v377 v390 v403 k0_t2) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.1 k0_t2
theorem k0_off395_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off395 v0 v13 v26 v39 v52 v65 v78 v91 v104 v117 v130 v143 v156 v169 v182 v195 v208 v221 v234 v247 v260 v273 v286 v299 v312 v325 v338 v351 v364 v377 v390 v403 k0_t2) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.1 k0_t2
theorem k0_off396_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off396 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.1 k0_t2
theorem k0_off396_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), (Rect.unit (s := S4x3584x768) (k0_off396 v0 v13 v26 v39 v52 v65 v78 v91 v104 v117 v130 v143 v156 v169 v182 v195 v208 v221 v234 v247 v260 v273 v286 v299 v312 v325 v338 v351 v364 v377 v390 v403 k0_t2) S1x3584x768.size (k0_off396_inb v0 v13 v26 v39 v52 v65 v78 v91 v104 v117 v130 v143 v156 v169 v182 v195 v208 v221 v234 v247 v260 v273 v286 v299 v312 v325 v338 v351 v364 v377 v390 v403 k0_hw31 k0_t2)).WholeWords (EltTy.packing .i8) := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.1 k0_t2 (k0_off396_inb v0 v13 v26 v39 v52 v65 v78 v91 v104 v117 v130 v143 v156 v169 v182 v195 v208 v221 v234 v247 v260 v273 v286 v299 v312 v325 v338 v351 v364 v377 v390 v403 k0_hw31 k0_t2)
theorem k0_off398_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off398 v0 v13 v26 v39 v52 v65 v78 v91 v104 v117 v130 v143 v156 v169 v182 v195 v208 v221 v234 v247 v260 v273 v286 v299 v312 v325 v338 v351 v364 v377 v390 v403 k0_t2) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.1 k0_t2
theorem k0_off399_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off399 v0 v13 v26 v39 v52 v65 v78 v91 v104 v117 v130 v143 v156 v169 v182 v195 v208 v221 v234 v247 v260 v273 v286 v299 v312 v325 v338 v351 v364 v377 v390 v403 k0_t2) a + S1x56x768.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.1 k0_t2
theorem k0_off401_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off401 v0 v13 v26 v39 v52 v65 v78 v91 v104 v117 v130 v143 v156 v169 v182 v195 v208 v221 v234 v247 v260 v273 v286 v299 v312 v325 v338 v351 v364 v377 v390 v403 k0_t2) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.1 k0_t2
theorem k0_off402_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off402 v0 v13 v26 v39 v52 v65 v78 v91 v104 v117 v130 v143 v156 v169 v182 v195 v208 v221 v234 v247 v260 v273 v286 v299 v312 v325 v338 v351 v364 v377 v390 v403 k0_t2) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.1 k0_t2
theorem k0_off403_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off403 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.1 k0_t2
theorem k0_off404_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off404 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.2.1 k0_t2
theorem k0_off405_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off405 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.2.2.1 k0_t2
theorem k0_off406_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off406 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.2.2.2.1 k0_t2
theorem k0_off407_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off407 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.2.2.2.2.1 k0_t2
theorem k0_off408_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off408 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.1.2.2.2.2.2.2.2.2.2.2.2.2.2.2.2.2.2.2.2.2.2.2.2.2.2.2.2.2.2.2.2 k0_t2
theorem k0_off409_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off409 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.1 k0_t2
theorem k0_off410_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off410 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.1 k0_t2
theorem k0_off411_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off411 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.1 k0_t2
theorem k0_off412_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off412 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.1 k0_t2
theorem k0_off413_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off413 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.1 k0_t2
theorem k0_off414_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off414 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.1 k0_t2
theorem k0_off415_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off415 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.1 k0_t2
theorem k0_off416_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off416 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.1 k0_t2
theorem k0_off417_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off417 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.1 k0_t2
theorem k0_off418_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off418 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.1 k0_t2
theorem k0_off419_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off419 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.1 k0_t2
theorem k0_off420_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off420 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.1 k0_t2
theorem k0_off421_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off421 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.1 k0_t2
theorem k0_off422_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off422 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.1 k0_t2
theorem k0_off423_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off423 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.1 k0_t2
theorem k0_off424_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off424 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.1 k0_t2
theorem k0_off425_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off425 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.1 k0_t2
theorem k0_off426_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off426 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.1 k0_t2
theorem k0_off427_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off427 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.1 k0_t2
theorem k0_off428_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off428 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.1 k0_t2
theorem k0_off429_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off429 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.1 k0_t2
theorem k0_off430_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off430 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.1 k0_t2
theorem k0_off431_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off431 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.1 k0_t2
theorem k0_off432_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off432 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.1 k0_t2
theorem k0_off433_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off433 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.1 k0_t2
theorem k0_off434_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off434 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.1 k0_t2
theorem k0_off435_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off435 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.1 k0_t2
theorem k0_off436_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off436 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.2.1 k0_t2
theorem k0_off437_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off437 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.2.2.1 k0_t2
theorem k0_off438_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off438 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.2.2.2.1 k0_t2
theorem k0_off439_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off439 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.2.2.2.2.1 k0_t2
theorem k0_off440_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off440 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.1.2.2.2.2.2.2.2.2.2.2.2.2.2.2.2.2.2.2.2.2.2.2.2.2.2.2.2.2.2.2.2 k0_t2
theorem k0_off441_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off441 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.1 k0_t2
theorem k0_off442_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off442 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.1 k0_t2
theorem k0_off443_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off443 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.1 k0_t2
theorem k0_off444_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off444 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.1 k0_t2
theorem k0_off445_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off445 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.1 k0_t2
theorem k0_off446_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off446 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.1 k0_t2
theorem k0_off447_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off447 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.1 k0_t2
theorem k0_off448_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off448 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.1 k0_t2
theorem k0_off449_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off449 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.1 k0_t2
theorem k0_off450_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off450 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.1 k0_t2
theorem k0_off451_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off451 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.1 k0_t2
theorem k0_off452_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off452 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.1 k0_t2
theorem k0_off453_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off453 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.1 k0_t2
theorem k0_off454_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off454 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.1 k0_t2
theorem k0_off455_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off455 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.1 k0_t2
theorem k0_off456_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off456 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.1 k0_t2
theorem k0_off457_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off457 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.1 k0_t2
theorem k0_off458_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off458 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.1 k0_t2
theorem k0_off459_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off459 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.1 k0_t2
theorem k0_off460_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off460 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.1 k0_t2
theorem k0_off461_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off461 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.1 k0_t2
theorem k0_off462_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off462 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.1 k0_t2
theorem k0_off463_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off463 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.1 k0_t2
theorem k0_off464_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off464 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.1 k0_t2
theorem k0_off465_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off465 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.1 k0_t2
theorem k0_off466_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off466 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.1 k0_t2
theorem k0_off467_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off467 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.1 k0_t2
theorem k0_off468_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off468 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.2.1 k0_t2
theorem k0_off469_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off469 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.2.2.1 k0_t2
theorem k0_off470_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off470 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.2.2.2.1 k0_t2
theorem k0_off471_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off471 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.2.2.2.2.1 k0_t2
theorem k0_off472_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off472 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.1.2.2.2.2.2.2.2.2.2.2.2.2.2.2.2.2.2.2.2.2.2.2.2.2.2.2.2.2.2.2.2 k0_t2
theorem k0_off473_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off473 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.1 k0_t2
theorem k0_off474_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off474 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.1 k0_t2
theorem k0_off475_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off475 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.1 k0_t2
theorem k0_off476_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off476 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.1 k0_t2
theorem k0_off477_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off477 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.1 k0_t2
theorem k0_off478_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off478 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.1 k0_t2
theorem k0_off479_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off479 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.1 k0_t2
theorem k0_off480_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off480 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.1 k0_t2
theorem k0_off481_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off481 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.1 k0_t2
theorem k0_off482_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off482 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.1 k0_t2
theorem k0_off483_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off483 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.1 k0_t2
theorem k0_off484_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off484 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.1 k0_t2
theorem k0_off485_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off485 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.1 k0_t2
theorem k0_off486_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off486 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.1 k0_t2
theorem k0_off487_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off487 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.1 k0_t2
theorem k0_off488_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off488 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.1 k0_t2
theorem k0_off489_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off489 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.1 k0_t2
theorem k0_off490_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off490 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.1 k0_t2
theorem k0_off491_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off491 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.1 k0_t2
theorem k0_off492_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off492 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.1 k0_t2
theorem k0_off493_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off493 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.1 k0_t2
theorem k0_off494_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off494 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.1 k0_t2
theorem k0_off495_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off495 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.1 k0_t2
theorem k0_off496_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off496 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.1 k0_t2
theorem k0_off497_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off497 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.1 k0_t2
theorem k0_off498_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off498 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.1 k0_t2
theorem k0_off499_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off499 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.1 k0_t2
theorem k0_off500_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off500 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.2.1 k0_t2
theorem k0_off501_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off501 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.2.2.1 k0_t2
theorem k0_off502_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off502 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.2.2.2.1 k0_t2
theorem k0_off503_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off503 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.2.2.2.2.1 k0_t2
theorem k0_off504_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off504 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.1.2.2.2.2.2.2.2.2.2.2.2.2.2.2.2.2.2.2.2.2.2.2.2.2.2.2.2.2.2.2.2 k0_t2
theorem k0_off505_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off505 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.1 k0_t2
theorem k0_off506_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off506 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.1 k0_t2
theorem k0_off507_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off507 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.1 k0_t2
theorem k0_off508_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off508 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.1 k0_t2
theorem k0_off509_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off509 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.1 k0_t2
theorem k0_off510_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off510 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.1 k0_t2
theorem k0_off511_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off511 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.1 k0_t2
theorem k0_off512_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off512 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.1 k0_t2
theorem k0_off513_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off513 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.1 k0_t2
theorem k0_off514_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off514 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.1 k0_t2
theorem k0_off515_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off515 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.1 k0_t2
theorem k0_off516_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off516 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.1 k0_t2
theorem k0_off517_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off517 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.1 k0_t2
theorem k0_off518_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off518 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.1 k0_t2
theorem k0_off519_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off519 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.1 k0_t2
theorem k0_off520_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off520 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.1 k0_t2
theorem k0_off521_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off521 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.1 k0_t2
theorem k0_off522_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off522 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.1 k0_t2
theorem k0_off523_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off523 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.1 k0_t2
theorem k0_off524_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off524 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.1 k0_t2
theorem k0_off525_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off525 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.1 k0_t2
theorem k0_off526_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off526 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.1 k0_t2
theorem k0_off527_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off527 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.1 k0_t2
theorem k0_off528_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off528 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.1 k0_t2
theorem k0_off529_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off529 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.1 k0_t2
theorem k0_off530_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off530 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.1 k0_t2
theorem k0_off531_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off531 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.1 k0_t2
theorem k0_off532_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off532 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.2.1 k0_t2
theorem k0_off533_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off533 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.2.2.1 k0_t2
theorem k0_off534_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off534 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.2.2.2.1 k0_t2
theorem k0_off535_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off535 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.2.2.2.2.1 k0_t2
theorem k0_off536_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off536 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.1.2.2.2.2.2.2.2.2.2.2.2.2.2.2.2.2.2.2.2.2.2.2.2.2.2.2.2.2.2.2.2 k0_t2
theorem k0_off537_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off537 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.1 k0_t2
theorem k0_off538_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off538 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.1 k0_t2
theorem k0_off539_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off539 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.1 k0_t2
theorem k0_off540_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off540 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.1 k0_t2
theorem k0_off541_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off541 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.1 k0_t2
theorem k0_off542_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off542 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.1 k0_t2
theorem k0_off543_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off543 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.1 k0_t2
theorem k0_off544_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off544 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.1 k0_t2
theorem k0_off545_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off545 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.1 k0_t2
theorem k0_off546_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off546 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.1 k0_t2
theorem k0_off547_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off547 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.1 k0_t2
theorem k0_off548_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off548 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.1 k0_t2
theorem k0_off549_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off549 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.1 k0_t2
theorem k0_off550_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off550 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.1 k0_t2
theorem k0_off551_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off551 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.1 k0_t2
theorem k0_off552_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off552 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.1 k0_t2
theorem k0_off553_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off553 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.1 k0_t2
theorem k0_off554_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off554 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.1 k0_t2
theorem k0_off555_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off555 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.1 k0_t2
theorem k0_off556_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off556 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.1 k0_t2
theorem k0_off557_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off557 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.1 k0_t2
theorem k0_off558_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off558 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.1 k0_t2
theorem k0_off559_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off559 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.1 k0_t2
theorem k0_off560_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off560 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.1 k0_t2
theorem k0_off561_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off561 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.1 k0_t2
theorem k0_off562_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off562 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.1 k0_t2
theorem k0_off563_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off563 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.1 k0_t2
theorem k0_off564_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off564 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.2.1 k0_t2
theorem k0_off565_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off565 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.2.2.1 k0_t2
theorem k0_off566_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off566 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.2.2.2.1 k0_t2
theorem k0_off567_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off567 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.2.2.2.2.1 k0_t2
theorem k0_off568_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off568 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.1.2.2.2.2.2.2.2.2.2.2.2.2.2.2.2.2.2.2.2.2.2.2.2.2.2.2.2.2.2.2.2 k0_t2
theorem k0_off569_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off569 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.1 k0_t2
theorem k0_off570_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off570 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.1 k0_t2
theorem k0_off571_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off571 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.1 k0_t2
theorem k0_off572_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off572 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.1 k0_t2
theorem k0_off573_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off573 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.1 k0_t2
theorem k0_off574_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off574 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.1 k0_t2
theorem k0_off575_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off575 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.1 k0_t2
theorem k0_off576_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off576 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.1 k0_t2
theorem k0_off577_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off577 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.1 k0_t2
theorem k0_off578_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off578 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.1 k0_t2
theorem k0_off579_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off579 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.1 k0_t2
theorem k0_off580_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off580 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.1 k0_t2
theorem k0_off581_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off581 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.1 k0_t2
theorem k0_off582_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off582 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.1 k0_t2
theorem k0_off583_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off583 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.1 k0_t2
theorem k0_off584_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off584 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.1 k0_t2
theorem k0_off585_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off585 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.1 k0_t2
theorem k0_off586_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off586 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.1 k0_t2
theorem k0_off587_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off587 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.1 k0_t2
theorem k0_off588_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off588 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.1 k0_t2
theorem k0_off589_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off589 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.1 k0_t2
theorem k0_off590_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off590 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.1 k0_t2
theorem k0_off591_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off591 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.1 k0_t2
theorem k0_off592_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off592 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.1 k0_t2
theorem k0_off593_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off593 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.1 k0_t2
theorem k0_off594_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off594 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.1 k0_t2
theorem k0_off595_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off595 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.1 k0_t2
theorem k0_off596_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off596 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.2.1 k0_t2
theorem k0_off597_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off597 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.2.2.1 k0_t2
theorem k0_off598_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off598 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.2.2.2.1 k0_t2
theorem k0_off599_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off599 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.2.2.2.2.1 k0_t2
theorem k0_off600_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off600 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.1.2.2.2.2.2.2.2.2.2.2.2.2.2.2.2.2.2.2.2.2.2.2.2.2.2.2.2.2.2.2.2 k0_t2
theorem k0_off601_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off601 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.1 k0_t2
theorem k0_off602_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off602 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.1 k0_t2
theorem k0_off603_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off603 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.1 k0_t2
theorem k0_off604_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off604 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.1 k0_t2
theorem k0_off605_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off605 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.1 k0_t2
theorem k0_off606_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off606 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.1 k0_t2
theorem k0_off607_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off607 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.1 k0_t2
theorem k0_off608_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off608 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.1 k0_t2
theorem k0_off609_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off609 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.1 k0_t2
theorem k0_off610_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off610 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.1 k0_t2
theorem k0_off611_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off611 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.1 k0_t2
theorem k0_off612_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off612 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.1 k0_t2
theorem k0_off613_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off613 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.1 k0_t2
theorem k0_off614_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off614 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.1 k0_t2
theorem k0_off615_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off615 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.1 k0_t2
theorem k0_off616_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off616 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.1 k0_t2
theorem k0_off617_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off617 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.1 k0_t2
theorem k0_off618_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off618 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.1 k0_t2
theorem k0_off619_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off619 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.1 k0_t2
theorem k0_off620_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off620 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.1 k0_t2
theorem k0_off621_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off621 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.1 k0_t2
theorem k0_off622_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off622 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.1 k0_t2
theorem k0_off623_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off623 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.1 k0_t2
theorem k0_off624_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off624 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.1 k0_t2
theorem k0_off625_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off625 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.1 k0_t2
theorem k0_off626_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off626 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.1 k0_t2
theorem k0_off627_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off627 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.1 k0_t2
theorem k0_off628_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off628 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.2.1 k0_t2
theorem k0_off629_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off629 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.2.2.1 k0_t2
theorem k0_off630_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off630 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.2.2.2.1 k0_t2
theorem k0_off631_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off631 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.2.2.2.2.1 k0_t2
theorem k0_off632_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off632 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.1.2.2.2.2.2.2.2.2.2.2.2.2.2.2.2.2.2.2.2.2.2.2.2.2.2.2.2.2.2.2.2 k0_t2
theorem k0_off633_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off633 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.1 k0_t2
theorem k0_off634_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off634 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.1 k0_t2
theorem k0_off635_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off635 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.1 k0_t2
theorem k0_off636_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off636 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.1 k0_t2
theorem k0_off637_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off637 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.1 k0_t2
theorem k0_off638_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off638 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.1 k0_t2
theorem k0_off639_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off639 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.1 k0_t2
theorem k0_off640_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off640 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.1 k0_t2
theorem k0_off641_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off641 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.1 k0_t2
theorem k0_off642_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off642 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.1 k0_t2
theorem k0_off643_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off643 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.1 k0_t2
theorem k0_off644_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off644 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.1 k0_t2
theorem k0_off645_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off645 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.1 k0_t2
theorem k0_off646_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off646 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.1 k0_t2
theorem k0_off647_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off647 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.1 k0_t2
theorem k0_off648_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off648 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.1 k0_t2
theorem k0_off649_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off649 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.1 k0_t2
theorem k0_off650_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off650 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.2.1 k0_t2
theorem k0_off651_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off651 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.2.2.1 k0_t2
theorem k0_off652_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off652 v0 v13 v26 v39 v52 v65 v78 v91 v104 v117 v130 v143 v156 v169 v182 v195 v208 v221 v234 v247 v260 v273 v286 v299 v312 v325 v338 v351 v364 v377 v390 v403 k0_t2) a + S1x128x256.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.2.2.2.1 k0_t2
theorem k0_off653_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off653 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.2.2.2.2.1 k0_t2
theorem k0_off654_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ a, (k0_off654 v0 v13 v26 v39 v52 v65 v78 v91 v104 v117 v130 v143 v156 v169 v182 v195 v208 v221 v234 v247 v260 v273 v286 v299 v312 v325 v338 v351 v364 v377 v390 v403 k0_t2) a + S1x1x256.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 => k0_hw31.2.2.2.2.2.2.2.2.2.2.2.2.2.2.2.2.2.2.2.2.2.2.2.2.2.2.2.2.2.2.2.2.2.2.2.2.2.1 k0_t2
theorem k0_off655_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off655 v0 v13 v26 v39 v52 v65 v78 v91 v104 v117 v130 v143 v156 v169 v182 v195 v208 v221 v234 v247 v260 v273 v286 v299 v312 v325 v338 v351 v364 v377 v390 v403 k0_t2) a + S1.size a ≤ S33.size a := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.1 k0_t2 k0_h66
theorem k0_off656_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off656 v0 v13 v26 v39 v52 v65 v78 v91 v104 v117 v130 v143 v156 v169 v182 v195 v208 v221 v234 v247 v260 v273 v286 v299 v312 v325 v338 v351 v364 v377 v390 v403 k0_t2) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.2.1 k0_t2 k0_h66
theorem k0_off657_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off657 v0 v13 v26 v39 v52 v65 v78 v91 v104 v117 v130 v143 v156 v169 v182 v195 v208 v221 v234 v247 v260 v273 v286 v299 v312 v325 v338 v351 v364 v377 v390 v403 k0_t2) a + S1x3584x768.size a ≤ S4x3584x768.size a := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.2.2.1 k0_t2 k0_h66
theorem k0_off657_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), (Rect.unit (s := S4x3584x768) (k0_off657 v0 v13 v26 v39 v52 v65 v78 v91 v104 v117 v130 v143 v156 v169 v182 v195 v208 v221 v234 v247 v260 v273 v286 v299 v312 v325 v338 v351 v364 v377 v390 v403 k0_t2) S1x3584x768.size (k0_off657_inb v0 v13 v26 v39 v52 v65 v78 v91 v104 v117 v130 v143 v156 v169 v182 v195 v208 v221 v234 v247 v260 v273 v286 v299 v312 v325 v338 v351 v364 v377 v390 v403 k0_hw31 k0_t2 k0_h66)).WholeWords (EltTy.packing .i8) := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.2.2.2.1 k0_t2 k0_h66 (k0_off657_inb v0 v13 v26 v39 v52 v65 v78 v91 v104 v117 v130 v143 v156 v169 v182 v195 v208 v221 v234 v247 v260 v273 v286 v299 v312 v325 v338 v351 v364 v377 v390 v403 k0_hw31 k0_t2 k0_h66)
theorem k0_off659_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off659 v0 v13 v26 v39 v52 v65 v78 v91 v104 v117 v130 v143 v156 v169 v182 v195 v208 v221 v234 v247 v260 v273 v286 v299 v312 v325 v338 v351 v364 v377 v390 v403 k0_t2) a + S1.size a ≤ S4.size a := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.2.2.2.2.1 k0_t2 k0_h66
theorem k0_off660_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_hw31 : k0_chk31 v0 v13 v26 v39 v52 v65 v78 v91 v104 v117 v130 v143 v156 v169 v182 v195 v208 v221 v234 v247 v260 v273 v286 v299 v312 v325 v338 v351 v364 v377 v390 v403) (k0_t2 : Fin (k0_t2_loop v0 v13 v26 v39 v52 v65 v78 v91 v104 v117 v130 v143 v156 v169 v182 v195 v208 v221 v234 v247 v260 v273 v286 v299 v312 v325 v338 v351 v364 v377 v390 v403).trips), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off660 v0 v13 v26 v39 v52 v65 v78 v91 v104 v117 v130 v143 v156 v169 v182 v195 v208 v221 v234 v247 v260 v273 v286 v299 v312 v325 v338 v351 v364 v377 v390 v403 k0_t2) a + S1x56x768.size a ≤ S4x56x768.size a := fun v0 v13 v26 v39 v52 v65 v78 v91 v104 v117 v130 v143 v156 v169 v182 v195 v208 v221 v234 v247 v260 v273 v286 v299 v312 v325 v338 v351 v364 v377 v390 v403 k0_hw31 k0_t2 k0_h66 => k0_hw31.2.2.2.2.2.2.2.2.2.2.2.2.2.2.2.2.2.2.2.2.2.2.2.2.2.2.2.2.2.2.2.2.2.2.2.2.2.2.2.2.2.2.2 k0_t2 k0_h66

def k0_off661 (v9156_r0 : BitVec 32) : Fin 3 → Nat :=
  let c0_i32_3019_r0 : BitVec 32 := 0#32
  let c0_i32_3020_r0 : BitVec 32 := 0#32
  ![v9156_r0.toNat, 0, 0]

def k0_chk35 (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) (v9156_r0 : BitVec 32) : Prop :=
  (∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off658 v9156_r0) a + S1x3584x768.size a ≤ S32x3584x768.size a) ∧
  (∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ (hinb : ∀ a, (k0_off658 v9156_r0) a + S1x3584x768.size a ≤ S32x3584x768.size a), (Rect.unit (s := S32x3584x768) (k0_off658 v9156_r0) S1x3584x768.size hinb).WholeWords (EltTy.packing .i8)) ∧
  (∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off661 v9156_r0) a + S1x56x768.size a ≤ S32x56x768.size a)
theorem k0_off658_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) (v9156_r0 : BitVec 32) (k0_hw35 : k0_chk35 v0 v13 v26 v39 v52 v65 v78 v91 v104 v117 v130 v143 v156 v169 v182 v195 v208 v221 v234 v247 v260 v273 v286 v299 v312 v325 v338 v351 v364 v377 v390 v403 k0_t2 v9156_r0), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off658 v9156_r0) a + S1x3584x768.size a ≤ S32x3584x768.size a := fun v0 v13 v26 v39 v52 v65 v78 v91 v104 v117 v130 v143 v156 v169 v182 v195 v208 v221 v234 v247 v260 v273 v286 v299 v312 v325 v338 v351 v364 v377 v390 v403 k0_t2 v9156_r0 k0_hw35 k0_h66 => k0_hw35.1 k0_h66
theorem k0_off658_wordsi8 : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) (v9156_r0 : BitVec 32) (k0_hw35 : k0_chk35 v0 v13 v26 v39 v52 v65 v78 v91 v104 v117 v130 v143 v156 v169 v182 v195 v208 v221 v234 v247 v260 v273 v286 v299 v312 v325 v338 v351 v364 v377 v390 v403 k0_t2 v9156_r0), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), (Rect.unit (s := S32x3584x768) (k0_off658 v9156_r0) S1x3584x768.size (k0_off658_inb v0 v13 v26 v39 v52 v65 v78 v91 v104 v117 v130 v143 v156 v169 v182 v195 v208 v221 v234 v247 v260 v273 v286 v299 v312 v325 v338 v351 v364 v377 v390 v403 k0_t2 v9156_r0 k0_hw35 k0_h66)).WholeWords (EltTy.packing .i8) := fun v0 v13 v26 v39 v52 v65 v78 v91 v104 v117 v130 v143 v156 v169 v182 v195 v208 v221 v234 v247 v260 v273 v286 v299 v312 v325 v338 v351 v364 v377 v390 v403 k0_t2 v9156_r0 k0_hw35 k0_h66 => k0_hw35.2.1 k0_h66 (k0_off658_inb v0 v13 v26 v39 v52 v65 v78 v91 v104 v117 v130 v143 v156 v169 v182 v195 v208 v221 v234 v247 v260 v273 v286 v299 v312 v325 v338 v351 v364 v377 v390 v403 k0_t2 v9156_r0 k0_hw35 k0_h66)
theorem k0_off661_inb : ∀ (v0 : BitVec 32) (v13 : BitVec 32) (v26 : BitVec 32) (v39 : BitVec 32) (v52 : BitVec 32) (v65 : BitVec 32) (v78 : BitVec 32) (v91 : BitVec 32) (v104 : BitVec 32) (v117 : BitVec 32) (v130 : BitVec 32) (v143 : BitVec 32) (v156 : BitVec 32) (v169 : BitVec 32) (v182 : BitVec 32) (v195 : BitVec 32) (v208 : BitVec 32) (v221 : BitVec 32) (v234 : BitVec 32) (v247 : BitVec 32) (v260 : BitVec 32) (v273 : BitVec 32) (v286 : BitVec 32) (v299 : BitVec 32) (v312 : BitVec 32) (v325 : BitVec 32) (v338 : BitVec 32) (v351 : BitVec 32) (v364 : BitVec 32) (v377 : BitVec 32) (v390 : BitVec 32) (v403 : BitVec 32) (k0_t2 : Fin (k0_t2_loop v0 v13 v26 v39 v52 v65 v78 v91 v104 v117 v130 v143 v156 v169 v182 v195 v208 v221 v234 v247 v260 v273 v286 v299 v312 v325 v338 v351 v364 v377 v390 v403).trips) (v9156_r0 : BitVec 32) (k0_hw35 : k0_chk35 v0 v13 v26 v39 v52 v65 v78 v91 v104 v117 v130 v143 v156 v169 v182 v195 v208 v221 v234 v247 v260 v273 v286 v299 v312 v325 v338 v351 v364 v377 v390 v403 k0_t2 v9156_r0), ∀ (k0_h66 : k0_cond66 v0 v13 v26 v39 v52 v65 v78 v91 v104 v117 v130 v143 v156 v169 v182 v195 v208 v221 v234 v247 v260 v273 v286 v299 v312 v325 v338 v351 v364 v377 v390 v403 k0_t2 = 1#1), ∀ a, (k0_off661 v9156_r0) a + S1x56x768.size a ≤ S32x56x768.size a := fun v0 v13 v26 v39 v52 v65 v78 v91 v104 v117 v130 v143 v156 v169 v182 v195 v208 v221 v234 v247 v260 v273 v286 v299 v312 v325 v338 v351 v364 v377 v390 v403 k0_t2 v9156_r0 k0_hw35 k0_h66 => k0_hw35.2.2 k0_h66

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x7168 : Shape := ⟨2, ![64, 7168]⟩
abbrev S32 : Shape := ⟨1, ![32]⟩
abbrev S32x3584x768 : Shape := ⟨3, ![32, 3584, 768]⟩
abbrev S32x56x768 : Shape := ⟨3, ![32, 56, 768]⟩
abbrev S64x56x128 : Shape := ⟨3, ![64, 56, 128]⟩
abbrev S_ : Shape := ⟨0, ![]⟩
abbrev S64x56 : Shape := ⟨2, ![64, 56]⟩
abbrev S254 : Shape := ⟨1, ![254]⟩
abbrev S64x56x1 : Shape := ⟨3, ![64, 56, 1]⟩
abbrev S1x1x254 : Shape := ⟨3, ![1, 1, 254]⟩
abbrev S64x56x254 : Shape := ⟨3, ![64, 56, 254]⟩
abbrev S32x56x64x768 : Shape := ⟨4, ![32, 56, 64, 768]⟩
abbrev S1x32 : Shape := ⟨2, ![1, 32]⟩
abbrev S32x1 : Shape := ⟨2, ![32, 1]⟩
abbrev S32x32 : Shape := ⟨2, ![32, 32]⟩
abbrev S64 : Shape := ⟨1, ![64]⟩
abbrev S1x64 : Shape := ⟨2, ![1, 64]⟩
abbrev S32x64 : Shape := ⟨2, ![32, 64]⟩
abbrev S32x64x1 : Shape := ⟨3, ![32, 64, 1]⟩
abbrev S1x64x7168 : Shape := ⟨3, ![1, 64, 7168]⟩
abbrev S32x64x7168 : Shape := ⟨3, ![32, 64, 7168]⟩
abbrev S32x64x3584 : Shape := ⟨3, ![32, 64, 3584]⟩
abbrev S64x768 : Shape := ⟨2, ![64, 768]⟩

abbrev nBuf : Space → Nat
  | .hbm => 136
  | .vmem => 2
  | .smem => 0
  | _ => 0

abbrev hbmTy0_0 (i : Nat) : BufTy := match i % 128 with
  | 0 => ⟨S64x7168, .bf16⟩
  | 1 => ⟨S32, .i32⟩
  | 2 => ⟨S32x3584x768, .i8⟩
  | 3 => ⟨S32x56x768, .f32⟩
  | 4 => ⟨S64x7168, .f32⟩
  | 5 => ⟨S64x56x128, .f32⟩
  | 6 => ⟨S64x56x128, .f32⟩
  | 7 => ⟨S_, .f32⟩
  | 8 => ⟨S64x56, .f32⟩
  | 9 => ⟨S254, .i32⟩
  | 10 => ⟨S_, .i32⟩
  | 11 => ⟨S254, .i32⟩
  | 12 => ⟨S254, .i32⟩
  | 13 => ⟨S254, .f32⟩
  | 14 => ⟨S_, .f32⟩
  | 15 => ⟨S254, .f32⟩
  | 16 => ⟨S254, .f32⟩
  | 17 => ⟨S254, .f32⟩
  | 18 => ⟨S64x56x1, .f32⟩
  | 19 => ⟨S_, .f32⟩
  | 20 => ⟨S64x56x1, .f32⟩
  | 21 => ⟨S64x56x1, .f32⟩
  | 22 => ⟨S1x1x254, .f32⟩
  | 23 => ⟨S64x56x254, .f32⟩
  | 24 => ⟨S64x56x254, .f32⟩
  | 25 => ⟨S64x56x254, .i1⟩
  | 26 => ⟨S64x56x254, .i32⟩
  | 27 => ⟨S_, .i32⟩
  | 28 => ⟨S64x56, .i32⟩
  | 29 => ⟨S_, .i32⟩
  | 30 => ⟨S64x56, .i32⟩
  | 31 => ⟨S64x56, .i32⟩
  | 32 => ⟨S_, .f32⟩
  | 33 => ⟨S64x56, .f32⟩
  | 34 => ⟨S64x56, .i1⟩
  | 35 => ⟨S_, .i32⟩
  | 36 => ⟨S_, .i32⟩
  | 37 => ⟨S64x56, .i32⟩
  | 38 => ⟨S64x56, .i32⟩
  | 39 => ⟨S64x56, .f32⟩
  | 40 => ⟨S_, .f32⟩
  | 41 => ⟨S64x56, .f32⟩
  | 42 => ⟨S64x56, .f32⟩
  | 43 => ⟨S64x56, .f32⟩
  | 44 => ⟨S64x56, .f32⟩
  | 45 => ⟨S_, .f32⟩
  | 46 => ⟨S64x56, .f32⟩
  | 47 => ⟨S64x56, .f32⟩
  | 48 => ⟨S64x56, .f32⟩
  | 49 => ⟨S64x56x1, .f32⟩
  | 50 => ⟨S64x56x128, .f32⟩
  | 51 => ⟨S64x56x128, .f32⟩
  | 52 => ⟨S_, .f32⟩
  | 53 => ⟨S_, .f32⟩
  | 54 => ⟨S_, .f32⟩
  | 55 => ⟨S64x56x128, .f32⟩
  | 56 => ⟨S64x56x128, .f32⟩
  | 57 => ⟨S_, .f32⟩
  | 58 => ⟨S64x56x128, .f32⟩
  | 59 => ⟨S64x56x128, .f32⟩
  | 60 => ⟨S64x7168, .f32⟩
  | 61 => ⟨S64x7168, .bf16⟩
  | 62 => ⟨S64x56x128, .bf16⟩
  | 63 => ⟨S64x56, .bf16⟩
  | 64 => ⟨S64x56x1, .bf16⟩
  | 65 => ⟨S64x56x128, .bf16⟩
  | 66 => ⟨S64x56x128, .bf16⟩
  | 67 => ⟨S64x7168, .bf16⟩
  | 68 => ⟨S32x3584x768, .i32⟩
  | 69 => ⟨S_, .i32⟩
  | 70 => ⟨S32x3584x768, .i32⟩
  | 71 => ⟨S32x3584x768, .i32⟩
  | 72 => ⟨S_, .i32⟩
  | 73 => ⟨S32x3584x768, .i32⟩
  | 74 => ⟨S32x3584x768, .i32⟩
  | 75 => ⟨S_, .i32⟩
  | 76 => ⟨S32x3584x768, .i32⟩
  | 77 => ⟨S32x3584x768, .i1⟩
  | 78 => ⟨S_, .i32⟩
  | 79 => ⟨S32x3584x768, .i32⟩
  | 80 => ⟨S32x3584x768, .i32⟩
  | 81 => ⟨S32x3584x768, .i32⟩
  | 82 => ⟨S_, .i32⟩
  | 83 => ⟨S32x3584x768, .i32⟩
  | 84 => ⟨S32x3584x768, .i1⟩
  | 85 => ⟨S_, .i32⟩
  | 86 => ⟨S32x3584x768, .i32⟩
  | 87 => ⟨S32x3584x768, .i32⟩
  | 88 => ⟨S32x3584x768, .i32⟩
  | 89 => ⟨S32x56x768, .bf16⟩
  | 90 => ⟨S32x56x64x768, .bf16⟩
  | 91 => ⟨S32x3584x768, .bf16⟩
  | 92 => ⟨S32x3584x768, .bf16⟩
  | 93 => ⟨S32x3584x768, .bf16⟩
  | 94 => ⟨S32x3584x768, .bf16⟩
  | 95 => ⟨S32x3584x768, .bf16⟩
  | 96 => ⟨S32, .i32⟩
  | 97 => ⟨S1x32, .i32⟩
  | 98 => ⟨S32x1, .i32⟩
  | 99 => ⟨S32x32, .i32⟩
  | 100 => ⟨S32x32, .i32⟩
  | 101 => ⟨S32x32, .i1⟩
  | 102 => ⟨S1x32, .i32⟩
  | 103 => ⟨S_, .i32⟩
  | 104 => ⟨S_, .i32⟩
  | 105 => ⟨S32x32, .i32⟩
  | 106 => ⟨S32x32, .i32⟩
  | 107 => ⟨S32x32, .i32⟩
  | 108 => ⟨S_, .i32⟩
  | 109 => ⟨S32, .i32⟩
  | 110 => ⟨S64, .i32⟩
  | 111 => ⟨S1x64, .i32⟩
  | 112 => ⟨S32, .i32⟩
  | 113 => ⟨S32x1, .i32⟩
  | 114 => ⟨S32x64, .i32⟩
  | 115 => ⟨S32x64, .i32⟩
  | 116 => ⟨S32x64, .i1⟩
  | 117 => ⟨S32x1, .i32⟩
  | 118 => ⟨S32x64, .i32⟩
  | 119 => ⟨S32x64, .i32⟩
  | 120 => ⟨S32x64, .i1⟩
  | 121 => ⟨S32x64, .i1⟩
  | 122 => ⟨S32x64x1, .i1⟩
  | 123 => ⟨S1x64x7168, .bf16⟩
  | 124 => ⟨S_, .i32⟩
  | 125 => ⟨S_, .bf16⟩
  | 126 => ⟨S32x64x7168, .i1⟩
  | 127 => ⟨S32x64x7168, .bf16⟩
  | _ => ⟨S64x7168, .bf16⟩

abbrev hbmTy0_1 (i : Nat) : BufTy := match i % 128 with
  | 0 => ⟨S32x64x7168, .bf16⟩
  | 1 => ⟨S32x64x7168, .bf16⟩
  | 2 => ⟨S32x64x3584, .bf16⟩
  | 3 => ⟨S64x768, .f32⟩
  | 4 => ⟨S32x64x3584, .bf16⟩
  | 5 => ⟨S64x768, .f32⟩
  | 6 => ⟨S64x768, .f32⟩
  | 7 => ⟨S64x768, .bf16⟩
  | _ => ⟨S64x7168, .bf16⟩

abbrev hbmTy (i : Nat) : BufTy := match i / 128 with
  | 0 => hbmTy0_0 i
  | 1 => hbmTy0_1 i
  | _ => ⟨S64x7168, .bf16⟩

abbrev bufTy : (tb : Table) → Fin (tcTables nBuf tb) → BufTy
  | .hbm, ⟨i, _⟩ => hbmTy i
  | .local _ .vmem, ⟨0, _⟩ => ⟨S64x7168, .f32⟩
  | .local _ .vmem, ⟨1, _⟩ => ⟨S64x7168, .bf16⟩
  | _, _ => ⟨S64x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_call0_v0 : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_cst_9 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_14 : Ref sig .tc := ⟨.hbm, 82, rfl⟩
abbrev main_v55 : Ref sig .tc := ⟨.hbm, 83, rfl⟩
abbrev main_v56 : Ref sig .tc := ⟨.hbm, 84, rfl⟩
abbrev main_c_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_call5_v0 : Ref sig .tc := ⟨.hbm, 125, rfl⟩
abbrev main_call5_v1 : Ref sig .tc := ⟨.hbm, 126, rfl⟩
abbrev main_call5_v2 : Ref sig .tc := ⟨.hbm, 127, rfl⟩
abbrev main_call5_v3 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Struct.lean ====
module

public import proofs.«01_k».proof.Proof.Gen.KernelIdeal
public import Idealize.ShloMosaic.Lib.Tactic

@[expose] public section

/-! The kernel's straight stretches, written once as short recursions: the 56 quantiser blocks, and one
trip of the expert loop (84 tile pushes and 84 accumulates). The printed statements are these. -/

noncomputable section

namespace Cert.KernelIdeal.Str

open Idealize.ShloMosaic Idealize.SL.Sem
open Cert.KernelIdeal Facts₀ Facts

variable {F : FTy → Type} [FloatOps F] [Facts]

/-- One bit of the search for the exponent: keep `bit` when the number is at least the power of two it names. -/
def qBit (q : FVec F S64x128 .f32) (bit : BitVec 32) (b : IVec S64x128 32) : IVec S64x128 32 :=
  select (cmpf .oge q (bitcastToFloat .f32 (shli (addi b (broadcast S64x128 bit)) (broadcast S64x128 23#32))))
    (addi b (broadcast S64x128 bit)) b

/-- The row maximum over 448, spread along the row. -/
def qMax (x : Vec F S64x128 .bf16) : FVec F S64x128 .f32 :=
  broadcastTo S64x128 (shapeCast S64x1 (mulf (shapeCast S64x1
    (multiReduction .maximumf [1] S64 (extf .f32 (absf x) bitsLt_bf16_f32) 0xFF800000#32 reduces_S64x128_S64 (.inl rfl) rfl)
    shapeCasts_S64_S64x1) (broadcast S64x1 (Scalar.ofBits .f32 0x3B124925#32))) shapeCasts_S64x1_S64x1) broadcasts_S64x1_S64x128

/-- The biased exponent, bit by bit. -/
def qBits (q : FVec F S64x128 .f32) : IVec S64x128 32 :=
  qBit q 1#32 (qBit q 2#32 (qBit q 4#32 (qBit q 8#32 (qBit q 16#32 (qBit q 32#32 (qBit q 64#32 (qBit q 128#32
    (broadcast S64x128 0#32))))))))

/-- The exponent of the scale: none for a row below the smallest normal number. -/
def qExp (b : IVec S64x128 32) : IVec S64x128 32 :=
  select (cmpi .eq b (broadcast S64x128 0#32)) (broadcast S64x128 0#32) (subi b (broadcast S64x128 126#32))

/-- One block of 128 columns, quantised to fp8 under its rows' power-of-two scales and multiplied back. -/
def qBlk (x : Vec F S64x128 .bf16) : FVec F S64x128 .bf16 :=
  mulf (extf .bf16 (truncf .fp8e4m3
    (minimumf (broadcast S64x128 (Scalar.ofBits .f32 0x43E00000#32))
      (maximumf (broadcast S64x128 (Scalar.ofBits .f32 0xC3E00000#32))
        (mulf (extf .f32 x bitsLt_bf16_f32)
          (bitcastToFloat .f32 (shli (subi (broadcast S64x128 127#32) (qExp (qBits (qMax x)))) (broadcast S64x128 23#32))))))
    bitsLt_fp8e4m3_f32) bitsLt_fp8e4m3_bf16)
    (truncf .bf16 (bitcastToFloat .f32 (shli (addi (broadcast S64x128 127#32) (qExp (qBits (qMax x)))) (broadcast S64x128 23#32)))
      bitsLt_bf16_f32)

theorem inbX {k : Nat} (h : k < 56) : ∀ a, (![0, 128 * k] : Fin 2 → Nat) a + S64x128.size a ≤ S64x7168.size a := by
  intro a
  fin_cases a
  · show 0 + 64 ≤ 64; omega
  · show 128 * k + 128 ≤ 7168; omega

/-- The `k`-th block of 128 columns of the activations. -/
abbrev rX (k : Nat) (h : k < 56) : Rect S64x7168 := Rect.unit (s := S64x7168) ![0, 128 * k] S64x128.size (inbX h)

theorem packedX {k : Nat} (h : k < 56) : (rX k h).PackedRows (EltTy.packing .bf16) := by
  refine Or.inr ⟨by decide, rfl, Or.inl ⟨?_, ?_⟩⟩
  · exact ⟨0, rfl⟩
  · exact ⟨32, rfl⟩

section Prog
variable (arg5 : Memref sig .tc .vmem S64x7168 .bf16) (arg6 : Memref sig .tc .vmem S64x7168 .bf16) (harg6 : arg6.IsWhole)

/-- Quantiser block `k`: read the block, quantise it, write it to the copy the products read. -/
def qStep (k : Nat) (h : k < 56) : Prog (TpuEff nD τ sig (Elt F) Λ₀ .tc) PUnit := do
  let x : Vec F S64x128 .bf16 ← Prog.lift (.load arg5 (rX k h).toLoadRect (View.loadsAt_vmem h_S64x128))
  let _ : Vec F S64x128 .bf16 ← Prog.lift (.load arg6 (rX k h).toLoadRect (View.loadsAt_vmem h_S64x128))
  Prog.lift (.store arg6 (rX k h) (shapeCast S64x128 (qBlk x) shapeCasts_S64x128_S64x128) Finset.univ
    (View.stores_vmem h_S64x128 (harg6.storeExact_slice rfl _ (packedX h)) (fun _ => rfl)) (.inl rfl))

/-- The blocks from `k` on. -/
def quant : (n k : Nat) → k + n ≤ 56 → Prog (TpuEff nD τ sig (Elt F) Λ₀ .tc) PUnit
  | 0, _, _ => pure ⟨⟩
  | n + 1, k, h => qStep arg5 arg6 harg6 k (by omega) >>= fun _ => quant n (k + 1) (by omega)

end Prog

/-! ## One trip of the expert loop -/

/-- The slot of the ring trip `i` uses. -/
abbrev slotW (i : BitVec 32) : BitVec 32 := Scalar.remsi i 4#32

/-- What the accesses of trip `i` need. -/
structure TripOk (i : BitVec 32) : Prop where
  at0 : (Scalar.indexCast i).toNat < 33
  at1 : (Scalar.indexCast (Scalar.addi i 1#32)).toNat < 33
  slot : (slotW i).toNat < 4

theorem inb33 {n : Nat} (h : n < 33) : ∀ a, (![n] : Fin 1 → Nat) a + S1.size a ≤ S33.size a := by
  intro a
  fin_cases a
  show n + 1 ≤ 33; omega

theorem inb4 {n : Nat} (h : n < 4) : ∀ a, (![n] : Fin 1 → Nat) a + S1.size a ≤ S4.size a := by
  intro a
  fin_cases a
  show n + 1 ≤ 4; omega

theorem inbSlotW {n : Nat} (h : n < 4) : ∀ a, (![n, 0, 0] : Fin 3 → Nat) a + S1x3584x768.size a ≤ S4x3584x768.size a := by
  intro a
  fin_cases a
  · show n + 1 ≤ 4; omega
  · show 0 + 3584 ≤ 3584; omega
  · show 0 + 768 ≤ 768; omega

theorem inbSlotS {n : Nat} (h : n < 4) : ∀ a, (![n, 0, 0] : Fin 3 → Nat) a + S1x56x768.size a ≤ S4x56x768.size a := by
  intro a
  fin_cases a
  · show n + 1 ≤ 4; omega
  · show 0 + 56 ≤ 56; omega
  · show 0 + 768 ≤ 768; omega

abbrev r33 (n : Nat) (h : n < 33) : Rect S33 := Rect.unit (s := S33) ![n] S1.size (inb33 h)
abbrev r4 (n : Nat) (h : n < 4) : Rect S4 := Rect.unit (s := S4) ![n] S1.size (inb4 h)
abbrev rSlotW (n : Nat) (h : n < 4) : Rect S4x3584x768 := Rect.unit (s := S4x3584x768) ![n, 0, 0] S1x3584x768.size (inbSlotW h)
abbrev rSlotS (n : Nat) (h : n < 4) : Rect S4x56x768 := Rect.unit (s := S4x56x768) ![n, 0, 0] S1x56x768.size (inbSlotS h)

theorem wordsSlotW {n : Nat} (h : n < 4) : (rSlotW n h).WholeWords (EltTy.packing .i8) := by
  exact Or.inr ⟨by decide, rfl, rfl, rfl⟩

theorem inbW {n t : Nat} (h : n < 4) (ht : t < 84) :
    ∀ a, (![n, 128 * (t / 3), 256 * (t % 3)] : Fin 3 → Nat) a + S1x128x256.size a ≤ S4x3584x768.size a := by
  intro a
  fin_cases a
  · show n + 1 ≤ 4; omega
  · show 128 * (t / 3) + 128 ≤ 3584; omega
  · show 256 * (t % 3) + 256 ≤ 768; omega

theorem inbS {n t b : Nat} (h : n < 4) (ht : t < 84) (hb : b < 2) :
    ∀ a, (![n, 2 * (t / 3) + b, 256 * (t % 3)] : Fin 3 → Nat) a + S1x1x256.size a ≤ S4x56x768.size a := by
  intro a
  fin_cases a
  · show n + 1 ≤ 4; omega
  · show 2 * (t / 3) + b + 1 ≤ 56; omega
  · show 256 * (t % 3) + 256 ≤ 768; omega

theorem inbX2 {t : Nat} (ht : t < 84) :
    ∀ a, (![0, 256 * (t / 3)] : Fin 2 → Nat) a + S64x256.size a ≤ S64x7168.size a := by
  intro a
  fin_cases a
  · show 0 + 64 ≤ 64; omega
  · show 256 * (t / 3) + 256 ≤ 7168; omega

/-- Tile `t` of the slot's packed weights. -/
abbrev rW (n t : Nat) (h : n < 4) (ht : t < 84) : Rect S4x3584x768 :=
  Rect.unit (s := S4x3584x768) ![n, 128 * (t / 3), 256 * (t % 3)] S1x128x256.size (inbW h ht)
/-- The scale row of half `b` of tile `t`. -/
abbrev rS (n t b : Nat) (h : n < 4) (ht : t < 84) (hb : b < 2) : Rect S4x56x768 :=
  Rect.unit (s := S4x56x768) ![n, 2 * (t / 3) + b, 256 * (t % 3)] S1x1x256.size (inbS h ht hb)
/-- The quantised columns tile `t` multiplies. -/
abbrev rX2 (t : Nat) (ht : t < 84) : Rect S64x7168 :=
  Rect.unit (s := S64x7168) ![0, 256 * (t / 3)] S64x256.size (inbX2 ht)

/-- The rows of one expert: at or past the first and before the next expert's first. -/
def mine (lo hi : BitVec 32) : IVec S64x256 1 :=
  andi (cmpi .sge (iota .tc S64x256 32 [0] iota_S64x256_d0_w32) (broadcast S64x256 lo))
    (cmpi .slt (iota .tc S64x256 32 [0] iota_S64x256_d0_w32) (broadcast S64x256 hi))

/-- The int4 codes of a tile: each byte twice, the low half then the high half, sign-extended. -/
def codes (b : Vec F S1x128x256 .i8) : FVec F S256x256 .bf16 :=
  sitofp .bf16 (shrsi (shli
    (shapeCast S256x256 (broadcastTo S128x2x256 (shapeCast S128x1x256 (shapeCast S128x1x256
      (extui 32 (shapeCast S128x256 b shapeCasts_S1x128x256_S128x256) natLt_8_32)
      shapeCasts_S128x256_S128x1x256) shapeCasts_S128x1x256_S128x1x256) broadcasts_S128x1x256_S128x2x256) shapeCasts_S128x2x256_S256x256)
    (subi (broadcast S256x256 28#32) (muli (broadcast S256x256 4#32)
      (andi (iota .tc S256x256 32 [0] iota_S256x256_d0_w32) (broadcast S256x256 1#32)))))
    (broadcast S256x256 28#32))

/-- A scale row over the 128 rows it scales. -/
def scl (s : Vec F S1x1x256 .f32) : FVec F S128x256 .bf16 :=
  truncf .bf16 (broadcastTo S128x256 (shapeCast S1x256 (shapeCast S1x256 s shapeCasts_S1x1x256_S1x256) shapeCasts_S1x256_S1x256)
    broadcasts_S1x256_S128x256) bitsLt_bf16_f32

/-- The tile the matrix unit takes: codes times scales. -/
def wTile (b : Vec F S1x128x256 .i8) (s0 s1 : Vec F S1x1x256 .f32) : FVec F S256x256 .bf16 :=
  concatenate S256x256 0
    [⟨S128x256, mulf (extractStridedSlice S128x256 ![0, 0] (codes b) slices_S256x256_o0_0_S128x256) (scl s0)⟩,
     ⟨S128x256, mulf (extractStridedSlice S128x256 ![128, 0] (codes b) slices_S256x256_o128_0_S128x256) (scl s1)⟩]
    concatenates_S128x256_S128x256_S256x256_d0

/-- The activations a tile multiplies: the expert's own rows, the others zero. -/
def xTile (mk : IVec S64x256 1) (x : Vec F S64x256 .bf16) : FVec F S64x256 .bf16 :=
  select mk x (broadcast S64x256 (Scalar.sitofp .bf16 0#32))

theorem fitsA (t : Nat) : Mxu.Fits (16 * (t % 3)) 64 := by
  refine ⟨?_, ?_, ?_⟩ <;> omega

/-- The unit tile `t` goes to, and its staging register. -/
abbrev un (t : Nat) : Fin 2 := ⟨t % 2, Nat.mod_lt _ (by decide)⟩
abbrev rg (t : Nat) : Fin 2 := ⟨t / 2 % 2, Nat.mod_lt _ (by decide)⟩

section Trip
variable (arg2 : Memref sig .tc .hbm S32x3584x768 .i8) (harg2 : arg2.IsWhole) (arg3 : Memref sig .tc .hbm S32x56x768 .f32) (harg3 : arg3.IsWhole)
  (arg6 : Memref sig .tc .vmem S64x7168 .bf16) (harg6 : arg6.IsWhole) (arg7 : Memref sig .tc .vmem S4x3584x768 .i8) (harg7 : arg7.IsWhole)
  (arg8 : Memref sig .tc .vmem S4x56x768 .f32) (harg8 : arg8.IsWhole) (arg9 : Memref sig .tc .smem S33 .i32) (arg10 : Memref sig .tc .smem S33 .i32)
  (arg12 : DmaSems sig S4) (arg13 : DmaSems sig S4)

/-- Stage tile `t`. -/
def pushT (n : Nat) (hn : n < 4) (t : Nat) (ht : t < 84) (m : Mxu F) : Prog (TpuEff nD τ sig (Elt F) Λ₀ .tc) (Mxu F) := do
  let b : Vec F S1x128x256 .i8 ← Prog.lift (.load arg7 (rW n t hn ht).toLoadRect (View.loadsAt_vmem h_S1x128x256))
  let s0 : Vec F S1x1x256 .f32 ← Prog.lift (.load arg8 (rS n t 0 hn ht (by decide)).toLoadRect (View.loadsAt_vmem h_S1x1x256))
  let s1 : Vec F S1x1x256 .f32 ← Prog.lift (.load arg8 (rS n t 1 hn ht (by decide)).toLoadRect (View.loadsAt_vmem h_S1x1x256))
  m.pushRhs (un t) (rg t) false (wTile b s0 s1)

/-- Multiply by tile `t`. -/
def accT (mk : IVec S64x256 1) (t : Nat) (ht : t < 84) (m : Mxu F) : Prog (TpuEff nD τ sig (Elt F) Λ₀ .tc) (Mxu F) := do
  let x : Vec F S64x256 .bf16 ← Prog.lift (.load arg6 (rX2 t ht).toLoadRect (View.loadsAt_vmem h_S64x256))
  pure (m.accLhs (un t) (rg t) (16 * (t % 3)) (xTile mk x) (fitsA t))

/-- From tile `t` on: stage two ahead, then multiply. -/
def tiles (n : Nat) (hn : n < 4) (mk : IVec S64x256 1) : (r t : Nat) → t + r ≤ 82 → Mxu F → Prog (TpuEff nD τ sig (Elt F) Λ₀ .tc) (Mxu F)
  | 0, _, _, m => pure m
  | r + 1, t, h, m => pushT arg7 arg8 n hn (t + 2) (by omega) m >>= fun m => accT arg6 mk t (by omega) m >>=
      fun m => tiles n hn mk r (t + 1) (by omega) m

/-- A trip up to its refill of the slot. -/
def tripA (i : BitVec 32) (h : TripOk i) (m : Mxu F) : Prog (TpuEff nD τ sig (Elt F) Λ₀ .tc) (Mxu F) := do
  let id : Elt F .i32 ← smemLoad arg9 (r33 (Scalar.indexCast i).toNat h.at0) numel1_S1 rfl
  have hw : k0_chk32 id := (← Prog.lift (TpuEff.assume (k0_chk32 id) (k0_chk32.dec id))).down
  Prog.lift (.waitDma2 ((arg12.slice (r4 (slotW i).toNat h.slot)).squeeze S_ squeezes_S1_S_).sem
    ((arg2.slice (Rect.unit (s := S32x3584x768) (k0_off129 id) S1x3584x768.size (k0_off129_inb id hw)) (fun _ => rfl)).squeeze S3584x768 squeezes_S1x3584x768_S3584x768)
    ((arg7.slice (rSlotW (slotW i).toNat h.slot) (fun _ => rfl)).squeeze S3584x768 squeezes_S1x3584x768_S3584x768)
    ((harg2.wordExact_slice rfl _ (k0_off129_wordsi8 id hw)).reshape _ _)
    ((harg7.wordExact_slice rfl _ (wordsSlotW h.slot)).reshape _ _))
  Prog.lift (.waitDma2 ((arg13.slice (r4 (slotW i).toNat h.slot)).squeeze S_ squeezes_S1_S_).sem
    ((arg3.slice (Rect.unit (s := S32x56x768) (k0_off132 id) S1x56x768.size (k0_off132_inb id hw)) (fun _ => rfl)).squeeze S56x768 squeezes_S1x56x768_S56x768)
    ((arg8.slice (rSlotS (slotW i).toNat h.slot) (fun _ => rfl)).squeeze S56x768 squeezes_S1x56x768_S56x768)
    ((View.wordExact_bits rfl).reshape _ _) ((View.wordExact_bits rfl).reshape _ _))
  let lo : Elt F .i32 ← smemLoad arg10 (r33 (Scalar.indexCast i).toNat h.at0) numel1_S1 rfl
  let hi : Elt F .i32 ← smemLoad arg10 (r33 (Scalar.indexCast (Scalar.addi i 1#32)).toNat h.at1) numel1_S1 rfl
  let m ← pushT arg7 arg8 (slotW i).toNat h.slot 0 (by decide) m
  let m ← pushT arg7 arg8 (slotW i).toNat h.slot 1 (by decide) m
  let m ← tiles arg6 arg7 arg8 (slotW i).toNat h.slot (mine lo hi) 82 0 (by decide) m
  let m ← accT arg6 (mine lo hi) 82 (by decide) m
  accT arg6 (mine lo hi) 83 (by decide) m

end Trip

end Cert.KernelIdeal.Str
-- ==== Proof.Whole.lean ====
module

public import proofs.«01_k».proof.Proof.Struct

@[expose] public section

/-! The whole kernel body as one structured program: the scan of the group sizes (32 steps), the quantiser, the
expert loop and the write-back; and the printed body is it. -/

noncomputable section

namespace Cert.KernelIdeal.Str

open Idealize.ShloMosaic Idealize.SL.Sem
open Cert.KernelIdeal Facts₀ Facts

variable {F : FTy → Type} [FloatOps F] [Facts]

/-- The nonempty experts counted before expert `e`, as the kernel's word. -/
def cntW (v : Nat → BitVec 32) : Nat → BitVec 32
  | 0 => 0#32
  | e + 1 => Scalar.addi (cntW v e) (Scalar.extui (Scalar.cmpi .sgt (v e) 0#32))

/-- The rows before expert `e`, as the kernel's word. -/
def rowW (v : Nat → BitVec 32) : Nat → BitVec 32
  | 0 => 0#32
  | e + 1 => Scalar.addi (rowW v e) (v e)

/-- A list's `j`-th word. -/
def lst (v : List (BitVec 32)) : Nat → BitVec 32 := fun j => v.getD j 0#32

/-- The expert is not empty. -/
abbrev cA (w : BitVec 32) : BitVec 1 := Scalar.cmpi .ne (Scalar.extui (Scalar.cmpi .sgt w 0#32) : BitVec 32) 0#32
/-- The expert is not empty and a slot of the ring is free. -/
abbrev cB (c w : BitVec 32) : BitVec 1 :=
  Scalar.cmpi .ne (Scalar.extui (Scalar.andi (Scalar.cmpi .sgt w 0#32) (Scalar.cmpi .slt c 4#32)) : BitVec 32) 0#32
/-- Another expert follows four trips on. -/
abbrev cC (i c : BitVec 32) : BitVec 1 :=
  Scalar.cmpi .ne (Scalar.extui (Scalar.cmpi .slt (Scalar.addi i 4#32) c) : BitVec 32) 0#32

/-- What the body assumes at an expert. -/
def gchk (c w : BitVec 32) : Prop :=
  (∀ (h : cA w = 1#1), ∀ a, (![(Scalar.indexCast c).toNat] : Fin 1 → Nat) a + S1.size a ≤ S33.size a) ∧
  (∀ (h : cB c w = 1#1), ∀ a, (![c.toNat] : Fin 1 → Nat) a + S1.size a ≤ S4.size a) ∧
  (∀ (h : cB c w = 1#1), ∀ a, (![c.toNat, 0, 0] : Fin 3 → Nat) a + S1x3584x768.size a ≤ S4x3584x768.size a) ∧
  (∀ (h : cB c w = 1#1), ∀ (hinb : ∀ a, (![c.toNat, 0, 0] : Fin 3 → Nat) a + S1x3584x768.size a ≤ S4x3584x768.size a),
    (Rect.unit (s := S4x3584x768) ![c.toNat, 0, 0] S1x3584x768.size hinb).WholeWords (EltTy.packing .i8)) ∧
  (∀ (h : cB c w = 1#1), ∀ a, (![c.toNat, 0, 0] : Fin 3 → Nat) a + S1x56x768.size a ≤ S4x56x768.size a)

instance gchk.dec (c w : BitVec 32) : Decidable (gchk c w) := decidable_of_iff' _ (Iff.of_eq (gchk.eq_1 c w))

/-- What the body assumes of an expert's number read back, where it refills a slot. -/
def gchkR (i c id : BitVec 32) : Prop :=
  (∀ (h : cC i c = 1#1), ∀ a, (![id.toNat, 0, 0] : Fin 3 → Nat) a + S1x3584x768.size a ≤ S32x3584x768.size a) ∧
  (∀ (h : cC i c = 1#1), ∀ (hinb : ∀ a, (![id.toNat, 0, 0] : Fin 3 → Nat) a + S1x3584x768.size a ≤ S32x3584x768.size a),
    (Rect.unit (s := S32x3584x768) ![id.toNat, 0, 0] S1x3584x768.size hinb).WholeWords (EltTy.packing .i8)) ∧
  (∀ (h : cC i c = 1#1), ∀ a, (![id.toNat, 0, 0] : Fin 3 → Nat) a + S1x56x768.size a ≤ S32x56x768.size a)

instance gchkR.dec (i c id : BitVec 32) : Decidable (gchkR i c id) := decidable_of_iff' _ (Iff.of_eq (gchkR.eq_1 i c id))

theorem inb32 {e : Nat} (h : e < 32) : ∀ a, (![e] : Fin 1 → Nat) a + S1.size a ≤ S32.size a := by
  intro a
  fin_cases a
  show e + 1 ≤ 32; omega

theorem inb32W {e : Nat} (h : e < 32) : ∀ a, (![e, 0, 0] : Fin 3 → Nat) a + S1x3584x768.size a ≤ S32x3584x768.size a := by
  intro a
  fin_cases a
  · show e + 1 ≤ 32; omega
  · show 0 + 3584 ≤ 3584; omega
  · show 0 + 768 ≤ 768; omega

theorem inb32S {e : Nat} (h : e < 32) : ∀ a, (![e, 0, 0] : Fin 3 → Nat) a + S1x56x768.size a ≤ S32x56x768.size a := by
  intro a
  fin_cases a
  · show e + 1 ≤ 32; omega
  · show 0 + 56 ≤ 56; omega
  · show 0 + 768 ≤ 768; omega

theorem of_inb33 {n : Nat} (h : ∀ a, (![n] : Fin 1 → Nat) a + S1.size a ≤ S33.size a) : n < 33 := h 0
theorem of_inb4 {n : Nat} (h : ∀ a, (![n] : Fin 1 → Nat) a + S1.size a ≤ S4.size a) : n < 4 := h 0

theorem inb32W' {n : Nat} (h : ∀ a, (![n, 0, 0] : Fin 3 → Nat) a + S1x3584x768.size a ≤ S32x3584x768.size a) : n < 32 := h 0

abbrev r32 (e : Nat) (h : e < 32) : Rect S32 := Rect.unit (s := S32) ![e] S1.size (inb32 h)
abbrev rExpW (e : Nat) (h : e < 32) : Rect S32x3584x768 := Rect.unit (s := S32x3584x768) ![e, 0, 0] S1x3584x768.size (inb32W h)
abbrev rExpS (e : Nat) (h : e < 32) : Rect S32x56x768 := Rect.unit (s := S32x56x768) ![e, 0, 0] S1x56x768.size (inb32S h)

theorem wordsExpW {n : Nat} (h : n < 32) : (rExpW n h).WholeWords (EltTy.packing .i8) := Or.inr ⟨by decide, rfl, rfl, rfl⟩

section Prog
variable (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)

/-- Start the two transfers of expert `e`'s weights and scales into slot `n`. -/
def issue (n : Nat) (hn : n < 4) (e : Nat) (he : e < 32) : Prog (TpuEff nD τ sig (Elt F) Λ₀ .tc) PUnit := do
  Prog.lift (.enqueueDma
    ((arg2.slice (rExpW e he) (fun _ => rfl)).squeeze S3584x768 squeezes_S1x3584x768_S3584x768)
    (.here ((arg7.slice (rSlotW n hn) (fun _ => rfl)).squeeze S3584x768 squeezes_S1x3584x768_S3584x768))
    (.dma ((arg12.slice (r4 n hn)).squeeze S_ squeezes_S1_S_).sem)
    ((harg2.wordExact_slice rfl _ (wordsExpW he)).reshape _ _) ((harg7.wordExact_slice rfl _ (wordsSlotW hn)).reshape _ _)
    ⟨Or.inl rfl, trivial⟩)
  Prog.lift (.enqueueDma
    ((arg3.slice (rExpS e he) (fun _ => rfl)).squeeze S56x768 squeezes_S1x56x768_S56x768)
    (.here ((arg8.slice (rSlotS n hn) (fun _ => rfl)).squeeze S56x768 squeezes_S1x56x768_S56x768))
    (.dma ((arg13.slice (r4 n hn)).squeeze S_ squeezes_S1_S_).sem)
    ((View.wordExact_bits rfl).reshape _ _) ((View.wordExact_bits rfl).reshape _ _) ⟨Or.inl rfl, trivial⟩)
  pure ⟨⟩

/-- Write expert `e` and its first row `r` at place `n` of the two lists. -/
def note (n : Nat) (hn : n < 33) (e r : BitVec 32) : Prog (TpuEff nD τ sig (Elt F) Λ₀ .tc) PUnit := do
  let _ : Elt F .i32 ← smemLoad arg9 (r33 n hn) numel1_S1 rfl
  Prog.lift (.store arg9 (r33 n hn) (fun _ => e) Finset.univ (View.stores_smem_one rfl numel1_S1) (.inl rfl))
  let _ : Elt F .i32 ← smemLoad arg10 (r33 n hn) numel1_S1 rfl
  Prog.lift (.store arg10 (r33 n hn) (fun _ => r) Finset.univ (View.stores_smem_one rfl numel1_S1) (.inl rfl))
  pure ⟨⟩

/-- Read the size of expert `e` and assume what the body needs of it. -/
def ld (e : Nat) (he : e < 32) (c : BitVec 32) {α : Type} (K : (w : Elt F .i32) → gchk c w → Prog (TpuEff nD τ sig (Elt F) Λ₀ .tc) α) :
    Prog (TpuEff nD τ sig (Elt F) Λ₀ .tc) α :=
  smemLoad arg0 (r32 e he) numel1_S1 rfl >>= fun w : Elt F .i32 =>
    Prog.lift (TpuEff.assume (gchk c w) (gchk.dec c w)) >>= fun h => K w h.down

/-- List expert `e` when it is not empty. -/
def ifA (c r w : BitVec 32) (hw : gchk c w) (e : Nat) {α : Type} (K : Prog (TpuEff nD τ sig (Elt F) Λ₀ .tc) α) :
    Prog (TpuEff nD τ sig (Elt F) Λ₀ .tc) α :=
  dite (cA w = 1#1) (fun h => note arg9 arg10 (Scalar.indexCast c).toNat (of_inb33 (hw.1 h)) (BitVec.ofNat 32 e) r >>= fun _ => K) (fun _ => K)

/-- Start the transfers of expert `e` when it is not empty and a slot is free. -/
def ifB (c w : BitVec 32) (hw : gchk c w) (e : Nat) (he : e < 32) {α : Type} (K : Prog (TpuEff nD τ sig (Elt F) Λ₀ .tc) α) :
    Prog (TpuEff nD τ sig (Elt F) Λ₀ .tc) α :=
  dite (cB c w = 1#1) (fun h => issue arg2 harg2 arg3 arg7 harg7 arg8 arg12 arg13 c.toNat (of_inb4 (hw.2.1 h)) e he >>= fun _ => K) (fun _ => K)

/-- Expert 0, whose place is a constant. -/
def ifA0 (w : BitVec 32) {α : Type} (K : Prog (TpuEff nD τ sig (Elt F) Λ₀ .tc) α) : Prog (TpuEff nD τ sig (Elt F) Λ₀ .tc) α :=
  ite (cA w = 1#1) (note arg9 arg10 0 (by decide) 0#32 0#32 >>= fun _ => K) K
def ifB0 (w : BitVec 32) {α : Type} (K : Prog (TpuEff nD τ sig (Elt F) Λ₀ .tc) α) : Prog (TpuEff nD τ sig (Elt F) Λ₀ .tc) α :=
  ite (cB 0#32 w = 1#1) (issue arg2 harg2 arg3 arg7 harg7 arg8 arg12 arg13 0 (by decide) 0 (by decide) >>= fun _ => K) K

/-- Experts `e`, …, 30; `v` the sizes read so far. -/
def scan {α : Type} (K : List (BitVec 32) → Prog (TpuEff nD τ sig (Elt F) Λ₀ .tc) α) :
    (n e : Nat) → e + n = 31 → List (BitVec 32) → Prog (TpuEff nD τ sig (Elt F) Λ₀ .tc) α
  | 0, _, _, v => K v
  | n + 1, e, h, v =>
    ld arg0 e (by omega) (cntW (lst v) e) fun w hw =>
      ifA arg9 arg10 (cntW (lst v) e) (rowW (lst v) e) w hw e
        (ifB arg2 harg2 arg3 arg7 harg7 arg8 arg12 arg13 (cntW (lst v) e) w hw e (by omega) (scan K n (e + 1) (by omega) (v ++ [w])))

/-- A trip of the expert loop over experts counted `c`. -/
def trip (c i : BitVec 32) (h : TripOk i) (h4 : cC i c = 1#1 → (Scalar.indexCast (Scalar.addi i 4#32)).toNat < 33) (m : Mxu F) :
    Prog (TpuEff nD τ sig (Elt F) Λ₀ .tc) (Mxu F) :=
  tripA arg2 harg2 arg3 arg6 arg7 harg7 arg8 arg9 arg10 arg12 arg13 i h m >>= fun m =>
    dite (cC i c = 1#1) (fun hc => do
        let id : Elt F .i32 ← smemLoad arg9 (r33 (Scalar.indexCast (Scalar.addi i 4#32)).toNat (h4 hc)) numel1_S1 rfl
        have hw : gchkR i c id := (← Prog.lift (TpuEff.assume (gchkR i c id) (gchkR.dec i c id))).down
        issue arg2 harg2 arg3 arg7 harg7 arg8 arg12 arg13 (slotW i).toNat h.slot id.toNat (inb32W' (hw.1 hc))
        pure m)
      (fun _ => pure m)

/-- The loop's bounds. -/
abbrev lp (c : BitVec 32) : Scf.Loop 32 := ⟨0#32, Scalar.addi 0#32 (Scalar.muli (Scalar.divsi (Scalar.subi c 0#32) 1#32) 1#32), 1#32⟩
/-- The bounds of the loop over what the first leaves, which is nothing. -/
abbrev lp2 (c : BitVec 32) : Scf.Loop 32 := ⟨(lp c).ub, Scalar.addi 0#32 (Scalar.subi c 0#32), 1#32⟩

/-- What the loops need. -/
structure LoopOk (c : BitVec 32) : Prop where
  ok1 : (lp c).OK
  ok2 : (lp2 c).OK
  t1 : ∀ k : Fin (lp c).trips, TripOk (Scf.iv 0#32 1#32 k)
  n1 : ∀ k : Fin (lp c).trips, cC (Scf.iv 0#32 1#32 k) c = 1#1 → (Scalar.indexCast (Scalar.addi (Scf.iv 0#32 1#32 k) 4#32)).toNat < 33
  t2 : ∀ k : Fin (lp2 c).trips, TripOk (Scf.iv (lp2 c).lb 1#32 k)
  n2 : ∀ k : Fin (lp2 c).trips, cC (Scf.iv (lp2 c).lb 1#32 k) c = 1#1 → (Scalar.indexCast (Scalar.addi (Scf.iv (lp2 c).lb 1#32 k) 4#32)).toNat < 33

theorem inbO {nt : Nat} (h : nt < 3) : ∀ a, (![0, 256 * nt] : Fin 2 → Nat) a + S64x256.size a ≤ S64x768.size a := by
  intro a
  fin_cases a
  · show 0 + 64 ≤ 64; omega
  · show 256 * nt + 256 ≤ 768; omega

/-- The `nt`-th 256 columns of the result. -/
abbrev rO (nt : Nat) (h : nt < 3) : Rect S64x768 := Rect.unit (s := S64x768) ![0, 256 * nt] S64x256.size (inbO h)

theorem packedO {nt : Nat} (h : nt < 3) : (rO nt h).PackedRows (EltTy.packing .bf16) :=
  Or.inr ⟨by decide, rfl, Or.inl ⟨⟨0, rfl⟩, ⟨32, rfl⟩⟩⟩

theorem fitsB {nt : Nat} (h : nt < 3) : Mxu.Fits (16 * nt) 64 := by
  refine ⟨?_, ?_, ?_⟩ <;> omega

/-- What is written for the `nt`-th 256 columns: the two units' sums, added and rounded. -/
def outT (m : Mxu F) (nt : Nat) (h : nt < 3) : FVec F S64x256 .bf16 :=
  truncf .bf16 (addf (m.read 0 (16 * nt) (fitsB h) : FVec F S64x256 .f32) ((m.pop 0 (16 * nt) 64 (fitsB h)).read 1 (16 * nt) (fitsB h))) bitsLt_bf16_f32

/-- The two units with the `nt`-th accumulators popped. -/
def pop2 (m : Mxu F) (nt : Nat) (h : nt < 3) : Mxu F := (m.pop 0 (16 * nt) 64 (fitsB h)).pop 1 (16 * nt) 64 (fitsB h)

/-- Write the `nt`-th 256 columns. -/
def outS (m : Mxu F) (nt : Nat) (h : nt < 3) : Prog (TpuEff nD τ sig (Elt F) Λ₀ .tc) PUnit := do
  let _ : Vec F S64x256 .bf16 ← Prog.lift (.load arg4 (rO nt h).toLoadRect (View.loadsAt_vmem h_S64x256))
  Prog.lift (.store arg4 (rO nt h) (outT m nt h) Finset.univ
    (View.stores_vmem h_S64x256 (harg4.storeExact_slice rfl _ (packedO h)) (fun _ => rfl)) (.inl rfl))

/-- The two units after the first pops. -/
def mxu0 : Mxu F :=
  ((((((Mxu.init : Mxu F).pop 0 0 64 fits_0_64).pop 0 16 64 fits_16_64).pop 0 32 64 fits_32_64).pop 1 0 64 fits_0_64).pop 1 16 64
    fits_16_64).pop 1 32 64 fits_32_64

/-- From the end of the scan on, over experts counted `c` and rows `r`. -/
def loops (c : BitVec 32) (hl : LoopOk c) : Prog (TpuEff nD τ sig (Elt F) Λ₀ .tc) (Σ' (_ : Mxu F), FVec F S64x256 .bf16) := do
  let m ← Scf.Loop.for (lp c) hl.ok1 (mxu0 : Mxu F) fun k m => trip arg2 harg2 arg3 arg6 arg7 harg7 arg8 arg9 arg10 arg12 arg13 c (Scf.iv 0#32 1#32 k) (hl.t1 k) (hl.n1 k) m
  let m ← Scf.Loop.for (lp2 c) hl.ok2 m fun k m => trip arg2 harg2 arg3 arg6 arg7 harg7 arg8 arg9 arg10 arg12 arg13 c (Scf.iv (lp2 c).lb 1#32 k) (hl.t2 k) (hl.n2 k) m
  outS arg4 harg4 m 0 (by decide)
  outS arg4 harg4 (pop2 m 0 (by decide)) 1 (by decide)
  let _ : Vec F S64x256 .bf16 ← Prog.lift (.load arg4 (rO 2 (by decide)).toLoadRect (View.loadsAt_vmem h_S64x256))
  pure ⟨pop2 (pop2 (pop2 m 0 (by decide)) 1 (by decide)) 2 (by decide), outT (pop2 (pop2 m 0 (by decide)) 1 (by decide)) 2 (by decide)⟩

/-- All that follows the scan. -/
def rest (c r : BitVec 32) (hc : (Scalar.indexCast c).toNat < 33) (hl : LoopOk c) : Prog (TpuEff nD τ sig (Elt F) Λ₀ .tc) PUnit := do
  let _ : Elt F .i32 ← smemLoad arg10 (r33 (Scalar.indexCast c).toNat hc) numel1_S1 rfl
  Prog.lift (.store arg10 (r33 (Scalar.indexCast c).toNat hc) (fun _ => r) Finset.univ (View.stores_smem_one rfl numel1_S1) (.inl rfl))
  Prog.lift (.waitDma2 arg11.sem arg1 arg5 harg1.wordExact harg5.wordExact)
  quant arg5 arg6 harg6 56 0 (by decide)
  let t ← loops arg2 harg2 arg3 arg4 harg4 arg6 arg7 harg7 arg8 arg9 arg10 arg12 arg13 c hl
  Prog.lift (.store arg4 (rO 2 (by decide)) t.2 Finset.univ
    (View.stores_vmem h_S64x256 (harg4.storeExact_slice rfl _ (packedO (by decide))) (fun _ => rfl)) (.inl rfl))
  t.1.exit
  pure ⟨⟩

end Prog

section Chk
variable (v : Nat → BitVec 32)

/-- What the body assumes at the last expert: everything the rest of it needs. -/
abbrev chkL : Prop := k0_chk31 (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31)

theorem chkL_gchk (h : chkL v) : gchk (cntW v 31) (v 31) :=
  ⟨cast (by sl_kernel_rfl) (k0_off121_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h), cast (by sl_kernel_rfl) (k0_off122_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h),
   cast (by sl_kernel_rfl) (k0_off123_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h), fun hc _ => wordsSlotW (of_inb4 ((cast (by sl_kernel_rfl) (k0_off122_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h) :
     (cB (cntW v 31) (v 31) = 1#1) → ∀ a, (![(cntW v 31).toNat] : Fin 1 → Nat) a + S1.size a ≤ S4.size a) hc)),
   cast (by sl_kernel_rfl) (k0_off124_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h)⟩

theorem chkL_cnt (h : chkL v) : (Scalar.indexCast (cntW v 32)).toNat < 33 :=
  of_inb33 (cast (by sl_kernel_rfl) (k0_off125_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h))

theorem chkL_loop (h : chkL v) : LoopOk (cntW v 32) where
  ok1 := cast (by sl_kernel_rfl) (k0_t1_ok (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h)
  ok2 := cast (by sl_kernel_rfl) (k0_t2_ok (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h)
  t1 k := ⟨of_inb33 (cast (by sl_kernel_rfl) (k0_off126_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k)), of_inb33 (cast (by sl_kernel_rfl) (k0_off134_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k)),
    of_inb4 (cast (by sl_kernel_rfl) (k0_off127_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k))⟩
  n1 k hc := of_inb33 (cast (by sl_kernel_rfl) (k0_off387_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k hc))
  t2 k := ⟨of_inb33 (cast (by sl_kernel_rfl) (k0_off394_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k)), of_inb33 (cast (by sl_kernel_rfl) (k0_off402_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k)),
    of_inb4 (cast (by sl_kernel_rfl) (k0_off395_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k))⟩
  n2 k hc := of_inb33 (cast (by sl_kernel_rfl) (k0_off655_inb (v 0) (v 1) (v 2) (v 3) (v 4) (v 5) (v 6) (v 7) (v 8) (v 9) (v 10) (v 11) (v 12) (v 13) (v 14) (v 15) (v 16) (v 17) (v 18) (v 19) (v 20) (v 21) (v 22) (v 23) (v 24) (v 25) (v 26) (v 27) (v 28) (v 29) (v 30) (v 31) h k hc))

end Chk

section Prog
variable (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)

/-- The last expert: its size, and everything the rest of the body needs. -/
def ldL {α : Type} (v : List (BitVec 32)) (K : (w : Elt F .i32) → chkL (lst (v ++ [w])) → Prog (TpuEff nD τ sig (Elt F) Λ₀ .tc) α) :
    Prog (TpuEff nD τ sig (Elt F) Λ₀ .tc) α :=
  smemLoad arg0 (r32 31 (by decide)) numel1_S1 rfl >>= fun w : Elt F .i32 =>
    Prog.lift (TpuEff.assume (chkL (lst (v ++ [w]))) (k0_chk31.dec (lst (v ++ [w]) 0) (lst (v ++ [w]) 1) (lst (v ++ [w]) 2) (lst (v ++ [w]) 3) (lst (v ++ [w]) 4) (lst (v ++ [w]) 5) (lst (v ++ [w]) 6) (lst (v ++ [w]) 7) (lst (v ++ [w]) 8) (lst (v ++ [w]) 9) (lst (v ++ [w]) 10) (lst (v ++ [w]) 11) (lst (v ++ [w]) 12) (lst (v ++ [w]) 13) (lst (v ++ [w]) 14) (lst (v ++ [w]) 15) (lst (v ++ [w]) 16) (lst (v ++ [w]) 17) (lst (v ++ [w]) 18) (lst (v ++ [w]) 19) (lst (v ++ [w]) 20) (lst (v ++ [w]) 21) (lst (v ++ [w]) 22) (lst (v ++ [w]) 23) (lst (v ++ [w]) 24) (lst (v ++ [w]) 25) (lst (v ++ [w]) 26) (lst (v ++ [w]) 27) (lst (v ++ [w]) 28) (lst (v ++ [w]) 29) (lst (v ++ [w]) 30) (lst (v ++ [w]) 31))) >>= fun h => K w h.down

/-- The last expert, and the rest of the body. -/
def last (v : List (BitVec 32)) : Prog (TpuEff nD τ sig (Elt F) Λ₀ .tc) PUnit :=
  ldL arg0 v fun w hw =>
    ifA arg9 arg10 (cntW (lst (v ++ [w])) 31) (rowW (lst (v ++ [w])) 31) (lst (v ++ [w]) 31) (chkL_gchk _ hw) 31
      (ifB arg2 harg2 arg3 arg7 harg7 arg8 arg12 arg13 (cntW (lst (v ++ [w])) 31) (lst (v ++ [w]) 31) (chkL_gchk _ hw) 31 (by decide)
        (rest arg1 harg1 arg2 harg2 arg3 arg4 harg4 arg5 harg5 arg6 harg6 arg7 harg7 arg8 arg9 arg10 arg11 arg12 arg13 (cntW (lst (v ++ [w])) 32) (rowW (lst (v ++ [w])) 32) (chkL_cnt _ hw) (chkL_loop _ hw)))

/-- The kernel's body. -/
def body : Prog (TpuEff nD τ sig (Elt F) Λ₀ .tc) PUnit := do
  Prog.lift (.enqueueDma arg1 (.here arg5) (.dma arg11.sem) harg1.wordExact harg5.wordExact ⟨Or.inl rfl, trivial⟩)
  let w : Elt F .i32 ← smemLoad arg0 (r32 0 (by decide)) numel1_S1 rfl
  ifA0 arg9 arg10 w (ifB0 arg2 harg2 arg3 arg7 harg7 arg8 arg12 arg13 w (scan arg0 arg2 harg2 arg3 arg7 harg7 arg8 arg9 arg10 arg12 arg13 (last arg0 arg1 harg1 arg2 harg2 arg3 arg4 harg4 arg5 harg5 arg6 harg6 arg7 harg7 arg8 arg9 arg10 arg11 arg12 arg13) 30 1 (by decide) [w]))

end Prog

end Cert.KernelIdeal.Str
-- ==== Proof.Step.lean ====
module

public import proofs.«01_k».proof.Proof.Whole
public import proofs.«01_k».proof.Proof.Gen.KernelIdeal.Frame
public import Idealize.ShloMosaic.Lib.Pipeline.Routed
public import Idealize.ShloMosaic.Lib.Transfers
public import Idealize.ShloMosaic.Lib.Memref
public import Idealize.ShloMosaic.Lib.ValueLayout

@[expose] public section

/-! Single steps of the kernel, over buffers owned by what they read: loads, stores, transfers and waits. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC)
open Idealize.ShloMosaic.Transfers

variable {F : FTy → Type} [FloatOps F] [Facts]

/-- The resources of the kernel's logic. -/
abbrev Res (F : FTy → Type) : Type := MT nD τ sig Unit (Elt F) ℕ (UC sig nD τ) ℕ

/-- The weakest precondition of a piece of the body, on core `c`. -/
abbrev Wp (c : Dev nD) {α : Type} (p : Prog (TpuEff nD τ sig (Elt F) Λ₀ .tc) α) (Q : α → sProp (Res F)) : sProp (Res F) :=
  wp frame (wpE defs₀ Variants.none (c.tc : Thread nD τ) none) Set.univ p Q

/-- Full ownership of a memref's elements, which read `X`. -/
abbrev Own (c : Dev nD) {sp : Space} {s : Shape} {e : EltTy} (m : Memref sig .tc sp s e) (X : s.Idx → Elt F e) : sProp (Res F) :=
  owns (c.tc : Thread nD τ) m fullShare X

/-- The contents after `w` is put at the rectangle `r`. -/
def putR {s : Shape} {α : Type} (r : Rect s) (w : r.shape.Idx → α) (X : s.Idx → α) : s.Idx → α := fun y =>
  if h : ∃ x, r.emb x = y then w h.choose else X y

theorem putR_emb {s : Shape} {α : Type} (r : Rect s) (w : r.shape.Idx → α) (X : s.Idx → α) (x : r.shape.Idx) : putR r w X (r.emb x) = w x := by
  have h : ∃ x', r.emb x' = r.emb x := ⟨x, rfl⟩
  unfold putR
  rw [dif_pos h]
  exact congrArg w (r.emb.injective h.choose_spec)

theorem putR_of_not {s : Shape} {α : Type} (r : Rect s) (w : r.shape.Idx → α) (X : s.Idx → α) (y : s.Idx) (h : ∀ x, r.emb x ≠ y) : putR r w X y = X y := by
  unfold putR
  rw [dif_neg (fun ⟨x, hx⟩ => h x hx)]

section
variable (c : Dev nD) {α : Type} {Q : α → sProp (Res F)}

theorem wp_bind' {β : Type} (p : Prog (TpuEff nD τ sig (Elt F) Λ₀ .tc) β) (k : β → Prog (TpuEff nD τ sig (Elt F) Λ₀ .tc) α) :
    Wp c (p >>= k) Q = Wp c p fun b => Wp c (k b) Q := wp_bind ..

theorem step_load {cs : CoreSpace} {s : Shape} {e : EltTy} {m : Memref sig .tc cs s e} {r : Rect s} {hl : m.view.LoadsAt r.toLoadRect}
    {X : s.Idx → Elt F e} {k : (r.shape.Idx → Elt F e) → Prog (TpuEff nD τ sig (Elt F) Λ₀ .tc) α} :
    Own c m X ⊢ iprop((Own c m X -∗ Wp c (k fun x => X (r.emb x)) Q) -∗ Wp c (Prog.lift (.load m r.toLoadRect hl) >>= k) Q) := by
  unfold Own owns
  iintro ⟨%f, %hf, Hf⟩ HK
  iapply (wp_load_rect Variants.none (c.tc : Thread nD τ) none Set.univ (m := m) (r := r) (hl := hl) (k := k) (S := m.view.set) (f := f)
    (View.set_slice_subset _ r)) $$ Hf
  iintro Hf
  rw [show (m.access r).read (Elt F) f = fun x => X (r.emb x) from by subst hf; rfl]
  iapply HK
  iexists f
  isplitr; · ipureintro; exact hf
  iexact Hf

theorem step_smem {s : Shape} {e : EltTy} {m : Memref sig .tc .smem s e} {r : Rect s} {h1 : r.shape.numel = 1} {hp : e.packing = 1}
    {X : s.Idx → Elt F e} {k : Elt F e → Prog (TpuEff nD τ sig (Elt F) Λ₀ .tc) α} :
    Own c m X ⊢ iprop((Own c m X -∗ Wp c (k (X (r.emb (Shape.Idx.first (h1.symm ▸ Nat.one_pos))))) Q) -∗ Wp c (smemLoad m r h1 hp >>= k) Q) := by
  unfold Own owns
  iintro ⟨%f, %hf, Hf⟩ HK
  iapply (wp_smemLoadElt Variants.none (c.tc : Thread nD τ) none Set.univ (m := m) (r := r) (hw := View.loads_smem_one hp h1) (k := k)
    (x := Shape.Idx.first (h1.symm ▸ Nat.one_pos)) (S := m.view.set) (f := f) (View.set_slice_subset _ r)) $$ Hf
  iintro Hf
  rw [show (m.access r).read (Elt F) f (Shape.Idx.first (h1.symm ▸ Nat.one_pos)) = X (r.emb (Shape.Idx.first (h1.symm ▸ Nat.one_pos))) from by subst hf; rfl]
  iapply HK
  iexists f
  isplitr; · ipureintro; exact hf
  iexact Hf

theorem step_store {cs : CoreSpace} {s : Shape} {e : EltTy} {m : Memref sig .tc cs s e} {r : Rect s} {w : r.shape.Idx → Elt F e}
    {hx : (m.access r).Stores Finset.univ} {hm} {X : s.Idx → Elt F e} {k : PUnit → Prog (TpuEff nD τ sig (Elt F) Λ₀ .tc) α} :
    Own c m X ⊢ iprop((Own c m (putR r w X) -∗ Wp c (k ⟨⟩) Q) -∗ Wp c (Prog.lift (.store m r w Finset.univ hx hm) >>= k) Q) := by
  unfold Own owns
  iintro ⟨%f, %hf, Hf⟩ HK
  iapply (wp_store Variants.none (c.tc : Thread nD τ) none Set.univ (m := m) (r := r) (w := w) (Mk := Finset.univ) (hx := hx) (hm := hm) (k := k)
    (S := m.view.set) (f := f) ((View.setOn_subset_set _ _).trans (View.set_slice_subset _ r))) $$ Hf
  iintro Hf
  iapply HK
  iexists ((m.access r).write (Elt F) f w Finset.univ)
  isplitr
  · ipureintro
    funext y
    by_cases h : ∃ x, r.emb x = y
    · obtain ⟨x, rfl⟩ := h
      rw [putR_emb]
      exact View.read_slice_write_emb r f w (Finset.mem_univ x)
    · rw [putR_of_not _ _ _ _ (fun x hx => h ⟨x, hx⟩), ← hf]
      refine View.read_slice_write_of_not_mem r f w Finset.univ fun hy => ?_
      obtain ⟨x, -, hx⟩ := Finset.mem_map.mp hy
      exact h ⟨x, hx⟩
  iexact Hf

theorem step_assume {P : Prop} {d : Decidable P} {k : PLift P → Prog (TpuEff nD τ sig (Elt F) Λ₀ .tc) α} (h : P) :
    Wp c (k ⟨h⟩) Q ⊢ Wp c (Prog.lift (TpuEff.assume P d) >>= k) Q :=
  wp_assume Variants.none (c.tc : Thread nD τ) none Set.univ h

theorem step_dma {sp sp' : Space} {s : Shape} {e : EltTy} {src : Memref sig .tc sp s e} {dst : Memref sig .tc sp' s e} {sm : SemLoc sig}
    {hsrc : src.view.WordExact} {hdst : dst.view.WordExact} {hsem : (DmaTarget.here dst : DmaTarget nD τ sig .tc sp' s e).Typed sp sm}
    {k : PUnit → Prog (TpuEff nD τ sig (Elt F) Λ₀ .tc) α} {q : PosShare TreeShare} {fs : Buf (Elt F) (src.view.loc (c.tc : Thread nD τ))}
    (N : ℕ) (hN : dst.view.amount sm = N) (hN0 : 0 < N) :
    iprop((src.view.loc (c.tc : Thread nD τ) ↦[src.view.set]{q} fs) ∗ (∃ Y, Own c dst Y) ∗ semVal ((c.tc : Thread nD τ), sm) 0)
      ⊢ iprop((Flight (countersEmb (U := UC sig nD τ)) (c.tc : Thread nD τ) sm () N iprop(Own c dst (src.view.read (Elt F) fs) ∗ (src.view.loc (c.tc : Thread nD τ) ↦[src.view.set]{q} fs))
              -∗ Wp c (k ⟨⟩) Q)
          -∗ Wp c (Prog.lift (.enqueueDma src (.here dst) sm hsrc hdst hsem) >>= k) Q) := by
  unfold Own owns
  iintro ⟨Hs, ⟨%Y, %f, %hf, Hd⟩, Hv⟩ HK
  iapply (wp_dmaLocal (countersEmb (U := UC sig nD τ)) Variants.none (c.tc : Thread nD τ) none (src := src) (dst := dst) (via := .same) (k := k) (hsrc := hsrc) (hdst := hdst) (hsem := hsem) () N hN hN0
    (Sd := dst.view.set) (fd := f) (fs := fs) (q := q) subset_rfl) $$ [Hs Hd Hv]
  · isplitl [Hs]; · iexact Hs
    isplitl [Hd]; · iexact Hd
    iexact Hv
  iintro HF
  iapply HK
  iapply (Flight_mono (countersEmb (U := UC sig nD τ)) (c.tc : Thread nD τ) (h := ?_)) $$ HF
  iintro ⟨Hd, Hs⟩
  isplitl [Hd]
  · iexists (dst.view.write (Elt F) f (ReadAs.same.apply (src.view.read (Elt F) fs)) Finset.univ)
    isplitr
    · ipureintro; exact View.read_write_univ _ _
    iexact Hd
  iexact Hs

theorem step_wait {sp sp' : Space} {s s' : Shape} {e e' : EltTy} {sem : DmaSem sig} {srcw : Memref sig .tc sp' s' e'} {dstw : Memref sig .tc sp s e}
    {hsrc : srcw.view.WordExact} {hdst : dstw.view.WordExact} {k : PUnit → Prog (TpuEff nD τ sig (Elt F) Λ₀ .tc) α} {N : ℕ}
    (hN : dstw.view.dmaCredit = N) {D : sProp (Res F)} :
    iprop(Flight (countersEmb (U := UC sig nD τ)) (c.tc : Thread nD τ) (.dma sem) () N D ∗ (∃ W, owes (c.tc : Thread nD τ) 0 W))
      ⊢ iprop((iprop(D ∗ semVal ((c.tc : Thread nD τ), .dma sem) 0 ∗ (∃ W, owes (c.tc : Thread nD τ) 0 W)) -∗ Wp c (k ⟨⟩) Q)
          -∗ Wp c (Prog.lift (.waitDma2 sem srcw dstw hsrc hdst) >>= k) Q) := by
  iintro ⟨HF, %W, HO⟩ HK
  iapply (wp_waitLocal (countersEmb (U := UC sig nD τ)) Variants.none (c.tc : Thread nD τ) none (srcw := srcw) (dstw := dstw) (hsrc := hsrc) (hdst := hdst) (k := k) () hN (W := W)) $$ [HF HO]
  · isplitl [HF] <;> iassumption
  iintro ⟨HD, Hv, HO⟩
  iapply HK
  isplitl [HD]; · iexact HD
  isplitl [Hv]; · iexact Hv
  iexists _
  iexact HO

end

end Cert.KernelIdeal.Str
-- ==== Proof.Ring.lean ====
module

public import proofs.«01_k».proof.Proof.Step

@[expose] public section

/-! The ring of four weight slots: what a slot holds while idle, in flight and ready; starting a transfer, waiting for
it, and the loads of a ready slot. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC)
open Idealize.ShloMosaic.Transfers Idealize.ShloMosaic.ValueIdx

variable {F : FTy → Type} [FloatOps F] [Facts]

section Gen
variable (c : Dev nD) {α : Type} {Q : α → sProp (Res F)}

theorem step_pure (a : α) : Q a ⊢ Wp c (pure a) Q := le_wp_ret (M := Res F) _ _ _ a Q

/-- A load through a memref of elements held through a squeezed slice of it. -/
theorem step_load_at {cs : CoreSpace} {s s' : Shape} {e : EltTy} {m : Memref sig .tc cs s e} {r0 r : Rect s} {h0 : ∀ a, r0.stride a = 1}
    {hq : r0.shape.Squeezes s'} {hl : m.view.LoadsAt r.toLoadRect} (g : r.shape.Idx → s'.Idx)
    (hg : ∀ x, r.emb x = r0.emb (Shape.reshapeEquiv hq.numel_eq (g x)))
    {X : s'.Idx → Elt F e} {k : (r.shape.Idx → Elt F e) → Prog (TpuEff nD τ sig (Elt F) Λ₀ .tc) α} :
    Own c ((m.slice r0 h0).squeeze s' hq) X
      ⊢ iprop((Own c ((m.slice r0 h0).squeeze s' hq) X -∗ Wp c (k fun x => X (g x)) Q) -∗ Wp c (Prog.lift (.load m r.toLoadRect hl) >>= k) Q) := by
  unfold Own owns
  iintro ⟨%f, %hf, Hf⟩ HK
  iapply (wp_load_rect Variants.none (c.tc : Thread nD τ) none Set.univ (m := m) (r := r) (hl := hl) (k := k)
    (S := ((m.slice r0 h0).squeeze s' hq).view.set) (f := f) ?_) $$ Hf
  · intro i hi
    obtain ⟨x, rfl⟩ : ∃ x, (m.access r).emb x = i := by
      obtain ⟨x, -, e⟩ := Finset.mem_map.mp hi
      exact ⟨x, e⟩
    have : (m.access r).emb x = ((m.slice r0 h0).squeeze s' hq).view.emb (g x) := by
      show m.view.emb (r.emb x) = m.view.emb (r0.emb (Shape.reshapeEquiv hq.numel_eq (g x)))
      rw [hg]
    rw [this]
    exact View.emb_mem_set _ _
  iintro Hf
  rw [show (m.access r).read (Elt F) f = fun x => X (g x) from by
    subst hf
    funext x
    show m.view.read (Elt F) f (r.emb x) = m.view.read (Elt F) f (r0.emb (Shape.reshapeEquiv hq.numel_eq (g x)))
    rw [hg]]
  iapply HK
  iexists f
  isplitr; · ipureintro; exact hf
  iexact Hf

end Gen

/-- The place in a slot of an element of tile `t`'s packed weights. -/
def gW (t : Nat) (ht : t < 84) (x : S1x128x256.Idx) : S3584x768.Idx :=
  ix2 (n0 := 3584) (n1 := 768) ⟨128 * (t / 3) + (x 1).val, by have : (x 1).val < 128 := (x 1).isLt; omega⟩
    ⟨256 * (t % 3) + (x 2).val, by have : (x 2).val < 256 := (x 2).isLt; omega⟩
/-- The place in a slot of an element of the scale row of half `b` of tile `t`. -/
def gS (t b : Nat) (ht : t < 84) (hb : b < 2) (x : S1x1x256.Idx) : S56x768.Idx :=
  ix2 (n0 := 56) (n1 := 768) ⟨2 * (t / 3) + b, by omega⟩ ⟨256 * (t % 3) + (x 2).val, by have : (x 2).val < 256 := (x 2).isLt; omega⟩

/-- The tile the matrix unit takes, off a slot's weights and scales. -/
def wTl (W : S3584x768.Idx → Elt F .i8) (S : S56x768.Idx → Elt F .f32) (t : Nat) (ht : t < 84) : FVec F S256x256 .bf16 :=
  wTile (fun x => W (gW t ht x)) (fun x => S (gS t 0 ht (by decide) x)) (fun x => S (gS t 1 ht (by decide) x))

/-- The matrix unit after tile `t` is staged. -/
def pushM (W : S3584x768.Idx → Elt F .i8) (S : S56x768.Idx → Elt F .f32) (t : Nat) (ht : t < 84) (m : Mxu F) : Mxu F :=
  m.pushed (un t) (rg t) false (wTl W S t ht)

/-- The matrix unit after the product by tile `t`. -/
def accM (X : S64x7168.Idx → Elt F .bf16) (mk : IVec S64x256 1) (t : Nat) (ht : t < 84) (m : Mxu F) : Mxu F :=
  m.accLhs (un t) (rg t) (16 * (t % 3)) (xTile mk fun x => X ((rX2 t ht).emb x)) (fitsA t)

/-- The matrix unit after `r` products from tile `t`. -/
def tilesM (W : S3584x768.Idx → Elt F .i8) (S : S56x768.Idx → Elt F .f32) (X : S64x7168.Idx → Elt F .bf16) (mk : IVec S64x256 1) :
    (r t : Nat) → t + r ≤ 82 → Mxu F → Mxu F
  | 0, _, _, m => m
  | r + 1, t, h, m => tilesM W S X mk r (t + 1) (by omega) (accM X mk t (by omega) (pushM W S (t + 2) (by omega) m))

/-- The matrix unit after a trip. -/
def tripM (W : S3584x768.Idx → Elt F .i8) (S : S56x768.Idx → Elt F .f32) (X : S64x7168.Idx → Elt F .bf16) (mk : IVec S64x256 1) (m : Mxu F) : Mxu F :=
  accM X mk 83 (by decide) (accM X mk 82 (by decide) (tilesM W S X mk 82 0 (by decide)
    (pushM W S 1 (by decide) (pushM W S 0 (by decide) m))))

/-- No staged tile is to be transposed. -/
def NT (m : Mxu F) : Prop := ∀ q r, ∀ t ∈ m.reg q r, t.transposed = false

theorem NT.push {m : Mxu F} (h : NT m) (W : S3584x768.Idx → Elt F .i8) (S : S56x768.Idx → Elt F .f32) (t : Nat) (ht : t < 84) : NT (pushM W S t ht m) := by
  intro q r u hu
  unfold pushM Mxu.pushed at hu
  split at hu
  · exact h q r u hu
  · dsimp only at hu
    split at hu
    · obtain rfl := Option.some.inj hu; rfl
    · exact h q r u hu

theorem NT.acc {m : Mxu F} (h : NT m) (X : S64x7168.Idx → Elt F .bf16) (mk : IVec S64x256 1) (t : Nat) (ht : t < 84) : NT (accM X mk t ht m) := by
  intro q r u hu
  unfold accM Mxu.accLhs at hu
  dsimp only at hu
  split at hu
  · exact absurd hu (by simp)
  · exact h q r u hu

section Slots
variable (c : Dev nD) (arg2 : Memref sig .tc .hbm S32x3584x768 .i8) (harg2 : arg2.IsWhole) (arg3 : Memref sig .tc .hbm S32x56x768 .f32)
  (arg6 : Memref sig .tc .vmem S64x7168 .bf16) (arg7 : Memref sig .tc .vmem S4x3584x768 .i8) (harg7 : arg7.IsWhole)
  (arg8 : Memref sig .tc .vmem S4x56x768 .f32) (arg12 : DmaSems sig S4) (arg13 : DmaSems sig S4)

/-- Slot `n` of the packed weights, and of the scales; expert `e`'s in HBM. -/
abbrev sl7 (n : Nat) (hn : n < 4) : Memref sig .tc .vmem S3584x768 .i8 :=
  (arg7.slice (rSlotW n hn) (fun _ => rfl)).squeeze S3584x768 squeezes_S1x3584x768_S3584x768
abbrev sl8 (n : Nat) (hn : n < 4) : Memref sig .tc .vmem S56x768 .f32 :=
  (arg8.slice (rSlotS n hn) (fun _ => rfl)).squeeze S56x768 squeezes_S1x56x768_S56x768
abbrev ex2 (e : Nat) (he : e < 32) : Memref sig .tc .hbm S3584x768 .i8 :=
  (arg2.slice (rExpW e he) (fun _ => rfl)).squeeze S3584x768 squeezes_S1x3584x768_S3584x768
abbrev ex3 (e : Nat) (he : e < 32) : Memref sig .tc .hbm S56x768 .f32 :=
  (arg3.slice (rExpS e he) (fun _ => rfl)).squeeze S56x768 squeezes_S1x56x768_S56x768
abbrev smS (a : DmaSems sig S4) (n : Nat) (hn : n < 4) : SemLoc sig := .dma ((a.slice (r4 n hn)).squeeze S_ squeezes_S1_S_).sem

variable {α : Type} {Q : α → sProp (Res F)}

theorem emb_gW (n t : Nat) (hn : n < 4) (ht : t < 84) (x : S1x128x256.Idx) :
    (rW n t hn ht).emb x = (rSlotW n hn).emb (Shape.reshapeEquiv squeezes_S1x3584x768_S3584x768.numel_eq (gW t ht x)) := by
  unfold gW
  rw [reshapeEquiv_ix2_1ab (a := 3584) (b := 768)]
  funext a
  apply Fin.ext
  have h0 : (x 0).val = 0 := by have : (x 0).val < 1 := (x 0).isLt; omega
  match a with
  | ⟨0, _⟩ => show n + 1 * (x 0).val = n + 1 * 0; omega
  | ⟨1, _⟩ => show 128 * (t / 3) + 1 * (x 1).val = 0 + 1 * (128 * (t / 3) + (x 1).val); omega
  | ⟨2, _⟩ => show 256 * (t % 3) + 1 * (x 2).val = 0 + 1 * (256 * (t % 3) + (x 2).val); omega

theorem emb_gS (n t b : Nat) (hn : n < 4) (ht : t < 84) (hb : b < 2) (x : S1x1x256.Idx) :
    (rS n t b hn ht hb).emb x = (rSlotS n hn).emb (Shape.reshapeEquiv squeezes_S1x56x768_S56x768.numel_eq (gS t b ht hb x)) := by
  unfold gS
  rw [reshapeEquiv_ix2_1ab (a := 56) (b := 768)]
  funext a
  apply Fin.ext
  have h0 : (x 0).val = 0 := by have : (x 0).val < 1 := (x 0).isLt; omega
  have h1 : (x 1).val = 0 := by have : (x 1).val < 1 := (x 1).isLt; omega
  match a with
  | ⟨0, _⟩ => show n + 1 * (x 0).val = n + 1 * 0; omega
  | ⟨1, _⟩ => show 2 * (t / 3) + b + 1 * (x 1).val = 0 + 1 * (2 * (t / 3) + b); omega
  | ⟨2, _⟩ => show 256 * (t % 3) + 1 * (x 2).val = 0 + 1 * (256 * (t % 3) + (x 2).val); omega

/-- A ready slot's contents. -/
abbrev Held (n : Nat) (hn : n < 4) (W : S3584x768.Idx → Elt F .i8) (S : S56x768.Idx → Elt F .f32) : sProp (Res F) :=
  iprop(Own c (sl7 arg7 n hn) W ∗ Own c (sl8 arg8 n hn) S)

theorem wp_pushT {Q : Mxu F → sProp (Res F)} (n : Nat) (hn : n < 4) (t : Nat) (ht : t < 84) (m : Mxu F) (hm : NT m) (W : S3584x768.Idx → Elt F .i8) (S : S56x768.Idx → Elt F .f32) :
    Held c arg7 arg8 n hn W S ⊢ iprop((Held c arg7 arg8 n hn W S -∗ Q (pushM W S t ht m)) -∗ Wp c (pushT arg7 arg8 n hn t ht m) Q) := by
  unfold Held
  iintro ⟨HW, HS⟩ HK
  unfold pushT pushM
  iapply (step_load_at c (gW t ht) (emb_gW n t hn ht)) $$ HW
  iintro HW
  iapply (step_load_at c (gS t 0 ht (by decide)) (emb_gS n t 0 hn ht (by decide))) $$ HS
  iintro HS
  iapply (step_load_at c (gS t 1 ht (by decide)) (emb_gS n t 1 hn ht (by decide))) $$ HS
  iintro HS
  iapply (step_assume c (k := fun _ => pure (m.pushed (un t) (rg t) false (wTl W S t ht))) (show m.PushOk (un t) (rg t) false from fun u hu => hm _ _ u hu))
  iapply (step_pure c)
  iapply HK
  isplitl [HW] <;> iassumption

theorem wp_accT {Q : Mxu F → sProp (Res F)} (mk : IVec S64x256 1) (t : Nat) (ht : t < 84) (m : Mxu F) (X : S64x7168.Idx → Elt F .bf16) :
    Own c arg6 X ⊢ iprop((Own c arg6 X -∗ Q (accM X mk t ht m)) -∗ Wp c (accT arg6 mk t ht m) Q) := by
  iintro HX HK
  unfold accT
  iapply (step_load c) $$ HX
  iintro HX
  iapply (step_pure c (accM X mk t ht m))
  iapply HK
  iexact HX

theorem wp_tiles (n : Nat) (hn : n < 4) (mk : IVec S64x256 1) (W : S3584x768.Idx → Elt F .i8) (S : S56x768.Idx → Elt F .f32) (X : S64x7168.Idx → Elt F .bf16) {Q : Mxu F → sProp (Res F)} :
    ∀ (r t : Nat) (h : t + r ≤ 82) (m : Mxu F) (hm : NT m),
    iprop(Held c arg7 arg8 n hn W S ∗ Own c arg6 X) ⊢ iprop((iprop(Held c arg7 arg8 n hn W S ∗ Own c arg6 X ∗ ⌜NT (tilesM W S X mk r t h m)⌝) -∗ Q (tilesM W S X mk r t h m))
      -∗ Wp c (tiles arg6 arg7 arg8 n hn mk r t h m) Q)
  | 0, t, h, m, hm => by
    iintro ⟨HW, HX⟩ HK
    iapply (step_pure c)
    unfold tilesM
    iapply HK
    isplitl [HW]; · iexact HW
    isplitl [HX]; · iexact HX
    ipureintro; exact hm
  | r + 1, t, h, m, hm => by
    iintro ⟨HW, HX⟩ HK
    unfold tiles tilesM
    rw [wp_bind']
    iapply (wp_pushT c arg7 arg8 n hn (t + 2) _ m hm W S) $$ HW
    iintro HW
    rw [wp_bind']
    iapply (wp_accT c arg6 mk t _ _ X) $$ HX
    iintro HX
    iapply (wp_tiles n hn mk W S X r (t + 1) _ _ ((hm.push W S _ _).acc X mk _ _)) $$ [HW HX]
    · isplitl [HW] <;> iassumption
    iexact HK

variable (f2 : Buf (Elt F) (arg2.view.loc (c.tc : Thread nD τ))) (f3 : Buf (Elt F) (arg3.view.loc (c.tc : Thread nD τ)))

/-- Expert `e`'s packed weights and scales. -/
abbrev w2 (e : Nat) (he : e < 32) : S3584x768.Idx → Elt F .i8 := (ex2 arg2 e he).view.read (Elt F) f2
abbrev w3 (e : Nat) (he : e < 32) : S56x768.Idx → Elt F .f32 := (ex3 arg3 e he).view.read (Elt F) f3

/-- The share of the weights and scales slot `n` keeps. -/
def qs (n : Nat) : PosShare TreeShare := shareTokN fullShare n

/-- A slot with no transfer under way. -/
def Idle (n : Nat) (hn : n < 4) : sProp (Res F) :=
  iprop(semVal ((c.tc : Thread nD τ), smS arg12 n hn) 0 ∗ semVal ((c.tc : Thread nD τ), smS arg13 n hn) 0
    ∗ (∃ Y, Own c (sl7 arg7 n hn) Y) ∗ (∃ Y, Own c (sl8 arg8 n hn) Y)
    ∗ (arg2.view.loc (c.tc : Thread nD τ) ↦[arg2.view.set]{qs n} f2) ∗ (arg3.view.loc (c.tc : Thread nD τ) ↦[arg3.view.set]{qs n} f3))

/-- A slot with expert `e` under way. -/
def Fly (n : Nat) (hn : n < 4) (e : Nat) (he : e < 32) : sProp (Res F) :=
  iprop(Flight (countersEmb (U := UC sig nD τ)) (c.tc : Thread nD τ) (smS arg12 n hn) () ((sl7 arg7 n hn).view.dmaCredit)
        iprop(Own c (sl7 arg7 n hn) (w2 c arg2 f2 e he) ∗ ((ex2 arg2 e he).view.loc (c.tc : Thread nD τ) ↦[(ex2 arg2 e he).view.set]{qs n} f2))
    ∗ (arg2.view.loc (c.tc : Thread nD τ) ↦[arg2.view.set \ (ex2 arg2 e he).view.set]{qs n} f2)
    ∗ Flight (countersEmb (U := UC sig nD τ)) (c.tc : Thread nD τ) (smS arg13 n hn) () ((sl8 arg8 n hn).view.dmaCredit)
        iprop(Own c (sl8 arg8 n hn) (w3 c arg3 f3 e he) ∗ ((ex3 arg3 e he).view.loc (c.tc : Thread nD τ) ↦[(ex3 arg3 e he).view.set]{qs n} f3))
    ∗ (arg3.view.loc (c.tc : Thread nD τ) ↦[arg3.view.set \ (ex3 arg3 e he).view.set]{qs n} f3))

theorem ex2_sub (e : Nat) (he : e < 32) : (ex2 arg2 e he).view.set ⊆ arg2.view.set := by
  show ((arg2.view.slice (rExpW e he)).reshape S3584x768 _).set ⊆ _
  rw [View.set_reshape]
  exact View.set_slice_subset _ _
theorem ex3_sub (e : Nat) (he : e < 32) : (ex3 arg3 e he).view.set ⊆ arg3.view.set := by
  show ((arg3.view.slice (rExpS e he)).reshape S56x768 _).set ⊆ _
  rw [View.set_reshape]
  exact View.set_slice_subset _ _

theorem wp_issue {Q : PUnit → sProp (Res F)} (n : Nat) (hn : n < 4) (e : Nat) (he : e < 32) :
    Idle c arg2 arg3 arg7 arg8 arg12 arg13 f2 f3 n hn
      ⊢ iprop((Fly c arg2 arg3 arg7 arg8 arg12 arg13 f2 f3 n hn e he -∗ Q ⟨⟩)
        -∗ Wp c (issue arg2 harg2 arg3 arg7 harg7 arg8 arg12 arg13 n hn e he) Q) := by
  unfold Idle Fly
  iintro ⟨Hv, Hv', H7, H8, H2, H3⟩ HK
  ihave H2 := (pointsTo_split_subset (ex2_sub arg2 e he)).1 $$ H2
  icases H2 with ⟨H2, H2'⟩
  ihave H3 := (pointsTo_split_subset (ex3_sub arg3 e he)).1 $$ H3
  icases H3 with ⟨H3, H3'⟩
  unfold issue
  iapply (step_dma c (src := ex2 arg2 e he) (dst := sl7 arg7 n hn) (fs := f2) (q := qs n) _ rfl (View.dmaCredit_pos _ (by decide))) $$ [Hv H7 H2]
  · isplitl [H2]; · iexact H2
    isplitl [H7]; · iexact H7
    iexact Hv
  iintro HF
  iapply (step_dma c (src := ex3 arg3 e he) (dst := sl8 arg8 n hn) (fs := f3) (q := qs n) _ rfl (View.dmaCredit_pos _ (by decide))) $$ [Hv' H8 H3]
  · isplitl [H3]; · iexact H3
    isplitl [H8]; · iexact H8
    iexact Hv'
  iintro HF'
  iapply (step_pure c)
  iapply HK
  isplitl [HF]; · iexact HF
  isplitl [H2']; · iexact H2'
  isplitl [HF']; · iexact HF'
  iexact H3'

end Slots

end Cert.KernelIdeal.Str
-- ==== Proof.Count.lean ====
module

public import proofs.«01_k».proof.Proof.Whole

@[expose] public section

/-! Counting the nonempty experts: the kernel's words are the counts, the list of nonempty experts is their
enumeration, and everything the body assumes of its indices holds. -/

noncomputable section

namespace Cert.KernelIdeal.Str

open Idealize.ShloMosaic Idealize.SL.Sem
open Cert.KernelIdeal Facts₀ Facts

/-- An expert with rows. -/
def pos (w : BitVec 32) : Prop := 0 < w.toInt
instance (w : BitVec 32) : Decidable (pos w) := inferInstanceAs (Decidable (0 < w.toInt))

/-- The nonempty experts before expert `e`. -/
def cnt (g : Nat → BitVec 32) : Nat → Nat
  | 0 => 0
  | e + 1 => cnt g e + if pos (g e) then 1 else 0

theorem sgt_eq (w : BitVec 32) : (Scalar.cmpi .sgt w 0#32 : BitVec 1) = if pos w then 1#1 else 0#1 := by
  have : (Scalar.cmpi .sgt w 0#32 : BitVec 1) = BitVec.ofBool (decide ((0#32).toInt < w.toInt)) := rfl
  rw [this]
  by_cases h : pos w
  · rw [if_pos h, show decide ((0#32).toInt < w.toInt) = true from decide_eq_true h]; rfl
  · rw [if_neg h, show decide ((0#32).toInt < w.toInt) = false from decide_eq_false h]; rfl

theorem cA_iff (w : BitVec 32) : cA w = 1#1 ↔ pos w := by
  unfold cA
  rw [sgt_eq]
  by_cases h : pos w
  · simp only [if_pos h, h, iff_true]; rfl
  · simp only [if_neg h, h, iff_false]; decide

theorem cB_iff (n : Nat) (hn : n ≤ 32) (w : BitVec 32) : cB (BitVec.ofNat 32 n) w = 1#1 ↔ pos w ∧ n < 4 := by
  unfold cB
  rw [sgt_eq]
  have key : ∀ k : Fin 33, (Scalar.cmpi .ne (Scalar.extui (Scalar.andi (1#1 : BitVec 1) (Scalar.cmpi .slt (BitVec.ofNat 32 k.val) 4#32)) : BitVec 32) 0#32 = 1#1 ↔ k.val < 4)
      ∧ ¬ (Scalar.cmpi .ne (Scalar.extui (Scalar.andi (0#1 : BitVec 1) (Scalar.cmpi .slt (BitVec.ofNat 32 k.val) 4#32)) : BitVec 32) 0#32 = 1#1) := by
    decide +kernel
  by_cases h : pos w
  · simp only [if_pos h, h, true_and]; exact (key ⟨n, by omega⟩).1
  · simp only [if_neg h, h, false_and, iff_false]; exact (key ⟨n, by omega⟩).2

theorem cC_iff (i n : Nat) (hi : i ≤ 32) (hn : n ≤ 32) : cC (BitVec.ofNat 32 i) (BitVec.ofNat 32 n) = 1#1 ↔ i + 4 < n := by
  have key : ∀ i n : Fin 33, cC (BitVec.ofNat 32 i.val) (BitVec.ofNat 32 n.val) = 1#1 ↔ i.val + 4 < n.val := by decide +kernel
  exact key ⟨i, by omega⟩ ⟨n, by omega⟩

theorem cnt_le (g : Nat → BitVec 32) : ∀ e, cnt g e ≤ e
  | 0 => Nat.le_refl _
  | e + 1 => by have := cnt_le g e; unfold cnt; split <;> omega

theorem cnt_mono (g : Nat → BitVec 32) {a b : Nat} (h : a ≤ b) : cnt g a ≤ cnt g b := by
  induction h with
  | refl => exact Nat.le_refl _
  | step _ ih => refine Nat.le_trans ih ?_; exact Nat.le_add_right _ _

theorem cnt_lt (g : Nat → BitVec 32) {a b : Nat} (h : a < b) (ha : pos (g a)) : cnt g a < cnt g b := by
  have : cnt g (a + 1) ≤ cnt g b := cnt_mono g h
  have e : cnt g (a + 1) = cnt g a + 1 := by show cnt g a + _ = _; rw [if_pos ha]
  omega

theorem cnt_inj (g : Nat → BitVec 32) {a b : Nat} (ha : pos (g a)) (hb : pos (g b)) (h : cnt g a = cnt g b) : a = b := by
  rcases Nat.lt_trichotomy a b with l | l | l
  · have := cnt_lt g l ha; omega
  · exact l
  · have := cnt_lt g l hb; omega

theorem cntW_eq (g : Nat → BitVec 32) : ∀ e, cntW g e = BitVec.ofNat 32 (cnt g e)
  | 0 => rfl
  | e + 1 => by
    unfold cntW cnt
    rw [cntW_eq g e, sgt_eq]
    show BitVec.ofNat 32 (cnt g e) + _ = _
    by_cases h : pos (g e)
    · rw [if_pos h, if_pos h, BitVec.ofNat_add]; rfl
    · rw [if_neg h, if_neg h, BitVec.ofNat_add]; rfl

theorem toNat_small {n : Nat} (h : n ≤ 64) : (BitVec.ofNat 32 n).toNat = n := by
  rw [BitVec.toNat_ofNat]; exact Nat.mod_eq_of_lt (by omega)

theorem cntW_toNat (g : Nat → BitVec 32) (e : Nat) (he : e ≤ 32) : (cntW g e).toNat = cnt g e := by
  rw [cntW_eq]; exact toNat_small (by have := cnt_le g e; omega)

theorem iv_eq (k : Nat) : Scf.iv 0#32 1#32 k = BitVec.ofNat 32 k := by
  unfold Scf.iv
  simp

theorem slotW_eq (n : Nat) (h : n ≤ 32) : (slotW (BitVec.ofNat 32 n)).toNat = n % 4 := by
  have key : ∀ n : Fin 33, (slotW (BitVec.ofNat 32 n.val)).toNat = n.val % 4 := by decide +kernel
  exact key ⟨n, by omega⟩

theorem addi_small (n m : Nat) : Scalar.addi (BitVec.ofNat 32 n) (BitVec.ofNat 32 m) = BitVec.ofNat 32 (n + m) := by
  rw [BitVec.ofNat_add]; rfl

theorem lp_trips (n : Nat) (h : n ≤ 32) : (lp (BitVec.ofNat 32 n)).trips = n := by
  have key : ∀ n : Fin 33, (lp (BitVec.ofNat 32 n.val)).trips = n.val := by decide +kernel
  exact key ⟨n, by omega⟩

theorem lp2_trips (n : Nat) (h : n ≤ 32) : (lp2 (BitVec.ofNat 32 n)).trips = 0 := by
  have key : ∀ n : Fin 33, (lp2 (BitVec.ofNat 32 n.val)).trips = 0 := by decide +kernel
  exact key ⟨n, by omega⟩

theorem lp_ok (n : Nat) (h : n ≤ 32) : (lp (BitVec.ofNat 32 n)).OK ∧ (lp2 (BitVec.ofNat 32 n)).OK := by
  have key : ∀ n : Fin 33, (lp (BitVec.ofNat 32 n.val)).OK ∧ (lp2 (BitVec.ofNat 32 n.val)).OK := by
    unfold Scf.Loop.OK Scf.OK
    decide +kernel
  exact key ⟨n, by omega⟩

/-- The words depend on the sizes before the expert only. -/
theorem cntW_congr {g g' : Nat → BitVec 32} : ∀ e, (∀ j < e, g j = g' j) → cntW g e = cntW g' e
  | 0, _ => rfl
  | e + 1, h => by
    unfold cntW
    rw [cntW_congr e fun j hj => h j (by omega), h e (by omega)]
theorem rowW_congr {g g' : Nat → BitVec 32} : ∀ e, (∀ j < e, g j = g' j) → rowW g e = rowW g' e
  | 0, _ => rfl
  | e + 1, h => by
    unfold rowW
    rw [rowW_congr e fun j hj => h j (by omega), h e (by omega)]

/-- The sizes of the first `e` experts, as a list. -/
abbrev pre (g : Nat → BitVec 32) (e : Nat) : List (BitVec 32) := (List.range e).map g

theorem lst_pre (g : Nat → BitVec 32) {e j : Nat} (h : j < e) : lst (pre g e) j = g j := by
  unfold lst pre
  simp [List.getD, h]

theorem pre_succ (g : Nat → BitVec 32) (e : Nat) : pre g e ++ [g e] = pre g (e + 1) := by
  unfold pre
  rw [List.range_succ, List.map_append]
  rfl

theorem cntW_pre (g : Nat → BitVec 32) {e k : Nat} (h : e ≤ k) : cntW (lst (pre g k)) e = BitVec.ofNat 32 (cnt g e) := by
  rw [cntW_congr e (g' := g) fun j hj => lst_pre g (by omega), cntW_eq]
theorem rowW_pre (g : Nat → BitVec 32) {e k : Nat} (h : e ≤ k) : rowW (lst (pre g k)) e = rowW g e :=
  rowW_congr e fun j hj => lst_pre g (by omega)

open Classical in
/-- The `j`-th nonempty expert. -/
def idOf (g : Nat → BitVec 32) (j : Nat) : Nat :=
  if h : ∃ e, e < 32 ∧ pos (g e) ∧ cnt g e = j then h.choose else 0

theorem idOf_lt (g : Nat → BitVec 32) (j : Nat) : idOf g j < 32 := by
  unfold idOf
  split
  · next h => exact h.choose_spec.1
  · decide

theorem idOf_cnt (g : Nat → BitVec 32) {e : Nat} (he : e < 32) (h : pos (g e)) : idOf g (cnt g e) = e := by
  have ex : ∃ e', e' < 32 ∧ pos (g e') ∧ cnt g e' = cnt g e := ⟨e, he, h, rfl⟩
  unfold idOf
  rw [dif_pos ex]
  exact cnt_inj g ex.choose_spec.2.1 h ex.choose_spec.2.2

theorem exists_of_lt_cnt (g : Nat → BitVec 32) {j : Nat} : ∀ n, j < cnt g n → ∃ e, e < n ∧ pos (g e) ∧ cnt g e = j
  | 0, h => absurd h (Nat.not_lt_zero _)
  | n + 1, h => by
    by_cases hj : j < cnt g n
    · obtain ⟨e, he, hp, hc⟩ := exists_of_lt_cnt g n hj
      exact ⟨e, by omega, hp, hc⟩
    · have hs : cnt g (n + 1) = cnt g n + if pos (g n) then 1 else 0 := rfl
      by_cases hp : pos (g n)
      · rw [if_pos hp] at hs; exact ⟨n, by omega, hp, by omega⟩
      · rw [if_neg hp] at hs; omega

theorem idOf_spec (g : Nat → BitVec 32) {j : Nat} (h : j < cnt g 32) : pos (g (idOf g j)) ∧ cnt g (idOf g j) = j := by
  have ex := exists_of_lt_cnt g 32 h
  unfold idOf
  rw [dif_pos ex]
  exact ex.choose_spec.2

theorem gchk_ok (n : Nat) (hn : n ≤ 32) (w : BitVec 32) : gchk (BitVec.ofNat 32 n) w := by
  have e : (BitVec.ofNat 32 n).toNat = n := toNat_small (by omega)
  have h4 : cB (BitVec.ofNat 32 n) w = 1#1 → (BitVec.ofNat 32 n).toNat < 4 := fun h => by
    rw [e]; exact ((cB_iff n hn w).mp h).2
  have h33 : (Scalar.indexCast (BitVec.ofNat 32 n)).toNat < 33 := by
    show (BitVec.ofNat 32 n).toNat < 33
    omega
  exact ⟨fun _ => inb33 h33, fun h => inb4 (h4 h), fun h => inbSlotW (h4 h), fun h _ => wordsSlotW (h4 h), fun h => inbSlotS (h4 h)⟩

theorem inb32Wi {n : Nat} (h : n < 32) (i c : BitVec 32) (w : BitVec 32) (hw : w.toNat = n) : gchkR i c w :=
  ⟨fun _ => inb32W (by omega), fun _ _ => wordsExpW (by omega), fun _ => inb32S (by omega)⟩

theorem chk32_ok {w : BitVec 32} (h : w.toNat < 32) : k0_chk32 w :=
  ⟨inb32W h, fun _ => wordsExpW h, inb32S h⟩

section Chk
variable (g : Nat → BitVec 32)

/-- What the loops need holds at every count. -/
theorem loopOk_ok (n : Nat) (hn : n ≤ 32) : LoopOk (BitVec.ofNat 32 n) where
  ok1 := (lp_ok n hn).1
  ok2 := (lp_ok n hn).2
  t1 k := by
    have hk : k.val < n := lt_of_lt_of_eq k.isLt (lp_trips n hn)
    rw [iv_eq]
    exact ⟨by show (BitVec.ofNat 32 k.val).toNat < 33; rw [toNat_small] <;> omega,
      by show (Scalar.addi (BitVec.ofNat 32 k.val) (BitVec.ofNat 32 1)).toNat < 33; rw [addi_small, toNat_small] <;> omega,
      by rw [slotW_eq] <;> omega⟩
  n1 k := by
    have hk : k.val < n := lt_of_lt_of_eq k.isLt (lp_trips n hn)
    rw [iv_eq]
    intro hC
    have := (cC_iff k.val n (by omega) hn).mp hC
    show (Scalar.addi (BitVec.ofNat 32 k.val) (BitVec.ofNat 32 4)).toNat < 33
    rw [addi_small, toNat_small] <;> omega
  t2 k := absurd (lt_of_lt_of_eq k.isLt (lp2_trips n hn)) (Nat.not_lt_zero _)
  n2 k := absurd (lt_of_lt_of_eq k.isLt (lp2_trips n hn)) (Nat.not_lt_zero _)

theorem L3 {n A B : Nat} (s S : Fin 3 → Nat) (h0 : n + s 0 ≤ S 0) (h1 : A + s 1 ≤ S 1) (h2 : B + s 2 ≤ S 2) :
    ∀ a, (![n, A, B] : Fin 3 → Nat) a + s a ≤ S a := by
  intro a
  fin_cases a
  · exact h0
  · exact h1
  · exact h2

/-- The facts everything the body assumes comes down to. -/
structure CFacts : Prop where
  hg : gchk (cntW g 31) (g 31)
  hc : (Scalar.indexCast (cntW g 32)).toNat < 33
  ok1 : (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).OK
  ok2 : (k0_t2_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).OK
  a0 : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scalar.indexCast (Scf.iv 0#32 1#32 t)).toNat < 33
  a1 : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (Scalar.indexCast (Scalar.addi (Scf.iv 0#32 1#32 t) 1#32)).toNat < 33
  a4 : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, k0_cond65 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = 1#1 → (Scalar.indexCast (Scalar.addi (Scf.iv 0#32 1#32 t) 4#32)).toNat < 33
  sl : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, (slotW (Scf.iv 0#32 1#32 t)).toNat < 4
  e2 : Fin (k0_t2_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips → False

theorem loop1_eq : k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = lp (cntW g 32) := by sl_kernel_rfl
theorem loop2_eq : k0_t2_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) = lp2 (cntW g 32) := by sl_kernel_rfl
theorem cond65_eq (t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips) : k0_cond65 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) t = cC (Scf.iv 0#32 1#32 t) (cntW g 32) := by sl_kernel_rfl

theorem facts_a : CFacts g := by
  have hn : cnt g 32 ≤ 32 := cnt_le g 32
  have hl := loopOk_ok (cnt g 32) hn
  rw [← cntW_eq] at hl
  have hv : ∀ t : Fin (k0_t1_loop (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31)).trips, t.val < (lp (cntW g 32)).trips := fun t => by
    rw [← loop1_eq]; exact t.isLt
  refine ⟨?_, ?_, ?_, ?_, fun t => (hl.t1 ⟨t, hv t⟩).at0, fun t => (hl.t1 ⟨t, hv t⟩).at1, fun t h => hl.n1 ⟨t, hv t⟩ ?_, fun t => (hl.t1 ⟨t, hv t⟩).slot, ?_⟩
  · rw [cntW_eq]; exact gchk_ok _ (by have := cnt_le g 31; omega) _
  · show (cntW g 32).toNat < 33
    rw [cntW_toNat g 32 (by omega)]; omega
  · rw [loop1_eq]; exact hl.ok1
  · rw [loop2_eq]; exact hl.ok2
  · rw [← cond65_eq]; exact h
  · intro t
    refine Nat.not_lt_zero t.val (lt_of_lt_of_eq t.isLt ?_)
    rw [loop2_eq, cntW_eq, lp2_trips _ hn]

theorem k0_chk31_0_ok : k0_chk31_0 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨hg.1,
   hg.2.1,
   hg.2.2.1,
   hg.2.2.2.1,
   hg.2.2.2.2,
   inb33 hc,
   ok1,
   fun t => inb33 (a0 t),
   fun t => inb4 (sl t),
   fun t => inbSlotW (sl t),
   fun t hi => wordsSlotW (sl t),
   fun t => inb4 (sl t),
   fun t => inbSlotS (sl t),
   fun t => inb33 (a0 t),
   fun t => inb33 (a1 t),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide)⟩

theorem k0_chk31_1_ok : k0_chk31_1 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide)⟩

theorem k0_chk31_2_ok : k0_chk31_2 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide)⟩

theorem k0_chk31_3_ok : k0_chk31_3 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide)⟩

theorem k0_chk31_4_ok : k0_chk31_4 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide)⟩

theorem k0_chk31_5_ok : k0_chk31_5 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide)⟩

theorem k0_chk31_6_ok : k0_chk31_6 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide)⟩

theorem k0_chk31_7_ok : k0_chk31_7 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide)⟩

theorem k0_chk31_8_ok : k0_chk31_8 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t => L3 S1x128x256.size S4x3584x768.size (sl t) (by decide) (by decide),
   fun t => L3 S1x1x256.size S4x56x768.size (sl t) (by decide) (by decide),
   fun t => L3 S1x1x256.size S4x56x768.size (sl t) (by decide) (by decide),
   fun t h => inb33 (a4 t h),
   fun t h => inb4 (sl t),
   fun t h => inbSlotW (sl t),
   fun t h hi => wordsSlotW (sl t),
   fun t h => inb4 (sl t),
   fun t h => inbSlotS (sl t),
   ok2,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_9_ok : k0_chk31_9 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_10_ok : k0_chk31_10 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_11_ok : k0_chk31_11 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_12_ok : k0_chk31_12 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_13_ok : k0_chk31_13 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_14_ok : k0_chk31_14 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_15_ok : k0_chk31_15 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

theorem k0_chk31_16_ok : k0_chk31_16 (g 0) (g 1) (g 2) (g 3) (g 4) (g 5) (g 6) (g 7) (g 8) (g 9) (g 10) (g 11) (g 12) (g 13) (g 14) (g 15) (g 16) (g 17) (g 18) (g 19) (g 20) (g 21) (g 22) (g 23) (g 24) (g 25) (g 26) (g 27) (g 28) (g 29) (g 30) (g 31) :=
  have H := facts_a g
  have hg := H.hg; have hc := H.hc; have ok1 := H.ok1; have ok2 := H.ok2; have a0 := H.a0; have a1 := H.a1; have a4 := H.a4; have sl := H.sl; have e2 := H.e2
  ⟨fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim,
   fun t => (e2 t).elim⟩

/-- What the body assumes at the last expert holds, whatever the sizes. -/
theorem chk_ok : chkL g := ⟨k0_chk31_0_ok g, k0_chk31_1_ok g, k0_chk31_2_ok g, k0_chk31_3_ok g, k0_chk31_4_ok g, k0_chk31_5_ok g, k0_chk31_6_ok g, k0_chk31_7_ok g, k0_chk31_8_ok g, k0_chk31_9_ok g, k0_chk31_10_ok g, k0_chk31_11_ok g, k0_chk31_12_ok g, k0_chk31_13_ok g, k0_chk31_14_ok g, k0_chk31_15_ok g, k0_chk31_16_ok g⟩

end Chk

end Cert.KernelIdeal.Str
-- ==== Proof.Mx.lean ====
module

public import proofs.«01_k».proof.Proof.Ring
public import proofs.«01_k».proof.Proof.Count
public import Idealize.ShloMosaic.Lib.Mxu.Lemmas

@[expose] public section

/-! The two matrix units over a trip: which tiles are staged, which rows are live, and that the last pops drain them. -/

noncomputable section

namespace Cert.KernelIdeal.Str

open Idealize.ShloMosaic Idealize.ShloMosaic.TcCoe
open Cert.KernelIdeal Facts₀ Facts

variable {F : FTy → Type} [FloatOps F] [Facts]

/-- No row past the three accumulators is live. -/
def Low (m : Mxu F) : Prop := ∀ q (R : Fin 1024), 192 ≤ R.val → m.live q R = false
/-- No tile is staged. -/
def NoReg (m : Mxu F) : Prop := ∀ q r, m.reg q r = none

theorem NoReg.nt {m : Mxu F} (h : NoReg m) : NT m := fun q r t ht => by
  rw [h q r] at ht
  exact absurd ht (by simp)

section Tile
variable (W : S3584x768.Idx → Elt F .i8) (S : S56x768.Idx → Elt F .f32) (X : S64x7168.Idx → Elt F .bf16) (mk : IVec S64x256 1)

theorem Low.push {m : Mxu F} (h : Low m) (t : Nat) (ht : t < 84) : Low (pushM W S t ht m) := by
  intro q R hR
  unfold pushM
  rw [Mxu.live_pushed]
  exact h q R hR

theorem Low.acc {m : Mxu F} (h : Low m) (t : Nat) (ht : t < 84) : Low (accM X mk t ht m) := by
  intro q R hR
  show (if q = un t ∧ 4 * (16 * (t % 3)) ≤ R.val ∧ R.val < 4 * (16 * (t % 3)) + 64 then true else m.live q R) = false
  rw [if_neg (by rintro ⟨-, -, h⟩; omega)]
  exact h q R hR

/-- The tiles `lo ≤ t < hi` are staged, and no other. -/
def Reg (lo hi : Nat) (m : Mxu F) : Prop :=
  (∀ t (ht : t < 84), lo ≤ t → t < hi → m.reg (un t) (rg t) = some ⟨.bf16, false, wTl W S t ht⟩) ∧
  (∀ q r, (∀ t, lo ≤ t → t < hi → ¬ (q = un t ∧ r = rg t)) → m.reg q r = none)

theorem un_rg {t t' : Nat} (h : un t = un t' ∧ rg t = rg t') : t % 4 = t' % 4 := by
  have h1 : t % 2 = t' % 2 := congrArg Fin.val h.1
  have h2 : t / 2 % 2 = t' / 2 % 2 := congrArg Fin.val h.2
  omega

theorem Reg.push {lo t : Nat} {m : Mxu F} (h : Reg W S lo t m) (ht : t < 84) (hlt : lo ≤ t) (hw : t < lo + 4) : Reg W S lo (t + 1) (pushM W S t ht m) := by
  have hn : m.reg (un t) (rg t) = none := h.2 _ _ fun t' h1 h2 he => by have := un_rg he; omega
  have hr : ∀ q r, (pushM W S t ht m).reg q r = if q = un t ∧ r = rg t then some ⟨.bf16, false, wTl W S t ht⟩ else m.reg q r := by
    intro q r
    unfold pushM Mxu.pushed
    rw [hn]
  refine ⟨fun t' ht' h1 h2 => ?_, fun q r hq => ?_⟩
  · rw [hr]
    by_cases he : t' = t
    · subst he; rw [if_pos ⟨rfl, rfl⟩]
    · rw [if_neg (fun e => by have := un_rg e; omega)]
      exact h.1 t' ht' h1 (by omega)
  · rw [hr, if_neg (hq t (by omega) (by omega))]
    exact h.2 q r fun t' h1 h2 => hq t' h1 (by omega)

theorem Reg.acc {lo hi : Nat} {m : Mxu F} (h : Reg W S lo hi m) (hl : lo < 84) (hw : hi ≤ lo + 4) : Reg W S (lo + 1) hi (accM X mk lo hl m) := by
  have hr : ∀ q r, (accM X mk lo hl m).reg q r = if q = un lo ∧ r = rg lo then none else m.reg q r := fun q r => rfl
  refine ⟨fun t' ht' h1 h2 => ?_, fun q r hq => ?_⟩
  · rw [hr, if_neg (fun e => by have := un_rg e; omega)]
    exact h.1 t' ht' (by omega) h2
  · rw [hr]
    split
    · rfl
    · next hne =>
      refine h.2 q r fun t' h1 h2 he => ?_
      by_cases e : t' = lo
      · subst e; exact hne he
      · exact hq t' (by omega) h2 he

theorem Reg.tiles : ∀ (r t : Nat) (h : t + r ≤ 82) (m : Mxu F), Reg W S t (t + 2) m → Low m →
    Reg W S (t + r) (t + r + 2) (tilesM W S X mk r t h m) ∧ Low (tilesM W S X mk r t h m)
  | 0, t, h, m, hr, hl => ⟨hr, hl⟩
  | r + 1, t, h, m, hr, hl => by
    have h1 : Reg W S t (t + 2 + 1) (pushM W S (t + 2) (by omega) m) := hr.push W S (by omega) (by omega) (by omega)
    have h2 : Reg W S (t + 1) (t + 1 + 2) (accM X mk t (by omega) (pushM W S (t + 2) (by omega) m)) := h1.acc W S X mk (by omega) (by omega)
    have h3 := Reg.tiles r (t + 1) (by omega) _ h2 ((hl.push W S _ _).acc X mk _ _)
    rw [show t + (r + 1) = t + 1 + r by omega]
    exact h3

theorem Reg.zero {m : Mxu F} (h : NoReg m) : Reg W S 0 0 m :=
  ⟨fun t _ _ h => absurd h (Nat.not_lt_zero _), fun q r _ => h q r⟩

theorem trip_reg {m : Mxu F} (h : NoReg m) (hl : Low m) : NoReg (tripM W S X mk m) ∧ Low (tripM W S X mk m) := by
  have h0 := Reg.zero W S h
  have h2 : Reg W S 0 2 (pushM W S 1 (by decide) (pushM W S 0 (by decide) m)) := (h0.push W S (by decide) (by decide) (by decide)).push W S (by decide) (by decide) (by decide)
  obtain ⟨h3, hl3⟩ := Reg.tiles W S X mk 82 0 (by decide) _ h2 ((hl.push W S _ _).push W S _ _)
  have h4 := (h3.acc W S X mk (by decide) (by decide)).acc W S X mk (by decide) (by decide)
  exact ⟨fun q r => h4.2 q r fun t h1 h2 => by omega, (hl3.acc X mk _ _).acc X mk _ _⟩

end Tile

theorem mxu0_reg : NoReg (mxu0 : Mxu F) := fun q r => rfl

theorem live_pop' (m : Mxu F) (q : Fin 2) (A : Nat) (h : Mxu.Fits A 64) (q' : Fin 2) (R : Fin 1024) :
    (m.pop q A 64 h).live q' R = if q' = q ∧ 4 * A ≤ R.val ∧ R.val < 4 * A + 64 then false else m.live q' R := rfl

theorem mxu0_live (q : Fin 2) (R : Fin 1024) : (mxu0 : Mxu F).live q R = false := by
  unfold mxu0
  simp only [live_pop', Mxu.live_init, ite_self]

theorem mxu0_low : Low (mxu0 : Mxu F) := fun q R _ => mxu0_live q R

/-- The units after the last pops. -/
abbrev popAll (m : Mxu F) : Mxu F := pop2 (pop2 (pop2 m 0 (by decide)) 1 (by decide)) 2 (by decide)

theorem drained {m : Mxu F} (h : NoReg m) (hl : Low m) : (popAll m).Drained := by
  refine ⟨fun q r => ?_, fun q R => ?_⟩
  · show (m.reg q r).isNone = true
    rw [h q r]; rfl
  · unfold popAll pop2
    simp only [live_pop']
    by_cases hR : 192 ≤ R.val
    · rw [hl q R hR]; simp
    · have hq : q = 0 ∨ q = 1 := by omega
      rcases hq with rfl | rfl <;> simp <;> omega

end Cert.KernelIdeal.Str
-- ==== Proof.Wp.lean ====
module

public import proofs.«01_k».proof.Proof.Mx

@[expose] public section

/-! The body's weakest precondition: the ring of slots through the scan and the expert loop, the two lists, the
quantiser and the write-back. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC)
open Idealize.ShloMosaic.Transfers Idealize.ShloMosaic.ValueIdx

variable {F : FTy → Type} [FloatOps F] [Facts]

/-! ## The lists in scalar memory -/

theorem emb33 (n : Nat) (h : n < 33) (x : S1.Idx) : (r33 n h).emb x = ix1 (n := 33) ⟨n, h⟩ := by
  funext a
  apply Fin.ext
  have h0 : (x 0).val = 0 := by have : (x 0).val < 1 := (x 0).isLt; omega
  match a with
  | ⟨0, _⟩ => show n + 1 * (x 0).val = n; omega

theorem emb32 (n : Nat) (h : n < 32) (x : S1.Idx) : (r32 n h).emb x = ix1 (n := 32) ⟨n, h⟩ := by
  funext a
  apply Fin.ext
  have h0 : (x 0).val = 0 := by have : (x 0).val < 1 := (x 0).isLt; omega
  match a with
  | ⟨0, _⟩ => show n + 1 * (x 0).val = n; omega

/-- Entry `n` of a list of 33 words. -/
def at33 (X : S33.Idx → BitVec 32) (n : Nat) : BitVec 32 := if h : n < 33 then X (ix1 (n := 33) ⟨n, h⟩) else 0#32

theorem at33_emb (X : S33.Idx → BitVec 32) (n : Nat) (h : n < 33) (x : S1.Idx) : X ((r33 n h).emb x) = at33 X n := by
  rw [emb33, at33, dif_pos h]

theorem at33_put (X : S33.Idx → BitVec 32) (n : Nat) (h : n < 33) (w : BitVec 32) (k : Nat) :
    at33 (putR (r33 n h) (fun _ => w) X) k = if k = n then w else at33 X k := by
  unfold at33
  by_cases hk : k < 33
  · rw [dif_pos hk]
    by_cases e : k = n
    · subst e
      rw [if_pos rfl, ← emb33 k h (fun a => ⟨0, by match a with | ⟨0, _⟩ => exact Nat.one_pos⟩), putR_emb]
    · rw [if_neg e, dif_pos hk, putR_of_not]
      intro x
      rw [emb33]
      intro he
      exact e (congrArg Fin.val (congrFun he 0)).symm
  · rw [dif_neg hk, if_neg (by omega), dif_neg hk]

section Gen
variable (c : Dev nD) {α : Type} {Q : α → sProp (Res F)}

theorem step_at33 (arg : Memref sig .tc .smem S33 .i32) (n : Nat) (h : n < 33) {X : S33.Idx → BitVec 32}
    {k : BitVec 32 → Prog (TpuEff nD τ sig (Elt F) Λ₀ .tc) α} :
    Own c arg (F := F) X ⊢ iprop((Own c arg (F := F) X -∗ Wp c (k (at33 X n)) Q) -∗ Wp c (smemLoad arg (r33 n h) numel1_S1 rfl >>= k) Q) := by
  rw [← at33_emb X n h (Shape.Idx.first (numel1_S1.symm ▸ Nat.one_pos))]
  exact step_smem c

theorem wp_note (arg9 arg10 : Memref sig .tc .smem S33 .i32) (n : Nat) (hn : n < 33) (e r : BitVec 32) (X9 X10 : S33.Idx → BitVec 32)
    {Q : PUnit → sProp (Res F)} :
    iprop(Own c arg9 (F := F) X9 ∗ Own c arg10 (F := F) X10)
      ⊢ iprop((iprop(Own c arg9 (F := F) (putR (r33 n hn) (fun _ => e) X9) ∗ Own c arg10 (F := F) (putR (r33 n hn) (fun _ => r) X10)) -∗ Q ⟨⟩)
        -∗ Wp c (note arg9 arg10 n hn e r) Q) := by
  iintro ⟨H9, H10⟩ HK
  unfold note
  iapply (step_at33 c arg9 n hn) $$ H9
  iintro H9
  iapply (step_store c) $$ H9
  iintro H9
  iapply (step_at33 c arg10 n hn) $$ H10
  iintro H10
  iapply (step_store c) $$ H10
  iintro H10
  iapply (step_pure c)
  iapply HK
  isplitl [H9] <;> iassumption

/-! ## The quantiser -/

/-- A store that ends a piece. -/
theorem step_store0 {cs : CoreSpace} {s : Shape} {e : EltTy} {m : Memref sig .tc cs s e} {r : Rect s} {w : r.shape.Idx → Elt F e}
    {hx : (m.access r).Stores Finset.univ} {hm} {X : s.Idx → Elt F e} {Q : PUnit → sProp (Res F)} :
    Own c m X ⊢ iprop((Own c m (putR r w X) -∗ Q ⟨⟩) -∗ Wp c (Prog.lift (.store m r w Finset.univ hx hm)) Q) := by
  iintro H HK
  rw [show (Prog.lift (.store m r w Finset.univ hx hm) : Prog (TpuEff nD τ sig (Elt F) Λ₀ .tc) PUnit)
    = Prog.lift (.store m r w Finset.univ hx hm) >>= fun u => pure u from rfl]
  iapply (step_store c) $$ H
  iintro H
  iapply (step_pure c)
  iapply HK
  iexact H

/-- The copy after blocks `k`, …, `k + n - 1`. -/
def quantM (X5 : S64x7168.Idx → Elt F .bf16) : (n k : Nat) → k + n ≤ 56 → (S64x7168.Idx → Elt F .bf16) → (S64x7168.Idx → Elt F .bf16)
  | 0, _, _, Y => Y
  | n + 1, k, h, Y => quantM X5 n (k + 1) (by omega)
      (putR (rX k (by omega)) (shapeCast S64x128 (qBlk fun x => X5 ((rX k (by omega)).emb x)) shapeCasts_S64x128_S64x128) Y)

theorem wp_quant (arg5 arg6 : Memref sig .tc .vmem S64x7168 .bf16) (harg6 : arg6.IsWhole) (X5 : S64x7168.Idx → Elt F .bf16) {Q : PUnit → sProp (Res F)} :
    ∀ (n k : Nat) (h : k + n ≤ 56) (Y : S64x7168.Idx → Elt F .bf16),
    iprop(Own c arg5 X5 ∗ Own c arg6 Y) ⊢ iprop((iprop(Own c arg5 X5 ∗ Own c arg6 (quantM X5 n k h Y)) -∗ Q ⟨⟩) -∗ Wp c (quant arg5 arg6 harg6 n k h) Q)
  | 0, k, h, Y => by
    iintro H HK
    iapply (step_pure c)
    iapply HK
    unfold quantM
    iexact H
  | n + 1, k, h, Y => by
    iintro ⟨H5, H6⟩ HK
    unfold quant qStep quantM
    rw [wp_bind']
    iapply (step_load c) $$ H5
    iintro H5
    iapply (step_load c) $$ H6
    iintro H6
    iapply (step_store0 c) $$ H6
    iintro H6
    iapply (wp_quant arg5 arg6 harg6 X5 n (k + 1) _ _) $$ [H5 H6]
    · isplitl [H5] <;> iassumption
    iexact HK

end Gen

section Slots
variable (c : Dev nD) (arg2 : Memref sig .tc .hbm S32x3584x768 .i8) (harg2 : arg2.IsWhole) (arg3 : Memref sig .tc .hbm S32x56x768 .f32)
  (arg6 : Memref sig .tc .vmem S64x7168 .bf16) (arg7 : Memref sig .tc .vmem S4x3584x768 .i8) (harg7 : arg7.IsWhole)
  (arg8 : Memref sig .tc .vmem S4x56x768 .f32) (arg9 arg10 : Memref sig .tc .smem S33 .i32) (arg12 : DmaSems sig S4) (arg13 : DmaSems sig S4)
  (f2 : Buf (Elt F) (arg2.view.loc (c.tc : Thread nD τ))) (f3 : Buf (Elt F) (arg3.view.loc (c.tc : Thread nD τ)))

/-- A slot: idle, or with an expert under way. -/
def Slot (n : Nat) (hn : n < 4) : Option Nat → sProp (Res F)
  | none => Idle c arg2 arg3 arg7 arg8 arg12 arg13 f2 f3 n hn
  | some e => iprop(∃ he : e < 32, Fly c arg2 arg3 arg7 arg8 arg12 arg13 f2 f3 n hn e he)

/-- The four slots. -/
def Ring (st : Nat → Option Nat) : sProp (Res F) :=
  iprop(Slot c arg2 arg3 arg7 arg8 arg12 arg13 f2 f3 0 (by decide) (st 0) ∗ Slot c arg2 arg3 arg7 arg8 arg12 arg13 f2 f3 1 (by decide) (st 1)
    ∗ Slot c arg2 arg3 arg7 arg8 arg12 arg13 f2 f3 2 (by decide) (st 2) ∗ Slot c arg2 arg3 arg7 arg8 arg12 arg13 f2 f3 3 (by decide) (st 3))

theorem Ring_congr {st st' : Nat → Option Nat} (h : ∀ n < 4, st n = st' n) :
    Ring c arg2 arg3 arg7 arg8 arg12 arg13 f2 f3 st = Ring c arg2 arg3 arg7 arg8 arg12 arg13 f2 f3 st' := by
  unfold Ring
  rw [h 0 (by decide), h 1 (by decide), h 2 (by decide), h 3 (by decide)]

theorem Ring_take (st st' : Nat → Option Nat) (n : Nat) (hn : n < 4) (h : ∀ k < 4, k ≠ n → st k = st' k) :
    Ring c arg2 arg3 arg7 arg8 arg12 arg13 f2 f3 st
      ⊢ iprop(Slot c arg2 arg3 arg7 arg8 arg12 arg13 f2 f3 n hn (st n)
        ∗ (Slot c arg2 arg3 arg7 arg8 arg12 arg13 f2 f3 n hn (st' n) -∗ Ring c arg2 arg3 arg7 arg8 arg12 arg13 f2 f3 st')) := by
  unfold Ring
  match n, hn with
  | 0, _ =>
    rw [h 1 (by decide) (by decide), h 2 (by decide) (by decide), h 3 (by decide) (by decide)]
    iintro ⟨A, B, C, D⟩
    isplitl [A]; · iexact A
    iintro A
    isplitl [A]; · iexact A
    isplitl [B]; · iexact B
    isplitl [C]; · iexact C
    iexact D
  | 1, _ =>
    rw [h 0 (by decide) (by decide), h 2 (by decide) (by decide), h 3 (by decide) (by decide)]
    iintro ⟨A, B, C, D⟩
    isplitl [B]; · iexact B
    iintro B
    isplitl [A]; · iexact A
    isplitl [B]; · iexact B
    isplitl [C]; · iexact C
    iexact D
  | 2, _ =>
    rw [h 0 (by decide) (by decide), h 1 (by decide) (by decide), h 3 (by decide) (by decide)]
    iintro ⟨A, B, C, D⟩
    isplitl [C]; · iexact C
    iintro C
    isplitl [A]; · iexact A
    isplitl [B]; · iexact B
    isplitl [C]; · iexact C
    iexact D
  | 3, _ =>
    rw [h 0 (by decide) (by decide), h 1 (by decide) (by decide), h 2 (by decide) (by decide)]
    iintro ⟨A, B, C, D⟩
    isplitl [D]; · iexact D
    iintro D
    isplitl [A]; · iexact A
    isplitl [B]; · iexact B
    isplitl [C]; · iexact C
    iexact D

/-- What the two waits of a slot bring back. -/
def Ready (n : Nat) (hn : n < 4) (e : Nat) (he : e < 32) : sProp (Res F) :=
  iprop(Held c arg7 arg8 n hn (w2 c arg2 f2 e he) (w3 c arg3 f3 e he)
    ∗ semVal ((c.tc : Thread nD τ), smS arg12 n hn) 0 ∗ semVal ((c.tc : Thread nD τ), smS arg13 n hn) 0
    ∗ (arg2.view.loc (c.tc : Thread nD τ) ↦[arg2.view.set]{qs n} f2) ∗ (arg3.view.loc (c.tc : Thread nD τ) ↦[arg3.view.set]{qs n} f3))

/-- A trip up to its refill. -/
theorem wp_tripA (i : BitVec 32) (h : TripOk i) (e : Nat) (he : e < 32) (X9 X10 : S33.Idx → BitVec 32) (X : S64x7168.Idx → Elt F .bf16)
    (h9 : at33 X9 (Scalar.indexCast i).toNat = BitVec.ofNat 32 e) (m : Mxu F) (hm : NoReg m) (hlo : Low m) {Q : Mxu F → sProp (Res F)} :
    iprop(Fly c arg2 arg3 arg7 arg8 arg12 arg13 f2 f3 (slotW i).toNat h.slot e he ∗ Own c arg9 (F := F) X9 ∗ Own c arg10 (F := F) X10 ∗ Own c arg6 X
        ∗ (∃ W, owes (c.tc : Thread nD τ) 0 W))
      ⊢ iprop((iprop(Idle c arg2 arg3 arg7 arg8 arg12 arg13 f2 f3 (slotW i).toNat h.slot ∗ Own c arg9 (F := F) X9 ∗ Own c arg10 (F := F) X10 ∗ Own c arg6 X
          ∗ (∃ W, owes (c.tc : Thread nD τ) 0 W)) -∗
          Q (tripM (w2 c arg2 f2 e he) (w3 c arg3 f3 e he) X (mine (at33 X10 (Scalar.indexCast i).toNat) (at33 X10 (Scalar.indexCast (Scalar.addi i 1#32)).toNat)) m))
        -∗ Wp c (tripA arg2 harg2 arg3 arg6 arg7 harg7 arg8 arg9 arg10 arg12 arg13 i h m) Q) := by
  unfold Fly
  iintro ⟨⟨F7, R2, F8, R3⟩, H9, H10, H6, HO⟩ HK
  unfold tripA
  iapply (step_at33 c arg9 _ h.at0) $$ H9
  iintro H9
  rw [h9]
  have hid : (BitVec.ofNat 32 e).toNat < 32 := by rw [toNat_small] <;> omega
  iapply (step_assume c (chk32_ok hid))
  iapply (step_wait c rfl) $$ [F7 HO]
  · isplitl [F7] <;> iassumption
  iintro ⟨⟨H7, S2⟩, V12, HO⟩
  iapply (step_wait c rfl) $$ [F8 HO]
  · isplitl [F8] <;> iassumption
  iintro ⟨⟨H8, S3⟩, V13, HO⟩
  iapply (step_at33 c arg10 _ h.at0) $$ H10
  iintro H10
  iapply (step_at33 c arg10 _ h.at1) $$ H10
  iintro H10
  rw [wp_bind']
  iapply (wp_pushT c arg7 arg8 (slotW i).toNat h.slot 0 _ m hm.nt (w2 c arg2 f2 e he) (w3 c arg3 f3 e he)) $$ [H7 H8]
  · isplitl [H7] <;> iassumption
  iintro HW
  rw [wp_bind']
  iapply (wp_pushT c arg7 arg8 (slotW i).toNat h.slot 1 _ _ (hm.nt.push _ _ _ _) (w2 c arg2 f2 e he) (w3 c arg3 f3 e he)) $$ HW
  iintro HW
  rw [wp_bind']
  iapply (wp_tiles c arg6 arg7 arg8 (slotW i).toNat h.slot _ (w2 c arg2 f2 e he) (w3 c arg3 f3 e he) X 82 0 _ _ ((hm.nt.push _ _ _ _).push _ _ _ _)) $$ [HW H6]
  · isplitl [HW] <;> iassumption
  iintro ⟨⟨H7, H8⟩, H6, %hnt⟩
  rw [wp_bind']
  iapply (wp_accT c arg6 _ 82 _ _ X) $$ H6
  iintro H6
  iapply (wp_accT c arg6 _ 83 _ _ X) $$ H6
  iintro H6
  unfold tripM
  iapply HK
  isplitl [V12 V13 H7 H8 S2 R2 S3 R3]
  · unfold Idle
    isplitl [V12]; · iexact V12
    isplitl [V13]; · iexact V13
    isplitl [H7]; · iexists (w2 c arg2 f2 e he); iexact H7
    isplitl [H8]; · iexists (w3 c arg3 f3 e he); iexact H8
    isplitl [S2 R2]
    · iapply (pointsTo_split_subset (ex2_sub arg2 e he)).2
      isplitl [S2] <;> iassumption
    · iapply (pointsTo_split_subset (ex3_sub arg3 e he)).2
      isplitl [S3] <;> iassumption
  isplitl [H9]; · iexact H9
  isplitl [H10]; · iexact H10
  isplitl [H6]; · iexact H6
  iexact HO

end Slots

end Cert.KernelIdeal.Str
-- ==== Proof.Wp2.lean ====
module

public import proofs.«01_k».proof.Proof.Wp

@[expose] public section

/-! The body's weakest precondition, assembled: scan, quantiser, expert loop, write-back. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC)
open Idealize.ShloMosaic.Transfers Idealize.ShloMosaic.ValueIdx

variable {F : FTy → Type} [FloatOps F] [Facts]

/-- The group sizes, by expert. -/
def gOf (G : S32.Idx → BitVec 32) (e : Nat) : BitVec 32 := if h : e < 32 then G (ix1 (n := 32) ⟨e, h⟩) else 0#32

/-- The first row of the `k`-th nonempty expert; past the last, the number of rows. -/
def startOf (g : Nat → BitVec 32) (k : Nat) : BitVec 32 := if k < cnt g 32 then rowW g (idOf g k) else rowW g 32

/-- What the two lists hold once the experts before `e` are scanned. -/
def Listed (g : Nat → BitVec 32) (e : Nat) (X9 X10 : S33.Idx → BitVec 32) : Prop :=
  ∀ e' < e, pos (g e') → at33 X9 (cnt g e') = BitVec.ofNat 32 e' ∧ at33 X10 (cnt g e') = rowW g e'

theorem Listed.skip {g : Nat → BitVec 32} {e : Nat} {X9 X10 : S33.Idx → BitVec 32} (h : Listed g e X9 X10) (hp : ¬ pos (g e)) : Listed g (e + 1) X9 X10 := by
  intro e' he' hp'
  rcases Nat.lt_or_eq_of_le (Nat.le_of_lt_succ he') with l | rfl
  · exact h e' l hp'
  · exact absurd hp' hp

theorem Listed.put {g : Nat → BitVec 32} {e : Nat} {X9 X10 : S33.Idx → BitVec 32} (h : Listed g e X9 X10) (n : Nat) (hn : n < 33) (hc : n = cnt g e) :
    Listed g (e + 1) (putR (r33 n hn) (fun _ => BitVec.ofNat 32 e) X9) (putR (r33 n hn) (fun _ => rowW g e) X10) := by
  intro e' he' hp'
  rw [at33_put, at33_put]
  rcases Nat.lt_or_eq_of_le (Nat.le_of_lt_succ he') with l | rfl
  · have := cnt_lt g l hp'
    rw [if_neg (by omega), if_neg (by omega)]
    exact h e' l hp'
  · rw [if_pos hc.symm, if_pos hc.symm]; exact ⟨rfl, rfl⟩

/-- The slots once the experts before `e` are scanned. -/
def stP (g : Nat → BitVec 32) (e n : Nat) : Option Nat := if n < cnt g e then some (idOf g n) else none
/-- The slots before trip `k`. -/
def stL (g : Nat → BitVec 32) (k n : Nat) : Option Nat :=
  if k + (n + 3 * k) % 4 < cnt g 32 then some (idOf g (k + (n + 3 * k) % 4)) else none

theorem cnt_succ_pos {g : Nat → BitVec 32} {e : Nat} (h : pos (g e)) : cnt g (e + 1) = cnt g e + 1 := by
  show cnt g e + _ = _; rw [if_pos h]
theorem cnt_succ_neg {g : Nat → BitVec 32} {e : Nat} (h : ¬ pos (g e)) : cnt g (e + 1) = cnt g e := by
  show cnt g e + _ = _; rw [if_neg h]; rfl

section Slots
variable (c : Dev nD) (arg2 : Memref sig .tc .hbm S32x3584x768 .i8) (harg2 : arg2.IsWhole) (arg3 : Memref sig .tc .hbm S32x56x768 .f32)
  (arg4 : Memref sig .tc .vmem S64x768 .bf16) (harg4 : arg4.IsWhole)
  (arg6 : Memref sig .tc .vmem S64x7168 .bf16) (arg7 : Memref sig .tc .vmem S4x3584x768 .i8) (harg7 : arg7.IsWhole)
  (arg8 : Memref sig .tc .vmem S4x56x768 .f32) (arg9 arg10 : Memref sig .tc .smem S33 .i32) (arg12 : DmaSems sig S4) (arg13 : DmaSems sig S4)
  (f2 : Buf (Elt F) (arg2.view.loc (c.tc : Thread nD τ))) (f3 : Buf (Elt F) (arg3.view.loc (c.tc : Thread nD τ)))

/-- The state once the experts before `e` are scanned. -/
def Pro (g : Nat → BitVec 32) (e : Nat) : sProp (Res F) :=
  iprop(∃ X9 X10, Own c arg9 (F := F) X9 ∗ Own c arg10 (F := F) X10 ∗ ⌜Listed g e X9 X10⌝ ∗ Ring c arg2 arg3 arg7 arg8 arg12 arg13 f2 f3 (stP g e))

variable {α : Type} {Q : α → sProp (Res F)}

theorem wp_ifB (g : Nat → BitVec 32) (e : Nat) (he : e < 32) (cc w : BitVec 32) (hw : gchk cc w) (hc : cc = BitVec.ofNat 32 (cnt g e)) (hwg : w = g e)
    (K : Prog (TpuEff nD τ sig (Elt F) Λ₀ .tc) α) :
    Ring c arg2 arg3 arg7 arg8 arg12 arg13 f2 f3 (stP g e)
      ⊢ iprop((Ring c arg2 arg3 arg7 arg8 arg12 arg13 f2 f3 (stP g (e + 1)) -∗ Wp c K Q)
        -∗ Wp c (ifB arg2 harg2 arg3 arg7 harg7 arg8 arg12 arg13 cc w hw e he K) Q) := by
  have hle := cnt_le g e
  have hn : cc.toNat = cnt g e := by rw [hc]; exact toNat_small (by omega)
  unfold ifB
  by_cases hB : cB cc w = 1#1
  · have hB' := hB
    rw [hc, hwg, cB_iff _ (by omega)] at hB'
    rw [dif_pos hB]
    iintro HR HK
    ihave HR := (Ring_take c arg2 arg3 arg7 arg8 arg12 arg13 f2 f3 (stP g e) (stP g (e + 1)) cc.toNat (of_inb4 (hw.2.1 hB)) ?_) $$ HR
    · intro k hk hne
      unfold stP
      rw [cnt_succ_pos hB'.1]
      by_cases h : k < cnt g e
      · rw [if_pos h, if_pos (by omega)]
      · rw [if_neg h, if_neg (by omega)]
    icases HR with ⟨HI, HR⟩
    have e1 : stP g e cc.toNat = none := by unfold stP; rw [if_neg (by omega)]
    have e2 : stP g (e + 1) cc.toNat = some e := by
      unfold stP
      rw [cnt_succ_pos hB'.1, if_pos (by omega), hn, idOf_cnt g he hB'.1]
    rw [e1, e2]
    unfold Slot
    rw [wp_bind']
    iapply (wp_issue c arg2 harg2 arg3 arg7 harg7 arg8 arg12 arg13 f2 f3 cc.toNat _ e he) $$ HI
    iintro HF
    iapply HK
    iapply HR
    iexists he
    iexact HF
  · rw [dif_neg hB]
    rw [Ring_congr c arg2 arg3 arg7 arg8 arg12 arg13 f2 f3 (st := stP g e) (st' := stP g (e + 1)) ?_]
    · iintro HR HK
      iapply HK
      iexact HR
    · intro k hk
      rw [hc, hwg, cB_iff _ (by omega)] at hB
      unfold stP
      by_cases hp : pos (g e)
      · rw [cnt_succ_pos hp]
        have : ¬ cnt g e < 4 := fun h => hB ⟨hp, h⟩
        rw [if_pos (by omega), if_pos (by omega)]
      · rw [cnt_succ_neg hp]

theorem Fly_slot (n : Nat) (hn : n < 4) (e e' : Nat) (he' : e' < 32) (h : e' = e) :
    Fly c arg2 arg3 arg7 arg8 arg12 arg13 f2 f3 n hn e' he' ⊢ Slot c arg2 arg3 arg7 arg8 arg12 arg13 f2 f3 n hn (some e) := by
  subst h
  unfold Slot
  iintro H
  iexists he'
  iexact H

theorem wp_ifA (g : Nat → BitVec 32) (e : Nat) (he : e < 32) (cc r w : BitVec 32) (hw : gchk cc w) (hc : cc = BitVec.ofNat 32 (cnt g e))
    (hr : r = rowW g e) (hwg : w = g e) (K : Prog (TpuEff nD τ sig (Elt F) Λ₀ .tc) α) :
    Pro c arg2 arg3 arg7 arg8 arg9 arg10 arg12 arg13 f2 f3 g e
      ⊢ iprop((Pro c arg2 arg3 arg7 arg8 arg9 arg10 arg12 arg13 f2 f3 g (e + 1) -∗ Wp c K Q)
        -∗ Wp c (ifA arg9 arg10 cc r w hw e (ifB arg2 harg2 arg3 arg7 harg7 arg8 arg12 arg13 cc w hw e he K)) Q) := by
  have hle := cnt_le g e
  have hn : (Scalar.indexCast cc).toNat = cnt g e := by rw [hc]; exact toNat_small (by omega)
  unfold Pro
  iintro ⟨%X9, %X10, H9, H10, %hL, HR⟩ HK
  unfold ifA
  by_cases hA : cA w = 1#1
  · rw [dif_pos hA, wp_bind']
    iapply (wp_note c arg9 arg10 _ _ _ _ X9 X10) $$ [H9 H10]
    · isplitl [H9] <;> iassumption
    iintro ⟨H9, H10⟩
    iapply (wp_ifB c arg2 harg2 arg3 arg7 harg7 arg8 arg12 arg13 f2 f3 g e he cc w hw hc hwg K) $$ HR
    iintro HR
    iapply HK
    iexists (putR (r33 (Scalar.indexCast cc).toNat (of_inb33 (hw.1 hA))) (fun _ => BitVec.ofNat 32 e) X9)
    iexists (putR (r33 (Scalar.indexCast cc).toNat (of_inb33 (hw.1 hA))) (fun _ => r) X10)
    isplitl [H9]; · iexact H9
    isplitl [H10]; · iexact H10
    isplitr
    · ipureintro
      rw [hr]
      exact hL.put _ _ hn
    iexact HR
  · rw [dif_neg hA]
    iapply (wp_ifB c arg2 harg2 arg3 arg7 harg7 arg8 arg12 arg13 f2 f3 g e he cc w hw hc hwg K) $$ HR
    iintro HR
    iapply HK
    iexists X9
    iexists X10
    isplitl [H9]; · iexact H9
    isplitl [H10]; · iexact H10
    isplitr
    · ipureintro
      rw [cA_iff, hwg] at hA
      exact hL.skip hA
    iexact HR

theorem step_at32 (arg : Memref sig .tc .smem S32 .i32) (e : Nat) (h : e < 32) {G : S32.Idx → BitVec 32}
    {k : BitVec 32 → Prog (TpuEff nD τ sig (Elt F) Λ₀ .tc) α} :
    Own c arg (F := F) G ⊢ iprop((Own c arg (F := F) G -∗ Wp c (k (gOf G e)) Q) -∗ Wp c (smemLoad arg (r32 e h) numel1_S1 rfl >>= k) Q) := by
  have : gOf G e = G ((r32 e h).emb (Shape.Idx.first (numel1_S1.symm ▸ Nat.one_pos))) := by rw [emb32, gOf, dif_pos h]
  rw [this]
  exact step_smem c

theorem wp_scan (arg0 : Memref sig .tc .smem S32 .i32) (G : S32.Idx → BitVec 32) (K : List (BitVec 32) → Prog (TpuEff nD τ sig (Elt F) Λ₀ .tc) α) :
    ∀ (n e : Nat) (h : e + n = 31) (v : List (BitVec 32)) (hv : v = pre (gOf G) e),
    iprop(Own c arg0 (F := F) G ∗ Pro c arg2 arg3 arg7 arg8 arg9 arg10 arg12 arg13 f2 f3 (gOf G) e)
      ⊢ iprop((iprop(Own c arg0 (F := F) G ∗ Pro c arg2 arg3 arg7 arg8 arg9 arg10 arg12 arg13 f2 f3 (gOf G) 31) -∗ Wp c (K (pre (gOf G) 31)) Q)
        -∗ Wp c (scan arg0 arg2 harg2 arg3 arg7 harg7 arg8 arg9 arg10 arg12 arg13 K n e h v) Q)
  | 0, e, h, v, hv => by
    obtain rfl : e = 31 := by omega
    subst hv
    iintro H HK
    unfold scan
    iapply HK
    iexact H
  | n + 1, e, h, v, hv => by
    subst hv
    iintro ⟨H0, HP⟩ HK
    unfold scan ld
    iapply (step_at32 c arg0 e _) $$ H0
    iintro H0
    iapply (step_assume c (P := gchk (cntW (lst (pre (gOf G) e)) e) (gOf G e)) (by rw [cntW_pre _ (Nat.le_refl e)]; exact gchk_ok _ (by have := cnt_le (gOf G) e; omega) _))
    iapply (wp_ifA c arg2 harg2 arg3 arg7 harg7 arg8 arg9 arg10 arg12 arg13 f2 f3 (gOf G) e _ _ _ _ _ (cntW_pre _ (Nat.le_refl e)) (rowW_pre _ (Nat.le_refl e)) rfl _) $$ HP
    iintro HP
    iapply (wp_scan arg0 G K n (e + 1) _ _ (pre_succ (gOf G) e)) $$ [H0 HP]
    · isplitl [H0] <;> iassumption
    iexact HK

/-! ## The loop -/

/-- The matrix units before trip `k`. -/
def mAt (g : Nat → BitVec 32) (X : S64x7168.Idx → Elt F .bf16) : Nat → Mxu F
  | 0 => mxu0
  | k + 1 => tripM (w2 c arg2 f2 (idOf g k) (idOf_lt g k)) (w3 c arg3 f3 (idOf g k) (idOf_lt g k)) X (mine (startOf g k) (startOf g (k + 1))) (mAt g X k)

theorem mAt_reg (g : Nat → BitVec 32) (X : S64x7168.Idx → Elt F .bf16) : ∀ k, NoReg (mAt c arg2 arg3 f2 f3 g X k) ∧ Low (mAt c arg2 arg3 f2 f3 g X k)
  | 0 => ⟨mxu0_reg, mxu0_low⟩
  | k + 1 => trip_reg _ _ _ _ (mAt_reg g X k).1 (mAt_reg g X k).2

/-- What the loop finds in the lists. -/
structure Lists (g : Nat → BitVec 32) (X9 X10 : S33.Idx → BitVec 32) : Prop where
  ids : ∀ k < cnt g 32, at33 X9 k = BitVec.ofNat 32 (idOf g k)
  starts : ∀ k ≤ cnt g 32, at33 X10 k = startOf g k

theorem Lists.of {g : Nat → BitVec 32} {X9 X10 : S33.Idx → BitVec 32} (h : Listed g 32 X9 X10) (n : Nat) (hn : n < 33) (hc : n = cnt g 32) :
    Lists g X9 (putR (r33 n hn) (fun _ => rowW g 32) X10) where
  ids k hk := by
    obtain ⟨hp, hcn⟩ := idOf_spec g hk
    have := (h _ (idOf_lt g k) hp).1
    rwa [hcn] at this
  starts k hk := by
    rw [at33_put]
    unfold startOf
    by_cases e : k = n
    · rw [if_pos e, if_neg (by omega)]
    · rw [if_neg e, if_pos (by omega)]
      obtain ⟨hp, hcn⟩ := idOf_spec g (j := k) (by omega)
      have := (h _ (idOf_lt g k) hp).2
      rwa [hcn] at this

/-- The state before trip `k`, but for the units. -/
def Lp (g : Nat → BitVec 32) (X9 X10 : S33.Idx → BitVec 32) (X : S64x7168.Idx → Elt F .bf16) (k : Nat) : sProp (Res F) :=
  iprop(Own c arg9 (F := F) X9 ∗ Own c arg10 (F := F) X10 ∗ Own c arg6 X ∗ Ring c arg2 arg3 arg7 arg8 arg12 arg13 f2 f3 (stL g k)
    ∗ (∃ W, owes (c.tc : Thread nD τ) 0 W))

theorem wp_trip (g : Nat → BitVec 32) (X9 X10 : S33.Idx → BitVec 32) (X : S64x7168.Idx → Elt F .bf16) (hL : Lists g X9 X10) (k : Nat) (hk : k < cnt g 32)
    (cc i : BitVec 32) (hcc : cc = BitVec.ofNat 32 (cnt g 32)) (hi : i = BitVec.ofNat 32 k) (h : TripOk i)
    (h4 : cC i cc = 1#1 → (Scalar.indexCast (Scalar.addi i 4#32)).toNat < 33) (m : Mxu F) (hm : m = mAt c arg2 arg3 f2 f3 g X k) {Q : Mxu F → sProp (Res F)} :
    Lp c arg2 arg3 arg6 arg7 arg8 arg9 arg10 arg12 arg13 f2 f3 g X9 X10 X k
      ⊢ iprop((Lp c arg2 arg3 arg6 arg7 arg8 arg9 arg10 arg12 arg13 f2 f3 g X9 X10 X (k + 1) -∗ Q (mAt c arg2 arg3 f2 f3 g X (k + 1)))
        -∗ Wp c (trip arg2 harg2 arg3 arg6 arg7 harg7 arg8 arg9 arg10 arg12 arg13 cc i h h4 m) Q) := by
  have hle := cnt_le g 32
  have hn : (slotW i).toNat = k % 4 := by rw [hi]; exact slotW_eq k (by omega)
  have hat : (Scalar.indexCast i).toNat = k := by rw [hi]; exact toNat_small (by omega)
  have hat1 : (Scalar.indexCast (Scalar.addi i 1#32)).toNat = k + 1 := by
    rw [hi]
    show (Scalar.addi (BitVec.ofNat 32 k) (BitVec.ofNat 32 1)).toNat = _
    rw [addi_small, toNat_small] <;> omega
  have hat4 : (Scalar.indexCast (Scalar.addi i 4#32)).toNat = k + 4 := by
    rw [hi]
    show (Scalar.addi (BitVec.ofNat 32 k) (BitVec.ofNat 32 4)).toNat = _
    rw [addi_small, toNat_small] <;> omega
  have e1 : stL g k (slotW i).toNat = some (idOf g k) := by
    have : k + ((slotW i).toNat + 3 * k) % 4 = k := by rw [hn]; omega
    unfold stL
    rw [this, if_pos hk]
  have e2 : stL g (k + 1) (slotW i).toNat = if k + 4 < cnt g 32 then some (idOf g (k + 4)) else none := by
    have : k + 1 + ((slotW i).toNat + 3 * (k + 1)) % 4 = k + 4 := by rw [hn]; omega
    unfold stL
    rw [this]
  unfold Lp
  iintro ⟨H9, H10, H6, HR, HO⟩ HK
  ihave HR := (Ring_take c arg2 arg3 arg7 arg8 arg12 arg13 f2 f3 (stL g k) (stL g (k + 1)) (slotW i).toNat h.slot ?_) $$ HR
  · intro n hn4 hne
    have : k + 1 + (n + 3 * (k + 1)) % 4 = k + (n + 3 * k) % 4 := by omega
    unfold stL
    rw [this]
  icases HR with ⟨HS, HR⟩
  rw [e1, e2]
  unfold trip
  rw [wp_bind']
  unfold Slot
  icases HS with ⟨%he, HF⟩
  obtain ⟨hreg, hlow⟩ := mAt_reg c arg2 arg3 f2 f3 g X k
  rw [← hm] at hreg hlow
  iapply (wp_tripA c arg2 harg2 arg3 arg6 arg7 harg7 arg8 arg9 arg10 arg12 arg13 f2 f3 i h (idOf g k) he X9 X10 X (by rw [hat]; exact hL.ids k hk) m hreg hlow) $$ [HF H9 H10 H6 HO]
  · isplitl [HF]; · iexact HF
    isplitl [H9]; · iexact H9
    isplitl [H10]; · iexact H10
    isplitl [H6]; · iexact H6
    iexact HO
  iintro ⟨HI, H9, H10, H6, HO⟩
  rw [hat, hat1, hL.starts k (by omega), hL.starts (k + 1) (by omega), hm,
    show tripM (w2 c arg2 f2 (idOf g k) he) (w3 c arg3 f3 (idOf g k) he) X (mine (startOf g k) (startOf g (k + 1))) (mAt c arg2 arg3 f2 f3 g X k)
      = mAt c arg2 arg3 f2 f3 g X (k + 1) from rfl]
  by_cases hC : cC i cc = 1#1
  · have hC' := hC
    rw [hi, hcc, cC_iff k _ (by omega) (by omega)] at hC'
    rw [dif_pos hC]
    iapply (step_at33 c arg9 _ (h4 hC)) $$ H9
    iintro H9
    have hid : at33 X9 (Scalar.indexCast (Scalar.addi i 4#32)).toNat = BitVec.ofNat 32 (idOf g (k + 4)) := by rw [hat4]; exact hL.ids _ hC'
    rw [hid]
    have hlt := idOf_lt g (k + 4)
    have hto : (BitVec.ofNat 32 (idOf g (k + 4))).toNat = idOf g (k + 4) := toNat_small (by omega)
    iapply (step_assume c (inb32Wi hlt i cc _ hto))
    rw [wp_bind']
    iapply (wp_issue c arg2 harg2 arg3 arg7 harg7 arg8 arg12 arg13 f2 f3 (slotW i).toNat h.slot _ _) $$ HI
    iintro HF
    iapply (step_pure c (mAt c arg2 arg3 f2 f3 g X (k + 1)))
    iapply HK
    isplitl [H9]; · iexact H9
    isplitl [H10]; · iexact H10
    isplitl [H6]; · iexact H6
    isplitr [HO]
    · iapply HR
      rw [if_pos hC']
      ihave HF := (Fly_slot c arg2 arg3 arg7 arg8 arg12 arg13 f2 f3 (slotW i).toNat h.slot (idOf g (k + 4)) _ _ hto) $$ HF
      unfold Slot
      iexact HF
    iexact HO
  · rw [dif_neg hC]
    iapply (step_pure c (mAt c arg2 arg3 f2 f3 g X (k + 1)))
    iapply HK
    isplitl [H9]; · iexact H9
    isplitl [H10]; · iexact H10
    isplitl [H6]; · iexact H6
    isplitr [HO]
    · iapply HR
      rw [hi, hcc, cC_iff k _ (by omega) (by omega)] at hC
      rw [if_neg hC]
      iexact HI
    iexact HO

/-- What is written, off the units. -/
def outV (m : Mxu F) (Y : S64x768.Idx → Elt F .bf16) : S64x768.Idx → Elt F .bf16 :=
  putR (rO 2 (by decide)) (outT (pop2 (pop2 m 0 (by decide)) 1 (by decide)) 2 (by decide))
    (putR (rO 1 (by decide)) (outT (pop2 m 0 (by decide)) 1 (by decide)) (putR (rO 0 (by decide)) (outT m 0 (by decide)) Y))

theorem wp_outS (m : Mxu F) (nt : Nat) (h : nt < 3) (Y : S64x768.Idx → Elt F .bf16) {k : PUnit → Prog (TpuEff nD τ sig (Elt F) Λ₀ .tc) α} :
    Own c arg4 Y ⊢ iprop((Own c arg4 (putR (rO nt h) (outT m nt h) Y) -∗ Wp c (k ⟨⟩) Q) -∗ Wp c (outS arg4 harg4 m nt h >>= k) Q) := by
  iintro H HK
  rw [wp_bind']
  unfold outS
  iapply (step_load c) $$ H
  iintro H
  iapply (step_store0 c) $$ H
  iintro H
  iapply HK
  iexact H

theorem wp_loops (g : Nat → BitVec 32) (X9 X10 : S33.Idx → BitVec 32) (X : S64x7168.Idx → Elt F .bf16) (hL : Lists g X9 X10)
    (cc : BitVec 32) (hcc : cc = BitVec.ofNat 32 (cnt g 32)) (hl : LoopOk cc) (Y : S64x768.Idx → Elt F .bf16)
    {Q : (Σ' (_ : Mxu F), FVec F S64x256 .bf16) → sProp (Res F)} :
    iprop(Lp c arg2 arg3 arg6 arg7 arg8 arg9 arg10 arg12 arg13 f2 f3 g X9 X10 X 0 ∗ Own c arg4 Y)
      ⊢ iprop((iprop(Lp c arg2 arg3 arg6 arg7 arg8 arg9 arg10 arg12 arg13 f2 f3 g X9 X10 X (cnt g 32) ∗
            Own c arg4 (putR (rO 1 (by decide)) (outT (pop2 (mAt c arg2 arg3 f2 f3 g X (cnt g 32)) 0 (by decide)) 1 (by decide))
              (putR (rO 0 (by decide)) (outT (mAt c arg2 arg3 f2 f3 g X (cnt g 32)) 0 (by decide)) Y)))
          -∗ Q ⟨popAll (mAt c arg2 arg3 f2 f3 g X (cnt g 32)), outT (pop2 (pop2 (mAt c arg2 arg3 f2 f3 g X (cnt g 32)) 0 (by decide)) 1 (by decide)) 2 (by decide)⟩)
        -∗ Wp c (loops arg2 harg2 arg3 arg4 harg4 arg6 arg7 harg7 arg8 arg9 arg10 arg12 arg13 cc hl) Q) := by
  have hle := cnt_le g 32
  have ht : (lp cc).trips = cnt g 32 := by rw [hcc]; exact lp_trips _ hle
  have ht2 : (lp2 cc).trips = 0 := by rw [hcc]; exact lp2_trips _ hle
  iintro ⟨HL, H4⟩ HK
  unfold loops
  iapply (Scf.wp_for_bind frame (wpE defs₀ Variants.none (c.tc : Thread nD τ) none) Set.univ (lp cc).lb (lp cc).ub (lp cc).st hl.ok1 mxu0 _
    (fun k m => iprop(⌜m = mAt c arg2 arg3 f2 f3 g X k⌝ ∗ Lp c arg2 arg3 arg6 arg7 arg8 arg9 arg10 arg12 arg13 f2 f3 g X9 X10 X k)) ?_) $$ [HL]
  · intro k acc
    iintro ⟨%hm, HL⟩
    iapply (wp_trip c arg2 harg2 arg3 arg6 arg7 harg7 arg8 arg9 arg10 arg12 arg13 f2 f3 g X9 X10 X hL k.val (lt_of_lt_of_eq k.isLt ht) cc _ hcc (iv_eq k.val) _ _ acc hm) $$ HL
    iintro HL
    isplitr; · ipureintro; rfl
    iexact HL
  · isplitr; · ipureintro; rfl
    iexact HL
  iintro %acc ⟨%hm, HL⟩
  rw [show Scf.trips (lp cc).lb (lp cc).ub (lp cc).st = cnt g 32 from ht] at hm
  rw [show Scf.trips (lp cc).lb (lp cc).ub (lp cc).st = cnt g 32 from ht]
  subst hm
  iapply (Scf.wp_for_bind frame (wpE defs₀ Variants.none (c.tc : Thread nD τ) none) Set.univ (lp2 cc).lb (lp2 cc).ub (lp2 cc).st hl.ok2 _ _
    (fun k m => iprop(⌜m = mAt c arg2 arg3 f2 f3 g X (cnt g 32)⌝)) ?_) $$ []
  · intro k acc
    exact absurd (lt_of_lt_of_eq k.isLt ht2) (Nat.not_lt_zero _)
  · ipureintro; rfl
  iintro %acc %hm
  subst hm
  iapply (wp_outS c arg4 harg4 _ 0 _ Y) $$ H4
  iintro H4
  iapply (wp_outS c arg4 harg4 _ 1 _ _) $$ H4
  iintro H4
  iapply (step_load c) $$ H4
  iintro H4
  iapply (step_pure c)
  iapply HK
  isplitl [HL]; · iexact HL
  iexact H4

end Slots

end Cert.KernelIdeal.Str
-- ==== Proof.Wp3.lean ====
module

public import proofs.«01_k».proof.Proof.Wp2

@[expose] public section

/-! The whole body's weakest precondition. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC)
open Idealize.ShloMosaic.Transfers Idealize.ShloMosaic.ValueIdx

variable {F : FTy → Type} [FloatOps F] [Facts]

theorem putR_at {s : Shape} {α : Type} (r : Rect s) (w : r.shape.Idx → α) (X : s.Idx → α) (x : r.shape.Idx) (y : s.Idx) (h : r.emb x = y) :
    putR r w X y = w x := by subst h; exact putR_emb r w X x

/-- The two units before the `nt`-th write. -/
def popN (m : Mxu F) : Nat → Mxu F
  | 0 => m
  | 1 => pop2 m 0 (by decide)
  | _ => pop2 (pop2 m 0 (by decide)) 1 (by decide)

/-- The result, off the units. -/
def resV (m : Mxu F) : S64x768.Idx → Elt F .bf16 := fun y =>
  outT (popN m ((y 1).val / 256)) ((y 1).val / 256) (by have : (y 1).val < 768 := (y 1).isLt; omega)
    (ix2 (n0 := 64) (n1 := 256) (y 0) ⟨(y 1).val % 256, Nat.mod_lt _ (by decide)⟩)

theorem emb_rO (nt : Nat) (h : nt < 3) (y : S64x768.Idx) (hy : (y 1).val / 256 = nt) :
    (rO nt h).emb (ix2 (n0 := 64) (n1 := 256) (y 0) ⟨(y 1).val % 256, Nat.mod_lt _ (by decide)⟩) = y := by
  funext a
  apply Fin.ext
  match a with
  | ⟨0, _⟩ => show 0 + 1 * (y 0).val = (y 0).val; omega
  | ⟨1, _⟩ => show 256 * nt + 1 * ((y 1).val % 256) = (y 1).val; omega

theorem not_rO (nt : Nat) (h : nt < 3) (y : S64x768.Idx) (hy : (y 1).val / 256 ≠ nt) : ∀ x, (rO nt h).emb x ≠ y := by
  intro x e
  have : ((rO nt h).emb x 1).val = (y 1).val := by rw [e]
  have h2 : 256 * nt + 1 * (x 1).val = (y 1).val := this
  have h3 : (x 1).val < 256 := (x 1).isLt
  omega

theorem outV_eq (m : Mxu F) (Y : S64x768.Idx → Elt F .bf16) : outV m Y = resV m := by
  funext y
  have hlt : (y 1).val < 768 := (y 1).isLt
  have hd : (y 1).val / 256 = 0 ∨ (y 1).val / 256 = 1 ∨ (y 1).val / 256 = 2 := by omega
  have key : ∀ nt (h : nt < 3), (y 1).val / 256 = nt → resV m y = outT (popN m nt) nt h (ix2 (n0 := 64) (n1 := 256) (y 0) ⟨(y 1).val % 256, Nat.mod_lt _ (by decide)⟩) := by
    intro nt h e
    subst e
    rfl
  unfold outV
  rcases hd with e | e | e
  · rw [putR_of_not _ _ _ _ (not_rO 2 _ y (by omega)), putR_of_not _ _ _ _ (not_rO 1 _ y (by omega)), key 0 (by decide) e]
    conv => lhs; rw [← emb_rO 0 (by decide) y e]
    rw [putR_emb]; rfl
  · rw [putR_of_not _ _ _ _ (not_rO 2 _ y (by omega)), key 1 (by decide) e]
    conv => lhs; rw [← emb_rO 1 (by decide) y e]
    rw [putR_emb]; rfl
  · rw [key 2 (by decide) e]
    conv => lhs; rw [← emb_rO 2 (by decide) y e]
    rw [putR_emb]; rfl

/-- The activations quantised and multiplied back. -/
def quV (X5 : S64x7168.Idx → Elt F .bf16) : S64x7168.Idx → Elt F .bf16 := fun y =>
  shapeCast S64x128 (qBlk fun x => X5 ((rX ((y 1).val / 128) (by have : (y 1).val < 7168 := (y 1).isLt; omega)).emb x)) shapeCasts_S64x128_S64x128
    (ix2 (n0 := 64) (n1 := 128) (y 0) ⟨(y 1).val % 128, Nat.mod_lt _ (by decide)⟩)

theorem emb_rX (k : Nat) (h : k < 56) (y : S64x7168.Idx) (hy : (y 1).val / 128 = k) :
    (rX k h).emb (ix2 (n0 := 64) (n1 := 128) (y 0) ⟨(y 1).val % 128, Nat.mod_lt _ (by decide)⟩) = y := by
  funext a
  apply Fin.ext
  match a with
  | ⟨0, _⟩ => show 0 + 1 * (y 0).val = (y 0).val; omega
  | ⟨1, _⟩ => show 128 * k + 1 * ((y 1).val % 128) = (y 1).val; omega

theorem not_rX (k : Nat) (h : k < 56) (y : S64x7168.Idx) (hy : (y 1).val / 128 ≠ k) : ∀ x, (rX k h).emb x ≠ y := by
  intro x e
  have : ((rX k h).emb x 1).val = (y 1).val := by rw [e]
  have h2 : 128 * k + 1 * (x 1).val = (y 1).val := this
  have h3 : (x 1).val < 128 := (x 1).isLt
  omega

theorem quantM_eq (X5 : S64x7168.Idx → Elt F .bf16) (y : S64x7168.Idx) : ∀ (n k : Nat) (h : k + n ≤ 56) (Y : S64x7168.Idx → Elt F .bf16),
    quantM X5 n k h Y y = if k ≤ (y 1).val / 128 ∧ (y 1).val / 128 < k + n then quV X5 y else Y y
  | 0, k, h, Y => by rw [if_neg (by omega)]; rfl
  | n + 1, k, h, Y => by
    unfold quantM
    rw [quantM_eq X5 y n (k + 1) (by omega)]
    by_cases e : (y 1).val / 128 = k
    · rw [if_neg (by omega), if_pos (by omega)]
      subst e
      exact putR_at _ _ _ _ _ (emb_rX _ _ y rfl)
    · rw [putR_of_not _ _ _ _ (not_rX k _ y e)]
      by_cases h2 : k + 1 ≤ (y 1).val / 128 ∧ (y 1).val / 128 < k + 1 + n
      · rw [if_pos h2, if_pos (by omega)]
      · rw [if_neg h2, if_neg (by omega)]

theorem quantM_all (X5 Y : S64x7168.Idx → Elt F .bf16) : quantM X5 56 0 (by decide) Y = quV X5 := by
  funext y
  have : (y 1).val < 7168 := (y 1).isLt
  rw [quantM_eq, if_pos (by omega)]

section Body
variable (c : Dev nD)
  (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)
  (f1 : Buf (Elt F) (arg1.view.loc (c.tc : Thread nD τ)))
  (f2 : Buf (Elt F) (arg2.view.loc (c.tc : Thread nD τ))) (f3 : Buf (Elt F) (arg3.view.loc (c.tc : Thread nD τ)))
  (q1 : PosShare TreeShare)

/-- The units when the experts are done. -/
abbrev mEnd (G : S32.Idx → BitVec 32) : Mxu F :=
  mAt c arg2 arg3 f2 f3 (gOf G) (quV (arg1.view.read (Elt F) f1)) (cnt (gOf G) 32)

/-- What the body needs, and what it leaves: all but the result's buffer. -/
def Inv (st : Nat → Option Nat) : sProp (Res F) :=
  iprop((arg1.view.loc (c.tc : Thread nD τ) ↦[arg1.view.set]{q1} f1) ∗ (∃ Y, Own c arg5 Y) ∗ (∃ Y, Own c arg6 Y)
    ∗ (∃ X, Own c arg9 (F := F) X) ∗ (∃ X, Own c arg10 (F := F) X) ∗ semVal ((c.tc : Thread nD τ), SemLoc.dma arg11.sem) 0
    ∗ Ring c arg2 arg3 arg7 arg8 arg12 arg13 f2 f3 st ∗ (∃ W, owes (c.tc : Thread nD τ) 0 W))

theorem wp_rest (G : S32.Idx → BitVec 32) (cc r : BitVec 32) (hc : (Scalar.indexCast cc).toNat < 33) (hl : LoopOk cc)
    (hcc : cc = BitVec.ofNat 32 (cnt (gOf G) 32)) (hr : r = rowW (gOf G) 32) {Q : PUnit → sProp (Res F)} :
    iprop(Pro c arg2 arg3 arg7 arg8 arg9 arg10 arg12 arg13 f2 f3 (gOf G) 32
        ∗ Flight (countersEmb (U := UC sig nD τ)) (c.tc : Thread nD τ) (SemLoc.dma arg11.sem) () (arg5.view.dmaCredit)
            iprop(Own c arg5 (arg1.view.read (Elt F) f1) ∗ (arg1.view.loc (c.tc : Thread nD τ) ↦[arg1.view.set]{q1} f1))
        ∗ (∃ Y, Own c arg4 Y) ∗ (∃ Y, Own c arg6 Y) ∗ (∃ W, owes (c.tc : Thread nD τ) 0 W))
      ⊢ iprop((iprop(Own c arg4 (resV (mEnd c arg1 arg2 arg3 f1 f2 f3 G)) ∗ Inv c arg1 arg2 arg3 arg5 arg6 arg7 arg8 arg9 arg10 arg11 arg12 arg13 f1 f2 f3 q1 fun _ => none) -∗ Q ⟨⟩)
        -∗ Wp c (rest arg1 harg1 arg2 harg2 arg3 arg4 harg4 arg5 harg5 arg6 harg6 arg7 harg7 arg8 arg9 arg10 arg11 arg12 arg13 cc r hc hl) Q) := by
  have hle := cnt_le (gOf G) 32
  have hn : (Scalar.indexCast cc).toNat = cnt (gOf G) 32 := by rw [hcc]; exact toNat_small (by omega)
  unfold Pro
  iintro ⟨⟨%X9, %X10, H9, H10, %hL, HR⟩, HF, ⟨%Y4, H4⟩, ⟨%Y6, H6⟩, HO⟩ HK
  unfold rest
  iapply (step_at33 c arg10 _ hc) $$ H10
  iintro H10
  iapply (step_store c) $$ H10
  iintro H10
  have hLs := Lists.of hL _ hc hn
  rw [← hr] at hLs
  iapply (step_wait c rfl) $$ [HF HO]
  · isplitl [HF] <;> iassumption
  iintro ⟨⟨H5, H1⟩, V11, HO⟩
  rw [wp_bind']
  iapply (wp_quant c arg5 arg6 harg6 (arg1.view.read (Elt F) f1) 56 0 _ Y6) $$ [H5 H6]
  · isplitl [H5] <;> iassumption
  iintro ⟨H5, H6⟩
  rw [quantM_all, wp_bind']
  iapply (wp_loops c arg2 harg2 arg3 arg4 harg4 arg6 arg7 harg7 arg8 arg9 arg10 arg12 arg13 f2 f3 (gOf G) X9 _ _ hLs cc hcc hl Y4) $$ [H9 H10 H6 HR HO H4]
  · isplitr [H4]
    · unfold Lp
      isplitl [H9]; · iexact H9
      isplitl [H10]; · iexact H10
      isplitl [H6]; · iexact H6
      isplitl [HR]
      · rw [Ring_congr c arg2 arg3 arg7 arg8 arg12 arg13 f2 f3 (st := stL (gOf G) 0) (st' := stP (gOf G) 32) ?_]
        · iexact HR
        · intro n hn
          have : 0 + (n + 3 * 0) % 4 = n := by omega
          unfold stL stP
          rw [this]
      iexact HO
    iexact H4
  unfold Lp
  iintro ⟨⟨H9, H10, H6, HR, HO⟩, H4⟩
  iapply (step_store c) $$ H4
  iintro H4
  iapply (step_assume c (drained (mAt_reg c arg2 arg3 f2 f3 (gOf G) (quV (arg1.view.read (Elt F) f1)) (cnt (gOf G) 32)).1
    (mAt_reg c arg2 arg3 f2 f3 (gOf G) (quV (arg1.view.read (Elt F) f1)) (cnt (gOf G) 32)).2))
  iapply (step_pure c)
  iapply HK
  rw [← outV_eq _ Y4]
  isplitl [H4]; · unfold outV; iexact H4
  unfold Inv
  isplitl [H1]; · iexact H1
  isplitl [H5]; · iexists _; iexact H5
  isplitl [H6]; · iexists _; iexact H6
  isplitl [H9]; · iexists _; iexact H9
  isplitl [H10]; · iexists _; iexact H10
  isplitl [V11]; · iexact V11
  isplitl [HR]
  · rw [Ring_congr c arg2 arg3 arg7 arg8 arg12 arg13 f2 f3 (st := fun _ => none) (st' := stL (gOf G) (cnt (gOf G) 32)) ?_]
    · iexact HR
    · intro n hn
      unfold stL
      rw [if_neg (by omega)]
  iexact HO

theorem wp_last (G : S32.Idx → BitVec 32) (v : List (BitVec 32)) (hv : v = pre (gOf G) 31) {Q : PUnit → sProp (Res F)} :
    iprop(iprop(Own c arg0 (F := F) G ∗ Pro c arg2 arg3 arg7 arg8 arg9 arg10 arg12 arg13 f2 f3 (gOf G) 31)
        ∗ Flight (countersEmb (U := UC sig nD τ)) (c.tc : Thread nD τ) (SemLoc.dma arg11.sem) () (arg5.view.dmaCredit)
            iprop(Own c arg5 (arg1.view.read (Elt F) f1) ∗ (arg1.view.loc (c.tc : Thread nD τ) ↦[arg1.view.set]{q1} f1))
        ∗ (∃ Y, Own c arg4 Y) ∗ (∃ Y, Own c arg6 Y) ∗ (∃ W, owes (c.tc : Thread nD τ) 0 W))
      ⊢ iprop((iprop(Own c arg0 (F := F) G ∗ Own c arg4 (resV (mEnd c arg1 arg2 arg3 f1 f2 f3 G)) ∗ Inv c arg1 arg2 arg3 arg5 arg6 arg7 arg8 arg9 arg10 arg11 arg12 arg13 f1 f2 f3 q1 fun _ => none) -∗ Q ⟨⟩)
        -∗ Wp c (last arg0 arg1 harg1 arg2 harg2 arg3 arg4 harg4 arg5 harg5 arg6 harg6 arg7 harg7 arg8 arg9 arg10 arg11 arg12 arg13 v) Q) := by
  subst hv
  iintro ⟨⟨H0, HP⟩, HF, H4, H6, HO⟩ HK
  unfold last ldL
  iapply (step_at32 c arg0 31 _) $$ H0
  iintro H0
  iapply (step_assume c (P := chkL (lst (pre (gOf G) 31 ++ [gOf G 31]))) (chk_ok _))
  have hs : pre (gOf G) 31 ++ [gOf G 31] = pre (gOf G) 32 := pre_succ (gOf G) 31
  iapply (wp_ifA c arg2 harg2 arg3 arg7 harg7 arg8 arg9 arg10 arg12 arg13 f2 f3 (gOf G) 31 _ _ _ _ _ (by rw [hs]; exact cntW_pre _ (by decide))
    (by rw [hs]; exact rowW_pre _ (by decide)) (by rw [hs]; exact lst_pre _ (by decide)) _) $$ HP
  iintro HP
  iapply (wp_rest c arg1 harg1 arg2 harg2 arg3 arg4 harg4 arg5 harg5 arg6 harg6 arg7 harg7 arg8 arg9 arg10 arg11 arg12 arg13 f1 f2 f3 q1 G _ _ _ _
    (by rw [hs]; exact cntW_pre _ (by decide)) (by rw [hs]; exact rowW_pre _ (by decide))) $$ [HP HF H4 H6 HO]
  · isplitl [HP]; · iexact HP
    isplitl [HF]; · iexact HF
    isplitl [H4]; · iexact H4
    isplitl [H6]; · iexact H6
    iexact HO
  iintro ⟨H4, HI⟩
  iapply HK
  isplitl [H0]; · iexact H0
  isplitl [H4]; · iexact H4
  iexact HI

theorem first_eq {α : Type} (w : BitVec 32) (K : Prog (TpuEff nD τ sig (Elt F) Λ₀ .tc) α) :
    ifA0 arg9 arg10 w (ifB0 arg2 harg2 arg3 arg7 harg7 arg8 arg12 arg13 w K)
      = ifA arg9 arg10 0#32 0#32 w (gchk_ok 0 (by decide) w) 0 (ifB arg2 harg2 arg3 arg7 harg7 arg8 arg12 arg13 0#32 w (gchk_ok 0 (by decide) w) 0 (by decide) K) := by
  have hB : ifB0 arg2 harg2 arg3 arg7 harg7 arg8 arg12 arg13 w K
      = ifB arg2 harg2 arg3 arg7 harg7 arg8 arg12 arg13 0#32 w (gchk_ok 0 (by decide) w) 0 (by decide) K := by
    unfold ifB0 ifB
    by_cases h : cB 0#32 w = 1#1
    · rw [if_pos h, dif_pos h]; rfl
    · rw [if_neg h, dif_neg h]
  rw [hB]
  unfold ifA0 ifA
  by_cases h : cA w = 1#1
  · rw [if_pos h, dif_pos h]; rfl
  · rw [if_neg h, dif_neg h]

theorem wp_body (G : S32.Idx → BitVec 32) {Q : PUnit → sProp (Res F)} :
    iprop(Own c arg0 (F := F) G ∗ (∃ Y, Own c arg4 Y) ∗ Inv c arg1 arg2 arg3 arg5 arg6 arg7 arg8 arg9 arg10 arg11 arg12 arg13 f1 f2 f3 q1 fun _ => none)
      ⊢ iprop((iprop(Own c arg0 (F := F) G ∗ Own c arg4 (resV (mEnd c arg1 arg2 arg3 f1 f2 f3 G)) ∗ Inv c arg1 arg2 arg3 arg5 arg6 arg7 arg8 arg9 arg10 arg11 arg12 arg13 f1 f2 f3 q1 fun _ => none) -∗ Q ⟨⟩)
        -∗ Wp c (body arg0 arg1 harg1 arg2 harg2 arg3 arg4 harg4 arg5 harg5 arg6 harg6 arg7 harg7 arg8 arg9 arg10 arg11 arg12 arg13) Q) := by
  unfold Inv
  iintro ⟨H0, H4, H1, H5, H6, ⟨%X9, H9⟩, ⟨%X10, H10⟩, V11, HR, HO⟩ HK
  unfold body
  iapply (step_dma c (src := arg1) (dst := arg5) (fs := f1) (q := q1) _ rfl (View.dmaCredit_pos _ (by decide))) $$ [H1 H5 V11]
  · isplitl [H1]; · iexact H1
    isplitl [H5]; · iexact H5
    iexact V11
  iintro HF
  iapply (step_at32 c arg0 0 _) $$ H0
  iintro H0
  rw [first_eq]
  iapply (wp_ifA c arg2 harg2 arg3 arg7 harg7 arg8 arg9 arg10 arg12 arg13 f2 f3 (gOf G) 0 _ _ _ _ _ rfl rfl rfl _) $$ [H9 H10 HR]
  · unfold Pro
    iexists X9
    iexists X10
    isplitl [H9]; · iexact H9
    isplitl [H10]; · iexact H10
    isplitr
    · ipureintro; intro e he; exact absurd he (Nat.not_lt_zero _)
    rw [Ring_congr c arg2 arg3 arg7 arg8 arg12 arg13 f2 f3 (st := stP (gOf G) 0) (st' := fun _ => none) ?_]
    · iexact HR
    · intro n hn
      rfl
  iintro HP
  iapply (wp_scan c arg2 harg2 arg3 arg7 harg7 arg8 arg9 arg10 arg12 arg13 f2 f3 arg0 G _ 30 1 _ _ rfl) $$ [H0 HP]
  · isplitl [H0] <;> iassumption
  iintro H
  iapply (wp_last c arg0 arg1 harg1 arg2 harg2 arg3 arg4 harg4 arg5 harg5 arg6 harg6 arg7 harg7 arg8 arg9 arg10 arg11 arg12 arg13 f1 f2 f3 q1 G _ rfl) $$ [H HF H4 H6 HO]
  · isplitl [H]; · iexact H
    isplitl [HF]; · iexact HF
    isplitl [H4]; · iexact H4
    isplitl [H6]; · iexact H6
    iexact HO
  unfold Inv
  iexact HK

end Body

end Cert.KernelIdeal.Str
-- ==== Proof.Parts.lean ====
module

public import proofs.«01_k».proof.Proof.Whole

@[expose] public section

/-! The printed statements of the scan, window by window, are the structured steps. -/

noncomputable section

namespace Cert.KernelIdeal.Str

open Idealize.ShloMosaic Idealize.SL.Sem
open Cert.KernelIdeal Facts₀ Facts

variable {F : FTy → Type} [FloatOps F] [Facts]

section Prog
variable (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)
variable {α β : Type} (f : α → Prog (TpuEff nD τ sig (Elt F) Λ₀ .tc) β)

theorem ld_bind (e : Nat) (he : e < 32) (c : BitVec 32) (K : (w : Elt F .i32) → gchk c w → Prog (TpuEff nD τ sig (Elt F) Λ₀ .tc) α) :
    (ld arg0 e he c K >>= f) = ld arg0 e he c (fun w h => K w h >>= f) := rfl

theorem ldL_bind (v : List (BitVec 32)) (K : (w : Elt F .i32) → chkL (lst (v ++ [w])) → Prog (TpuEff nD τ sig (Elt F) Λ₀ .tc) α) :
    (ldL arg0 v K >>= f) = ldL arg0 v (fun w h => K w h >>= f) := rfl

theorem ifA_bind (c r w : BitVec 32) (hw : gchk c w) (e : Nat) (K : Prog (TpuEff nD τ sig (Elt F) Λ₀ .tc) α) :
    (ifA arg9 arg10 c r w hw e K >>= f) = ifA arg9 arg10 c r w hw e (K >>= f) := by
  unfold ifA
  split <;> rfl

theorem ifB_bind (c w : BitVec 32) (hw : gchk c w) (e : Nat) (he : e < 32) (K : Prog (TpuEff nD τ sig (Elt F) Λ₀ .tc) α) :
    (ifB arg2 harg2 arg3 arg7 harg7 arg8 arg12 arg13 c w hw e he K >>= f) = ifB arg2 harg2 arg3 arg7 harg7 arg8 arg12 arg13 c w hw e he (K >>= f) := by
  unfold ifB
  split <;> rfl

theorem ifA0_bind (w : BitVec 32) (K : Prog (TpuEff nD τ sig (Elt F) Λ₀ .tc) α) :
    (ifA0 arg9 arg10 w K >>= f) = ifA0 arg9 arg10 w (K >>= f) := by
  unfold ifA0
  split <;> rfl

theorem ifB0_bind (w : BitVec 32) (K : Prog (TpuEff nD τ sig (Elt F) Λ₀ .tc) α) :
    (ifB0 arg2 harg2 arg3 arg7 harg7 arg8 arg12 arg13 w K >>= f) = ifB0 arg2 harg2 arg3 arg7 harg7 arg8 arg12 arg13 w (K >>= f) := by
  unfold ifB0
  split <;> rfl

set_option maxHeartbeats 4000000 in
theorem p159_eq :
    k0_part159 (F := F) arg0 harg0 arg1 harg1 arg2 harg2 arg3 harg3 arg4 harg4 arg5 harg5 arg6 harg6 arg7 harg7 arg8 harg8 arg9 harg9 arg10 harg10 arg11 arg12 arg13  = (do
  have k0_mxu1 : Mxu F := Mxu.init
  Prog.lift (.enqueueDma arg1 (.here arg5) (.dma arg11.sem) harg1.wordExact harg5.wordExact ⟨Or.inl rfl, trivial⟩)
  let c0 : Index := 0#32
  let v0 : Elt F .i32 ← smemLoad arg0 (Rect.unit (s := S32) ![0] S1.size inb_S32_S1_0) numel1_S1 rfl
  let c0_i32 : BitVec 32 := 0#32
  let v1 : BitVec 1 := Scalar.cmpi .sgt v0 c0_i32
  let v2 : BitVec 32 := Scalar.extui v1
  let c0_i32_0 : BitVec 32 := 0#32
  let c0_i32_1 : BitVec 32 := 0#32
  let c0_i32_2 : BitVec 32 := 0#32
  let v3 : BitVec 1 := Scalar.cmpi .ne v2 c0_i32_2
  ifA0 arg9 arg10 v0 do
    let c0_i32_3 : BitVec 32 := 0#32
    let v4 : BitVec 1 := Scalar.cmpi .sgt v0 c0_i32_3
    let c0_i32_4 : BitVec 32 := 0#32
    let c4_i32 : BitVec 32 := 4#32
    let v5 : BitVec 1 := Scalar.cmpi .slt c0_i32_4 c4_i32
    let v6 : BitVec 1 := Scalar.andi v4 v5
    let v7 : BitVec 32 := Scalar.extui v6
    let c0_i32_5 : BitVec 32 := 0#32
    let c0_i32_6 : BitVec 32 := 0#32
    let v8 : BitVec 1 := Scalar.cmpi .ne v7 c0_i32_6
    ifB0 arg2 harg2 arg3 arg7 harg7 arg8 arg12 arg13 v0 do
      let c0_i32_7 : BitVec 32 := 0#32
      let v9 : BitVec 1 := Scalar.cmpi .sgt v0 c0_i32_7
      let v10 : BitVec 32 := Scalar.extui v9
      let c0_i32_8 : BitVec 32 := 0#32
      let v11 : BitVec 32 := Scalar.addi c0_i32_8 v10
      let c0_i32_9 : BitVec 32 := 0#32
      let v12 : BitVec 32 := Scalar.addi c0_i32_9 v0
      let c1 : Index := 1#32
      ld arg0 1 (by decide) (cntW (lst [v0]) 1) fun v13 hg => do
        have k0_hw1 : k0_chk1 v0 v13 := cast (by sl_kernel_rfl) hg
        let c0_i32_10 : BitVec 32 := 0#32
        let v14 : BitVec 1 := Scalar.cmpi .sgt v13 c0_i32_10
        let v15 : BitVec 32 := Scalar.extui v14
        let c0_i32_11 : BitVec 32 := 0#32
        let v16 : BitVec 1 := Scalar.cmpi .ne v15 c0_i32_11
        ifA arg9 arg10 (cntW (lst [v0]) 1) v12 v13 (cast (by sl_kernel_rfl) k0_hw1) 1 do
          let c0_i32_12 : BitVec 32 := 0#32
          let v17 : BitVec 1 := Scalar.cmpi .sgt v13 c0_i32_12
          let c4_i32_13 : BitVec 32 := 4#32
          let v18 : BitVec 1 := Scalar.cmpi .slt v11 c4_i32_13
          let v19 : BitVec 1 := Scalar.andi v17 v18
          let v20 : BitVec 32 := Scalar.extui v19
          let c0_i32_14 : BitVec 32 := 0#32
          let v21 : BitVec 1 := Scalar.cmpi .ne v20 c0_i32_14
          ifB arg2 harg2 arg3 arg7 harg7 arg8 arg12 arg13 (cntW (lst [v0]) 1) v13 (cast (by sl_kernel_rfl) k0_hw1) 1 (by decide) do
            let c0_i32_15 : BitVec 32 := 0#32
            let v22 : BitVec 1 := Scalar.cmpi .sgt v13 c0_i32_15
            let v23 : BitVec 32 := Scalar.extui v22
            let v24 : BitVec 32 := Scalar.addi v11 v23
            let v25 : BitVec 32 := Scalar.addi v12 v13
            let c2 : Index := 2#32
            ld arg0 2 (by decide) (cntW (lst [v0, v13]) 2) fun v26 hg => do
              have k0_hw2 : k0_chk2 v0 v13 v26 := cast (by sl_kernel_rfl) hg
              let c0_i32_16 : BitVec 32 := 0#32
              let v27 : BitVec 1 := Scalar.cmpi .sgt v26 c0_i32_16
              let v28 : BitVec 32 := Scalar.extui v27
              let c0_i32_17 : BitVec 32 := 0#32
              pure ⟨k0_mxu1, v0, v13, v24, v25, v26, k0_hw2, v28, c0_i32_17⟩ : Prog (TpuEff nD τ sig (Elt F) Λ₀ .tc) ((Σ' (k0_mxu1 : Mxu F) (v0 : Elt F .i32) (v13 : Elt F .i32) (v24 : BitVec 32) (v25 : BitVec 32) (v26 : Elt F .i32) (k0_hw2 : k0_chk2 v0 v13 v26) (v28 : BitVec 32), BitVec 32))) := by
  sl_kernel_rfl

set_option maxHeartbeats 4000000 in
theorem p160_eq (v0 : Elt F .i32) (v13 : Elt F .i32) (v24 : BitVec 32) (v25 : BitVec 32) (v26 : Elt F .i32) (k0_hw2 : k0_chk2 v0 v13 v26) (v28 : BitVec 32) (c0_i32_17 : BitVec 32) :
    k0_part160 (F := F) arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17 = (do
  let v29 : BitVec 1 := Scalar.cmpi .ne v28 c0_i32_17
  ifA arg9 arg10 (cntW (lst [v0, v13]) 2) v25 v26 (cast (by sl_kernel_rfl) k0_hw2) 2 do
    let c0_i32_18 : BitVec 32 := 0#32
    let v30 : BitVec 1 := Scalar.cmpi .sgt v26 c0_i32_18
    let c4_i32_19 : BitVec 32 := 4#32
    let v31 : BitVec 1 := Scalar.cmpi .slt v24 c4_i32_19
    let v32 : BitVec 1 := Scalar.andi v30 v31
    let v33 : BitVec 32 := Scalar.extui v32
    let c0_i32_20 : BitVec 32 := 0#32
    let v34 : BitVec 1 := Scalar.cmpi .ne v33 c0_i32_20
    ifB arg2 harg2 arg3 arg7 harg7 arg8 arg12 arg13 (cntW (lst [v0, v13]) 2) v26 (cast (by sl_kernel_rfl) k0_hw2) 2 (by decide) do
      let c0_i32_21 : BitVec 32 := 0#32
      let v35 : BitVec 1 := Scalar.cmpi .sgt v26 c0_i32_21
      let v36 : BitVec 32 := Scalar.extui v35
      let v37 : BitVec 32 := Scalar.addi v24 v36
      let v38 : BitVec 32 := Scalar.addi v25 v26
      let c3 : Index := 3#32
      ld arg0 3 (by decide) (cntW (lst [v0, v13, v26]) 3) fun v39 hg => do
        have k0_hw3 : k0_chk3 v0 v13 v26 v39 := cast (by sl_kernel_rfl) hg
        let c0_i32_22 : BitVec 32 := 0#32
        let v40 : BitVec 1 := Scalar.cmpi .sgt v39 c0_i32_22
        let v41 : BitVec 32 := Scalar.extui v40
        let c0_i32_23 : BitVec 32 := 0#32
        let v42 : BitVec 1 := Scalar.cmpi .ne v41 c0_i32_23
        ifA arg9 arg10 (cntW (lst [v0, v13, v26]) 3) v38 v39 (cast (by sl_kernel_rfl) k0_hw3) 3 do
          let c0_i32_24 : BitVec 32 := 0#32
          let v43 : BitVec 1 := Scalar.cmpi .sgt v39 c0_i32_24
          let c4_i32_25 : BitVec 32 := 4#32
          let v44 : BitVec 1 := Scalar.cmpi .slt v37 c4_i32_25
          let v45 : BitVec 1 := Scalar.andi v43 v44
          let v46 : BitVec 32 := Scalar.extui v45
          let c0_i32_26 : BitVec 32 := 0#32
          let v47 : BitVec 1 := Scalar.cmpi .ne v46 c0_i32_26
          ifB arg2 harg2 arg3 arg7 harg7 arg8 arg12 arg13 (cntW (lst [v0, v13, v26]) 3) v39 (cast (by sl_kernel_rfl) k0_hw3) 3 (by decide) do
            let c0_i32_27 : BitVec 32 := 0#32
            let v48 : BitVec 1 := Scalar.cmpi .sgt v39 c0_i32_27
            let v49 : BitVec 32 := Scalar.extui v48
            let v50 : BitVec 32 := Scalar.addi v37 v49
            let v51 : BitVec 32 := Scalar.addi v38 v39
            let c4 : Index := 4#32
            ld arg0 4 (by decide) (cntW (lst [v0, v13, v26, v39]) 4) fun v52 hg => do
              have k0_hw4 : k0_chk4 v0 v13 v26 v39 v52 := cast (by sl_kernel_rfl) hg
              let c0_i32_28 : BitVec 32 := 0#32
              let v53 : BitVec 1 := Scalar.cmpi .sgt v52 c0_i32_28
              let v54 : BitVec 32 := Scalar.extui v53
              let c0_i32_29 : BitVec 32 := 0#32
              let v55 : BitVec 1 := Scalar.cmpi .ne v54 c0_i32_29
              ifA arg9 arg10 (cntW (lst [v0, v13, v26, v39]) 4) v51 v52 (cast (by sl_kernel_rfl) k0_hw4) 4 do
                let c0_i32_30 : BitVec 32 := 0#32
                let v56 : BitVec 1 := Scalar.cmpi .sgt v52 c0_i32_30
                let c4_i32_31 : BitVec 32 := 4#32
                let v57 : BitVec 1 := Scalar.cmpi .slt v50 c4_i32_31
                let v58 : BitVec 1 := Scalar.andi v56 v57
                let v59 : BitVec 32 := Scalar.extui v58
                let c0_i32_32 : BitVec 32 := 0#32
                let v60 : BitVec 1 := Scalar.cmpi .ne v59 c0_i32_32
                ifB arg2 harg2 arg3 arg7 harg7 arg8 arg12 arg13 (cntW (lst [v0, v13, v26, v39]) 4) v52 (cast (by sl_kernel_rfl) k0_hw4) 4 (by decide) do
                  let c0_i32_33 : BitVec 32 := 0#32
                  let v61 : BitVec 1 := Scalar.cmpi .sgt v52 c0_i32_33
                  let v62 : BitVec 32 := Scalar.extui v61
                  pure ⟨v39, v50, v51, v52, v62⟩ : Prog (TpuEff nD τ sig (Elt F) Λ₀ .tc) ((Σ' (v39 : Elt F .i32) (v50 : BitVec 32) (v51 : BitVec 32) (v52 : Elt F .i32), BitVec 32))) := by
  sl_kernel_rfl

set_option maxHeartbeats 4000000 in
theorem p161_eq (v0 : Elt F .i32) (v13 : Elt F .i32) (v26 : Elt F .i32) (v39 : Elt F .i32) (v50 : BitVec 32) (v51 : BitVec 32) (v52 : Elt F .i32) (v62 : BitVec 32) :
    k0_part161 (F := F) arg0 harg0 arg1 harg1 arg2 harg2 arg3 harg3 arg4 harg4 arg5 harg5 arg6 harg6 arg7 harg7 arg8 harg8 arg9 harg9 arg10 harg10 arg11 arg12 arg13 v0 v13 v26 v39 v50 v51 v52 v62 = (do
  let v63 : BitVec 32 := Scalar.addi v50 v62
  let v64 : BitVec 32 := Scalar.addi v51 v52
  let c5 : Index := 5#32
  ld arg0 5 (by decide) (cntW (lst [v0, v13, v26, v39, v52]) 5) fun v65 hg => do
    have k0_hw5 : k0_chk5 v0 v13 v26 v39 v52 v65 := cast (by sl_kernel_rfl) hg
    let c0_i32_34 : BitVec 32 := 0#32
    let v66 : BitVec 1 := Scalar.cmpi .sgt v65 c0_i32_34
    let v67 : BitVec 32 := Scalar.extui v66
    let c0_i32_35 : BitVec 32 := 0#32
    let v68 : BitVec 1 := Scalar.cmpi .ne v67 c0_i32_35
    ifA arg9 arg10 (cntW (lst [v0, v13, v26, v39, v52]) 5) v64 v65 (cast (by sl_kernel_rfl) k0_hw5) 5 do
      let c0_i32_36 : BitVec 32 := 0#32
      let v69 : BitVec 1 := Scalar.cmpi .sgt v65 c0_i32_36
      let c4_i32_37 : BitVec 32 := 4#32
      let v70 : BitVec 1 := Scalar.cmpi .slt v63 c4_i32_37
      let v71 : BitVec 1 := Scalar.andi v69 v70
      let v72 : BitVec 32 := Scalar.extui v71
      let c0_i32_38 : BitVec 32 := 0#32
      let v73 : BitVec 1 := Scalar.cmpi .ne v72 c0_i32_38
      ifB arg2 harg2 arg3 arg7 harg7 arg8 arg12 arg13 (cntW (lst [v0, v13, v26, v39, v52]) 5) v65 (cast (by sl_kernel_rfl) k0_hw5) 5 (by decide) do
        let c0_i32_39 : BitVec 32 := 0#32
        let v74 : BitVec 1 := Scalar.cmpi .sgt v65 c0_i32_39
        let v75 : BitVec 32 := Scalar.extui v74
        let v76 : BitVec 32 := Scalar.addi v63 v75
        let v77 : BitVec 32 := Scalar.addi v64 v65
        let c6 : Index := 6#32
        ld arg0 6 (by decide) (cntW (lst [v0, v13, v26, v39, v52, v65]) 6) fun v78 hg => do
          have k0_hw6 : k0_chk6 v0 v13 v26 v39 v52 v65 v78 := cast (by sl_kernel_rfl) hg
          let c0_i32_40 : BitVec 32 := 0#32
          let v79 : BitVec 1 := Scalar.cmpi .sgt v78 c0_i32_40
          let v80 : BitVec 32 := Scalar.extui v79
          let c0_i32_41 : BitVec 32 := 0#32
          let v81 : BitVec 1 := Scalar.cmpi .ne v80 c0_i32_41
          ifA arg9 arg10 (cntW (lst [v0, v13, v26, v39, v52, v65]) 6) v77 v78 (cast (by sl_kernel_rfl) k0_hw6) 6 do
            let c0_i32_42 : BitVec 32 := 0#32
            let v82 : BitVec 1 := Scalar.cmpi .sgt v78 c0_i32_42
            let c4_i32_43 : BitVec 32 := 4#32
            let v83 : BitVec 1 := Scalar.cmpi .slt v76 c4_i32_43
            let v84 : BitVec 1 := Scalar.andi v82 v83
            let v85 : BitVec 32 := Scalar.extui v84
            let c0_i32_44 : BitVec 32 := 0#32
            let v86 : BitVec 1 := Scalar.cmpi .ne v85 c0_i32_44
            ifB arg2 harg2 arg3 arg7 harg7 arg8 arg12 arg13 (cntW (lst [v0, v13, v26, v39, v52, v65]) 6) v78 (cast (by sl_kernel_rfl) k0_hw6) 6 (by decide) do
              let c0_i32_45 : BitVec 32 := 0#32
              let v87 : BitVec 1 := Scalar.cmpi .sgt v78 c0_i32_45
              let v88 : BitVec 32 := Scalar.extui v87
              let v89 : BitVec 32 := Scalar.addi v76 v88
              let v90 : BitVec 32 := Scalar.addi v77 v78
              let c7 : Index := 7#32
              ld arg0 7 (by decide) (cntW (lst [v0, v13, v26, v39, v52, v65, v78]) 7) fun v91 hg => do
                have k0_hw7 : k0_chk7 v0 v13 v26 v39 v52 v65 v78 v91 := cast (by sl_kernel_rfl) hg
                let c0_i32_46 : BitVec 32 := 0#32
                let v92 : BitVec 1 := Scalar.cmpi .sgt v91 c0_i32_46
                let v93 : BitVec 32 := Scalar.extui v92
                let c0_i32_47 : BitVec 32 := 0#32
                let v94 : BitVec 1 := Scalar.cmpi .ne v93 c0_i32_47
                ifA arg9 arg10 (cntW (lst [v0, v13, v26, v39, v52, v65, v78]) 7) v90 v91 (cast (by sl_kernel_rfl) k0_hw7) 7 do
                  let c0_i32_48 : BitVec 32 := 0#32
                  let v95 : BitVec 1 := Scalar.cmpi .sgt v91 c0_i32_48
                  let c4_i32_49 : BitVec 32 := 4#32
                  pure ⟨v65, v78, v89, v90, v91, k0_hw7, v95, c4_i32_49⟩ : Prog (TpuEff nD τ sig (Elt F) Λ₀ .tc) ((Σ' (v65 : Elt F .i32) (v78 : Elt F .i32) (v89 : BitVec 32) (v90 : BitVec 32) (v91 : Elt F .i32) (k0_hw7 : k0_chk7 v0 v13 v26 v39 v52 v65 v78 v91) (v95 : BitVec 1), BitVec 32))) := by
  sl_kernel_rfl

set_option maxHeartbeats 4000000 in
theorem p162_eq (v0 : Elt F .i32) (v13 : Elt F .i32) (v26 : Elt F .i32) (v39 : Elt F .i32) (v52 : Elt F .i32) (v65 : Elt F .i32) (v78 : Elt F .i32) (v89 : BitVec 32) (v90 : BitVec 32) (v91 : Elt F .i32) (k0_hw7 : k0_chk7 v0 v13 v26 v39 v52 v65 v78 v91) (v95 : BitVec 1) (c4_i32_49 : BitVec 32) :
    k0_part162 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49 = (do
  let v96 : BitVec 1 := Scalar.cmpi .slt v89 c4_i32_49
  let v97 : BitVec 1 := Scalar.andi v95 v96
  let v98 : BitVec 32 := Scalar.extui v97
  let c0_i32_50 : BitVec 32 := 0#32
  let v99 : BitVec 1 := Scalar.cmpi .ne v98 c0_i32_50
  ifB arg2 harg2 arg3 arg7 harg7 arg8 arg12 arg13 (cntW (lst [v0, v13, v26, v39, v52, v65, v78]) 7) v91 (cast (by sl_kernel_rfl) k0_hw7) 7 (by decide) do
    let c0_i32_51 : BitVec 32 := 0#32
    let v100 : BitVec 1 := Scalar.cmpi .sgt v91 c0_i32_51
    let v101 : BitVec 32 := Scalar.extui v100
    let v102 : BitVec 32 := Scalar.addi v89 v101
    let v103 : BitVec 32 := Scalar.addi v90 v91
    let c8 : Index := 8#32
    ld arg0 8 (by decide) (cntW (lst [v0, v13, v26, v39, v52, v65, v78, v91]) 8) fun v104 hg => do
      have k0_hw8 : k0_chk8 v0 v13 v26 v39 v52 v65 v78 v91 v104 := cast (by sl_kernel_rfl) hg
      let c0_i32_52 : BitVec 32 := 0#32
      let v105 : BitVec 1 := Scalar.cmpi .sgt v104 c0_i32_52
      let v106 : BitVec 32 := Scalar.extui v105
      let c0_i32_53 : BitVec 32 := 0#32
      let v107 : BitVec 1 := Scalar.cmpi .ne v106 c0_i32_53
      ifA arg9 arg10 (cntW (lst [v0, v13, v26, v39, v52, v65, v78, v91]) 8) v103 v104 (cast (by sl_kernel_rfl) k0_hw8) 8 do
        let c0_i32_54 : BitVec 32 := 0#32
        let v108 : BitVec 1 := Scalar.cmpi .sgt v104 c0_i32_54
        let c4_i32_55 : BitVec 32 := 4#32
        let v109 : BitVec 1 := Scalar.cmpi .slt v102 c4_i32_55
        let v110 : BitVec 1 := Scalar.andi v108 v109
        let v111 : BitVec 32 := Scalar.extui v110
        let c0_i32_56 : BitVec 32 := 0#32
        let v112 : BitVec 1 := Scalar.cmpi .ne v111 c0_i32_56
        ifB arg2 harg2 arg3 arg7 harg7 arg8 arg12 arg13 (cntW (lst [v0, v13, v26, v39, v52, v65, v78, v91]) 8) v104 (cast (by sl_kernel_rfl) k0_hw8) 8 (by decide) do
          let c0_i32_57 : BitVec 32 := 0#32
          let v113 : BitVec 1 := Scalar.cmpi .sgt v104 c0_i32_57
          let v114 : BitVec 32 := Scalar.extui v113
          let v115 : BitVec 32 := Scalar.addi v102 v114
          let v116 : BitVec 32 := Scalar.addi v103 v104
          let c9 : Index := 9#32
          ld arg0 9 (by decide) (cntW (lst [v0, v13, v26, v39, v52, v65, v78, v91, v104]) 9) fun v117 hg => do
            have k0_hw9 : k0_chk9 v0 v13 v26 v39 v52 v65 v78 v91 v104 v117 := cast (by sl_kernel_rfl) hg
            let c0_i32_58 : BitVec 32 := 0#32
            let v118 : BitVec 1 := Scalar.cmpi .sgt v117 c0_i32_58
            let v119 : BitVec 32 := Scalar.extui v118
            let c0_i32_59 : BitVec 32 := 0#32
            let v120 : BitVec 1 := Scalar.cmpi .ne v119 c0_i32_59
            ifA arg9 arg10 (cntW (lst [v0, v13, v26, v39, v52, v65, v78, v91, v104]) 9) v116 v117 (cast (by sl_kernel_rfl) k0_hw9) 9 do
              let c0_i32_60 : BitVec 32 := 0#32
              let v121 : BitVec 1 := Scalar.cmpi .sgt v117 c0_i32_60
              let c4_i32_61 : BitVec 32 := 4#32
              let v122 : BitVec 1 := Scalar.cmpi .slt v115 c4_i32_61
              let v123 : BitVec 1 := Scalar.andi v121 v122
              let v124 : BitVec 32 := Scalar.extui v123
              let c0_i32_62 : BitVec 32 := 0#32
              let v125 : BitVec 1 := Scalar.cmpi .ne v124 c0_i32_62
              ifB arg2 harg2 arg3 arg7 harg7 arg8 arg12 arg13 (cntW (lst [v0, v13, v26, v39, v52, v65, v78, v91, v104]) 9) v117 (cast (by sl_kernel_rfl) k0_hw9) 9 (by decide) do
                let c0_i32_63 : BitVec 32 := 0#32
                let v126 : BitVec 1 := Scalar.cmpi .sgt v117 c0_i32_63
                let v127 : BitVec 32 := Scalar.extui v126
                let v128 : BitVec 32 := Scalar.addi v115 v127
                let v129 : BitVec 32 := Scalar.addi v116 v117
                let c10 : Index := 10#32
                ld arg0 10 (by decide) (cntW (lst [v0, v13, v26, v39, v52, v65, v78, v91, v104, v117]) 10) fun v130 hg => do
                  have k0_hw10 : k0_chk10 v0 v13 v26 v39 v52 v65 v78 v91 v104 v117 v130 := cast (by sl_kernel_rfl) hg
                  pure ⟨v104, v117, v128, v129, v130, k0_hw10⟩ : Prog (TpuEff nD τ sig (Elt F) Λ₀ .tc) ((Σ' (v104 : Elt F .i32) (v117 : Elt F .i32) (v128 : BitVec 32) (v129 : BitVec 32) (v130 : Elt F .i32), k0_chk10 v0 v13 v26 v39 v52 v65 v78 v91 v104 v117 v130))) := by
  sl_kernel_rfl

set_option maxHeartbeats 4000000 in
theorem p163_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v128 : BitVec 32) (v129 : BitVec 32) (v130 : Elt F .i32) (k0_hw10 : k0_chk10 v0 v13 v26 v39 v52 v65 v78 v91 v104 v117 v130) :
    k0_part163 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10 = (do
  let c0_i32_64 : BitVec 32 := 0#32
  let v131 : BitVec 1 := Scalar.cmpi .sgt v130 c0_i32_64
  let v132 : BitVec 32 := Scalar.extui v131
  let c0_i32_65 : BitVec 32 := 0#32
  let v133 : BitVec 1 := Scalar.cmpi .ne v132 c0_i32_65
  ifA arg9 arg10 (cntW (lst [v0, v13, v26, v39, v52, v65, v78, v91, v104, v117]) 10) v129 v130 (cast (by sl_kernel_rfl) k0_hw10) 10 do
    let c0_i32_66 : BitVec 32 := 0#32
    let v134 : BitVec 1 := Scalar.cmpi .sgt v130 c0_i32_66
    let c4_i32_67 : BitVec 32 := 4#32
    let v135 : BitVec 1 := Scalar.cmpi .slt v128 c4_i32_67
    let v136 : BitVec 1 := Scalar.andi v134 v135
    let v137 : BitVec 32 := Scalar.extui v136
    let c0_i32_68 : BitVec 32 := 0#32
    let v138 : BitVec 1 := Scalar.cmpi .ne v137 c0_i32_68
    ifB arg2 harg2 arg3 arg7 harg7 arg8 arg12 arg13 (cntW (lst [v0, v13, v26, v39, v52, v65, v78, v91, v104, v117]) 10) v130 (cast (by sl_kernel_rfl) k0_hw10) 10 (by decide) do
      let c0_i32_69 : BitVec 32 := 0#32
      let v139 : BitVec 1 := Scalar.cmpi .sgt v130 c0_i32_69
      let v140 : BitVec 32 := Scalar.extui v139
      let v141 : BitVec 32 := Scalar.addi v128 v140
      let v142 : BitVec 32 := Scalar.addi v129 v130
      let c11 : Index := 11#32
      ld arg0 11 (by decide) (cntW (lst [v0, v13, v26, v39, v52, v65, v78, v91, v104, v117, v130]) 11) fun v143 hg => do
        have k0_hw11 : k0_chk11 v0 v13 v26 v39 v52 v65 v78 v91 v104 v117 v130 v143 := cast (by sl_kernel_rfl) hg
        let c0_i32_70 : BitVec 32 := 0#32
        let v144 : BitVec 1 := Scalar.cmpi .sgt v143 c0_i32_70
        let v145 : BitVec 32 := Scalar.extui v144
        let c0_i32_71 : BitVec 32 := 0#32
        let v146 : BitVec 1 := Scalar.cmpi .ne v145 c0_i32_71
        ifA arg9 arg10 (cntW (lst [v0, v13, v26, v39, v52, v65, v78, v91, v104, v117, v130]) 11) v142 v143 (cast (by sl_kernel_rfl) k0_hw11) 11 do
          let c0_i32_72 : BitVec 32 := 0#32
          let v147 : BitVec 1 := Scalar.cmpi .sgt v143 c0_i32_72
          let c4_i32_73 : BitVec 32 := 4#32
          let v148 : BitVec 1 := Scalar.cmpi .slt v141 c4_i32_73
          let v149 : BitVec 1 := Scalar.andi v147 v148
          let v150 : BitVec 32 := Scalar.extui v149
          let c0_i32_74 : BitVec 32 := 0#32
          let v151 : BitVec 1 := Scalar.cmpi .ne v150 c0_i32_74
          ifB arg2 harg2 arg3 arg7 harg7 arg8 arg12 arg13 (cntW (lst [v0, v13, v26, v39, v52, v65, v78, v91, v104, v117, v130]) 11) v143 (cast (by sl_kernel_rfl) k0_hw11) 11 (by decide) do
            let c0_i32_75 : BitVec 32 := 0#32
            let v152 : BitVec 1 := Scalar.cmpi .sgt v143 c0_i32_75
            let v153 : BitVec 32 := Scalar.extui v152
            let v154 : BitVec 32 := Scalar.addi v141 v153
            let v155 : BitVec 32 := Scalar.addi v142 v143
            let c12 : Index := 12#32
            ld arg0 12 (by decide) (cntW (lst [v0, v13, v26, v39, v52, v65, v78, v91, v104, v117, v130, v143]) 12) fun v156 hg => do
              have k0_hw12 : k0_chk12 v0 v13 v26 v39 v52 v65 v78 v91 v104 v117 v130 v143 v156 := cast (by sl_kernel_rfl) hg
              let c0_i32_76 : BitVec 32 := 0#32
              let v157 : BitVec 1 := Scalar.cmpi .sgt v156 c0_i32_76
              let v158 : BitVec 32 := Scalar.extui v157
              let c0_i32_77 : BitVec 32 := 0#32
              let v159 : BitVec 1 := Scalar.cmpi .ne v158 c0_i32_77
              ifA arg9 arg10 (cntW (lst [v0, v13, v26, v39, v52, v65, v78, v91, v104, v117, v130, v143]) 12) v155 v156 (cast (by sl_kernel_rfl) k0_hw12) 12 do
                let c0_i32_78 : BitVec 32 := 0#32
                let v160 : BitVec 1 := Scalar.cmpi .sgt v156 c0_i32_78
                let c4_i32_79 : BitVec 32 := 4#32
                let v161 : BitVec 1 := Scalar.cmpi .slt v154 c4_i32_79
                let v162 : BitVec 1 := Scalar.andi v160 v161
                let v163 : BitVec 32 := Scalar.extui v162
                let c0_i32_80 : BitVec 32 := 0#32
                let v164 : BitVec 1 := Scalar.cmpi .ne v163 c0_i32_80
                pure ⟨v143, v154, v155, v156, k0_hw12⟩ : Prog (TpuEff nD τ sig (Elt F) Λ₀ .tc) ((Σ' (v143 : Elt F .i32) (v154 : BitVec 32) (v155 : BitVec 32) (v156 : Elt F .i32), k0_chk12 v0 v13 v26 v39 v52 v65 v78 v91 v104 v117 v130 v143 v156))) := by
  sl_kernel_rfl

set_option maxHeartbeats 4000000 in
theorem p164_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v154 : BitVec 32) (v155 : BitVec 32) (v156 : Elt F .i32) (k0_hw12 : k0_chk12 v0 v13 v26 v39 v52 v65 v78 v91 v104 v117 v130 v143 v156) :
    k0_part164 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12 = (do
  ifB arg2 harg2 arg3 arg7 harg7 arg8 arg12 arg13 (cntW (lst [v0, v13, v26, v39, v52, v65, v78, v91, v104, v117, v130, v143]) 12) v156 (cast (by sl_kernel_rfl) k0_hw12) 12 (by decide) do
    let c0_i32_81 : BitVec 32 := 0#32
    let v165 : BitVec 1 := Scalar.cmpi .sgt v156 c0_i32_81
    let v166 : BitVec 32 := Scalar.extui v165
    let v167 : BitVec 32 := Scalar.addi v154 v166
    let v168 : BitVec 32 := Scalar.addi v155 v156
    let c13 : Index := 13#32
    ld arg0 13 (by decide) (cntW (lst [v0, v13, v26, v39, v52, v65, v78, v91, v104, v117, v130, v143, v156]) 13) fun v169 hg => do
      have k0_hw13 : k0_chk13 v0 v13 v26 v39 v52 v65 v78 v91 v104 v117 v130 v143 v156 v169 := cast (by sl_kernel_rfl) hg
      let c0_i32_82 : BitVec 32 := 0#32
      let v170 : BitVec 1 := Scalar.cmpi .sgt v169 c0_i32_82
      let v171 : BitVec 32 := Scalar.extui v170
      let c0_i32_83 : BitVec 32 := 0#32
      let v172 : BitVec 1 := Scalar.cmpi .ne v171 c0_i32_83
      ifA arg9 arg10 (cntW (lst [v0, v13, v26, v39, v52, v65, v78, v91, v104, v117, v130, v143, v156]) 13) v168 v169 (cast (by sl_kernel_rfl) k0_hw13) 13 do
        let c0_i32_84 : BitVec 32 := 0#32
        let v173 : BitVec 1 := Scalar.cmpi .sgt v169 c0_i32_84
        let c4_i32_85 : BitVec 32 := 4#32
        let v174 : BitVec 1 := Scalar.cmpi .slt v167 c4_i32_85
        let v175 : BitVec 1 := Scalar.andi v173 v174
        let v176 : BitVec 32 := Scalar.extui v175
        let c0_i32_86 : BitVec 32 := 0#32
        let v177 : BitVec 1 := Scalar.cmpi .ne v176 c0_i32_86
        ifB arg2 harg2 arg3 arg7 harg7 arg8 arg12 arg13 (cntW (lst [v0, v13, v26, v39, v52, v65, v78, v91, v104, v117, v130, v143, v156]) 13) v169 (cast (by sl_kernel_rfl) k0_hw13) 13 (by decide) do
          let c0_i32_87 : BitVec 32 := 0#32
          let v178 : BitVec 1 := Scalar.cmpi .sgt v169 c0_i32_87
          let v179 : BitVec 32 := Scalar.extui v178
          let v180 : BitVec 32 := Scalar.addi v167 v179
          let v181 : BitVec 32 := Scalar.addi v168 v169
          let c14 : Index := 14#32
          ld arg0 14 (by decide) (cntW (lst [v0, v13, v26, v39, v52, v65, v78, v91, v104, v117, v130, v143, v156, v169]) 14) fun v182 hg => do
            have k0_hw14 : k0_chk14 v0 v13 v26 v39 v52 v65 v78 v91 v104 v117 v130 v143 v156 v169 v182 := cast (by sl_kernel_rfl) hg
            let c0_i32_88 : BitVec 32 := 0#32
            let v183 : BitVec 1 := Scalar.cmpi .sgt v182 c0_i32_88
            let v184 : BitVec 32 := Scalar.extui v183
            let c0_i32_89 : BitVec 32 := 0#32
            let v185 : BitVec 1 := Scalar.cmpi .ne v184 c0_i32_89
            ifA arg9 arg10 (cntW (lst [v0, v13, v26, v39, v52, v65, v78, v91, v104, v117, v130, v143, v156, v169]) 14) v181 v182 (cast (by sl_kernel_rfl) k0_hw14) 14 do
              let c0_i32_90 : BitVec 32 := 0#32
              let v186 : BitVec 1 := Scalar.cmpi .sgt v182 c0_i32_90
              let c4_i32_91 : BitVec 32 := 4#32
              let v187 : BitVec 1 := Scalar.cmpi .slt v180 c4_i32_91
              let v188 : BitVec 1 := Scalar.andi v186 v187
              let v189 : BitVec 32 := Scalar.extui v188
              let c0_i32_92 : BitVec 32 := 0#32
              let v190 : BitVec 1 := Scalar.cmpi .ne v189 c0_i32_92
              ifB arg2 harg2 arg3 arg7 harg7 arg8 arg12 arg13 (cntW (lst [v0, v13, v26, v39, v52, v65, v78, v91, v104, v117, v130, v143, v156, v169]) 14) v182 (cast (by sl_kernel_rfl) k0_hw14) 14 (by decide) do
                let c0_i32_93 : BitVec 32 := 0#32
                let v191 : BitVec 1 := Scalar.cmpi .sgt v182 c0_i32_93
                let v192 : BitVec 32 := Scalar.extui v191
                let v193 : BitVec 32 := Scalar.addi v180 v192
                let v194 : BitVec 32 := Scalar.addi v181 v182
                let c15 : Index := 15#32
                ld arg0 15 (by decide) (cntW (lst [v0, v13, v26, v39, v52, v65, v78, v91, v104, v117, v130, v143, v156, v169, v182]) 15) fun v195 hg => do
                  have k0_hw15 : k0_chk15 v0 v13 v26 v39 v52 v65 v78 v91 v104 v117 v130 v143 v156 v169 v182 v195 := cast (by sl_kernel_rfl) hg
                  let c0_i32_94 : BitVec 32 := 0#32
                  let v196 : BitVec 1 := Scalar.cmpi .sgt v195 c0_i32_94
                  let v197 : BitVec 32 := Scalar.extui v196
                  let c0_i32_95 : BitVec 32 := 0#32
                  let v198 : BitVec 1 := Scalar.cmpi .ne v197 c0_i32_95
                  pure ⟨v169, v182, v193, v194, v195, k0_hw15⟩ : Prog (TpuEff nD τ sig (Elt F) Λ₀ .tc) ((Σ' (v169 : Elt F .i32) (v182 : Elt F .i32) (v193 : BitVec 32) (v194 : BitVec 32) (v195 : Elt F .i32), k0_chk15 v0 v13 v26 v39 v52 v65 v78 v91 v104 v117 v130 v143 v156 v169 v182 v195))) := by
  sl_kernel_rfl

set_option maxHeartbeats 4000000 in
theorem p165_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v193 : BitVec 32) (v194 : BitVec 32) (v195 : Elt F .i32) (k0_hw15 : k0_chk15 v0 v13 v26 v39 v52 v65 v78 v91 v104 v117 v130 v143 v156 v169 v182 v195) :
    k0_part165 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15 = (do
  ifA arg9 arg10 (cntW (lst [v0, v13, v26, v39, v52, v65, v78, v91, v104, v117, v130, v143, v156, v169, v182]) 15) v194 v195 (cast (by sl_kernel_rfl) k0_hw15) 15 do
    let c0_i32_96 : BitVec 32 := 0#32
    let v199 : BitVec 1 := Scalar.cmpi .sgt v195 c0_i32_96
    let c4_i32_97 : BitVec 32 := 4#32
    let v200 : BitVec 1 := Scalar.cmpi .slt v193 c4_i32_97
    let v201 : BitVec 1 := Scalar.andi v199 v200
    let v202 : BitVec 32 := Scalar.extui v201
    let c0_i32_98 : BitVec 32 := 0#32
    let v203 : BitVec 1 := Scalar.cmpi .ne v202 c0_i32_98
    ifB arg2 harg2 arg3 arg7 harg7 arg8 arg12 arg13 (cntW (lst [v0, v13, v26, v39, v52, v65, v78, v91, v104, v117, v130, v143, v156, v169, v182]) 15) v195 (cast (by sl_kernel_rfl) k0_hw15) 15 (by decide) do
      let c0_i32_99 : BitVec 32 := 0#32
      let v204 : BitVec 1 := Scalar.cmpi .sgt v195 c0_i32_99
      let v205 : BitVec 32 := Scalar.extui v204
      let v206 : BitVec 32 := Scalar.addi v193 v205
      let v207 : BitVec 32 := Scalar.addi v194 v195
      let c16 : Index := 16#32
      ld arg0 16 (by decide) (cntW (lst [v0, v13, v26, v39, v52, v65, v78, v91, v104, v117, v130, v143, v156, v169, v182, v195]) 16) fun v208 hg => do
        have k0_hw16 : k0_chk16 v0 v13 v26 v39 v52 v65 v78 v91 v104 v117 v130 v143 v156 v169 v182 v195 v208 := cast (by sl_kernel_rfl) hg
        let c0_i32_100 : BitVec 32 := 0#32
        let v209 : BitVec 1 := Scalar.cmpi .sgt v208 c0_i32_100
        let v210 : BitVec 32 := Scalar.extui v209
        let c0_i32_101 : BitVec 32 := 0#32
        let v211 : BitVec 1 := Scalar.cmpi .ne v210 c0_i32_101
        ifA arg9 arg10 (cntW (lst [v0, v13, v26, v39, v52, v65, v78, v91, v104, v117, v130, v143, v156, v169, v182, v195]) 16) v207 v208 (cast (by sl_kernel_rfl) k0_hw16) 16 do
          let c0_i32_102 : BitVec 32 := 0#32
          let v212 : BitVec 1 := Scalar.cmpi .sgt v208 c0_i32_102
          let c4_i32_103 : BitVec 32 := 4#32
          let v213 : BitVec 1 := Scalar.cmpi .slt v206 c4_i32_103
          let v214 : BitVec 1 := Scalar.andi v212 v213
          let v215 : BitVec 32 := Scalar.extui v214
          let c0_i32_104 : BitVec 32 := 0#32
          let v216 : BitVec 1 := Scalar.cmpi .ne v215 c0_i32_104
          ifB arg2 harg2 arg3 arg7 harg7 arg8 arg12 arg13 (cntW (lst [v0, v13, v26, v39, v52, v65, v78, v91, v104, v117, v130, v143, v156, v169, v182, v195]) 16) v208 (cast (by sl_kernel_rfl) k0_hw16) 16 (by decide) do
            let c0_i32_105 : BitVec 32 := 0#32
            let v217 : BitVec 1 := Scalar.cmpi .sgt v208 c0_i32_105
            let v218 : BitVec 32 := Scalar.extui v217
            let v219 : BitVec 32 := Scalar.addi v206 v218
            let v220 : BitVec 32 := Scalar.addi v207 v208
            let c17 : Index := 17#32
            ld arg0 17 (by decide) (cntW (lst [v0, v13, v26, v39, v52, v65, v78, v91, v104, v117, v130, v143, v156, v169, v182, v195, v208]) 17) fun v221 hg => do
              have k0_hw17 : k0_chk17 v0 v13 v26 v39 v52 v65 v78 v91 v104 v117 v130 v143 v156 v169 v182 v195 v208 v221 := cast (by sl_kernel_rfl) hg
              let c0_i32_106 : BitVec 32 := 0#32
              let v222 : BitVec 1 := Scalar.cmpi .sgt v221 c0_i32_106
              let v223 : BitVec 32 := Scalar.extui v222
              let c0_i32_107 : BitVec 32 := 0#32
              let v224 : BitVec 1 := Scalar.cmpi .ne v223 c0_i32_107
              ifA arg9 arg10 (cntW (lst [v0, v13, v26, v39, v52, v65, v78, v91, v104, v117, v130, v143, v156, v169, v182, v195, v208]) 17) v220 v221 (cast (by sl_kernel_rfl) k0_hw17) 17 do
                let c0_i32_108 : BitVec 32 := 0#32
                let v225 : BitVec 1 := Scalar.cmpi .sgt v221 c0_i32_108
                let c4_i32_109 : BitVec 32 := 4#32
                let v226 : BitVec 1 := Scalar.cmpi .slt v219 c4_i32_109
                let v227 : BitVec 1 := Scalar.andi v225 v226
                let v228 : BitVec 32 := Scalar.extui v227
                let c0_i32_110 : BitVec 32 := 0#32
                let v229 : BitVec 1 := Scalar.cmpi .ne v228 c0_i32_110
                ifB arg2 harg2 arg3 arg7 harg7 arg8 arg12 arg13 (cntW (lst [v0, v13, v26, v39, v52, v65, v78, v91, v104, v117, v130, v143, v156, v169, v182, v195, v208]) 17) v221 (cast (by sl_kernel_rfl) k0_hw17) 17 (by decide) do
                  let c0_i32_111 : BitVec 32 := 0#32
                  let v230 : BitVec 1 := Scalar.cmpi .sgt v221 c0_i32_111
                  let v231 : BitVec 32 := Scalar.extui v230
                  let v232 : BitVec 32 := Scalar.addi v219 v231
                  pure ⟨v208, v220, v221, v232⟩ : Prog (TpuEff nD τ sig (Elt F) Λ₀ .tc) ((Σ' (v208 : Elt F .i32) (v220 : BitVec 32) (v221 : Elt F .i32), BitVec 32))) := by
  sl_kernel_rfl

set_option maxHeartbeats 4000000 in
theorem p166_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v220 : BitVec 32) (v221 : Elt F .i32) (v232 : BitVec 32) :
    k0_part166 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232 = (do
  let v233 : BitVec 32 := Scalar.addi v220 v221
  let c18 : Index := 18#32
  ld arg0 18 (by decide) (cntW (lst [v0, v13, v26, v39, v52, v65, v78, v91, v104, v117, v130, v143, v156, v169, v182, v195, v208, v221]) 18) fun v234 hg => do
    have k0_hw18 : k0_chk18 v0 v13 v26 v39 v52 v65 v78 v91 v104 v117 v130 v143 v156 v169 v182 v195 v208 v221 v234 := cast (by sl_kernel_rfl) hg
    let c0_i32_112 : BitVec 32 := 0#32
    let v235 : BitVec 1 := Scalar.cmpi .sgt v234 c0_i32_112
    let v236 : BitVec 32 := Scalar.extui v235
    let c0_i32_113 : BitVec 32 := 0#32
    let v237 : BitVec 1 := Scalar.cmpi .ne v236 c0_i32_113
    ifA arg9 arg10 (cntW (lst [v0, v13, v26, v39, v52, v65, v78, v91, v104, v117, v130, v143, v156, v169, v182, v195, v208, v221]) 18) v233 v234 (cast (by sl_kernel_rfl) k0_hw18) 18 do
      let c0_i32_114 : BitVec 32 := 0#32
      let v238 : BitVec 1 := Scalar.cmpi .sgt v234 c0_i32_114
      let c4_i32_115 : BitVec 32 := 4#32
      let v239 : BitVec 1 := Scalar.cmpi .slt v232 c4_i32_115
      let v240 : BitVec 1 := Scalar.andi v238 v239
      let v241 : BitVec 32 := Scalar.extui v240
      let c0_i32_116 : BitVec 32 := 0#32
      let v242 : BitVec 1 := Scalar.cmpi .ne v241 c0_i32_116
      ifB arg2 harg2 arg3 arg7 harg7 arg8 arg12 arg13 (cntW (lst [v0, v13, v26, v39, v52, v65, v78, v91, v104, v117, v130, v143, v156, v169, v182, v195, v208, v221]) 18) v234 (cast (by sl_kernel_rfl) k0_hw18) 18 (by decide) do
        let c0_i32_117 : BitVec 32 := 0#32
        let v243 : BitVec 1 := Scalar.cmpi .sgt v234 c0_i32_117
        let v244 : BitVec 32 := Scalar.extui v243
        let v245 : BitVec 32 := Scalar.addi v232 v244
        let v246 : BitVec 32 := Scalar.addi v233 v234
        let c19 : Index := 19#32
        ld arg0 19 (by decide) (cntW (lst [v0, v13, v26, v39, v52, v65, v78, v91, v104, v117, v130, v143, v156, v169, v182, v195, v208, v221, v234]) 19) fun v247 hg => do
          have k0_hw19 : k0_chk19 v0 v13 v26 v39 v52 v65 v78 v91 v104 v117 v130 v143 v156 v169 v182 v195 v208 v221 v234 v247 := cast (by sl_kernel_rfl) hg
          let c0_i32_118 : BitVec 32 := 0#32
          let v248 : BitVec 1 := Scalar.cmpi .sgt v247 c0_i32_118
          let v249 : BitVec 32 := Scalar.extui v248
          let c0_i32_119 : BitVec 32 := 0#32
          let v250 : BitVec 1 := Scalar.cmpi .ne v249 c0_i32_119
          ifA arg9 arg10 (cntW (lst [v0, v13, v26, v39, v52, v65, v78, v91, v104, v117, v130, v143, v156, v169, v182, v195, v208, v221, v234]) 19) v246 v247 (cast (by sl_kernel_rfl) k0_hw19) 19 do
            let c0_i32_120 : BitVec 32 := 0#32
            let v251 : BitVec 1 := Scalar.cmpi .sgt v247 c0_i32_120
            let c4_i32_121 : BitVec 32 := 4#32
            let v252 : BitVec 1 := Scalar.cmpi .slt v245 c4_i32_121
            let v253 : BitVec 1 := Scalar.andi v251 v252
            let v254 : BitVec 32 := Scalar.extui v253
            let c0_i32_122 : BitVec 32 := 0#32
            let v255 : BitVec 1 := Scalar.cmpi .ne v254 c0_i32_122
            ifB arg2 harg2 arg3 arg7 harg7 arg8 arg12 arg13 (cntW (lst [v0, v13, v26, v39, v52, v65, v78, v91, v104, v117, v130, v143, v156, v169, v182, v195, v208, v221, v234]) 19) v247 (cast (by sl_kernel_rfl) k0_hw19) 19 (by decide) do
              let c0_i32_123 : BitVec 32 := 0#32
              let v256 : BitVec 1 := Scalar.cmpi .sgt v247 c0_i32_123
              let v257 : BitVec 32 := Scalar.extui v256
              let v258 : BitVec 32 := Scalar.addi v245 v257
              let v259 : BitVec 32 := Scalar.addi v246 v247
              let c20 : Index := 20#32
              ld arg0 20 (by decide) (cntW (lst [v0, v13, v26, v39, v52, v65, v78, v91, v104, v117, v130, v143, v156, v169, v182, v195, v208, v221, v234, v247]) 20) fun v260 hg => do
                have k0_hw20 : k0_chk20 v0 v13 v26 v39 v52 v65 v78 v91 v104 v117 v130 v143 v156 v169 v182 v195 v208 v221 v234 v247 v260 := cast (by sl_kernel_rfl) hg
                let c0_i32_124 : BitVec 32 := 0#32
                let v261 : BitVec 1 := Scalar.cmpi .sgt v260 c0_i32_124
                let v262 : BitVec 32 := Scalar.extui v261
                let c0_i32_125 : BitVec 32 := 0#32
                let v263 : BitVec 1 := Scalar.cmpi .ne v262 c0_i32_125
                ifA arg9 arg10 (cntW (lst [v0, v13, v26, v39, v52, v65, v78, v91, v104, v117, v130, v143, v156, v169, v182, v195, v208, v221, v234, v247]) 20) v259 v260 (cast (by sl_kernel_rfl) k0_hw20) 20 do
                  let c0_i32_126 : BitVec 32 := 0#32
                  let v264 : BitVec 1 := Scalar.cmpi .sgt v260 c0_i32_126
                  let c4_i32_127 : BitVec 32 := 4#32
                  let v265 : BitVec 1 := Scalar.cmpi .slt v258 c4_i32_127
                  pure ⟨v234, v247, v258, v259, v260, k0_hw20, v264, v265⟩ : Prog (TpuEff nD τ sig (Elt F) Λ₀ .tc) ((Σ' (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1), BitVec 1))) := by
  sl_kernel_rfl

set_option maxHeartbeats 4000000 in
theorem p167_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1) (v265 : BitVec 1) :
    k0_part167 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265 = (do
  let v266 : BitVec 1 := Scalar.andi v264 v265
  let v267 : BitVec 32 := Scalar.extui v266
  let c0_i32_128 : BitVec 32 := 0#32
  let v268 : BitVec 1 := Scalar.cmpi .ne v267 c0_i32_128
  ifB arg2 harg2 arg3 arg7 harg7 arg8 arg12 arg13 (cntW (lst [v0, v13, v26, v39, v52, v65, v78, v91, v104, v117, v130, v143, v156, v169, v182, v195, v208, v221, v234, v247]) 20) v260 (cast (by sl_kernel_rfl) k0_hw20) 20 (by decide) do
    let c0_i32_129 : BitVec 32 := 0#32
    let v269 : BitVec 1 := Scalar.cmpi .sgt v260 c0_i32_129
    let v270 : BitVec 32 := Scalar.extui v269
    let v271 : BitVec 32 := Scalar.addi v258 v270
    let v272 : BitVec 32 := Scalar.addi v259 v260
    let c21 : Index := 21#32
    ld arg0 21 (by decide) (cntW (lst [v0, v13, v26, v39, v52, v65, v78, v91, v104, v117, v130, v143, v156, v169, v182, v195, v208, v221, v234, v247, v260]) 21) fun v273 hg => do
      have k0_hw21 : k0_chk21 v0 v13 v26 v39 v52 v65 v78 v91 v104 v117 v130 v143 v156 v169 v182 v195 v208 v221 v234 v247 v260 v273 := cast (by sl_kernel_rfl) hg
      let c0_i32_130 : BitVec 32 := 0#32
      let v274 : BitVec 1 := Scalar.cmpi .sgt v273 c0_i32_130
      let v275 : BitVec 32 := Scalar.extui v274
      let c0_i32_131 : BitVec 32 := 0#32
      let v276 : BitVec 1 := Scalar.cmpi .ne v275 c0_i32_131
      ifA arg9 arg10 (cntW (lst [v0, v13, v26, v39, v52, v65, v78, v91, v104, v117, v130, v143, v156, v169, v182, v195, v208, v221, v234, v247, v260]) 21) v272 v273 (cast (by sl_kernel_rfl) k0_hw21) 21 do
        let c0_i32_132 : BitVec 32 := 0#32
        let v277 : BitVec 1 := Scalar.cmpi .sgt v273 c0_i32_132
        let c4_i32_133 : BitVec 32 := 4#32
        let v278 : BitVec 1 := Scalar.cmpi .slt v271 c4_i32_133
        let v279 : BitVec 1 := Scalar.andi v277 v278
        let v280 : BitVec 32 := Scalar.extui v279
        let c0_i32_134 : BitVec 32 := 0#32
        let v281 : BitVec 1 := Scalar.cmpi .ne v280 c0_i32_134
        ifB arg2 harg2 arg3 arg7 harg7 arg8 arg12 arg13 (cntW (lst [v0, v13, v26, v39, v52, v65, v78, v91, v104, v117, v130, v143, v156, v169, v182, v195, v208, v221, v234, v247, v260]) 21) v273 (cast (by sl_kernel_rfl) k0_hw21) 21 (by decide) do
          let c0_i32_135 : BitVec 32 := 0#32
          let v282 : BitVec 1 := Scalar.cmpi .sgt v273 c0_i32_135
          let v283 : BitVec 32 := Scalar.extui v282
          let v284 : BitVec 32 := Scalar.addi v271 v283
          let v285 : BitVec 32 := Scalar.addi v272 v273
          let c22 : Index := 22#32
          ld arg0 22 (by decide) (cntW (lst [v0, v13, v26, v39, v52, v65, v78, v91, v104, v117, v130, v143, v156, v169, v182, v195, v208, v221, v234, v247, v260, v273]) 22) fun v286 hg => do
            have k0_hw22 : k0_chk22 v0 v13 v26 v39 v52 v65 v78 v91 v104 v117 v130 v143 v156 v169 v182 v195 v208 v221 v234 v247 v260 v273 v286 := cast (by sl_kernel_rfl) hg
            let c0_i32_136 : BitVec 32 := 0#32
            let v287 : BitVec 1 := Scalar.cmpi .sgt v286 c0_i32_136
            let v288 : BitVec 32 := Scalar.extui v287
            let c0_i32_137 : BitVec 32 := 0#32
            let v289 : BitVec 1 := Scalar.cmpi .ne v288 c0_i32_137
            ifA arg9 arg10 (cntW (lst [v0, v13, v26, v39, v52, v65, v78, v91, v104, v117, v130, v143, v156, v169, v182, v195, v208, v221, v234, v247, v260, v273]) 22) v285 v286 (cast (by sl_kernel_rfl) k0_hw22) 22 do
              let c0_i32_138 : BitVec 32 := 0#32
              let v290 : BitVec 1 := Scalar.cmpi .sgt v286 c0_i32_138
              let c4_i32_139 : BitVec 32 := 4#32
              let v291 : BitVec 1 := Scalar.cmpi .slt v284 c4_i32_139
              let v292 : BitVec 1 := Scalar.andi v290 v291
              let v293 : BitVec 32 := Scalar.extui v292
              let c0_i32_140 : BitVec 32 := 0#32
              let v294 : BitVec 1 := Scalar.cmpi .ne v293 c0_i32_140
              ifB arg2 harg2 arg3 arg7 harg7 arg8 arg12 arg13 (cntW (lst [v0, v13, v26, v39, v52, v65, v78, v91, v104, v117, v130, v143, v156, v169, v182, v195, v208, v221, v234, v247, v260, v273]) 22) v286 (cast (by sl_kernel_rfl) k0_hw22) 22 (by decide) do
                let c0_i32_141 : BitVec 32 := 0#32
                let v295 : BitVec 1 := Scalar.cmpi .sgt v286 c0_i32_141
                let v296 : BitVec 32 := Scalar.extui v295
                let v297 : BitVec 32 := Scalar.addi v284 v296
                let v298 : BitVec 32 := Scalar.addi v285 v286
                let c23 : Index := 23#32
                ld arg0 23 (by decide) (cntW (lst [v0, v13, v26, v39, v52, v65, v78, v91, v104, v117, v130, v143, v156, v169, v182, v195, v208, v221, v234, v247, v260, v273, v286]) 23) fun v299 hg => do
                  have k0_hw23 : k0_chk23 v0 v13 v26 v39 v52 v65 v78 v91 v104 v117 v130 v143 v156 v169 v182 v195 v208 v221 v234 v247 v260 v273 v286 v299 := cast (by sl_kernel_rfl) hg
                  let c0_i32_142 : BitVec 32 := 0#32
                  pure ⟨v273, v286, v297, v298, v299, k0_hw23, c0_i32_142⟩ : Prog (TpuEff nD τ sig (Elt F) Λ₀ .tc) ((Σ' (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299), BitVec 32))) := by
  sl_kernel_rfl

set_option maxHeartbeats 4000000 in
theorem p168_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299) (c0_i32_142 : BitVec 32) :
    k0_part168 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142 = (do
  let v300 : BitVec 1 := Scalar.cmpi .sgt v299 c0_i32_142
  let v301 : BitVec 32 := Scalar.extui v300
  let c0_i32_143 : BitVec 32 := 0#32
  let v302 : BitVec 1 := Scalar.cmpi .ne v301 c0_i32_143
  ifA arg9 arg10 (cntW (lst [v0, v13, v26, v39, v52, v65, v78, v91, v104, v117, v130, v143, v156, v169, v182, v195, v208, v221, v234, v247, v260, v273, v286]) 23) v298 v299 (cast (by sl_kernel_rfl) k0_hw23) 23 do
    let c0_i32_144 : BitVec 32 := 0#32
    let v303 : BitVec 1 := Scalar.cmpi .sgt v299 c0_i32_144
    let c4_i32_145 : BitVec 32 := 4#32
    let v304 : BitVec 1 := Scalar.cmpi .slt v297 c4_i32_145
    let v305 : BitVec 1 := Scalar.andi v303 v304
    let v306 : BitVec 32 := Scalar.extui v305
    let c0_i32_146 : BitVec 32 := 0#32
    let v307 : BitVec 1 := Scalar.cmpi .ne v306 c0_i32_146
    ifB arg2 harg2 arg3 arg7 harg7 arg8 arg12 arg13 (cntW (lst [v0, v13, v26, v39, v52, v65, v78, v91, v104, v117, v130, v143, v156, v169, v182, v195, v208, v221, v234, v247, v260, v273, v286]) 23) v299 (cast (by sl_kernel_rfl) k0_hw23) 23 (by decide) do
      let c0_i32_147 : BitVec 32 := 0#32
      let v308 : BitVec 1 := Scalar.cmpi .sgt v299 c0_i32_147
      let v309 : BitVec 32 := Scalar.extui v308
      let v310 : BitVec 32 := Scalar.addi v297 v309
      let v311 : BitVec 32 := Scalar.addi v298 v299
      let c24 : Index := 24#32
      ld arg0 24 (by decide) (cntW (lst [v0, v13, v26, v39, v52, v65, v78, v91, v104, v117, v130, v143, v156, v169, v182, v195, v208, v221, v234, v247, v260, v273, v286, v299]) 24) fun v312 hg => do
        have k0_hw24 : k0_chk24 v0 v13 v26 v39 v52 v65 v78 v91 v104 v117 v130 v143 v156 v169 v182 v195 v208 v221 v234 v247 v260 v273 v286 v299 v312 := cast (by sl_kernel_rfl) hg
        let c0_i32_148 : BitVec 32 := 0#32
        let v313 : BitVec 1 := Scalar.cmpi .sgt v312 c0_i32_148
        let v314 : BitVec 32 := Scalar.extui v313
        let c0_i32_149 : BitVec 32 := 0#32
        let v315 : BitVec 1 := Scalar.cmpi .ne v314 c0_i32_149
        ifA arg9 arg10 (cntW (lst [v0, v13, v26, v39, v52, v65, v78, v91, v104, v117, v130, v143, v156, v169, v182, v195, v208, v221, v234, v247, v260, v273, v286, v299]) 24) v311 v312 (cast (by sl_kernel_rfl) k0_hw24) 24 do
          let c0_i32_150 : BitVec 32 := 0#32
          let v316 : BitVec 1 := Scalar.cmpi .sgt v312 c0_i32_150
          let c4_i32_151 : BitVec 32 := 4#32
          let v317 : BitVec 1 := Scalar.cmpi .slt v310 c4_i32_151
          let v318 : BitVec 1 := Scalar.andi v316 v317
          let v319 : BitVec 32 := Scalar.extui v318
          let c0_i32_152 : BitVec 32 := 0#32
          let v320 : BitVec 1 := Scalar.cmpi .ne v319 c0_i32_152
          ifB arg2 harg2 arg3 arg7 harg7 arg8 arg12 arg13 (cntW (lst [v0, v13, v26, v39, v52, v65, v78, v91, v104, v117, v130, v143, v156, v169, v182, v195, v208, v221, v234, v247, v260, v273, v286, v299]) 24) v312 (cast (by sl_kernel_rfl) k0_hw24) 24 (by decide) do
            let c0_i32_153 : BitVec 32 := 0#32
            let v321 : BitVec 1 := Scalar.cmpi .sgt v312 c0_i32_153
            let v322 : BitVec 32 := Scalar.extui v321
            let v323 : BitVec 32 := Scalar.addi v310 v322
            let v324 : BitVec 32 := Scalar.addi v311 v312
            let c25 : Index := 25#32
            ld arg0 25 (by decide) (cntW (lst [v0, v13, v26, v39, v52, v65, v78, v91, v104, v117, v130, v143, v156, v169, v182, v195, v208, v221, v234, v247, v260, v273, v286, v299, v312]) 25) fun v325 hg => do
              have k0_hw25 : k0_chk25 v0 v13 v26 v39 v52 v65 v78 v91 v104 v117 v130 v143 v156 v169 v182 v195 v208 v221 v234 v247 v260 v273 v286 v299 v312 v325 := cast (by sl_kernel_rfl) hg
              let c0_i32_154 : BitVec 32 := 0#32
              let v326 : BitVec 1 := Scalar.cmpi .sgt v325 c0_i32_154
              let v327 : BitVec 32 := Scalar.extui v326
              let c0_i32_155 : BitVec 32 := 0#32
              let v328 : BitVec 1 := Scalar.cmpi .ne v327 c0_i32_155
              ifA arg9 arg10 (cntW (lst [v0, v13, v26, v39, v52, v65, v78, v91, v104, v117, v130, v143, v156, v169, v182, v195, v208, v221, v234, v247, v260, v273, v286, v299, v312]) 25) v324 v325 (cast (by sl_kernel_rfl) k0_hw25) 25 do
                let c0_i32_156 : BitVec 32 := 0#32
                let v329 : BitVec 1 := Scalar.cmpi .sgt v325 c0_i32_156
                let c4_i32_157 : BitVec 32 := 4#32
                let v330 : BitVec 1 := Scalar.cmpi .slt v323 c4_i32_157
                let v331 : BitVec 1 := Scalar.andi v329 v330
                let v332 : BitVec 32 := Scalar.extui v331
                let c0_i32_158 : BitVec 32 := 0#32
                let v333 : BitVec 1 := Scalar.cmpi .ne v332 c0_i32_158
                ifB arg2 harg2 arg3 arg7 harg7 arg8 arg12 arg13 (cntW (lst [v0, v13, v26, v39, v52, v65, v78, v91, v104, v117, v130, v143, v156, v169, v182, v195, v208, v221, v234, v247, v260, v273, v286, v299, v312]) 25) v325 (cast (by sl_kernel_rfl) k0_hw25) 25 (by decide) do
                  pure ⟨v312, v323, v324, v325⟩ : Prog (TpuEff nD τ sig (Elt F) Λ₀ .tc) ((Σ' (v312 : Elt F .i32) (v323 : BitVec 32) (v324 : BitVec 32), Elt F .i32))) := by
  sl_kernel_rfl

set_option maxHeartbeats 4000000 in
theorem p169_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v323 : BitVec 32) (v324 : BitVec 32) (v325 : Elt F .i32) :
    k0_part169 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325 = (do
  let c0_i32_159 : BitVec 32 := 0#32
  let v334 : BitVec 1 := Scalar.cmpi .sgt v325 c0_i32_159
  let v335 : BitVec 32 := Scalar.extui v334
  let v336 : BitVec 32 := Scalar.addi v323 v335
  let v337 : BitVec 32 := Scalar.addi v324 v325
  let c26 : Index := 26#32
  ld arg0 26 (by decide) (cntW (lst [v0, v13, v26, v39, v52, v65, v78, v91, v104, v117, v130, v143, v156, v169, v182, v195, v208, v221, v234, v247, v260, v273, v286, v299, v312, v325]) 26) fun v338 hg => do
    have k0_hw26 : k0_chk26 v0 v13 v26 v39 v52 v65 v78 v91 v104 v117 v130 v143 v156 v169 v182 v195 v208 v221 v234 v247 v260 v273 v286 v299 v312 v325 v338 := cast (by sl_kernel_rfl) hg
    let c0_i32_160 : BitVec 32 := 0#32
    let v339 : BitVec 1 := Scalar.cmpi .sgt v338 c0_i32_160
    let v340 : BitVec 32 := Scalar.extui v339
    let c0_i32_161 : BitVec 32 := 0#32
    let v341 : BitVec 1 := Scalar.cmpi .ne v340 c0_i32_161
    ifA arg9 arg10 (cntW (lst [v0, v13, v26, v39, v52, v65, v78, v91, v104, v117, v130, v143, v156, v169, v182, v195, v208, v221, v234, v247, v260, v273, v286, v299, v312, v325]) 26) v337 v338 (cast (by sl_kernel_rfl) k0_hw26) 26 do
      let c0_i32_162 : BitVec 32 := 0#32
      let v342 : BitVec 1 := Scalar.cmpi .sgt v338 c0_i32_162
      let c4_i32_163 : BitVec 32 := 4#32
      let v343 : BitVec 1 := Scalar.cmpi .slt v336 c4_i32_163
      let v344 : BitVec 1 := Scalar.andi v342 v343
      let v345 : BitVec 32 := Scalar.extui v344
      let c0_i32_164 : BitVec 32 := 0#32
      let v346 : BitVec 1 := Scalar.cmpi .ne v345 c0_i32_164
      ifB arg2 harg2 arg3 arg7 harg7 arg8 arg12 arg13 (cntW (lst [v0, v13, v26, v39, v52, v65, v78, v91, v104, v117, v130, v143, v156, v169, v182, v195, v208, v221, v234, v247, v260, v273, v286, v299, v312, v325]) 26) v338 (cast (by sl_kernel_rfl) k0_hw26) 26 (by decide) do
        let c0_i32_165 : BitVec 32 := 0#32
        let v347 : BitVec 1 := Scalar.cmpi .sgt v338 c0_i32_165
        let v348 : BitVec 32 := Scalar.extui v347
        let v349 : BitVec 32 := Scalar.addi v336 v348
        let v350 : BitVec 32 := Scalar.addi v337 v338
        let c27 : Index := 27#32
        ld arg0 27 (by decide) (cntW (lst [v0, v13, v26, v39, v52, v65, v78, v91, v104, v117, v130, v143, v156, v169, v182, v195, v208, v221, v234, v247, v260, v273, v286, v299, v312, v325, v338]) 27) fun v351 hg => do
          have k0_hw27 : k0_chk27 v0 v13 v26 v39 v52 v65 v78 v91 v104 v117 v130 v143 v156 v169 v182 v195 v208 v221 v234 v247 v260 v273 v286 v299 v312 v325 v338 v351 := cast (by sl_kernel_rfl) hg
          let c0_i32_166 : BitVec 32 := 0#32
          let v352 : BitVec 1 := Scalar.cmpi .sgt v351 c0_i32_166
          let v353 : BitVec 32 := Scalar.extui v352
          let c0_i32_167 : BitVec 32 := 0#32
          let v354 : BitVec 1 := Scalar.cmpi .ne v353 c0_i32_167
          ifA arg9 arg10 (cntW (lst [v0, v13, v26, v39, v52, v65, v78, v91, v104, v117, v130, v143, v156, v169, v182, v195, v208, v221, v234, v247, v260, v273, v286, v299, v312, v325, v338]) 27) v350 v351 (cast (by sl_kernel_rfl) k0_hw27) 27 do
            let c0_i32_168 : BitVec 32 := 0#32
            let v355 : BitVec 1 := Scalar.cmpi .sgt v351 c0_i32_168
            let c4_i32_169 : BitVec 32 := 4#32
            let v356 : BitVec 1 := Scalar.cmpi .slt v349 c4_i32_169
            let v357 : BitVec 1 := Scalar.andi v355 v356
            let v358 : BitVec 32 := Scalar.extui v357
            let c0_i32_170 : BitVec 32 := 0#32
            let v359 : BitVec 1 := Scalar.cmpi .ne v358 c0_i32_170
            ifB arg2 harg2 arg3 arg7 harg7 arg8 arg12 arg13 (cntW (lst [v0, v13, v26, v39, v52, v65, v78, v91, v104, v117, v130, v143, v156, v169, v182, v195, v208, v221, v234, v247, v260, v273, v286, v299, v312, v325, v338]) 27) v351 (cast (by sl_kernel_rfl) k0_hw27) 27 (by decide) do
              let c0_i32_171 : BitVec 32 := 0#32
              let v360 : BitVec 1 := Scalar.cmpi .sgt v351 c0_i32_171
              let v361 : BitVec 32 := Scalar.extui v360
              let v362 : BitVec 32 := Scalar.addi v349 v361
              let v363 : BitVec 32 := Scalar.addi v350 v351
              let c28 : Index := 28#32
              ld arg0 28 (by decide) (cntW (lst [v0, v13, v26, v39, v52, v65, v78, v91, v104, v117, v130, v143, v156, v169, v182, v195, v208, v221, v234, v247, v260, v273, v286, v299, v312, v325, v338, v351]) 28) fun v364 hg => do
                have k0_hw28 : k0_chk28 v0 v13 v26 v39 v52 v65 v78 v91 v104 v117 v130 v143 v156 v169 v182 v195 v208 v221 v234 v247 v260 v273 v286 v299 v312 v325 v338 v351 v364 := cast (by sl_kernel_rfl) hg
                let c0_i32_172 : BitVec 32 := 0#32
                let v365 : BitVec 1 := Scalar.cmpi .sgt v364 c0_i32_172
                let v366 : BitVec 32 := Scalar.extui v365
                let c0_i32_173 : BitVec 32 := 0#32
                let v367 : BitVec 1 := Scalar.cmpi .ne v366 c0_i32_173
                ifA arg9 arg10 (cntW (lst [v0, v13, v26, v39, v52, v65, v78, v91, v104, v117, v130, v143, v156, v169, v182, v195, v208, v221, v234, v247, v260, v273, v286, v299, v312, v325, v338, v351]) 28) v363 v364 (cast (by sl_kernel_rfl) k0_hw28) 28 do
                  pure ⟨v338, v351, v362, v363, v364, k0_hw28⟩ : Prog (TpuEff nD τ sig (Elt F) Λ₀ .tc) ((Σ' (v338 : Elt F .i32) (v351 : Elt F .i32) (v362 : BitVec 32) (v363 : BitVec 32) (v364 : Elt F .i32), k0_chk28 v0 v13 v26 v39 v52 v65 v78 v91 v104 v117 v130 v143 v156 v169 v182 v195 v208 v221 v234 v247 v260 v273 v286 v299 v312 v325 v338 v351 v364))) := by
  sl_kernel_rfl

set_option maxHeartbeats 4000000 in
theorem p170_eq (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v362 : BitVec 32) (v363 : BitVec 32) (v364 : Elt F .i32) (k0_hw28 : k0_chk28 v0 v13 v26 v39 v52 v65 v78 v91 v104 v117 v130 v143 v156 v169 v182 v195 v208 v221 v234 v247 v260 v273 v286 v299 v312 v325 v338 v351 v364) :
    k0_part170 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28 = (do
  let c0_i32_174 : BitVec 32 := 0#32
  let v368 : BitVec 1 := Scalar.cmpi .sgt v364 c0_i32_174
  let c4_i32_175 : BitVec 32 := 4#32
  let v369 : BitVec 1 := Scalar.cmpi .slt v362 c4_i32_175
  let v370 : BitVec 1 := Scalar.andi v368 v369
  let v371 : BitVec 32 := Scalar.extui v370
  let c0_i32_176 : BitVec 32 := 0#32
  let v372 : BitVec 1 := Scalar.cmpi .ne v371 c0_i32_176
  ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351]) 28) v364 (cast (by sl_kernel_rfl) k0_hw28) 28 (by decide) do
    let c0_i32_177 : BitVec 32 := 0#32
    let v373 : BitVec 1 := Scalar.cmpi .sgt v364 c0_i32_177
    let v374 : BitVec 32 := Scalar.extui v373
    let v375 : BitVec 32 := Scalar.addi v362 v374
    let v376 : BitVec 32 := Scalar.addi v363 v364
    let c29 : Index := 29#32
    ld arg0 29 (by decide) (cntW (lst [v0, v13, v26, v39, v52, v65, v78, v91, v104, v117, v130, v143, v156, v169, v182, v195, v208, v221, v234, v247, v260, v273, v286, v299, v312, v325, v338, v351, v364]) 29) fun v377 hg => do
      have k0_hw29 : k0_chk29 v0 v13 v26 v39 v52 v65 v78 v91 v104 v117 v130 v143 v156 v169 v182 v195 v208 v221 v234 v247 v260 v273 v286 v299 v312 v325 v338 v351 v364 v377 := cast (by sl_kernel_rfl) hg
      let c0_i32_178 : BitVec 32 := 0#32
      let v378 : BitVec 1 := Scalar.cmpi .sgt v377 c0_i32_178
      let v379 : BitVec 32 := Scalar.extui v378
      let c0_i32_179 : BitVec 32 := 0#32
      let v380 : BitVec 1 := Scalar.cmpi .ne v379 c0_i32_179
      ifA arg9 arg10 (cntW (lst [v0, v13, v26, v39, v52, v65, v78, v91, v104, v117, v130, v143, v156, v169, v182, v195, v208, v221, v234, v247, v260, v273, v286, v299, v312, v325, v338, v351, v364]) 29) v376 v377 (cast (by sl_kernel_rfl) k0_hw29) 29 do
        let c0_i32_180 : BitVec 32 := 0#32
        let v381 : BitVec 1 := Scalar.cmpi .sgt v377 c0_i32_180
        let c4_i32_181 : BitVec 32 := 4#32
        let v382 : BitVec 1 := Scalar.cmpi .slt v375 c4_i32_181
        let v383 : BitVec 1 := Scalar.andi v381 v382
        let v384 : BitVec 32 := Scalar.extui v383
        let c0_i32_182 : BitVec 32 := 0#32
        let v385 : BitVec 1 := Scalar.cmpi .ne v384 c0_i32_182
        ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364]) 29) v377 (cast (by sl_kernel_rfl) k0_hw29) 29 (by decide) do
          let c0_i32_183 : BitVec 32 := 0#32
          let v386 : BitVec 1 := Scalar.cmpi .sgt v377 c0_i32_183
          let v387 : BitVec 32 := Scalar.extui v386
          let v388 : BitVec 32 := Scalar.addi v375 v387
          let v389 : BitVec 32 := Scalar.addi v376 v377
          let c30 : Index := 30#32
          ld arg0 30 (by decide) (cntW (lst [v0, v13, v26, v39, v52, v65, v78, v91, v104, v117, v130, v143, v156, v169, v182, v195, v208, v221, v234, v247, v260, v273, v286, v299, v312, v325, v338, v351, v364, v377]) 30) fun v390 hg => do
            have k0_hw30 : k0_chk30 v0 v13 v26 v39 v52 v65 v78 v91 v104 v117 v130 v143 v156 v169 v182 v195 v208 v221 v234 v247 v260 v273 v286 v299 v312 v325 v338 v351 v364 v377 v390 := cast (by sl_kernel_rfl) hg
            let c0_i32_184 : BitVec 32 := 0#32
            let v391 : BitVec 1 := Scalar.cmpi .sgt v390 c0_i32_184
            let v392 : BitVec 32 := Scalar.extui v391
            let c0_i32_185 : BitVec 32 := 0#32
            let v393 : BitVec 1 := Scalar.cmpi .ne v392 c0_i32_185
            ifA arg9 arg10 (cntW (lst [v0, v13, v26, v39, v52, v65, v78, v91, v104, v117, v130, v143, v156, v169, v182, v195, v208, v221, v234, v247, v260, v273, v286, v299, v312, v325, v338, v351, v364, v377]) 30) v389 v390 (cast (by sl_kernel_rfl) k0_hw30) 30 do
              let c0_i32_186 : BitVec 32 := 0#32
              let v394 : BitVec 1 := Scalar.cmpi .sgt v390 c0_i32_186
              let c4_i32_187 : BitVec 32 := 4#32
              let v395 : BitVec 1 := Scalar.cmpi .slt v388 c4_i32_187
              let v396 : BitVec 1 := Scalar.andi v394 v395
              let v397 : BitVec 32 := Scalar.extui v396
              let c0_i32_188 : BitVec 32 := 0#32
              let v398 : BitVec 1 := Scalar.cmpi .ne v397 c0_i32_188
              ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364, v377]) 30) v390 (cast (by sl_kernel_rfl) k0_hw30) 30 (by decide) do
                let c0_i32_189 : BitVec 32 := 0#32
                let v399 : BitVec 1 := Scalar.cmpi .sgt v390 c0_i32_189
                let v400 : BitVec 32 := Scalar.extui v399
                let v401 : BitVec 32 := Scalar.addi v388 v400
                let v402 : BitVec 32 := Scalar.addi v389 v390
                pure ⟨v377, v390, v401, v402⟩ : Prog (TpuEff nD τ sig (Elt F) Λ₀ .tc) ((Σ' (v377 : Elt F .i32) (v390 : Elt F .i32) (v401 : BitVec 32), BitVec 32))) := by
  sl_kernel_rfl

set_option maxHeartbeats 4000000 in
theorem p159_bind {β : Type}
    (K : ((Σ' (k0_mxu1 : Mxu F) (v0 : Elt F .i32) (v13 : Elt F .i32) (v24 : BitVec 32) (v25 : BitVec 32) (v26 : Elt F .i32) (k0_hw2 : k0_chk2 v0 v13 v26) (v28 : BitVec 32), BitVec 32)) → Prog (TpuEff nD τ sig (Elt F) Λ₀ .tc) β) :
    (k0_part159 (F := F) arg0 harg0 arg1 harg1 arg2 harg2 arg3 harg3 arg4 harg4 arg5 harg5 arg6 harg6 arg7 harg7 arg8 harg8 arg9 harg9 arg10 harg10 arg11 arg12 arg13  >>= K) = (do
  have k0_mxu1 : Mxu F := Mxu.init
  Prog.lift (.enqueueDma arg1 (.here arg5) (.dma arg11.sem) harg1.wordExact harg5.wordExact ⟨Or.inl rfl, trivial⟩)
  let c0 : Index := 0#32
  let v0 : Elt F .i32 ← smemLoad arg0 (Rect.unit (s := S32) ![0] S1.size inb_S32_S1_0) numel1_S1 rfl
  let c0_i32 : BitVec 32 := 0#32
  let v1 : BitVec 1 := Scalar.cmpi .sgt v0 c0_i32
  let v2 : BitVec 32 := Scalar.extui v1
  let c0_i32_0 : BitVec 32 := 0#32
  let c0_i32_1 : BitVec 32 := 0#32
  let c0_i32_2 : BitVec 32 := 0#32
  let v3 : BitVec 1 := Scalar.cmpi .ne v2 c0_i32_2
  ifA0 arg9 arg10 v0 do
    let c0_i32_3 : BitVec 32 := 0#32
    let v4 : BitVec 1 := Scalar.cmpi .sgt v0 c0_i32_3
    let c0_i32_4 : BitVec 32 := 0#32
    let c4_i32 : BitVec 32 := 4#32
    let v5 : BitVec 1 := Scalar.cmpi .slt c0_i32_4 c4_i32
    let v6 : BitVec 1 := Scalar.andi v4 v5
    let v7 : BitVec 32 := Scalar.extui v6
    let c0_i32_5 : BitVec 32 := 0#32
    let c0_i32_6 : BitVec 32 := 0#32
    let v8 : BitVec 1 := Scalar.cmpi .ne v7 c0_i32_6
    ifB0 arg2 harg2 arg3 arg7 harg7 arg8 arg12 arg13 v0 do
      let c0_i32_7 : BitVec 32 := 0#32
      let v9 : BitVec 1 := Scalar.cmpi .sgt v0 c0_i32_7
      let v10 : BitVec 32 := Scalar.extui v9
      let c0_i32_8 : BitVec 32 := 0#32
      let v11 : BitVec 32 := Scalar.addi c0_i32_8 v10
      let c0_i32_9 : BitVec 32 := 0#32
      let v12 : BitVec 32 := Scalar.addi c0_i32_9 v0
      let c1 : Index := 1#32
      ld arg0 1 (by decide) (cntW (lst [v0]) 1) fun v13 hg => do
        have k0_hw1 : k0_chk1 v0 v13 := cast (by sl_kernel_rfl) hg
        let c0_i32_10 : BitVec 32 := 0#32
        let v14 : BitVec 1 := Scalar.cmpi .sgt v13 c0_i32_10
        let v15 : BitVec 32 := Scalar.extui v14
        let c0_i32_11 : BitVec 32 := 0#32
        let v16 : BitVec 1 := Scalar.cmpi .ne v15 c0_i32_11
        ifA arg9 arg10 (cntW (lst [v0]) 1) v12 v13 (cast (by sl_kernel_rfl) k0_hw1) 1 do
          let c0_i32_12 : BitVec 32 := 0#32
          let v17 : BitVec 1 := Scalar.cmpi .sgt v13 c0_i32_12
          let c4_i32_13 : BitVec 32 := 4#32
          let v18 : BitVec 1 := Scalar.cmpi .slt v11 c4_i32_13
          let v19 : BitVec 1 := Scalar.andi v17 v18
          let v20 : BitVec 32 := Scalar.extui v19
          let c0_i32_14 : BitVec 32 := 0#32
          let v21 : BitVec 1 := Scalar.cmpi .ne v20 c0_i32_14
          ifB arg2 harg2 arg3 arg7 harg7 arg8 arg12 arg13 (cntW (lst [v0]) 1) v13 (cast (by sl_kernel_rfl) k0_hw1) 1 (by decide) do
            let c0_i32_15 : BitVec 32 := 0#32
            let v22 : BitVec 1 := Scalar.cmpi .sgt v13 c0_i32_15
            let v23 : BitVec 32 := Scalar.extui v22
            let v24 : BitVec 32 := Scalar.addi v11 v23
            let v25 : BitVec 32 := Scalar.addi v12 v13
            let c2 : Index := 2#32
            ld arg0 2 (by decide) (cntW (lst [v0, v13]) 2) fun v26 hg => do
              have k0_hw2 : k0_chk2 v0 v13 v26 := cast (by sl_kernel_rfl) hg
              let c0_i32_16 : BitVec 32 := 0#32
              let v27 : BitVec 1 := Scalar.cmpi .sgt v26 c0_i32_16
              let v28 : BitVec 32 := Scalar.extui v27
              let c0_i32_17 : BitVec 32 := 0#32
              K ⟨k0_mxu1, v0, v13, v24, v25, v26, k0_hw2, v28, c0_i32_17⟩ : Prog (TpuEff nD τ sig (Elt F) Λ₀ .tc) β) := by
  rw [p159_eq]
  simp only [Prog.bind_assoc, ld_bind, ldL_bind, ifA_bind, ifB_bind, ifA0_bind, ifB0_bind]
  sl_kernel_rfl

set_option maxHeartbeats 4000000 in
theorem p160_bind (v0 : Elt F .i32) (v13 : Elt F .i32) (v24 : BitVec 32) (v25 : BitVec 32) (v26 : Elt F .i32) (k0_hw2 : k0_chk2 v0 v13 v26) (v28 : BitVec 32) (c0_i32_17 : BitVec 32) {β : Type}
    (K : ((Σ' (v39 : Elt F .i32) (v50 : BitVec 32) (v51 : BitVec 32) (v52 : Elt F .i32), BitVec 32)) → Prog (TpuEff nD τ sig (Elt F) Λ₀ .tc) β) :
    (k0_part160 (F := F) arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17 >>= K) = (do
  let v29 : BitVec 1 := Scalar.cmpi .ne v28 c0_i32_17
  ifA arg9 arg10 (cntW (lst [v0, v13]) 2) v25 v26 (cast (by sl_kernel_rfl) k0_hw2) 2 do
    let c0_i32_18 : BitVec 32 := 0#32
    let v30 : BitVec 1 := Scalar.cmpi .sgt v26 c0_i32_18
    let c4_i32_19 : BitVec 32 := 4#32
    let v31 : BitVec 1 := Scalar.cmpi .slt v24 c4_i32_19
    let v32 : BitVec 1 := Scalar.andi v30 v31
    let v33 : BitVec 32 := Scalar.extui v32
    let c0_i32_20 : BitVec 32 := 0#32
    let v34 : BitVec 1 := Scalar.cmpi .ne v33 c0_i32_20
    ifB arg2 harg2 arg3 arg7 harg7 arg8 arg12 arg13 (cntW (lst [v0, v13]) 2) v26 (cast (by sl_kernel_rfl) k0_hw2) 2 (by decide) do
      let c0_i32_21 : BitVec 32 := 0#32
      let v35 : BitVec 1 := Scalar.cmpi .sgt v26 c0_i32_21
      let v36 : BitVec 32 := Scalar.extui v35
      let v37 : BitVec 32 := Scalar.addi v24 v36
      let v38 : BitVec 32 := Scalar.addi v25 v26
      let c3 : Index := 3#32
      ld arg0 3 (by decide) (cntW (lst [v0, v13, v26]) 3) fun v39 hg => do
        have k0_hw3 : k0_chk3 v0 v13 v26 v39 := cast (by sl_kernel_rfl) hg
        let c0_i32_22 : BitVec 32 := 0#32
        let v40 : BitVec 1 := Scalar.cmpi .sgt v39 c0_i32_22
        let v41 : BitVec 32 := Scalar.extui v40
        let c0_i32_23 : BitVec 32 := 0#32
        let v42 : BitVec 1 := Scalar.cmpi .ne v41 c0_i32_23
        ifA arg9 arg10 (cntW (lst [v0, v13, v26]) 3) v38 v39 (cast (by sl_kernel_rfl) k0_hw3) 3 do
          let c0_i32_24 : BitVec 32 := 0#32
          let v43 : BitVec 1 := Scalar.cmpi .sgt v39 c0_i32_24
          let c4_i32_25 : BitVec 32 := 4#32
          let v44 : BitVec 1 := Scalar.cmpi .slt v37 c4_i32_25
          let v45 : BitVec 1 := Scalar.andi v43 v44
          let v46 : BitVec 32 := Scalar.extui v45
          let c0_i32_26 : BitVec 32 := 0#32
          let v47 : BitVec 1 := Scalar.cmpi .ne v46 c0_i32_26
          ifB arg2 harg2 arg3 arg7 harg7 arg8 arg12 arg13 (cntW (lst [v0, v13, v26]) 3) v39 (cast (by sl_kernel_rfl) k0_hw3) 3 (by decide) do
            let c0_i32_27 : BitVec 32 := 0#32
            let v48 : BitVec 1 := Scalar.cmpi .sgt v39 c0_i32_27
            let v49 : BitVec 32 := Scalar.extui v48
            let v50 : BitVec 32 := Scalar.addi v37 v49
            let v51 : BitVec 32 := Scalar.addi v38 v39
            let c4 : Index := 4#32
            ld arg0 4 (by decide) (cntW (lst [v0, v13, v26, v39]) 4) fun v52 hg => do
              have k0_hw4 : k0_chk4 v0 v13 v26 v39 v52 := cast (by sl_kernel_rfl) hg
              let c0_i32_28 : BitVec 32 := 0#32
              let v53 : BitVec 1 := Scalar.cmpi .sgt v52 c0_i32_28
              let v54 : BitVec 32 := Scalar.extui v53
              let c0_i32_29 : BitVec 32 := 0#32
              let v55 : BitVec 1 := Scalar.cmpi .ne v54 c0_i32_29
              ifA arg9 arg10 (cntW (lst [v0, v13, v26, v39]) 4) v51 v52 (cast (by sl_kernel_rfl) k0_hw4) 4 do
                let c0_i32_30 : BitVec 32 := 0#32
                let v56 : BitVec 1 := Scalar.cmpi .sgt v52 c0_i32_30
                let c4_i32_31 : BitVec 32 := 4#32
                let v57 : BitVec 1 := Scalar.cmpi .slt v50 c4_i32_31
                let v58 : BitVec 1 := Scalar.andi v56 v57
                let v59 : BitVec 32 := Scalar.extui v58
                let c0_i32_32 : BitVec 32 := 0#32
                let v60 : BitVec 1 := Scalar.cmpi .ne v59 c0_i32_32
                ifB arg2 harg2 arg3 arg7 harg7 arg8 arg12 arg13 (cntW (lst [v0, v13, v26, v39]) 4) v52 (cast (by sl_kernel_rfl) k0_hw4) 4 (by decide) do
                  let c0_i32_33 : BitVec 32 := 0#32
                  let v61 : BitVec 1 := Scalar.cmpi .sgt v52 c0_i32_33
                  let v62 : BitVec 32 := Scalar.extui v61
                  K ⟨v39, v50, v51, v52, v62⟩ : Prog (TpuEff nD τ sig (Elt F) Λ₀ .tc) β) := by
  rw [p160_eq]
  simp only [Prog.bind_assoc, ld_bind, ldL_bind, ifA_bind, ifB_bind, ifA0_bind, ifB0_bind]
  sl_kernel_rfl

set_option maxHeartbeats 4000000 in
theorem p161_bind (v0 : Elt F .i32) (v13 : Elt F .i32) (v26 : Elt F .i32) (v39 : Elt F .i32) (v50 : BitVec 32) (v51 : BitVec 32) (v52 : Elt F .i32) (v62 : BitVec 32) {β : Type}
    (K : ((Σ' (v65 : Elt F .i32) (v78 : Elt F .i32) (v89 : BitVec 32) (v90 : BitVec 32) (v91 : Elt F .i32) (k0_hw7 : k0_chk7 v0 v13 v26 v39 v52 v65 v78 v91) (v95 : BitVec 1), BitVec 32)) → Prog (TpuEff nD τ sig (Elt F) Λ₀ .tc) β) :
    (k0_part161 (F := F) arg0 harg0 arg1 harg1 arg2 harg2 arg3 harg3 arg4 harg4 arg5 harg5 arg6 harg6 arg7 harg7 arg8 harg8 arg9 harg9 arg10 harg10 arg11 arg12 arg13 v0 v13 v26 v39 v50 v51 v52 v62 >>= K) = (do
  let v63 : BitVec 32 := Scalar.addi v50 v62
  let v64 : BitVec 32 := Scalar.addi v51 v52
  let c5 : Index := 5#32
  ld arg0 5 (by decide) (cntW (lst [v0, v13, v26, v39, v52]) 5) fun v65 hg => do
    have k0_hw5 : k0_chk5 v0 v13 v26 v39 v52 v65 := cast (by sl_kernel_rfl) hg
    let c0_i32_34 : BitVec 32 := 0#32
    let v66 : BitVec 1 := Scalar.cmpi .sgt v65 c0_i32_34
    let v67 : BitVec 32 := Scalar.extui v66
    let c0_i32_35 : BitVec 32 := 0#32
    let v68 : BitVec 1 := Scalar.cmpi .ne v67 c0_i32_35
    ifA arg9 arg10 (cntW (lst [v0, v13, v26, v39, v52]) 5) v64 v65 (cast (by sl_kernel_rfl) k0_hw5) 5 do
      let c0_i32_36 : BitVec 32 := 0#32
      let v69 : BitVec 1 := Scalar.cmpi .sgt v65 c0_i32_36
      let c4_i32_37 : BitVec 32 := 4#32
      let v70 : BitVec 1 := Scalar.cmpi .slt v63 c4_i32_37
      let v71 : BitVec 1 := Scalar.andi v69 v70
      let v72 : BitVec 32 := Scalar.extui v71
      let c0_i32_38 : BitVec 32 := 0#32
      let v73 : BitVec 1 := Scalar.cmpi .ne v72 c0_i32_38
      ifB arg2 harg2 arg3 arg7 harg7 arg8 arg12 arg13 (cntW (lst [v0, v13, v26, v39, v52]) 5) v65 (cast (by sl_kernel_rfl) k0_hw5) 5 (by decide) do
        let c0_i32_39 : BitVec 32 := 0#32
        let v74 : BitVec 1 := Scalar.cmpi .sgt v65 c0_i32_39
        let v75 : BitVec 32 := Scalar.extui v74
        let v76 : BitVec 32 := Scalar.addi v63 v75
        let v77 : BitVec 32 := Scalar.addi v64 v65
        let c6 : Index := 6#32
        ld arg0 6 (by decide) (cntW (lst [v0, v13, v26, v39, v52, v65]) 6) fun v78 hg => do
          have k0_hw6 : k0_chk6 v0 v13 v26 v39 v52 v65 v78 := cast (by sl_kernel_rfl) hg
          let c0_i32_40 : BitVec 32 := 0#32
          let v79 : BitVec 1 := Scalar.cmpi .sgt v78 c0_i32_40
          let v80 : BitVec 32 := Scalar.extui v79
          let c0_i32_41 : BitVec 32 := 0#32
          let v81 : BitVec 1 := Scalar.cmpi .ne v80 c0_i32_41
          ifA arg9 arg10 (cntW (lst [v0, v13, v26, v39, v52, v65]) 6) v77 v78 (cast (by sl_kernel_rfl) k0_hw6) 6 do
            let c0_i32_42 : BitVec 32 := 0#32
            let v82 : BitVec 1 := Scalar.cmpi .sgt v78 c0_i32_42
            let c4_i32_43 : BitVec 32 := 4#32
            let v83 : BitVec 1 := Scalar.cmpi .slt v76 c4_i32_43
            let v84 : BitVec 1 := Scalar.andi v82 v83
            let v85 : BitVec 32 := Scalar.extui v84
            let c0_i32_44 : BitVec 32 := 0#32
            let v86 : BitVec 1 := Scalar.cmpi .ne v85 c0_i32_44
            ifB arg2 harg2 arg3 arg7 harg7 arg8 arg12 arg13 (cntW (lst [v0, v13, v26, v39, v52, v65]) 6) v78 (cast (by sl_kernel_rfl) k0_hw6) 6 (by decide) do
              let c0_i32_45 : BitVec 32 := 0#32
              let v87 : BitVec 1 := Scalar.cmpi .sgt v78 c0_i32_45
              let v88 : BitVec 32 := Scalar.extui v87
              let v89 : BitVec 32 := Scalar.addi v76 v88
              let v90 : BitVec 32 := Scalar.addi v77 v78
              let c7 : Index := 7#32
              ld arg0 7 (by decide) (cntW (lst [v0, v13, v26, v39, v52, v65, v78]) 7) fun v91 hg => do
                have k0_hw7 : k0_chk7 v0 v13 v26 v39 v52 v65 v78 v91 := cast (by sl_kernel_rfl) hg
                let c0_i32_46 : BitVec 32 := 0#32
                let v92 : BitVec 1 := Scalar.cmpi .sgt v91 c0_i32_46
                let v93 : BitVec 32 := Scalar.extui v92
                let c0_i32_47 : BitVec 32 := 0#32
                let v94 : BitVec 1 := Scalar.cmpi .ne v93 c0_i32_47
                ifA arg9 arg10 (cntW (lst [v0, v13, v26, v39, v52, v65, v78]) 7) v90 v91 (cast (by sl_kernel_rfl) k0_hw7) 7 do
                  let c0_i32_48 : BitVec 32 := 0#32
                  let v95 : BitVec 1 := Scalar.cmpi .sgt v91 c0_i32_48
                  let c4_i32_49 : BitVec 32 := 4#32
                  K ⟨v65, v78, v89, v90, v91, k0_hw7, v95, c4_i32_49⟩ : Prog (TpuEff nD τ sig (Elt F) Λ₀ .tc) β) := by
  rw [p161_eq]
  simp only [Prog.bind_assoc, ld_bind, ldL_bind, ifA_bind, ifB_bind, ifA0_bind, ifB0_bind]
  sl_kernel_rfl

set_option maxHeartbeats 4000000 in
theorem p162_bind (v0 : Elt F .i32) (v13 : Elt F .i32) (v26 : Elt F .i32) (v39 : Elt F .i32) (v52 : Elt F .i32) (v65 : Elt F .i32) (v78 : Elt F .i32) (v89 : BitVec 32) (v90 : BitVec 32) (v91 : Elt F .i32) (k0_hw7 : k0_chk7 v0 v13 v26 v39 v52 v65 v78 v91) (v95 : BitVec 1) (c4_i32_49 : BitVec 32) {β : Type}
    (K : ((Σ' (v104 : Elt F .i32) (v117 : Elt F .i32) (v128 : BitVec 32) (v129 : BitVec 32) (v130 : Elt F .i32), k0_chk10 v0 v13 v26 v39 v52 v65 v78 v91 v104 v117 v130)) → Prog (TpuEff nD τ sig (Elt F) Λ₀ .tc) β) :
    (k0_part162 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49 >>= K) = (do
  let v96 : BitVec 1 := Scalar.cmpi .slt v89 c4_i32_49
  let v97 : BitVec 1 := Scalar.andi v95 v96
  let v98 : BitVec 32 := Scalar.extui v97
  let c0_i32_50 : BitVec 32 := 0#32
  let v99 : BitVec 1 := Scalar.cmpi .ne v98 c0_i32_50
  ifB arg2 harg2 arg3 arg7 harg7 arg8 arg12 arg13 (cntW (lst [v0, v13, v26, v39, v52, v65, v78]) 7) v91 (cast (by sl_kernel_rfl) k0_hw7) 7 (by decide) do
    let c0_i32_51 : BitVec 32 := 0#32
    let v100 : BitVec 1 := Scalar.cmpi .sgt v91 c0_i32_51
    let v101 : BitVec 32 := Scalar.extui v100
    let v102 : BitVec 32 := Scalar.addi v89 v101
    let v103 : BitVec 32 := Scalar.addi v90 v91
    let c8 : Index := 8#32
    ld arg0 8 (by decide) (cntW (lst [v0, v13, v26, v39, v52, v65, v78, v91]) 8) fun v104 hg => do
      have k0_hw8 : k0_chk8 v0 v13 v26 v39 v52 v65 v78 v91 v104 := cast (by sl_kernel_rfl) hg
      let c0_i32_52 : BitVec 32 := 0#32
      let v105 : BitVec 1 := Scalar.cmpi .sgt v104 c0_i32_52
      let v106 : BitVec 32 := Scalar.extui v105
      let c0_i32_53 : BitVec 32 := 0#32
      let v107 : BitVec 1 := Scalar.cmpi .ne v106 c0_i32_53
      ifA arg9 arg10 (cntW (lst [v0, v13, v26, v39, v52, v65, v78, v91]) 8) v103 v104 (cast (by sl_kernel_rfl) k0_hw8) 8 do
        let c0_i32_54 : BitVec 32 := 0#32
        let v108 : BitVec 1 := Scalar.cmpi .sgt v104 c0_i32_54
        let c4_i32_55 : BitVec 32 := 4#32
        let v109 : BitVec 1 := Scalar.cmpi .slt v102 c4_i32_55
        let v110 : BitVec 1 := Scalar.andi v108 v109
        let v111 : BitVec 32 := Scalar.extui v110
        let c0_i32_56 : BitVec 32 := 0#32
        let v112 : BitVec 1 := Scalar.cmpi .ne v111 c0_i32_56
        ifB arg2 harg2 arg3 arg7 harg7 arg8 arg12 arg13 (cntW (lst [v0, v13, v26, v39, v52, v65, v78, v91]) 8) v104 (cast (by sl_kernel_rfl) k0_hw8) 8 (by decide) do
          let c0_i32_57 : BitVec 32 := 0#32
          let v113 : BitVec 1 := Scalar.cmpi .sgt v104 c0_i32_57
          let v114 : BitVec 32 := Scalar.extui v113
          let v115 : BitVec 32 := Scalar.addi v102 v114
          let v116 : BitVec 32 := Scalar.addi v103 v104
          let c9 : Index := 9#32
          ld arg0 9 (by decide) (cntW (lst [v0, v13, v26, v39, v52, v65, v78, v91, v104]) 9) fun v117 hg => do
            have k0_hw9 : k0_chk9 v0 v13 v26 v39 v52 v65 v78 v91 v104 v117 := cast (by sl_kernel_rfl) hg
            let c0_i32_58 : BitVec 32 := 0#32
            let v118 : BitVec 1 := Scalar.cmpi .sgt v117 c0_i32_58
            let v119 : BitVec 32 := Scalar.extui v118
            let c0_i32_59 : BitVec 32 := 0#32
            let v120 : BitVec 1 := Scalar.cmpi .ne v119 c0_i32_59
            ifA arg9 arg10 (cntW (lst [v0, v13, v26, v39, v52, v65, v78, v91, v104]) 9) v116 v117 (cast (by sl_kernel_rfl) k0_hw9) 9 do
              let c0_i32_60 : BitVec 32 := 0#32
              let v121 : BitVec 1 := Scalar.cmpi .sgt v117 c0_i32_60
              let c4_i32_61 : BitVec 32 := 4#32
              let v122 : BitVec 1 := Scalar.cmpi .slt v115 c4_i32_61
              let v123 : BitVec 1 := Scalar.andi v121 v122
              let v124 : BitVec 32 := Scalar.extui v123
              let c0_i32_62 : BitVec 32 := 0#32
              let v125 : BitVec 1 := Scalar.cmpi .ne v124 c0_i32_62
              ifB arg2 harg2 arg3 arg7 harg7 arg8 arg12 arg13 (cntW (lst [v0, v13, v26, v39, v52, v65, v78, v91, v104]) 9) v117 (cast (by sl_kernel_rfl) k0_hw9) 9 (by decide) do
                let c0_i32_63 : BitVec 32 := 0#32
                let v126 : BitVec 1 := Scalar.cmpi .sgt v117 c0_i32_63
                let v127 : BitVec 32 := Scalar.extui v126
                let v128 : BitVec 32 := Scalar.addi v115 v127
                let v129 : BitVec 32 := Scalar.addi v116 v117
                let c10 : Index := 10#32
                ld arg0 10 (by decide) (cntW (lst [v0, v13, v26, v39, v52, v65, v78, v91, v104, v117]) 10) fun v130 hg => do
                  have k0_hw10 : k0_chk10 v0 v13 v26 v39 v52 v65 v78 v91 v104 v117 v130 := cast (by sl_kernel_rfl) hg
                  K ⟨v104, v117, v128, v129, v130, k0_hw10⟩ : Prog (TpuEff nD τ sig (Elt F) Λ₀ .tc) β) := by
  rw [p162_eq]
  simp only [Prog.bind_assoc, ld_bind, ldL_bind, ifA_bind, ifB_bind, ifA0_bind, ifB0_bind]
  sl_kernel_rfl

set_option maxHeartbeats 4000000 in
theorem p163_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v128 : BitVec 32) (v129 : BitVec 32) (v130 : Elt F .i32) (k0_hw10 : k0_chk10 v0 v13 v26 v39 v52 v65 v78 v91 v104 v117 v130) {β : Type}
    (K : ((Σ' (v143 : Elt F .i32) (v154 : BitVec 32) (v155 : BitVec 32) (v156 : Elt F .i32), k0_chk12 v0 v13 v26 v39 v52 v65 v78 v91 v104 v117 v130 v143 v156)) → Prog (TpuEff nD τ sig (Elt F) Λ₀ .tc) β) :
    (k0_part163 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10 >>= K) = (do
  let c0_i32_64 : BitVec 32 := 0#32
  let v131 : BitVec 1 := Scalar.cmpi .sgt v130 c0_i32_64
  let v132 : BitVec 32 := Scalar.extui v131
  let c0_i32_65 : BitVec 32 := 0#32
  let v133 : BitVec 1 := Scalar.cmpi .ne v132 c0_i32_65
  ifA arg9 arg10 (cntW (lst [v0, v13, v26, v39, v52, v65, v78, v91, v104, v117]) 10) v129 v130 (cast (by sl_kernel_rfl) k0_hw10) 10 do
    let c0_i32_66 : BitVec 32 := 0#32
    let v134 : BitVec 1 := Scalar.cmpi .sgt v130 c0_i32_66
    let c4_i32_67 : BitVec 32 := 4#32
    let v135 : BitVec 1 := Scalar.cmpi .slt v128 c4_i32_67
    let v136 : BitVec 1 := Scalar.andi v134 v135
    let v137 : BitVec 32 := Scalar.extui v136
    let c0_i32_68 : BitVec 32 := 0#32
    let v138 : BitVec 1 := Scalar.cmpi .ne v137 c0_i32_68
    ifB arg2 harg2 arg3 arg7 harg7 arg8 arg12 arg13 (cntW (lst [v0, v13, v26, v39, v52, v65, v78, v91, v104, v117]) 10) v130 (cast (by sl_kernel_rfl) k0_hw10) 10 (by decide) do
      let c0_i32_69 : BitVec 32 := 0#32
      let v139 : BitVec 1 := Scalar.cmpi .sgt v130 c0_i32_69
      let v140 : BitVec 32 := Scalar.extui v139
      let v141 : BitVec 32 := Scalar.addi v128 v140
      let v142 : BitVec 32 := Scalar.addi v129 v130
      let c11 : Index := 11#32
      ld arg0 11 (by decide) (cntW (lst [v0, v13, v26, v39, v52, v65, v78, v91, v104, v117, v130]) 11) fun v143 hg => do
        have k0_hw11 : k0_chk11 v0 v13 v26 v39 v52 v65 v78 v91 v104 v117 v130 v143 := cast (by sl_kernel_rfl) hg
        let c0_i32_70 : BitVec 32 := 0#32
        let v144 : BitVec 1 := Scalar.cmpi .sgt v143 c0_i32_70
        let v145 : BitVec 32 := Scalar.extui v144
        let c0_i32_71 : BitVec 32 := 0#32
        let v146 : BitVec 1 := Scalar.cmpi .ne v145 c0_i32_71
        ifA arg9 arg10 (cntW (lst [v0, v13, v26, v39, v52, v65, v78, v91, v104, v117, v130]) 11) v142 v143 (cast (by sl_kernel_rfl) k0_hw11) 11 do
          let c0_i32_72 : BitVec 32 := 0#32
          let v147 : BitVec 1 := Scalar.cmpi .sgt v143 c0_i32_72
          let c4_i32_73 : BitVec 32 := 4#32
          let v148 : BitVec 1 := Scalar.cmpi .slt v141 c4_i32_73
          let v149 : BitVec 1 := Scalar.andi v147 v148
          let v150 : BitVec 32 := Scalar.extui v149
          let c0_i32_74 : BitVec 32 := 0#32
          let v151 : BitVec 1 := Scalar.cmpi .ne v150 c0_i32_74
          ifB arg2 harg2 arg3 arg7 harg7 arg8 arg12 arg13 (cntW (lst [v0, v13, v26, v39, v52, v65, v78, v91, v104, v117, v130]) 11) v143 (cast (by sl_kernel_rfl) k0_hw11) 11 (by decide) do
            let c0_i32_75 : BitVec 32 := 0#32
            let v152 : BitVec 1 := Scalar.cmpi .sgt v143 c0_i32_75
            let v153 : BitVec 32 := Scalar.extui v152
            let v154 : BitVec 32 := Scalar.addi v141 v153
            let v155 : BitVec 32 := Scalar.addi v142 v143
            let c12 : Index := 12#32
            ld arg0 12 (by decide) (cntW (lst [v0, v13, v26, v39, v52, v65, v78, v91, v104, v117, v130, v143]) 12) fun v156 hg => do
              have k0_hw12 : k0_chk12 v0 v13 v26 v39 v52 v65 v78 v91 v104 v117 v130 v143 v156 := cast (by sl_kernel_rfl) hg
              let c0_i32_76 : BitVec 32 := 0#32
              let v157 : BitVec 1 := Scalar.cmpi .sgt v156 c0_i32_76
              let v158 : BitVec 32 := Scalar.extui v157
              let c0_i32_77 : BitVec 32 := 0#32
              let v159 : BitVec 1 := Scalar.cmpi .ne v158 c0_i32_77
              ifA arg9 arg10 (cntW (lst [v0, v13, v26, v39, v52, v65, v78, v91, v104, v117, v130, v143]) 12) v155 v156 (cast (by sl_kernel_rfl) k0_hw12) 12 do
                let c0_i32_78 : BitVec 32 := 0#32
                let v160 : BitVec 1 := Scalar.cmpi .sgt v156 c0_i32_78
                let c4_i32_79 : BitVec 32 := 4#32
                let v161 : BitVec 1 := Scalar.cmpi .slt v154 c4_i32_79
                let v162 : BitVec 1 := Scalar.andi v160 v161
                let v163 : BitVec 32 := Scalar.extui v162
                let c0_i32_80 : BitVec 32 := 0#32
                let v164 : BitVec 1 := Scalar.cmpi .ne v163 c0_i32_80
                K ⟨v143, v154, v155, v156, k0_hw12⟩ : Prog (TpuEff nD τ sig (Elt F) Λ₀ .tc) β) := by
  rw [p163_eq]
  simp only [Prog.bind_assoc, ld_bind, ldL_bind, ifA_bind, ifB_bind, ifA0_bind, ifB0_bind]
  sl_kernel_rfl

set_option maxHeartbeats 4000000 in
theorem p164_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v154 : BitVec 32) (v155 : BitVec 32) (v156 : Elt F .i32) (k0_hw12 : k0_chk12 v0 v13 v26 v39 v52 v65 v78 v91 v104 v117 v130 v143 v156) {β : Type}
    (K : ((Σ' (v169 : Elt F .i32) (v182 : Elt F .i32) (v193 : BitVec 32) (v194 : BitVec 32) (v195 : Elt F .i32), k0_chk15 v0 v13 v26 v39 v52 v65 v78 v91 v104 v117 v130 v143 v156 v169 v182 v195)) → Prog (TpuEff nD τ sig (Elt F) Λ₀ .tc) β) :
    (k0_part164 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12 >>= K) = (do
  ifB arg2 harg2 arg3 arg7 harg7 arg8 arg12 arg13 (cntW (lst [v0, v13, v26, v39, v52, v65, v78, v91, v104, v117, v130, v143]) 12) v156 (cast (by sl_kernel_rfl) k0_hw12) 12 (by decide) do
    let c0_i32_81 : BitVec 32 := 0#32
    let v165 : BitVec 1 := Scalar.cmpi .sgt v156 c0_i32_81
    let v166 : BitVec 32 := Scalar.extui v165
    let v167 : BitVec 32 := Scalar.addi v154 v166
    let v168 : BitVec 32 := Scalar.addi v155 v156
    let c13 : Index := 13#32
    ld arg0 13 (by decide) (cntW (lst [v0, v13, v26, v39, v52, v65, v78, v91, v104, v117, v130, v143, v156]) 13) fun v169 hg => do
      have k0_hw13 : k0_chk13 v0 v13 v26 v39 v52 v65 v78 v91 v104 v117 v130 v143 v156 v169 := cast (by sl_kernel_rfl) hg
      let c0_i32_82 : BitVec 32 := 0#32
      let v170 : BitVec 1 := Scalar.cmpi .sgt v169 c0_i32_82
      let v171 : BitVec 32 := Scalar.extui v170
      let c0_i32_83 : BitVec 32 := 0#32
      let v172 : BitVec 1 := Scalar.cmpi .ne v171 c0_i32_83
      ifA arg9 arg10 (cntW (lst [v0, v13, v26, v39, v52, v65, v78, v91, v104, v117, v130, v143, v156]) 13) v168 v169 (cast (by sl_kernel_rfl) k0_hw13) 13 do
        let c0_i32_84 : BitVec 32 := 0#32
        let v173 : BitVec 1 := Scalar.cmpi .sgt v169 c0_i32_84
        let c4_i32_85 : BitVec 32 := 4#32
        let v174 : BitVec 1 := Scalar.cmpi .slt v167 c4_i32_85
        let v175 : BitVec 1 := Scalar.andi v173 v174
        let v176 : BitVec 32 := Scalar.extui v175
        let c0_i32_86 : BitVec 32 := 0#32
        let v177 : BitVec 1 := Scalar.cmpi .ne v176 c0_i32_86
        ifB arg2 harg2 arg3 arg7 harg7 arg8 arg12 arg13 (cntW (lst [v0, v13, v26, v39, v52, v65, v78, v91, v104, v117, v130, v143, v156]) 13) v169 (cast (by sl_kernel_rfl) k0_hw13) 13 (by decide) do
          let c0_i32_87 : BitVec 32 := 0#32
          let v178 : BitVec 1 := Scalar.cmpi .sgt v169 c0_i32_87
          let v179 : BitVec 32 := Scalar.extui v178
          let v180 : BitVec 32 := Scalar.addi v167 v179
          let v181 : BitVec 32 := Scalar.addi v168 v169
          let c14 : Index := 14#32
          ld arg0 14 (by decide) (cntW (lst [v0, v13, v26, v39, v52, v65, v78, v91, v104, v117, v130, v143, v156, v169]) 14) fun v182 hg => do
            have k0_hw14 : k0_chk14 v0 v13 v26 v39 v52 v65 v78 v91 v104 v117 v130 v143 v156 v169 v182 := cast (by sl_kernel_rfl) hg
            let c0_i32_88 : BitVec 32 := 0#32
            let v183 : BitVec 1 := Scalar.cmpi .sgt v182 c0_i32_88
            let v184 : BitVec 32 := Scalar.extui v183
            let c0_i32_89 : BitVec 32 := 0#32
            let v185 : BitVec 1 := Scalar.cmpi .ne v184 c0_i32_89
            ifA arg9 arg10 (cntW (lst [v0, v13, v26, v39, v52, v65, v78, v91, v104, v117, v130, v143, v156, v169]) 14) v181 v182 (cast (by sl_kernel_rfl) k0_hw14) 14 do
              let c0_i32_90 : BitVec 32 := 0#32
              let v186 : BitVec 1 := Scalar.cmpi .sgt v182 c0_i32_90
              let c4_i32_91 : BitVec 32 := 4#32
              let v187 : BitVec 1 := Scalar.cmpi .slt v180 c4_i32_91
              let v188 : BitVec 1 := Scalar.andi v186 v187
              let v189 : BitVec 32 := Scalar.extui v188
              let c0_i32_92 : BitVec 32 := 0#32
              let v190 : BitVec 1 := Scalar.cmpi .ne v189 c0_i32_92
              ifB arg2 harg2 arg3 arg7 harg7 arg8 arg12 arg13 (cntW (lst [v0, v13, v26, v39, v52, v65, v78, v91, v104, v117, v130, v143, v156, v169]) 14) v182 (cast (by sl_kernel_rfl) k0_hw14) 14 (by decide) do
                let c0_i32_93 : BitVec 32 := 0#32
                let v191 : BitVec 1 := Scalar.cmpi .sgt v182 c0_i32_93
                let v192 : BitVec 32 := Scalar.extui v191
                let v193 : BitVec 32 := Scalar.addi v180 v192
                let v194 : BitVec 32 := Scalar.addi v181 v182
                let c15 : Index := 15#32
                ld arg0 15 (by decide) (cntW (lst [v0, v13, v26, v39, v52, v65, v78, v91, v104, v117, v130, v143, v156, v169, v182]) 15) fun v195 hg => do
                  have k0_hw15 : k0_chk15 v0 v13 v26 v39 v52 v65 v78 v91 v104 v117 v130 v143 v156 v169 v182 v195 := cast (by sl_kernel_rfl) hg
                  let c0_i32_94 : BitVec 32 := 0#32
                  let v196 : BitVec 1 := Scalar.cmpi .sgt v195 c0_i32_94
                  let v197 : BitVec 32 := Scalar.extui v196
                  let c0_i32_95 : BitVec 32 := 0#32
                  let v198 : BitVec 1 := Scalar.cmpi .ne v197 c0_i32_95
                  K ⟨v169, v182, v193, v194, v195, k0_hw15⟩ : Prog (TpuEff nD τ sig (Elt F) Λ₀ .tc) β) := by
  rw [p164_eq]
  simp only [Prog.bind_assoc, ld_bind, ldL_bind, ifA_bind, ifB_bind, ifA0_bind, ifB0_bind]
  sl_kernel_rfl

set_option maxHeartbeats 4000000 in
theorem p165_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v193 : BitVec 32) (v194 : BitVec 32) (v195 : Elt F .i32) (k0_hw15 : k0_chk15 v0 v13 v26 v39 v52 v65 v78 v91 v104 v117 v130 v143 v156 v169 v182 v195) {β : Type}
    (K : ((Σ' (v208 : Elt F .i32) (v220 : BitVec 32) (v221 : Elt F .i32), BitVec 32)) → Prog (TpuEff nD τ sig (Elt F) Λ₀ .tc) β) :
    (k0_part165 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15 >>= K) = (do
  ifA arg9 arg10 (cntW (lst [v0, v13, v26, v39, v52, v65, v78, v91, v104, v117, v130, v143, v156, v169, v182]) 15) v194 v195 (cast (by sl_kernel_rfl) k0_hw15) 15 do
    let c0_i32_96 : BitVec 32 := 0#32
    let v199 : BitVec 1 := Scalar.cmpi .sgt v195 c0_i32_96
    let c4_i32_97 : BitVec 32 := 4#32
    let v200 : BitVec 1 := Scalar.cmpi .slt v193 c4_i32_97
    let v201 : BitVec 1 := Scalar.andi v199 v200
    let v202 : BitVec 32 := Scalar.extui v201
    let c0_i32_98 : BitVec 32 := 0#32
    let v203 : BitVec 1 := Scalar.cmpi .ne v202 c0_i32_98
    ifB arg2 harg2 arg3 arg7 harg7 arg8 arg12 arg13 (cntW (lst [v0, v13, v26, v39, v52, v65, v78, v91, v104, v117, v130, v143, v156, v169, v182]) 15) v195 (cast (by sl_kernel_rfl) k0_hw15) 15 (by decide) do
      let c0_i32_99 : BitVec 32 := 0#32
      let v204 : BitVec 1 := Scalar.cmpi .sgt v195 c0_i32_99
      let v205 : BitVec 32 := Scalar.extui v204
      let v206 : BitVec 32 := Scalar.addi v193 v205
      let v207 : BitVec 32 := Scalar.addi v194 v195
      let c16 : Index := 16#32
      ld arg0 16 (by decide) (cntW (lst [v0, v13, v26, v39, v52, v65, v78, v91, v104, v117, v130, v143, v156, v169, v182, v195]) 16) fun v208 hg => do
        have k0_hw16 : k0_chk16 v0 v13 v26 v39 v52 v65 v78 v91 v104 v117 v130 v143 v156 v169 v182 v195 v208 := cast (by sl_kernel_rfl) hg
        let c0_i32_100 : BitVec 32 := 0#32
        let v209 : BitVec 1 := Scalar.cmpi .sgt v208 c0_i32_100
        let v210 : BitVec 32 := Scalar.extui v209
        let c0_i32_101 : BitVec 32 := 0#32
        let v211 : BitVec 1 := Scalar.cmpi .ne v210 c0_i32_101
        ifA arg9 arg10 (cntW (lst [v0, v13, v26, v39, v52, v65, v78, v91, v104, v117, v130, v143, v156, v169, v182, v195]) 16) v207 v208 (cast (by sl_kernel_rfl) k0_hw16) 16 do
          let c0_i32_102 : BitVec 32 := 0#32
          let v212 : BitVec 1 := Scalar.cmpi .sgt v208 c0_i32_102
          let c4_i32_103 : BitVec 32 := 4#32
          let v213 : BitVec 1 := Scalar.cmpi .slt v206 c4_i32_103
          let v214 : BitVec 1 := Scalar.andi v212 v213
          let v215 : BitVec 32 := Scalar.extui v214
          let c0_i32_104 : BitVec 32 := 0#32
          let v216 : BitVec 1 := Scalar.cmpi .ne v215 c0_i32_104
          ifB arg2 harg2 arg3 arg7 harg7 arg8 arg12 arg13 (cntW (lst [v0, v13, v26, v39, v52, v65, v78, v91, v104, v117, v130, v143, v156, v169, v182, v195]) 16) v208 (cast (by sl_kernel_rfl) k0_hw16) 16 (by decide) do
            let c0_i32_105 : BitVec 32 := 0#32
            let v217 : BitVec 1 := Scalar.cmpi .sgt v208 c0_i32_105
            let v218 : BitVec 32 := Scalar.extui v217
            let v219 : BitVec 32 := Scalar.addi v206 v218
            let v220 : BitVec 32 := Scalar.addi v207 v208
            let c17 : Index := 17#32
            ld arg0 17 (by decide) (cntW (lst [v0, v13, v26, v39, v52, v65, v78, v91, v104, v117, v130, v143, v156, v169, v182, v195, v208]) 17) fun v221 hg => do
              have k0_hw17 : k0_chk17 v0 v13 v26 v39 v52 v65 v78 v91 v104 v117 v130 v143 v156 v169 v182 v195 v208 v221 := cast (by sl_kernel_rfl) hg
              let c0_i32_106 : BitVec 32 := 0#32
              let v222 : BitVec 1 := Scalar.cmpi .sgt v221 c0_i32_106
              let v223 : BitVec 32 := Scalar.extui v222
              let c0_i32_107 : BitVec 32 := 0#32
              let v224 : BitVec 1 := Scalar.cmpi .ne v223 c0_i32_107
              ifA arg9 arg10 (cntW (lst [v0, v13, v26, v39, v52, v65, v78, v91, v104, v117, v130, v143, v156, v169, v182, v195, v208]) 17) v220 v221 (cast (by sl_kernel_rfl) k0_hw17) 17 do
                let c0_i32_108 : BitVec 32 := 0#32
                let v225 : BitVec 1 := Scalar.cmpi .sgt v221 c0_i32_108
                let c4_i32_109 : BitVec 32 := 4#32
                let v226 : BitVec 1 := Scalar.cmpi .slt v219 c4_i32_109
                let v227 : BitVec 1 := Scalar.andi v225 v226
                let v228 : BitVec 32 := Scalar.extui v227
                let c0_i32_110 : BitVec 32 := 0#32
                let v229 : BitVec 1 := Scalar.cmpi .ne v228 c0_i32_110
                ifB arg2 harg2 arg3 arg7 harg7 arg8 arg12 arg13 (cntW (lst [v0, v13, v26, v39, v52, v65, v78, v91, v104, v117, v130, v143, v156, v169, v182, v195, v208]) 17) v221 (cast (by sl_kernel_rfl) k0_hw17) 17 (by decide) do
                  let c0_i32_111 : BitVec 32 := 0#32
                  let v230 : BitVec 1 := Scalar.cmpi .sgt v221 c0_i32_111
                  let v231 : BitVec 32 := Scalar.extui v230
                  let v232 : BitVec 32 := Scalar.addi v219 v231
                  K ⟨v208, v220, v221, v232⟩ : Prog (TpuEff nD τ sig (Elt F) Λ₀ .tc) β) := by
  rw [p165_eq]
  simp only [Prog.bind_assoc, ld_bind, ldL_bind, ifA_bind, ifB_bind, ifA0_bind, ifB0_bind]
  sl_kernel_rfl

set_option maxHeartbeats 4000000 in
theorem p166_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v220 : BitVec 32) (v221 : Elt F .i32) (v232 : BitVec 32) {β : Type}
    (K : ((Σ' (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1), BitVec 1)) → Prog (TpuEff nD τ sig (Elt F) Λ₀ .tc) β) :
    (k0_part166 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232 >>= K) = (do
  let v233 : BitVec 32 := Scalar.addi v220 v221
  let c18 : Index := 18#32
  ld arg0 18 (by decide) (cntW (lst [v0, v13, v26, v39, v52, v65, v78, v91, v104, v117, v130, v143, v156, v169, v182, v195, v208, v221]) 18) fun v234 hg => do
    have k0_hw18 : k0_chk18 v0 v13 v26 v39 v52 v65 v78 v91 v104 v117 v130 v143 v156 v169 v182 v195 v208 v221 v234 := cast (by sl_kernel_rfl) hg
    let c0_i32_112 : BitVec 32 := 0#32
    let v235 : BitVec 1 := Scalar.cmpi .sgt v234 c0_i32_112
    let v236 : BitVec 32 := Scalar.extui v235
    let c0_i32_113 : BitVec 32 := 0#32
    let v237 : BitVec 1 := Scalar.cmpi .ne v236 c0_i32_113
    ifA arg9 arg10 (cntW (lst [v0, v13, v26, v39, v52, v65, v78, v91, v104, v117, v130, v143, v156, v169, v182, v195, v208, v221]) 18) v233 v234 (cast (by sl_kernel_rfl) k0_hw18) 18 do
      let c0_i32_114 : BitVec 32 := 0#32
      let v238 : BitVec 1 := Scalar.cmpi .sgt v234 c0_i32_114
      let c4_i32_115 : BitVec 32 := 4#32
      let v239 : BitVec 1 := Scalar.cmpi .slt v232 c4_i32_115
      let v240 : BitVec 1 := Scalar.andi v238 v239
      let v241 : BitVec 32 := Scalar.extui v240
      let c0_i32_116 : BitVec 32 := 0#32
      let v242 : BitVec 1 := Scalar.cmpi .ne v241 c0_i32_116
      ifB arg2 harg2 arg3 arg7 harg7 arg8 arg12 arg13 (cntW (lst [v0, v13, v26, v39, v52, v65, v78, v91, v104, v117, v130, v143, v156, v169, v182, v195, v208, v221]) 18) v234 (cast (by sl_kernel_rfl) k0_hw18) 18 (by decide) do
        let c0_i32_117 : BitVec 32 := 0#32
        let v243 : BitVec 1 := Scalar.cmpi .sgt v234 c0_i32_117
        let v244 : BitVec 32 := Scalar.extui v243
        let v245 : BitVec 32 := Scalar.addi v232 v244
        let v246 : BitVec 32 := Scalar.addi v233 v234
        let c19 : Index := 19#32
        ld arg0 19 (by decide) (cntW (lst [v0, v13, v26, v39, v52, v65, v78, v91, v104, v117, v130, v143, v156, v169, v182, v195, v208, v221, v234]) 19) fun v247 hg => do
          have k0_hw19 : k0_chk19 v0 v13 v26 v39 v52 v65 v78 v91 v104 v117 v130 v143 v156 v169 v182 v195 v208 v221 v234 v247 := cast (by sl_kernel_rfl) hg
          let c0_i32_118 : BitVec 32 := 0#32
          let v248 : BitVec 1 := Scalar.cmpi .sgt v247 c0_i32_118
          let v249 : BitVec 32 := Scalar.extui v248
          let c0_i32_119 : BitVec 32 := 0#32
          let v250 : BitVec 1 := Scalar.cmpi .ne v249 c0_i32_119
          ifA arg9 arg10 (cntW (lst [v0, v13, v26, v39, v52, v65, v78, v91, v104, v117, v130, v143, v156, v169, v182, v195, v208, v221, v234]) 19) v246 v247 (cast (by sl_kernel_rfl) k0_hw19) 19 do
            let c0_i32_120 : BitVec 32 := 0#32
            let v251 : BitVec 1 := Scalar.cmpi .sgt v247 c0_i32_120
            let c4_i32_121 : BitVec 32 := 4#32
            let v252 : BitVec 1 := Scalar.cmpi .slt v245 c4_i32_121
            let v253 : BitVec 1 := Scalar.andi v251 v252
            let v254 : BitVec 32 := Scalar.extui v253
            let c0_i32_122 : BitVec 32 := 0#32
            let v255 : BitVec 1 := Scalar.cmpi .ne v254 c0_i32_122
            ifB arg2 harg2 arg3 arg7 harg7 arg8 arg12 arg13 (cntW (lst [v0, v13, v26, v39, v52, v65, v78, v91, v104, v117, v130, v143, v156, v169, v182, v195, v208, v221, v234]) 19) v247 (cast (by sl_kernel_rfl) k0_hw19) 19 (by decide) do
              let c0_i32_123 : BitVec 32 := 0#32
              let v256 : BitVec 1 := Scalar.cmpi .sgt v247 c0_i32_123
              let v257 : BitVec 32 := Scalar.extui v256
              let v258 : BitVec 32 := Scalar.addi v245 v257
              let v259 : BitVec 32 := Scalar.addi v246 v247
              let c20 : Index := 20#32
              ld arg0 20 (by decide) (cntW (lst [v0, v13, v26, v39, v52, v65, v78, v91, v104, v117, v130, v143, v156, v169, v182, v195, v208, v221, v234, v247]) 20) fun v260 hg => do
                have k0_hw20 : k0_chk20 v0 v13 v26 v39 v52 v65 v78 v91 v104 v117 v130 v143 v156 v169 v182 v195 v208 v221 v234 v247 v260 := cast (by sl_kernel_rfl) hg
                let c0_i32_124 : BitVec 32 := 0#32
                let v261 : BitVec 1 := Scalar.cmpi .sgt v260 c0_i32_124
                let v262 : BitVec 32 := Scalar.extui v261
                let c0_i32_125 : BitVec 32 := 0#32
                let v263 : BitVec 1 := Scalar.cmpi .ne v262 c0_i32_125
                ifA arg9 arg10 (cntW (lst [v0, v13, v26, v39, v52, v65, v78, v91, v104, v117, v130, v143, v156, v169, v182, v195, v208, v221, v234, v247]) 20) v259 v260 (cast (by sl_kernel_rfl) k0_hw20) 20 do
                  let c0_i32_126 : BitVec 32 := 0#32
                  let v264 : BitVec 1 := Scalar.cmpi .sgt v260 c0_i32_126
                  let c4_i32_127 : BitVec 32 := 4#32
                  let v265 : BitVec 1 := Scalar.cmpi .slt v258 c4_i32_127
                  K ⟨v234, v247, v258, v259, v260, k0_hw20, v264, v265⟩ : Prog (TpuEff nD τ sig (Elt F) Λ₀ .tc) β) := by
  rw [p166_eq]
  simp only [Prog.bind_assoc, ld_bind, ldL_bind, ifA_bind, ifB_bind, ifA0_bind, ifB0_bind]
  sl_kernel_rfl

set_option maxHeartbeats 4000000 in
theorem p167_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1) (v265 : BitVec 1) {β : Type}
    (K : ((Σ' (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299), BitVec 32)) → Prog (TpuEff nD τ sig (Elt F) Λ₀ .tc) β) :
    (k0_part167 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265 >>= K) = (do
  let v266 : BitVec 1 := Scalar.andi v264 v265
  let v267 : BitVec 32 := Scalar.extui v266
  let c0_i32_128 : BitVec 32 := 0#32
  let v268 : BitVec 1 := Scalar.cmpi .ne v267 c0_i32_128
  ifB arg2 harg2 arg3 arg7 harg7 arg8 arg12 arg13 (cntW (lst [v0, v13, v26, v39, v52, v65, v78, v91, v104, v117, v130, v143, v156, v169, v182, v195, v208, v221, v234, v247]) 20) v260 (cast (by sl_kernel_rfl) k0_hw20) 20 (by decide) do
    let c0_i32_129 : BitVec 32 := 0#32
    let v269 : BitVec 1 := Scalar.cmpi .sgt v260 c0_i32_129
    let v270 : BitVec 32 := Scalar.extui v269
    let v271 : BitVec 32 := Scalar.addi v258 v270
    let v272 : BitVec 32 := Scalar.addi v259 v260
    let c21 : Index := 21#32
    ld arg0 21 (by decide) (cntW (lst [v0, v13, v26, v39, v52, v65, v78, v91, v104, v117, v130, v143, v156, v169, v182, v195, v208, v221, v234, v247, v260]) 21) fun v273 hg => do
      have k0_hw21 : k0_chk21 v0 v13 v26 v39 v52 v65 v78 v91 v104 v117 v130 v143 v156 v169 v182 v195 v208 v221 v234 v247 v260 v273 := cast (by sl_kernel_rfl) hg
      let c0_i32_130 : BitVec 32 := 0#32
      let v274 : BitVec 1 := Scalar.cmpi .sgt v273 c0_i32_130
      let v275 : BitVec 32 := Scalar.extui v274
      let c0_i32_131 : BitVec 32 := 0#32
      let v276 : BitVec 1 := Scalar.cmpi .ne v275 c0_i32_131
      ifA arg9 arg10 (cntW (lst [v0, v13, v26, v39, v52, v65, v78, v91, v104, v117, v130, v143, v156, v169, v182, v195, v208, v221, v234, v247, v260]) 21) v272 v273 (cast (by sl_kernel_rfl) k0_hw21) 21 do
        let c0_i32_132 : BitVec 32 := 0#32
        let v277 : BitVec 1 := Scalar.cmpi .sgt v273 c0_i32_132
        let c4_i32_133 : BitVec 32 := 4#32
        let v278 : BitVec 1 := Scalar.cmpi .slt v271 c4_i32_133
        let v279 : BitVec 1 := Scalar.andi v277 v278
        let v280 : BitVec 32 := Scalar.extui v279
        let c0_i32_134 : BitVec 32 := 0#32
        let v281 : BitVec 1 := Scalar.cmpi .ne v280 c0_i32_134
        ifB arg2 harg2 arg3 arg7 harg7 arg8 arg12 arg13 (cntW (lst [v0, v13, v26, v39, v52, v65, v78, v91, v104, v117, v130, v143, v156, v169, v182, v195, v208, v221, v234, v247, v260]) 21) v273 (cast (by sl_kernel_rfl) k0_hw21) 21 (by decide) do
          let c0_i32_135 : BitVec 32 := 0#32
          let v282 : BitVec 1 := Scalar.cmpi .sgt v273 c0_i32_135
          let v283 : BitVec 32 := Scalar.extui v282
          let v284 : BitVec 32 := Scalar.addi v271 v283
          let v285 : BitVec 32 := Scalar.addi v272 v273
          let c22 : Index := 22#32
          ld arg0 22 (by decide) (cntW (lst [v0, v13, v26, v39, v52, v65, v78, v91, v104, v117, v130, v143, v156, v169, v182, v195, v208, v221, v234, v247, v260, v273]) 22) fun v286 hg => do
            have k0_hw22 : k0_chk22 v0 v13 v26 v39 v52 v65 v78 v91 v104 v117 v130 v143 v156 v169 v182 v195 v208 v221 v234 v247 v260 v273 v286 := cast (by sl_kernel_rfl) hg
            let c0_i32_136 : BitVec 32 := 0#32
            let v287 : BitVec 1 := Scalar.cmpi .sgt v286 c0_i32_136
            let v288 : BitVec 32 := Scalar.extui v287
            let c0_i32_137 : BitVec 32 := 0#32
            let v289 : BitVec 1 := Scalar.cmpi .ne v288 c0_i32_137
            ifA arg9 arg10 (cntW (lst [v0, v13, v26, v39, v52, v65, v78, v91, v104, v117, v130, v143, v156, v169, v182, v195, v208, v221, v234, v247, v260, v273]) 22) v285 v286 (cast (by sl_kernel_rfl) k0_hw22) 22 do
              let c0_i32_138 : BitVec 32 := 0#32
              let v290 : BitVec 1 := Scalar.cmpi .sgt v286 c0_i32_138
              let c4_i32_139 : BitVec 32 := 4#32
              let v291 : BitVec 1 := Scalar.cmpi .slt v284 c4_i32_139
              let v292 : BitVec 1 := Scalar.andi v290 v291
              let v293 : BitVec 32 := Scalar.extui v292
              let c0_i32_140 : BitVec 32 := 0#32
              let v294 : BitVec 1 := Scalar.cmpi .ne v293 c0_i32_140
              ifB arg2 harg2 arg3 arg7 harg7 arg8 arg12 arg13 (cntW (lst [v0, v13, v26, v39, v52, v65, v78, v91, v104, v117, v130, v143, v156, v169, v182, v195, v208, v221, v234, v247, v260, v273]) 22) v286 (cast (by sl_kernel_rfl) k0_hw22) 22 (by decide) do
                let c0_i32_141 : BitVec 32 := 0#32
                let v295 : BitVec 1 := Scalar.cmpi .sgt v286 c0_i32_141
                let v296 : BitVec 32 := Scalar.extui v295
                let v297 : BitVec 32 := Scalar.addi v284 v296
                let v298 : BitVec 32 := Scalar.addi v285 v286
                let c23 : Index := 23#32
                ld arg0 23 (by decide) (cntW (lst [v0, v13, v26, v39, v52, v65, v78, v91, v104, v117, v130, v143, v156, v169, v182, v195, v208, v221, v234, v247, v260, v273, v286]) 23) fun v299 hg => do
                  have k0_hw23 : k0_chk23 v0 v13 v26 v39 v52 v65 v78 v91 v104 v117 v130 v143 v156 v169 v182 v195 v208 v221 v234 v247 v260 v273 v286 v299 := cast (by sl_kernel_rfl) hg
                  let c0_i32_142 : BitVec 32 := 0#32
                  K ⟨v273, v286, v297, v298, v299, k0_hw23, c0_i32_142⟩ : Prog (TpuEff nD τ sig (Elt F) Λ₀ .tc) β) := by
  rw [p167_eq]
  simp only [Prog.bind_assoc, ld_bind, ldL_bind, ifA_bind, ifB_bind, ifA0_bind, ifB0_bind]
  sl_kernel_rfl

set_option maxHeartbeats 4000000 in
theorem p168_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299) (c0_i32_142 : BitVec 32) {β : Type}
    (K : ((Σ' (v312 : Elt F .i32) (v323 : BitVec 32) (v324 : BitVec 32), Elt F .i32)) → Prog (TpuEff nD τ sig (Elt F) Λ₀ .tc) β) :
    (k0_part168 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142 >>= K) = (do
  let v300 : BitVec 1 := Scalar.cmpi .sgt v299 c0_i32_142
  let v301 : BitVec 32 := Scalar.extui v300
  let c0_i32_143 : BitVec 32 := 0#32
  let v302 : BitVec 1 := Scalar.cmpi .ne v301 c0_i32_143
  ifA arg9 arg10 (cntW (lst [v0, v13, v26, v39, v52, v65, v78, v91, v104, v117, v130, v143, v156, v169, v182, v195, v208, v221, v234, v247, v260, v273, v286]) 23) v298 v299 (cast (by sl_kernel_rfl) k0_hw23) 23 do
    let c0_i32_144 : BitVec 32 := 0#32
    let v303 : BitVec 1 := Scalar.cmpi .sgt v299 c0_i32_144
    let c4_i32_145 : BitVec 32 := 4#32
    let v304 : BitVec 1 := Scalar.cmpi .slt v297 c4_i32_145
    let v305 : BitVec 1 := Scalar.andi v303 v304
    let v306 : BitVec 32 := Scalar.extui v305
    let c0_i32_146 : BitVec 32 := 0#32
    let v307 : BitVec 1 := Scalar.cmpi .ne v306 c0_i32_146
    ifB arg2 harg2 arg3 arg7 harg7 arg8 arg12 arg13 (cntW (lst [v0, v13, v26, v39, v52, v65, v78, v91, v104, v117, v130, v143, v156, v169, v182, v195, v208, v221, v234, v247, v260, v273, v286]) 23) v299 (cast (by sl_kernel_rfl) k0_hw23) 23 (by decide) do
      let c0_i32_147 : BitVec 32 := 0#32
      let v308 : BitVec 1 := Scalar.cmpi .sgt v299 c0_i32_147
      let v309 : BitVec 32 := Scalar.extui v308
      let v310 : BitVec 32 := Scalar.addi v297 v309
      let v311 : BitVec 32 := Scalar.addi v298 v299
      let c24 : Index := 24#32
      ld arg0 24 (by decide) (cntW (lst [v0, v13, v26, v39, v52, v65, v78, v91, v104, v117, v130, v143, v156, v169, v182, v195, v208, v221, v234, v247, v260, v273, v286, v299]) 24) fun v312 hg => do
        have k0_hw24 : k0_chk24 v0 v13 v26 v39 v52 v65 v78 v91 v104 v117 v130 v143 v156 v169 v182 v195 v208 v221 v234 v247 v260 v273 v286 v299 v312 := cast (by sl_kernel_rfl) hg
        let c0_i32_148 : BitVec 32 := 0#32
        let v313 : BitVec 1 := Scalar.cmpi .sgt v312 c0_i32_148
        let v314 : BitVec 32 := Scalar.extui v313
        let c0_i32_149 : BitVec 32 := 0#32
        let v315 : BitVec 1 := Scalar.cmpi .ne v314 c0_i32_149
        ifA arg9 arg10 (cntW (lst [v0, v13, v26, v39, v52, v65, v78, v91, v104, v117, v130, v143, v156, v169, v182, v195, v208, v221, v234, v247, v260, v273, v286, v299]) 24) v311 v312 (cast (by sl_kernel_rfl) k0_hw24) 24 do
          let c0_i32_150 : BitVec 32 := 0#32
          let v316 : BitVec 1 := Scalar.cmpi .sgt v312 c0_i32_150
          let c4_i32_151 : BitVec 32 := 4#32
          let v317 : BitVec 1 := Scalar.cmpi .slt v310 c4_i32_151
          let v318 : BitVec 1 := Scalar.andi v316 v317
          let v319 : BitVec 32 := Scalar.extui v318
          let c0_i32_152 : BitVec 32 := 0#32
          let v320 : BitVec 1 := Scalar.cmpi .ne v319 c0_i32_152
          ifB arg2 harg2 arg3 arg7 harg7 arg8 arg12 arg13 (cntW (lst [v0, v13, v26, v39, v52, v65, v78, v91, v104, v117, v130, v143, v156, v169, v182, v195, v208, v221, v234, v247, v260, v273, v286, v299]) 24) v312 (cast (by sl_kernel_rfl) k0_hw24) 24 (by decide) do
            let c0_i32_153 : BitVec 32 := 0#32
            let v321 : BitVec 1 := Scalar.cmpi .sgt v312 c0_i32_153
            let v322 : BitVec 32 := Scalar.extui v321
            let v323 : BitVec 32 := Scalar.addi v310 v322
            let v324 : BitVec 32 := Scalar.addi v311 v312
            let c25 : Index := 25#32
            ld arg0 25 (by decide) (cntW (lst [v0, v13, v26, v39, v52, v65, v78, v91, v104, v117, v130, v143, v156, v169, v182, v195, v208, v221, v234, v247, v260, v273, v286, v299, v312]) 25) fun v325 hg => do
              have k0_hw25 : k0_chk25 v0 v13 v26 v39 v52 v65 v78 v91 v104 v117 v130 v143 v156 v169 v182 v195 v208 v221 v234 v247 v260 v273 v286 v299 v312 v325 := cast (by sl_kernel_rfl) hg
              let c0_i32_154 : BitVec 32 := 0#32
              let v326 : BitVec 1 := Scalar.cmpi .sgt v325 c0_i32_154
              let v327 : BitVec 32 := Scalar.extui v326
              let c0_i32_155 : BitVec 32 := 0#32
              let v328 : BitVec 1 := Scalar.cmpi .ne v327 c0_i32_155
              ifA arg9 arg10 (cntW (lst [v0, v13, v26, v39, v52, v65, v78, v91, v104, v117, v130, v143, v156, v169, v182, v195, v208, v221, v234, v247, v260, v273, v286, v299, v312]) 25) v324 v325 (cast (by sl_kernel_rfl) k0_hw25) 25 do
                let c0_i32_156 : BitVec 32 := 0#32
                let v329 : BitVec 1 := Scalar.cmpi .sgt v325 c0_i32_156
                let c4_i32_157 : BitVec 32 := 4#32
                let v330 : BitVec 1 := Scalar.cmpi .slt v323 c4_i32_157
                let v331 : BitVec 1 := Scalar.andi v329 v330
                let v332 : BitVec 32 := Scalar.extui v331
                let c0_i32_158 : BitVec 32 := 0#32
                let v333 : BitVec 1 := Scalar.cmpi .ne v332 c0_i32_158
                ifB arg2 harg2 arg3 arg7 harg7 arg8 arg12 arg13 (cntW (lst [v0, v13, v26, v39, v52, v65, v78, v91, v104, v117, v130, v143, v156, v169, v182, v195, v208, v221, v234, v247, v260, v273, v286, v299, v312]) 25) v325 (cast (by sl_kernel_rfl) k0_hw25) 25 (by decide) do
                  K ⟨v312, v323, v324, v325⟩ : Prog (TpuEff nD τ sig (Elt F) Λ₀ .tc) β) := by
  rw [p168_eq]
  simp only [Prog.bind_assoc, ld_bind, ldL_bind, ifA_bind, ifB_bind, ifA0_bind, ifB0_bind]
  sl_kernel_rfl

set_option maxHeartbeats 4000000 in
theorem p169_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v323 : BitVec 32) (v324 : BitVec 32) (v325 : Elt F .i32) {β : Type}
    (K : ((Σ' (v338 : Elt F .i32) (v351 : Elt F .i32) (v362 : BitVec 32) (v363 : BitVec 32) (v364 : Elt F .i32), k0_chk28 v0 v13 v26 v39 v52 v65 v78 v91 v104 v117 v130 v143 v156 v169 v182 v195 v208 v221 v234 v247 v260 v273 v286 v299 v312 v325 v338 v351 v364)) → Prog (TpuEff nD τ sig (Elt F) Λ₀ .tc) β) :
    (k0_part169 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325 >>= K) = (do
  let c0_i32_159 : BitVec 32 := 0#32
  let v334 : BitVec 1 := Scalar.cmpi .sgt v325 c0_i32_159
  let v335 : BitVec 32 := Scalar.extui v334
  let v336 : BitVec 32 := Scalar.addi v323 v335
  let v337 : BitVec 32 := Scalar.addi v324 v325
  let c26 : Index := 26#32
  ld arg0 26 (by decide) (cntW (lst [v0, v13, v26, v39, v52, v65, v78, v91, v104, v117, v130, v143, v156, v169, v182, v195, v208, v221, v234, v247, v260, v273, v286, v299, v312, v325]) 26) fun v338 hg => do
    have k0_hw26 : k0_chk26 v0 v13 v26 v39 v52 v65 v78 v91 v104 v117 v130 v143 v156 v169 v182 v195 v208 v221 v234 v247 v260 v273 v286 v299 v312 v325 v338 := cast (by sl_kernel_rfl) hg
    let c0_i32_160 : BitVec 32 := 0#32
    let v339 : BitVec 1 := Scalar.cmpi .sgt v338 c0_i32_160
    let v340 : BitVec 32 := Scalar.extui v339
    let c0_i32_161 : BitVec 32 := 0#32
    let v341 : BitVec 1 := Scalar.cmpi .ne v340 c0_i32_161
    ifA arg9 arg10 (cntW (lst [v0, v13, v26, v39, v52, v65, v78, v91, v104, v117, v130, v143, v156, v169, v182, v195, v208, v221, v234, v247, v260, v273, v286, v299, v312, v325]) 26) v337 v338 (cast (by sl_kernel_rfl) k0_hw26) 26 do
      let c0_i32_162 : BitVec 32 := 0#32
      let v342 : BitVec 1 := Scalar.cmpi .sgt v338 c0_i32_162
      let c4_i32_163 : BitVec 32 := 4#32
      let v343 : BitVec 1 := Scalar.cmpi .slt v336 c4_i32_163
      let v344 : BitVec 1 := Scalar.andi v342 v343
      let v345 : BitVec 32 := Scalar.extui v344
      let c0_i32_164 : BitVec 32 := 0#32
      let v346 : BitVec 1 := Scalar.cmpi .ne v345 c0_i32_164
      ifB arg2 harg2 arg3 arg7 harg7 arg8 arg12 arg13 (cntW (lst [v0, v13, v26, v39, v52, v65, v78, v91, v104, v117, v130, v143, v156, v169, v182, v195, v208, v221, v234, v247, v260, v273, v286, v299, v312, v325]) 26) v338 (cast (by sl_kernel_rfl) k0_hw26) 26 (by decide) do
        let c0_i32_165 : BitVec 32 := 0#32
        let v347 : BitVec 1 := Scalar.cmpi .sgt v338 c0_i32_165
        let v348 : BitVec 32 := Scalar.extui v347
        let v349 : BitVec 32 := Scalar.addi v336 v348
        let v350 : BitVec 32 := Scalar.addi v337 v338
        let c27 : Index := 27#32
        ld arg0 27 (by decide) (cntW (lst [v0, v13, v26, v39, v52, v65, v78, v91, v104, v117, v130, v143, v156, v169, v182, v195, v208, v221, v234, v247, v260, v273, v286, v299, v312, v325, v338]) 27) fun v351 hg => do
          have k0_hw27 : k0_chk27 v0 v13 v26 v39 v52 v65 v78 v91 v104 v117 v130 v143 v156 v169 v182 v195 v208 v221 v234 v247 v260 v273 v286 v299 v312 v325 v338 v351 := cast (by sl_kernel_rfl) hg
          let c0_i32_166 : BitVec 32 := 0#32
          let v352 : BitVec 1 := Scalar.cmpi .sgt v351 c0_i32_166
          let v353 : BitVec 32 := Scalar.extui v352
          let c0_i32_167 : BitVec 32 := 0#32
          let v354 : BitVec 1 := Scalar.cmpi .ne v353 c0_i32_167
          ifA arg9 arg10 (cntW (lst [v0, v13, v26, v39, v52, v65, v78, v91, v104, v117, v130, v143, v156, v169, v182, v195, v208, v221, v234, v247, v260, v273, v286, v299, v312, v325, v338]) 27) v350 v351 (cast (by sl_kernel_rfl) k0_hw27) 27 do
            let c0_i32_168 : BitVec 32 := 0#32
            let v355 : BitVec 1 := Scalar.cmpi .sgt v351 c0_i32_168
            let c4_i32_169 : BitVec 32 := 4#32
            let v356 : BitVec 1 := Scalar.cmpi .slt v349 c4_i32_169
            let v357 : BitVec 1 := Scalar.andi v355 v356
            let v358 : BitVec 32 := Scalar.extui v357
            let c0_i32_170 : BitVec 32 := 0#32
            let v359 : BitVec 1 := Scalar.cmpi .ne v358 c0_i32_170
            ifB arg2 harg2 arg3 arg7 harg7 arg8 arg12 arg13 (cntW (lst [v0, v13, v26, v39, v52, v65, v78, v91, v104, v117, v130, v143, v156, v169, v182, v195, v208, v221, v234, v247, v260, v273, v286, v299, v312, v325, v338]) 27) v351 (cast (by sl_kernel_rfl) k0_hw27) 27 (by decide) do
              let c0_i32_171 : BitVec 32 := 0#32
              let v360 : BitVec 1 := Scalar.cmpi .sgt v351 c0_i32_171
              let v361 : BitVec 32 := Scalar.extui v360
              let v362 : BitVec 32 := Scalar.addi v349 v361
              let v363 : BitVec 32 := Scalar.addi v350 v351
              let c28 : Index := 28#32
              ld arg0 28 (by decide) (cntW (lst [v0, v13, v26, v39, v52, v65, v78, v91, v104, v117, v130, v143, v156, v169, v182, v195, v208, v221, v234, v247, v260, v273, v286, v299, v312, v325, v338, v351]) 28) fun v364 hg => do
                have k0_hw28 : k0_chk28 v0 v13 v26 v39 v52 v65 v78 v91 v104 v117 v130 v143 v156 v169 v182 v195 v208 v221 v234 v247 v260 v273 v286 v299 v312 v325 v338 v351 v364 := cast (by sl_kernel_rfl) hg
                let c0_i32_172 : BitVec 32 := 0#32
                let v365 : BitVec 1 := Scalar.cmpi .sgt v364 c0_i32_172
                let v366 : BitVec 32 := Scalar.extui v365
                let c0_i32_173 : BitVec 32 := 0#32
                let v367 : BitVec 1 := Scalar.cmpi .ne v366 c0_i32_173
                ifA arg9 arg10 (cntW (lst [v0, v13, v26, v39, v52, v65, v78, v91, v104, v117, v130, v143, v156, v169, v182, v195, v208, v221, v234, v247, v260, v273, v286, v299, v312, v325, v338, v351]) 28) v363 v364 (cast (by sl_kernel_rfl) k0_hw28) 28 do
                  K ⟨v338, v351, v362, v363, v364, k0_hw28⟩ : Prog (TpuEff nD τ sig (Elt F) Λ₀ .tc) β) := by
  rw [p169_eq]
  simp only [Prog.bind_assoc, ld_bind, ldL_bind, ifA_bind, ifB_bind, ifA0_bind, ifB0_bind]
  sl_kernel_rfl

set_option maxHeartbeats 4000000 in
theorem p170_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v362 : BitVec 32) (v363 : BitVec 32) (v364 : Elt F .i32) (k0_hw28 : k0_chk28 v0 v13 v26 v39 v52 v65 v78 v91 v104 v117 v130 v143 v156 v169 v182 v195 v208 v221 v234 v247 v260 v273 v286 v299 v312 v325 v338 v351 v364) {β : Type}
    (K : ((Σ' (v377 : Elt F .i32) (v390 : Elt F .i32) (v401 : BitVec 32), BitVec 32)) → Prog (TpuEff nD τ sig (Elt F) Λ₀ .tc) β) :
    (k0_part170 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28 >>= K) = (do
  let c0_i32_174 : BitVec 32 := 0#32
  let v368 : BitVec 1 := Scalar.cmpi .sgt v364 c0_i32_174
  let c4_i32_175 : BitVec 32 := 4#32
  let v369 : BitVec 1 := Scalar.cmpi .slt v362 c4_i32_175
  let v370 : BitVec 1 := Scalar.andi v368 v369
  let v371 : BitVec 32 := Scalar.extui v370
  let c0_i32_176 : BitVec 32 := 0#32
  let v372 : BitVec 1 := Scalar.cmpi .ne v371 c0_i32_176
  ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351]) 28) v364 (cast (by sl_kernel_rfl) k0_hw28) 28 (by decide) do
    let c0_i32_177 : BitVec 32 := 0#32
    let v373 : BitVec 1 := Scalar.cmpi .sgt v364 c0_i32_177
    let v374 : BitVec 32 := Scalar.extui v373
    let v375 : BitVec 32 := Scalar.addi v362 v374
    let v376 : BitVec 32 := Scalar.addi v363 v364
    let c29 : Index := 29#32
    ld arg0 29 (by decide) (cntW (lst [v0, v13, v26, v39, v52, v65, v78, v91, v104, v117, v130, v143, v156, v169, v182, v195, v208, v221, v234, v247, v260, v273, v286, v299, v312, v325, v338, v351, v364]) 29) fun v377 hg => do
      have k0_hw29 : k0_chk29 v0 v13 v26 v39 v52 v65 v78 v91 v104 v117 v130 v143 v156 v169 v182 v195 v208 v221 v234 v247 v260 v273 v286 v299 v312 v325 v338 v351 v364 v377 := cast (by sl_kernel_rfl) hg
      let c0_i32_178 : BitVec 32 := 0#32
      let v378 : BitVec 1 := Scalar.cmpi .sgt v377 c0_i32_178
      let v379 : BitVec 32 := Scalar.extui v378
      let c0_i32_179 : BitVec 32 := 0#32
      let v380 : BitVec 1 := Scalar.cmpi .ne v379 c0_i32_179
      ifA arg9 arg10 (cntW (lst [v0, v13, v26, v39, v52, v65, v78, v91, v104, v117, v130, v143, v156, v169, v182, v195, v208, v221, v234, v247, v260, v273, v286, v299, v312, v325, v338, v351, v364]) 29) v376 v377 (cast (by sl_kernel_rfl) k0_hw29) 29 do
        let c0_i32_180 : BitVec 32 := 0#32
        let v381 : BitVec 1 := Scalar.cmpi .sgt v377 c0_i32_180
        let c4_i32_181 : BitVec 32 := 4#32
        let v382 : BitVec 1 := Scalar.cmpi .slt v375 c4_i32_181
        let v383 : BitVec 1 := Scalar.andi v381 v382
        let v384 : BitVec 32 := Scalar.extui v383
        let c0_i32_182 : BitVec 32 := 0#32
        let v385 : BitVec 1 := Scalar.cmpi .ne v384 c0_i32_182
        ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364]) 29) v377 (cast (by sl_kernel_rfl) k0_hw29) 29 (by decide) do
          let c0_i32_183 : BitVec 32 := 0#32
          let v386 : BitVec 1 := Scalar.cmpi .sgt v377 c0_i32_183
          let v387 : BitVec 32 := Scalar.extui v386
          let v388 : BitVec 32 := Scalar.addi v375 v387
          let v389 : BitVec 32 := Scalar.addi v376 v377
          let c30 : Index := 30#32
          ld arg0 30 (by decide) (cntW (lst [v0, v13, v26, v39, v52, v65, v78, v91, v104, v117, v130, v143, v156, v169, v182, v195, v208, v221, v234, v247, v260, v273, v286, v299, v312, v325, v338, v351, v364, v377]) 30) fun v390 hg => do
            have k0_hw30 : k0_chk30 v0 v13 v26 v39 v52 v65 v78 v91 v104 v117 v130 v143 v156 v169 v182 v195 v208 v221 v234 v247 v260 v273 v286 v299 v312 v325 v338 v351 v364 v377 v390 := cast (by sl_kernel_rfl) hg
            let c0_i32_184 : BitVec 32 := 0#32
            let v391 : BitVec 1 := Scalar.cmpi .sgt v390 c0_i32_184
            let v392 : BitVec 32 := Scalar.extui v391
            let c0_i32_185 : BitVec 32 := 0#32
            let v393 : BitVec 1 := Scalar.cmpi .ne v392 c0_i32_185
            ifA arg9 arg10 (cntW (lst [v0, v13, v26, v39, v52, v65, v78, v91, v104, v117, v130, v143, v156, v169, v182, v195, v208, v221, v234, v247, v260, v273, v286, v299, v312, v325, v338, v351, v364, v377]) 30) v389 v390 (cast (by sl_kernel_rfl) k0_hw30) 30 do
              let c0_i32_186 : BitVec 32 := 0#32
              let v394 : BitVec 1 := Scalar.cmpi .sgt v390 c0_i32_186
              let c4_i32_187 : BitVec 32 := 4#32
              let v395 : BitVec 1 := Scalar.cmpi .slt v388 c4_i32_187
              let v396 : BitVec 1 := Scalar.andi v394 v395
              let v397 : BitVec 32 := Scalar.extui v396
              let c0_i32_188 : BitVec 32 := 0#32
              let v398 : BitVec 1 := Scalar.cmpi .ne v397 c0_i32_188
              ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364, v377]) 30) v390 (cast (by sl_kernel_rfl) k0_hw30) 30 (by decide) do
                let c0_i32_189 : BitVec 32 := 0#32
                let v399 : BitVec 1 := Scalar.cmpi .sgt v390 c0_i32_189
                let v400 : BitVec 32 := Scalar.extui v399
                let v401 : BitVec 32 := Scalar.addi v388 v400
                let v402 : BitVec 32 := Scalar.addi v389 v390
                K ⟨v377, v390, v401, v402⟩ : Prog (TpuEff nD τ sig (Elt F) Λ₀ .tc) β) := by
  rw [p170_eq]
  simp only [Prog.bind_assoc, ld_bind, ldL_bind, ifA_bind, ifB_bind, ifA0_bind, ifB0_bind]
  sl_kernel_rfl

/-- What follows the last expert's conditionals in its window. -/
def tail171 (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v401 : BitVec 32) (v402 : BitVec 32) (v403 : Elt F .i32) (k0_hw31 : chkL (lst ([v0, v13, v26, v39, v52, v65, v78, v91, v104, v117, v130, v143, v156, v169, v182, v195, v208, v221, v234, v247, v260, v273, v286, v299, v312, v325, v338, v351, v364, v377, v390] ++ [v403]))) : Prog (TpuEff nD τ sig (Elt F) Λ₀ .tc) ((Σ' (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32), IVec S64x128 32)) := do
  let c0_i32_195 : BitVec 32 := 0#32
  let v412 : BitVec 1 := Scalar.cmpi .sgt v403 c0_i32_195
  let v413 : BitVec 32 := Scalar.extui v412
  let v414 : BitVec 32 := Scalar.addi v401 v413
  let v415 : BitVec 32 := Scalar.addi v402 v403
  let v416 : Index := Scalar.indexCast v414
  let v417 : Elt F .i32 ← smemLoad arg10 (Rect.unit (s := S33) (k0_off125 v0 v13 v26 v39 v52 v65 v78 v91 v104 v117 v130 v143 v156 v169 v182 v195 v208 v221 v234 v247 v260 v273 v286 v299 v312 v325 v338 v351 v364 v377 v390 v403) S1.size (k0_off125_inb v0 v13 v26 v39 v52 v65 v78 v91 v104 v117 v130 v143 v156 v169 v182 v195 v208 v221 v234 v247 v260 v273 v286 v299 v312 v325 v338 v351 v364 v377 v390 v403 k0_hw31)) numel1_S1 rfl
  Prog.lift (.store arg10 (Rect.unit (s := S33) (k0_off125 v0 v13 v26 v39 v52 v65 v78 v91 v104 v117 v130 v143 v156 v169 v182 v195 v208 v221 v234 v247 v260 v273 v286 v299 v312 v325 v338 v351 v364 v377 v390 v403) S1.size (k0_off125_inb v0 v13 v26 v39 v52 v65 v78 v91 v104 v117 v130 v143 v156 v169 v182 v195 v208 v221 v234 v247 v260 v273 v286 v299 v312 v325 v338 v351 v364 v377 v390 v403 k0_hw31)) (fun _ => v415) Finset.univ (View.stores_smem_one rfl numel1_S1) (.inl rfl))
  Prog.lift (.waitDma2 arg11.sem arg1 arg5 harg1.wordExact harg5.wordExact)
  let c0_196 : Index := 0#32
  let c0_197 : Index := 0#32
  let v418 : Vec F S64x128 .bf16 ← Prog.lift (.load arg5 (Rect.unit (s := S64x7168) ![0, 0] S64x128.size inb_S64x7168_S64x128_0_0).toLoadRect (View.loadsAt_vmem h_S64x128))
  have v419 : FVec F S64x128 .bf16 := absf v418
  have v420 : FVec F S64x128 .f32 := extf .f32 v419 bitsLt_bf16_f32
  have cst : FVec F S64 .f32 := constant S64 .f32 0xFF800000#32
  have v421 : FVec F S64 .f32 := multiReduction .maximumf [1] S64 v420 0xFF800000#32 reduces_S64x128_S64 (.inl rfl) rfl
  have v422 : FVec F S64x1 .f32 := shapeCast S64x1 v421 shapeCasts_S64_S64x1
  have cst_198 : F .f32 := Scalar.ofBits .f32 0x3B124925#32
  have v423 : FVec F S64x1 .f32 := broadcast S64x1 cst_198
  have v424 : FVec F S64x1 .f32 := mulf v422 v423
  have v425 : FVec F S64x1 .f32 := shapeCast S64x1 v424 shapeCasts_S64x1_S64x1
  have v426 : FVec F S64x128 .f32 := broadcastTo S64x128 v425 broadcasts_S64x1_S64x128
  let c0_i32_199 : BitVec 32 := 0#32
  have v427 : IVec S64x128 32 := broadcast S64x128 c0_i32_199
  let c128_i32 : BitVec 32 := 128#32
  have v428 : IVec S64x128 32 := broadcast S64x128 c128_i32
  have v429 : IVec S64x128 32 := addi v427 v428
  let c23_i32 : BitVec 32 := 23#32
  have v430 : IVec S64x128 32 := broadcast S64x128 c23_i32
  have v431 : IVec S64x128 32 := shli v429 v430
  have v432 : FVec F S64x128 .f32 := bitcastToFloat .f32 v431
  have v433 : IVec S64x128 1 := cmpf .oge v426 v432
  have v434 : IVec S64x128 32 := select v433 v429 v427
  let c64_i32 : BitVec 32 := 64#32
  have v435 : IVec S64x128 32 := broadcast S64x128 c64_i32
  have v436 : IVec S64x128 32 := addi v434 v435
  let c23_i32_200 : BitVec 32 := 23#32
  have v437 : IVec S64x128 32 := broadcast S64x128 c23_i32_200
  have v438 : IVec S64x128 32 := shli v436 v437
  have v439 : FVec F S64x128 .f32 := bitcastToFloat .f32 v438
  have v440 : IVec S64x128 1 := cmpf .oge v426 v439
  have v441 : IVec S64x128 32 := select v440 v436 v434
  pure ⟨v403, k0_hw31, v414, v418, v426, v441⟩

theorem p171_bind (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v401 : BitVec 32) (v402 : BitVec 32) {β : Type}
    (K : ((Σ' (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32), IVec S64x128 32)) → Prog (TpuEff nD τ sig (Elt F) Λ₀ .tc) β) :
    (k0_part171 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402 >>= K) =
      ldL arg0 [v0, v13, v26, v39, v52, v65, v78, v91, v104, v117, v130, v143, v156, v169, v182, v195, v208, v221, v234, v247, v260, v273, v286, v299, v312, v325, v338, v351, v364, v377, v390] fun v403 k0_hw31 =>
        ifA arg9 arg10 (cntW (lst ([v0, v13, v26, v39, v52, v65, v78, v91, v104, v117, v130, v143, v156, v169, v182, v195, v208, v221, v234, v247, v260, v273, v286, v299, v312, v325, v338, v351, v364, v377, v390] ++ [v403])) 31) v402 (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31
          (ifB arg2 harg2 arg3 arg7 harg7 arg8 arg12 arg13 (cntW (lst ([v0, v13, v26, v39, v52, v65, v78, v91, v104, v117, v130, v143, v156, v169, v182, v195, v208, v221, v234, v247, v260, v273, v286, v299, v312, v325, v338, v351, v364, v377, v390] ++ [v403])) 31) (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31 (by decide)
            (tail171 arg1 harg1 arg5 harg5 arg10 arg11 v0 v13 v26 v39 v52 v65 v78 v91 v104 v117 v130 v143 v156 v169 v182 v195 v208 v221 v234 v247 v260 v273 v286 v299 v312 v325 v338 v351 v364 v377 v390 v401 v402 v403 k0_hw31 >>= K)) := by
  have h : k0_part171 (F := F) arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402 =
      ldL arg0 [v0, v13, v26, v39, v52, v65, v78, v91, v104, v117, v130, v143, v156, v169, v182, v195, v208, v221, v234, v247, v260, v273, v286, v299, v312, v325, v338, v351, v364, v377, v390] fun v403 k0_hw31 =>
        ifA arg9 arg10 (cntW (lst ([v0, v13, v26, v39, v52, v65, v78, v91, v104, v117, v130, v143, v156, v169, v182, v195, v208, v221, v234, v247, v260, v273, v286, v299, v312, v325, v338, v351, v364, v377, v390] ++ [v403])) 31) v402 (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31
          (ifB arg2 harg2 arg3 arg7 harg7 arg8 arg12 arg13 (cntW (lst ([v0, v13, v26, v39, v52, v65, v78, v91, v104, v117, v130, v143, v156, v169, v182, v195, v208, v221, v234, v247, v260, v273, v286, v299, v312, v325, v338, v351, v364, v377, v390] ++ [v403])) 31) (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31 (by decide)
            (tail171 arg1 harg1 arg5 harg5 arg10 arg11 v0 v13 v26 v39 v52 v65 v78 v91 v104 v117 v130 v143 v156 v169 v182 v195 v208 v221 v234 v247 v260 v273 v286 v299 v312 v325 v338 v351 v364 v377 v390 v401 v402 v403 k0_hw31)) := by
    sl_kernel_rfl
  rw [h]
  simp only [ldL_bind, ifA_bind, ifB_bind]
end Prog
end Cert.KernelIdeal.Str
-- ==== Proof.Chain.lean ====
module

public import proofs.«01_k».proof.Proof.Parts

@[expose] public section

/-! The printed body is the structured one. -/

noncomputable section

namespace Cert.KernelIdeal.Str

open Idealize.ShloMosaic Idealize.SL.Sem
open Cert.KernelIdeal Facts₀ Facts

variable {F : FTy → Type} [FloatOps F] [Facts]

section Prog
variable (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)
/-- The quantiser windows after the scan. -/
def ch172 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32) (v441 : IVec S64x128 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) := do
  let ⟨v485, v487⟩ : Σ' (v485 : IVec S64x128 1), IVec S64x128 32 ← k0_part172 arg0 harg0 arg1 harg1 arg2 harg2 arg3 harg3 arg4 harg4 arg5 harg5 arg6 harg6 arg7 harg7 arg8 harg8 arg9 harg9 arg10 harg10 arg11 arg12 arg13 v426 v441
  let ⟨v513, v521, v529, c64_i32_223⟩ : Σ' (v513 : Vec F S64x128 .bf16) (v521 : FVec F S64x128 .f32) (v529 : IVec S64x128 32), BitVec 32 ← k0_part173 arg0 harg0 arg1 harg1 arg2 harg2 arg3 harg3 arg4 harg4 arg5 harg5 arg6 harg6 arg7 harg7 arg8 harg8 arg9 harg9 arg10 harg10 arg11 arg12 arg13 v418 v485 v487
  let ⟨v571, v573, v576⟩ : Σ' (v571 : IVec S64x128 32) (v573 : IVec S64x128 32), FVec F S64x128 .f32 ← k0_part174 arg0 harg0 arg1 harg1 arg2 harg2 arg3 harg3 arg4 harg4 arg5 harg5 arg6 harg6 arg7 harg7 arg8 harg8 arg9 harg9 arg10 harg10 arg11 arg12 arg13 v521 v529 c64_i32_223
  let ⟨v608, v616, v617, v618⟩ : Σ' (v608 : Vec F S64x128 .bf16) (v616 : FVec F S64x128 .f32) (v617 : IVec S64x128 32), IVec S64x128 32 ← k0_part175 arg0 harg0 arg1 harg1 arg2 harg2 arg3 harg3 arg4 harg4 arg5 harg5 arg6 harg6 arg7 harg7 arg8 harg8 arg9 harg9 arg10 harg10 arg11 arg12 arg13 v513 v521 v571 v573 v576
  let ⟨v659, v661, v665⟩ : Σ' (v659 : IVec S64x128 32) (v661 : IVec S64x128 32), IVec S64x128 1 ← k0_part176 arg0 harg0 arg1 harg1 arg2 harg2 arg3 harg3 arg4 harg4 arg5 harg5 arg6 harg6 arg7 harg7 arg8 harg8 arg9 harg9 arg10 harg10 arg11 arg12 arg13 v616 v617 v618
  let ⟨v703, v707, cst_281⟩ : Σ' (v703 : Vec F S64x128 .bf16) (v707 : FVec F S64x1 .f32), F .f32 ← k0_part177 arg0 harg0 arg1 harg1 arg2 harg2 arg3 harg3 arg4 harg4 arg5 harg5 arg6 harg6 arg7 harg7 arg8 harg8 arg9 harg9 arg10 harg10 arg11 arg12 arg13 v608 v616 v659 v661 v665
  let ⟨v711, v754⟩ : Σ' (v711 : FVec F S64x128 .f32), IVec S64x128 32 ← k0_part178 arg0 harg0 arg1 harg1 arg2 harg2 arg3 harg3 arg4 harg4 arg5 harg5 arg6 harg6 arg7 harg7 arg8 harg8 arg9 harg9 arg10 harg10 arg11 arg12 arg13 v707 cst_281
  k0_part179 arg0 harg0 arg1 harg1 arg2 harg2 arg3 harg3 arg4 harg4 arg5 harg5 arg6 harg6 arg7 harg7 arg8 harg8 arg9 harg9 arg10 harg10 arg11 arg12 arg13 v703 v711 v754
  let ⟨v798, v806, v842, c4_i32_324⟩ : Σ' (v798 : Vec F S64x128 .bf16) (v806 : FVec F S64x128 .f32) (v842 : IVec S64x128 32), BitVec 32 ← k0_part180 arg0 harg0 arg1 harg1 arg2 harg2 arg3 harg3 arg4 harg4 arg5 harg5 arg6 harg6 arg7 harg7 arg8 harg8 arg9 harg9 arg10 harg10 arg11 arg12 arg13
  let ⟨v887, v888⟩ : Σ' (v887 : FVec F S64x128 .bf16), FVec F S64x128 .bf16 ← k0_part181 arg0 harg0 arg1 harg1 arg2 harg2 arg3 harg3 arg4 harg4 arg5 harg5 arg6 harg6 arg7 harg7 arg8 harg8 arg9 harg9 arg10 harg10 arg11 arg12 arg13 v798 v806 v842 c4_i32_324
  let ⟨v893, v901, v930, v931⟩ : Σ' (v893 : Vec F S64x128 .bf16) (v901 : FVec F S64x128 .f32) (v930 : IVec S64x128 32), IVec S64x128 32 ← k0_part182 arg0 harg0 arg1 harg1 arg2 harg2 arg3 harg3 arg4 harg4 arg5 harg5 arg6 harg6 arg7 harg7 arg8 harg8 arg9 harg9 arg10 harg10 arg11 arg12 arg13 v887 v888
  let ⟨v969, v976, cst_368⟩ : Σ' (v969 : FVec F S64x128 .f32) (v976 : FVec F S64x128 .f32), F .f32 ← k0_part183 arg0 harg0 arg1 harg1 arg2 harg2 arg3 harg3 arg4 harg4 arg5 harg5 arg6 harg6 arg7 harg7 arg8 harg8 arg9 harg9 arg10 harg10 arg11 arg12 arg13 v893 v901 v930 v931
  let ⟨v988, v996, v1018, v1020⟩ : Σ' (v988 : Vec F S64x128 .bf16) (v996 : FVec F S64x128 .f32) (v1018 : IVec S64x128 32), IVec S64x128 32 ← k0_part184 arg0 harg0 arg1 harg1 arg2 harg2 arg3 harg3 arg4 harg4 arg5 harg5 arg6 harg6 arg7 harg7 arg8 harg8 arg9 harg9 arg10 harg10 arg11 arg12 arg13 v969 v976 cst_368
  let ⟨v1059, v1064, v1065⟩ : Σ' (v1059 : IVec S64x128 32) (v1064 : FVec F S64x128 .f32), IVec S64x128 32 ← k0_part185 arg0 harg0 arg1 harg1 arg2 harg2 arg3 harg3 arg4 harg4 arg5 harg5 arg6 harg6 arg7 harg7 arg8 harg8 arg9 harg9 arg10 harg10 arg11 arg12 arg13 v996 v1018 v1020
  let ⟨v1083, v1091, v1106, v1108, c23_i32_412⟩ : Σ' (v1083 : Vec F S64x128 .bf16) (v1091 : FVec F S64x128 .f32) (v1106 : IVec S64x128 32) (v1108 : IVec S64x128 32), BitVec 32 ← k0_part186 arg0 harg0 arg1 harg1 arg2 harg2 arg3 harg3 arg4 harg4 arg5 harg5 arg6 harg6 arg7 harg7 arg8 harg8 arg9 harg9 arg10 harg10 arg11 arg12 arg13 v988 v1059 v1064 v1065
  let ⟨v1154, c127_i32_426⟩ : Σ' (v1154 : IVec S64x128 32), BitVec 32 ← k0_part187 arg0 harg0 arg1 harg1 arg2 harg2 arg3 harg3 arg4 harg4 arg5 harg5 arg6 harg6 arg7 harg7 arg8 harg8 arg9 harg9 arg10 harg10 arg11 arg12 arg13 v1091 v1106 v1108 c23_i32_412
  let ⟨v1178, v1186, v1194, v1196, v1197⟩ : Σ' (v1178 : Vec F S64x128 .bf16) (v1186 : FVec F S64x128 .f32) (v1194 : IVec S64x128 32) (v1196 : IVec S64x128 32), IVec S64x128 32 ← k0_part188 arg0 harg0 arg1 harg1 arg2 harg2 arg3 harg3 arg4 harg4 arg5 harg5 arg6 harg6 arg7 harg7 arg8 harg8 arg9 harg9 arg10 harg10 arg11 arg12 arg13 v1083 v1154 c127_i32_426
  let ⟨v1243, v1244⟩ : Σ' (v1243 : IVec S64x128 32), IVec S64x128 32 ← k0_part189 arg0 harg0 arg1 harg1 arg2 harg2 arg3 harg3 arg4 harg4 arg5 harg5 arg6 harg6 arg7 harg7 arg8 harg8 arg9 harg9 arg10 harg10 arg11 arg12 arg13 v1186 v1194 v1196 v1197
  let ⟨v1273, v1281, v1282, v1284, v1286⟩ : Σ' (v1273 : Vec F S64x128 .bf16) (v1281 : FVec F S64x128 .f32) (v1282 : IVec S64x128 32) (v1284 : IVec S64x128 32), IVec S64x128 32 ← k0_part190 arg0 harg0 arg1 harg1 arg2 harg2 arg3 harg3 arg4 harg4 arg5 harg5 arg6 harg6 arg7 harg7 arg8 harg8 arg9 harg9 arg10 harg10 arg11 arg12 arg13 v1178 v1243 v1244
  let ⟨v1331, v1333⟩ : Σ' (v1331 : IVec S64x128 32), IVec S64x128 32 ← k0_part191 arg0 harg0 arg1 harg1 arg2 harg2 arg3 harg3 arg4 harg4 arg5 harg5 arg6 harg6 arg7 harg7 arg8 harg8 arg9 harg9 arg10 harg10 arg11 arg12 arg13 v1281 v1282 v1284 v1286
  let ⟨v1368, v1376⟩ : Σ' (v1368 : Vec F S64x128 .bf16), FVec F S64x128 .f32 ← k0_part192 arg0 harg0 arg1 harg1 arg2 harg2 arg3 harg3 arg4 harg4 arg5 harg5 arg6 harg6 arg7 harg7 arg8 harg8 arg9 harg9 arg10 harg10 arg11 arg12 arg13 v1273 v1281 v1331 v1333
  let ⟨v1419, v1421, c23_i32_513⟩ : Σ' (v1419 : IVec S64x128 32) (v1421 : IVec S64x128 32), BitVec 32 ← k0_part193 arg0 harg0 arg1 harg1 arg2 harg2 arg3 harg3 arg4 harg4 arg5 harg5 arg6 harg6 arg7 harg7 arg8 harg8 arg9 harg9 arg10 harg10 arg11 arg12 arg13 v1376
  let ⟨v1463, v1465⟩ : Σ' (v1463 : Vec F S64x128 .bf16), FVec F S64x128 .f32 ← k0_part194 arg0 harg0 arg1 harg1 arg2 harg2 arg3 harg3 arg4 harg4 arg5 harg5 arg6 harg6 arg7 harg7 arg8 harg8 arg9 harg9 arg10 harg10 arg11 arg12 arg13 v1368 v1376 v1419 v1421 c23_i32_513
  let ⟨v1471, v1507, v1509, v1510⟩ : Σ' (v1471 : FVec F S64x128 .f32) (v1507 : IVec S64x128 32) (v1509 : IVec S64x128 32), IVec S64x128 32 ← k0_part195 arg0 harg0 arg1 harg1 arg2 harg2 arg3 harg3 arg4 harg4 arg5 harg5 arg6 harg6 arg7 harg7 arg8 harg8 arg9 harg9 arg10 harg10 arg11 arg12 arg13 v1465
  let ⟨v1554, v1555⟩ : Σ' (v1554 : FVec F S64x128 .bf16), Vec F S64x128 .bf16 ← k0_part196 arg0 harg0 arg1 harg1 arg2 harg2 arg3 harg3 arg4 harg4 arg5 harg5 arg6 harg6 arg7 harg7 arg8 harg8 arg9 harg9 arg10 harg10 arg11 arg12 arg13 v1463 v1471 v1507 v1509 v1510
  let ⟨v1558, v1566, v1595, v1597, v1599⟩ : Σ' (v1558 : Vec F S64x128 .bf16) (v1566 : FVec F S64x128 .f32) (v1595 : IVec S64x128 32) (v1597 : IVec S64x128 32), IVec S64x128 32 ← k0_part197 arg0 harg0 arg1 harg1 arg2 harg2 arg3 harg3 arg4 harg4 arg5 harg5 arg6 harg6 arg7 harg7 arg8 harg8 arg9 harg9 arg10 harg10 arg11 arg12 arg13 v1554 v1555
  let ⟨v1634, v1643, v1644⟩ : Σ' (v1634 : FVec F S64x128 .f32) (v1643 : FVec F S64x128 .f32), FVec F S64x128 .f32 ← k0_part198 arg0 harg0 arg1 harg1 arg2 harg2 arg3 harg3 arg4 harg4 arg5 harg5 arg6 harg6 arg7 harg7 arg8 harg8 arg9 harg9 arg10 harg10 arg11 arg12 arg13 v1558 v1566 v1595 v1597 v1599
  let ⟨v1653, v1661, v1683, v1685, v1688⟩ : Σ' (v1653 : Vec F S64x128 .bf16) (v1661 : FVec F S64x128 .f32) (v1683 : IVec S64x128 32) (v1685 : IVec S64x128 32), FVec F S64x128 .f32 ← k0_part199 arg0 harg0 arg1 harg1 arg2 harg2 arg3 harg3 arg4 harg4 arg5 harg5 arg6 harg6 arg7 harg7 arg8 harg8 arg9 harg9 arg10 harg10 arg11 arg12 arg13 v1634 v1643 v1644
  let ⟨v1729, v1733⟩ : Σ' (v1729 : FVec F S64x128 .f32), IVec S64x128 32 ← k0_part200 arg0 harg0 arg1 harg1 arg2 harg2 arg3 harg3 arg4 harg4 arg5 harg5 arg6 harg6 arg7 harg7 arg8 harg8 arg9 harg9 arg10 harg10 arg11 arg12 arg13 v1661 v1683 v1685 v1688
  let ⟨v1748, v1756, v1771, v1773, v1777⟩ : Σ' (v1748 : Vec F S64x128 .bf16) (v1756 : FVec F S64x128 .f32) (v1771 : IVec S64x128 32) (v1773 : IVec S64x128 32), IVec S64x128 1 ← k0_part201 arg0 harg0 arg1 harg1 arg2 harg2 arg3 harg3 arg4 harg4 arg5 harg5 arg6 harg6 arg7 harg7 arg8 harg8 arg9 harg9 arg10 harg10 arg11 arg12 arg13 v1653 v1729 v1733
  let ⟨v1819, v1821, v1822⟩ : Σ' (v1819 : IVec S64x128 32) (v1821 : IVec S64x128 32), IVec S64x128 32 ← k0_part202 arg0 harg0 arg1 harg1 arg2 harg2 arg3 harg3 arg4 harg4 arg5 harg5 arg6 harg6 arg7 harg7 arg8 harg8 arg9 harg9 arg10 harg10 arg11 arg12 arg13 v1756 v1771 v1773 v1777
  let ⟨v1843, v1851, v1866⟩ : Σ' (v1843 : Vec F S64x128 .bf16) (v1851 : FVec F S64x128 .f32), IVec S64x128 32 ← k0_part203 arg0 harg0 arg1 harg1 arg2 harg2 arg3 harg3 arg4 harg4 arg5 harg5 arg6 harg6 arg7 harg7 arg8 harg8 arg9 harg9 arg10 harg10 arg11 arg12 arg13 v1748 v1819 v1821 v1822
  let ⟨v1910, v1912⟩ : Σ' (v1910 : IVec S64x128 1), IVec S64x128 32 ← k0_part204 arg0 harg0 arg1 harg1 arg2 harg2 arg3 harg3 arg4 harg4 arg5 harg5 arg6 harg6 arg7 harg7 arg8 harg8 arg9 harg9 arg10 harg10 arg11 arg12 arg13 v1851 v1866
  let ⟨v1938, v1946, v1954, c64_i32_688⟩ : Σ' (v1938 : Vec F S64x128 .bf16) (v1946 : FVec F S64x128 .f32) (v1954 : IVec S64x128 32), BitVec 32 ← k0_part205 arg0 harg0 arg1 harg1 arg2 harg2 arg3 harg3 arg4 harg4 arg5 harg5 arg6 harg6 arg7 harg7 arg8 harg8 arg9 harg9 arg10 harg10 arg11 arg12 arg13 v1843 v1910 v1912
  let ⟨v1996, v1998, v2001⟩ : Σ' (v1996 : IVec S64x128 32) (v1998 : IVec S64x128 32), FVec F S64x128 .f32 ← k0_part206 arg0 harg0 arg1 harg1 arg2 harg2 arg3 harg3 arg4 harg4 arg5 harg5 arg6 harg6 arg7 harg7 arg8 harg8 arg9 harg9 arg10 harg10 arg11 arg12 arg13 v1946 v1954 c64_i32_688
  let ⟨v2033, v2041, v2042, v2043⟩ : Σ' (v2033 : Vec F S64x128 .bf16) (v2041 : FVec F S64x128 .f32) (v2042 : IVec S64x128 32), IVec S64x128 32 ← k0_part207 arg0 harg0 arg1 harg1 arg2 harg2 arg3 harg3 arg4 harg4 arg5 harg5 arg6 harg6 arg7 harg7 arg8 harg8 arg9 harg9 arg10 harg10 arg11 arg12 arg13 v1938 v1946 v1996 v1998 v2001
  let ⟨v2084, v2086, v2090⟩ : Σ' (v2084 : IVec S64x128 32) (v2086 : IVec S64x128 32), IVec S64x128 1 ← k0_part208 arg0 harg0 arg1 harg1 arg2 harg2 arg3 harg3 arg4 harg4 arg5 harg5 arg6 harg6 arg7 harg7 arg8 harg8 arg9 harg9 arg10 harg10 arg11 arg12 arg13 v2041 v2042 v2043
  let ⟨v2128, v2132, cst_746⟩ : Σ' (v2128 : Vec F S64x128 .bf16) (v2132 : FVec F S64x1 .f32), F .f32 ← k0_part209 arg0 harg0 arg1 harg1 arg2 harg2 arg3 harg3 arg4 harg4 arg5 harg5 arg6 harg6 arg7 harg7 arg8 harg8 arg9 harg9 arg10 harg10 arg11 arg12 arg13 v2033 v2041 v2084 v2086 v2090
  let ⟨v2136, v2179⟩ : Σ' (v2136 : FVec F S64x128 .f32), IVec S64x128 32 ← k0_part210 arg0 harg0 arg1 harg1 arg2 harg2 arg3 harg3 arg4 harg4 arg5 harg5 arg6 harg6 arg7 harg7 arg8 harg8 arg9 harg9 arg10 harg10 arg11 arg12 arg13 v2132 cst_746
  k0_part211 arg0 harg0 arg1 harg1 arg2 harg2 arg3 harg3 arg4 harg4 arg5 harg5 arg6 harg6 arg7 harg7 arg8 harg8 arg9 harg9 arg10 harg10 arg11 arg12 arg13 v2128 v2136 v2179
  let ⟨v2223, v2231, v2267, c4_i32_789⟩ : Σ' (v2223 : Vec F S64x128 .bf16) (v2231 : FVec F S64x128 .f32) (v2267 : IVec S64x128 32), BitVec 32 ← k0_part212 arg0 harg0 arg1 harg1 arg2 harg2 arg3 harg3 arg4 harg4 arg5 harg5 arg6 harg6 arg7 harg7 arg8 harg8 arg9 harg9 arg10 harg10 arg11 arg12 arg13
  let ⟨v2312, v2313⟩ : Σ' (v2312 : FVec F S64x128 .bf16), FVec F S64x128 .bf16 ← k0_part213 arg0 harg0 arg1 harg1 arg2 harg2 arg3 harg3 arg4 harg4 arg5 harg5 arg6 harg6 arg7 harg7 arg8 harg8 arg9 harg9 arg10 harg10 arg11 arg12 arg13 v2223 v2231 v2267 c4_i32_789
  let ⟨v2318, v2326, v2355, v2356⟩ : Σ' (v2318 : Vec F S64x128 .bf16) (v2326 : FVec F S64x128 .f32) (v2355 : IVec S64x128 32), IVec S64x128 32 ← k0_part214 arg0 harg0 arg1 harg1 arg2 harg2 arg3 harg3 arg4 harg4 arg5 harg5 arg6 harg6 arg7 harg7 arg8 harg8 arg9 harg9 arg10 harg10 arg11 arg12 arg13 v2312 v2313
  let ⟨v2394, v2401, cst_833⟩ : Σ' (v2394 : FVec F S64x128 .f32) (v2401 : FVec F S64x128 .f32), F .f32 ← k0_part215 arg0 harg0 arg1 harg1 arg2 harg2 arg3 harg3 arg4 harg4 arg5 harg5 arg6 harg6 arg7 harg7 arg8 harg8 arg9 harg9 arg10 harg10 arg11 arg12 arg13 v2318 v2326 v2355 v2356
  let ⟨v2413, v2421, v2443, v2445⟩ : Σ' (v2413 : Vec F S64x128 .bf16) (v2421 : FVec F S64x128 .f32) (v2443 : IVec S64x128 32), IVec S64x128 32 ← k0_part216 arg0 harg0 arg1 harg1 arg2 harg2 arg3 harg3 arg4 harg4 arg5 harg5 arg6 harg6 arg7 harg7 arg8 harg8 arg9 harg9 arg10 harg10 arg11 arg12 arg13 v2394 v2401 cst_833
  let ⟨v2484, v2489, v2490⟩ : Σ' (v2484 : IVec S64x128 32) (v2489 : FVec F S64x128 .f32), IVec S64x128 32 ← k0_part217 arg0 harg0 arg1 harg1 arg2 harg2 arg3 harg3 arg4 harg4 arg5 harg5 arg6 harg6 arg7 harg7 arg8 harg8 arg9 harg9 arg10 harg10 arg11 arg12 arg13 v2421 v2443 v2445
  let ⟨v2508, v2516, v2531, v2533, c23_i32_877⟩ : Σ' (v2508 : Vec F S64x128 .bf16) (v2516 : FVec F S64x128 .f32) (v2531 : IVec S64x128 32) (v2533 : IVec S64x128 32), BitVec 32 ← k0_part218 arg0 harg0 arg1 harg1 arg2 harg2 arg3 harg3 arg4 harg4 arg5 harg5 arg6 harg6 arg7 harg7 arg8 harg8 arg9 harg9 arg10 harg10 arg11 arg12 arg13 v2413 v2484 v2489 v2490
  pure ⟨k0_mxu1, v0, v13, v26, v39, v52, v65, v78, v91, v104, v117, v130, v143, v156, v169, v182, v195, v208, v221, v234, v247, v260, v273, v286, v299, v312, v325, v338, v351, v364, v377, v390, v403, k0_hw31, v414, v2508, v2516, v2531, v2533, c23_i32_877⟩

/-- The windows from 171 on. -/
def ch171 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v401 : BitVec 32) (v402 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part171 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402 >>= fun t : (Σ' (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32), IVec S64x128 32) => ch172 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 (t.1) (t.2.1) (t.2.2.1) (t.2.2.2.1) (t.2.2.2.2.1) (t.2.2.2.2.2)

/-- The windows from 170 on. -/
def ch170 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v362 : BitVec 32) (v363 : BitVec 32) (v364 : Elt F .i32) (k0_hw28 : k0_chk28 v0 v13 v26 v39 v52 v65 v78 v91 v104 v117 v130 v143 v156 v169 v182 v195 v208 v221 v234 v247 v260 v273 v286 v299 v312 v325 v338 v351 v364) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part170 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28 >>= fun t : (Σ' (v377 : Elt F .i32) (v390 : Elt F .i32) (v401 : BitVec 32), BitVec 32) => ch171 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 (t.1) (t.2.1) (t.2.2.1) (t.2.2.2)

/-- The windows from 169 on. -/
def ch169 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v323 : BitVec 32) (v324 : BitVec 32) (v325 : Elt F .i32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part169 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325 >>= fun t : (Σ' (v338 : Elt F .i32) (v351 : Elt F .i32) (v362 : BitVec 32) (v363 : BitVec 32) (v364 : Elt F .i32), k0_chk28 v0 v13 v26 v39 v52 v65 v78 v91 v104 v117 v130 v143 v156 v169 v182 v195 v208 v221 v234 v247 v260 v273 v286 v299 v312 v325 v338 v351 v364) => ch170 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 (t.1) (t.2.1) (t.2.2.1) (t.2.2.2.1) (t.2.2.2.2.1) (t.2.2.2.2.2)

/-- The windows from 168 on. -/
def ch168 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299) (c0_i32_142 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part168 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142 >>= fun t : (Σ' (v312 : Elt F .i32) (v323 : BitVec 32) (v324 : BitVec 32), Elt F .i32) => ch169 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 (t.1) (t.2.1) (t.2.2.1) (t.2.2.2)

/-- The windows from 167 on. -/
def ch167 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1) (v265 : BitVec 1) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part167 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265 >>= fun t : (Σ' (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299), BitVec 32) => ch168 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 (t.1) (t.2.1) (t.2.2.1) (t.2.2.2.1) (t.2.2.2.2.1) (t.2.2.2.2.2.1) (t.2.2.2.2.2.2)

/-- The windows from 166 on. -/
def ch166 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v220 : BitVec 32) (v221 : Elt F .i32) (v232 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part166 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232 >>= fun t : (Σ' (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1), BitVec 1) => ch167 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 (t.1) (t.2.1) (t.2.2.1) (t.2.2.2.1) (t.2.2.2.2.1) (t.2.2.2.2.2.1) (t.2.2.2.2.2.2.1) (t.2.2.2.2.2.2.2)

/-- The windows from 165 on. -/
def ch165 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v193 : BitVec 32) (v194 : BitVec 32) (v195 : Elt F .i32) (k0_hw15 : k0_chk15 v0 v13 v26 v39 v52 v65 v78 v91 v104 v117 v130 v143 v156 v169 v182 v195) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part165 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15 >>= fun t : (Σ' (v208 : Elt F .i32) (v220 : BitVec 32) (v221 : Elt F .i32), BitVec 32) => ch166 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 (t.1) (t.2.1) (t.2.2.1) (t.2.2.2)

/-- The windows from 164 on. -/
def ch164 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v154 : BitVec 32) (v155 : BitVec 32) (v156 : Elt F .i32) (k0_hw12 : k0_chk12 v0 v13 v26 v39 v52 v65 v78 v91 v104 v117 v130 v143 v156) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part164 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12 >>= fun t : (Σ' (v169 : Elt F .i32) (v182 : Elt F .i32) (v193 : BitVec 32) (v194 : BitVec 32) (v195 : Elt F .i32), k0_chk15 v0 v13 v26 v39 v52 v65 v78 v91 v104 v117 v130 v143 v156 v169 v182 v195) => ch165 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 (t.1) (t.2.1) (t.2.2.1) (t.2.2.2.1) (t.2.2.2.2.1) (t.2.2.2.2.2)

/-- The windows from 163 on. -/
def ch163 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v128 : BitVec 32) (v129 : BitVec 32) (v130 : Elt F .i32) (k0_hw10 : k0_chk10 v0 v13 v26 v39 v52 v65 v78 v91 v104 v117 v130) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part163 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10 >>= fun t : (Σ' (v143 : Elt F .i32) (v154 : BitVec 32) (v155 : BitVec 32) (v156 : Elt F .i32), k0_chk12 v0 v13 v26 v39 v52 v65 v78 v91 v104 v117 v130 v143 v156) => ch164 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 (t.1) (t.2.1) (t.2.2.1) (t.2.2.2.1) (t.2.2.2.2)

/-- The windows from 162 on. -/
def ch162 (k0_mxu1 : Mxu F) (v0 : Elt F .i32) (v13 : Elt F .i32) (v26 : Elt F .i32) (v39 : Elt F .i32) (v52 : Elt F .i32) (v65 : Elt F .i32) (v78 : Elt F .i32) (v89 : BitVec 32) (v90 : BitVec 32) (v91 : Elt F .i32) (k0_hw7 : k0_chk7 v0 v13 v26 v39 v52 v65 v78 v91) (v95 : BitVec 1) (c4_i32_49 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part162 arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49 >>= fun t : (Σ' (v104 : Elt F .i32) (v117 : Elt F .i32) (v128 : BitVec 32) (v129 : BitVec 32) (v130 : Elt F .i32), k0_chk10 v0 v13 v26 v39 v52 v65 v78 v91 v104 v117 v130) => ch163 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 (t.1) (t.2.1) (t.2.2.1) (t.2.2.2.1) (t.2.2.2.2.1) (t.2.2.2.2.2)

/-- The windows from 161 on. -/
def ch161 (k0_mxu1 : Mxu F) (v0 : Elt F .i32) (v13 : Elt F .i32) (v26 : Elt F .i32) (v39 : Elt F .i32) (v50 : BitVec 32) (v51 : BitVec 32) (v52 : Elt F .i32) (v62 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part161 arg0 harg0 arg1 harg1 arg2 harg2 arg3 harg3 arg4 harg4 arg5 harg5 arg6 harg6 arg7 harg7 arg8 harg8 arg9 harg9 arg10 harg10 arg11 arg12 arg13 v0 v13 v26 v39 v50 v51 v52 v62 >>= fun t : (Σ' (v65 : Elt F .i32) (v78 : Elt F .i32) (v89 : BitVec 32) (v90 : BitVec 32) (v91 : Elt F .i32) (k0_hw7 : k0_chk7 v0 v13 v26 v39 v52 v65 v78 v91) (v95 : BitVec 1), BitVec 32) => ch162 arg0 harg0 arg1 harg1 arg2 harg2 arg3 harg3 arg4 harg4 arg5 harg5 arg6 harg6 arg7 harg7 arg8 harg8 arg9 harg9 arg10 harg10 arg11 arg12 arg13 k0_mxu1 v0 v13 v26 v39 v52 (t.1) (t.2.1) (t.2.2.1) (t.2.2.2.1) (t.2.2.2.2.1) (t.2.2.2.2.2.1) (t.2.2.2.2.2.2.1) (t.2.2.2.2.2.2.2)

/-- The windows from 160 on. -/
def ch160 (k0_mxu1 : Mxu F) (v0 : Elt F .i32) (v13 : Elt F .i32) (v24 : BitVec 32) (v25 : BitVec 32) (v26 : Elt F .i32) (k0_hw2 : k0_chk2 v0 v13 v26) (v28 : BitVec 32) (c0_i32_17 : BitVec 32) : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part160 arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17 >>= fun t : (Σ' (v39 : Elt F .i32) (v50 : BitVec 32) (v51 : BitVec 32) (v52 : Elt F .i32), BitVec 32) => ch161 arg0 harg0 arg1 harg1 arg2 harg2 arg3 harg3 arg4 harg4 arg5 harg5 arg6 harg6 arg7 harg7 arg8 harg8 arg9 harg9 arg10 harg10 arg11 arg12 arg13 k0_mxu1 v0 v13 v26 (t.1) (t.2.1) (t.2.2.1) (t.2.2.2.1) (t.2.2.2.2)

/-- The windows from 159 on. -/
def ch159 : Prog (TpuEff nD τ sig (Elt F) Λ₀ .tc) ((Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) :=
  k0_part159 arg0 harg0 arg1 harg1 arg2 harg2 arg3 harg3 arg4 harg4 arg5 harg5 arg6 harg6 arg7 harg7 arg8 harg8 arg9 harg9 arg10 harg10 arg11 arg12 arg13 >>= fun t : (Σ' (k0_mxu1 : Mxu F) (v0 : Elt F .i32) (v13 : Elt F .i32) (v24 : BitVec 32) (v25 : BitVec 32) (v26 : Elt F .i32) (k0_hw2 : k0_chk2 v0 v13 v26) (v28 : BitVec 32), BitVec 32) => ch160 arg0 harg0 arg1 harg1 arg2 harg2 arg3 harg3 arg4 harg4 arg5 harg5 arg6 harg6 arg7 harg7 arg8 harg8 arg9 harg9 arg10 harg10 arg11 arg12 arg13 (t.1) (t.2.1) (t.2.2.1) (t.2.2.2.1) (t.2.2.2.2.1) (t.2.2.2.2.2.1) (t.2.2.2.2.2.2.1) (t.2.2.2.2.2.2.2.1) (t.2.2.2.2.2.2.2.2)

/-- What follows. -/
def kk (t : (Σ' (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v2508 : Vec F S64x128 .bf16) (v2516 : FVec F S64x128 .f32) (v2531 : IVec S64x128 32) (v2533 : IVec S64x128 32), BitVec 32)) : Prog (TpuEff nD τ sig (Elt F) Λ₀ .tc) PUnit :=
  match t with
  | ⟨k0_mxu1, v0, v13, v26, v39, v52, v65, v78, v91, v104, v117, v130, v143, v156, v169, v182, v195, v208, v221, v234, v247, v260, v273, v286, v299, v312, v325, v338, v351, v364, v377, v390, v403, k0_hw31, v414, v2508, v2516, v2531, v2533, c23_i32_877⟩ => do
    let ⟨v5168, v5176, v5205, v5206⟩ : Σ' (v5168 : Vec F S64x128 .bf16) (v5176 : FVec F S64x128 .f32) (v5205 : IVec S64x128 32), IVec S64x128 32 ← k0_part292 arg0 harg0 arg1 harg1 arg2 harg2 arg3 harg3 arg4 harg4 arg5 harg5 arg6 harg6 arg7 harg7 arg8 harg8 arg9 harg9 arg10 harg10 arg11 arg12 arg13 v2508 v2516 v2531 v2533 c23_i32_877
    let ⟨k0_mxu353, v5762_r0⟩ : Σ' (k0_mxu353 : Mxu F), FVec F S64x256 .bf16 ← k0_part293 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 v403 k0_hw31 v414 v5168 v5176 v5205 v5206
    Prog.lift (.store arg4 (Rect.unit (s := S64x768) ![0, 512] S64x256.size inb_S64x768_S64x256_0_512) v5762_r0 Finset.univ (View.stores_vmem h_S64x256 (harg4.storeExact_slice rfl _ packedbf16_S64x768_S64x256_0_512) (fun _ => rfl)) (.inl rfl))
    k0_mxu353.exit
    pure ⟨⟩

set_option maxHeartbeats 4000000 in
theorem cc0_ch : cc0_grouped_matmul (F := F) arg0 harg0 arg1 harg1 arg2 harg2 arg3 harg3 arg4 harg4 arg5 harg5 arg6 harg6 arg7 harg7 arg8 harg8 arg9 harg9 arg10 harg10 arg11 arg12 arg13 = (ch159 (F := F) arg0 harg0 arg1 harg1 arg2 harg2 arg3 harg3 arg4 harg4 arg5 harg5 arg6 harg6 arg7 harg7 arg8 harg8 arg9 harg9 arg10 harg10 arg11 arg12 arg13 >>= kk arg0 harg0 arg1 harg1 arg2 harg2 arg3 harg3 arg4 harg4 arg5 harg5 arg6 harg6 arg7 harg7 arg8 harg8 arg9 harg9 arg10 harg10 arg11 arg12 arg13) := by
  sl_kernel_rfl

end Prog
end Cert.KernelIdeal.Str
-- ==== Proof.Body.lean ====
module

public import proofs.«01_k».proof.Proof.Chain

@[expose] public section

/-! The printed body is the structured one. -/

noncomputable section

namespace Cert.KernelIdeal.Str

open Idealize.ShloMosaic Idealize.SL.Sem
open Cert.KernelIdeal Facts₀ Facts

variable {F : FTy → Type} [FloatOps F] [Facts]

section Prog
variable (arg0 : Memref sig .tc .smem S32 .i32) (harg0 : arg0.IsWhole) (arg1 : Memref sig .tc .hbm S64x7168 .bf16) (harg1 : arg1.IsWhole) (arg2 : Memref sig .tc .hbm S32x3584x768 .i8) (harg2 : arg2.IsWhole) (arg3 : Memref sig .tc .hbm S32x56x768 .f32) (harg3 : arg3.IsWhole) (arg4 : Memref sig .tc .vmem S64x768 .bf16) (harg4 : arg4.IsWhole) (arg5 : Memref sig .tc .vmem S64x7168 .bf16) (harg5 : arg5.IsWhole) (arg6 : Memref sig .tc .vmem S64x7168 .bf16) (harg6 : arg6.IsWhole) (arg7 : Memref sig .tc .vmem S4x3584x768 .i8) (harg7 : arg7.IsWhole) (arg8 : Memref sig .tc .vmem S4x56x768 .f32) (harg8 : arg8.IsWhole) (arg9 : Memref sig .tc .smem S33 .i32) (harg9 : arg9.IsWhole) (arg10 : Memref sig .tc .smem S33 .i32) (harg10 : arg10.IsWhole) (arg11 : DmaSems sig S_) (arg12 : DmaSems sig S4) (arg13 : DmaSems sig S4)
def x172 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32) (v441 : IVec S64x128 32) : Prog (TpuEff nD τ sig (Elt F) Λ₀ .tc) PUnit := ch172 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 v403 k0_hw31 v414 v418 v426 v441 >>= kk arg0 harg0 arg1 harg1 arg2 harg2 arg3 harg3 arg4 harg4 arg5 harg5 arg6 harg6 arg7 harg7 arg8 harg8 arg9 harg9 arg10 harg10 arg11 arg12 arg13

def x171 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v401 : BitVec 32) (v402 : BitVec 32) : Prog (TpuEff nD τ sig (Elt F) Λ₀ .tc) PUnit :=
  ldL arg0 [v0, v13, v26, v39, v52, v65, v78, v91, v104, v117, v130, v143, v156, v169, v182, v195, v208, v221, v234, v247, v260, v273, v286, v299, v312, v325, v338, v351, v364, v377, v390] fun v403 k0_hw31 =>
    ifA arg9 arg10 (cntW (lst ([v0, v13, v26, v39, v52, v65, v78, v91, v104, v117, v130, v143, v156, v169, v182, v195, v208, v221, v234, v247, v260, v273, v286, v299, v312, v325, v338, v351, v364, v377, v390] ++ [v403])) 31) v402 (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31
      (ifB arg2 harg2 arg3 arg7 harg7 arg8 arg12 arg13 (cntW (lst ([v0, v13, v26, v39, v52, v65, v78, v91, v104, v117, v130, v143, v156, v169, v182, v195, v208, v221, v234, v247, v260, v273, v286, v299, v312, v325, v338, v351, v364, v377, v390] ++ [v403])) 31) (lst ([v0, v13, v26, v39, v52, v65, v78, v91, v104, v117, v130, v143, v156, v169, v182, v195, v208, v221, v234, v247, v260, v273, v286, v299, v312, v325, v338, v351, v364, v377, v390] ++ [v403]) 31) (chkL_gchk _ k0_hw31) 31 (by decide)
        (tail171 arg1 harg1 arg5 harg5 arg10 arg11 v0 v13 v26 v39 v52 v65 v78 v91 v104 v117 v130 v143 v156 v169 v182 v195 v208 v221 v234 v247 v260 v273 v286 v299 v312 v325 v338 v351 v364 v377 v390 v401 v402 v403 k0_hw31 >>= fun t => x172 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 (t.1) (t.2.1) (t.2.2.1) (t.2.2.2.1) (t.2.2.2.2.1) (t.2.2.2.2.2)))

set_option maxHeartbeats 4000000 in
theorem q171 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v364 : Elt F .i32) (v377 : Elt F .i32) (v390 : Elt F .i32) (v401 : BitVec 32) (v402 : BitVec 32) : (ch171 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 v401 v402 >>= kk arg0 harg0 arg1 harg1 arg2 harg2 arg3 harg3 arg4 harg4 arg5 harg5 arg6 harg6 arg7 harg7 arg8 harg8 arg9 harg9 arg10 harg10 arg11 arg12 arg13) = x171 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 v401 v402 :=
  (Prog.bind_assoc (k0_part171 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402) (fun t : (Σ' (v403 : Elt F .i32) (k0_hw31 : k0_chk31 v0 v13 v26 v39 v52 v65 v78 v91 v104 v117 v130 v143 v156 v169 v182 v195 v208 v221 v234 v247 v260 v273 v286 v299 v312 v325 v338 v351 v364 v377 v390 v403) (v414 : BitVec 32) (v418 : Vec F S64x128 .bf16) (v426 : FVec F S64x128 .f32), IVec S64x128 32) => ch172 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 (t.1) (t.2.1) (t.2.2.1) (t.2.2.2.1) (t.2.2.2.2.1) (t.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part171 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402 >>= K) (funext fun t => rfl)).trans
      ((p171_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v364 v377 v390 v401 v402 (fun t => x172 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 v377 v390 (t.1) (t.2.1) (t.2.2.1) (t.2.2.2.1) (t.2.2.2.2.1) (t.2.2.2.2.2))).trans (by sl_kernel_rfl)))

def x170 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v362 : BitVec 32) (v363 : BitVec 32) (v364 : Elt F .i32) (k0_hw28 : k0_chk28 v0 v13 v26 v39 v52 v65 v78 v91 v104 v117 v130 v143 v156 v169 v182 v195 v208 v221 v234 v247 v260 v273 v286 v299 v312 v325 v338 v351 v364) : Prog (TpuEff nD τ sig (Elt F) Λ₀ .tc) PUnit := do
  let c0_i32_174 : BitVec 32 := 0#32
  let v368 : BitVec 1 := Scalar.cmpi .sgt v364 c0_i32_174
  let c4_i32_175 : BitVec 32 := 4#32
  let v369 : BitVec 1 := Scalar.cmpi .slt v362 c4_i32_175
  let v370 : BitVec 1 := Scalar.andi v368 v369
  let v371 : BitVec 32 := Scalar.extui v370
  let c0_i32_176 : BitVec 32 := 0#32
  let v372 : BitVec 1 := Scalar.cmpi .ne v371 c0_i32_176
  ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351]) 28) v364 (cast (by sl_kernel_rfl) k0_hw28) 28 (by decide) do
    let c0_i32_177 : BitVec 32 := 0#32
    let v373 : BitVec 1 := Scalar.cmpi .sgt v364 c0_i32_177
    let v374 : BitVec 32 := Scalar.extui v373
    let v375 : BitVec 32 := Scalar.addi v362 v374
    let v376 : BitVec 32 := Scalar.addi v363 v364
    let c29 : Index := 29#32
    ld arg0 29 (by decide) (cntW (lst [v0, v13, v26, v39, v52, v65, v78, v91, v104, v117, v130, v143, v156, v169, v182, v195, v208, v221, v234, v247, v260, v273, v286, v299, v312, v325, v338, v351, v364]) 29) fun v377 hg => do
      have k0_hw29 : k0_chk29 v0 v13 v26 v39 v52 v65 v78 v91 v104 v117 v130 v143 v156 v169 v182 v195 v208 v221 v234 v247 v260 v273 v286 v299 v312 v325 v338 v351 v364 v377 := cast (by sl_kernel_rfl) hg
      let c0_i32_178 : BitVec 32 := 0#32
      let v378 : BitVec 1 := Scalar.cmpi .sgt v377 c0_i32_178
      let v379 : BitVec 32 := Scalar.extui v378
      let c0_i32_179 : BitVec 32 := 0#32
      let v380 : BitVec 1 := Scalar.cmpi .ne v379 c0_i32_179
      ifA arg9 arg10 (cntW (lst [v0, v13, v26, v39, v52, v65, v78, v91, v104, v117, v130, v143, v156, v169, v182, v195, v208, v221, v234, v247, v260, v273, v286, v299, v312, v325, v338, v351, v364]) 29) v376 v377 (cast (by sl_kernel_rfl) k0_hw29) 29 do
        let c0_i32_180 : BitVec 32 := 0#32
        let v381 : BitVec 1 := Scalar.cmpi .sgt v377 c0_i32_180
        let c4_i32_181 : BitVec 32 := 4#32
        let v382 : BitVec 1 := Scalar.cmpi .slt v375 c4_i32_181
        let v383 : BitVec 1 := Scalar.andi v381 v382
        let v384 : BitVec 32 := Scalar.extui v383
        let c0_i32_182 : BitVec 32 := 0#32
        let v385 : BitVec 1 := Scalar.cmpi .ne v384 c0_i32_182
        ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364]) 29) v377 (cast (by sl_kernel_rfl) k0_hw29) 29 (by decide) do
          let c0_i32_183 : BitVec 32 := 0#32
          let v386 : BitVec 1 := Scalar.cmpi .sgt v377 c0_i32_183
          let v387 : BitVec 32 := Scalar.extui v386
          let v388 : BitVec 32 := Scalar.addi v375 v387
          let v389 : BitVec 32 := Scalar.addi v376 v377
          let c30 : Index := 30#32
          ld arg0 30 (by decide) (cntW (lst [v0, v13, v26, v39, v52, v65, v78, v91, v104, v117, v130, v143, v156, v169, v182, v195, v208, v221, v234, v247, v260, v273, v286, v299, v312, v325, v338, v351, v364, v377]) 30) fun v390 hg => do
            have k0_hw30 : k0_chk30 v0 v13 v26 v39 v52 v65 v78 v91 v104 v117 v130 v143 v156 v169 v182 v195 v208 v221 v234 v247 v260 v273 v286 v299 v312 v325 v338 v351 v364 v377 v390 := cast (by sl_kernel_rfl) hg
            let c0_i32_184 : BitVec 32 := 0#32
            let v391 : BitVec 1 := Scalar.cmpi .sgt v390 c0_i32_184
            let v392 : BitVec 32 := Scalar.extui v391
            let c0_i32_185 : BitVec 32 := 0#32
            let v393 : BitVec 1 := Scalar.cmpi .ne v392 c0_i32_185
            ifA arg9 arg10 (cntW (lst [v0, v13, v26, v39, v52, v65, v78, v91, v104, v117, v130, v143, v156, v169, v182, v195, v208, v221, v234, v247, v260, v273, v286, v299, v312, v325, v338, v351, v364, v377]) 30) v389 v390 (cast (by sl_kernel_rfl) k0_hw30) 30 do
              let c0_i32_186 : BitVec 32 := 0#32
              let v394 : BitVec 1 := Scalar.cmpi .sgt v390 c0_i32_186
              let c4_i32_187 : BitVec 32 := 4#32
              let v395 : BitVec 1 := Scalar.cmpi .slt v388 c4_i32_187
              let v396 : BitVec 1 := Scalar.andi v394 v395
              let v397 : BitVec 32 := Scalar.extui v396
              let c0_i32_188 : BitVec 32 := 0#32
              let v398 : BitVec 1 := Scalar.cmpi .ne v397 c0_i32_188
              ifB arg2 harg2 arg3 arg7 harg7 arg8 arg12 arg13 (cntW (lst [v0, v13, v26, v39, v52, v65, v78, v91, v104, v117, v130, v143, v156, v169, v182, v195, v208, v221, v234, v247, v260, v273, v286, v299, v312, v325, v338, v351, v364, v377]) 30) v390 (cast (by sl_kernel_rfl) k0_hw30) 30 (by decide) do
                let c0_i32_189 : BitVec 32 := 0#32
                let v399 : BitVec 1 := Scalar.cmpi .sgt v390 c0_i32_189
                let v400 : BitVec 32 := Scalar.extui v399
                let v401 : BitVec 32 := Scalar.addi v388 v400
                let v402 : BitVec 32 := Scalar.addi v389 v390
                x171 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 (v377) (v390) (v401) (v402)

set_option maxHeartbeats 4000000 in
theorem q170 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v325 : Elt F .i32) (v338 : Elt F .i32) (v351 : Elt F .i32) (v362 : BitVec 32) (v363 : BitVec 32) (v364 : Elt F .i32) (k0_hw28 : k0_chk28 v0 v13 v26 v39 v52 v65 v78 v91 v104 v117 v130 v143 v156 v169 v182 v195 v208 v221 v234 v247 v260 v273 v286 v299 v312 v325 v338 v351 v364) : (ch170 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v362 v363 v364 k0_hw28 >>= kk arg0 harg0 arg1 harg1 arg2 harg2 arg3 harg3 arg4 harg4 arg5 harg5 arg6 harg6 arg7 harg7 arg8 harg8 arg9 harg9 arg10 harg10 arg11 arg12 arg13) = x170 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v362 v363 v364 k0_hw28 :=
  (Prog.bind_assoc (k0_part170 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28) (fun t : (Σ' (v377 : Elt F .i32) (v390 : Elt F .i32) (v401 : BitVec 32), BitVec 32) => ch171 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 (t.1) (t.2.1) (t.2.2.1) (t.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part170 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28 >>= K) (funext fun t => q171 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 (t.1) (t.2.1) (t.2.2.1) (t.2.2.2))).trans
      ((p170_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v325 v338 v351 v362 v363 v364 k0_hw28 (fun t => x171 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 v338 v351 v364 (t.1) (t.2.1) (t.2.2.1) (t.2.2.2))).trans (by sl_kernel_rfl)))

def x169 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v323 : BitVec 32) (v324 : BitVec 32) (v325 : Elt F .i32) : Prog (TpuEff nD τ sig (Elt F) Λ₀ .tc) PUnit := do
  let c0_i32_159 : BitVec 32 := 0#32
  let v334 : BitVec 1 := Scalar.cmpi .sgt v325 c0_i32_159
  let v335 : BitVec 32 := Scalar.extui v334
  let v336 : BitVec 32 := Scalar.addi v323 v335
  let v337 : BitVec 32 := Scalar.addi v324 v325
  let c26 : Index := 26#32
  ld arg0 26 (by decide) (cntW (lst [v0, v13, v26, v39, v52, v65, v78, v91, v104, v117, v130, v143, v156, v169, v182, v195, v208, v221, v234, v247, v260, v273, v286, v299, v312, v325]) 26) fun v338 hg => do
    have k0_hw26 : k0_chk26 v0 v13 v26 v39 v52 v65 v78 v91 v104 v117 v130 v143 v156 v169 v182 v195 v208 v221 v234 v247 v260 v273 v286 v299 v312 v325 v338 := cast (by sl_kernel_rfl) hg
    let c0_i32_160 : BitVec 32 := 0#32
    let v339 : BitVec 1 := Scalar.cmpi .sgt v338 c0_i32_160
    let v340 : BitVec 32 := Scalar.extui v339
    let c0_i32_161 : BitVec 32 := 0#32
    let v341 : BitVec 1 := Scalar.cmpi .ne v340 c0_i32_161
    ifA arg9 arg10 (cntW (lst [v0, v13, v26, v39, v52, v65, v78, v91, v104, v117, v130, v143, v156, v169, v182, v195, v208, v221, v234, v247, v260, v273, v286, v299, v312, v325]) 26) v337 v338 (cast (by sl_kernel_rfl) k0_hw26) 26 do
      let c0_i32_162 : BitVec 32 := 0#32
      let v342 : BitVec 1 := Scalar.cmpi .sgt v338 c0_i32_162
      let c4_i32_163 : BitVec 32 := 4#32
      let v343 : BitVec 1 := Scalar.cmpi .slt v336 c4_i32_163
      let v344 : BitVec 1 := Scalar.andi v342 v343
      let v345 : BitVec 32 := Scalar.extui v344
      let c0_i32_164 : BitVec 32 := 0#32
      let v346 : BitVec 1 := Scalar.cmpi .ne v345 c0_i32_164
      ifB arg2 harg2 arg3 arg7 harg7 arg8 arg12 arg13 (cntW (lst [v0, v13, v26, v39, v52, v65, v78, v91, v104, v117, v130, v143, v156, v169, v182, v195, v208, v221, v234, v247, v260, v273, v286, v299, v312, v325]) 26) v338 (cast (by sl_kernel_rfl) k0_hw26) 26 (by decide) do
        let c0_i32_165 : BitVec 32 := 0#32
        let v347 : BitVec 1 := Scalar.cmpi .sgt v338 c0_i32_165
        let v348 : BitVec 32 := Scalar.extui v347
        let v349 : BitVec 32 := Scalar.addi v336 v348
        let v350 : BitVec 32 := Scalar.addi v337 v338
        let c27 : Index := 27#32
        ld arg0 27 (by decide) (cntW (lst [v0, v13, v26, v39, v52, v65, v78, v91, v104, v117, v130, v143, v156, v169, v182, v195, v208, v221, v234, v247, v260, v273, v286, v299, v312, v325, v338]) 27) fun v351 hg => do
          have k0_hw27 : k0_chk27 v0 v13 v26 v39 v52 v65 v78 v91 v104 v117 v130 v143 v156 v169 v182 v195 v208 v221 v234 v247 v260 v273 v286 v299 v312 v325 v338 v351 := cast (by sl_kernel_rfl) hg
          let c0_i32_166 : BitVec 32 := 0#32
          let v352 : BitVec 1 := Scalar.cmpi .sgt v351 c0_i32_166
          let v353 : BitVec 32 := Scalar.extui v352
          let c0_i32_167 : BitVec 32 := 0#32
          let v354 : BitVec 1 := Scalar.cmpi .ne v353 c0_i32_167
          ifA arg9 arg10 (cntW (lst [v0, v13, v26, v39, v52, v65, v78, v91, v104, v117, v130, v143, v156, v169, v182, v195, v208, v221, v234, v247, v260, v273, v286, v299, v312, v325, v338]) 27) v350 v351 (cast (by sl_kernel_rfl) k0_hw27) 27 do
            let c0_i32_168 : BitVec 32 := 0#32
            let v355 : BitVec 1 := Scalar.cmpi .sgt v351 c0_i32_168
            let c4_i32_169 : BitVec 32 := 4#32
            let v356 : BitVec 1 := Scalar.cmpi .slt v349 c4_i32_169
            let v357 : BitVec 1 := Scalar.andi v355 v356
            let v358 : BitVec 32 := Scalar.extui v357
            let c0_i32_170 : BitVec 32 := 0#32
            let v359 : BitVec 1 := Scalar.cmpi .ne v358 c0_i32_170
            ifB arg2 harg2 arg3 arg7 harg7 arg8 arg12 arg13 (cntW (lst [v0, v13, v26, v39, v52, v65, v78, v91, v104, v117, v130, v143, v156, v169, v182, v195, v208, v221, v234, v247, v260, v273, v286, v299, v312, v325, v338]) 27) v351 (cast (by sl_kernel_rfl) k0_hw27) 27 (by decide) do
              let c0_i32_171 : BitVec 32 := 0#32
              let v360 : BitVec 1 := Scalar.cmpi .sgt v351 c0_i32_171
              let v361 : BitVec 32 := Scalar.extui v360
              let v362 : BitVec 32 := Scalar.addi v349 v361
              let v363 : BitVec 32 := Scalar.addi v350 v351
              let c28 : Index := 28#32
              ld arg0 28 (by decide) (cntW (lst [v0, v13, v26, v39, v52, v65, v78, v91, v104, v117, v130, v143, v156, v169, v182, v195, v208, v221, v234, v247, v260, v273, v286, v299, v312, v325, v338, v351]) 28) fun v364 hg => do
                have k0_hw28 : k0_chk28 v0 v13 v26 v39 v52 v65 v78 v91 v104 v117 v130 v143 v156 v169 v182 v195 v208 v221 v234 v247 v260 v273 v286 v299 v312 v325 v338 v351 v364 := cast (by sl_kernel_rfl) hg
                let c0_i32_172 : BitVec 32 := 0#32
                let v365 : BitVec 1 := Scalar.cmpi .sgt v364 c0_i32_172
                let v366 : BitVec 32 := Scalar.extui v365
                let c0_i32_173 : BitVec 32 := 0#32
                let v367 : BitVec 1 := Scalar.cmpi .ne v366 c0_i32_173
                ifA arg9 arg10 (cntW (lst [v0, v13, v26, v39, v52, v65, v78, v91, v104, v117, v130, v143, v156, v169, v182, v195, v208, v221, v234, v247, v260, v273, v286, v299, v312, v325, v338, v351]) 28) v363 v364 (cast (by sl_kernel_rfl) k0_hw28) 28 do
                  x170 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 (v338) (v351) (v362) (v363) (v364) (k0_hw28)

set_option maxHeartbeats 4000000 in
theorem q169 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v299 : Elt F .i32) (v312 : Elt F .i32) (v323 : BitVec 32) (v324 : BitVec 32) (v325 : Elt F .i32) : (ch169 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v323 v324 v325 >>= kk arg0 harg0 arg1 harg1 arg2 harg2 arg3 harg3 arg4 harg4 arg5 harg5 arg6 harg6 arg7 harg7 arg8 harg8 arg9 harg9 arg10 harg10 arg11 arg12 arg13) = x169 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v323 v324 v325 :=
  (Prog.bind_assoc (k0_part169 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325) (fun t : (Σ' (v338 : Elt F .i32) (v351 : Elt F .i32) (v362 : BitVec 32) (v363 : BitVec 32) (v364 : Elt F .i32), k0_chk28 v0 v13 v26 v39 v52 v65 v78 v91 v104 v117 v130 v143 v156 v169 v182 v195 v208 v221 v234 v247 v260 v273 v286 v299 v312 v325 v338 v351 v364) => ch170 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 (t.1) (t.2.1) (t.2.2.1) (t.2.2.2.1) (t.2.2.2.2.1) (t.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part169 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325 >>= K) (funext fun t => q170 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 (t.1) (t.2.1) (t.2.2.1) (t.2.2.2.1) (t.2.2.2.2.1) (t.2.2.2.2.2))).trans
      ((p169_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v299 v312 v323 v324 v325 (fun t => x170 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 v312 v325 (t.1) (t.2.1) (t.2.2.1) (t.2.2.2.1) (t.2.2.2.2.1) (t.2.2.2.2.2))).trans (by sl_kernel_rfl)))

def x168 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299) (c0_i32_142 : BitVec 32) : Prog (TpuEff nD τ sig (Elt F) Λ₀ .tc) PUnit := do
  let v300 : BitVec 1 := Scalar.cmpi .sgt v299 c0_i32_142
  let v301 : BitVec 32 := Scalar.extui v300
  let c0_i32_143 : BitVec 32 := 0#32
  let v302 : BitVec 1 := Scalar.cmpi .ne v301 c0_i32_143
  ifA arg9 arg10 (cntW (lst [v0, v13, v26, v39, v52, v65, v78, v91, v104, v117, v130, v143, v156, v169, v182, v195, v208, v221, v234, v247, v260, v273, v286]) 23) v298 v299 (cast (by sl_kernel_rfl) k0_hw23) 23 do
    let c0_i32_144 : BitVec 32 := 0#32
    let v303 : BitVec 1 := Scalar.cmpi .sgt v299 c0_i32_144
    let c4_i32_145 : BitVec 32 := 4#32
    let v304 : BitVec 1 := Scalar.cmpi .slt v297 c4_i32_145
    let v305 : BitVec 1 := Scalar.andi v303 v304
    let v306 : BitVec 32 := Scalar.extui v305
    let c0_i32_146 : BitVec 32 := 0#32
    let v307 : BitVec 1 := Scalar.cmpi .ne v306 c0_i32_146
    ifB arg2 harg2 arg3 arg7 harg7 arg8 arg12 arg13 (cntW (lst [v0, v13, v26, v39, v52, v65, v78, v91, v104, v117, v130, v143, v156, v169, v182, v195, v208, v221, v234, v247, v260, v273, v286]) 23) v299 (cast (by sl_kernel_rfl) k0_hw23) 23 (by decide) do
      let c0_i32_147 : BitVec 32 := 0#32
      let v308 : BitVec 1 := Scalar.cmpi .sgt v299 c0_i32_147
      let v309 : BitVec 32 := Scalar.extui v308
      let v310 : BitVec 32 := Scalar.addi v297 v309
      let v311 : BitVec 32 := Scalar.addi v298 v299
      let c24 : Index := 24#32
      ld arg0 24 (by decide) (cntW (lst [v0, v13, v26, v39, v52, v65, v78, v91, v104, v117, v130, v143, v156, v169, v182, v195, v208, v221, v234, v247, v260, v273, v286, v299]) 24) fun v312 hg => do
        have k0_hw24 : k0_chk24 v0 v13 v26 v39 v52 v65 v78 v91 v104 v117 v130 v143 v156 v169 v182 v195 v208 v221 v234 v247 v260 v273 v286 v299 v312 := cast (by sl_kernel_rfl) hg
        let c0_i32_148 : BitVec 32 := 0#32
        let v313 : BitVec 1 := Scalar.cmpi .sgt v312 c0_i32_148
        let v314 : BitVec 32 := Scalar.extui v313
        let c0_i32_149 : BitVec 32 := 0#32
        let v315 : BitVec 1 := Scalar.cmpi .ne v314 c0_i32_149
        ifA arg9 arg10 (cntW (lst [v0, v13, v26, v39, v52, v65, v78, v91, v104, v117, v130, v143, v156, v169, v182, v195, v208, v221, v234, v247, v260, v273, v286, v299]) 24) v311 v312 (cast (by sl_kernel_rfl) k0_hw24) 24 do
          let c0_i32_150 : BitVec 32 := 0#32
          let v316 : BitVec 1 := Scalar.cmpi .sgt v312 c0_i32_150
          let c4_i32_151 : BitVec 32 := 4#32
          let v317 : BitVec 1 := Scalar.cmpi .slt v310 c4_i32_151
          let v318 : BitVec 1 := Scalar.andi v316 v317
          let v319 : BitVec 32 := Scalar.extui v318
          let c0_i32_152 : BitVec 32 := 0#32
          let v320 : BitVec 1 := Scalar.cmpi .ne v319 c0_i32_152
          ifB arg2 harg2 arg3 arg7 harg7 arg8 arg12 arg13 (cntW (lst [v0, v13, v26, v39, v52, v65, v78, v91, v104, v117, v130, v143, v156, v169, v182, v195, v208, v221, v234, v247, v260, v273, v286, v299]) 24) v312 (cast (by sl_kernel_rfl) k0_hw24) 24 (by decide) do
            let c0_i32_153 : BitVec 32 := 0#32
            let v321 : BitVec 1 := Scalar.cmpi .sgt v312 c0_i32_153
            let v322 : BitVec 32 := Scalar.extui v321
            let v323 : BitVec 32 := Scalar.addi v310 v322
            let v324 : BitVec 32 := Scalar.addi v311 v312
            let c25 : Index := 25#32
            ld arg0 25 (by decide) (cntW (lst [v0, v13, v26, v39, v52, v65, v78, v91, v104, v117, v130, v143, v156, v169, v182, v195, v208, v221, v234, v247, v260, v273, v286, v299, v312]) 25) fun v325 hg => do
              have k0_hw25 : k0_chk25 v0 v13 v26 v39 v52 v65 v78 v91 v104 v117 v130 v143 v156 v169 v182 v195 v208 v221 v234 v247 v260 v273 v286 v299 v312 v325 := cast (by sl_kernel_rfl) hg
              let c0_i32_154 : BitVec 32 := 0#32
              let v326 : BitVec 1 := Scalar.cmpi .sgt v325 c0_i32_154
              let v327 : BitVec 32 := Scalar.extui v326
              let c0_i32_155 : BitVec 32 := 0#32
              let v328 : BitVec 1 := Scalar.cmpi .ne v327 c0_i32_155
              ifA arg9 arg10 (cntW (lst [v0, v13, v26, v39, v52, v65, v78, v91, v104, v117, v130, v143, v156, v169, v182, v195, v208, v221, v234, v247, v260, v273, v286, v299, v312]) 25) v324 v325 (cast (by sl_kernel_rfl) k0_hw25) 25 do
                let c0_i32_156 : BitVec 32 := 0#32
                let v329 : BitVec 1 := Scalar.cmpi .sgt v325 c0_i32_156
                let c4_i32_157 : BitVec 32 := 4#32
                let v330 : BitVec 1 := Scalar.cmpi .slt v323 c4_i32_157
                let v331 : BitVec 1 := Scalar.andi v329 v330
                let v332 : BitVec 32 := Scalar.extui v331
                let c0_i32_158 : BitVec 32 := 0#32
                let v333 : BitVec 1 := Scalar.cmpi .ne v332 c0_i32_158
                ifB arg2 harg2 arg3 arg7 harg7 arg8 arg12 arg13 (cntW (lst [v0, v13, v26, v39, v52, v65, v78, v91, v104, v117, v130, v143, v156, v169, v182, v195, v208, v221, v234, v247, v260, v273, v286, v299, v312]) 25) v325 (cast (by sl_kernel_rfl) k0_hw25) 25 (by decide) do
                  x169 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 (v312) (v323) (v324) (v325)

set_option maxHeartbeats 4000000 in
theorem q168 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v260 : Elt F .i32) (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299) (c0_i32_142 : BitVec 32) : (ch168 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v297 v298 v299 k0_hw23 c0_i32_142 >>= kk arg0 harg0 arg1 harg1 arg2 harg2 arg3 harg3 arg4 harg4 arg5 harg5 arg6 harg6 arg7 harg7 arg8 harg8 arg9 harg9 arg10 harg10 arg11 arg12 arg13) = x168 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v297 v298 v299 k0_hw23 c0_i32_142 :=
  (Prog.bind_assoc (k0_part168 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142) (fun t : (Σ' (v312 : Elt F .i32) (v323 : BitVec 32) (v324 : BitVec 32), Elt F .i32) => ch169 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 (t.1) (t.2.1) (t.2.2.1) (t.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part168 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142 >>= K) (funext fun t => q169 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 (t.1) (t.2.1) (t.2.2.1) (t.2.2.2))).trans
      ((p168_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v260 v273 v286 v297 v298 v299 k0_hw23 c0_i32_142 (fun t => x169 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 v273 v286 v299 (t.1) (t.2.1) (t.2.2.1) (t.2.2.2))).trans (by sl_kernel_rfl)))

def x167 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1) (v265 : BitVec 1) : Prog (TpuEff nD τ sig (Elt F) Λ₀ .tc) PUnit := do
  let v266 : BitVec 1 := Scalar.andi v264 v265
  let v267 : BitVec 32 := Scalar.extui v266
  let c0_i32_128 : BitVec 32 := 0#32
  let v268 : BitVec 1 := Scalar.cmpi .ne v267 c0_i32_128
  ifB arg2 harg2 arg3 arg7 harg7 arg8 arg12 arg13 (cntW (lst [v0, v13, v26, v39, v52, v65, v78, v91, v104, v117, v130, v143, v156, v169, v182, v195, v208, v221, v234, v247]) 20) v260 (cast (by sl_kernel_rfl) k0_hw20) 20 (by decide) do
    let c0_i32_129 : BitVec 32 := 0#32
    let v269 : BitVec 1 := Scalar.cmpi .sgt v260 c0_i32_129
    let v270 : BitVec 32 := Scalar.extui v269
    let v271 : BitVec 32 := Scalar.addi v258 v270
    let v272 : BitVec 32 := Scalar.addi v259 v260
    let c21 : Index := 21#32
    ld arg0 21 (by decide) (cntW (lst [v0, v13, v26, v39, v52, v65, v78, v91, v104, v117, v130, v143, v156, v169, v182, v195, v208, v221, v234, v247, v260]) 21) fun v273 hg => do
      have k0_hw21 : k0_chk21 v0 v13 v26 v39 v52 v65 v78 v91 v104 v117 v130 v143 v156 v169 v182 v195 v208 v221 v234 v247 v260 v273 := cast (by sl_kernel_rfl) hg
      let c0_i32_130 : BitVec 32 := 0#32
      let v274 : BitVec 1 := Scalar.cmpi .sgt v273 c0_i32_130
      let v275 : BitVec 32 := Scalar.extui v274
      let c0_i32_131 : BitVec 32 := 0#32
      let v276 : BitVec 1 := Scalar.cmpi .ne v275 c0_i32_131
      ifA arg9 arg10 (cntW (lst [v0, v13, v26, v39, v52, v65, v78, v91, v104, v117, v130, v143, v156, v169, v182, v195, v208, v221, v234, v247, v260]) 21) v272 v273 (cast (by sl_kernel_rfl) k0_hw21) 21 do
        let c0_i32_132 : BitVec 32 := 0#32
        let v277 : BitVec 1 := Scalar.cmpi .sgt v273 c0_i32_132
        let c4_i32_133 : BitVec 32 := 4#32
        let v278 : BitVec 1 := Scalar.cmpi .slt v271 c4_i32_133
        let v279 : BitVec 1 := Scalar.andi v277 v278
        let v280 : BitVec 32 := Scalar.extui v279
        let c0_i32_134 : BitVec 32 := 0#32
        let v281 : BitVec 1 := Scalar.cmpi .ne v280 c0_i32_134
        ifB arg2 harg2 arg3 arg7 harg7 arg8 arg12 arg13 (cntW (lst [v0, v13, v26, v39, v52, v65, v78, v91, v104, v117, v130, v143, v156, v169, v182, v195, v208, v221, v234, v247, v260]) 21) v273 (cast (by sl_kernel_rfl) k0_hw21) 21 (by decide) do
          let c0_i32_135 : BitVec 32 := 0#32
          let v282 : BitVec 1 := Scalar.cmpi .sgt v273 c0_i32_135
          let v283 : BitVec 32 := Scalar.extui v282
          let v284 : BitVec 32 := Scalar.addi v271 v283
          let v285 : BitVec 32 := Scalar.addi v272 v273
          let c22 : Index := 22#32
          ld arg0 22 (by decide) (cntW (lst [v0, v13, v26, v39, v52, v65, v78, v91, v104, v117, v130, v143, v156, v169, v182, v195, v208, v221, v234, v247, v260, v273]) 22) fun v286 hg => do
            have k0_hw22 : k0_chk22 v0 v13 v26 v39 v52 v65 v78 v91 v104 v117 v130 v143 v156 v169 v182 v195 v208 v221 v234 v247 v260 v273 v286 := cast (by sl_kernel_rfl) hg
            let c0_i32_136 : BitVec 32 := 0#32
            let v287 : BitVec 1 := Scalar.cmpi .sgt v286 c0_i32_136
            let v288 : BitVec 32 := Scalar.extui v287
            let c0_i32_137 : BitVec 32 := 0#32
            let v289 : BitVec 1 := Scalar.cmpi .ne v288 c0_i32_137
            ifA arg9 arg10 (cntW (lst [v0, v13, v26, v39, v52, v65, v78, v91, v104, v117, v130, v143, v156, v169, v182, v195, v208, v221, v234, v247, v260, v273]) 22) v285 v286 (cast (by sl_kernel_rfl) k0_hw22) 22 do
              let c0_i32_138 : BitVec 32 := 0#32
              let v290 : BitVec 1 := Scalar.cmpi .sgt v286 c0_i32_138
              let c4_i32_139 : BitVec 32 := 4#32
              let v291 : BitVec 1 := Scalar.cmpi .slt v284 c4_i32_139
              let v292 : BitVec 1 := Scalar.andi v290 v291
              let v293 : BitVec 32 := Scalar.extui v292
              let c0_i32_140 : BitVec 32 := 0#32
              let v294 : BitVec 1 := Scalar.cmpi .ne v293 c0_i32_140
              ifB arg2 harg2 arg3 arg7 harg7 arg8 arg12 arg13 (cntW (lst [v0, v13, v26, v39, v52, v65, v78, v91, v104, v117, v130, v143, v156, v169, v182, v195, v208, v221, v234, v247, v260, v273]) 22) v286 (cast (by sl_kernel_rfl) k0_hw22) 22 (by decide) do
                let c0_i32_141 : BitVec 32 := 0#32
                let v295 : BitVec 1 := Scalar.cmpi .sgt v286 c0_i32_141
                let v296 : BitVec 32 := Scalar.extui v295
                let v297 : BitVec 32 := Scalar.addi v284 v296
                let v298 : BitVec 32 := Scalar.addi v285 v286
                let c23 : Index := 23#32
                ld arg0 23 (by decide) (cntW (lst [v0, v13, v26, v39, v52, v65, v78, v91, v104, v117, v130, v143, v156, v169, v182, v195, v208, v221, v234, v247, v260, v273, v286]) 23) fun v299 hg => do
                  have k0_hw23 : k0_chk23 v0 v13 v26 v39 v52 v65 v78 v91 v104 v117 v130 v143 v156 v169 v182 v195 v208 v221 v234 v247 v260 v273 v286 v299 := cast (by sl_kernel_rfl) hg
                  let c0_i32_142 : BitVec 32 := 0#32
                  x168 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 (v273) (v286) (v297) (v298) (v299) (k0_hw23) (c0_i32_142)

set_option maxHeartbeats 4000000 in
theorem q167 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v221 : Elt F .i32) (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1) (v265 : BitVec 1) : (ch167 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v258 v259 v260 k0_hw20 v264 v265 >>= kk arg0 harg0 arg1 harg1 arg2 harg2 arg3 harg3 arg4 harg4 arg5 harg5 arg6 harg6 arg7 harg7 arg8 harg8 arg9 harg9 arg10 harg10 arg11 arg12 arg13) = x167 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v258 v259 v260 k0_hw20 v264 v265 :=
  (Prog.bind_assoc (k0_part167 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265) (fun t : (Σ' (v273 : Elt F .i32) (v286 : Elt F .i32) (v297 : BitVec 32) (v298 : BitVec 32) (v299 : Elt F .i32) (k0_hw23 : k0_chk23 v0 v13 v26 v39 v52 v65 v78 v91 v104 v117 v130 v143 v156 v169 v182 v195 v208 v221 v234 v247 v260 v273 v286 v299), BitVec 32) => ch168 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 (t.1) (t.2.1) (t.2.2.1) (t.2.2.2.1) (t.2.2.2.2.1) (t.2.2.2.2.2.1) (t.2.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part167 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265 >>= K) (funext fun t => q168 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 (t.1) (t.2.1) (t.2.2.1) (t.2.2.2.1) (t.2.2.2.2.1) (t.2.2.2.2.2.1) (t.2.2.2.2.2.2))).trans
      ((p167_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v221 v234 v247 v258 v259 v260 k0_hw20 v264 v265 (fun t => x168 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 v234 v247 v260 (t.1) (t.2.1) (t.2.2.1) (t.2.2.2.1) (t.2.2.2.2.1) (t.2.2.2.2.2.1) (t.2.2.2.2.2.2))).trans (by sl_kernel_rfl)))

def x166 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v220 : BitVec 32) (v221 : Elt F .i32) (v232 : BitVec 32) : Prog (TpuEff nD τ sig (Elt F) Λ₀ .tc) PUnit := do
  let v233 : BitVec 32 := Scalar.addi v220 v221
  let c18 : Index := 18#32
  ld arg0 18 (by decide) (cntW (lst [v0, v13, v26, v39, v52, v65, v78, v91, v104, v117, v130, v143, v156, v169, v182, v195, v208, v221]) 18) fun v234 hg => do
    have k0_hw18 : k0_chk18 v0 v13 v26 v39 v52 v65 v78 v91 v104 v117 v130 v143 v156 v169 v182 v195 v208 v221 v234 := cast (by sl_kernel_rfl) hg
    let c0_i32_112 : BitVec 32 := 0#32
    let v235 : BitVec 1 := Scalar.cmpi .sgt v234 c0_i32_112
    let v236 : BitVec 32 := Scalar.extui v235
    let c0_i32_113 : BitVec 32 := 0#32
    let v237 : BitVec 1 := Scalar.cmpi .ne v236 c0_i32_113
    ifA arg9 arg10 (cntW (lst [v0, v13, v26, v39, v52, v65, v78, v91, v104, v117, v130, v143, v156, v169, v182, v195, v208, v221]) 18) v233 v234 (cast (by sl_kernel_rfl) k0_hw18) 18 do
      let c0_i32_114 : BitVec 32 := 0#32
      let v238 : BitVec 1 := Scalar.cmpi .sgt v234 c0_i32_114
      let c4_i32_115 : BitVec 32 := 4#32
      let v239 : BitVec 1 := Scalar.cmpi .slt v232 c4_i32_115
      let v240 : BitVec 1 := Scalar.andi v238 v239
      let v241 : BitVec 32 := Scalar.extui v240
      let c0_i32_116 : BitVec 32 := 0#32
      let v242 : BitVec 1 := Scalar.cmpi .ne v241 c0_i32_116
      ifB arg2 harg2 arg3 arg7 harg7 arg8 arg12 arg13 (cntW (lst [v0, v13, v26, v39, v52, v65, v78, v91, v104, v117, v130, v143, v156, v169, v182, v195, v208, v221]) 18) v234 (cast (by sl_kernel_rfl) k0_hw18) 18 (by decide) do
        let c0_i32_117 : BitVec 32 := 0#32
        let v243 : BitVec 1 := Scalar.cmpi .sgt v234 c0_i32_117
        let v244 : BitVec 32 := Scalar.extui v243
        let v245 : BitVec 32 := Scalar.addi v232 v244
        let v246 : BitVec 32 := Scalar.addi v233 v234
        let c19 : Index := 19#32
        ld arg0 19 (by decide) (cntW (lst [v0, v13, v26, v39, v52, v65, v78, v91, v104, v117, v130, v143, v156, v169, v182, v195, v208, v221, v234]) 19) fun v247 hg => do
          have k0_hw19 : k0_chk19 v0 v13 v26 v39 v52 v65 v78 v91 v104 v117 v130 v143 v156 v169 v182 v195 v208 v221 v234 v247 := cast (by sl_kernel_rfl) hg
          let c0_i32_118 : BitVec 32 := 0#32
          let v248 : BitVec 1 := Scalar.cmpi .sgt v247 c0_i32_118
          let v249 : BitVec 32 := Scalar.extui v248
          let c0_i32_119 : BitVec 32 := 0#32
          let v250 : BitVec 1 := Scalar.cmpi .ne v249 c0_i32_119
          ifA arg9 arg10 (cntW (lst [v0, v13, v26, v39, v52, v65, v78, v91, v104, v117, v130, v143, v156, v169, v182, v195, v208, v221, v234]) 19) v246 v247 (cast (by sl_kernel_rfl) k0_hw19) 19 do
            let c0_i32_120 : BitVec 32 := 0#32
            let v251 : BitVec 1 := Scalar.cmpi .sgt v247 c0_i32_120
            let c4_i32_121 : BitVec 32 := 4#32
            let v252 : BitVec 1 := Scalar.cmpi .slt v245 c4_i32_121
            let v253 : BitVec 1 := Scalar.andi v251 v252
            let v254 : BitVec 32 := Scalar.extui v253
            let c0_i32_122 : BitVec 32 := 0#32
            let v255 : BitVec 1 := Scalar.cmpi .ne v254 c0_i32_122
            ifB arg2 harg2 arg3 arg7 harg7 arg8 arg12 arg13 (cntW (lst [v0, v13, v26, v39, v52, v65, v78, v91, v104, v117, v130, v143, v156, v169, v182, v195, v208, v221, v234]) 19) v247 (cast (by sl_kernel_rfl) k0_hw19) 19 (by decide) do
              let c0_i32_123 : BitVec 32 := 0#32
              let v256 : BitVec 1 := Scalar.cmpi .sgt v247 c0_i32_123
              let v257 : BitVec 32 := Scalar.extui v256
              let v258 : BitVec 32 := Scalar.addi v245 v257
              let v259 : BitVec 32 := Scalar.addi v246 v247
              let c20 : Index := 20#32
              ld arg0 20 (by decide) (cntW (lst [v0, v13, v26, v39, v52, v65, v78, v91, v104, v117, v130, v143, v156, v169, v182, v195, v208, v221, v234, v247]) 20) fun v260 hg => do
                have k0_hw20 : k0_chk20 v0 v13 v26 v39 v52 v65 v78 v91 v104 v117 v130 v143 v156 v169 v182 v195 v208 v221 v234 v247 v260 := cast (by sl_kernel_rfl) hg
                let c0_i32_124 : BitVec 32 := 0#32
                let v261 : BitVec 1 := Scalar.cmpi .sgt v260 c0_i32_124
                let v262 : BitVec 32 := Scalar.extui v261
                let c0_i32_125 : BitVec 32 := 0#32
                let v263 : BitVec 1 := Scalar.cmpi .ne v262 c0_i32_125
                ifA arg9 arg10 (cntW (lst [v0, v13, v26, v39, v52, v65, v78, v91, v104, v117, v130, v143, v156, v169, v182, v195, v208, v221, v234, v247]) 20) v259 v260 (cast (by sl_kernel_rfl) k0_hw20) 20 do
                  let c0_i32_126 : BitVec 32 := 0#32
                  let v264 : BitVec 1 := Scalar.cmpi .sgt v260 c0_i32_126
                  let c4_i32_127 : BitVec 32 := 4#32
                  let v265 : BitVec 1 := Scalar.cmpi .slt v258 c4_i32_127
                  x167 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 (v234) (v247) (v258) (v259) (v260) (k0_hw20) (v264) (v265)

set_option maxHeartbeats 4000000 in
theorem q166 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v195 : Elt F .i32) (v208 : Elt F .i32) (v220 : BitVec 32) (v221 : Elt F .i32) (v232 : BitVec 32) : (ch166 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v220 v221 v232 >>= kk arg0 harg0 arg1 harg1 arg2 harg2 arg3 harg3 arg4 harg4 arg5 harg5 arg6 harg6 arg7 harg7 arg8 harg8 arg9 harg9 arg10 harg10 arg11 arg12 arg13) = x166 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v220 v221 v232 :=
  (Prog.bind_assoc (k0_part166 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232) (fun t : (Σ' (v234 : Elt F .i32) (v247 : Elt F .i32) (v258 : BitVec 32) (v259 : BitVec 32) (v260 : Elt F .i32) (k0_hw20 : k0_chk20 v0 v13 v26 v39 v52 v65 v78 v91 v104 v117 v130 v143 v156 v169 v182 v195 v208 v221 v234 v247 v260) (v264 : BitVec 1), BitVec 1) => ch167 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 (t.1) (t.2.1) (t.2.2.1) (t.2.2.2.1) (t.2.2.2.2.1) (t.2.2.2.2.2.1) (t.2.2.2.2.2.2.1) (t.2.2.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part166 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232 >>= K) (funext fun t => q167 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 (t.1) (t.2.1) (t.2.2.1) (t.2.2.2.1) (t.2.2.2.2.1) (t.2.2.2.2.2.1) (t.2.2.2.2.2.2.1) (t.2.2.2.2.2.2.2))).trans
      ((p166_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v195 v208 v220 v221 v232 (fun t => x167 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 v208 v221 (t.1) (t.2.1) (t.2.2.1) (t.2.2.2.1) (t.2.2.2.2.1) (t.2.2.2.2.2.1) (t.2.2.2.2.2.2.1) (t.2.2.2.2.2.2.2))).trans (by sl_kernel_rfl)))

def x165 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v193 : BitVec 32) (v194 : BitVec 32) (v195 : Elt F .i32) (k0_hw15 : k0_chk15 v0 v13 v26 v39 v52 v65 v78 v91 v104 v117 v130 v143 v156 v169 v182 v195) : Prog (TpuEff nD τ sig (Elt F) Λ₀ .tc) PUnit := do
  ifA arg9 arg10 (cntW (lst [v0, v13, v26, v39, v52, v65, v78, v91, v104, v117, v130, v143, v156, v169, v182]) 15) v194 v195 (cast (by sl_kernel_rfl) k0_hw15) 15 do
    let c0_i32_96 : BitVec 32 := 0#32
    let v199 : BitVec 1 := Scalar.cmpi .sgt v195 c0_i32_96
    let c4_i32_97 : BitVec 32 := 4#32
    let v200 : BitVec 1 := Scalar.cmpi .slt v193 c4_i32_97
    let v201 : BitVec 1 := Scalar.andi v199 v200
    let v202 : BitVec 32 := Scalar.extui v201
    let c0_i32_98 : BitVec 32 := 0#32
    let v203 : BitVec 1 := Scalar.cmpi .ne v202 c0_i32_98
    ifB arg2 harg2 arg3 arg7 harg7 arg8 arg12 arg13 (cntW (lst [v0, v13, v26, v39, v52, v65, v78, v91, v104, v117, v130, v143, v156, v169, v182]) 15) v195 (cast (by sl_kernel_rfl) k0_hw15) 15 (by decide) do
      let c0_i32_99 : BitVec 32 := 0#32
      let v204 : BitVec 1 := Scalar.cmpi .sgt v195 c0_i32_99
      let v205 : BitVec 32 := Scalar.extui v204
      let v206 : BitVec 32 := Scalar.addi v193 v205
      let v207 : BitVec 32 := Scalar.addi v194 v195
      let c16 : Index := 16#32
      ld arg0 16 (by decide) (cntW (lst [v0, v13, v26, v39, v52, v65, v78, v91, v104, v117, v130, v143, v156, v169, v182, v195]) 16) fun v208 hg => do
        have k0_hw16 : k0_chk16 v0 v13 v26 v39 v52 v65 v78 v91 v104 v117 v130 v143 v156 v169 v182 v195 v208 := cast (by sl_kernel_rfl) hg
        let c0_i32_100 : BitVec 32 := 0#32
        let v209 : BitVec 1 := Scalar.cmpi .sgt v208 c0_i32_100
        let v210 : BitVec 32 := Scalar.extui v209
        let c0_i32_101 : BitVec 32 := 0#32
        let v211 : BitVec 1 := Scalar.cmpi .ne v210 c0_i32_101
        ifA arg9 arg10 (cntW (lst [v0, v13, v26, v39, v52, v65, v78, v91, v104, v117, v130, v143, v156, v169, v182, v195]) 16) v207 v208 (cast (by sl_kernel_rfl) k0_hw16) 16 do
          let c0_i32_102 : BitVec 32 := 0#32
          let v212 : BitVec 1 := Scalar.cmpi .sgt v208 c0_i32_102
          let c4_i32_103 : BitVec 32 := 4#32
          let v213 : BitVec 1 := Scalar.cmpi .slt v206 c4_i32_103
          let v214 : BitVec 1 := Scalar.andi v212 v213
          let v215 : BitVec 32 := Scalar.extui v214
          let c0_i32_104 : BitVec 32 := 0#32
          let v216 : BitVec 1 := Scalar.cmpi .ne v215 c0_i32_104
          ifB arg2 harg2 arg3 arg7 harg7 arg8 arg12 arg13 (cntW (lst [v0, v13, v26, v39, v52, v65, v78, v91, v104, v117, v130, v143, v156, v169, v182, v195]) 16) v208 (cast (by sl_kernel_rfl) k0_hw16) 16 (by decide) do
            let c0_i32_105 : BitVec 32 := 0#32
            let v217 : BitVec 1 := Scalar.cmpi .sgt v208 c0_i32_105
            let v218 : BitVec 32 := Scalar.extui v217
            let v219 : BitVec 32 := Scalar.addi v206 v218
            let v220 : BitVec 32 := Scalar.addi v207 v208
            let c17 : Index := 17#32
            ld arg0 17 (by decide) (cntW (lst [v0, v13, v26, v39, v52, v65, v78, v91, v104, v117, v130, v143, v156, v169, v182, v195, v208]) 17) fun v221 hg => do
              have k0_hw17 : k0_chk17 v0 v13 v26 v39 v52 v65 v78 v91 v104 v117 v130 v143 v156 v169 v182 v195 v208 v221 := cast (by sl_kernel_rfl) hg
              let c0_i32_106 : BitVec 32 := 0#32
              let v222 : BitVec 1 := Scalar.cmpi .sgt v221 c0_i32_106
              let v223 : BitVec 32 := Scalar.extui v222
              let c0_i32_107 : BitVec 32 := 0#32
              let v224 : BitVec 1 := Scalar.cmpi .ne v223 c0_i32_107
              ifA arg9 arg10 (cntW (lst [v0, v13, v26, v39, v52, v65, v78, v91, v104, v117, v130, v143, v156, v169, v182, v195, v208]) 17) v220 v221 (cast (by sl_kernel_rfl) k0_hw17) 17 do
                let c0_i32_108 : BitVec 32 := 0#32
                let v225 : BitVec 1 := Scalar.cmpi .sgt v221 c0_i32_108
                let c4_i32_109 : BitVec 32 := 4#32
                let v226 : BitVec 1 := Scalar.cmpi .slt v219 c4_i32_109
                let v227 : BitVec 1 := Scalar.andi v225 v226
                let v228 : BitVec 32 := Scalar.extui v227
                let c0_i32_110 : BitVec 32 := 0#32
                let v229 : BitVec 1 := Scalar.cmpi .ne v228 c0_i32_110
                ifB arg2 harg2 arg3 arg7 harg7 arg8 arg12 arg13 (cntW (lst [v0, v13, v26, v39, v52, v65, v78, v91, v104, v117, v130, v143, v156, v169, v182, v195, v208]) 17) v221 (cast (by sl_kernel_rfl) k0_hw17) 17 (by decide) do
                  let c0_i32_111 : BitVec 32 := 0#32
                  let v230 : BitVec 1 := Scalar.cmpi .sgt v221 c0_i32_111
                  let v231 : BitVec 32 := Scalar.extui v230
                  let v232 : BitVec 32 := Scalar.addi v219 v231
                  x166 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 (v208) (v220) (v221) (v232)

set_option maxHeartbeats 4000000 in
theorem q165 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v156 : Elt F .i32) (v169 : Elt F .i32) (v182 : Elt F .i32) (v193 : BitVec 32) (v194 : BitVec 32) (v195 : Elt F .i32) (k0_hw15 : k0_chk15 v0 v13 v26 v39 v52 v65 v78 v91 v104 v117 v130 v143 v156 v169 v182 v195) : (ch165 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v193 v194 v195 k0_hw15 >>= kk arg0 harg0 arg1 harg1 arg2 harg2 arg3 harg3 arg4 harg4 arg5 harg5 arg6 harg6 arg7 harg7 arg8 harg8 arg9 harg9 arg10 harg10 arg11 arg12 arg13) = x165 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v193 v194 v195 k0_hw15 :=
  (Prog.bind_assoc (k0_part165 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15) (fun t : (Σ' (v208 : Elt F .i32) (v220 : BitVec 32) (v221 : Elt F .i32), BitVec 32) => ch166 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 (t.1) (t.2.1) (t.2.2.1) (t.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part165 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15 >>= K) (funext fun t => q166 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 (t.1) (t.2.1) (t.2.2.1) (t.2.2.2))).trans
      ((p165_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v156 v169 v182 v193 v194 v195 k0_hw15 (fun t => x166 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 v169 v182 v195 (t.1) (t.2.1) (t.2.2.1) (t.2.2.2))).trans (by sl_kernel_rfl)))

def x164 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v154 : BitVec 32) (v155 : BitVec 32) (v156 : Elt F .i32) (k0_hw12 : k0_chk12 v0 v13 v26 v39 v52 v65 v78 v91 v104 v117 v130 v143 v156) : Prog (TpuEff nD τ sig (Elt F) Λ₀ .tc) PUnit := do
  ifB arg2 harg2 arg3 arg7 harg7 arg8 arg12 arg13 (cntW (lst [v0, v13, v26, v39, v52, v65, v78, v91, v104, v117, v130, v143]) 12) v156 (cast (by sl_kernel_rfl) k0_hw12) 12 (by decide) do
    let c0_i32_81 : BitVec 32 := 0#32
    let v165 : BitVec 1 := Scalar.cmpi .sgt v156 c0_i32_81
    let v166 : BitVec 32 := Scalar.extui v165
    let v167 : BitVec 32 := Scalar.addi v154 v166
    let v168 : BitVec 32 := Scalar.addi v155 v156
    let c13 : Index := 13#32
    ld arg0 13 (by decide) (cntW (lst [v0, v13, v26, v39, v52, v65, v78, v91, v104, v117, v130, v143, v156]) 13) fun v169 hg => do
      have k0_hw13 : k0_chk13 v0 v13 v26 v39 v52 v65 v78 v91 v104 v117 v130 v143 v156 v169 := cast (by sl_kernel_rfl) hg
      let c0_i32_82 : BitVec 32 := 0#32
      let v170 : BitVec 1 := Scalar.cmpi .sgt v169 c0_i32_82
      let v171 : BitVec 32 := Scalar.extui v170
      let c0_i32_83 : BitVec 32 := 0#32
      let v172 : BitVec 1 := Scalar.cmpi .ne v171 c0_i32_83
      ifA arg9 arg10 (cntW (lst [v0, v13, v26, v39, v52, v65, v78, v91, v104, v117, v130, v143, v156]) 13) v168 v169 (cast (by sl_kernel_rfl) k0_hw13) 13 do
        let c0_i32_84 : BitVec 32 := 0#32
        let v173 : BitVec 1 := Scalar.cmpi .sgt v169 c0_i32_84
        let c4_i32_85 : BitVec 32 := 4#32
        let v174 : BitVec 1 := Scalar.cmpi .slt v167 c4_i32_85
        let v175 : BitVec 1 := Scalar.andi v173 v174
        let v176 : BitVec 32 := Scalar.extui v175
        let c0_i32_86 : BitVec 32 := 0#32
        let v177 : BitVec 1 := Scalar.cmpi .ne v176 c0_i32_86
        ifB arg2 harg2 arg3 arg7 harg7 arg8 arg12 arg13 (cntW (lst [v0, v13, v26, v39, v52, v65, v78, v91, v104, v117, v130, v143, v156]) 13) v169 (cast (by sl_kernel_rfl) k0_hw13) 13 (by decide) do
          let c0_i32_87 : BitVec 32 := 0#32
          let v178 : BitVec 1 := Scalar.cmpi .sgt v169 c0_i32_87
          let v179 : BitVec 32 := Scalar.extui v178
          let v180 : BitVec 32 := Scalar.addi v167 v179
          let v181 : BitVec 32 := Scalar.addi v168 v169
          let c14 : Index := 14#32
          ld arg0 14 (by decide) (cntW (lst [v0, v13, v26, v39, v52, v65, v78, v91, v104, v117, v130, v143, v156, v169]) 14) fun v182 hg => do
            have k0_hw14 : k0_chk14 v0 v13 v26 v39 v52 v65 v78 v91 v104 v117 v130 v143 v156 v169 v182 := cast (by sl_kernel_rfl) hg
            let c0_i32_88 : BitVec 32 := 0#32
            let v183 : BitVec 1 := Scalar.cmpi .sgt v182 c0_i32_88
            let v184 : BitVec 32 := Scalar.extui v183
            let c0_i32_89 : BitVec 32 := 0#32
            let v185 : BitVec 1 := Scalar.cmpi .ne v184 c0_i32_89
            ifA arg9 arg10 (cntW (lst [v0, v13, v26, v39, v52, v65, v78, v91, v104, v117, v130, v143, v156, v169]) 14) v181 v182 (cast (by sl_kernel_rfl) k0_hw14) 14 do
              let c0_i32_90 : BitVec 32 := 0#32
              let v186 : BitVec 1 := Scalar.cmpi .sgt v182 c0_i32_90
              let c4_i32_91 : BitVec 32 := 4#32
              let v187 : BitVec 1 := Scalar.cmpi .slt v180 c4_i32_91
              let v188 : BitVec 1 := Scalar.andi v186 v187
              let v189 : BitVec 32 := Scalar.extui v188
              let c0_i32_92 : BitVec 32 := 0#32
              let v190 : BitVec 1 := Scalar.cmpi .ne v189 c0_i32_92
              ifB arg2 harg2 arg3 arg7 harg7 arg8 arg12 arg13 (cntW (lst [v0, v13, v26, v39, v52, v65, v78, v91, v104, v117, v130, v143, v156, v169]) 14) v182 (cast (by sl_kernel_rfl) k0_hw14) 14 (by decide) do
                let c0_i32_93 : BitVec 32 := 0#32
                let v191 : BitVec 1 := Scalar.cmpi .sgt v182 c0_i32_93
                let v192 : BitVec 32 := Scalar.extui v191
                let v193 : BitVec 32 := Scalar.addi v180 v192
                let v194 : BitVec 32 := Scalar.addi v181 v182
                let c15 : Index := 15#32
                ld arg0 15 (by decide) (cntW (lst [v0, v13, v26, v39, v52, v65, v78, v91, v104, v117, v130, v143, v156, v169, v182]) 15) fun v195 hg => do
                  have k0_hw15 : k0_chk15 v0 v13 v26 v39 v52 v65 v78 v91 v104 v117 v130 v143 v156 v169 v182 v195 := cast (by sl_kernel_rfl) hg
                  let c0_i32_94 : BitVec 32 := 0#32
                  let v196 : BitVec 1 := Scalar.cmpi .sgt v195 c0_i32_94
                  let v197 : BitVec 32 := Scalar.extui v196
                  let c0_i32_95 : BitVec 32 := 0#32
                  let v198 : BitVec 1 := Scalar.cmpi .ne v197 c0_i32_95
                  x165 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 (v169) (v182) (v193) (v194) (v195) (k0_hw15)

set_option maxHeartbeats 4000000 in
theorem q164 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v130 : Elt F .i32) (v143 : Elt F .i32) (v154 : BitVec 32) (v155 : BitVec 32) (v156 : Elt F .i32) (k0_hw12 : k0_chk12 v0 v13 v26 v39 v52 v65 v78 v91 v104 v117 v130 v143 v156) : (ch164 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v154 v155 v156 k0_hw12 >>= kk arg0 harg0 arg1 harg1 arg2 harg2 arg3 harg3 arg4 harg4 arg5 harg5 arg6 harg6 arg7 harg7 arg8 harg8 arg9 harg9 arg10 harg10 arg11 arg12 arg13) = x164 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v154 v155 v156 k0_hw12 :=
  (Prog.bind_assoc (k0_part164 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12) (fun t : (Σ' (v169 : Elt F .i32) (v182 : Elt F .i32) (v193 : BitVec 32) (v194 : BitVec 32) (v195 : Elt F .i32), k0_chk15 v0 v13 v26 v39 v52 v65 v78 v91 v104 v117 v130 v143 v156 v169 v182 v195) => ch165 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 (t.1) (t.2.1) (t.2.2.1) (t.2.2.2.1) (t.2.2.2.2.1) (t.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part164 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12 >>= K) (funext fun t => q165 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 (t.1) (t.2.1) (t.2.2.1) (t.2.2.2.1) (t.2.2.2.2.1) (t.2.2.2.2.2))).trans
      ((p164_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v130 v143 v154 v155 v156 k0_hw12 (fun t => x165 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 v143 v156 (t.1) (t.2.1) (t.2.2.1) (t.2.2.2.1) (t.2.2.2.2.1) (t.2.2.2.2.2))).trans (by sl_kernel_rfl)))

def x163 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v128 : BitVec 32) (v129 : BitVec 32) (v130 : Elt F .i32) (k0_hw10 : k0_chk10 v0 v13 v26 v39 v52 v65 v78 v91 v104 v117 v130) : Prog (TpuEff nD τ sig (Elt F) Λ₀ .tc) PUnit := do
  let c0_i32_64 : BitVec 32 := 0#32
  let v131 : BitVec 1 := Scalar.cmpi .sgt v130 c0_i32_64
  let v132 : BitVec 32 := Scalar.extui v131
  let c0_i32_65 : BitVec 32 := 0#32
  let v133 : BitVec 1 := Scalar.cmpi .ne v132 c0_i32_65
  ifA arg9 arg10 (cntW (lst [v0, v13, v26, v39, v52, v65, v78, v91, v104, v117]) 10) v129 v130 (cast (by sl_kernel_rfl) k0_hw10) 10 do
    let c0_i32_66 : BitVec 32 := 0#32
    let v134 : BitVec 1 := Scalar.cmpi .sgt v130 c0_i32_66
    let c4_i32_67 : BitVec 32 := 4#32
    let v135 : BitVec 1 := Scalar.cmpi .slt v128 c4_i32_67
    let v136 : BitVec 1 := Scalar.andi v134 v135
    let v137 : BitVec 32 := Scalar.extui v136
    let c0_i32_68 : BitVec 32 := 0#32
    let v138 : BitVec 1 := Scalar.cmpi .ne v137 c0_i32_68
    ifB arg2 harg2 arg3 arg7 harg7 arg8 arg12 arg13 (cntW (lst [v0, v13, v26, v39, v52, v65, v78, v91, v104, v117]) 10) v130 (cast (by sl_kernel_rfl) k0_hw10) 10 (by decide) do
      let c0_i32_69 : BitVec 32 := 0#32
      let v139 : BitVec 1 := Scalar.cmpi .sgt v130 c0_i32_69
      let v140 : BitVec 32 := Scalar.extui v139
      let v141 : BitVec 32 := Scalar.addi v128 v140
      let v142 : BitVec 32 := Scalar.addi v129 v130
      let c11 : Index := 11#32
      ld arg0 11 (by decide) (cntW (lst [v0, v13, v26, v39, v52, v65, v78, v91, v104, v117, v130]) 11) fun v143 hg => do
        have k0_hw11 : k0_chk11 v0 v13 v26 v39 v52 v65 v78 v91 v104 v117 v130 v143 := cast (by sl_kernel_rfl) hg
        let c0_i32_70 : BitVec 32 := 0#32
        let v144 : BitVec 1 := Scalar.cmpi .sgt v143 c0_i32_70
        let v145 : BitVec 32 := Scalar.extui v144
        let c0_i32_71 : BitVec 32 := 0#32
        let v146 : BitVec 1 := Scalar.cmpi .ne v145 c0_i32_71
        ifA arg9 arg10 (cntW (lst [v0, v13, v26, v39, v52, v65, v78, v91, v104, v117, v130]) 11) v142 v143 (cast (by sl_kernel_rfl) k0_hw11) 11 do
          let c0_i32_72 : BitVec 32 := 0#32
          let v147 : BitVec 1 := Scalar.cmpi .sgt v143 c0_i32_72
          let c4_i32_73 : BitVec 32 := 4#32
          let v148 : BitVec 1 := Scalar.cmpi .slt v141 c4_i32_73
          let v149 : BitVec 1 := Scalar.andi v147 v148
          let v150 : BitVec 32 := Scalar.extui v149
          let c0_i32_74 : BitVec 32 := 0#32
          let v151 : BitVec 1 := Scalar.cmpi .ne v150 c0_i32_74
          ifB arg2 harg2 arg3 arg7 harg7 arg8 arg12 arg13 (cntW (lst [v0, v13, v26, v39, v52, v65, v78, v91, v104, v117, v130]) 11) v143 (cast (by sl_kernel_rfl) k0_hw11) 11 (by decide) do
            let c0_i32_75 : BitVec 32 := 0#32
            let v152 : BitVec 1 := Scalar.cmpi .sgt v143 c0_i32_75
            let v153 : BitVec 32 := Scalar.extui v152
            let v154 : BitVec 32 := Scalar.addi v141 v153
            let v155 : BitVec 32 := Scalar.addi v142 v143
            let c12 : Index := 12#32
            ld arg0 12 (by decide) (cntW (lst [v0, v13, v26, v39, v52, v65, v78, v91, v104, v117, v130, v143]) 12) fun v156 hg => do
              have k0_hw12 : k0_chk12 v0 v13 v26 v39 v52 v65 v78 v91 v104 v117 v130 v143 v156 := cast (by sl_kernel_rfl) hg
              let c0_i32_76 : BitVec 32 := 0#32
              let v157 : BitVec 1 := Scalar.cmpi .sgt v156 c0_i32_76
              let v158 : BitVec 32 := Scalar.extui v157
              let c0_i32_77 : BitVec 32 := 0#32
              let v159 : BitVec 1 := Scalar.cmpi .ne v158 c0_i32_77
              ifA arg9 arg10 (cntW (lst [v0, v13, v26, v39, v52, v65, v78, v91, v104, v117, v130, v143]) 12) v155 v156 (cast (by sl_kernel_rfl) k0_hw12) 12 do
                let c0_i32_78 : BitVec 32 := 0#32
                let v160 : BitVec 1 := Scalar.cmpi .sgt v156 c0_i32_78
                let c4_i32_79 : BitVec 32 := 4#32
                let v161 : BitVec 1 := Scalar.cmpi .slt v154 c4_i32_79
                let v162 : BitVec 1 := Scalar.andi v160 v161
                let v163 : BitVec 32 := Scalar.extui v162
                let c0_i32_80 : BitVec 32 := 0#32
                let v164 : BitVec 1 := Scalar.cmpi .ne v163 c0_i32_80
                x164 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 (v143) (v154) (v155) (v156) (k0_hw12)

set_option maxHeartbeats 4000000 in
theorem q163 (k0_mxu1 : Mxu F) (v0 : Elt F .i32) (v13 : Elt F .i32) (v26 : Elt F .i32) (v39 : Elt F .i32) (v52 : Elt F .i32) (v65 : Elt F .i32) (v78 : Elt F .i32) (v91 : Elt F .i32) (v104 : Elt F .i32) (v117 : Elt F .i32) (v128 : BitVec 32) (v129 : BitVec 32) (v130 : Elt F .i32) (k0_hw10 : k0_chk10 v0 v13 v26 v39 v52 v65 v78 v91 v104 v117 v130) : (ch163 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v128 v129 v130 k0_hw10 >>= kk arg0 harg0 arg1 harg1 arg2 harg2 arg3 harg3 arg4 harg4 arg5 harg5 arg6 harg6 arg7 harg7 arg8 harg8 arg9 harg9 arg10 harg10 arg11 arg12 arg13) = x163 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v128 v129 v130 k0_hw10 :=
  (Prog.bind_assoc (k0_part163 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10) (fun t : (Σ' (v143 : Elt F .i32) (v154 : BitVec 32) (v155 : BitVec 32) (v156 : Elt F .i32), k0_chk12 v0 v13 v26 v39 v52 v65 v78 v91 v104 v117 v130 v143 v156) => ch164 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 (t.1) (t.2.1) (t.2.2.1) (t.2.2.2.1) (t.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part163 arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10 >>= K) (funext fun t => q164 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 (t.1) (t.2.1) (t.2.2.1) (t.2.2.2.1) (t.2.2.2.2))).trans
      ((p163_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v91 v104 v117 v128 v129 v130 k0_hw10 (fun t => x164 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 v104 v117 v130 (t.1) (t.2.1) (t.2.2.1) (t.2.2.2.1) (t.2.2.2.2))).trans (by sl_kernel_rfl)))

def x162 (k0_mxu1 : Mxu F) (v0 : Elt F .i32) (v13 : Elt F .i32) (v26 : Elt F .i32) (v39 : Elt F .i32) (v52 : Elt F .i32) (v65 : Elt F .i32) (v78 : Elt F .i32) (v89 : BitVec 32) (v90 : BitVec 32) (v91 : Elt F .i32) (k0_hw7 : k0_chk7 v0 v13 v26 v39 v52 v65 v78 v91) (v95 : BitVec 1) (c4_i32_49 : BitVec 32) : Prog (TpuEff nD τ sig (Elt F) Λ₀ .tc) PUnit := do
  let v96 : BitVec 1 := Scalar.cmpi .slt v89 c4_i32_49
  let v97 : BitVec 1 := Scalar.andi v95 v96
  let v98 : BitVec 32 := Scalar.extui v97
  let c0_i32_50 : BitVec 32 := 0#32
  let v99 : BitVec 1 := Scalar.cmpi .ne v98 c0_i32_50
  ifB arg2 harg2 arg3 arg7 harg7 arg8 arg12 arg13 (cntW (lst [v0, v13, v26, v39, v52, v65, v78]) 7) v91 (cast (by sl_kernel_rfl) k0_hw7) 7 (by decide) do
    let c0_i32_51 : BitVec 32 := 0#32
    let v100 : BitVec 1 := Scalar.cmpi .sgt v91 c0_i32_51
    let v101 : BitVec 32 := Scalar.extui v100
    let v102 : BitVec 32 := Scalar.addi v89 v101
    let v103 : BitVec 32 := Scalar.addi v90 v91
    let c8 : Index := 8#32
    ld arg0 8 (by decide) (cntW (lst [v0, v13, v26, v39, v52, v65, v78, v91]) 8) fun v104 hg => do
      have k0_hw8 : k0_chk8 v0 v13 v26 v39 v52 v65 v78 v91 v104 := cast (by sl_kernel_rfl) hg
      let c0_i32_52 : BitVec 32 := 0#32
      let v105 : BitVec 1 := Scalar.cmpi .sgt v104 c0_i32_52
      let v106 : BitVec 32 := Scalar.extui v105
      let c0_i32_53 : BitVec 32 := 0#32
      let v107 : BitVec 1 := Scalar.cmpi .ne v106 c0_i32_53
      ifA arg9 arg10 (cntW (lst [v0, v13, v26, v39, v52, v65, v78, v91]) 8) v103 v104 (cast (by sl_kernel_rfl) k0_hw8) 8 do
        let c0_i32_54 : BitVec 32 := 0#32
        let v108 : BitVec 1 := Scalar.cmpi .sgt v104 c0_i32_54
        let c4_i32_55 : BitVec 32 := 4#32
        let v109 : BitVec 1 := Scalar.cmpi .slt v102 c4_i32_55
        let v110 : BitVec 1 := Scalar.andi v108 v109
        let v111 : BitVec 32 := Scalar.extui v110
        let c0_i32_56 : BitVec 32 := 0#32
        let v112 : BitVec 1 := Scalar.cmpi .ne v111 c0_i32_56
        ifB arg2 harg2 arg3 arg7 harg7 arg8 arg12 arg13 (cntW (lst [v0, v13, v26, v39, v52, v65, v78, v91]) 8) v104 (cast (by sl_kernel_rfl) k0_hw8) 8 (by decide) do
          let c0_i32_57 : BitVec 32 := 0#32
          let v113 : BitVec 1 := Scalar.cmpi .sgt v104 c0_i32_57
          let v114 : BitVec 32 := Scalar.extui v113
          let v115 : BitVec 32 := Scalar.addi v102 v114
          let v116 : BitVec 32 := Scalar.addi v103 v104
          let c9 : Index := 9#32
          ld arg0 9 (by decide) (cntW (lst [v0, v13, v26, v39, v52, v65, v78, v91, v104]) 9) fun v117 hg => do
            have k0_hw9 : k0_chk9 v0 v13 v26 v39 v52 v65 v78 v91 v104 v117 := cast (by sl_kernel_rfl) hg
            let c0_i32_58 : BitVec 32 := 0#32
            let v118 : BitVec 1 := Scalar.cmpi .sgt v117 c0_i32_58
            let v119 : BitVec 32 := Scalar.extui v118
            let c0_i32_59 : BitVec 32 := 0#32
            let v120 : BitVec 1 := Scalar.cmpi .ne v119 c0_i32_59
            ifA arg9 arg10 (cntW (lst [v0, v13, v26, v39, v52, v65, v78, v91, v104]) 9) v116 v117 (cast (by sl_kernel_rfl) k0_hw9) 9 do
              let c0_i32_60 : BitVec 32 := 0#32
              let v121 : BitVec 1 := Scalar.cmpi .sgt v117 c0_i32_60
              let c4_i32_61 : BitVec 32 := 4#32
              let v122 : BitVec 1 := Scalar.cmpi .slt v115 c4_i32_61
              let v123 : BitVec 1 := Scalar.andi v121 v122
              let v124 : BitVec 32 := Scalar.extui v123
              let c0_i32_62 : BitVec 32 := 0#32
              let v125 : BitVec 1 := Scalar.cmpi .ne v124 c0_i32_62
              ifB arg2 harg2 arg3 arg7 harg7 arg8 arg12 arg13 (cntW (lst [v0, v13, v26, v39, v52, v65, v78, v91, v104]) 9) v117 (cast (by sl_kernel_rfl) k0_hw9) 9 (by decide) do
                let c0_i32_63 : BitVec 32 := 0#32
                let v126 : BitVec 1 := Scalar.cmpi .sgt v117 c0_i32_63
                let v127 : BitVec 32 := Scalar.extui v126
                let v128 : BitVec 32 := Scalar.addi v115 v127
                let v129 : BitVec 32 := Scalar.addi v116 v117
                let c10 : Index := 10#32
                ld arg0 10 (by decide) (cntW (lst [v0, v13, v26, v39, v52, v65, v78, v91, v104, v117]) 10) fun v130 hg => do
                  have k0_hw10 : k0_chk10 v0 v13 v26 v39 v52 v65 v78 v91 v104 v117 v130 := cast (by sl_kernel_rfl) hg
                  x163 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 (v104) (v117) (v128) (v129) (v130) (k0_hw10)

set_option maxHeartbeats 4000000 in
theorem q162 (k0_mxu1 : Mxu F) (v0 : Elt F .i32) (v13 : Elt F .i32) (v26 : Elt F .i32) (v39 : Elt F .i32) (v52 : Elt F .i32) (v65 : Elt F .i32) (v78 : Elt F .i32) (v89 : BitVec 32) (v90 : BitVec 32) (v91 : Elt F .i32) (k0_hw7 : k0_chk7 v0 v13 v26 v39 v52 v65 v78 v91) (v95 : BitVec 1) (c4_i32_49 : BitVec 32) : (ch162 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v89 v90 v91 k0_hw7 v95 c4_i32_49 >>= kk arg0 harg0 arg1 harg1 arg2 harg2 arg3 harg3 arg4 harg4 arg5 harg5 arg6 harg6 arg7 harg7 arg8 harg8 arg9 harg9 arg10 harg10 arg11 arg12 arg13) = x162 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v89 v90 v91 k0_hw7 v95 c4_i32_49 :=
  (Prog.bind_assoc (k0_part162 arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49) (fun t : (Σ' (v104 : Elt F .i32) (v117 : Elt F .i32) (v128 : BitVec 32) (v129 : BitVec 32) (v130 : Elt F .i32), k0_chk10 v0 v13 v26 v39 v52 v65 v78 v91 v104 v117 v130) => ch163 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 (t.1) (t.2.1) (t.2.2.1) (t.2.2.2.1) (t.2.2.2.2.1) (t.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part162 arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49 >>= K) (funext fun t => q163 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 (t.1) (t.2.1) (t.2.2.1) (t.2.2.2.1) (t.2.2.2.2.1) (t.2.2.2.2.2))).trans
      ((p162_bind arg0 harg0 arg1 harg1 arg2 harg2 arg3 harg3 arg4 harg4 arg5 harg5 arg6 harg6 arg7 harg7 arg8 harg8 arg9 harg9 arg10 harg10 arg11 arg12 arg13 v0 v13 v26 v39 v52 v65 v78 v89 v90 v91 k0_hw7 v95 c4_i32_49 (fun t => x163 arg0 harg0 arg1 harg1 arg2 harg2 arg3 harg3 arg4 harg4 arg5 harg5 arg6 harg6 arg7 harg7 arg8 harg8 arg9 harg9 arg10 harg10 arg11 arg12 arg13 k0_mxu1 v0 v13 v26 v39 v52 v65 v78 v91 (t.1) (t.2.1) (t.2.2.1) (t.2.2.2.1) (t.2.2.2.2.1) (t.2.2.2.2.2))).trans (by sl_kernel_rfl)))

def x161 (k0_mxu1 : Mxu F) (v0 : Elt F .i32) (v13 : Elt F .i32) (v26 : Elt F .i32) (v39 : Elt F .i32) (v50 : BitVec 32) (v51 : BitVec 32) (v52 : Elt F .i32) (v62 : BitVec 32) : Prog (TpuEff nD τ sig (Elt F) Λ₀ .tc) PUnit := do
  let v63 : BitVec 32 := Scalar.addi v50 v62
  let v64 : BitVec 32 := Scalar.addi v51 v52
  let c5 : Index := 5#32
  ld arg0 5 (by decide) (cntW (lst [v0, v13, v26, v39, v52]) 5) fun v65 hg => do
    have k0_hw5 : k0_chk5 v0 v13 v26 v39 v52 v65 := cast (by sl_kernel_rfl) hg
    let c0_i32_34 : BitVec 32 := 0#32
    let v66 : BitVec 1 := Scalar.cmpi .sgt v65 c0_i32_34
    let v67 : BitVec 32 := Scalar.extui v66
    let c0_i32_35 : BitVec 32 := 0#32
    let v68 : BitVec 1 := Scalar.cmpi .ne v67 c0_i32_35
    ifA arg9 arg10 (cntW (lst [v0, v13, v26, v39, v52]) 5) v64 v65 (cast (by sl_kernel_rfl) k0_hw5) 5 do
      let c0_i32_36 : BitVec 32 := 0#32
      let v69 : BitVec 1 := Scalar.cmpi .sgt v65 c0_i32_36
      let c4_i32_37 : BitVec 32 := 4#32
      let v70 : BitVec 1 := Scalar.cmpi .slt v63 c4_i32_37
      let v71 : BitVec 1 := Scalar.andi v69 v70
      let v72 : BitVec 32 := Scalar.extui v71
      let c0_i32_38 : BitVec 32 := 0#32
      let v73 : BitVec 1 := Scalar.cmpi .ne v72 c0_i32_38
      ifB arg2 harg2 arg3 arg7 harg7 arg8 arg12 arg13 (cntW (lst [v0, v13, v26, v39, v52]) 5) v65 (cast (by sl_kernel_rfl) k0_hw5) 5 (by decide) do
        let c0_i32_39 : BitVec 32 := 0#32
        let v74 : BitVec 1 := Scalar.cmpi .sgt v65 c0_i32_39
        let v75 : BitVec 32 := Scalar.extui v74
        let v76 : BitVec 32 := Scalar.addi v63 v75
        let v77 : BitVec 32 := Scalar.addi v64 v65
        let c6 : Index := 6#32
        ld arg0 6 (by decide) (cntW (lst [v0, v13, v26, v39, v52, v65]) 6) fun v78 hg => do
          have k0_hw6 : k0_chk6 v0 v13 v26 v39 v52 v65 v78 := cast (by sl_kernel_rfl) hg
          let c0_i32_40 : BitVec 32 := 0#32
          let v79 : BitVec 1 := Scalar.cmpi .sgt v78 c0_i32_40
          let v80 : BitVec 32 := Scalar.extui v79
          let c0_i32_41 : BitVec 32 := 0#32
          let v81 : BitVec 1 := Scalar.cmpi .ne v80 c0_i32_41
          ifA arg9 arg10 (cntW (lst [v0, v13, v26, v39, v52, v65]) 6) v77 v78 (cast (by sl_kernel_rfl) k0_hw6) 6 do
            let c0_i32_42 : BitVec 32 := 0#32
            let v82 : BitVec 1 := Scalar.cmpi .sgt v78 c0_i32_42
            let c4_i32_43 : BitVec 32 := 4#32
            let v83 : BitVec 1 := Scalar.cmpi .slt v76 c4_i32_43
            let v84 : BitVec 1 := Scalar.andi v82 v83
            let v85 : BitVec 32 := Scalar.extui v84
            let c0_i32_44 : BitVec 32 := 0#32
            let v86 : BitVec 1 := Scalar.cmpi .ne v85 c0_i32_44
            ifB arg2 harg2 arg3 arg7 harg7 arg8 arg12 arg13 (cntW (lst [v0, v13, v26, v39, v52, v65]) 6) v78 (cast (by sl_kernel_rfl) k0_hw6) 6 (by decide) do
              let c0_i32_45 : BitVec 32 := 0#32
              let v87 : BitVec 1 := Scalar.cmpi .sgt v78 c0_i32_45
              let v88 : BitVec 32 := Scalar.extui v87
              let v89 : BitVec 32 := Scalar.addi v76 v88
              let v90 : BitVec 32 := Scalar.addi v77 v78
              let c7 : Index := 7#32
              ld arg0 7 (by decide) (cntW (lst [v0, v13, v26, v39, v52, v65, v78]) 7) fun v91 hg => do
                have k0_hw7 : k0_chk7 v0 v13 v26 v39 v52 v65 v78 v91 := cast (by sl_kernel_rfl) hg
                let c0_i32_46 : BitVec 32 := 0#32
                let v92 : BitVec 1 := Scalar.cmpi .sgt v91 c0_i32_46
                let v93 : BitVec 32 := Scalar.extui v92
                let c0_i32_47 : BitVec 32 := 0#32
                let v94 : BitVec 1 := Scalar.cmpi .ne v93 c0_i32_47
                ifA arg9 arg10 (cntW (lst [v0, v13, v26, v39, v52, v65, v78]) 7) v90 v91 (cast (by sl_kernel_rfl) k0_hw7) 7 do
                  let c0_i32_48 : BitVec 32 := 0#32
                  let v95 : BitVec 1 := Scalar.cmpi .sgt v91 c0_i32_48
                  let c4_i32_49 : BitVec 32 := 4#32
                  x162 arg0 harg0 arg1 harg1 arg2 harg2 arg3 harg3 arg4 harg4 arg5 harg5 arg6 harg6 arg7 harg7 arg8 harg8 arg9 harg9 arg10 harg10 arg11 arg12 arg13 k0_mxu1 v0 v13 v26 v39 v52 (v65) (v78) (v89) (v90) (v91) (k0_hw7) (v95) (c4_i32_49)

set_option maxHeartbeats 4000000 in
theorem q161 (k0_mxu1 : Mxu F) (v0 : Elt F .i32) (v13 : Elt F .i32) (v26 : Elt F .i32) (v39 : Elt F .i32) (v50 : BitVec 32) (v51 : BitVec 32) (v52 : Elt F .i32) (v62 : BitVec 32) : (ch161 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v50 v51 v52 v62 >>= kk arg0 harg0 arg1 harg1 arg2 harg2 arg3 harg3 arg4 harg4 arg5 harg5 arg6 harg6 arg7 harg7 arg8 harg8 arg9 harg9 arg10 harg10 arg11 arg12 arg13) = x161 (F := F) arg0 harg0 arg1 harg1 arg2 harg2 arg3 harg3 arg4 harg4 arg5 harg5 arg6 harg6 arg7 harg7 arg8 harg8 arg9 harg9 arg10 harg10 arg11 arg12 arg13 k0_mxu1 v0 v13 v26 v39 v50 v51 v52 v62 :=
  (Prog.bind_assoc (k0_part161 arg0 harg0 arg1 harg1 arg2 harg2 arg3 harg3 arg4 harg4 arg5 harg5 arg6 harg6 arg7 harg7 arg8 harg8 arg9 harg9 arg10 harg10 arg11 arg12 arg13 v0 v13 v26 v39 v50 v51 v52 v62) (fun t : (Σ' (v65 : Elt F .i32) (v78 : Elt F .i32) (v89 : BitVec 32) (v90 : BitVec 32) (v91 : Elt F .i32) (k0_hw7 : k0_chk7 v0 v13 v26 v39 v52 v65 v78 v91) (v95 : BitVec 1), BitVec 32) => ch162 arg0 harg0 arg1 harg1 arg2 harg2 arg3 harg3 arg4 harg4 arg5 harg5 arg6 harg6 arg7 harg7 arg8 harg8 arg9 harg9 arg10 harg10 arg11 arg12 arg13 k0_mxu1 v0 v13 v26 v39 v52 (t.1) (t.2.1) (t.2.2.1) (t.2.2.2.1) (t.2.2.2.2.1) (t.2.2.2.2.2.1) (t.2.2.2.2.2.2.1) (t.2.2.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part161 arg0 harg0 arg1 harg1 arg2 harg2 arg3 harg3 arg4 harg4 arg5 harg5 arg6 harg6 arg7 harg7 arg8 harg8 arg9 harg9 arg10 harg10 arg11 arg12 arg13 v0 v13 v26 v39 v50 v51 v52 v62 >>= K) (funext fun t => q162 arg0 harg0 arg1 harg1 arg2 harg2 arg3 harg3 arg4 harg4 arg5 harg5 arg6 harg6 arg7 harg7 arg8 harg8 arg9 harg9 arg10 harg10 arg11 arg12 arg13 k0_mxu1 v0 v13 v26 v39 v52 (t.1) (t.2.1) (t.2.2.1) (t.2.2.2.1) (t.2.2.2.2.1) (t.2.2.2.2.2.1) (t.2.2.2.2.2.2.1) (t.2.2.2.2.2.2.2))).trans
      ((p161_bind arg0 harg0 arg1 harg1 arg2 harg2 arg3 harg3 arg4 harg4 arg5 harg5 arg6 harg6 arg7 harg7 arg8 harg8 arg9 harg9 arg10 harg10 arg11 arg12 arg13 v0 v13 v26 v39 v50 v51 v52 v62 (fun t => x162 arg0 harg0 arg1 harg1 arg2 harg2 arg3 harg3 arg4 harg4 arg5 harg5 arg6 harg6 arg7 harg7 arg8 harg8 arg9 harg9 arg10 harg10 arg11 arg12 arg13 k0_mxu1 v0 v13 v26 v39 v52 (t.1) (t.2.1) (t.2.2.1) (t.2.2.2.1) (t.2.2.2.2.1) (t.2.2.2.2.2.1) (t.2.2.2.2.2.2.1) (t.2.2.2.2.2.2.2))).trans (by sl_kernel_rfl)))

def x160 (k0_mxu1 : Mxu F) (v0 : Elt F .i32) (v13 : Elt F .i32) (v24 : BitVec 32) (v25 : BitVec 32) (v26 : Elt F .i32) (k0_hw2 : k0_chk2 v0 v13 v26) (v28 : BitVec 32) (c0_i32_17 : BitVec 32) : Prog (TpuEff nD τ sig (Elt F) Λ₀ .tc) PUnit := do
  let v29 : BitVec 1 := Scalar.cmpi .ne v28 c0_i32_17
  ifA arg9 arg10 (cntW (lst [v0, v13]) 2) v25 v26 (cast (by sl_kernel_rfl) k0_hw2) 2 do
    let c0_i32_18 : BitVec 32 := 0#32
    let v30 : BitVec 1 := Scalar.cmpi .sgt v26 c0_i32_18
    let c4_i32_19 : BitVec 32 := 4#32
    let v31 : BitVec 1 := Scalar.cmpi .slt v24 c4_i32_19
    let v32 : BitVec 1 := Scalar.andi v30 v31
    let v33 : BitVec 32 := Scalar.extui v32
    let c0_i32_20 : BitVec 32 := 0#32
    let v34 : BitVec 1 := Scalar.cmpi .ne v33 c0_i32_20
    ifB arg2 harg2 arg3 arg7 harg7 arg8 arg12 arg13 (cntW (lst [v0, v13]) 2) v26 (cast (by sl_kernel_rfl) k0_hw2) 2 (by decide) do
      let c0_i32_21 : BitVec 32 := 0#32
      let v35 : BitVec 1 := Scalar.cmpi .sgt v26 c0_i32_21
      let v36 : BitVec 32 := Scalar.extui v35
      let v37 : BitVec 32 := Scalar.addi v24 v36
      let v38 : BitVec 32 := Scalar.addi v25 v26
      let c3 : Index := 3#32
      ld arg0 3 (by decide) (cntW (lst [v0, v13, v26]) 3) fun v39 hg => do
        have k0_hw3 : k0_chk3 v0 v13 v26 v39 := cast (by sl_kernel_rfl) hg
        let c0_i32_22 : BitVec 32 := 0#32
        let v40 : BitVec 1 := Scalar.cmpi .sgt v39 c0_i32_22
        let v41 : BitVec 32 := Scalar.extui v40
        let c0_i32_23 : BitVec 32 := 0#32
        let v42 : BitVec 1 := Scalar.cmpi .ne v41 c0_i32_23
        ifA arg9 arg10 (cntW (lst [v0, v13, v26]) 3) v38 v39 (cast (by sl_kernel_rfl) k0_hw3) 3 do
          let c0_i32_24 : BitVec 32 := 0#32
          let v43 : BitVec 1 := Scalar.cmpi .sgt v39 c0_i32_24
          let c4_i32_25 : BitVec 32 := 4#32
          let v44 : BitVec 1 := Scalar.cmpi .slt v37 c4_i32_25
          let v45 : BitVec 1 := Scalar.andi v43 v44
          let v46 : BitVec 32 := Scalar.extui v45
          let c0_i32_26 : BitVec 32 := 0#32
          let v47 : BitVec 1 := Scalar.cmpi .ne v46 c0_i32_26
          ifB arg2 harg2 arg3 arg7 harg7 arg8 arg12 arg13 (cntW (lst [v0, v13, v26]) 3) v39 (cast (by sl_kernel_rfl) k0_hw3) 3 (by decide) do
            let c0_i32_27 : BitVec 32 := 0#32
            let v48 : BitVec 1 := Scalar.cmpi .sgt v39 c0_i32_27
            let v49 : BitVec 32 := Scalar.extui v48
            let v50 : BitVec 32 := Scalar.addi v37 v49
            let v51 : BitVec 32 := Scalar.addi v38 v39
            let c4 : Index := 4#32
            ld arg0 4 (by decide) (cntW (lst [v0, v13, v26, v39]) 4) fun v52 hg => do
              have k0_hw4 : k0_chk4 v0 v13 v26 v39 v52 := cast (by sl_kernel_rfl) hg
              let c0_i32_28 : BitVec 32 := 0#32
              let v53 : BitVec 1 := Scalar.cmpi .sgt v52 c0_i32_28
              let v54 : BitVec 32 := Scalar.extui v53
              let c0_i32_29 : BitVec 32 := 0#32
              let v55 : BitVec 1 := Scalar.cmpi .ne v54 c0_i32_29
              ifA arg9 arg10 (cntW (lst [v0, v13, v26, v39]) 4) v51 v52 (cast (by sl_kernel_rfl) k0_hw4) 4 do
                let c0_i32_30 : BitVec 32 := 0#32
                let v56 : BitVec 1 := Scalar.cmpi .sgt v52 c0_i32_30
                let c4_i32_31 : BitVec 32 := 4#32
                let v57 : BitVec 1 := Scalar.cmpi .slt v50 c4_i32_31
                let v58 : BitVec 1 := Scalar.andi v56 v57
                let v59 : BitVec 32 := Scalar.extui v58
                let c0_i32_32 : BitVec 32 := 0#32
                let v60 : BitVec 1 := Scalar.cmpi .ne v59 c0_i32_32
                ifB arg2 harg2 arg3 arg7 harg7 arg8 arg12 arg13 (cntW (lst [v0, v13, v26, v39]) 4) v52 (cast (by sl_kernel_rfl) k0_hw4) 4 (by decide) do
                  let c0_i32_33 : BitVec 32 := 0#32
                  let v61 : BitVec 1 := Scalar.cmpi .sgt v52 c0_i32_33
                  let v62 : BitVec 32 := Scalar.extui v61
                  x161 arg0 harg0 arg1 harg1 arg2 harg2 arg3 harg3 arg4 harg4 arg5 harg5 arg6 harg6 arg7 harg7 arg8 harg8 arg9 harg9 arg10 harg10 arg11 arg12 arg13 k0_mxu1 v0 v13 v26 (v39) (v50) (v51) (v52) (v62)

set_option maxHeartbeats 4000000 in
theorem q160 (k0_mxu1 : Mxu F) (v0 : Elt F .i32) (v13 : Elt F .i32) (v24 : BitVec 32) (v25 : BitVec 32) (v26 : Elt F .i32) (k0_hw2 : k0_chk2 v0 v13 v26) (v28 : BitVec 32) (c0_i32_17 : BitVec 32) : (ch160 (F := F) arg0 harg0 arg1 harg1 arg2 harg2 arg3 harg3 arg4 harg4 arg5 harg5 arg6 harg6 arg7 harg7 arg8 harg8 arg9 harg9 arg10 harg10 arg11 arg12 arg13 k0_mxu1 v0 v13 v24 v25 v26 k0_hw2 v28 c0_i32_17 >>= kk arg0 harg0 arg1 harg1 arg2 harg2 arg3 harg3 arg4 harg4 arg5 harg5 arg6 harg6 arg7 harg7 arg8 harg8 arg9 harg9 arg10 harg10 arg11 arg12 arg13) = x160 (F := F) arg0 harg0 arg1 harg1 arg2 harg2 arg3 harg3 arg4 harg4 arg5 harg5 arg6 harg6 arg7 harg7 arg8 harg8 arg9 harg9 arg10 harg10 arg11 arg12 arg13 k0_mxu1 v0 v13 v24 v25 v26 k0_hw2 v28 c0_i32_17 :=
  (Prog.bind_assoc (k0_part160 arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17) (fun t : (Σ' (v39 : Elt F .i32) (v50 : BitVec 32) (v51 : BitVec 32) (v52 : Elt F .i32), BitVec 32) => ch161 arg0 harg0 arg1 harg1 arg2 harg2 arg3 harg3 arg4 harg4 arg5 harg5 arg6 harg6 arg7 harg7 arg8 harg8 arg9 harg9 arg10 harg10 arg11 arg12 arg13 k0_mxu1 v0 v13 v26 (t.1) (t.2.1) (t.2.2.1) (t.2.2.2.1) (t.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part160 arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17 >>= K) (funext fun t => q161 arg0 harg0 arg1 harg1 arg2 harg2 arg3 harg3 arg4 harg4 arg5 harg5 arg6 harg6 arg7 harg7 arg8 harg8 arg9 harg9 arg10 harg10 arg11 arg12 arg13 k0_mxu1 v0 v13 v26 (t.1) (t.2.1) (t.2.2.1) (t.2.2.2.1) (t.2.2.2.2))).trans
      ((p160_bind arg0 harg0 arg1 harg1 arg2 harg2 arg3 harg3 arg4 harg4 arg5 harg5 arg6 harg6 arg7 harg7 arg8 harg8 arg9 harg9 arg10 harg10 arg11 arg12 arg13 v0 v13 v24 v25 v26 k0_hw2 v28 c0_i32_17 (fun t => x161 arg0 harg0 arg1 harg1 arg2 harg2 arg3 harg3 arg4 harg4 arg5 harg5 arg6 harg6 arg7 harg7 arg8 harg8 arg9 harg9 arg10 harg10 arg11 arg12 arg13 k0_mxu1 v0 v13 v26 (t.1) (t.2.1) (t.2.2.1) (t.2.2.2.1) (t.2.2.2.2))).trans (by sl_kernel_rfl)))

def x159 : Prog (TpuEff nD τ sig (Elt F) Λ₀ .tc) PUnit := do
  have k0_mxu1 : Mxu F := Mxu.init
  Prog.lift (.enqueueDma arg1 (.here arg5) (.dma arg11.sem) harg1.wordExact harg5.wordExact ⟨Or.inl rfl, trivial⟩)
  let c0 : Index := 0#32
  let v0 : Elt F .i32 ← smemLoad arg0 (Rect.unit (s := S32) ![0] S1.size inb_S32_S1_0) numel1_S1 rfl
  let c0_i32 : BitVec 32 := 0#32
  let v1 : BitVec 1 := Scalar.cmpi .sgt v0 c0_i32
  let v2 : BitVec 32 := Scalar.extui v1
  let c0_i32_0 : BitVec 32 := 0#32
  let c0_i32_1 : BitVec 32 := 0#32
  let c0_i32_2 : BitVec 32 := 0#32
  let v3 : BitVec 1 := Scalar.cmpi .ne v2 c0_i32_2
  ifA0 arg9 arg10 v0 do
    let c0_i32_3 : BitVec 32 := 0#32
    let v4 : BitVec 1 := Scalar.cmpi .sgt v0 c0_i32_3
    let c0_i32_4 : BitVec 32 := 0#32
    let c4_i32 : BitVec 32 := 4#32
    let v5 : BitVec 1 := Scalar.cmpi .slt c0_i32_4 c4_i32
    let v6 : BitVec 1 := Scalar.andi v4 v5
    let v7 : BitVec 32 := Scalar.extui v6
    let c0_i32_5 : BitVec 32 := 0#32
    let c0_i32_6 : BitVec 32 := 0#32
    let v8 : BitVec 1 := Scalar.cmpi .ne v7 c0_i32_6
    ifB0 arg2 harg2 arg3 arg7 harg7 arg8 arg12 arg13 v0 do
      let c0_i32_7 : BitVec 32 := 0#32
      let v9 : BitVec 1 := Scalar.cmpi .sgt v0 c0_i32_7
      let v10 : BitVec 32 := Scalar.extui v9
      let c0_i32_8 : BitVec 32 := 0#32
      let v11 : BitVec 32 := Scalar.addi c0_i32_8 v10
      let c0_i32_9 : BitVec 32 := 0#32
      let v12 : BitVec 32 := Scalar.addi c0_i32_9 v0
      let c1 : Index := 1#32
      ld arg0 1 (by decide) (cntW (lst [v0]) 1) fun v13 hg => do
        have k0_hw1 : k0_chk1 v0 v13 := cast (by sl_kernel_rfl) hg
        let c0_i32_10 : BitVec 32 := 0#32
        let v14 : BitVec 1 := Scalar.cmpi .sgt v13 c0_i32_10
        let v15 : BitVec 32 := Scalar.extui v14
        let c0_i32_11 : BitVec 32 := 0#32
        let v16 : BitVec 1 := Scalar.cmpi .ne v15 c0_i32_11
        ifA arg9 arg10 (cntW (lst [v0]) 1) v12 v13 (cast (by sl_kernel_rfl) k0_hw1) 1 do
          let c0_i32_12 : BitVec 32 := 0#32
          let v17 : BitVec 1 := Scalar.cmpi .sgt v13 c0_i32_12
          let c4_i32_13 : BitVec 32 := 4#32
          let v18 : BitVec 1 := Scalar.cmpi .slt v11 c4_i32_13
          let v19 : BitVec 1 := Scalar.andi v17 v18
          let v20 : BitVec 32 := Scalar.extui v19
          let c0_i32_14 : BitVec 32 := 0#32
          let v21 : BitVec 1 := Scalar.cmpi .ne v20 c0_i32_14
          ifB arg2 harg2 arg3 arg7 harg7 arg8 arg12 arg13 (cntW (lst [v0]) 1) v13 (cast (by sl_kernel_rfl) k0_hw1) 1 (by decide) do
            let c0_i32_15 : BitVec 32 := 0#32
            let v22 : BitVec 1 := Scalar.cmpi .sgt v13 c0_i32_15
            let v23 : BitVec 32 := Scalar.extui v22
            let v24 : BitVec 32 := Scalar.addi v11 v23
            let v25 : BitVec 32 := Scalar.addi v12 v13
            let c2 : Index := 2#32
            ld arg0 2 (by decide) (cntW (lst [v0, v13]) 2) fun v26 hg => do
              have k0_hw2 : k0_chk2 v0 v13 v26 := cast (by sl_kernel_rfl) hg
              let c0_i32_16 : BitVec 32 := 0#32
              let v27 : BitVec 1 := Scalar.cmpi .sgt v26 c0_i32_16
              let v28 : BitVec 32 := Scalar.extui v27
              let c0_i32_17 : BitVec 32 := 0#32
              x160 arg0 harg0 arg1 harg1 arg2 harg2 arg3 harg3 arg4 harg4 arg5 harg5 arg6 harg6 arg7 harg7 arg8 harg8 arg9 harg9 arg10 harg10 arg11 arg12 arg13 (k0_mxu1) (v0) (v13) (v24) (v25) (v26) (k0_hw2) (v28) (c0_i32_17)

set_option maxHeartbeats 4000000 in
theorem q159 : (ch159 (F := F) arg0 harg0 arg1 harg1 arg2 harg2 arg3 harg3 arg4 harg4 arg5 harg5 arg6 harg6 arg7 harg7 arg8 harg8 arg9 harg9 arg10 harg10 arg11 arg12 arg13  >>= kk arg0 harg0 arg1 harg1 arg2 harg2 arg3 harg3 arg4 harg4 arg5 harg5 arg6 harg6 arg7 harg7 arg8 harg8 arg9 harg9 arg10 harg10 arg11 arg12 arg13) = x159 (F := F) arg0 harg0 arg1 harg1 arg2 harg2 arg3 harg3 arg4 harg4 arg5 harg5 arg6 harg6 arg7 harg7 arg8 harg8 arg9 harg9 arg10 harg10 arg11 arg12 arg13  :=
  (Prog.bind_assoc (k0_part159 arg0 harg0 arg1 harg1 arg2 harg2 arg3 harg3 arg4 harg4 arg5 harg5 arg6 harg6 arg7 harg7 arg8 harg8 arg9 harg9 arg10 harg10 arg11 arg12 arg13) (fun t : (Σ' (k0_mxu1 : Mxu F) (v0 : Elt F .i32) (v13 : Elt F .i32) (v24 : BitVec 32) (v25 : BitVec 32) (v26 : Elt F .i32) (k0_hw2 : k0_chk2 v0 v13 v26) (v28 : BitVec 32), BitVec 32) => ch160 arg0 harg0 arg1 harg1 arg2 harg2 arg3 harg3 arg4 harg4 arg5 harg5 arg6 harg6 arg7 harg7 arg8 harg8 arg9 harg9 arg10 harg10 arg11 arg12 arg13 (t.1) (t.2.1) (t.2.2.1) (t.2.2.2.1) (t.2.2.2.2.1) (t.2.2.2.2.2.1) (t.2.2.2.2.2.2.1) (t.2.2.2.2.2.2.2.1) (t.2.2.2.2.2.2.2.2)) (kk arg0 harg0 arg1 harg1 arg2 harg2 arg3 harg3 arg4 harg4 arg5 harg5 arg6 harg6 arg7 harg7 arg8 harg8 arg9 harg9 arg10 harg10 arg11 arg12 arg13)).trans
    ((congrArg (fun K => k0_part159 arg0 harg0 arg1 harg1 arg2 harg2 arg3 harg3 arg4 harg4 arg5 harg5 arg6 harg6 arg7 harg7 arg8 harg8 arg9 harg9 arg10 harg10 arg11 arg12 arg13 >>= K) (funext fun t => q160 arg0 harg0 arg1 harg1 arg2 harg2 arg3 harg3 arg4 harg4 arg5 harg5 arg6 harg6 arg7 harg7 arg8 harg8 arg9 harg9 arg10 harg10 arg11 arg12 arg13 (t.1) (t.2.1) (t.2.2.1) (t.2.2.2.1) (t.2.2.2.2.1) (t.2.2.2.2.2.1) (t.2.2.2.2.2.2.1) (t.2.2.2.2.2.2.2.1) (t.2.2.2.2.2.2.2.2))).trans
      ((p159_bind arg0 harg0 arg1 harg1 arg2 harg2 arg3 harg3 arg4 harg4 arg5 harg5 arg6 harg6 arg7 harg7 arg8 harg8 arg9 harg9 arg10 harg10 arg11 arg12 arg13 (fun t => x160 arg0 harg0 arg1 harg1 arg2 harg2 arg3 harg3 arg4 harg4 arg5 harg5 arg6 harg6 arg7 harg7 arg8 harg8 arg9 harg9 arg10 harg10 arg11 arg12 arg13 (t.1) (t.2.1) (t.2.2.1) (t.2.2.2.1) (t.2.2.2.2.1) (t.2.2.2.2.2.1) (t.2.2.2.2.2.2.1) (t.2.2.2.2.2.2.2.1) (t.2.2.2.2.2.2.2.2))).trans (by sl_kernel_rfl)))

set_option maxHeartbeats 4000000 in
theorem body_eq : cc0_grouped_matmul (F := F) arg0 harg0 arg1 harg1 arg2 harg2 arg3 harg3 arg4 harg4 arg5 harg5 arg6 harg6 arg7 harg7 arg8 harg8 arg9 harg9 arg10 harg10 arg11 arg12 arg13 = body arg0 arg1 harg1 arg2 harg2 arg3 arg4 harg4 arg5 harg5 arg6 harg6 arg7 harg7 arg8 arg9 arg10 arg11 arg12 arg13 :=
  (cc0_ch (F := F) arg0 harg0 arg1 harg1 arg2 harg2 arg3 harg3 arg4 harg4 arg5 harg5 arg6 harg6 arg7 harg7 arg8 harg8 arg9 harg9 arg10 harg10 arg11 arg12 arg13).trans ((q159 (F := F) arg0 harg0 arg1 harg1 arg2 harg2 arg3 harg3 arg4 harg4 arg5 harg5 arg6 harg6 arg7 harg7 arg8 harg8 arg9 harg9 arg10 harg10 arg11 arg12 arg13).trans (by sl_kernel_rfl))

end Prog
end Cert.KernelIdeal.Str
-- ==== Proof.Launch.lean ====
module

public import proofs.«01_k».proof.Proof.Wp3
public import proofs.«01_k».proof.Proof.Body
public import proofs.«01_k».proof.Proof.Gen.KernelIdeal.Frame
public import Idealize.ShloMosaic.Lib.Pipeline.Routed

@[expose] public section

/-! The launch: what the body is given when the region starts, what it gives back, and the run of the whole program. -/

noncomputable section

namespace Cert.KernelIdeal.Str

open Idealize.ShloMosaic Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Cert.KernelIdeal Facts₀ Facts
open Idealize.ShloMosaic.Pipeline (UC Dat)
open Idealize.ShloMosaic.Transfers Idealize.ShloMosaic.ValueIdx

variable {F : FTy → Type} [FloatOps F] [Facts]

/-! ## The operands -/

abbrev aX : Memref sig .tc .hbm S64x7168 .bf16 := Memref.whole main_arg0
abbrev aW : Memref sig .tc .hbm S32x3584x768 .i8 := Memref.whole main_arg2
abbrev aS : Memref sig .tc .hbm S32x56x768 .f32 := Memref.whole main_arg3
abbrev b5 : Memref sig .tc .vmem S64x7168 .bf16 := Memref.whole cc0_scratch0
abbrev b6 : Memref sig .tc .vmem S64x7168 .bf16 := Memref.whole cc0_scratch1
abbrev b7 : Memref sig .tc .vmem S4x3584x768 .i8 := Memref.whole cc0_scratch2
abbrev b8 : Memref sig .tc .vmem S4x56x768 .f32 := Memref.whole cc0_scratch3
abbrev b9 : Memref sig .tc .smem S33 .i32 := Memref.whole cc0_scratch4
abbrev b10 : Memref sig .tc .smem S33 .i32 := Memref.whole cc0_scratch5

/-! ## Four slots of a buffer -/

theorem mem7 (n : Nat) (hn : n < 4) (i : S4x3584x768.Idx) : i ∈ (sl7 b7 n hn).view.set ↔ (i 0).val = n := by
  have hs : (sl7 b7 n hn).view.set = (rSlotW n hn).set := (View.set_reshape _ _).trans (View.set_slice_whole _ _)
  rw [hs]
  refine Rect.mem_set_unit.trans ⟨fun h => ?_, fun h a => ?_⟩
  · have h0 := h 0
    have e1 : (![n, 0, 0] : Fin 3 → Nat) 0 = n := rfl
    have e2 : S1x3584x768.size 0 = 1 := rfl
    have h1 : n ≤ (i 0).val := h0.1
    have h2 : (i 0).val < n + 1 := h0.2
    omega
  · match a with
    | ⟨0, _⟩ => exact ⟨le_of_eq h.symm, show (i 0).val < n + 1 by omega⟩
    | ⟨1, _⟩ => exact ⟨Nat.zero_le _, show (i 1).val < 0 + 3584 from by have : (i 1).val < 3584 := (i 1).isLt; omega⟩
    | ⟨2, _⟩ => exact ⟨Nat.zero_le _, show (i 2).val < 0 + 768 from by have : (i 2).val < 768 := (i 2).isLt; omega⟩

theorem mem8 (n : Nat) (hn : n < 4) (i : S4x56x768.Idx) : i ∈ (sl8 b8 n hn).view.set ↔ (i 0).val = n := by
  have hs : (sl8 b8 n hn).view.set = (rSlotS n hn).set := (View.set_reshape _ _).trans (View.set_slice_whole _ _)
  rw [hs]
  refine Rect.mem_set_unit.trans ⟨fun h => ?_, fun h a => ?_⟩
  · have h0 := h 0
    have h1 : n ≤ (i 0).val := h0.1
    have h2 : (i 0).val < n + 1 := h0.2
    omega
  · match a with
    | ⟨0, _⟩ => exact ⟨le_of_eq h.symm, show (i 0).val < n + 1 by omega⟩
    | ⟨1, _⟩ => exact ⟨Nat.zero_le _, show (i 1).val < 0 + 56 from by have : (i 1).val < 56 := (i 1).isLt; omega⟩
    | ⟨2, _⟩ => exact ⟨Nat.zero_le _, show (i 2).val < 0 + 768 from by have : (i 2).val < 768 := (i 2).isLt; omega⟩

theorem sep4 (Φ : Fin 4 → sProp (Res F)) : bigSep Finset.univ Φ = iprop(Φ 0 ∗ Φ 1 ∗ Φ 2 ∗ Φ 3) :=
  (BI.bigSep_univ_eq_bigSepL [0, 1, 2, 3] (by decide) (by decide) Φ).trans rfl

section Slots4
variable (c : Dev nD) {ℓ : Loc nD τ sig} (K : Fin 4 → Finset (Idx ℓ)) (key : Idx ℓ → Nat) (hkey : ∀ i, key i < 4)
  (hK : ∀ n i, i ∈ K n ↔ key i = n.val)

include hK in
theorem K_disj : ∀ t ∈ (Finset.univ : Finset (Fin 4)), ∀ t' ∈ (Finset.univ : Finset (Fin 4)), t ≠ t' → Disjoint (K t) (K t') := by
  intro t _ t' _ h
  refine Finset.disjoint_left.mpr fun i hi hi' => h (Fin.ext ?_)
  rw [← (hK t i).mp hi, ← (hK t' i).mp hi']

include hkey hK in
theorem K_cover : (Finset.univ : Finset (Fin 4)).biUnion K = Finset.univ := by
  ext i
  simp only [Finset.mem_biUnion, Finset.mem_univ, true_and, iff_true]
  exact ⟨⟨key i, hkey i⟩, (hK _ i).mpr rfl⟩

include hkey hK in
theorem split4 (f : Buf (Elt F) ℓ) :
    (ℓ ↦{fullShare} f : sProp (Res F)) ⊢ iprop((ℓ ↦[K 0]{fullShare} f) ∗ (ℓ ↦[K 1]{fullShare} f) ∗ (ℓ ↦[K 2]{fullShare} f) ∗ (ℓ ↦[K 3]{fullShare} f)) := by
  rw [← sep4 fun n => (ℓ ↦[K n]{fullShare} f : sProp (Res F)),
    ← pointsTo_biUnion (ℓ := ℓ) (q := fullShare) (f := f) Finset.univ K (K_disj K key hK), K_cover K key hkey hK]

include hkey hK in
theorem join4 (f0 f1 f2 f3 : Buf (Elt F) ℓ) :
    iprop((ℓ ↦[K 0]{fullShare} f0) ∗ (ℓ ↦[K 1]{fullShare} f1) ∗ (ℓ ↦[K 2]{fullShare} f2) ∗ (ℓ ↦[K 3]{fullShare} f3))
      ⊢ (iprop(∃ f, ℓ ↦{fullShare} f) : sProp (Res F)) := by
  have h := pointsTo_biUnion_join (Ix := Unit) (Name := ℕ) (U := UC sig nD τ) (Lvl := ℕ) (q := fullShare) Finset.univ K (![f0, f1, f2, f3]) f0 (K_disj K key hK)
  rw [sep4, K_cover K key hkey hK] at h
  refine (show _ ⊢ _ from h).trans ?_
  iintro ⟨%g, -, H⟩
  iexists g
  iexact H

end Slots4

section SlotsBuf
variable (c : Dev nD)

theorem split7 (f : Buf (Elt F) ((c : Thread nD τ).loc cc0_scratch2)) :
    (((c : Thread nD τ).loc cc0_scratch2) ↦{fullShare} f : sProp (Res F))
      ⊢ iprop((∃ Y, Own c (sl7 b7 0 (by decide)) Y) ∗ (∃ Y, Own c (sl7 b7 1 (by decide)) Y) ∗ (∃ Y, Own c (sl7 b7 2 (by decide)) Y) ∗ (∃ Y, Own c (sl7 b7 3 (by decide)) Y)) := by
  refine (split4 (F := F) (ℓ := (c : Thread nD τ).loc cc0_scratch2) (fun n => (sl7 b7 n.val n.isLt).view.set) (fun i => ((show S4x3584x768.Idx from i) 0).val)
    (fun i => ((show S4x3584x768.Idx from i) 0).isLt) (fun n i => mem7 n.val n.isLt i) f).trans ?_
  iintro ⟨H0, H1, H2, H3⟩
  unfold Own owns
  isplitl [H0]
  · iexists _; iexists f; isplitr
    · ipureintro; rfl
    · iexact H0
  isplitl [H1]
  · iexists _; iexists f; isplitr
    · ipureintro; rfl
    · iexact H1
  isplitl [H2]
  · iexists _; iexists f; isplitr
    · ipureintro; rfl
    · iexact H2
  · iexists _; iexists f; isplitr
    · ipureintro; rfl
    · iexact H3

theorem split8 (f : Buf (Elt F) ((c : Thread nD τ).loc cc0_scratch3)) :
    (((c : Thread nD τ).loc cc0_scratch3) ↦{fullShare} f : sProp (Res F))
      ⊢ iprop((∃ Y, Own c (sl8 b8 0 (by decide)) Y) ∗ (∃ Y, Own c (sl8 b8 1 (by decide)) Y) ∗ (∃ Y, Own c (sl8 b8 2 (by decide)) Y) ∗ (∃ Y, Own c (sl8 b8 3 (by decide)) Y)) := by
  refine (split4 (F := F) (ℓ := (c : Thread nD τ).loc cc0_scratch3) (fun n => (sl8 b8 n.val n.isLt).view.set) (fun i => ((show S4x56x768.Idx from i) 0).val)
    (fun i => ((show S4x56x768.Idx from i) 0).isLt) (fun n i => mem8 n.val n.isLt i) f).trans ?_
  iintro ⟨H0, H1, H2, H3⟩
  unfold Own owns
  isplitl [H0]
  · iexists _; iexists f; isplitr
    · ipureintro; rfl
    · iexact H0
  isplitl [H1]
  · iexists _; iexists f; isplitr
    · ipureintro; rfl
    · iexact H1
  isplitl [H2]
  · iexists _; iexists f; isplitr
    · ipureintro; rfl
    · iexact H2
  · iexists _; iexists f; isplitr
    · ipureintro; rfl
    · iexact H3

theorem join7 : iprop((∃ Y, Own c (sl7 b7 0 (by decide)) Y) ∗ (∃ Y, Own c (sl7 b7 1 (by decide)) Y) ∗ (∃ Y, Own c (sl7 b7 2 (by decide)) Y) ∗ (∃ Y, Own c (sl7 b7 3 (by decide)) Y))
    ⊢ (iprop(∃ f : Buf (Elt F) ((c : Thread nD τ).loc cc0_scratch2), ((c : Thread nD τ).loc cc0_scratch2) ↦{fullShare} f) : sProp (Res F)) := by
  unfold Own owns
  iintro ⟨⟨%Y0, %f0, -, H0⟩, ⟨%Y1, %f1, -, H1⟩, ⟨%Y2, %f2, -, H2⟩, ⟨%Y3, %f3, -, H3⟩⟩
  iapply (join4 (F := F) (ℓ := (c : Thread nD τ).loc cc0_scratch2) (fun n => (sl7 b7 n.val n.isLt).view.set) (fun i => ((show S4x3584x768.Idx from i) 0).val)
    (fun i => ((show S4x3584x768.Idx from i) 0).isLt) (fun n i => mem7 n.val n.isLt i) f0 f1 f2 f3)
  isplitl [H0]; · iexact H0
  isplitl [H1]; · iexact H1
  isplitl [H2]; · iexact H2
  iexact H3

theorem join8 : iprop((∃ Y, Own c (sl8 b8 0 (by decide)) Y) ∗ (∃ Y, Own c (sl8 b8 1 (by decide)) Y) ∗ (∃ Y, Own c (sl8 b8 2 (by decide)) Y) ∗ (∃ Y, Own c (sl8 b8 3 (by decide)) Y))
    ⊢ (iprop(∃ f : Buf (Elt F) ((c : Thread nD τ).loc cc0_scratch3), ((c : Thread nD τ).loc cc0_scratch3) ↦{fullShare} f) : sProp (Res F)) := by
  unfold Own owns
  iintro ⟨⟨%Y0, %f0, -, H0⟩, ⟨%Y1, %f1, -, H1⟩, ⟨%Y2, %f2, -, H2⟩, ⟨%Y3, %f3, -, H3⟩⟩
  iapply (join4 (F := F) (ℓ := (c : Thread nD τ).loc cc0_scratch3) (fun n => (sl8 b8 n.val n.isLt).view.set) (fun i => ((show S4x56x768.Idx from i) 0).val)
    (fun i => ((show S4x56x768.Idx from i) 0).isLt) (fun n i => mem8 n.val n.isLt i) f0 f1 f2 f3)
  isplitl [H0]; · iexact H0
  isplitl [H1]; · iexact H1
  isplitl [H2]; · iexact H2
  iexact H3

end SlotsBuf

/-! ## The body's invariant, and the proof data -/

/-- The kernel's own semaphores: the activations', the four slots' of the weights, the four slots' of the scales. -/
abbrev osem0 : Fin 9 → SemLoc sig := fun k =>
  (![SemLoc.dma 2, SemLoc.dma 3, SemLoc.dma 4, SemLoc.dma 5, SemLoc.dma 6, SemLoc.dma 7, SemLoc.dma 8, SemLoc.dma 9, SemLoc.dma 10] : Fin 9 → SemLoc sig) k
theorem ownSemFacts0 : Pipeline.OwnSemFacts spec0 osem0 := by decide
theorem ownSems0_eq (c : Dev nD) :
    (Pipeline.ownSems0 (Ix := Unit) (Name := ℕ) (U := UC sig nD τ) (Lvl := ℕ) (Val := Elt F) (τ := τ) osem0 c : sProp (Res F))
      = iprop(semVal ((c : Thread nD τ), SemLoc.dma cc0_scratch6.sem) 0
        ∗ semVal ((c : Thread nD τ), smS cc0_scratch7 0 (by decide)) 0 ∗ semVal ((c : Thread nD τ), smS cc0_scratch7 1 (by decide)) 0
        ∗ semVal ((c : Thread nD τ), smS cc0_scratch7 2 (by decide)) 0 ∗ semVal ((c : Thread nD τ), smS cc0_scratch7 3 (by decide)) 0
        ∗ semVal ((c : Thread nD τ), smS cc0_scratch8 0 (by decide)) 0 ∗ semVal ((c : Thread nD τ), smS cc0_scratch8 1 (by decide)) 0
        ∗ semVal ((c : Thread nD τ), smS cc0_scratch8 2 (by decide)) 0 ∗ semVal ((c : Thread nD τ), smS cc0_scratch8 3 (by decide)) 0) := by
  rw [Pipeline.ownSems0_eq_of_list c osem0 [0, 1, 2, 3, 4, 5, 6, 7, 8] (by decide) (by decide)]; sl_kernel_rfl

variable (m : (ℓ : Loc nD τ sig) → Buf (Elt F) ℓ) (ρ : Dev nD → PrngReg)

def R0 : Finset (Ref sig .tc) := {main_arg0, main_arg2, main_arg3}
theorem R0_sub : R0 ⊆ Pipeline.restRefs sig spec0 := by decide
theorem routed_eq (c : Dev nD) :
    (Pipeline.routed R0 c (Gen.V m c) : sProp (Res F))
      = iprop((((c : Thread nD τ).loc main_arg0) ↦{fullShare} m ((c : Thread nD τ).loc main_arg0))
        ∗ (((c : Thread nD τ).loc main_arg2) ↦{fullShare} m ((c : Thread nD τ).loc main_arg2))
        ∗ (((c : Thread nD τ).loc main_arg3) ↦{fullShare} m ((c : Thread nD τ).loc main_arg3))) := by
  unfold Pipeline.routed; rw [BI.bigSep_eq_bigSepL_of_eq [main_arg0, main_arg2, main_arg3] (by decide) (by decide)]; rfl

/-- What the body keeps between its points. -/
def Phi (c : Dev nD) : sProp (Res F) :=
  iprop((((c : Thread nD τ).loc main_arg2) ↦{shareDrop fullShare 4} m ((c : Thread nD τ).loc main_arg2))
    ∗ (((c : Thread nD τ).loc main_arg3) ↦{shareDrop fullShare 4} m ((c : Thread nD τ).loc main_arg3))
    ∗ (∃ r, prngReg c r)
    ∗ (aX.view.loc (c : Thread nD τ) ↦[aX.view.set]{fullShare} m ((c : Thread nD τ).loc main_arg0)) ∗ (∃ Y, Own c b5 (F := F) Y) ∗ (∃ Y, Own c b6 (F := F) Y)
    ∗ (∃ X, Own c b9 (F := F) X) ∗ (∃ X, Own c b10 (F := F) X) ∗ semVal ((c : Thread nD τ), SemLoc.dma cc0_scratch6.sem) 0
    ∗ Ring c aW aS b7 b8 cc0_scratch7 cc0_scratch8 (m ((c : Thread nD τ).loc main_arg2)) (m ((c : Thread nD τ).loc main_arg3)) fun _ => none)

theorem o5 (c : Dev nD) (f : Buf (Elt F) ((c : Thread nD τ).loc cc0_scratch0)) : (Own c b5 f : sProp (Res F)) = (((c : Thread nD τ).loc cc0_scratch0) ↦{fullShare} f) :=
  owns_whole (c : Thread nD τ) cc0_scratch0 fullShare f
theorem o6 (c : Dev nD) (f : Buf (Elt F) ((c : Thread nD τ).loc cc0_scratch1)) : (Own c b6 f : sProp (Res F)) = (((c : Thread nD τ).loc cc0_scratch1) ↦{fullShare} f) :=
  owns_whole (c : Thread nD τ) cc0_scratch1 fullShare f
theorem o9 (c : Dev nD) (f : Buf (Elt F) ((c : Thread nD τ).loc cc0_scratch4)) : (Own c b9 f : sProp (Res F)) = (((c : Thread nD τ).loc cc0_scratch4) ↦{fullShare} f) :=
  owns_whole (c : Thread nD τ) cc0_scratch4 fullShare f
theorem o10 (c : Dev nD) (f : Buf (Elt F) ((c : Thread nD τ).loc cc0_scratch5)) : (Own c b10 f : sProp (Res F)) = (((c : Thread nD τ).loc cc0_scratch5) ↦{fullShare} f) :=
  owns_whole (c : Thread nD τ) cc0_scratch5 fullShare f

theorem hin (c : Dev nD) : Pipeline.Ends spec0 osem0 R0 c (Gen.V m c) ⊢ Phi m c := by
  unfold Pipeline.Ends
  rw [routed_eq, ownSems0_eq, Gen.scopedRest0_eq]
  unfold Phi Ring Slot Idle
  iintro ⟨⟨A0, A2, A3⟩, ⟨S, W0, W1, W2, W3, X0, X1, X2, X3⟩, ⟨⟨%f5, B5⟩, ⟨%f6, B6⟩, ⟨%f7, B7⟩, ⟨%f8, B8⟩, ⟨%f9, B9⟩, ⟨%f10, B10⟩⟩, P⟩
  ihave T2 := (pointsTo_toks_split fullShare 4) $$ A2
  ihave T3 := (pointsTo_toks_split fullShare 4) $$ A3
  rw [sep4, sep4]
  icases T2 with ⟨D2, Q0, Q1, Q2, Q3⟩
  icases T3 with ⟨D3, U0, U1, U2, U3⟩
  ihave L7 := (split7 c f7) $$ B7
  ihave L8 := (split8 c f8) $$ B8
  icases L7 with ⟨C0, C1, C2, C3⟩
  icases L8 with ⟨E0, E1, E2, E3⟩
  isplitl [D2]; · iexact D2
  isplitl [D3]; · iexact D3
  isplitl [P]; · iexact P
  isplitl [A0]
  · rw [show aX.view.set = Finset.univ from View.set_whole _]
    iexact A0
  isplitl [B5]
  · iexists f5
    rw [o5]
    iexact B5
  isplitl [B6]
  · iexists f6
    rw [o6]
    iexact B6
  isplitl [B9]
  · iexists f9
    rw [o9]
    iexact B9
  isplitl [B10]
  · iexists f10
    rw [o10]
    iexact B10
  isplitl [S]; · iexact S
  rw [show aW.view.set = Finset.univ from View.set_whole _, show aS.view.set = Finset.univ from View.set_whole _]
  isplitl [W0 X0 C0 E0 Q0 U0]
  · isplitl [W0]; · iexact W0
    isplitl [X0]; · iexact X0
    isplitl [C0]; · iexact C0
    isplitl [E0]; · iexact E0
    isplitl [Q0]; · iexact Q0
    iexact U0
  isplitl [W1 X1 C1 E1 Q1 U1]
  · isplitl [W1]; · iexact W1
    isplitl [X1]; · iexact X1
    isplitl [C1]; · iexact C1
    isplitl [E1]; · iexact E1
    isplitl [Q1]; · iexact Q1
    iexact U1
  isplitl [W2 X2 C2 E2 Q2 U2]
  · isplitl [W2]; · iexact W2
    isplitl [X2]; · iexact X2
    isplitl [C2]; · iexact C2
    isplitl [E2]; · iexact E2
    isplitl [Q2]; · iexact Q2
    iexact U2
  isplitl [W3]; · iexact W3
  isplitl [X3]; · iexact X3
  isplitl [C3]; · iexact C3
  isplitl [E3]; · iexact E3
  isplitl [Q3]; · iexact Q3
  iexact U3

theorem hout (c : Dev nD) : Phi m c ⊢ Pipeline.Ends spec0 osem0 R0 c (Gen.V m c) := by
  unfold Pipeline.Ends
  rw [routed_eq, ownSems0_eq, Gen.scopedRest0_eq]
  unfold Phi Ring Slot Idle
  rw [show aW.view.set = Finset.univ from View.set_whole _, show aS.view.set = Finset.univ from View.set_whole _, show aX.view.set = Finset.univ from View.set_whole _]
  simp only [o5, o6, o9, o10]
  iintro ⟨D2, D3, P, A0, ⟨%f5, B5⟩, ⟨%f6, B6⟩, ⟨%f9, B9⟩, ⟨%f10, B10⟩, S, ⟨W0, X0, C0, E0, Q0, U0⟩, ⟨W1, X1, C1, E1, Q1, U1⟩, ⟨W2, X2, C2, E2, Q2, U2⟩, ⟨W3, X3, C3, E3, Q3, U3⟩⟩
  isplitl [A0 D2 D3 Q0 Q1 Q2 Q3 U0 U1 U2 U3]
  · isplitl [A0]; · iexact A0
    isplitl [D2 Q0 Q1 Q2 Q3]
    · iapply (pointsTo_toks_join fullShare 4)
      rw [sep4]
      isplitl [D2]; · iexact D2
      isplitl [Q0]; · iexact Q0
      isplitl [Q1]; · iexact Q1
      isplitl [Q2]; · iexact Q2
      iexact Q3
    · iapply (pointsTo_toks_join fullShare 4)
      rw [sep4]
      isplitl [D3]; · iexact D3
      isplitl [U0]; · iexact U0
      isplitl [U1]; · iexact U1
      isplitl [U2]; · iexact U2
      iexact U3
  isplitl [S W0 W1 W2 W3 X0 X1 X2 X3]
  · isplitl [S]; · iexact S
    isplitl [W0]; · iexact W0
    isplitl [W1]; · iexact W1
    isplitl [W2]; · iexact W2
    isplitl [W3]; · iexact W3
    isplitl [X0]; · iexact X0
    isplitl [X1]; · iexact X1
    isplitl [X2]; · iexact X2
    iexact X3
  isplitr [P]
  · isplitl [B5]; · iexists f5; iexact B5
    isplitl [B6]; · iexists f6; iexact B6
    isplitl [C0 C1 C2 C3]
    · iapply (join7 c)
      isplitl [C0]; · iexact C0
      isplitl [C1]; · iexact C1
      isplitl [C2]; · iexact C2
      iexact C3
    isplitl [E0 E1 E2 E3]
    · iapply (join8 c)
      isplitl [E0]; · iexact E0
      isplitl [E1]; · iexact E1
      isplitl [E2]; · iexact E2
      iexact E3
    isplitl [B9]; · iexists f9; iexact B9
    iexists f10; iexact B10
  iexact P

/-- What the kernel computes, off the contents of its four arguments. -/
def outAt (c : Dev nD) (t : Fin cfg0.N) : S64x768.Idx → Elt F .bf16 :=
  resV (mEnd c aX aW aS (m ((c : Thread nD τ).loc main_arg0)) (m ((c : Thread nD τ).loc main_arg2)) (m ((c : Thread nD τ).loc main_arg3)) (Gen.iblk m c 0 t))

def dats (_ : Fin 1) (c : Dev nD) : Dat τ (Elt F) Unit ℕ (UC sig nD τ) ℕ cfg0 c where
  A w := Gen.V m c (Pipeline.arrRef spec0 w)
  after w t := match w with
    | ⟨0, _⟩ => Gen.iblk m c 0 t
    | ⟨1, _⟩ => outAt m c t
  Φ _ := Phi m c
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = Gen.iblk m c 0 t := rfl
theorem after0_1 (c : Dev nD) (t : Fin cfg0.N) : (dats m 0 c).after 1 t = outAt m c t := rfl

theorem before0_0 (c : Dev nD) (t : Fin cfg0.N) (d) : (dats m 0 c).before 0 t d = Gen.iblk m c 0 t :=
  ((dats m 0 c).before_in_eq_fetched 0 rfl (fun _ => rfl) (fun _ _ _ => rfl) (fun t => by rw [after0_0]; unfold Dat.blockOf Gen.iblk; rw [A_eq]; try rfl) t d).trans
    (by unfold Dat.fetched Dat.blockOf Gen.iblk; rw [A_eq]; try rfl)

def bodyPre (c : Dev nD) (t : Fin cfg0.N) : sProp (Res F) :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d)))
def bodyPost (c : Dev nD) (t : Fin cfg0.N) : sProp (Res F) :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t))

theorem sound_body (c : Dev nD) (t : Fin cfg0.N) :
    bodyPre m c t ⊢ wp frame (wpE (defs₀ (F := F)) Variants.none c none) Set.univ (Gen.bodyAt0 t) (fun _ => bodyPost m c t) := by
  unfold Gen.bodyAt0
  rw [body_eq]
  unfold bodyPre bodyPost
  rw [show (dats m 0 c).Φ t.succ = (dats m 0 c).Φ t.castSucc from rfl, after0_0, after0_1]
  rw [show (dats m 0 c).Φ t.castSucc = Phi m c from rfl]
  unfold Dat.owesAt Pipeline.owesWithin
  rw [show (dats m 0 c).owed t.castSucc = 0 from rfl, show (dats m 0 c).owed t.succ = 0 from rfl]
  unfold Phi
  iintro ⟨⟨D2, D3, P, A0, B5, B6, B9, B10, S, R⟩, ⟨%W, -, HW⟩, ⟨%d0, H0⟩, ⟨%d1, H1⟩⟩
  rw [before0_0]
  iapply (wp_body (F := F) c (Gen.st0_0 t) aX (Memref.isWhole_whole _) aW (Memref.isWhole_whole _) aS (Gen.st0_1 t) (hstage0_1 0) b5 (Memref.isWhole_whole _)
    b6 (Memref.isWhole_whole _) b7 (Memref.isWhole_whole _) b8 b9 b10 cc0_scratch6 cc0_scratch7 cc0_scratch8
    (m ((c : Thread nD τ).loc main_arg0)) (m ((c : Thread nD τ).loc main_arg2)) (m ((c : Thread nD τ).loc main_arg3)) fullShare (Gen.iblk m c 0 t)) $$ [A0 B5 B6 B9 B10 S R HW H0 H1]
  · isplitl [H0]; · iexact H0
    isplitl [H1]; · iexists ((dats m 0 c).before 1 t d1); iexact H1
    unfold Inv
    isplitl [A0]; · iexact A0
    isplitl [B5]; · iexact B5
    isplitl [B6]; · iexact B6
    isplitl [B9]; · iexact B9
    isplitl [B10]; · iexact B10
    isplitl [S]; · iexact S
    isplitl [R]; · iexact R
    iexists W; iexact HW
  unfold Inv
  iintro ⟨H0, H1, A0, B5, B6, B9, B10, S, R, ⟨%W', HW⟩⟩
  isplitr [H0 H1 HW]
  · isplitl [D2]; · iexact D2
    isplitl [D3]; · iexact D3
    isplitl [P]; · iexact P
    isplitl [A0]; · iexact A0
    isplitl [B5]; · iexact B5
    isplitl [B6]; · iexact B6
    isplitl [B9]; · iexact B9
    isplitl [B10]; · iexact B10
    isplitl [S]; · iexact S
    iexact R
  isplitl [HW]
  · iexists W'
    isplitr
    · ipureintro; exact fun x _ => Or.inl (Set.mem_univ x)
    · iexact HW
  isplitl [H0]; · iexact H0
  iexact H1

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : Pipeline.BodyObligation (dats (F := F) m 0 c) (defs₀ (F := F)) Variants.none () Set.univ := fun t => by
  rw [Gen.bigSep_W0, Gen.bigSep_W0, defs₀_row]
  exact triple_restated (sound_body m c t) rfl .rfl fun _ => .rfl

theorem hmain : Pipeline.HMain (Ix := Unit) (Name := ℕ) (U := UC sig nD τ) (Lvl := ℕ) cfgs 0 defs₀ Variants.none m (main (F := F)) (Gen.V m) :=
  Pipeline.hmain_region cfgs 0 defs₀ Variants.none m main fun c => (Gen.main_chain c).trans rfl

set_option backward.isDefEq.respectTransparency.types false in
theorem run_main : θ_run defs (onTc (τ := τ) (main (F := F))) ⟨m, fun _ => 0, ρ⟩
    (fun r => Pipeline.RoutedPost cfgs (dats m) 0 R0 (Gen.V m) (Gen.V m) r ∧ r.2.sem = fun _ => 0) :=
  Pipeline.θ_run_frame_routed (Q' := _) cfgs (dats m) (0 : Fin 1) Gen.launch0 (osem := osem0) ownSemFacts0 defs₀ Variants.none m ρ main
    (hbody := fun c => (body_obligation m c).loose) (hshare := fun c => (dats m 0 c).share_full fun _ => rfl)
    (howed := fun _ _ => rfl) (V := Gen.V m) (hmain := hmain m) (hA := A_eq m) (R := R0) (hR := R0_sub) (Y := Gen.V m)
    (hin := hin m) (hout := hout m) (hQ' := fun _ h => h)

/-- The whole program's run: it ends, its arguments unchanged, every semaphore at zero, and the result at what the body
left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).2.1 main_arg0 (by decide),
      ((h.1 c).1 0).trans (((dats m 0 c).arrAt_in 0 rfl _).trans ((A_eq m c 0).trans (Gen.V_main_arg1 m c))),
      (h.1 c).2.1 main_arg2 (by decide), (h.1 c).2.1 main_arg3 (by decide)⟩, h.2⟩) (run_main m ρ)

/-- The same with the result. -/
theorem run_value : θ_run defs (onTc (τ := τ) (main (F := F))) ⟨m, fun _ => 0, ρ⟩ (fun r => ∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 1, (h.1 c).2.1 main_arg0 (by decide),
      ((h.1 c).1 0).trans (((dats m 0 c).arrAt_in 0 rfl _).trans ((A_eq m c 0).trans (Gen.V_main_arg1 m c))),
      (h.1 c).2.1 main_arg2 (by decide), (h.1 c).2.1 main_arg3 (by decide)⟩) (run_main m ρ)

end Cert.KernelIdeal.Str
-- ==== Proof.Frames.lean ====
module

public import proofs.«01_k».proof.Proof.Launch
public import proofs.«01_k».proof.Defs

@[expose] public section

/-! The kernel's frame at any reading of the floats, and the same of the kernel as printed. -/

noncomputable section

namespace Cert.KernelIdeal.Str

open Idealize.ShloMosaic Idealize.ShloMosaic.TcCoe Idealize.SL.Sem

/-- The run ends, the arguments are unchanged, every semaphore reads zero. -/
def Quiet (F : FTy → Type) [FloatOps F] [Cert.KernelIdeal.Facts] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem quiet (F : FTy → Type) [FloatOps F] [Cert.KernelIdeal.Facts] : Quiet F := fun m g _ => frame m g

/-- The kernel as printed is the same program. -/
theorem printed_eq [Cert.Kernel.Facts] [Cert.KernelIdeal.Facts] : Cert.quiescent_Kernel = Quiet Bits := by sl_kernel_rfl

end Cert.KernelIdeal.Str
-- ==== Proof.VMx.lean ====
module

public import proofs.«01_k».proof.Proof.Wp3
public import Idealize.ShloMosaic.Lib.MatmulPlain

@[expose] public section

/-! Over the reals, what the two matrix units accumulate over a trip. -/

noncomputable section

namespace Cert.KernelIdeal.Str

open Idealize.ShloMosaic Idealize.ShloMosaic.TcCoe
open Cert.KernelIdeal Facts₀ Facts Idealize.ShloMosaic.ValueIdx

variable [Facts]

/-- One accumulator row block of a unit. -/
def accR (m : Mxu Ideal) (q : Fin 2) (n : Nat) (h : n < 3) (i : S64x256.Idx) : EReal := m.read q (16 * n) (M := 64) (fitsB h) i

/-- What both units hold of a row block. -/
def tot (m : Mxu Ideal) (n : Nat) (h : n < 3) (i : S64x256.Idx) : EReal := accR m 0 n h i + accR m 1 n h i

theorem deposit_add (m : Mxu Ideal) (q : Fin 2) {A : Nat} (h : Mxu.Fits A 64) (i : S64x256.Idx) (x : EReal) :
    (Mxu.deposit (F := Ideal) (m.live q (Mxu.row h (i 0))) (m.read q A h i) x : EReal) = (m.read q A h i : EReal) + x := by
  cases hl : m.live q (Mxu.row h (i 0)) with
  | true => rfl
  | false =>
    have h0 : (m.read q A h i : EReal) = 0 := (m.clean q _ (i 1) hl).trans (by simp [FloatOps.ofBits, Ideal.ofBits, Ideal.ieee])
    rw [h0, zero_add]; rfl

section Tile
variable (W : S3584x768.Idx → Elt Ideal .i8) (S : S56x768.Idx → Elt Ideal .f32) (X : S64x7168.Idx → Elt Ideal .bf16) (mk : IVec S64x256 1)

/-- The product by tile `t`. -/
def pass (t : Nat) (i : S64x256.Idx) : EReal := if ht : t < 84 then
  FloatOps.mxuPass (F := Ideal) (φ₁ := .bf16) (φ₂ := .bf16) (DotDims.plain 64 256 256) (xTile mk fun x => X ((rX2 t ht).emb x)) (wTl (F := Ideal) W S t ht) i else 0

theorem accR_push (m : Mxu Ideal) (q : Fin 2) (n : Nat) (h : n < 3) (i : S64x256.Idx) (t : Nat) (ht : t < 84) :
    accR (pushM (F := Ideal) W S t ht m) q n h i = accR m q n h i := by
  unfold accR pushM
  rw [Mxu.read_pushed]

theorem accR_acc (m : Mxu Ideal) (q : Fin 2) (n : Nat) (h : n < 3) (i : S64x256.Idx) (t : Nat) (ht : t < 84)
    (hr : m.reg (un t) (rg t) = some ⟨.bf16, false, wTl (F := Ideal) W S t ht⟩) :
    accR (accM (F := Ideal) X mk t ht m) q n h i = accR m q n h i + if q = un t ∧ t % 3 = n then pass W S X mk t i else 0 := by
  unfold accR accM
  by_cases hq : q = un t ∧ t % 3 = n
  · obtain ⟨rfl, rfl⟩ := hq
    rw [if_pos ⟨rfl, rfl⟩, Mxu.read_accLhs]
    refine (deposit_add m _ _ i _).trans (congrArg _ ?_)
    unfold Mxu.staged pass
    rw [hr, dif_pos ht]
    rfl
  · rw [if_neg hq, add_zero, Mxu.read_accLhs_ne]
    by_cases h1 : q = un t
    · exact .inr (by have : t % 3 ≠ n := fun e => hq ⟨h1, e⟩; omega)
    · exact .inl h1

theorem tot_push (m : Mxu Ideal) (n : Nat) (h : n < 3) (i : S64x256.Idx) (t : Nat) (ht : t < 84) :
    tot (pushM (F := Ideal) W S t ht m) n h i = tot m n h i := by
  unfold tot; rw [accR_push, accR_push]

theorem tot_acc (m : Mxu Ideal) (n : Nat) (h : n < 3) (i : S64x256.Idx) (t : Nat) (ht : t < 84)
    (hr : m.reg (un t) (rg t) = some ⟨.bf16, false, wTl (F := Ideal) W S t ht⟩) :
    tot (accM (F := Ideal) X mk t ht m) n h i = tot m n h i + if t % 3 = n then pass W S X mk t i else 0 := by
  unfold tot
  rw [accR_acc W S X mk m 0 n h i t ht hr, accR_acc W S X mk m 1 n h i t ht hr]
  by_cases hn : t % 3 = n
  · have hu : un t = 0 ∨ un t = 1 := by
      generalize un t = u
      omega
    rcases hu with hu | hu <;> rw [hu] <;> simp [hn, add_assoc, add_comm, add_left_comm]
  · simp [hn]

theorem tot_tiles (n : Nat) (h : n < 3) (i : S64x256.Idx) : ∀ (r t : Nat) (ht : t + r ≤ 82) (m : Mxu Ideal), Reg (F := Ideal) W S t (t + 2) m →
    tot (tilesM (F := Ideal) W S X mk r t ht m) n h i = tot m n h i + ∑ s ∈ Finset.range r, if (t + s) % 3 = n then pass W S X mk (t + s) i else 0
  | 0, t, ht, m, hr => by simp [tilesM]
  | r + 1, t, ht, m, hr => by
    have h1 : Reg (F := Ideal) W S t (t + 2 + 1) (pushM W S (t + 2) (by omega) m) := Reg.push W S (lo := t) (t := t + 2) hr (by omega) (by omega) (by omega)
    have h2 : Reg (F := Ideal) W S (t + 1) (t + 1 + 2) (accM X mk t (by omega) (pushM W S (t + 2) (by omega) m)) := Reg.acc W S X mk (lo := t) (hi := t + 2 + 1) h1 (by omega) (by omega)
    unfold tilesM
    rw [tot_tiles n h i r (t + 1) (by omega) _ h2, tot_acc W S X mk _ n h i t (by omega) (h1.1 t (by omega) le_rfl (by omega)), tot_push W S m n h i (t + 2) (by omega),
      Finset.sum_range_succ', add_comm (∑ s ∈ Finset.range r, _), ← add_assoc]
    simp only [add_zero, add_assoc, add_comm 1]

theorem reg_tiles : ∀ (r t : Nat) (h : t + r ≤ 82) (m : Mxu Ideal), Reg (F := Ideal) W S t (t + 2) m →
    Reg (F := Ideal) W S (t + r) (t + r + 2) (tilesM (F := Ideal) W S X mk r t h m)
  | 0, t, h, m, hr => hr
  | r + 1, t, h, m, hr => by
    have h1 : Reg (F := Ideal) W S t (t + 2 + 1) (pushM W S (t + 2) (by omega) m) := Reg.push W S (lo := t) (t := t + 2) hr (by omega) (by omega) (by omega)
    have h2 : Reg (F := Ideal) W S (t + 1) (t + 1 + 2) (accM X mk t (by omega) (pushM W S (t + 2) (by omega) m)) := Reg.acc W S X mk (lo := t) (hi := t + 2 + 1) h1 (by omega) (by omega)
    rw [show t + (r + 1) = t + 1 + r by omega]
    exact reg_tiles r (t + 1) (by omega) _ h2

theorem tot_tail (m : Mxu Ideal) (hr : Reg (F := Ideal) W S 82 84 m) (n : Nat) (h : n < 3) (i : S64x256.Idx) :
    tot (accM (F := Ideal) X mk 83 (by decide) (accM (F := Ideal) X mk 82 (by decide) m)) n h i
      = tot m n h i + (if 82 % 3 = n then pass W S X mk 82 i else 0) + (if 83 % 3 = n then pass W S X mk 83 i else 0) := by
  have h4 : Reg (F := Ideal) W S (82 + 1) 84 (accM X mk 82 (by decide) m) := Reg.acc W S X mk (lo := 82) (hi := 84) hr (by omega) (by omega)
  rw [tot_acc W S X mk _ n h i 83 (by decide) (h4.1 83 (by decide) (by decide) (by decide)), tot_acc W S X mk m n h i 82 (by decide) (hr.1 82 (by decide) (by decide) (by decide))]

theorem tot_trip (m : Mxu Ideal) (hm : NoReg m) (n : Nat) (h : n < 3) (i : S64x256.Idx) :
    tot (tripM (F := Ideal) W S X mk m) n h i = tot m n h i + ∑ t ∈ Finset.range 84, if t % 3 = n then pass W S X mk t i else 0 := by
  have h0 := Reg.zero (F := Ideal) W S hm
  have h1 : Reg (F := Ideal) W S 0 (0 + 1) (pushM W S 0 (by decide) m) := Reg.push W S (lo := 0) (t := 0) h0 (by omega) (by omega) (by omega)
  have h2 : Reg (F := Ideal) W S 0 (0 + 2) (pushM W S 1 (by decide) (pushM W S 0 (by decide) m)) := Reg.push W S (lo := 0) (t := 1) h1 (by omega) (by omega) (by omega)
  have h3 := reg_tiles W S X mk 82 0 (by decide) _ h2
  unfold tripM
  refine (tot_tail W S X mk _ h3 n h i).trans ?_
  rw [tot_tiles W S X mk n h i 82 0 (by decide) _ h2, tot_push, tot_push, Finset.sum_range_succ _ 83, Finset.sum_range_succ _ 82]
  simp only [zero_add, add_assoc]

end Tile

theorem accR_init (q : Fin 2) (n : Nat) (h : n < 3) (i : S64x256.Idx) : accR (mxu0 : Mxu Ideal) q n h i = 0 :=
  ((mxu0 : Mxu Ideal).clean q _ (i 1) (mxu0_live q _)).trans (by simp [FloatOps.ofBits, Ideal.ofBits, Ideal.ieee])

theorem tot_init (n : Nat) (h : n < 3) (i : S64x256.Idx) : tot (mxu0 : Mxu Ideal) n h i = 0 := by
  unfold tot; rw [accR_init, accR_init, add_zero]

theorem accR_pop (m : Mxu Ideal) (q' q : Fin 2) (n' n : Nat) (h' : n' < 3) (h : n < 3) (hne : n' ≠ n) (i : S64x256.Idx) : accR (m.pop q' (16 * n') 64 (fitsB h')) q n h i = accR m q n h i := by
  unfold accR
  rw [Mxu.read_pop_ne]
  exact .inr (by omega)

theorem tot_pop2 (m : Mxu Ideal) (n' n : Nat) (h' : n' < 3) (h : n < 3) (hne : n' ≠ n) (i : S64x256.Idx) : tot (pop2 m n' h') n h i = tot m n h i := by
  unfold tot pop2
  rw [accR_pop _ _ _ n' n h' h hne, accR_pop _ _ _ n' n h' h hne, accR_pop _ _ _ n' n h' h hne, accR_pop _ _ _ n' n h' h hne]

theorem outT_at (m : Mxu Ideal) (n : Nat) (h : n < 3) (i : S64x256.Idx) : (outT m n h i : EReal) = tot m n h i := by
  show accR m 0 n h i + accR (m.pop 0 (16 * n) 64 (fitsB h)) 1 n h i = _
  unfold tot accR
  rw [Mxu.read_pop_ne _ _ _ _ _ _ _ (.inl (by decide))]

theorem tot_popN (m : Mxu Ideal) (i : S64x256.Idx) : ∀ n (h : n < 3), tot (popN m n) n h i = tot m n h i
  | 0, h => rfl
  | 1, h => tot_pop2 m 0 1 (by decide) _ (by decide) i
  | 2, h => (tot_pop2 (pop2 m 0 (by decide)) 1 2 (by decide) h (by decide) i).trans (tot_pop2 m 0 2 (by decide) h (by decide) i)

theorem resV_at (m : Mxu Ideal) (y : S64x768.Idx) (n : Nat) (h : n < 3) (hn : (y 1).val / 256 = n) :
    (resV m y : EReal) = tot m n h (ix2 (n0 := 64) (n1 := 256) (y 0) ⟨(y 1).val % 256, Nat.mod_lt _ (by decide)⟩) := by
  subst hn
  unfold resV
  rw [outT_at, tot_popN]

end Cert.KernelIdeal.Str
-- ==== Proof.VSum.lean ====
module

public import proofs.«01_k».proof.Proof.Count
public import proofs.«01_k».proof.Proof.Wp2

@[expose] public section

/-! Sums taken in another order, and the experts' row ranges. -/

noncomputable section

namespace Cert.KernelIdeal.Str

theorem sum_third {M : Type} [AddCommMonoid M] (n : Nat) (h : n < 3) (G : Nat → M) : ∀ K : Nat,
    (∑ t ∈ Finset.range (3 * K), if t % 3 = n then G (t / 3) else 0) = ∑ k ∈ Finset.range K, G k
  | 0 => rfl
  | K + 1 => by
    rw [show 3 * (K + 1) = 3 * K + 1 + 1 + 1 by omega, Finset.sum_range_succ, Finset.sum_range_succ, Finset.sum_range_succ, sum_third n h G K, Finset.sum_range_succ]
    have h0 : (3 * K) % 3 = 0 := by omega
    have h1 : (3 * K + 1) % 3 = 1 := by omega
    have h2 : (3 * K + 1 + 1) % 3 = 2 := by omega
    have d0 : (3 * K) / 3 = K := by omega
    have d1 : (3 * K + 1) / 3 = K := by omega
    have d2 : (3 * K + 1 + 1) / 3 = K := by omega
    rw [h0, h1, h2, d0, d1, d2]
    have hn : n = 0 ∨ n = 1 ∨ n = 2 := by omega
    rcases hn with rfl | rfl | rfl <;> simp

theorem sum_blocks {M : Type} [AddCommMonoid M] (b : Nat) (f : Nat → M) : ∀ K : Nat,
    (∑ k ∈ Finset.range K, ∑ l ∈ Finset.range b, f (b * k + l)) = ∑ κ ∈ Finset.range (b * K), f κ
  | 0 => rfl
  | K + 1 => by rw [Finset.sum_range_succ, sum_blocks b f K, show b * (K + 1) = b * K + b from Nat.mul_succ b K, Finset.sum_range_add]

theorem sum_even_odd {M : Type} [AddCommMonoid M] (f : Nat → M) : ∀ K : Nat,
    (∑ κ ∈ Finset.range (2 * K), f κ) = (∑ k ∈ Finset.range K, f (2 * k)) + ∑ k ∈ Finset.range K, f (2 * k + 1)
  | 0 => by simp
  | K + 1 => by
    rw [show 2 * (K + 1) = 2 * K + 1 + 1 by omega, Finset.sum_range_succ, Finset.sum_range_succ, sum_even_odd f K, Finset.sum_range_succ, Finset.sum_range_succ]
    rw [add_assoc, add_add_add_comm]

theorem sum_experts {M : Type} [AddCommMonoid M] (g : Nat → BitVec 32) (H : Nat → M) : ∀ n : Nat, n ≤ 32 →
    (∑ e ∈ Finset.range n, if pos (g e) then H e else 0) = ∑ j ∈ Finset.range (cnt g n), H (idOf g j)
  | 0, _ => rfl
  | n + 1, hn => by
    rw [Finset.sum_range_succ, sum_experts g H n (by omega)]
    by_cases hp : pos (g n)
    · rw [if_pos hp, show cnt g (n + 1) = cnt g n + 1 from by simp [cnt, hp], Finset.sum_range_succ, idOf_cnt g (by omega) hp]
    · rw [if_neg hp, show cnt g (n + 1) = cnt g n from by simp [cnt, hp], add_zero]

theorem rowW_zeros (g : Nat → BitVec 32) (a : Nat) : ∀ b, a ≤ b → (∀ e, a ≤ e → e < b → g e = 0#32) → rowW g b = rowW g a := by
  intro b hab
  induction b, hab using Nat.le_induction with
  | base => intro _; rfl
  | succ b hb ih =>
    intro h
    rw [show rowW g (b + 1) = rowW g b + g b from rfl, h b hb (by omega), BitVec.add_zero]
    exact ih fun e h1 h2 => h e h1 (by omega)

theorem startOf_succ (g : Nat → BitVec 32) (hz : ∀ e, ¬ pos (g e) → g e = 0#32) (j : Nat) (hj : j < cnt g 32) :
    startOf g (j + 1) = rowW g (idOf g j + 1) := by
  obtain ⟨hp, hc⟩ := idOf_spec g hj
  have hlt := idOf_lt g j
  have h1 : cnt g (idOf g j + 1) = j + 1 := by simp [cnt, hp, hc]
  unfold startOf
  split
  · next h =>
    obtain ⟨hp2, hc2⟩ := idOf_spec g h
    refine rowW_zeros g _ _ ?_ fun e h2 h3 => hz e fun he => ?_
    · by_contra hn
      have := cnt_mono g (show idOf g (j + 1) ≤ idOf g j by omega)
      omega
    · have a1 := cnt_mono g h2
      have a2 := cnt_mono g (show e + 1 ≤ idOf g (j + 1) by omega)
      have a3 : cnt g (e + 1) = cnt g e + 1 := by simp [cnt, he]
      omega
  · next h =>
    refine rowW_zeros g _ _ (by omega) fun e h2 h3 => hz e fun he => ?_
    have a1 := cnt_mono g h2
    have a2 := cnt_mono g (show e + 1 ≤ 32 by omega)
    have a3 : cnt g (e + 1) = cnt g e + 1 := by simp [cnt, he]
    omega

theorem startOf_lt (g : Nat → BitVec 32) (j : Nat) (hj : j < cnt g 32) : startOf g j = rowW g (idOf g j) := if_pos hj

end Cert.KernelIdeal.Str
-- ==== Proof.VTile.lean ====
module

public import proofs.«01_k».proof.Proof.VMx
public import proofs.«01_k».proof.Proof.VSum
public import Idealize.ShloMosaic.Lib.Pointwise

@[expose] public section

/-! Over the reals, one tile's product as a sum, and with it the whole result. -/

noncomputable section

namespace Cert.KernelIdeal.Str

open Idealize.ShloMosaic Idealize.ShloMosaic.TcCoe
open Cert.KernelIdeal Facts₀ Facts

variable [Facts]

/-- The signed four-bit code in half `p` of a byte. -/
def kc (b : BitVec 8) (p : Nat) : BitVec 32 :=
  IntOp.shrsi .vector (IntOp.shli .vector (BitVec.setWidth 32 b) (IntOp.subi 28#32 (IntOp.muli 4#32 (IntOp.andi (BitVec.ofNat 32 p) 1#32)))) 28#32

theorem andi_one (p : Nat) : IntOp.andi (BitVec.ofNat 32 p) 1#32 = BitVec.ofNat 32 (p % 2) := by
  apply BitVec.eq_of_toNat_eq
  show (BitVec.ofNat 32 p &&& 1#32).toNat = _
  rw [BitVec.toNat_and, BitVec.toNat_ofNat, BitVec.toNat_ofNat, BitVec.toNat_ofNat, Nat.one_mod_two_pow (by decide), Nat.and_one_is_mod]
  omega

theorem kc_mod (b : BitVec 8) (p q : Nat) (h : p % 2 = q % 2) : kc b p = kc b q := by
  unfold kc; rw [andi_one, andi_one, h]

/-- A code as a value. -/
def cv (b : BitVec 8) (p : Nat) : EReal := (((kc b p).toInt : ℝ) : EReal)

theorem codes_at (b : Vec Ideal S1x128x256 .i8) (j l : Fin 256) :
    (codes b (ix2 j l) : EReal) = cv (b (ix3 0 ⟨j.val / 2, by omega⟩ l)) j.val := by
  pointwise [codes]
  rfl

/-- Whether a row is one of the rows from `lo` on before `hi`. -/
def own (r : Nat) (lo hi : BitVec 32) : BitVec 1 :=
  IntOp.andi (IntOp.cmpi .sge (BitVec.ofNat 32 r) lo) (IntOp.cmpi .slt (BitVec.ofNat 32 r) hi)

theorem xTile_at (lo hi : BitVec 32) (x : Vec Ideal S64x256 .bf16) (r : Fin 64) (l : Fin 256) :
    (xTile (mine lo hi) x (ix2 r l) : EReal) = Scalar.select (own r.val lo hi) (x (ix2 r l) : EReal) 0 := by
  pointwise [xTile, mine]
  unfold own
  congr 1
  simp

theorem mxu_at (x : FVec Ideal S64x256 .bf16) (w : FVec Ideal S256x256 .bf16) (r : Fin 64) (l : Fin 256) :
    (FloatOps.mxuPass (F := Ideal) (φ₁ := .bf16) (φ₂ := .bf16) (DotDims.plain 64 256 256) x w (ix2 r l) : EReal) = ∑ k : Fin 256, (x (ix2 r k) : EReal) * w (ix2 k l) := by
  have h := Ideal.matmul_plain_apply (M := 64) (K := 256) (N := 256) (φ₁ := .bf16) (φ₂ := .bf16) none x w (fun _ => (0 : EReal)) r l
  rw [zero_add] at h
  refine Eq.trans ?_ h
  rw [Ideal.matmul_apply]
  exact (zero_add _).symm

section Tile
variable (W : S3584x768.Idx → Elt Ideal .i8) (S : S56x768.Idx → Elt Ideal .f32) (X : S64x7168.Idx → Elt Ideal .bf16)

/-- Weight `(κ, o)`: its code times its scale. -/
def wv (κ : Nat) (hκ : κ < 7168) (o : Fin 768) : EReal :=
  cv (W (ix2 (n0 := 3584) ⟨κ / 2, by omega⟩ o)) κ * (S (ix2 (n0 := 56) ⟨κ / 128, by omega⟩ o) : EReal)

theorem wTl_at (t : Nat) (ht : t < 84) (j l : Fin 256) :
    (wTl (F := Ideal) W S t ht (ix2 j l) : EReal) = wv W S (256 * (t / 3) + j.val) (by omega) ⟨256 * (t % 3) + l.val, by omega⟩ := by
  unfold wTl
  pointwise [wTile, scl]
  unfold wv
  split
  · next h =>
    rw [codes_at]
    unfold cv
    rw [kc_mod _ j.val (256 * (t / 3) + j.val) (by omega)]
    have e1 : gW t ht (ix3 (n0 := 1) 0 ⟨j.val / 2, by omega⟩ l) = ix2 (n0 := 3584) (n1 := 768) ⟨(256 * (t / 3) + j.val) / 2, by omega⟩ ⟨256 * (t % 3) + l.val, by omega⟩ := by
      unfold gW
      congr 1
      apply Fin.ext
      show 128 * (t / 3) + j.val / 2 = (256 * (t / 3) + j.val) / 2
      omega
    have e2 : gS t 0 ht (by decide) (ix3 (n0 := 1) (n1 := 1) 0 0 l) = ix2 (n0 := 56) (n1 := 768) ⟨(256 * (t / 3) + j.val) / 128, by omega⟩ ⟨256 * (t % 3) + l.val, by omega⟩ := by
      unfold gS
      congr 1
      apply Fin.ext
      show 2 * (t / 3) + 0 = (256 * (t / 3) + j.val) / 128
      omega
    rw [← e1, ← e2]
  · next h =>
    rw [codes_at]
    unfold cv
    rw [kc_mod _ _ (256 * (t / 3) + j.val) (show (128 + (j.val - 128)) % 2 = (256 * (t / 3) + j.val) % 2 by omega)]
    have e1 : gW t ht (ix3 (n0 := 1) 0 ⟨(128 + (j.val - 128)) / 2, by omega⟩ l) = ix2 (n0 := 3584) (n1 := 768) ⟨(256 * (t / 3) + j.val) / 2, by omega⟩ ⟨256 * (t % 3) + l.val, by omega⟩ := by
      unfold gW
      congr 1
      apply Fin.ext
      show 128 * (t / 3) + (128 + (j.val - 128)) / 2 = (256 * (t / 3) + j.val) / 2
      omega
    have e2 : gS t 1 ht (by decide) (ix3 (n0 := 1) (n1 := 1) 0 0 l) = ix2 (n0 := 56) (n1 := 768) ⟨(256 * (t / 3) + j.val) / 128, by omega⟩ ⟨256 * (t % 3) + l.val, by omega⟩ := by
      unfold gS
      congr 1
      apply Fin.ext
      show 2 * (t / 3) + 1 = (256 * (t / 3) + j.val) / 128
      omega
    rw [← e1, ← e2]

/-- One term of the product of row `r` by column `o`. -/
def term (lo hi : BitVec 32) (r : Fin 64) (o : Fin 768) (κ : Nat) : EReal :=
  if h : κ < 7168 then Scalar.select (own r.val lo hi) (X (ix2 (n0 := 64) r ⟨κ, h⟩) : EReal) 0 * wv W S κ h o else 0

theorem pass_at (lo hi : BitVec 32) (t : Nat) (ht : t < 84) (r : Fin 64) (l : Fin 256) :
    pass W S X (mine lo hi) t (ix2 r l) = ∑ κ ∈ Finset.range 256, term W S X lo hi r ⟨256 * (t % 3) + l.val, by omega⟩ (256 * (t / 3) + κ) := by
  unfold pass
  rw [dif_pos ht, mxu_at, ← Fin.sum_univ_eq_sum_range (fun κ => term W S X lo hi r ⟨256 * (t % 3) + l.val, by omega⟩ (256 * (t / 3) + κ))]
  refine Finset.sum_congr rfl fun k _ => ?_
  rw [xTile_at, wTl_at]
  unfold term
  rw [dif_pos (by omega)]
  have e : (rX2 t ht).emb (ix2 (n0 := 64) (n1 := 256) r k) = ix2 (n0 := 64) (n1 := 7168) r ⟨256 * (t / 3) + k.val, by omega⟩ := by
    funext a
    apply Fin.ext
    match a with
    | ⟨0, _⟩ => show 0 + 1 * r.val = r.val; omega
    | ⟨1, _⟩ => show 256 * (t / 3) + 1 * k.val = 256 * (t / 3) + k.val; omega
  rw [← e]

theorem passes (lo hi : BitVec 32) (n : Nat) (hn : n < 3) (r : Fin 64) (l : Fin 256) :
    (∑ t ∈ Finset.range 84, if t % 3 = n then pass W S X (mine lo hi) t (ix2 r l) else 0)
      = ∑ κ ∈ Finset.range 7168, term W S X lo hi r ⟨256 * n + l.val, by omega⟩ κ := by
  have h1 := sum_blocks 256 (term W S X lo hi r ⟨256 * n + l.val, by omega⟩) 28
  have h2 := sum_third n hn (fun k => ∑ κ ∈ Finset.range 256, term W S X lo hi r ⟨256 * n + l.val, by omega⟩ (256 * k + κ)) 28
  refine Eq.trans (Finset.sum_congr rfl fun t ht => ?_) (h2.trans h1)
  split
  · next h =>
    subst h
    exact pass_at W S X lo hi t (Finset.mem_range.mp ht) r l
  · rfl

end Tile

section Whole
variable (c : Dev nD) (arg2 : Memref sig .tc .hbm S32x3584x768 .i8) (arg3 : Memref sig .tc .hbm S32x56x768 .f32)

theorem tot_mAt (f2 : Buf (Elt Ideal) (arg2.view.loc (c.tc : Thread nD τ))) (f3 : Buf (Elt Ideal) (arg3.view.loc (c.tc : Thread nD τ)))
    (g : Nat → BitVec 32) (X : S64x7168.Idx → Elt Ideal .bf16) (n : Nat) (hn : n < 3) (r : Fin 64) (l : Fin 256) : ∀ k,
    tot (mAt c arg2 arg3 f2 f3 g X k) n hn (ix2 r l) = ∑ j ∈ Finset.range k, ∑ κ ∈ Finset.range 7168,
      term (w2 c arg2 f2 (idOf g j) (idOf_lt g j)) (w3 c arg3 f3 (idOf g j) (idOf_lt g j)) X (startOf g j) (startOf g (j + 1)) r ⟨256 * n + l.val, by omega⟩ κ
  | 0 => tot_init n hn _
  | k + 1 => by
    rw [Finset.sum_range_succ, ← tot_mAt f2 f3 g X n hn r l k, ← passes _ _ _ _ _ n hn r l]
    exact tot_trip _ _ _ _ _ (mAt_reg c arg2 arg3 f2 f3 g X k).1 n hn _

end Whole

end Cert.KernelIdeal.Str
-- ==== Proof.VScale.lean ====
module

public import proofs.«01_k».proof.Proof.Struct
public import Idealize.ShloMosaic.Lib.Pointwise

@[expose] public section

/-! Over the reals the power-of-two quantiser gives every finite number back: the scale is above the largest magnitude
over 448, so nothing is clipped, and the scale and its inverse cancel. -/

noncomputable section

namespace Cert.KernelIdeal.Str

open Idealize.ShloMosaic

/-- The largest magnitude the precondition allows. -/
def big : ℝ := 2 ^ 128

/-- What the exponent field `n` names. -/
def vE (n : Nat) : EReal := if n = 0 then 0 else if 255 ≤ n then ⊤ else (((2 : ℝ) ^ ((n : ℤ) - 127) : ℝ) : EReal)

theorem field_facts : ∀ n : Fin 256, ((IntOp.shli .vector (BitVec.ofNat 32 n.val) 23#32).extractLsb' 31 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem pow_shift_real (z : ℤ) : (8388608 : ℝ) * (2 : ℝ) ^ (z - 127 - 23) = 2 ^ (z - 127) := by
  have h2 : (8388608 : ℝ) = (2 : ℝ) ^ (23 : ℤ) := by norm_num
  rw [h2, ← zpow_add₀ (two_ne_zero)]
  congr 1
  ring

theorem pow_shift (z : ℤ) : ((8388608 : ℝ) : EReal) * (((2 : ℝ) ^ (z - 127 - 23) : ℝ) : EReal) = (((2 : ℝ) ^ (z - 127) : ℝ) : EReal) := by
  rw [← pow_shift_real z, EReal.coe_mul]

theorem field_val (n : Nat) (h : n < 256) : Ideal.ofBits .f32 (IntOp.shli .vector (BitVec.ofNat 32 n) 23#32) = vE n := by
  obtain ⟨h1, h2, h3⟩ := field_facts ⟨n, h⟩
  unfold Ideal.ofBits Ideal.ieee vE
  simp only [show (8 + 23 : Nat) = 31 from rfl]
  rw [h1, h2, h3]
  by_cases h0 : n = 0
  · subst h0; simp
  · by_cases h5 : 255 ≤ n
    · have : n = 255 := by omega
      subst this; simp
    · have h6 : n ≠ 255 := by omega
      simp only [h0, h5, if_false]
      norm_num [h6, h0]
      exact pow_shift n

/-- One bit of the search. -/
def sBit (q : EReal) (bit b : BitVec 32) : BitVec 32 :=
  if Ideal.ofBits .f32 (IntOp.shli .vector (b + bit) 23#32) ≤ q then b + bit else b

theorem sBit_step (q : EReal) (d m : Nat) (hm : m + 2 * d ≤ 256) (hd : 0 < d) (h0 : m = 0 ∨ vE m ≤ q) (hq : m + 2 * d = 256 ∨ q < vE (m + 2 * d)) :
    ∃ m', sBit q (BitVec.ofNat 32 d) (BitVec.ofNat 32 m) = BitVec.ofNat 32 m' ∧ m' + d ≤ 256 ∧ (m' = 0 ∨ vE m' ≤ q) ∧ (m' + d = 256 ∨ q < vE (m' + d)) := by
  unfold sBit
  rw [← BitVec.ofNat_add, field_val (m + d) (by omega)]
  split
  · next h => exact ⟨m + d, rfl, by omega, .inr h, by rw [show m + d + d = m + 2 * d by omega]; exact hq⟩
  · next h => exact ⟨m, rfl, by omega, h0, .inr (not_le.mp h)⟩

/-- The whole search. -/
def sBits (q : EReal) : BitVec 32 :=
  sBit q 1#32 (sBit q 2#32 (sBit q 4#32 (sBit q 8#32 (sBit q 16#32 (sBit q 32#32 (sBit q 64#32 (sBit q 128#32 0#32)))))))

theorem sBits_spec (q : EReal) (hq : q < ((2 : ℝ) ^ (120 : ℤ) : ℝ)) : ∃ m, sBits q = BitVec.ofNat 32 m ∧ m ≤ 246 ∧ q < vE (m + 1) := by
  obtain ⟨m1, e1, l1, a1, b1⟩ := sBit_step q 128 0 (by omega) (by omega) (.inl rfl) (.inl rfl)
  obtain ⟨m2, e2, l2, a2, b2⟩ := sBit_step q 64 m1 (by omega) (by omega) a1 b1
  obtain ⟨m3, e3, l3, a3, b3⟩ := sBit_step q 32 m2 (by omega) (by omega) a2 b2
  obtain ⟨m4, e4, l4, a4, b4⟩ := sBit_step q 16 m3 (by omega) (by omega) a3 b3
  obtain ⟨m5, e5, l5, a5, b5⟩ := sBit_step q 8 m4 (by omega) (by omega) a4 b4
  obtain ⟨m6, e6, l6, a6, b6⟩ := sBit_step q 4 m5 (by omega) (by omega) a5 b5
  obtain ⟨m7, e7, l7, a7, b7⟩ := sBit_step q 2 m6 (by omega) (by omega) a6 b6
  obtain ⟨m8, e8, l8, a8, b8⟩ := sBit_step q 1 m7 (by omega) (by omega) a7 b7
  have hm : m8 ≤ 246 := by
    by_contra hc
    have h1 : vE m8 ≤ q := by
      rcases a8 with h | h
      · omega
      · exact h
    have h2 : (((2 : ℝ) ^ (120 : ℤ) : ℝ) : EReal) ≤ vE m8 := by
      unfold vE
      rw [if_neg (by omega)]
      split
      · exact le_top
      · rw [EReal.coe_le_coe_iff]
        exact zpow_le_zpow_right₀ (by norm_num) (by omega)
    exact absurd (lt_of_le_of_lt (h2.trans h1) hq) (lt_irrefl _)
  refine ⟨m8, ?_, hm, ?_⟩
  · unfold sBits
    rw [show (0#32 : BitVec 32) = BitVec.ofNat 32 0 from rfl, e1, e2, e3, e4, e5, e6, e7, e8]
  · rcases b8 with h | h
    · omega
    · exact h

/-- The exponent off the field. -/
def sExp (b : BitVec 32) : BitVec 32 := if b = 0#32 then 0#32 else b - 126#32

theorem vE_real {n : Nat} (h0 : 1 ≤ n) (h : n ≤ 254) : vE n = (((2 : ℝ) ^ ((n : ℤ) - 127) : ℝ) : EReal) := by
  unfold vE; rw [if_neg (by omega), if_neg (by omega)]

/-- The scale is a positive real above `q`, and the two fields name it and its inverse. -/
theorem scale_spec (q : EReal) (hq : q < ((2 : ℝ) ^ (120 : ℤ) : ℝ)) : ∃ s : ℝ, 0 < s ∧ q < (s : EReal)
    ∧ Ideal.ofBits .f32 (IntOp.shli .vector (127#32 - sExp (sBits q)) 23#32) = ((s⁻¹ : ℝ) : EReal)
    ∧ Ideal.ofBits .f32 (IntOp.shli .vector (127#32 + sExp (sBits q)) 23#32) = (s : EReal) := by
  obtain ⟨m, em, hm, hlt⟩ := sBits_spec q hq
  rw [em]
  by_cases h0 : m = 0
  · subst h0
    refine ⟨1, one_pos, ?_, ?_, ?_⟩
    · rw [vE_real (by omega) (by omega)] at hlt
      refine hlt.trans ?_
      rw [EReal.coe_lt_coe_iff]
      norm_num
    · rw [show (127#32 - sExp (BitVec.ofNat 32 0)) = BitVec.ofNat 32 127 from rfl, field_val 127 (by omega), vE_real (by omega) (by omega)]
      norm_num
    · rw [show (127#32 + sExp (BitVec.ofNat 32 0)) = BitVec.ofNat 32 127 from rfl, field_val 127 (by omega), vE_real (by omega) (by omega)]
      norm_num
  · have key : ∀ m : Fin 247, m.val ≠ 0 → 127#32 - sExp (BitVec.ofNat 32 m.val) = BitVec.ofNat 32 (253 - m.val)
        ∧ 127#32 + sExp (BitVec.ofNat 32 m.val) = BitVec.ofNat 32 (m.val + 1) := by unfold sExp; decide +kernel
    obtain ⟨k1, k2⟩ := key ⟨m, by omega⟩ h0
    dsimp only at k1 k2
    rw [vE_real (by omega) (by omega)] at hlt
    refine ⟨(2 : ℝ) ^ (((m + 1 : Nat) : ℤ) - 127), by positivity, hlt, ?_, ?_⟩
    · rw [k1, field_val _ (by omega), vE_real (by omega) (by omega), ← zpow_neg]
      congr 2
      omega
    · rw [k2, field_val _ (by omega), vE_real (by omega) (by omega)]

/-- The constant the magnitudes are multiplied by: a little over 1/448. -/
theorem c448 : Ideal.ofBits .f32 0x3B124925#32 = ((9586981 / 2 ^ 32 : ℝ) : EReal) := by
  simp [Ideal.ofBits, Ideal.ieee, -EReal.coe_mul]
  norm_num

theorem hi448 : Ideal.ofBits .f32 0x43E00000#32 = ((448 : ℝ) : EReal) := by
  simp [Ideal.ofBits, Ideal.ieee, -EReal.coe_mul]; norm_num
theorem lo448 : Ideal.ofBits .f32 0xC3E00000#32 = ((-448 : ℝ) : EReal) := by
  simp [Ideal.ofBits, Ideal.ieee, -EReal.coe_mul]; norm_num

/-- Nothing is clipped and the scale cancels. -/
theorem round_trip (x a s : ℝ) (hs : 0 < s) (hx : |x| ≤ a) (hq : a * (9586981 / 2 ^ 32) < s) :
    min ((448 : ℝ) : EReal) (max ((-448 : ℝ) : EReal) ((x : EReal) * ((s⁻¹ : ℝ) : EReal))) * (s : EReal) = (x : EReal) := by
  have ha : 0 ≤ a := (abs_nonneg x).trans hx
  have hb : |x * s⁻¹| ≤ 448 := by
    rw [abs_mul, abs_of_pos (inv_pos.mpr hs), ← div_eq_mul_inv, div_le_iff₀ hs]
    nlinarith
  obtain ⟨h1, h2⟩ := abs_le.mp hb
  rw [← EReal.coe_mul, max_eq_right (by exact_mod_cast h1), min_eq_right (by exact_mod_cast h2), ← EReal.coe_mul]
  congr 1
  field_simp

end Cert.KernelIdeal.Str
-- ==== Proof.VQuant.lean ====
module

public import proofs.«01_k».proof.Proof.VScale
public import proofs.«01_k».proof.Proof.Wp3

@[expose] public section

/-! Over the reals the kernel's quantised activations are the activations. -/

noncomputable section

namespace Cert.KernelIdeal.Str

open Idealize.ShloMosaic
open Cert.KernelIdeal Facts₀ Facts

variable [Facts]

theorem neg_inf : Ideal.ofBits .f32 0xFF800000#32 = (⊥ : EReal) := by
  simp [Ideal.ofBits, Ideal.ieee]

theorem sel_if {α : Type} (p : Prop) [Decidable p] (a b : α) : Scalar.select (BitVec.ofBool (decide p)) a b = if p then a else b := by
  by_cases h : p
  · rw [if_pos h, decide_eq_true h]; rfl
  · rw [if_neg h, decide_eq_false h]; rfl

theorem qBit_at (q : FVec Ideal S64x128 .f32) (bit : BitVec 32) (b : IVec S64x128 32) (j : S64x128.Idx) :
    qBit q bit b j = sBit (q j) bit (b j) := sel_if _ _ _

theorem qBits_at (q : FVec Ideal S64x128 .f32) (j : S64x128.Idx) : qBits q j = sBits (q j) := by
  unfold qBits sBits
  simp only [qBit_at]
  rfl

theorem sel_eq {α : Type} {w : Nat} (x y : BitVec w) (a b : α) : Scalar.select (IntOp.cmpi .eq x y) a b = if x = y then a else b := by
  by_cases h : x = y
  · rw [if_pos h, show IntOp.cmpi .eq x y = 1#1 from by subst h; simp [IntOp.cmpi]]; rfl
  · rw [if_neg h, show IntOp.cmpi .eq x y = 0#1 from by simp [IntOp.cmpi, beq_eq_false_iff_ne.mpr h]]; rfl

theorem qExp_at (b : IVec S64x128 32) (j : S64x128.Idx) : qExp b j = sExp (b j) := sel_eq _ _ _ _

theorem qBlk_at (x : Vec Ideal S64x128 .bf16) (j : S64x128.Idx) :
    qBlk x j = min (Ideal.ofBits .f32 0x43E00000#32) (max (Ideal.ofBits .f32 0xC3E00000#32)
      ((x j : EReal) * Ideal.ofBits .f32 (IntOp.shli .vector (127#32 - sExp (sBits (qMax x j))) 23#32)))
      * Ideal.ofBits .f32 (IntOp.shli .vector (127#32 + sExp (sBits (qMax x j))) 23#32) := by
  rw [← qBits_at, ← qExp_at]
  rfl

theorem qMax_at (x : Vec Ideal S64x128 .bf16) (r : Fin 64) (l : Fin 128) :
    (qMax x (ix2 r l) : EReal) = (Finset.univ.fold max (⊥ : EReal) fun k : Fin 128 => max (x (ix2 r k)) (-(x (ix2 r k)))) * Ideal.ofBits .f32 0x3B124925#32 := by
  pointwise [qMax]
  rw [neg_inf]
  rfl

/-- What the precondition gives of every activation. -/
def Fin32 (v : EReal) : Prop := max v (-v) ≤ Ideal.ofBits .f32 0x7F7F0000#32

theorem top32 : Ideal.ofBits .f32 0x7F7F0000#32 = ((255 * 2 ^ (120 : ℤ) : ℝ) : EReal) := by
  simp [Ideal.ofBits, Ideal.ieee, -EReal.coe_mul]
  norm_num

theorem Fin32.real {v : EReal} (h : Fin32 v) : ∃ a : ℝ, v = (a : EReal) ∧ |a| ≤ 255 * 2 ^ (120 : ℤ) := by
  unfold Fin32 at h
  rw [top32] at h
  induction v with
  | bot => exact absurd (top_le_iff.mp (le_trans (by simp) h)) (EReal.coe_ne_top _)
  | top => exact absurd (top_le_iff.mp (le_trans (by simp) h)) (EReal.coe_ne_top _)
  | coe a =>
    refine ⟨a, rfl, ?_⟩
    rw [← EReal.coe_neg] at h
    have h1 := EReal.coe_le_coe_iff.mp (le_trans (le_max_left _ _) h)
    have h2 := EReal.coe_le_coe_iff.mp (le_trans (le_max_right _ _) h)
    exact abs_le.mpr ⟨by linarith, h1⟩

/-- The greatest absolute value of finitely many bounded reals. -/
theorem fold_max_real {n : Nat} (hn : 0 < n) (x : Fin n → EReal) (h : ∀ k, Fin32 (x k)) :
    ∃ a : ℝ, (Finset.univ.fold max (⊥ : EReal) fun k => max (x k) (-(x k))) = (a : EReal) ∧ 0 ≤ a ∧ a ≤ 255 * 2 ^ (120 : ℤ)
      ∧ ∀ k, ∃ v : ℝ, x k = (v : EReal) ∧ |v| ≤ a := by
  choose v hv hb using fun k => (h k).real
  have e : (fun k => max (x k) (-(x k))) = fun k => ((|v k| : ℝ) : EReal) := by
    funext k
    rw [hv k, ← EReal.coe_neg]
    exact (EReal.coe_strictMono.monotone.map_max).symm
  rw [e]
  obtain ⟨k0, -, hk0⟩ := Finset.exists_max_image (Finset.univ : Finset (Fin n)) (fun k => |v k|) ⟨⟨0, hn⟩, Finset.mem_univ _⟩
  refine ⟨|v k0|, le_antisymm ?_ ?_, abs_nonneg _, hb k0, fun k => ⟨v k, hv k, hk0 k (Finset.mem_univ _)⟩⟩
  · rw [Finset.fold_max_le]
    exact ⟨bot_le, fun k _ => EReal.coe_le_coe_iff.mpr (hk0 k (Finset.mem_univ _))⟩
  · rw [Finset.le_fold_max]
    exact .inr ⟨k0, Finset.mem_univ _, le_rfl⟩

/-- The quantiser keeps every block of finite activations. -/
theorem qBlk_eq (x : Vec Ideal S64x128 .bf16) (h : ∀ j, Fin32 (x j)) (r : Fin 64) (l : Fin 128) : (qBlk x (ix2 r l) : EReal) = x (ix2 r l) := by
  rw [qBlk_at, qMax_at]
  obtain ⟨a, ha, h0, hb, hv⟩ := fold_max_real (by omega) (fun k : Fin 128 => x (ix2 r k)) fun k => h _
  rw [ha, c448, ← EReal.coe_mul]
  obtain ⟨s, hs, hq, h1, h2⟩ := scale_spec ((a * (9586981 / 2 ^ 32) : ℝ) : EReal) (EReal.coe_lt_coe_iff.mpr (by
    norm_num at hb ⊢; linarith))
  rw [h1, h2]
  obtain ⟨v, hx, hl⟩ := hv l
  rw [hx, hi448, lo448]
  exact round_trip v a s hs hl (EReal.coe_lt_coe_iff.mp hq)

end Cert.KernelIdeal.Str
-- ==== Proof.VKern.lean ====
module

public import proofs.«01_k».proof.Proof.VTile
public import proofs.«01_k».proof.Proof.VQuant
public import proofs.«01_k».proof.Proof.Launch

@[expose] public section

/-! The kernel's result over the reals: every expert's product of its own rows, summed. -/

noncomputable section

namespace Cert.KernelIdeal.Str

open Idealize.ShloMosaic Idealize.ShloMosaic.TcCoe
open Cert.KernelIdeal Facts₀ Facts

variable [Facts]

section Spec
variable (x : S64x7168.Idx → EReal) (gs : S32.Idx → BitVec 32) (A : S32x3584x768.Idx → BitVec 8) (B : S32x56x768.Idx → EReal)

/-- The part of expert `e` and column `κ` in the result at `(r, o)`. -/
def part (r : Fin 64) (o : Fin 768) (e κ : Nat) : EReal :=
  if h : e < 32 ∧ κ < 7168 then
    Scalar.select (own r.val (rowW (gOf gs) e) (rowW (gOf gs) (e + 1))) (x (ix2 (n0 := 64) r ⟨κ, h.2⟩)) 0
      * (cv (A (ix3 (n0 := 32) (n1 := 3584) ⟨e, h.1⟩ ⟨κ / 2, by omega⟩ o)) κ * B (ix3 (n0 := 32) (n1 := 56) ⟨e, h.1⟩ ⟨κ / 128, by omega⟩ o))
  else 0

/-- The result. -/
def spec (r : Fin 64) (o : Fin 768) : EReal := ∑ e ∈ Finset.range 32, ∑ κ ∈ Finset.range 7168, part x gs A B r o e κ

end Spec

theorem quV_eq (x : S64x7168.Idx → Elt Ideal .bf16) (h : ∀ j, Fin32 (x j)) : quV (F := Ideal) x = x := by
  funext y
  unfold quV
  rw [shapeCast_self]
  refine (qBlk_eq _ (fun j => h _) (y 0) ⟨(y 1).val % 128, Nat.mod_lt _ (by decide)⟩).trans ?_
  exact congrArg x (emb_rX ((y 1).val / 128) (by have : (y 1).val < 7168 := (y 1).isLt; omega) y rfl)

theorem own_empty (r : Nat) (lo : BitVec 32) : own r lo (lo + 0#32) = 0#1 := by
  rw [BitVec.add_zero]
  show BitVec.ofBool (lo.sle (BitVec.ofNat 32 r)) &&& BitVec.ofBool ((BitVec.ofNat 32 r).slt lo) = 0#1
  by_cases h : lo.toInt ≤ (BitVec.ofNat 32 r).toInt
  · have h2 : (BitVec.ofNat 32 r).slt lo = false := by
      rw [BitVec.slt]; exact decide_eq_false (not_lt.mpr h)
    rw [h2]
    cases lo.sle (BitVec.ofNat 32 r) <;> rfl
  · have h2 : lo.sle (BitVec.ofNat 32 r) = false := by
      rw [BitVec.sle]; exact decide_eq_false h
    rw [h2]
    cases (BitVec.ofNat 32 r).slt lo <;> rfl

variable (c : Dev nD)

theorem w2_at (f2 : Buf (Elt Ideal) (aW.view.loc (c.tc : Thread nD τ))) (e : Nat) (he : e < 32) (a : Fin 3584) (b : Fin 768) :
    w2 c aW f2 e he (ix2 a b) = (f2 : S32x3584x768.Idx → Elt Ideal .i8) (ix3 ⟨e, he⟩ a b) := by
  show (f2 : S32x3584x768.Idx → Elt Ideal .i8) ((rExpW e he).emb (Shape.reshapeEquiv squeezes_S1x3584x768_S3584x768.numel_eq (ix2 a b))) = _
  refine congrArg (f2 : S32x3584x768.Idx → Elt Ideal .i8) ((congrArg _ (ValueIdx.reshapeEquiv_ix2_1ab (a := 3584) (b := 768) _ a b)).trans ?_)
  funext k
  apply Fin.ext
  match k with
  | ⟨0, _⟩ => show e + 1 * 0 = e; omega
  | ⟨1, _⟩ => show 0 + 1 * a.val = a.val; omega
  | ⟨2, _⟩ => show 0 + 1 * b.val = b.val; omega

theorem w3_at (f3 : Buf (Elt Ideal) (aS.view.loc (c.tc : Thread nD τ))) (e : Nat) (he : e < 32) (a : Fin 56) (b : Fin 768) :
    w3 c aS f3 e he (ix2 a b) = (f3 : S32x56x768.Idx → Elt Ideal .f32) (ix3 ⟨e, he⟩ a b) := by
  show (f3 : S32x56x768.Idx → Elt Ideal .f32) ((rExpS e he).emb (Shape.reshapeEquiv squeezes_S1x56x768_S56x768.numel_eq (ix2 a b))) = _
  refine congrArg (f3 : S32x56x768.Idx → Elt Ideal .f32) ((congrArg _ (ValueIdx.reshapeEquiv_ix2_1ab (a := 56) (b := 768) _ a b)).trans ?_)
  funext k
  apply Fin.ext
  match k with
  | ⟨0, _⟩ => show e + 1 * 0 = e; omega
  | ⟨1, _⟩ => show 0 + 1 * a.val = a.val; omega
  | ⟨2, _⟩ => show 0 + 1 * b.val = b.val; omega

theorem gOf_zero (G : S32.Idx → BitVec 32) (hG : ∀ j, 0 ≤ (G j).toInt) (e : Nat) (h : ¬ pos (gOf G e)) : gOf G e = 0#32 := by
  unfold gOf pos at *
  split
  · next he =>
    rw [dif_pos he] at h
    have := hG (ValueIdx.ix1 ⟨e, he⟩)
    apply BitVec.eq_of_toInt_eq
    simp
    omega
  · rfl

theorem resV_spec (f1 : Buf (Elt Ideal) (aX.view.loc (c.tc : Thread nD τ))) (f2 : Buf (Elt Ideal) (aW.view.loc (c.tc : Thread nD τ)))
    (f3 : Buf (Elt Ideal) (aS.view.loc (c.tc : Thread nD τ))) (G : S32.Idx → BitVec 32)
    (hx : ∀ j : S64x7168.Idx, Fin32 ((f1 : S64x7168.Idx → EReal) j)) (hG : ∀ j, 0 ≤ (G j).toInt) (r : Fin 64) (o : Fin 768) :
    (resV (mEnd c aX aW aS f1 f2 f3 G) (ix2 r o) : EReal) = spec f1 G f2 f3 r o := by
  have hn : o.val / 256 < 3 := by omega
  rw [resV_at _ (ix2 r o) (o.val / 256) hn rfl]
  unfold mEnd
  rw [show aX.view.read (Elt Ideal) f1 = f1 from rfl, quV_eq _ hx]
  refine (tot_mAt c aW aS f2 f3 (gOf G) _ _ hn r ⟨o.val % 256, Nat.mod_lt _ (by decide)⟩ _).trans ?_
  unfold spec
  rw [show (∑ e ∈ Finset.range 32, ∑ κ ∈ Finset.range 7168, part f1 G f2 f3 r o e κ)
      = ∑ e ∈ Finset.range 32, if pos (gOf G e) then ∑ κ ∈ Finset.range 7168, part f1 G f2 f3 r o e κ else 0 from ?_,
    sum_experts (gOf G) (fun e => ∑ κ ∈ Finset.range 7168, part f1 G f2 f3 r o e κ) 32 le_rfl]
  · refine Finset.sum_congr rfl fun j hj => Finset.sum_congr rfl fun κ hκ => ?_
    have hj := Finset.mem_range.mp hj
    have hκ := Finset.mem_range.mp hκ
    have ho : (⟨256 * (o.val / 256) + o.val % 256, by omega⟩ : Fin 768) = o := Fin.ext (by show 256 * (o.val / 256) + o.val % 256 = o.val; omega)
    unfold term part wv
    rw [dif_pos hκ, dif_pos ⟨idOf_lt _ _, hκ⟩, startOf_lt _ _ hj, startOf_succ _ (gOf_zero G hG) _ hj]
    rw [w2_at, w3_at]
    simp only [ho]
  · refine Finset.sum_congr rfl fun e he => ?_
    split
    · rfl
    · next hp =>
      refine Finset.sum_eq_zero fun κ _ => ?_
      unfold part
      split
      · rw [show rowW (gOf G) (e + 1) = rowW (gOf G) e + 0#32 from by rw [← gOf_zero G hG e hp]; rfl, own_empty]
        exact zero_mul _
      · rfl

end Cert.KernelIdeal.Str
-- ==== Proof.VEnd.lean ====
module

public import proofs.«01_k».proof.Proof.VKern
public import proofs.«01_k».proof.Proof.Gen.Pre_finite
public import Idealize.ShloMosaic.Lib.ReduceAll
public import Idealize.ShloMosaic.Lib.Pipeline.ValueKit

@[expose] public section

/-! The kernel's run over the reals: its result is the sum over experts and columns. -/

noncomputable section

namespace Cert.KernelIdeal.Str

open Cert.KernelIdeal Facts₀ Facts Idealize.ShloMosaic Idealize.ShloMosaic.TcCoe Idealize.SL.Sem

section Pre
variable [Cert.Pre_finite.Facts]

theorem of_ofBool {p : Prop} {_ : Decidable p} (h : BitVec.ofBool (decide p) = 1#1) : p := by
  by_contra hc
  rw [decide_eq_false hc] at h
  exact absurd h (by decide)

theorem pre_x (x : FVec Ideal S64x7168 .bf16) (G : IVec S32 32) (W : IVec S32x3584x768 8) (S : FVec Ideal S32x56x768 .f32)
    (h : Cert.Pre_finite.fn (F := Ideal) x G W S = fun _ => 1#1) (j : S64x7168.Idx) : Fin32 (x j) := by
  have h0 := congrFun h ix0
  unfold Cert.Pre_finite.fn at h0
  dsimp only at h0
  have h1 := (IntOp.andi_eq_one.mp h0).1
  have h2 := Host.reduce_andi_all _ _ _ _ _ h1 j
  pointwise at h2
  exact of_ofBool h2

theorem pre_G (x : FVec Ideal S64x7168 .bf16) (G : IVec S32 32) (W : IVec S32x3584x768 8) (S : FVec Ideal S32x56x768 .f32)
    (h : Cert.Pre_finite.fn (F := Ideal) x G W S = fun _ => 1#1) (j : S32.Idx) : 0 ≤ (G j).toInt := by
  have h0 := congrFun h ix0
  unfold Cert.Pre_finite.fn at h0
  dsimp only at h0
  have h1 := (IntOp.andi_eq_one.mp h0).2
  have h2 := Host.reduce_andi_all _ _ _ _ _ h1 j
  pointwise at h2
  have h3 : BitVec.ofBool ((0#32 : BitVec 32).sle (G j)) = 1#1 := h2
  by_contra hc
  rw [show (0#32 : BitVec 32).sle (G j) = false from by rw [BitVec.sle]; exact decide_eq_false hc] at h3
  exact absurd h3 (by decide)

end Pre

variable (m : (ℓ : Loc nD τ sig) → Buf (Elt Ideal) ℓ)

/-- The activations and the sizes. -/
abbrev xOf (c : Dev nD) : FVec Ideal S64x7168 .bf16 := m ((c.tc : Thread nD τ).loc main_arg0)
abbrev sizesOf (c : Dev nD) : IVec S32 32 := m ((c.tc : Thread nD τ).loc main_arg1)

/-- The one block of sizes sits in its array at itself. -/
theorem idx_zero : ∀ t : Fin cfg0.N, win0_0.index t (0 : Fin 1) = 0 :=
  (by decide +kernel : ∀ t : Fin grid0.N, _)

theorem iblk_at (c : Dev nD) (t : Fin cfg0.N) (j : S32.Idx) : Gen.iblk m c 0 t j = sizesOf m c j := by
  show sizesOf m c (((cfg0.win 0).blk t).view.emb j) = _
  have e0 := idx_zero t
  refine congrArg (sizesOf m c) (funext fun a => Fin.ext ?_)
  match a with
  | ⟨0, _⟩ => show win0_0.index t (0 : Fin 1) * 32 + 1 * (j 0).val = (j 0).val; omega

theorem arr_eq (c : Dev nD) (hx : ∀ j, Fin32 (xOf m c j)) (hG : ∀ j, 0 ≤ (sizesOf m c j).toInt) :
    (dats m 0 c).arrAt 1 cfg0.N = (fun y => spec (xOf m c) (sizesOf m c) (m ((c.tc : Thread nD τ).loc main_arg2)) (m ((c.tc : Thread nD τ).loc main_arg3)) (y 0) (y 1) : S64x768.Idx → Elt Ideal .bf16) := by
  refine Pipeline.Dat.arrAt_eq_of_after_last (dats m 0 c) 1 ⟨0, by decide⟩ (by decide +kernel) _ fun j => ?_
  rw [after0_1]
  unfold outAt
  have hi : (Gen.iblk m c 0 ⟨0, by decide⟩ : S32.Idx → BitVec 32) = sizesOf m c := funext fun y => iblk_at m c _ y
  rw [hi]
  have h := resV_spec c (m ((c.tc : Thread nD τ).loc main_arg0)) (m ((c.tc : Thread nD τ).loc main_arg2)) (m ((c.tc : Thread nD τ).loc main_arg3)) (sizesOf m c) hx hG (j 0) (j 1)
  rw [← eq_ix2 j] at h
  exact h

theorem run_spec (ρ : Dev nD → PrngReg) (hx : ∀ c j, Fin32 (xOf m c j)) (hG : ∀ c j, 0 ≤ (sizesOf m c j).toInt) :
    θ_run defs (onTc (τ := τ) (main (F := Ideal))) ⟨m, fun _ => 0, ρ⟩ (fun r => ∀ c : Dev nD,
      r.2.mem ((c.tc : Thread nD τ).loc main_v0) = (fun y => spec (xOf m c) (sizesOf m c) (m ((c.tc : Thread nD τ).loc main_arg2)) (m ((c.tc : Thread nD τ).loc main_arg3)) (y 0) (y 1) : S64x768.Idx → Elt Ideal .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr_eq m c (hx c) (hG c)), (h c).2⟩) (run_value m ρ)

end Cert.KernelIdeal.Str
-- ==== Proof.VRefq.lean ====
module

public import proofs.«01_k».proof.Proof.VQuant
public import proofs.«01_k».proof.Proof.Gen.ReferenceIdeal.Run
public import Idealize.ShloMosaic.Lib.IndicatorCount

@[expose] public section

/-! Over the reals the reference's power-of-two quantiser gives every finite activation back. -/

noncomputable section

namespace Cert.ReferenceIdeal.Str

open Idealize.ShloMosaic
open Cert.ReferenceIdeal Cert.ReferenceIdeal.Gen
open Cert.KernelIdeal.Str (Fin32 fold_max_real round_trip c448 hi448 lo448 neg_inf sel_if sel_eq)

variable (x : FVec Ideal S64x7168 .bf16)

/-- The activations in blocks of 128. -/
def xb : FVec Ideal S64x56x128 .f32 := shapeCast S64x56x128 (extf .f32 x bitsLt_bf16_f32) shapeCasts_S64x7168_S64x56x128
/-- The largest magnitude of each block. -/
def am : FVec Ideal S64x56 .f32 := Host.reduce FloatOps.maximumf (Host.absf (xb x)) (constant S_ .f32 0xFF800000#32) reducesTo_S64x56x128_S64x56_d2 h_S_
/-- The powers of two the magnitudes are compared with. -/
def pw : FVec Ideal S254 .f32 := Host.exp (mulf (broadcastInDim S254 ![] bcast_S_S254 (constant S_ .f32 0x3F317218#32))
  (sitofp .f32 (addi (broadcastInDim S254 ![] bcast_S_S254 (constantI S_ 32 4294967170#32)) (iotaInDim S254 32 0))))
/-- How many of them the largest magnitude over 448 reaches. -/
def cnt : IVec S64x56 32 := Host.reduce IntOp.addi (extui 32 (cmpf .oge
  (broadcastInDim S64x56x254 ![0, 1, 2] bcast_S64x56x1_S64x56x254_0_1_2 (mulf (broadcastInDim S64x56x1 ![0, 1] bcast_S64x56_S64x56x1_0_1 (am x))
    (broadcastInDim S64x56x1 ![] bcast_S_S64x56x1 (constant S_ .f32 0x3B124925#32))))
  (broadcastInDim S64x56x254 ![0, 1, 2] bcast_S1x1x254_S64x56x254_0_1_2 (broadcastInDim S1x1x254 ![2] bcast_S254_S1x1x254_2 pw))) natLt_1_32)
  (constantI S_ 32 0#32) reducesTo_S64x56x254_S64x56_d2 h_S_
/-- The exponent, as a float. -/
def exf : FVec Ideal S64x56 .f32 := sitofp .f32 (select (cmpf .oeq (am x) (broadcastInDim S64x56 ![] bcast_S_S64x56 (constant S_ .f32 0x00000000#32)))
  (broadcastInDim S64x56 ![] bcast_S_S64x56 (id (constantI S_ 32 0#32)))
  (subi (cnt x) (broadcastInDim S64x56 ![] bcast_S_S64x56 (constantI S_ 32 126#32))))
/-- The scale of each block. -/
def sc : FVec Ideal S64x56 .f32 := Host.exp (mulf (broadcastInDim S64x56 ![] bcast_S_S64x56 (constant S_ .f32 0x3F317218#32)) (exf x))
/-- Its inverse. -/
def isc : FVec Ideal S64x56 .f32 := Host.exp (mulf (broadcastInDim S64x56 ![] bcast_S_S64x56 (constant S_ .f32 0x3F317218#32)) (Host.negf (exf x)))
/-- The codes. -/
def codes : FVec Ideal S64x7168 .f32 := shapeCast S64x7168 (minimumf (broadcastInDim S64x56x128 ![] bcast_S_S64x56x128 (id (constant S_ .f32 0x43E00000#32)))
  (maximumf (broadcastInDim S64x56x128 ![] bcast_S_S64x56x128 (id (constant S_ .f32 0xC3E00000#32)))
    (mulf (xb x) (broadcastInDim S64x56x128 ![0, 1, 2] bcast_S64x56x1_S64x56x128_0_1_2 (broadcastInDim S64x56x1 ![0, 1] bcast_S64x56_S64x56x1_0_1 (isc x))))))
  shapeCasts_S64x56x128_S64x7168

theorem am_at (r : Fin 64) (b : Fin 56) : (am x (ix2 r b) : EReal)
    = Finset.univ.fold max (⊥ : EReal) fun k : Fin 128 => max (x (ix2 r ⟨b.val * 128 + k.val, by omega⟩)) (-(x (ix2 r ⟨b.val * 128 + k.val, by omega⟩))) := by
  pointwise [am, xb]
  rw [neg_inf]
  rfl

/-- The constant a power of two's exponent is multiplied by: a little over the logarithm of 2. -/
def C : ℝ := 11629080 / 2 ^ 24

theorem c2 : Ideal.ofBits .f32 0x3F317218#32 = (C : EReal) := by
  unfold C
  simp [Ideal.ofBits, Ideal.ieee, -EReal.coe_mul]
  norm_num

/-- The `k`-th power compared with. -/
def P (k : Nat) : ℝ := Real.exp (C * ((k : ℝ) - 126))

theorem k_toInt : ∀ k : Fin 254, (IntOp.addi 4294967170#32 (BitVec.ofNat 32 k.val)).toInt = (k.val : ℤ) - 126 := by decide +kernel

theorem pw_at (k : Fin 254) : (pw (ix1 k) : EReal) = (P k.val : EReal) := by
  pointwise [pw]
  rw [c2, show (FloatOps.sitofp (F := Ideal) .f32 (IntOp.addi 4294967170#32 (BitVec.ofNat 32 k.val)) : EReal)
    = (((IntOp.addi 4294967170#32 (BitVec.ofNat 32 k.val)).toInt : ℝ) : EReal) from rfl, k_toInt, ← EReal.coe_mul]
  unfold P
  push_cast
  rfl

theorem P_mono {j k : Nat} (h : j ≤ k) : P j ≤ P k := by
  unfold P C
  apply Real.exp_le_exp.mpr
  have : (j : ℝ) ≤ k := by exact_mod_cast h
  apply mul_le_mul_of_nonneg_left _ (by norm_num)
  linarith

theorem P_top : (2 : ℝ) ^ (120 : ℤ) ≤ P 253 := by
  have h := Real.quadratic_le_exp_of_nonneg (x := C * 127 / 120) (by unfold C; norm_num)
  have h2 : (2 : ℝ) ≤ Real.exp (C * 127 / 120) := le_trans (by unfold C; norm_num) h
  have h3 : P 253 = Real.exp (C * 127 / 120) ^ 120 := by
    unfold P
    rw [← Real.exp_nat_mul]
    congr 1
    push_cast
    ring
  rw [h3]
  exact_mod_cast pow_le_pow_left₀ (by norm_num) h2 120

/-- How many powers `q` reaches. -/
def num (q : ℝ) : Nat := (Finset.univ.filter fun k : Fin 254 => P k.val ≤ q).card

theorem num_spec (q : ℝ) (hq : q < 2 ^ (120 : ℤ)) : num q < 254 ∧ q < P (num q) := by
  have hn : num q < 254 := by
    have h := Finset.card_lt_univ_of_notMem (s := Finset.univ.filter fun k : Fin 254 => P k.val ≤ q) (x := ⟨253, by omega⟩) (by
      rw [Finset.mem_filter]
      exact fun h => absurd (P_top.trans h.2) (not_le.mpr hq))
    rwa [Fintype.card_fin] at h
  refine ⟨hn, ?_⟩
  by_contra hc
  have hc := not_lt.mp hc
  have h : (Finset.Iic (⟨num q, hn⟩ : Fin 254)).card ≤ num q := Finset.card_le_card fun k hk => by
    have hk := Finset.mem_Iic.mp hk
    rw [Finset.mem_filter]
    exact ⟨Finset.mem_univ _, (P_mono (Fin.le_def.mp hk)).trans hc⟩
  rw [Fin.card_Iic] at h
  exact absurd h (by show ¬ num q + 1 ≤ num q; omega)

theorem cnt_at (r : Fin 64) (b : Fin 56) (a : ℝ) (ha : (am x (ix2 r b) : EReal) = a) : cnt x (ix2 r b) = BitVec.ofNat 32 (num (a * (9586981 / 2 ^ 32))) := by
  pointwise [cnt]
  simp only [ha]
  rw [c448, ← EReal.coe_mul, IndicatorCount.fold_addi_setWidth_eq_card]
  unfold num
  refine congrArg (BitVec.ofNat 32) (congrArg Finset.card (Finset.filter_congr fun k _ => ?_))
  rw [pw_at]
  by_cases h : P k.val ≤ a * (9586981 / 2 ^ 32)
  · rw [decide_eq_true (EReal.coe_le_coe_iff.mpr h)]; exact iff_of_true rfl h
  · rw [decide_eq_false (fun h' => h (EReal.coe_le_coe_iff.mp h'))]; exact iff_of_false (by decide) h

theorem z_toInt : ∀ n : Fin 254, (IntOp.subi (BitVec.ofNat 32 n.val) 126#32).toInt = (n.val : ℤ) - 126 := by decide +kernel

/-- The exponent of a block whose largest magnitude is `a`. -/
def zOf (a : ℝ) : ℝ := if a = 0 then 0 else (num (a * (9586981 / 2 ^ 32)) : ℝ) - 126

theorem exf_at (r : Fin 64) (b : Fin 56) (a : ℝ) (ha : (am x (ix2 r b) : EReal) = a) (hq : a * (9586981 / 2 ^ 32) < 2 ^ (120 : ℤ)) :
    (exf x (ix2 r b) : EReal) = (zOf a : EReal) := by
  pointwise [exf]
  rw [ha, cnt_at x r b a ha]
  unfold zOf
  by_cases h : a = 0
  · rw [if_pos h, if_pos (by rw [h]; rfl)]
    show (((0#32 : BitVec 32).toInt : ℝ) : EReal) = _
    simp
  · rw [if_neg h, if_neg (by exact_mod_cast h)]
    show (((IntOp.subi (BitVec.ofNat 32 (num _)) 126#32).toInt : ℝ) : EReal) = _
    rw [z_toInt ⟨_, (num_spec _ hq).1⟩]
    push_cast
    rfl

theorem z_spec (a : ℝ) (h0 : 0 ≤ a) (hq : a * (9586981 / 2 ^ 32) < 2 ^ (120 : ℤ)) : a * (9586981 / 2 ^ 32) < Real.exp (C * zOf a) := by
  unfold zOf
  split
  · next h => rw [h, zero_mul]; exact Real.exp_pos _
  · exact (num_spec _ hq).2

theorem sc_at (r : Fin 64) (b : Fin 56) (a : ℝ) (ha : (am x (ix2 r b) : EReal) = a) (hq : a * (9586981 / 2 ^ 32) < 2 ^ (120 : ℤ)) :
    (sc x (ix2 r b) : EReal) = (Real.exp (C * zOf a) : EReal) := by
  pointwise [sc]
  rw [exf_at x r b a ha hq, c2, ← EReal.coe_mul]
  rfl

theorem isc_at (r : Fin 64) (b : Fin 56) (a : ℝ) (ha : (am x (ix2 r b) : EReal) = a) (hq : a * (9586981 / 2 ^ 32) < 2 ^ (120 : ℤ)) :
    (isc x (ix2 r b) : EReal) = (((Real.exp (C * zOf a))⁻¹ : ℝ) : EReal) := by
  pointwise [isc]
  rw [exf_at x r b a ha hq, c2, ← EReal.coe_neg, ← EReal.coe_mul, mul_neg, ← Real.exp_neg]
  rfl

theorem codes_at (r : Fin 64) (κ : Fin 7168) : (codes x (ix2 r κ) : EReal)
    = min ((448 : ℝ) : EReal) (max ((-448 : ℝ) : EReal) ((x (ix2 r κ) : EReal) * isc x (ix2 r ⟨κ.val / 128, by omega⟩))) := by
  pointwise [codes, xb]
  rw [← hi448, ← lo448]
  rfl

/-- The quantiser keeps every finite activation. -/
theorem codes_sc (h : ∀ j, Fin32 (x j)) (r : Fin 64) (κ : Fin 7168) :
    (codes x (ix2 r κ) : EReal) * (sc x (ix2 r ⟨κ.val / 128, by omega⟩) : EReal) = x (ix2 r κ) := by
  obtain ⟨a, ha, h0, hb, hv⟩ := fold_max_real (by omega) (fun k : Fin 128 => x (ix2 r ⟨κ.val / 128 * 128 + k.val, by omega⟩)) fun k => h _
  have hq : a * (9586981 / 2 ^ 32) < 2 ^ (120 : ℤ) := by norm_num at hb ⊢; linarith
  have ha' := (am_at x r ⟨κ.val / 128, by omega⟩).trans ha
  obtain ⟨v, hx, hl⟩ := hv ⟨κ.val % 128, by omega⟩
  have hx' : x (ix2 r κ) = (v : EReal) := by
    rw [← hx]
    exact congrArg (fun j => x (ix2 r j)) (Fin.ext (by show κ.val = κ.val / 128 * 128 + κ.val % 128; omega))
  rw [codes_at, isc_at x r _ a ha' hq, sc_at x r _ a ha' hq, hx']
  exact round_trip v a _ (Real.exp_pos _) hl (z_spec a h0 hq)

end Cert.ReferenceIdeal.Str
-- ==== Proof.VRefv.lean ====
module

public import proofs.«01_k».proof.Proof.VKern
public import proofs.«01_k».proof.Proof.Gen.ReferenceIdeal.Read
public import Idealize.ShloMosaic.Lib.WordSum
public import Idealize.ShloMosaic.Lib.TwoAxisContraction

@[expose] public section

/-! The reference's result as the sum over experts and columns. -/

noncomputable section

namespace Cert.ReferenceIdeal.Str

open Idealize.ShloMosaic
open Cert.ReferenceIdeal Cert.ReferenceIdeal.Gen Cert.ReferenceIdeal.Read
open Cert.KernelIdeal.Str (Fin32 own part spec cv kc rowW gOf kc_mod sum_even_odd sel_if)

variable [Cert.KernelIdeal.Facts]

variable (G : IVec S32 32) (W : IVec S32x3584x768 8) (S : FVec Ideal S32x56x768 .f32) (r0 : FVec Ideal S64x7168 .bf16) (e0 : FVec Ideal S64x56 .f32)

theorem v44_at (r : Fin 64) (κ : Fin 7168) : (val_main_v44 (F := Ideal) r0 e0 (ix2 r κ) : EReal) = (r0 (ix2 r κ) : EReal) * e0 (ix2 r ⟨κ.val / 128, by omega⟩) := by
  pointwise [val_main_v44, val_main_v43, val_main_v42, val_main_v41, val_main_v40, val_main_v39]

theorem low_bits : ∀ n : Fin 256, Scalar.select (IntOp.cmpi CmpIPredicate.sgt (IntOp.andi (BitVec.setWidth 32 (BitVec.ofNat 8 n.val)) 15#32) 7#32)
          (IntOp.subi (IntOp.andi (BitVec.setWidth 32 (BitVec.ofNat 8 n.val)) 15#32) 16#32)
          (IntOp.andi (BitVec.setWidth 32 (BitVec.ofNat 8 n.val)) 15#32) = kc (BitVec.ofNat 8 n.val) 0 := by decide +kernel

theorem high_bits : ∀ n : Fin 256, Scalar.select (IntOp.cmpi CmpIPredicate.sgt (IntOp.shrsi .host (BitVec.setWidth 32 (BitVec.ofNat 8 n.val)) 4#32) 7#32)
          (IntOp.subi (IntOp.shrsi .host (BitVec.setWidth 32 (BitVec.ofNat 8 n.val)) 4#32) 16#32)
          (IntOp.shrsi .host (BitVec.setWidth 32 (BitVec.ofNat 8 n.val)) 4#32) = kc (BitVec.ofNat 8 n.val) 1 := by decide +kernel

theorem byte (b : BitVec 8) : ∃ n : Fin 256, b = BitVec.ofNat 8 n.val := ⟨⟨b.toNat, b.isLt⟩, by simp⟩

theorem v64_at (e : Fin 32) (k : Fin 3584) (o : Fin 768) : (val_main_v64 (F := Ideal) W S (ix3 e k o) : EReal)
    = cv (W (ix3 e k o)) (2 * k.val) * (S (ix3 e ⟨k.val / 64, by omega⟩ o) : EReal) := by
  pointwise [val_main_v64, val_main_v63, val_main_v62, val_main_v61, val_main_v60, val_main_v54, val_main_v53, val_main_v52, val_main_v51, val_main_v50, val_main_v47, val_main_v46, val_main_v45, val_main_c_10, val_main_c_12, val_main_c_13]
  obtain ⟨n, hn⟩ := byte (W (ix3 e k o))
  unfold cv
  rw [hn, low_bits, kc_mod _ (2 * k.val) 0 (by omega)]
  rfl

theorem v66_at (e : Fin 32) (k : Fin 3584) (o : Fin 768) : (val_main_v66 (F := Ideal) W S (ix3 e k o) : EReal)
    = cv (W (ix3 e k o)) (2 * k.val + 1) * (S (ix3 e ⟨k.val / 64, by omega⟩ o) : EReal) := by
  pointwise [val_main_v66, val_main_v65, val_main_v62, val_main_v61, val_main_v60, val_main_v59, val_main_v58, val_main_v57, val_main_v56, val_main_v55, val_main_v49, val_main_v48, val_main_v45, val_main_c_11, val_main_c_14, val_main_c_15]
  obtain ⟨n, hn⟩ := byte (W (ix3 e k o))
  unfold cv
  rw [hn, high_bits, kc_mod _ (2 * k.val + 1) 1 (by omega)]
  rfl

theorem rowW_sum (g : Nat → BitVec 32) : ∀ n, ∑ i ∈ Finset.range n, g i = rowW g n
  | 0 => rfl
  | n + 1 => by rw [Finset.sum_range_succ, rowW_sum g n]; rfl

theorem sum_to (g : Nat → BitVec 32) (e n : Nat) (h : e + 1 ≤ n) : (∑ i ∈ Finset.range n, if i ≤ e then g i else 0) = rowW g (e + 1) := by
  induction n, h using Nat.le_induction with
  | base =>
    rw [← rowW_sum]
    exact Finset.sum_congr rfl fun i hi => if_pos (by have := Finset.mem_range.mp hi; omega)
  | succ n hn ih => rw [Finset.sum_range_succ, ih, if_neg (by omega), add_zero]

theorem sle_bit : ∀ i e : Fin 32, IntOp.cmpi .sle (BitVec.ofNat 32 i.val) (BitVec.ofNat 32 e.val) = BitVec.ofBool (decide (i.val ≤ e.val)) := by decide +kernel

theorem v75_at (e : Fin 32) : (val_main_v75 (F := Ideal) G (ix1 e)) = rowW (gOf G) (e.val + 1) := by
  pointwise [val_main_v75, val_main_v74, val_main_v73, val_main_v72, val_main_v71, val_main_v70, val_main_v69, val_main_v68, val_main_v67, val_main_call4_v2, val_main_call4_v1, val_main_call4_v0, val_main_c_16, val_main_c_17]
  rw [← sum_to (gOf G) e.val 32 (by omega), Finset.sum_range]
  refine Eq.trans ?_ (Finset.sum_eq_fold _ _).symm
  refine Finset.fold_congr fun i _ => ?_
  rw [sle_bit, sel_if]
  refine if_congr Iff.rfl ?_ rfl
  unfold gOf
  rw [dif_pos i.isLt]
  rfl

/-- The rows of expert `e`. -/
theorem mask_at (e : Fin 32) (r : Nat) :
    IntOp.andi (IntOp.cmpi CmpIPredicate.sge (BitVec.ofNat 32 r) (IntOp.subi (val_main_v75 (F := Ideal) G (ix1 e)) (G (ix1 e))))
        (IntOp.cmpi CmpIPredicate.slt (BitVec.ofNat 32 r) (val_main_v75 (F := Ideal) G (ix1 e)))
      = own r (rowW (gOf G) e.val) (rowW (gOf G) (e.val + 1)) := by
  rw [v75_at]
  have h : IntOp.subi (rowW (gOf G) (e.val + 1)) (G (ix1 e)) = rowW (gOf G) e.val := by
    show rowW (gOf G) e.val + gOf G e.val - G (ix1 e) = _
    rw [show gOf G e.val = G (ix1 e) from dif_pos e.isLt, BitVec.add_sub_cancel]
  rw [h]
  rfl

theorem zero_bf : (FloatOps.sitofp (F := Ideal) .bf16 (0#32 : BitVec 32) : EReal) = 0 := by
  show (((0#32 : BitVec 32).toInt : ℝ) : EReal) = 0
  simp

theorem v91_at (e : Fin 32) (r : Fin 64) (k : Fin 3584) : (val_main_v91 (F := Ideal) G r0 e0 (ix3 e r k) : EReal)
    = Scalar.select (own r.val (rowW (gOf G) e.val) (rowW (gOf G) (e.val + 1))) (val_main_v44 (F := Ideal) r0 e0 (ix2 r ⟨2 * k.val, by omega⟩) : EReal) 0 := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_call5_v3, val_main_call5_v2, val_main_call5_v1, val_main_call5_v0, val_main_c_18]
  rw [mask_at, zero_bf]

theorem v93_at (e : Fin 32) (r : Fin 64) (k : Fin 3584) : (val_main_v93 (F := Ideal) G r0 e0 (ix3 e r k) : EReal)
    = Scalar.select (own r.val (rowW (gOf G) e.val) (rowW (gOf G) (e.val + 1))) (val_main_v44 (F := Ideal) r0 e0 (ix2 r ⟨1 + 2 * k.val, by omega⟩) : EReal) 0 := by
  pointwise [val_main_v93, val_main_v90, val_main_v89, val_main_v88, val_main_v87, val_main_v86, val_main_v85, val_main_v84, val_main_v83, val_main_v82, val_main_v81, val_main_v80, val_main_v79, val_main_v78, val_main_v77, val_main_v76, val_main_call5_v3, val_main_call5_v2, val_main_call5_v1, val_main_call5_v0, val_main_c_18]
  rw [mask_at, zero_bf]

theorem v92_at (r : Fin 64) (o : Fin 768) : (val_main_v92 (F := Ideal) G W S r0 e0 (ix2 r o) : EReal)
    = ∑ e : Fin 32, ∑ k : Fin 3584, (val_main_v91 (F := Ideal) G r0 e0 (ix3 e r k) : EReal) * val_main_v64 (F := Ideal) W S (ix3 e k o) := by
  pointwise [val_main_v92]

theorem v94_at (r : Fin 64) (o : Fin 768) : (val_main_v94 (F := Ideal) G W S r0 e0 (ix2 r o) : EReal)
    = ∑ e : Fin 32, ∑ k : Fin 3584, (val_main_v93 (F := Ideal) G r0 e0 (ix3 e r k) : EReal) * val_main_v66 (F := Ideal) W S (ix3 e k o) := by
  pointwise [val_main_v94]

/-- The reference's result. -/
theorem v96_at (x : FVec Ideal S64x7168 .bf16) (hv : ∀ r κ, (val_main_v44 (F := Ideal) r0 e0 (ix2 r κ) : EReal) = x (ix2 r κ)) (r : Fin 64) (o : Fin 768) :
    (val_main_v96 (F := Ideal) G W S r0 e0 (ix2 r o) : EReal) = spec x G W S r o := by
  have h1 : (val_main_v96 (F := Ideal) G W S r0 e0 (ix2 r o) : EReal)
      = (val_main_v92 (F := Ideal) G W S r0 e0 (ix2 r o) : EReal) + val_main_v94 (F := Ideal) G W S r0 e0 (ix2 r o) := rfl
  rw [h1, v92_at, v94_at, ← Finset.sum_add_distrib]
  unfold spec
  rw [Finset.sum_range]
  refine Finset.sum_congr rfl fun e _ => ?_
  rw [show (7168 : Nat) = 2 * 3584 from rfl, sum_even_odd, Finset.sum_range, Finset.sum_range]
  refine congrArg₂ (· + ·) (Finset.sum_congr rfl fun k _ => ?_) (Finset.sum_congr rfl fun k _ => ?_)
  · rw [v91_at, v64_at, hv]
    unfold part
    rw [dif_pos ⟨e.isLt, by omega⟩]
    refine congrArg₂ (· * ·) rfl (congrArg₂ (· * ·) ?_ ?_)
    · exact congrArg (fun j => cv (W (ix3 e j o)) _) (Fin.ext (by show k.val = 2 * k.val / 2; omega))
    · exact congrArg (fun j => S (ix3 e j o)) (Fin.ext (by show k.val / 64 = 2 * k.val / 128; omega))
  · rw [v93_at, v66_at, hv]
    unfold part
    rw [dif_pos ⟨e.isLt, by omega⟩]
    refine congrArg₂ (· * ·) ?_ (congrArg₂ (· * ·) ?_ ?_)
    · exact congrArg (fun j => Scalar.select _ (x (ix2 r j) : EReal) 0) (Fin.ext (by show 1 + 2 * k.val = 2 * k.val + 1; omega))
    · exact congrArg (fun j => cv (W (ix3 e j o)) _) (Fin.ext (by show k.val = (2 * k.val + 1) / 2; omega))
    · exact congrArg (fun j => S (ix3 e j o)) (Fin.ext (by show k.val / 64 = (2 * k.val + 1) / 128; omega))

end Cert.ReferenceIdeal.Str
-- ==== Proof.VRun.lean ====
module

public import proofs.«01_k».proof.Proof.VRefq
public import proofs.«01_k».proof.Proof.VRefv
public import Idealize.ShloMosaic.Lib.Pipeline.ValueKit

@[expose] public section

/-! The reference's run: its result is the sum over experts and columns. -/

noncomputable section

namespace Cert.ReferenceIdeal.Str

open Cert.ReferenceIdeal Cert.ReferenceIdeal.Gen Idealize.ShloMosaic Idealize.ShloMosaic.TcCoe Idealize.SL.Sem Idealize.ShloMosaic.StableHlo
open Cert.KernelIdeal.Str (Fin32 spec)

variable [Cert.KernelIdeal.Facts]
variable (m : (ℓ : Loc nD τ sig) → Buf (Elt Ideal) ℓ)

/-- The activations. -/
abbrev xOf (c : Dev nD) : FVec Ideal S64x7168 .bf16 := m ((c.tc : Thread nD τ).loc main_arg0)

set_option maxRecDepth 8192 in
set_option maxHeartbeats 2000000 in
/-- What the region reads. -/
theorem V0_main_v37 (c : Dev nD) : Gen.V0 m c (Proc.devRef .tc main_v37) = codes (xOf m c) := by
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

theorem exit_scale (c : Dev nD) : Value.exitV m c (Proc.devRef .tc main_v28) = sc (xOf m c) := (Value.exit_main_v28 m c).trans rfl

theorem out_eq (x0 : Vec Ideal S64x7168 .f32) (j : S64x7168.Idx) : (out0_1 x0 j : EReal) = x0 j := by
  unfold out0_1
  rw [View.canon_cons_unit_lit _ _ _ (by decide)]
  unfold k0_pay1
  rw [shapeCast_self, View.ld_unit_lit _ _ (by decide)]
  rfl

/-- The one block sits in its array at itself. -/
theorem idx_zero : ∀ t : Fin cfg0.N, win0_0.index t (0 : Fin 2) = 0 ∧ win0_0.index t (1 : Fin 2) = 0 :=
  (by decide +kernel : ∀ t : Fin grid0.N, _)

theorem emb_self (t : Fin cfg0.N) (j : S64x7168.Idx) : ((cfg0.win 0).blk t).view.emb j = j := by
  obtain ⟨e0, e1⟩ := idx_zero t
  funext a; apply Fin.ext
  match a with
  | ⟨0, _⟩ => show win0_0.index t (0 : Fin 2) * 64 + 1 * (j 0).val = (j 0).val; omega
  | ⟨1, _⟩ => show win0_0.index t (1 : Fin 2) * 7168 + 1 * (j 1).val = (j 1).val; omega

theorem arr_out {c : Dev nD} (dat : Pipeline.Dat τ (Elt Ideal) Unit ℕ (UR sig nD τ) ℕ cfg0 c) (A : S64x7168.Idx → Elt Ideal .f32)
    (h : ∀ t, ∃ B : S64x7168.Idx → Elt Ideal .f32, dat.after 1 t = out0_1 B ∧ ∀ j, B j = A j) : dat.arrAt 1 cfg0.N = (A : S64x7168.Idx → EReal) := by
  refine Pipeline.Dat.arrAt_eq_of_after_last dat 1 ⟨0, by decide⟩ (by decide +kernel) _ fun j => ?_
  obtain ⟨B, hB, hA⟩ := h ⟨0, by decide⟩
  rw [hB]
  have e : ∀ j, (out0_1 B j : EReal) = A j := fun j => (out_eq B j).trans (hA j)
  generalize out0_1 B = f at e ⊢
  exact e j

theorem iblk_at (c : Dev nD) (t : Fin cfg0.N) (j : S64x7168.Idx) : Gen.iblk m c 0 t j = codes (xOf m c) j := by
  show Gen.V m c main_v37 (((cfg0.win 0).blk t).view.emb j) = _
  rw [emb_self]
  exact congrFun (V0_main_v37 m c) j

theorem reg_eq (c : Dev nD) : Value.reg_main_v38 m c = codes (xOf m c) := by
  unfold Value.reg_main_v38
  exact arr_out (Gen.dats m 0 c) _ fun t => ⟨Gen.iblk m c 0 t, after0_1 m c t, iblk_at m c t⟩

theorem run_spec (ρ : Dev nD → PrngReg) (hx : ∀ c j, Fin32 (xOf m c j)) :
    θ_run defs (onTc (τ := τ) (main (F := Ideal))) ⟨m, fun _ => 0, ρ⟩ fun r => ∀ c : Dev nD,
      r.2.mem ((c.tc : Thread nD τ).loc main_v96) = (fun y => spec (xOf m c) (m ((c.tc : Thread nD τ).loc main_arg1)) (m ((c.tc : Thread nD τ).loc main_arg2)) (m ((c.tc : Thread nD τ).loc main_arg3)) (y 0) (y 1) : S64x768.Idx → Elt Ideal .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, (h c).2⟩) (Value.run m ρ)
  refine (h c).1.trans ((Read.val_main_v96_eq (Value.exitV m c)).trans ?_)
  rw [Value.exit_main_arg1, Value.exit_main_arg2, Value.exit_main_arg3, Value.exit_main_v38, reg_eq, exit_scale]
  funext y
  rw [show y = ix2 (y 0) (y 1) from eq_ix2 y]
  exact v96_at _ _ _ _ _ (xOf m c) (fun r κ => (v44_at _ _ r κ).trans (codes_sc _ (hx c) r κ)) (y 0) (y 1)

end Cert.ReferenceIdeal.Str
-- ==== Proof.lean ====
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.VEnd
public import proofs.«01_k».proof.Proof.VRun

@[expose] public section

noncomputable section

namespace Cert.Proof

open Idealize.ShloMosaic Idealize.SL.Sem

/-- What the precondition says of the activations and of the sizes. -/
theorem pre_of (m : (ℓ : Loc Cert.KernelIdeal.nD Cert.KernelIdeal.τ Cert.KernelIdeal.sig) → Buf (Elt Ideal) ℓ) :
    Cert.Pre_KernelIdeal_finite (hPre_finite := Cert.Pre_finite.Gen.facts) m →
      (∀ c j, Cert.KernelIdeal.Str.Fin32 (Cert.KernelIdeal.Str.xOf m c j)) ∧ ∀ c j, 0 ≤ (Cert.KernelIdeal.Str.sizesOf m c j).toInt :=
  letI := Cert.Pre_finite.Gen.facts
  fun h => ⟨fun c j => Cert.KernelIdeal.Str.pre_x _ _ _ _ (h c) j, fun c j => Cert.KernelIdeal.Str.pre_G _ _ _ _ (h c) j⟩

/-- From equal arguments the kernel and the reference end with the same result: both are the sum `spec`. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.KernelIdeal.Gen.facts
  letI := Cert.ReferenceIdeal.Gen.facts
  intro m g m' g' hpre hargs
  obtain ⟨hx, hG⟩ := pre_of m hpre
  refine ⟨_, Cert.KernelIdeal.Str.run_spec m g hx hG, ?_⟩
  have hx' : ∀ c j, Cert.KernelIdeal.Str.Fin32 (Cert.ReferenceIdeal.Str.xOf m' c j) := fun c j => by
    rw [show Cert.ReferenceIdeal.Str.xOf m' c = Cert.KernelIdeal.Str.xOf m c from (hargs c).1]
    exact hx c j
  refine (θ_run _ _ _).mono (fun r h c => ⟨(h c).1.trans ?_, (h c).2⟩) (Cert.ReferenceIdeal.Str.run_spec m' g' hx')
  obtain ⟨h0, h1, h2, h3⟩ := hargs c
  rw [show Cert.ReferenceIdeal.Str.xOf m' c = Cert.KernelIdeal.Str.xOf m c from h0, h1, h2, h3]

theorem claim : Cert.Claim :=
  letI := Cert.Kernel.Gen.facts
  letI := Cert.KernelIdeal.Gen.facts
  letI := Cert.ReferenceIdeal.Gen.facts
  ⟨Cert.Kernel.Gen.facts, Cert.KernelIdeal.Gen.facts, Cert.ReferenceIdeal.Gen.facts, Cert.Pre_finite.Gen.facts,
    Cert.KernelIdeal.Str.printed_eq.mpr (Cert.KernelIdeal.Str.quiet Bits),
    Cert.KernelIdeal.Str.quiet Ideal,
    fun m ρ _ => Cert.KernelIdeal.Str.quiet Ideal m ρ trivial,
    fun m ρ _ => Cert.ReferenceIdeal.Gen.frame m ρ,
    fun m ρ _ => Cert.ReferenceIdeal.Gen.frame m ρ,
    trivial,
    algebraic⟩

end Cert.Proof

end
